-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_DyGate (m : (ℓ : Loc Cert.DyGate.nD Cert.DyGate.τ Cert.DyGate.sig) → Buf (Elt Bits) ℓ) : Prop :=
  True

def Pre_DyGateIdeal (m : (ℓ : Loc Cert.DyGateIdeal.nD Cert.DyGateIdeal.τ Cert.DyGateIdeal.sig) → Buf (Elt Ideal) ℓ) : Prop :=
  True

def Pre_DyGateReferenceIdeal (m : (ℓ : Loc Cert.DyGateReferenceIdeal.nD Cert.DyGateReferenceIdeal.τ Cert.DyGateReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_DhFirst (m : (ℓ : Loc Cert.DhFirst.nD Cert.DhFirst.τ Cert.DhFirst.sig) → Buf (Elt Bits) ℓ) : Prop :=
  True

def Pre_DhFirstIdeal (m : (ℓ : Loc Cert.DhFirstIdeal.nD Cert.DhFirstIdeal.τ Cert.DhFirstIdeal.sig) → Buf (Elt Ideal) ℓ) : Prop :=
  True

def Pre_DhFirstReferenceIdeal (m : (ℓ : Loc Cert.DhFirstReferenceIdeal.nD Cert.DhFirstReferenceIdeal.τ Cert.DhFirstReferenceIdeal.sig) → Buf (Elt Ideal) ℓ) : Prop :=
  True

def Pre_DhLast (m : (ℓ : Loc Cert.DhLast.nD Cert.DhLast.τ Cert.DhLast.sig) → Buf (Elt Bits) ℓ) : Prop :=
  True

def Pre_DhLastIdeal (m : (ℓ : Loc Cert.DhLastIdeal.nD Cert.DhLastIdeal.τ Cert.DhLastIdeal.sig) → Buf (Elt Ideal) ℓ) : Prop :=
  True

def Pre_DhLastReferenceIdeal (m : (ℓ : Loc Cert.DhLastReferenceIdeal.nD Cert.DhLastReferenceIdeal.τ Cert.DhLastReferenceIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdReferenceIdeal (m : (ℓ : Loc Cert.RmsBwdReferenceIdeal.nD Cert.RmsBwdReferenceIdeal.τ Cert.RmsBwdReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowReferenceIdeal (m : (ℓ : Loc Cert.AdamRowReferenceIdeal.nD Cert.AdamRowReferenceIdeal.τ Cert.AdamRowReferenceIdeal.sig) → Buf (Elt Ideal) ℓ) : Prop :=
  True

def Pre_AdamLogits (m : (ℓ : Loc Cert.AdamLogits.nD Cert.AdamLogits.τ Cert.AdamLogits.sig) → Buf (Elt Bits) ℓ) : Prop :=
  True

def Pre_AdamLogitsIdeal (m : (ℓ : Loc Cert.AdamLogitsIdeal.nD Cert.AdamLogitsIdeal.τ Cert.AdamLogitsIdeal.sig) → Buf (Elt Ideal) ℓ) : Prop :=
  True

def Pre_AdamLogitsReferenceIdeal (m : (ℓ : Loc Cert.AdamLogitsReferenceIdeal.nD Cert.AdamLogitsReferenceIdeal.τ Cert.AdamLogitsReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1)
      ∧ r.2.mem ((c.tc : Thread Cert.GradInReferenceIdeal.nD Cert.GradInReferenceIdeal.τ).loc Cert.GradInReferenceIdeal.main_arg2) = m ((c.tc : Thread Cert.GradInReferenceIdeal.nD Cert.GradInReferenceIdeal.τ).loc Cert.GradInReferenceIdeal.main_arg2))
      ∧ r.2.sem = fun _ => 0)

def quiescent_DyGate [hDyGate : Cert.DyGate.Facts] : Prop :=
  ∀ (m : (ℓ : Loc Cert.DyGate.nD Cert.DyGate.τ Cert.DyGate.sig) → Buf (Elt Bits) ℓ) (g : Dev Cert.DyGate.nD → PrngReg), Pre_DyGate m →
    θ_run (Cert.DyGate.defs (F := Bits)) (onTc (τ := Cert.DyGate.τ) (Cert.DyGate.main (F := Bits))) ⟨m, fun _ => 0, g⟩ (fun r => (∀ c : Dev Cert.DyGate.nD,
      r.2.mem ((c.tc : Thread Cert.DyGate.nD Cert.DyGate.τ).loc Cert.DyGate.main_arg0) = m ((c.tc : Thread Cert.DyGate.nD Cert.DyGate.τ).loc Cert.DyGate.main_arg0)
      ∧ r.2.mem ((c.tc : Thread Cert.DyGate.nD Cert.DyGate.τ).loc Cert.DyGate.main_arg1) = m ((c.tc : Thread Cert.DyGate.nD Cert.DyGate.τ).loc Cert.DyGate.main_arg1)
      ∧ r.2.mem ((c.tc : Thread Cert.DyGate.nD Cert.DyGate.τ).loc Cert.DyGate.main_arg2) = m ((c.tc : Thread Cert.DyGate.nD Cert.DyGate.τ).loc Cert.DyGate.main_arg2)
      ∧ r.2.mem ((c.tc : Thread Cert.DyGate.nD Cert.DyGate.τ).loc Cert.DyGate.main_arg3) = m ((c.tc : Thread Cert.DyGate.nD Cert.DyGate.τ).loc Cert.DyGate.main_arg3))
      ∧ r.2.sem = fun _ => 0)

def quiescent_DyGateIdeal [hDyGateIdeal : Cert.DyGateIdeal.Facts] : Prop :=
  ∀ (m : (ℓ : Loc Cert.DyGateIdeal.nD Cert.DyGateIdeal.τ Cert.DyGateIdeal.sig) → Buf (Elt Ideal) ℓ) (g : Dev Cert.DyGateIdeal.nD → PrngReg), Pre_DyGateIdeal m →
    θ_run (Cert.DyGateIdeal.defs (F := Ideal)) (onTc (τ := Cert.DyGateIdeal.τ) (Cert.DyGateIdeal.main (F := Ideal))) ⟨m, fun _ => 0, g⟩ (fun r => (∀ c : Dev Cert.DyGateIdeal.nD,
      r.2.mem ((c.tc : Thread Cert.DyGateIdeal.nD Cert.DyGateIdeal.τ).loc Cert.DyGateIdeal.main_arg0) = m ((c.tc : Thread Cert.DyGateIdeal.nD Cert.DyGateIdeal.τ).loc Cert.DyGateIdeal.main_arg0)
      ∧ r.2.mem ((c.tc : Thread Cert.DyGateIdeal.nD Cert.DyGateIdeal.τ).loc Cert.DyGateIdeal.main_arg1) = m ((c.tc : Thread Cert.DyGateIdeal.nD Cert.DyGateIdeal.τ).loc Cert.DyGateIdeal.main_arg1)
      ∧ r.2.mem ((c.tc : Thread Cert.DyGateIdeal.nD Cert.DyGateIdeal.τ).loc Cert.DyGateIdeal.main_arg2) = m ((c.tc : Thread Cert.DyGateIdeal.nD Cert.DyGateIdeal.τ).loc Cert.DyGateIdeal.main_arg2)
      ∧ r.2.mem ((c.tc : Thread Cert.DyGateIdeal.nD Cert.DyGateIdeal.τ).loc Cert.DyGateIdeal.main_arg3) = m ((c.tc : Thread Cert.DyGateIdeal.nD Cert.DyGateIdeal.τ).loc Cert.DyGateIdeal.main_arg3))
      ∧ r.2.sem = fun _ => 0)

def quiescent_DyGateReferenceIdeal [hDyGateReferenceIdeal : Cert.DyGateReferenceIdeal.Facts] : Prop :=
  ∀ (m : (ℓ : Loc Cert.DyGateReferenceIdeal.nD Cert.DyGateReferenceIdeal.τ Cert.DyGateReferenceIdeal.sig) → Buf (Elt Ideal) ℓ) (g : Dev Cert.DyGateReferenceIdeal.nD → PrngReg), Pre_DyGateReferenceIdeal m →
    θ_run (Cert.DyGateReferenceIdeal.defs (F := Ideal)) (onTc (τ := Cert.DyGateReferenceIdeal.τ) (Cert.DyGateReferenceIdeal.main (F := Ideal))) ⟨m, fun _ => 0, g⟩ (fun r => (∀ c : Dev Cert.DyGateReferenceIdeal.nD,
      r.2.mem ((c.tc : Thread Cert.DyGateReferenceIdeal.nD Cert.DyGateReferenceIdeal.τ).loc Cert.DyGateReferenceIdeal.main_arg0) = m ((c.tc : Thread Cert.DyGateReferenceIdeal.nD Cert.DyGateReferenceIdeal.τ).loc Cert.DyGateReferenceIdeal.main_arg0)
      ∧ r.2.mem ((c.tc : Thread Cert.DyGateReferenceIdeal.nD Cert.DyGateReferenceIdeal.τ).loc Cert.DyGateReferenceIdeal.main_arg1) = m ((c.tc : Thread Cert.DyGateReferenceIdeal.nD Cert.DyGateReferenceIdeal.τ).loc Cert.DyGateReferenceIdeal.main_arg1)
      ∧ r.2.mem ((c.tc : Thread Cert.DyGateReferenceIdeal.nD Cert.DyGateReferenceIdeal.τ).loc Cert.DyGateReferenceIdeal.main_arg2) = m ((c.tc : Thread Cert.DyGateReferenceIdeal.nD Cert.DyGateReferenceIdeal.τ).loc Cert.DyGateReferenceIdeal.main_arg2)
      ∧ r.2.mem ((c.tc : Thread Cert.DyGateReferenceIdeal.nD Cert.DyGateReferenceIdeal.τ).loc Cert.DyGateReferenceIdeal.main_arg3) = m ((c.tc : Thread Cert.DyGateReferenceIdeal.nD Cert.DyGateReferenceIdeal.τ).loc Cert.DyGateReferenceIdeal.main_arg3))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1)
      ∧ r.2.mem ((c.tc : Thread Cert.GradOutReferenceIdeal.nD Cert.GradOutReferenceIdeal.τ).loc Cert.GradOutReferenceIdeal.main_arg2) = m ((c.tc : Thread Cert.GradOutReferenceIdeal.nD Cert.GradOutReferenceIdeal.τ).loc Cert.GradOutReferenceIdeal.main_arg2))
      ∧ r.2.sem = fun _ => 0)

def quiescent_DhFirst [hDhFirst : Cert.DhFirst.Facts] : Prop :=
  ∀ (m : (ℓ : Loc Cert.DhFirst.nD Cert.DhFirst.τ Cert.DhFirst.sig) → Buf (Elt Bits) ℓ) (g : Dev Cert.DhFirst.nD → PrngReg), Pre_DhFirst m →
    θ_run (Cert.DhFirst.defs (F := Bits)) (onTc (τ := Cert.DhFirst.τ) (Cert.DhFirst.main (F := Bits))) ⟨m, fun _ => 0, g⟩ (fun r => (∀ c : Dev Cert.DhFirst.nD,
      r.2.mem ((c.tc : Thread Cert.DhFirst.nD Cert.DhFirst.τ).loc Cert.DhFirst.main_arg0) = m ((c.tc : Thread Cert.DhFirst.nD Cert.DhFirst.τ).loc Cert.DhFirst.main_arg0)
      ∧ r.2.mem ((c.tc : Thread Cert.DhFirst.nD Cert.DhFirst.τ).loc Cert.DhFirst.main_arg1) = m ((c.tc : Thread Cert.DhFirst.nD Cert.DhFirst.τ).loc Cert.DhFirst.main_arg1)
      ∧ r.2.mem ((c.tc : Thread Cert.DhFirst.nD Cert.DhFirst.τ).loc Cert.DhFirst.main_arg2) = m ((c.tc : Thread Cert.DhFirst.nD Cert.DhFirst.τ).loc Cert.DhFirst.main_arg2))
      ∧ r.2.sem = fun _ => 0)

def quiescent_DhFirstIdeal [hDhFirstIdeal : Cert.DhFirstIdeal.Facts] : Prop :=
  ∀ (m : (ℓ : Loc Cert.DhFirstIdeal.nD Cert.DhFirstIdeal.τ Cert.DhFirstIdeal.sig) → Buf (Elt Ideal) ℓ) (g : Dev Cert.DhFirstIdeal.nD → PrngReg), Pre_DhFirstIdeal m →
    θ_run (Cert.DhFirstIdeal.defs (F := Ideal)) (onTc (τ := Cert.DhFirstIdeal.τ) (Cert.DhFirstIdeal.main (F := Ideal))) ⟨m, fun _ => 0, g⟩ (fun r => (∀ c : Dev Cert.DhFirstIdeal.nD,
      r.2.mem ((c.tc : Thread Cert.DhFirstIdeal.nD Cert.DhFirstIdeal.τ).loc Cert.DhFirstIdeal.main_arg0) = m ((c.tc : Thread Cert.DhFirstIdeal.nD Cert.DhFirstIdeal.τ).loc Cert.DhFirstIdeal.main_arg0)
      ∧ r.2.mem ((c.tc : Thread Cert.DhFirstIdeal.nD Cert.DhFirstIdeal.τ).loc Cert.DhFirstIdeal.main_arg1) = m ((c.tc : Thread Cert.DhFirstIdeal.nD Cert.DhFirstIdeal.τ).loc Cert.DhFirstIdeal.main_arg1)
      ∧ r.2.mem ((c.tc : Thread Cert.DhFirstIdeal.nD Cert.DhFirstIdeal.τ).loc Cert.DhFirstIdeal.main_arg2) = m ((c.tc : Thread Cert.DhFirstIdeal.nD Cert.DhFirstIdeal.τ).loc Cert.DhFirstIdeal.main_arg2))
      ∧ r.2.sem = fun _ => 0)

def quiescent_DhFirstReferenceIdeal [hDhFirstReferenceIdeal : Cert.DhFirstReferenceIdeal.Facts] : Prop :=
  ∀ (m : (ℓ : Loc Cert.DhFirstReferenceIdeal.nD Cert.DhFirstReferenceIdeal.τ Cert.DhFirstReferenceIdeal.sig) → Buf (Elt Ideal) ℓ) (g : Dev Cert.DhFirstReferenceIdeal.nD → PrngReg), Pre_DhFirstReferenceIdeal m →
    θ_run (Cert.DhFirstReferenceIdeal.defs (F := Ideal)) (onTc (τ := Cert.DhFirstReferenceIdeal.τ) (Cert.DhFirstReferenceIdeal.main (F := Ideal))) ⟨m, fun _ => 0, g⟩ (fun r => (∀ c : Dev Cert.DhFirstReferenceIdeal.nD,
      r.2.mem ((c.tc : Thread Cert.DhFirstReferenceIdeal.nD Cert.DhFirstReferenceIdeal.τ).loc Cert.DhFirstReferenceIdeal.main_arg0) = m ((c.tc : Thread Cert.DhFirstReferenceIdeal.nD Cert.DhFirstReferenceIdeal.τ).loc Cert.DhFirstReferenceIdeal.main_arg0)
      ∧ r.2.mem ((c.tc : Thread Cert.DhFirstReferenceIdeal.nD Cert.DhFirstReferenceIdeal.τ).loc Cert.DhFirstReferenceIdeal.main_arg1) = m ((c.tc : Thread Cert.DhFirstReferenceIdeal.nD Cert.DhFirstReferenceIdeal.τ).loc Cert.DhFirstReferenceIdeal.main_arg1)
      ∧ r.2.mem ((c.tc : Thread Cert.DhFirstReferenceIdeal.nD Cert.DhFirstReferenceIdeal.τ).loc Cert.DhFirstReferenceIdeal.main_arg2) = m ((c.tc : Thread Cert.DhFirstReferenceIdeal.nD Cert.DhFirstReferenceIdeal.τ).loc Cert.DhFirstReferenceIdeal.main_arg2))
      ∧ r.2.sem = fun _ => 0)

def quiescent_DhLast [hDhLast : Cert.DhLast.Facts] : Prop :=
  ∀ (m : (ℓ : Loc Cert.DhLast.nD Cert.DhLast.τ Cert.DhLast.sig) → Buf (Elt Bits) ℓ) (g : Dev Cert.DhLast.nD → PrngReg), Pre_DhLast m →
    θ_run (Cert.DhLast.defs (F := Bits)) (onTc (τ := Cert.DhLast.τ) (Cert.DhLast.main (F := Bits))) ⟨m, fun _ => 0, g⟩ (fun r => (∀ c : Dev Cert.DhLast.nD,
      r.2.mem ((c.tc : Thread Cert.DhLast.nD Cert.DhLast.τ).loc Cert.DhLast.main_arg0) = m ((c.tc : Thread Cert.DhLast.nD Cert.DhLast.τ).loc Cert.DhLast.main_arg0)
      ∧ r.2.mem ((c.tc : Thread Cert.DhLast.nD Cert.DhLast.τ).loc Cert.DhLast.main_arg1) = m ((c.tc : Thread Cert.DhLast.nD Cert.DhLast.τ).loc Cert.DhLast.main_arg1)
      ∧ r.2.mem ((c.tc : Thread Cert.DhLast.nD Cert.DhLast.τ).loc Cert.DhLast.main_arg2) = m ((c.tc : Thread Cert.DhLast.nD Cert.DhLast.τ).loc Cert.DhLast.main_arg2))
      ∧ r.2.sem = fun _ => 0)

def quiescent_DhLastIdeal [hDhLastIdeal : Cert.DhLastIdeal.Facts] : Prop :=
  ∀ (m : (ℓ : Loc Cert.DhLastIdeal.nD Cert.DhLastIdeal.τ Cert.DhLastIdeal.sig) → Buf (Elt Ideal) ℓ) (g : Dev Cert.DhLastIdeal.nD → PrngReg), Pre_DhLastIdeal m →
    θ_run (Cert.DhLastIdeal.defs (F := Ideal)) (onTc (τ := Cert.DhLastIdeal.τ) (Cert.DhLastIdeal.main (F := Ideal))) ⟨m, fun _ => 0, g⟩ (fun r => (∀ c : Dev Cert.DhLastIdeal.nD,
      r.2.mem ((c.tc : Thread Cert.DhLastIdeal.nD Cert.DhLastIdeal.τ).loc Cert.DhLastIdeal.main_arg0) = m ((c.tc : Thread Cert.DhLastIdeal.nD Cert.DhLastIdeal.τ).loc Cert.DhLastIdeal.main_arg0)
      ∧ r.2.mem ((c.tc : Thread Cert.DhLastIdeal.nD Cert.DhLastIdeal.τ).loc Cert.DhLastIdeal.main_arg1) = m ((c.tc : Thread Cert.DhLastIdeal.nD Cert.DhLastIdeal.τ).loc Cert.DhLastIdeal.main_arg1)
      ∧ r.2.mem ((c.tc : Thread Cert.DhLastIdeal.nD Cert.DhLastIdeal.τ).loc Cert.DhLastIdeal.main_arg2) = m ((c.tc : Thread Cert.DhLastIdeal.nD Cert.DhLastIdeal.τ).loc Cert.DhLastIdeal.main_arg2))
      ∧ r.2.sem = fun _ => 0)

def quiescent_DhLastReferenceIdeal [hDhLastReferenceIdeal : Cert.DhLastReferenceIdeal.Facts] : Prop :=
  ∀ (m : (ℓ : Loc Cert.DhLastReferenceIdeal.nD Cert.DhLastReferenceIdeal.τ Cert.DhLastReferenceIdeal.sig) → Buf (Elt Ideal) ℓ) (g : Dev Cert.DhLastReferenceIdeal.nD → PrngReg), Pre_DhLastReferenceIdeal m →
    θ_run (Cert.DhLastReferenceIdeal.defs (F := Ideal)) (onTc (τ := Cert.DhLastReferenceIdeal.τ) (Cert.DhLastReferenceIdeal.main (F := Ideal))) ⟨m, fun _ => 0, g⟩ (fun r => (∀ c : Dev Cert.DhLastReferenceIdeal.nD,
      r.2.mem ((c.tc : Thread Cert.DhLastReferenceIdeal.nD Cert.DhLastReferenceIdeal.τ).loc Cert.DhLastReferenceIdeal.main_arg0) = m ((c.tc : Thread Cert.DhLastReferenceIdeal.nD Cert.DhLastReferenceIdeal.τ).loc Cert.DhLastReferenceIdeal.main_arg0)
      ∧ r.2.mem ((c.tc : Thread Cert.DhLastReferenceIdeal.nD Cert.DhLastReferenceIdeal.τ).loc Cert.DhLastReferenceIdeal.main_arg1) = m ((c.tc : Thread Cert.DhLastReferenceIdeal.nD Cert.DhLastReferenceIdeal.τ).loc Cert.DhLastReferenceIdeal.main_arg1)
      ∧ r.2.mem ((c.tc : Thread Cert.DhLastReferenceIdeal.nD Cert.DhLastReferenceIdeal.τ).loc Cert.DhLastReferenceIdeal.main_arg2) = m ((c.tc : Thread Cert.DhLastReferenceIdeal.nD Cert.DhLastReferenceIdeal.τ).loc Cert.DhLastReferenceIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3)
      ∧ r.2.mem ((c.tc : Thread Cert.RmsBwd.nD Cert.RmsBwd.τ).loc Cert.RmsBwd.main_arg4) = m ((c.tc : Thread Cert.RmsBwd.nD Cert.RmsBwd.τ).loc Cert.RmsBwd.main_arg4)
      ∧ r.2.mem ((c.tc : Thread Cert.RmsBwd.nD Cert.RmsBwd.τ).loc Cert.RmsBwd.main_arg5) = m ((c.tc : Thread Cert.RmsBwd.nD Cert.RmsBwd.τ).loc Cert.RmsBwd.main_arg5))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
      ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4)
      ∧ r.2.mem ((c.tc : Thread Cert.RmsBwdIdeal.nD Cert.RmsBwdIdeal.τ).loc Cert.RmsBwdIdeal.main_arg5) = m ((c.tc : Thread Cert.RmsBwdIdeal.nD Cert.RmsBwdIdeal.τ).loc Cert.RmsBwdIdeal.main_arg5))
      ∧ r.2.sem = fun _ => 0)

def quiescent_RmsBwdReferenceIdeal [hRmsBwdReferenceIdeal : Cert.RmsBwdReferenceIdeal.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3)
      ∧ r.2.mem ((c.tc : Thread Cert.RmsBwdReferenceIdeal.nD Cert.RmsBwdReferenceIdeal.τ).loc Cert.RmsBwdReferenceIdeal.main_arg4) = m ((c.tc : Thread Cert.RmsBwdReferenceIdeal.nD Cert.RmsBwdReferenceIdeal.τ).loc Cert.RmsBwdReferenceIdeal.main_arg4)
      ∧ r.2.mem ((c.tc : Thread Cert.RmsBwdReferenceIdeal.nD Cert.RmsBwdReferenceIdeal.τ).loc Cert.RmsBwdReferenceIdeal.main_arg5) = m ((c.tc : Thread Cert.RmsBwdReferenceIdeal.nD Cert.RmsBwdReferenceIdeal.τ).loc Cert.RmsBwdReferenceIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ r.2.sem = fun _ => 0)

def quiescent_AdamRowReferenceIdeal [hAdamRowReferenceIdeal : Cert.AdamRowReferenceIdeal.Facts] : Prop :=
  ∀ (m : (ℓ : Loc Cert.AdamRowReferenceIdeal.nD Cert.AdamRowReferenceIdeal.τ Cert.AdamRowReferenceIdeal.sig) → Buf (Elt Ideal) ℓ) (g : Dev Cert.AdamRowReferenceIdeal.nD → PrngReg), Pre_AdamRowReferenceIdeal m →
    θ_run (Cert.AdamRowReferenceIdeal.defs (F := Ideal)) (onTc (τ := Cert.AdamRowReferenceIdeal.τ) (Cert.AdamRowReferenceIdeal.main (F := Ideal))) ⟨m, fun _ => 0, g⟩ (fun r => (∀ c : Dev Cert.AdamRowReferenceIdeal.nD,
      r.2.mem ((c.tc : Thread Cert.AdamRowReferenceIdeal.nD Cert.AdamRowReferenceIdeal.τ).loc Cert.AdamRowReferenceIdeal.main_arg0) = m ((c.tc : Thread Cert.AdamRowReferenceIdeal.nD Cert.AdamRowReferenceIdeal.τ).loc Cert.AdamRowReferenceIdeal.main_arg0)
      ∧ r.2.mem ((c.tc : Thread Cert.AdamRowReferenceIdeal.nD Cert.AdamRowReferenceIdeal.τ).loc Cert.AdamRowReferenceIdeal.main_arg1) = m ((c.tc : Thread Cert.AdamRowReferenceIdeal.nD Cert.AdamRowReferenceIdeal.τ).loc Cert.AdamRowReferenceIdeal.main_arg1)
      ∧ r.2.mem ((c.tc : Thread Cert.AdamRowReferenceIdeal.nD Cert.AdamRowReferenceIdeal.τ).loc Cert.AdamRowReferenceIdeal.main_arg2) = m ((c.tc : Thread Cert.AdamRowReferenceIdeal.nD Cert.AdamRowReferenceIdeal.τ).loc Cert.AdamRowReferenceIdeal.main_arg2)
      ∧ r.2.mem ((c.tc : Thread Cert.AdamRowReferenceIdeal.nD Cert.AdamRowReferenceIdeal.τ).loc Cert.AdamRowReferenceIdeal.main_arg3) = m ((c.tc : Thread Cert.AdamRowReferenceIdeal.nD Cert.AdamRowReferenceIdeal.τ).loc Cert.AdamRowReferenceIdeal.main_arg3))
      ∧ r.2.sem = fun _ => 0)

def quiescent_AdamLogits [hAdamLogits : Cert.AdamLogits.Facts] : Prop :=
  ∀ (m : (ℓ : Loc Cert.AdamLogits.nD Cert.AdamLogits.τ Cert.AdamLogits.sig) → Buf (Elt Bits) ℓ) (g : Dev Cert.AdamLogits.nD → PrngReg), Pre_AdamLogits m →
    θ_run (Cert.AdamLogits.defs (F := Bits)) (onTc (τ := Cert.AdamLogits.τ) (Cert.AdamLogits.main (F := Bits))) ⟨m, fun _ => 0, g⟩ (fun r => (∀ c : Dev Cert.AdamLogits.nD,
      r.2.mem ((c.tc : Thread Cert.AdamLogits.nD Cert.AdamLogits.τ).loc Cert.AdamLogits.main_arg0) = m ((c.tc : Thread Cert.AdamLogits.nD Cert.AdamLogits.τ).loc Cert.AdamLogits.main_arg0)
      ∧ r.2.mem ((c.tc : Thread Cert.AdamLogits.nD Cert.AdamLogits.τ).loc Cert.AdamLogits.main_arg1) = m ((c.tc : Thread Cert.AdamLogits.nD Cert.AdamLogits.τ).loc Cert.AdamLogits.main_arg1)
      ∧ r.2.mem ((c.tc : Thread Cert.AdamLogits.nD Cert.AdamLogits.τ).loc Cert.AdamLogits.main_arg2) = m ((c.tc : Thread Cert.AdamLogits.nD Cert.AdamLogits.τ).loc Cert.AdamLogits.main_arg2)
      ∧ r.2.mem ((c.tc : Thread Cert.AdamLogits.nD Cert.AdamLogits.τ).loc Cert.AdamLogits.main_arg3) = m ((c.tc : Thread Cert.AdamLogits.nD Cert.AdamLogits.τ).loc Cert.AdamLogits.main_arg3))
      ∧ r.2.sem = fun _ => 0)

def quiescent_AdamLogitsIdeal [hAdamLogitsIdeal : Cert.AdamLogitsIdeal.Facts] : Prop :=
  ∀ (m : (ℓ : Loc Cert.AdamLogitsIdeal.nD Cert.AdamLogitsIdeal.τ Cert.AdamLogitsIdeal.sig) → Buf (Elt Ideal) ℓ) (g : Dev Cert.AdamLogitsIdeal.nD → PrngReg), Pre_AdamLogitsIdeal m →
    θ_run (Cert.AdamLogitsIdeal.defs (F := Ideal)) (onTc (τ := Cert.AdamLogitsIdeal.τ) (Cert.AdamLogitsIdeal.main (F := Ideal))) ⟨m, fun _ => 0, g⟩ (fun r => (∀ c : Dev Cert.AdamLogitsIdeal.nD,
      r.2.mem ((c.tc : Thread Cert.AdamLogitsIdeal.nD Cert.AdamLogitsIdeal.τ).loc Cert.AdamLogitsIdeal.main_arg0) = m ((c.tc : Thread Cert.AdamLogitsIdeal.nD Cert.AdamLogitsIdeal.τ).loc Cert.AdamLogitsIdeal.main_arg0)
      ∧ r.2.mem ((c.tc : Thread Cert.AdamLogitsIdeal.nD Cert.AdamLogitsIdeal.τ).loc Cert.AdamLogitsIdeal.main_arg1) = m ((c.tc : Thread Cert.AdamLogitsIdeal.nD Cert.AdamLogitsIdeal.τ).loc Cert.AdamLogitsIdeal.main_arg1)
      ∧ r.2.mem ((c.tc : Thread Cert.AdamLogitsIdeal.nD Cert.AdamLogitsIdeal.τ).loc Cert.AdamLogitsIdeal.main_arg2) = m ((c.tc : Thread Cert.AdamLogitsIdeal.nD Cert.AdamLogitsIdeal.τ).loc Cert.AdamLogitsIdeal.main_arg2)
      ∧ r.2.mem ((c.tc : Thread Cert.AdamLogitsIdeal.nD Cert.AdamLogitsIdeal.τ).loc Cert.AdamLogitsIdeal.main_arg3) = m ((c.tc : Thread Cert.AdamLogitsIdeal.nD Cert.AdamLogitsIdeal.τ).loc Cert.AdamLogitsIdeal.main_arg3))
      ∧ r.2.sem = fun _ => 0)

def quiescent_AdamLogitsReferenceIdeal [hAdamLogitsReferenceIdeal : Cert.AdamLogitsReferenceIdeal.Facts] : Prop :=
  ∀ (m : (ℓ : Loc Cert.AdamLogitsReferenceIdeal.nD Cert.AdamLogitsReferenceIdeal.τ Cert.AdamLogitsReferenceIdeal.sig) → Buf (Elt Ideal) ℓ) (g : Dev Cert.AdamLogitsReferenceIdeal.nD → PrngReg), Pre_AdamLogitsReferenceIdeal m →
    θ_run (Cert.AdamLogitsReferenceIdeal.defs (F := Ideal)) (onTc (τ := Cert.AdamLogitsReferenceIdeal.τ) (Cert.AdamLogitsReferenceIdeal.main (F := Ideal))) ⟨m, fun _ => 0, g⟩ (fun r => (∀ c : Dev Cert.AdamLogitsReferenceIdeal.nD,
      r.2.mem ((c.tc : Thread Cert.AdamLogitsReferenceIdeal.nD Cert.AdamLogitsReferenceIdeal.τ).loc Cert.AdamLogitsReferenceIdeal.main_arg0) = m ((c.tc : Thread Cert.AdamLogitsReferenceIdeal.nD Cert.AdamLogitsReferenceIdeal.τ).loc Cert.AdamLogitsReferenceIdeal.main_arg0)
      ∧ r.2.mem ((c.tc : Thread Cert.AdamLogitsReferenceIdeal.nD Cert.AdamLogitsReferenceIdeal.τ).loc Cert.AdamLogitsReferenceIdeal.main_arg1) = m ((c.tc : Thread Cert.AdamLogitsReferenceIdeal.nD Cert.AdamLogitsReferenceIdeal.τ).loc Cert.AdamLogitsReferenceIdeal.main_arg1)
      ∧ r.2.mem ((c.tc : Thread Cert.AdamLogitsReferenceIdeal.nD Cert.AdamLogitsReferenceIdeal.τ).loc Cert.AdamLogitsReferenceIdeal.main_arg2) = m ((c.tc : Thread Cert.AdamLogitsReferenceIdeal.nD Cert.AdamLogitsReferenceIdeal.τ).loc Cert.AdamLogitsReferenceIdeal.main_arg2)
      ∧ r.2.mem ((c.tc : Thread Cert.AdamLogitsReferenceIdeal.nD Cert.AdamLogitsReferenceIdeal.τ).loc Cert.AdamLogitsReferenceIdeal.main_arg3) = m ((c.tc : Thread Cert.AdamLogitsReferenceIdeal.nD Cert.AdamLogitsReferenceIdeal.τ).loc Cert.AdamLogitsReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 2048, 2048]⟩ ⟨3, ![32, 2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![4, 512, 2048]⟩ ⟨3, ![32, 512, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)) (v1 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.blockN ⟨2, ![2048, 2048]⟩ ⟨2, ![2048, 8192]⟩ (Layout.meshBlock [2, 2, 2] ![[], [0, 1]] c) v0
          ∧ r.2.mem ((c.tc : Thread Cert.KernelIdeal.nD Cert.KernelIdeal.τ).loc Cert.KernelIdeal.main_v29) = Layout.blockN ⟨2, ![512, 2048]⟩ ⟨2, ![2048, 2048]⟩ (Layout.meshBlock [2, 2, 2] ![[0, 1], []] c) v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_v6) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)) (v1 : (c : Dev Cert.RmsFwdIdeal.nD) → Buf (Elt Ideal) ((c.tc : Thread Cert.RmsFwdIdeal.nD Cert.RmsFwdIdeal.τ).loc Cert.RmsFwdIdeal.main_v1_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_v1_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v12) = v0 c
          ∧ r.2.mem ((c.tc : Thread Cert.RmsFwdReferenceIdeal.nD Cert.RmsFwdReferenceIdeal.τ).loc Cert.RmsFwdReferenceIdeal.main_v7) = v1 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)
      ∧ m' ((c.tc : Thread Cert.GradInReferenceIdeal.nD Cert.GradInReferenceIdeal.τ).loc Cert.GradInReferenceIdeal.main_arg2) = m ((c.tc : Thread Cert.GradInIdeal.nD Cert.GradInIdeal.τ).loc Cert.GradInIdeal.main_arg2)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v8) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1)
          ∧ r.2.mem ((c.tc : Thread Cert.GradInReferenceIdeal.nD Cert.GradInReferenceIdeal.τ).loc Cert.GradInReferenceIdeal.main_arg2) = m' ((c.tc : Thread Cert.GradInReferenceIdeal.nD Cert.GradInReferenceIdeal.τ).loc Cert.GradInReferenceIdeal.main_arg2))

def preserves_DyGate_DyGateIdeal : Prop :=
  True

def algebraic_DyGateIdeal_DyGateReferenceIdeal [hDyGateIdeal : Cert.DyGateIdeal.Facts] [hDyGateReferenceIdeal : Cert.DyGateReferenceIdeal.Facts] : Prop :=
  ∀ (m : (ℓ : Loc Cert.DyGateIdeal.nD Cert.DyGateIdeal.τ Cert.DyGateIdeal.sig) → Buf (Elt Ideal) ℓ) (g : Dev Cert.DyGateIdeal.nD → PrngReg)
    (m' : (ℓ : Loc Cert.DyGateReferenceIdeal.nD Cert.DyGateReferenceIdeal.τ Cert.DyGateReferenceIdeal.sig) → Buf (Elt Ideal) ℓ) (g' : Dev Cert.DyGateReferenceIdeal.nD → PrngReg), Pre_DyGateIdeal m →
    (∀ c : Dev Cert.DyGateIdeal.nD,
      m' ((c.tc : Thread Cert.DyGateReferenceIdeal.nD Cert.DyGateReferenceIdeal.τ).loc Cert.DyGateReferenceIdeal.main_arg0) = m ((c.tc : Thread Cert.DyGateIdeal.nD Cert.DyGateIdeal.τ).loc Cert.DyGateIdeal.main_arg0)
      ∧ m' ((c.tc : Thread Cert.DyGateReferenceIdeal.nD Cert.DyGateReferenceIdeal.τ).loc Cert.DyGateReferenceIdeal.main_arg1) = m ((c.tc : Thread Cert.DyGateIdeal.nD Cert.DyGateIdeal.τ).loc Cert.DyGateIdeal.main_arg1)
      ∧ m' ((c.tc : Thread Cert.DyGateReferenceIdeal.nD Cert.DyGateReferenceIdeal.τ).loc Cert.DyGateReferenceIdeal.main_arg2) = m ((c.tc : Thread Cert.DyGateIdeal.nD Cert.DyGateIdeal.τ).loc Cert.DyGateIdeal.main_arg2)
      ∧ m' ((c.tc : Thread Cert.DyGateReferenceIdeal.nD Cert.DyGateReferenceIdeal.τ).loc Cert.DyGateReferenceIdeal.main_arg3) = m ((c.tc : Thread Cert.DyGateIdeal.nD Cert.DyGateIdeal.τ).loc Cert.DyGateIdeal.main_arg3)) →
    ∃ (v0 : (c : Dev Cert.DyGateIdeal.nD) → Buf (Elt Ideal) ((c.tc : Thread Cert.DyGateIdeal.nD Cert.DyGateIdeal.τ).loc Cert.DyGateIdeal.main_v0_0)) (v1 : (c : Dev Cert.DyGateIdeal.nD) → Buf (Elt Ideal) ((c.tc : Thread Cert.DyGateIdeal.nD Cert.DyGateIdeal.τ).loc Cert.DyGateIdeal.main_v0_1)) (v2 : (c : Dev Cert.DyGateIdeal.nD) → Buf (Elt Ideal) ((c.tc : Thread Cert.DyGateIdeal.nD Cert.DyGateIdeal.τ).loc Cert.DyGateIdeal.main_v2)),
      θ_run (Cert.DyGateIdeal.defs (F := Ideal)) (onTc (τ := Cert.DyGateIdeal.τ) (Cert.DyGateIdeal.main (F := Ideal))) ⟨m, fun _ => 0, g⟩ (fun r => ∀ c : Dev Cert.DyGateIdeal.nD,
          r.2.mem ((c.tc : Thread Cert.DyGateIdeal.nD Cert.DyGateIdeal.τ).loc Cert.DyGateIdeal.main_v0_0) = v0 c
          ∧ r.2.mem ((c.tc : Thread Cert.DyGateIdeal.nD Cert.DyGateIdeal.τ).loc Cert.DyGateIdeal.main_v0_1) = v1 c
          ∧ r.2.mem ((c.tc : Thread Cert.DyGateIdeal.nD Cert.DyGateIdeal.τ).loc Cert.DyGateIdeal.main_v2) = v2 c
          ∧ r.2.mem ((c.tc : Thread Cert.DyGateIdeal.nD Cert.DyGateIdeal.τ).loc Cert.DyGateIdeal.main_arg0) = m ((c.tc : Thread Cert.DyGateIdeal.nD Cert.DyGateIdeal.τ).loc Cert.DyGateIdeal.main_arg0)
          ∧ r.2.mem ((c.tc : Thread Cert.DyGateIdeal.nD Cert.DyGateIdeal.τ).loc Cert.DyGateIdeal.main_arg1) = m ((c.tc : Thread Cert.DyGateIdeal.nD Cert.DyGateIdeal.τ).loc Cert.DyGateIdeal.main_arg1)
          ∧ r.2.mem ((c.tc : Thread Cert.DyGateIdeal.nD Cert.DyGateIdeal.τ).loc Cert.DyGateIdeal.main_arg2) = m ((c.tc : Thread Cert.DyGateIdeal.nD Cert.DyGateIdeal.τ).loc Cert.DyGateIdeal.main_arg2)
          ∧ r.2.mem ((c.tc : Thread Cert.DyGateIdeal.nD Cert.DyGateIdeal.τ).loc Cert.DyGateIdeal.main_arg3) = m ((c.tc : Thread Cert.DyGateIdeal.nD Cert.DyGateIdeal.τ).loc Cert.DyGateIdeal.main_arg3))
      ∧ θ_run (Cert.DyGateReferenceIdeal.defs (F := Ideal)) (onTc (τ := Cert.DyGateReferenceIdeal.τ) (Cert.DyGateReferenceIdeal.main (F := Ideal))) ⟨m', fun _ => 0, g'⟩ (fun r => ∀ c : Dev Cert.DyGateReferenceIdeal.nD,
          r.2.mem ((c.tc : Thread Cert.DyGateReferenceIdeal.nD Cert.DyGateReferenceIdeal.τ).loc Cert.DyGateReferenceIdeal.main_v28) = v0 c
          ∧ r.2.mem ((c.tc : Thread Cert.DyGateReferenceIdeal.nD Cert.DyGateReferenceIdeal.τ).loc Cert.DyGateReferenceIdeal.main_v30) = v1 c
          ∧ r.2.mem ((c.tc : Thread Cert.DyGateReferenceIdeal.nD Cert.DyGateReferenceIdeal.τ).loc Cert.DyGateReferenceIdeal.main_v31) = v2 c
          ∧ r.2.mem ((c.tc : Thread Cert.DyGateReferenceIdeal.nD Cert.DyGateReferenceIdeal.τ).loc Cert.DyGateReferenceIdeal.main_arg0) = m' ((c.tc : Thread Cert.DyGateReferenceIdeal.nD Cert.DyGateReferenceIdeal.τ).loc Cert.DyGateReferenceIdeal.main_arg0)
          ∧ r.2.mem ((c.tc : Thread Cert.DyGateReferenceIdeal.nD Cert.DyGateReferenceIdeal.τ).loc Cert.DyGateReferenceIdeal.main_arg1) = m' ((c.tc : Thread Cert.DyGateReferenceIdeal.nD Cert.DyGateReferenceIdeal.τ).loc Cert.DyGateReferenceIdeal.main_arg1)
          ∧ r.2.mem ((c.tc : Thread Cert.DyGateReferenceIdeal.nD Cert.DyGateReferenceIdeal.τ).loc Cert.DyGateReferenceIdeal.main_arg2) = m' ((c.tc : Thread Cert.DyGateReferenceIdeal.nD Cert.DyGateReferenceIdeal.τ).loc Cert.DyGateReferenceIdeal.main_arg2)
          ∧ r.2.mem ((c.tc : Thread Cert.DyGateReferenceIdeal.nD Cert.DyGateReferenceIdeal.τ).loc Cert.DyGateReferenceIdeal.main_arg3) = m' ((c.tc : Thread Cert.DyGateReferenceIdeal.nD Cert.DyGateReferenceIdeal.τ).loc Cert.DyGateReferenceIdeal.main_arg3))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)
      ∧ m' ((c.tc : Thread Cert.GradOutReferenceIdeal.nD Cert.GradOutReferenceIdeal.τ).loc Cert.GradOutReferenceIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v5) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1)
          ∧ r.2.mem ((c.tc : Thread Cert.GradOutReferenceIdeal.nD Cert.GradOutReferenceIdeal.τ).loc Cert.GradOutReferenceIdeal.main_arg2) = m' ((c.tc : Thread Cert.GradOutReferenceIdeal.nD Cert.GradOutReferenceIdeal.τ).loc Cert.GradOutReferenceIdeal.main_arg2))

def preserves_DhFirst_DhFirstIdeal : Prop :=
  True

def algebraic_DhFirstIdeal_DhFirstReferenceIdeal [hDhFirstIdeal : Cert.DhFirstIdeal.Facts] [hDhFirstReferenceIdeal : Cert.DhFirstReferenceIdeal.Facts] : Prop :=
  ∀ (m : (ℓ : Loc Cert.DhFirstIdeal.nD Cert.DhFirstIdeal.τ Cert.DhFirstIdeal.sig) → Buf (Elt Ideal) ℓ) (g : Dev Cert.DhFirstIdeal.nD → PrngReg)
    (m' : (ℓ : Loc Cert.DhFirstReferenceIdeal.nD Cert.DhFirstReferenceIdeal.τ Cert.DhFirstReferenceIdeal.sig) → Buf (Elt Ideal) ℓ) (g' : Dev Cert.DhFirstReferenceIdeal.nD → PrngReg), Pre_DhFirstIdeal m →
    (∀ c : Dev Cert.DhFirstIdeal.nD,
      m' ((c.tc : Thread Cert.DhFirstReferenceIdeal.nD Cert.DhFirstReferenceIdeal.τ).loc Cert.DhFirstReferenceIdeal.main_arg0) = m ((c.tc : Thread Cert.DhFirstIdeal.nD Cert.DhFirstIdeal.τ).loc Cert.DhFirstIdeal.main_arg0)
      ∧ m' ((c.tc : Thread Cert.DhFirstReferenceIdeal.nD Cert.DhFirstReferenceIdeal.τ).loc Cert.DhFirstReferenceIdeal.main_arg1) = m ((c.tc : Thread Cert.DhFirstIdeal.nD Cert.DhFirstIdeal.τ).loc Cert.DhFirstIdeal.main_arg1)
      ∧ m' ((c.tc : Thread Cert.DhFirstReferenceIdeal.nD Cert.DhFirstReferenceIdeal.τ).loc Cert.DhFirstReferenceIdeal.main_arg2) = m ((c.tc : Thread Cert.DhFirstIdeal.nD Cert.DhFirstIdeal.τ).loc Cert.DhFirstIdeal.main_arg2)) →
    ∃ (v0 : (c : Dev Cert.DhFirstIdeal.nD) → Buf (Elt Ideal) ((c.tc : Thread Cert.DhFirstIdeal.nD Cert.DhFirstIdeal.τ).loc Cert.DhFirstIdeal.main_v1)),
      θ_run (Cert.DhFirstIdeal.defs (F := Ideal)) (onTc (τ := Cert.DhFirstIdeal.τ) (Cert.DhFirstIdeal.main (F := Ideal))) ⟨m, fun _ => 0, g⟩ (fun r => ∀ c : Dev Cert.DhFirstIdeal.nD,
          r.2.mem ((c.tc : Thread Cert.DhFirstIdeal.nD Cert.DhFirstIdeal.τ).loc Cert.DhFirstIdeal.main_v1) = v0 c
          ∧ r.2.mem ((c.tc : Thread Cert.DhFirstIdeal.nD Cert.DhFirstIdeal.τ).loc Cert.DhFirstIdeal.main_arg0) = m ((c.tc : Thread Cert.DhFirstIdeal.nD Cert.DhFirstIdeal.τ).loc Cert.DhFirstIdeal.main_arg0)
          ∧ r.2.mem ((c.tc : Thread Cert.DhFirstIdeal.nD Cert.DhFirstIdeal.τ).loc Cert.DhFirstIdeal.main_arg1) = m ((c.tc : Thread Cert.DhFirstIdeal.nD Cert.DhFirstIdeal.τ).loc Cert.DhFirstIdeal.main_arg1)
          ∧ r.2.mem ((c.tc : Thread Cert.DhFirstIdeal.nD Cert.DhFirstIdeal.τ).loc Cert.DhFirstIdeal.main_arg2) = m ((c.tc : Thread Cert.DhFirstIdeal.nD Cert.DhFirstIdeal.τ).loc Cert.DhFirstIdeal.main_arg2))
      ∧ θ_run (Cert.DhFirstReferenceIdeal.defs (F := Ideal)) (onTc (τ := Cert.DhFirstReferenceIdeal.τ) (Cert.DhFirstReferenceIdeal.main (F := Ideal))) ⟨m', fun _ => 0, g'⟩ (fun r => ∀ c : Dev Cert.DhFirstReferenceIdeal.nD,
          r.2.mem ((c.tc : Thread Cert.DhFirstReferenceIdeal.nD Cert.DhFirstReferenceIdeal.τ).loc Cert.DhFirstReferenceIdeal.main_v9) = v0 c
          ∧ r.2.mem ((c.tc : Thread Cert.DhFirstReferenceIdeal.nD Cert.DhFirstReferenceIdeal.τ).loc Cert.DhFirstReferenceIdeal.main_arg0) = m' ((c.tc : Thread Cert.DhFirstReferenceIdeal.nD Cert.DhFirstReferenceIdeal.τ).loc Cert.DhFirstReferenceIdeal.main_arg0)
          ∧ r.2.mem ((c.tc : Thread Cert.DhFirstReferenceIdeal.nD Cert.DhFirstReferenceIdeal.τ).loc Cert.DhFirstReferenceIdeal.main_arg1) = m' ((c.tc : Thread Cert.DhFirstReferenceIdeal.nD Cert.DhFirstReferenceIdeal.τ).loc Cert.DhFirstReferenceIdeal.main_arg1)
          ∧ r.2.mem ((c.tc : Thread Cert.DhFirstReferenceIdeal.nD Cert.DhFirstReferenceIdeal.τ).loc Cert.DhFirstReferenceIdeal.main_arg2) = m' ((c.tc : Thread Cert.DhFirstReferenceIdeal.nD Cert.DhFirstReferenceIdeal.τ).loc Cert.DhFirstReferenceIdeal.main_arg2))

def preserves_DhLast_DhLastIdeal : Prop :=
  True

def algebraic_DhLastIdeal_DhLastReferenceIdeal [hDhLastIdeal : Cert.DhLastIdeal.Facts] [hDhLastReferenceIdeal : Cert.DhLastReferenceIdeal.Facts] : Prop :=
  ∀ (m : (ℓ : Loc Cert.DhLastIdeal.nD Cert.DhLastIdeal.τ Cert.DhLastIdeal.sig) → Buf (Elt Ideal) ℓ) (g : Dev Cert.DhLastIdeal.nD → PrngReg)
    (m' : (ℓ : Loc Cert.DhLastReferenceIdeal.nD Cert.DhLastReferenceIdeal.τ Cert.DhLastReferenceIdeal.sig) → Buf (Elt Ideal) ℓ) (g' : Dev Cert.DhLastReferenceIdeal.nD → PrngReg), Pre_DhLastIdeal m →
    (∀ c : Dev Cert.DhLastIdeal.nD,
      m' ((c.tc : Thread Cert.DhLastReferenceIdeal.nD Cert.DhLastReferenceIdeal.τ).loc Cert.DhLastReferenceIdeal.main_arg0) = m ((c.tc : Thread Cert.DhLastIdeal.nD Cert.DhLastIdeal.τ).loc Cert.DhLastIdeal.main_arg0)
      ∧ m' ((c.tc : Thread Cert.DhLastReferenceIdeal.nD Cert.DhLastReferenceIdeal.τ).loc Cert.DhLastReferenceIdeal.main_arg1) = m ((c.tc : Thread Cert.DhLastIdeal.nD Cert.DhLastIdeal.τ).loc Cert.DhLastIdeal.main_arg1)
      ∧ m' ((c.tc : Thread Cert.DhLastReferenceIdeal.nD Cert.DhLastReferenceIdeal.τ).loc Cert.DhLastReferenceIdeal.main_arg2) = m ((c.tc : Thread Cert.DhLastIdeal.nD Cert.DhLastIdeal.τ).loc Cert.DhLastIdeal.main_arg2)) →
    ∃ (v0 : (c : Dev Cert.DhLastIdeal.nD) → Buf (Elt Ideal) ((c.tc : Thread Cert.DhLastIdeal.nD Cert.DhLastIdeal.τ).loc Cert.DhLastIdeal.main_v1)),
      θ_run (Cert.DhLastIdeal.defs (F := Ideal)) (onTc (τ := Cert.DhLastIdeal.τ) (Cert.DhLastIdeal.main (F := Ideal))) ⟨m, fun _ => 0, g⟩ (fun r => ∀ c : Dev Cert.DhLastIdeal.nD,
          r.2.mem ((c.tc : Thread Cert.DhLastIdeal.nD Cert.DhLastIdeal.τ).loc Cert.DhLastIdeal.main_v1) = v0 c
          ∧ r.2.mem ((c.tc : Thread Cert.DhLastIdeal.nD Cert.DhLastIdeal.τ).loc Cert.DhLastIdeal.main_arg0) = m ((c.tc : Thread Cert.DhLastIdeal.nD Cert.DhLastIdeal.τ).loc Cert.DhLastIdeal.main_arg0)
          ∧ r.2.mem ((c.tc : Thread Cert.DhLastIdeal.nD Cert.DhLastIdeal.τ).loc Cert.DhLastIdeal.main_arg1) = m ((c.tc : Thread Cert.DhLastIdeal.nD Cert.DhLastIdeal.τ).loc Cert.DhLastIdeal.main_arg1)
          ∧ r.2.mem ((c.tc : Thread Cert.DhLastIdeal.nD Cert.DhLastIdeal.τ).loc Cert.DhLastIdeal.main_arg2) = m ((c.tc : Thread Cert.DhLastIdeal.nD Cert.DhLastIdeal.τ).loc Cert.DhLastIdeal.main_arg2))
      ∧ θ_run (Cert.DhLastReferenceIdeal.defs (F := Ideal)) (onTc (τ := Cert.DhLastReferenceIdeal.τ) (Cert.DhLastReferenceIdeal.main (F := Ideal))) ⟨m', fun _ => 0, g'⟩ (fun r => ∀ c : Dev Cert.DhLastReferenceIdeal.nD,
          r.2.mem ((c.tc : Thread Cert.DhLastReferenceIdeal.nD Cert.DhLastReferenceIdeal.τ).loc Cert.DhLastReferenceIdeal.main_v9) = v0 c
          ∧ r.2.mem ((c.tc : Thread Cert.DhLastReferenceIdeal.nD Cert.DhLastReferenceIdeal.τ).loc Cert.DhLastReferenceIdeal.main_arg0) = m' ((c.tc : Thread Cert.DhLastReferenceIdeal.nD Cert.DhLastReferenceIdeal.τ).loc Cert.DhLastReferenceIdeal.main_arg0)
          ∧ r.2.mem ((c.tc : Thread Cert.DhLastReferenceIdeal.nD Cert.DhLastReferenceIdeal.τ).loc Cert.DhLastReferenceIdeal.main_arg1) = m' ((c.tc : Thread Cert.DhLastReferenceIdeal.nD Cert.DhLastReferenceIdeal.τ).loc Cert.DhLastReferenceIdeal.main_arg1)
          ∧ r.2.mem ((c.tc : Thread Cert.DhLastReferenceIdeal.nD Cert.DhLastReferenceIdeal.τ).loc Cert.DhLastReferenceIdeal.main_arg2) = m' ((c.tc : Thread Cert.DhLastReferenceIdeal.nD Cert.DhLastReferenceIdeal.τ).loc Cert.DhLastReferenceIdeal.main_arg2))

def preserves_RmsBwd_RmsBwdIdeal : Prop :=
  True

def algebraic_RmsBwdIdeal_RmsBwdReferenceIdeal [hRmsBwdIdeal : Cert.RmsBwdIdeal.Facts] [hRmsBwdReferenceIdeal : Cert.RmsBwdReferenceIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdReferenceIdeal.nD Cert.RmsBwdReferenceIdeal.τ Cert.RmsBwdReferenceIdeal.sig) → Buf (Elt Ideal) ℓ) (g' : Dev Cert.RmsBwdReferenceIdeal.nD → PrngReg), Pre_RmsBwdIdeal m →
    (∀ c : Dev Cert.RmsBwdIdeal.nD,
      m' ((c.tc : Thread Cert.RmsBwdReferenceIdeal.nD Cert.RmsBwdReferenceIdeal.τ).loc Cert.RmsBwdReferenceIdeal.main_arg0) = m ((c.tc : Thread Cert.RmsBwdIdeal.nD Cert.RmsBwdIdeal.τ).loc Cert.RmsBwdIdeal.main_arg0)
      ∧ m' ((c.tc : Thread Cert.RmsBwdReferenceIdeal.nD Cert.RmsBwdReferenceIdeal.τ).loc Cert.RmsBwdReferenceIdeal.main_arg1) = m ((c.tc : Thread Cert.RmsBwdIdeal.nD Cert.RmsBwdIdeal.τ).loc Cert.RmsBwdIdeal.main_arg1)
      ∧ m' ((c.tc : Thread Cert.RmsBwdReferenceIdeal.nD Cert.RmsBwdReferenceIdeal.τ).loc Cert.RmsBwdReferenceIdeal.main_arg2) = m ((c.tc : Thread Cert.RmsBwdIdeal.nD Cert.RmsBwdIdeal.τ).loc Cert.RmsBwdIdeal.main_arg2)
      ∧ m' ((c.tc : Thread Cert.RmsBwdReferenceIdeal.nD Cert.RmsBwdReferenceIdeal.τ).loc Cert.RmsBwdReferenceIdeal.main_arg3) = m ((c.tc : Thread Cert.RmsBwdIdeal.nD Cert.RmsBwdIdeal.τ).loc Cert.RmsBwdIdeal.main_arg3)
      ∧ m' ((c.tc : Thread Cert.RmsBwdReferenceIdeal.nD Cert.RmsBwdReferenceIdeal.τ).loc Cert.RmsBwdReferenceIdeal.main_arg4) = m ((c.tc : Thread Cert.RmsBwdIdeal.nD Cert.RmsBwdIdeal.τ).loc Cert.RmsBwdIdeal.main_arg4)
      ∧ m' ((c.tc : Thread Cert.RmsBwdReferenceIdeal.nD Cert.RmsBwdReferenceIdeal.τ).loc Cert.RmsBwdReferenceIdeal.main_arg5) = m ((c.tc : Thread Cert.RmsBwdIdeal.nD Cert.RmsBwdIdeal.τ).loc Cert.RmsBwdIdeal.main_arg5)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v2) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
          ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4)
          ∧ r.2.mem ((c.tc : Thread Cert.RmsBwdIdeal.nD Cert.RmsBwdIdeal.τ).loc Cert.RmsBwdIdeal.main_arg5) = m ((c.tc : Thread Cert.RmsBwdIdeal.nD Cert.RmsBwdIdeal.τ).loc Cert.RmsBwdIdeal.main_arg5))
      ∧ θ_run (Cert.RmsBwdReferenceIdeal.defs (F := Ideal)) (onTc (τ := Cert.RmsBwdReferenceIdeal.τ) (Cert.RmsBwdReferenceIdeal.main (F := Ideal))) ⟨m', fun _ => 0, g'⟩ (fun r => ∀ c : Dev Cert.RmsBwdReferenceIdeal.nD,
          r.2.mem ((c.tc : Thread Cert.RmsBwdReferenceIdeal.nD Cert.RmsBwdReferenceIdeal.τ).loc Cert.RmsBwdReferenceIdeal.main_v15) = v0 c
          ∧ r.2.mem ((c.tc : Thread Cert.RmsBwdReferenceIdeal.nD Cert.RmsBwdReferenceIdeal.τ).loc Cert.RmsBwdReferenceIdeal.main_v18) = v1 c
          ∧ r.2.mem ((c.tc : Thread Cert.RmsBwdReferenceIdeal.nD Cert.RmsBwdReferenceIdeal.τ).loc Cert.RmsBwdReferenceIdeal.main_arg0) = m' ((c.tc : Thread Cert.RmsBwdReferenceIdeal.nD Cert.RmsBwdReferenceIdeal.τ).loc Cert.RmsBwdReferenceIdeal.main_arg0)
          ∧ r.2.mem ((c.tc : Thread Cert.RmsBwdReferenceIdeal.nD Cert.RmsBwdReferenceIdeal.τ).loc Cert.RmsBwdReferenceIdeal.main_arg1) = m' ((c.tc : Thread Cert.RmsBwdReferenceIdeal.nD Cert.RmsBwdReferenceIdeal.τ).loc Cert.RmsBwdReferenceIdeal.main_arg1)
          ∧ r.2.mem ((c.tc : Thread Cert.RmsBwdReferenceIdeal.nD Cert.RmsBwdReferenceIdeal.τ).loc Cert.RmsBwdReferenceIdeal.main_arg2) = m' ((c.tc : Thread Cert.RmsBwdReferenceIdeal.nD Cert.RmsBwdReferenceIdeal.τ).loc Cert.RmsBwdReferenceIdeal.main_arg2)
          ∧ r.2.mem ((c.tc : Thread Cert.RmsBwdReferenceIdeal.nD Cert.RmsBwdReferenceIdeal.τ).loc Cert.RmsBwdReferenceIdeal.main_arg3) = m' ((c.tc : Thread Cert.RmsBwdReferenceIdeal.nD Cert.RmsBwdReferenceIdeal.τ).loc Cert.RmsBwdReferenceIdeal.main_arg3)
          ∧ r.2.mem ((c.tc : Thread Cert.RmsBwdReferenceIdeal.nD Cert.RmsBwdReferenceIdeal.τ).loc Cert.RmsBwdReferenceIdeal.main_arg4) = m' ((c.tc : Thread Cert.RmsBwdReferenceIdeal.nD Cert.RmsBwdReferenceIdeal.τ).loc Cert.RmsBwdReferenceIdeal.main_arg4)
          ∧ r.2.mem ((c.tc : Thread Cert.RmsBwdReferenceIdeal.nD Cert.RmsBwdReferenceIdeal.τ).loc Cert.RmsBwdReferenceIdeal.main_arg5) = m' ((c.tc : Thread Cert.RmsBwdReferenceIdeal.nD Cert.RmsBwdReferenceIdeal.τ).loc Cert.RmsBwdReferenceIdeal.main_arg5))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg1) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg1) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamRow_AdamRowIdeal : Prop :=
  True

def algebraic_AdamRowIdeal_AdamRowReferenceIdeal [hAdamRowIdeal : Cert.AdamRowIdeal.Facts] [hAdamRowReferenceIdeal : Cert.AdamRowReferenceIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowReferenceIdeal.nD Cert.AdamRowReferenceIdeal.τ Cert.AdamRowReferenceIdeal.sig) → Buf (Elt Ideal) ℓ) (g' : Dev Cert.AdamRowReferenceIdeal.nD → PrngReg), Pre_AdamRowIdeal m →
    (∀ c : Dev Cert.AdamRowIdeal.nD,
      m' ((c.tc : Thread Cert.AdamRowReferenceIdeal.nD Cert.AdamRowReferenceIdeal.τ).loc Cert.AdamRowReferenceIdeal.main_arg0) = m ((c.tc : Thread Cert.AdamRowIdeal.nD Cert.AdamRowIdeal.τ).loc Cert.AdamRowIdeal.main_arg0)
      ∧ m' ((c.tc : Thread Cert.AdamRowReferenceIdeal.nD Cert.AdamRowReferenceIdeal.τ).loc Cert.AdamRowReferenceIdeal.main_arg1) = m ((c.tc : Thread Cert.AdamRowIdeal.nD Cert.AdamRowIdeal.τ).loc Cert.AdamRowIdeal.main_arg1)
      ∧ m' ((c.tc : Thread Cert.AdamRowReferenceIdeal.nD Cert.AdamRowReferenceIdeal.τ).loc Cert.AdamRowReferenceIdeal.main_arg2) = m ((c.tc : Thread Cert.AdamRowIdeal.nD Cert.AdamRowIdeal.τ).loc Cert.AdamRowIdeal.main_arg2)
      ∧ m' ((c.tc : Thread Cert.AdamRowReferenceIdeal.nD Cert.AdamRowReferenceIdeal.τ).loc Cert.AdamRowReferenceIdeal.main_arg3) = m ((c.tc : Thread Cert.AdamRowIdeal.nD Cert.AdamRowIdeal.τ).loc Cert.AdamRowIdeal.main_arg3)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)) (v3 : (c : Dev Cert.AdamRowIdeal.nD) → Buf (Elt Ideal) ((c.tc : Thread Cert.AdamRowIdeal.nD Cert.AdamRowIdeal.τ).loc Cert.AdamRowIdeal.main_v0_3)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_v0_3) = v3 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3))
      ∧ θ_run (Cert.AdamRowReferenceIdeal.defs (F := Ideal)) (onTc (τ := Cert.AdamRowReferenceIdeal.τ) (Cert.AdamRowReferenceIdeal.main (F := Ideal))) ⟨m', fun _ => 0, g'⟩ (fun r => ∀ c : Dev Cert.AdamRowReferenceIdeal.nD,
          r.2.mem ((c.tc : Thread Cert.AdamRowReferenceIdeal.nD Cert.AdamRowReferenceIdeal.τ).loc Cert.AdamRowReferenceIdeal.main_v23) = v0 c
          ∧ r.2.mem ((c.tc : Thread Cert.AdamRowReferenceIdeal.nD Cert.AdamRowReferenceIdeal.τ).loc Cert.AdamRowReferenceIdeal.main_v4) = v1 c
          ∧ r.2.mem ((c.tc : Thread Cert.AdamRowReferenceIdeal.nD Cert.AdamRowReferenceIdeal.τ).loc Cert.AdamRowReferenceIdeal.main_v10) = v2 c
          ∧ r.2.mem ((c.tc : Thread Cert.AdamRowReferenceIdeal.nD Cert.AdamRowReferenceIdeal.τ).loc Cert.AdamRowReferenceIdeal.main_arg1) = v3 c
          ∧ r.2.mem ((c.tc : Thread Cert.AdamRowReferenceIdeal.nD Cert.AdamRowReferenceIdeal.τ).loc Cert.AdamRowReferenceIdeal.main_arg0) = m' ((c.tc : Thread Cert.AdamRowReferenceIdeal.nD Cert.AdamRowReferenceIdeal.τ).loc Cert.AdamRowReferenceIdeal.main_arg0)
          ∧ r.2.mem ((c.tc : Thread Cert.AdamRowReferenceIdeal.nD Cert.AdamRowReferenceIdeal.τ).loc Cert.AdamRowReferenceIdeal.main_arg1) = m' ((c.tc : Thread Cert.AdamRowReferenceIdeal.nD Cert.AdamRowReferenceIdeal.τ).loc Cert.AdamRowReferenceIdeal.main_arg1)
          ∧ r.2.mem ((c.tc : Thread Cert.AdamRowReferenceIdeal.nD Cert.AdamRowReferenceIdeal.τ).loc Cert.AdamRowReferenceIdeal.main_arg2) = m' ((c.tc : Thread Cert.AdamRowReferenceIdeal.nD Cert.AdamRowReferenceIdeal.τ).loc Cert.AdamRowReferenceIdeal.main_arg2)
          ∧ r.2.mem ((c.tc : Thread Cert.AdamRowReferenceIdeal.nD Cert.AdamRowReferenceIdeal.τ).loc Cert.AdamRowReferenceIdeal.main_arg3) = m' ((c.tc : Thread Cert.AdamRowReferenceIdeal.nD Cert.AdamRowReferenceIdeal.τ).loc Cert.AdamRowReferenceIdeal.main_arg3))

def preserves_AdamLogits_AdamLogitsIdeal : Prop :=
  True

def algebraic_AdamLogitsIdeal_AdamLogitsReferenceIdeal [hAdamLogitsIdeal : Cert.AdamLogitsIdeal.Facts] [hAdamLogitsReferenceIdeal : Cert.AdamLogitsReferenceIdeal.Facts] : Prop :=
  ∀ (m : (ℓ : Loc Cert.AdamLogitsIdeal.nD Cert.AdamLogitsIdeal.τ Cert.AdamLogitsIdeal.sig) → Buf (Elt Ideal) ℓ) (g : Dev Cert.AdamLogitsIdeal.nD → PrngReg)
    (m' : (ℓ : Loc Cert.AdamLogitsReferenceIdeal.nD Cert.AdamLogitsReferenceIdeal.τ Cert.AdamLogitsReferenceIdeal.sig) → Buf (Elt Ideal) ℓ) (g' : Dev Cert.AdamLogitsReferenceIdeal.nD → PrngReg), Pre_AdamLogitsIdeal m →
    (∀ c : Dev Cert.AdamLogitsIdeal.nD,
      m' ((c.tc : Thread Cert.AdamLogitsReferenceIdeal.nD Cert.AdamLogitsReferenceIdeal.τ).loc Cert.AdamLogitsReferenceIdeal.main_arg0) = m ((c.tc : Thread Cert.AdamLogitsIdeal.nD Cert.AdamLogitsIdeal.τ).loc Cert.AdamLogitsIdeal.main_arg0)
      ∧ m' ((c.tc : Thread Cert.AdamLogitsReferenceIdeal.nD Cert.AdamLogitsReferenceIdeal.τ).loc Cert.AdamLogitsReferenceIdeal.main_arg1) = m ((c.tc : Thread Cert.AdamLogitsIdeal.nD Cert.AdamLogitsIdeal.τ).loc Cert.AdamLogitsIdeal.main_arg1)
      ∧ m' ((c.tc : Thread Cert.AdamLogitsReferenceIdeal.nD Cert.AdamLogitsReferenceIdeal.τ).loc Cert.AdamLogitsReferenceIdeal.main_arg2) = m ((c.tc : Thread Cert.AdamLogitsIdeal.nD Cert.AdamLogitsIdeal.τ).loc Cert.AdamLogitsIdeal.main_arg2)
      ∧ m' ((c.tc : Thread Cert.AdamLogitsReferenceIdeal.nD Cert.AdamLogitsReferenceIdeal.τ).loc Cert.AdamLogitsReferenceIdeal.main_arg3) = m ((c.tc : Thread Cert.AdamLogitsIdeal.nD Cert.AdamLogitsIdeal.τ).loc Cert.AdamLogitsIdeal.main_arg3)) →
    ∃ (v0 : (c : Dev Cert.AdamLogitsIdeal.nD) → Buf (Elt Ideal) ((c.tc : Thread Cert.AdamLogitsIdeal.nD Cert.AdamLogitsIdeal.τ).loc Cert.AdamLogitsIdeal.main_v0_0)) (v1 : (c : Dev Cert.AdamLogitsIdeal.nD) → Buf (Elt Ideal) ((c.tc : Thread Cert.AdamLogitsIdeal.nD Cert.AdamLogitsIdeal.τ).loc Cert.AdamLogitsIdeal.main_v0_1)) (v2 : (c : Dev Cert.AdamLogitsIdeal.nD) → Buf (Elt Ideal) ((c.tc : Thread Cert.AdamLogitsIdeal.nD Cert.AdamLogitsIdeal.τ).loc Cert.AdamLogitsIdeal.main_v0_2)) (v3 : (c : Dev Cert.AdamLogitsIdeal.nD) → Buf (Elt Ideal) ((c.tc : Thread Cert.AdamLogitsIdeal.nD Cert.AdamLogitsIdeal.τ).loc Cert.AdamLogitsIdeal.main_v0_3)),
      θ_run (Cert.AdamLogitsIdeal.defs (F := Ideal)) (onTc (τ := Cert.AdamLogitsIdeal.τ) (Cert.AdamLogitsIdeal.main (F := Ideal))) ⟨m, fun _ => 0, g⟩ (fun r => ∀ c : Dev Cert.AdamLogitsIdeal.nD,
          r.2.mem ((c.tc : Thread Cert.AdamLogitsIdeal.nD Cert.AdamLogitsIdeal.τ).loc Cert.AdamLogitsIdeal.main_v0_0) = v0 c
          ∧ r.2.mem ((c.tc : Thread Cert.AdamLogitsIdeal.nD Cert.AdamLogitsIdeal.τ).loc Cert.AdamLogitsIdeal.main_v0_1) = v1 c
          ∧ r.2.mem ((c.tc : Thread Cert.AdamLogitsIdeal.nD Cert.AdamLogitsIdeal.τ).loc Cert.AdamLogitsIdeal.main_v0_2) = v2 c
          ∧ r.2.mem ((c.tc : Thread Cert.AdamLogitsIdeal.nD Cert.AdamLogitsIdeal.τ).loc Cert.AdamLogitsIdeal.main_v0_3) = v3 c
          ∧ r.2.mem ((c.tc : Thread Cert.AdamLogitsIdeal.nD Cert.AdamLogitsIdeal.τ).loc Cert.AdamLogitsIdeal.main_arg0) = m ((c.tc : Thread Cert.AdamLogitsIdeal.nD Cert.AdamLogitsIdeal.τ).loc Cert.AdamLogitsIdeal.main_arg0)
          ∧ r.2.mem ((c.tc : Thread Cert.AdamLogitsIdeal.nD Cert.AdamLogitsIdeal.τ).loc Cert.AdamLogitsIdeal.main_arg1) = m ((c.tc : Thread Cert.AdamLogitsIdeal.nD Cert.AdamLogitsIdeal.τ).loc Cert.AdamLogitsIdeal.main_arg1)
          ∧ r.2.mem ((c.tc : Thread Cert.AdamLogitsIdeal.nD Cert.AdamLogitsIdeal.τ).loc Cert.AdamLogitsIdeal.main_arg2) = m ((c.tc : Thread Cert.AdamLogitsIdeal.nD Cert.AdamLogitsIdeal.τ).loc Cert.AdamLogitsIdeal.main_arg2)
          ∧ r.2.mem ((c.tc : Thread Cert.AdamLogitsIdeal.nD Cert.AdamLogitsIdeal.τ).loc Cert.AdamLogitsIdeal.main_arg3) = m ((c.tc : Thread Cert.AdamLogitsIdeal.nD Cert.AdamLogitsIdeal.τ).loc Cert.AdamLogitsIdeal.main_arg3))
      ∧ θ_run (Cert.AdamLogitsReferenceIdeal.defs (F := Ideal)) (onTc (τ := Cert.AdamLogitsReferenceIdeal.τ) (Cert.AdamLogitsReferenceIdeal.main (F := Ideal))) ⟨m', fun _ => 0, g'⟩ (fun r => ∀ c : Dev Cert.AdamLogitsReferenceIdeal.nD,
          r.2.mem ((c.tc : Thread Cert.AdamLogitsReferenceIdeal.nD Cert.AdamLogitsReferenceIdeal.τ).loc Cert.AdamLogitsReferenceIdeal.main_v23) = v0 c
          ∧ r.2.mem ((c.tc : Thread Cert.AdamLogitsReferenceIdeal.nD Cert.AdamLogitsReferenceIdeal.τ).loc Cert.AdamLogitsReferenceIdeal.main_v4) = v1 c
          ∧ r.2.mem ((c.tc : Thread Cert.AdamLogitsReferenceIdeal.nD Cert.AdamLogitsReferenceIdeal.τ).loc Cert.AdamLogitsReferenceIdeal.main_v10) = v2 c
          ∧ r.2.mem ((c.tc : Thread Cert.AdamLogitsReferenceIdeal.nD Cert.AdamLogitsReferenceIdeal.τ).loc Cert.AdamLogitsReferenceIdeal.main_arg1) = v3 c
          ∧ r.2.mem ((c.tc : Thread Cert.AdamLogitsReferenceIdeal.nD Cert.AdamLogitsReferenceIdeal.τ).loc Cert.AdamLogitsReferenceIdeal.main_arg0) = m' ((c.tc : Thread Cert.AdamLogitsReferenceIdeal.nD Cert.AdamLogitsReferenceIdeal.τ).loc Cert.AdamLogitsReferenceIdeal.main_arg0)
          ∧ r.2.mem ((c.tc : Thread Cert.AdamLogitsReferenceIdeal.nD Cert.AdamLogitsReferenceIdeal.τ).loc Cert.AdamLogitsReferenceIdeal.main_arg1) = m' ((c.tc : Thread Cert.AdamLogitsReferenceIdeal.nD Cert.AdamLogitsReferenceIdeal.τ).loc Cert.AdamLogitsReferenceIdeal.main_arg1)
          ∧ r.2.mem ((c.tc : Thread Cert.AdamLogitsReferenceIdeal.nD Cert.AdamLogitsReferenceIdeal.τ).loc Cert.AdamLogitsReferenceIdeal.main_arg2) = m' ((c.tc : Thread Cert.AdamLogitsReferenceIdeal.nD Cert.AdamLogitsReferenceIdeal.τ).loc Cert.AdamLogitsReferenceIdeal.main_arg2)
          ∧ r.2.mem ((c.tc : Thread Cert.AdamLogitsReferenceIdeal.nD Cert.AdamLogitsReferenceIdeal.τ).loc Cert.AdamLogitsReferenceIdeal.main_arg3) = m' ((c.tc : Thread Cert.AdamLogitsReferenceIdeal.nD Cert.AdamLogitsReferenceIdeal.τ).loc Cert.AdamLogitsReferenceIdeal.main_arg3))

def preserves_AdamHead_AdamHeadIdeal : Prop :=
  True

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg1) = v3 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def Claim : Prop :=
  ∃ (hKernel : Cert.Kernel.Facts) (hKernelIdeal : Cert.KernelIdeal.Facts) (hReferenceIdeal : Cert.ReferenceIdeal.Facts) (hRmsFwd : Cert.RmsFwd.Facts) (hRmsFwdIdeal : Cert.RmsFwdIdeal.Facts) (hRmsFwdReferenceIdeal : Cert.RmsFwdReferenceIdeal.Facts) (hGradIn : Cert.GradIn.Facts) (hGradInIdeal : Cert.GradInIdeal.Facts) (hGradInReferenceIdeal : Cert.GradInReferenceIdeal.Facts) (hDyGate : Cert.DyGate.Facts) (hDyGateIdeal : Cert.DyGateIdeal.Facts) (hDyGateReferenceIdeal : Cert.DyGateReferenceIdeal.Facts) (hGradOut : Cert.GradOut.Facts) (hGradOutIdeal : Cert.GradOutIdeal.Facts) (hGradOutReferenceIdeal : Cert.GradOutReferenceIdeal.Facts) (hDhFirst : Cert.DhFirst.Facts) (hDhFirstIdeal : Cert.DhFirstIdeal.Facts) (hDhFirstReferenceIdeal : Cert.DhFirstReferenceIdeal.Facts) (hDhLast : Cert.DhLast.Facts) (hDhLastIdeal : Cert.DhLastIdeal.Facts) (hDhLastReferenceIdeal : Cert.DhLastReferenceIdeal.Facts) (hRmsBwd : Cert.RmsBwd.Facts) (hRmsBwdIdeal : Cert.RmsBwdIdeal.Facts) (hRmsBwdReferenceIdeal : Cert.RmsBwdReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamRow : Cert.AdamRow.Facts) (hAdamRowIdeal : Cert.AdamRowIdeal.Facts) (hAdamRowReferenceIdeal : Cert.AdamRowReferenceIdeal.Facts) (hAdamLogits : Cert.AdamLogits.Facts) (hAdamLogitsIdeal : Cert.AdamLogitsIdeal.Facts) (hAdamLogitsReferenceIdeal : Cert.AdamLogitsReferenceIdeal.Facts) (hAdamHead : Cert.AdamHead.Facts) (hAdamHeadIdeal : Cert.AdamHeadIdeal.Facts) (hAdamHeadReferenceIdeal : Cert.AdamHeadReferenceIdeal.Facts),
    quiescent_Kernel (hKernel := hKernel)
    ∧ quiescent_KernelIdeal (hKernelIdeal := hKernelIdeal)
    ∧ quiescent_ReferenceIdeal (hReferenceIdeal := hReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_DyGate (hDyGate := hDyGate)
    ∧ quiescent_DyGateIdeal (hDyGateIdeal := hDyGateIdeal)
    ∧ quiescent_DyGateReferenceIdeal (hDyGateReferenceIdeal := hDyGateReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_DhFirst (hDhFirst := hDhFirst)
    ∧ quiescent_DhFirstIdeal (hDhFirstIdeal := hDhFirstIdeal)
    ∧ quiescent_DhFirstReferenceIdeal (hDhFirstReferenceIdeal := hDhFirstReferenceIdeal)
    ∧ quiescent_DhLast (hDhLast := hDhLast)
    ∧ quiescent_DhLastIdeal (hDhLastIdeal := hDhLastIdeal)
    ∧ quiescent_DhLastReferenceIdeal (hDhLastReferenceIdeal := hDhLastReferenceIdeal)
    ∧ quiescent_RmsBwd (hRmsBwd := hRmsBwd)
    ∧ quiescent_RmsBwdIdeal (hRmsBwdIdeal := hRmsBwdIdeal)
    ∧ quiescent_RmsBwdReferenceIdeal (hRmsBwdReferenceIdeal := hRmsBwdReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamRow (hAdamRow := hAdamRow)
    ∧ quiescent_AdamRowIdeal (hAdamRowIdeal := hAdamRowIdeal)
    ∧ quiescent_AdamRowReferenceIdeal (hAdamRowReferenceIdeal := hAdamRowReferenceIdeal)
    ∧ quiescent_AdamLogits (hAdamLogits := hAdamLogits)
    ∧ quiescent_AdamLogitsIdeal (hAdamLogitsIdeal := hAdamLogitsIdeal)
    ∧ quiescent_AdamLogitsReferenceIdeal (hAdamLogitsReferenceIdeal := hAdamLogitsReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ preserves_Kernel_KernelIdeal
    ∧ algebraic_KernelIdeal_ReferenceIdeal (hKernelIdeal := hKernelIdeal) (hReferenceIdeal := hReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_GradIn_GradInIdeal
    ∧ algebraic_GradInIdeal_GradInReferenceIdeal (hGradInIdeal := hGradInIdeal) (hGradInReferenceIdeal := hGradInReferenceIdeal)
    ∧ preserves_DyGate_DyGateIdeal
    ∧ algebraic_DyGateIdeal_DyGateReferenceIdeal (hDyGateIdeal := hDyGateIdeal) (hDyGateReferenceIdeal := hDyGateReferenceIdeal)
    ∧ preserves_GradOut_GradOutIdeal
    ∧ algebraic_GradOutIdeal_GradOutReferenceIdeal (hGradOutIdeal := hGradOutIdeal) (hGradOutReferenceIdeal := hGradOutReferenceIdeal)
    ∧ preserves_DhFirst_DhFirstIdeal
    ∧ algebraic_DhFirstIdeal_DhFirstReferenceIdeal (hDhFirstIdeal := hDhFirstIdeal) (hDhFirstReferenceIdeal := hDhFirstReferenceIdeal)
    ∧ preserves_DhLast_DhLastIdeal
    ∧ algebraic_DhLastIdeal_DhLastReferenceIdeal (hDhLastIdeal := hDhLastIdeal) (hDhLastReferenceIdeal := hDhLastReferenceIdeal)
    ∧ preserves_RmsBwd_RmsBwdIdeal
    ∧ algebraic_RmsBwdIdeal_RmsBwdReferenceIdeal (hRmsBwdIdeal := hRmsBwdIdeal) (hRmsBwdReferenceIdeal := hRmsBwdReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamRow_AdamRowIdeal
    ∧ algebraic_AdamRowIdeal_AdamRowReferenceIdeal (hAdamRowIdeal := hAdamRowIdeal) (hAdamRowReferenceIdeal := hAdamRowReferenceIdeal)
    ∧ preserves_AdamLogits_AdamLogitsIdeal
    ∧ algebraic_AdamLogitsIdeal_AdamLogitsReferenceIdeal (hAdamLogitsIdeal := hAdamLogitsIdeal) (hAdamLogitsReferenceIdeal := hAdamLogitsReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
-- ==== Kernel.lean ====
abbrev S4x2048x2048 : Shape := ⟨3, ![4, 2048, 2048]⟩
abbrev S4x512x2048 : Shape := ⟨3, ![4, 512, 2048]⟩
abbrev S_ : Shape := ⟨0, ![]⟩
abbrev S1 : Shape := ⟨1, ![1]⟩
abbrev S2 : Shape := ⟨1, ![2]⟩
abbrev S4x1024x2048 : Shape := ⟨3, ![4, 1024, 2048]⟩
abbrev S4x256x2048 : Shape := ⟨3, ![4, 256, 2048]⟩
abbrev S3x1024x2048 : Shape := ⟨3, ![3, 1024, 2048]⟩
abbrev S3x256x2048 : Shape := ⟨3, ![3, 256, 2048]⟩
abbrev S8x128 : Shape := ⟨2, ![8, 128]⟩
abbrev S1024x2048 : Shape := ⟨2, ![1024, 2048]⟩
abbrev S1x256x2048 : Shape := ⟨3, ![1, 256, 2048]⟩
abbrev S256x2048 : Shape := ⟨2, ![256, 2048]⟩
abbrev S6 : Shape := ⟨1, ![6]⟩
abbrev S1x1024x2048 : Shape := ⟨3, ![1, 1024, 2048]⟩
abbrev S2048x2048 : Shape := ⟨2, ![2048, 2048]⟩
abbrev S512x2048 : Shape := ⟨2, ![512, 2048]⟩

abbrev nBuf : Space → Nat
  | .hbm => 40
  | .vmem => 27
  | .smem => 1
  | _ => 0

abbrev bufTy : (tb : Table) → Fin (tcTables nBuf tb) → BufTy
  | .hbm, ⟨0, _⟩ => ⟨S4x2048x2048, .f32⟩
  | .hbm, ⟨1, _⟩ => ⟨S4x512x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S4x1024x2048, .f32⟩
  | .hbm, ⟨26, _⟩ => ⟨S4x256x2048, .f32⟩
  | .hbm, ⟨27, _⟩ => ⟨S3x1024x2048, .bf16⟩
  | .hbm, ⟨28, _⟩ => ⟨S3x256x2048, .bf16⟩
  | .hbm, ⟨29, _⟩ => ⟨S4x2048x2048, .f32⟩
  | .hbm, ⟨30, _⟩ => ⟨S4x512x2048, .f32⟩
  | .hbm, ⟨31, _⟩ => ⟨S8x128, .f32⟩
  | .hbm, ⟨32, _⟩ => ⟨S4x1024x2048, .bf16⟩
  | .hbm, ⟨33, _⟩ => ⟨S1024x2048, .f32⟩
  | .hbm, ⟨34, _⟩ => ⟨S4x256x2048, .bf16⟩
  | .hbm, ⟨35, _⟩ => ⟨S256x2048, .f32⟩
  | .hbm, ⟨36, _⟩ => ⟨S8x128, .f32⟩
  | .hbm, ⟨37, _⟩ => ⟨S2048x2048, .f32⟩
  | .hbm, ⟨38, _⟩ => ⟨S512x2048, .f32⟩
  | .hbm, ⟨39, _⟩ => ⟨S8x128, .f32⟩
  | .local _ .vmem, ⟨0, _⟩ => ⟨S8x128, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .bf16⟩
  | .local _ .vmem, ⟨6, _⟩ => ⟨S1x256x2048, .bf16⟩
  | .local _ .vmem, ⟨7, _⟩ => ⟨S256x2048, .f32⟩
  | .local _ .vmem, ⟨8, _⟩ => ⟨S256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .bf16⟩
  | .local _ .vmem, ⟨14, _⟩ => ⟨S1x256x2048, .bf16⟩
  | .local _ .vmem, ⟨15, _⟩ => ⟨S256x2048, .f32⟩
  | .local _ .vmem, ⟨16, _⟩ => ⟨S8x128, .f32⟩
  | .local _ .vmem, ⟨17, _⟩ => ⟨S256x2048, .f32⟩
  | .local _ .vmem, ⟨18, _⟩ => ⟨S256x2048, .f32⟩
  | .local _ .vmem, ⟨19, _⟩ => ⟨S3x256x2048, .bf16⟩
  | .local _ .vmem, ⟨20, _⟩ => ⟨S3x256x2048, .bf16⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S3x256x2048, .bf16⟩
  | .local _ .vmem, ⟨25, _⟩ => ⟨S256x2048, .f32⟩
  | .local _ .vmem, ⟨26, _⟩ => ⟨S8x128, .f32⟩
  | .local _ .smem, ⟨0, _⟩ => ⟨S2, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 3 → Bool
  | ⟨0, _⟩ => false
  | ⟨1, _⟩ => false
  | ⟨2, _⟩ => false
  | _ => false

abbrev dmaSemScoped : Fin 47 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => true
  | _ => false

abbrev sig : RefSig :=
  (ofTc nBuf bufTy 3 47 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_2 : Ref sig .tc := ⟨.hbm, 29, rfl⟩
abbrev main_v22_3 : Ref sig .tc := ⟨.hbm, 30, rfl⟩
abbrev main_v22_8 : Ref sig .tc := ⟨.hbm, 31, rfl⟩
abbrev main_v24_0 : Ref sig .tc := ⟨.hbm, 32, rfl⟩
abbrev main_v24_1 : Ref sig .tc := ⟨.hbm, 33, rfl⟩
abbrev main_v25_0 : Ref sig .tc := ⟨.hbm, 34, rfl⟩
abbrev main_v25_1 : Ref sig .tc := ⟨.hbm, 35, rfl⟩
abbrev main_v26_6 : Ref sig .tc := ⟨.hbm, 36, rfl⟩
abbrev main_v28 : Ref sig .tc := ⟨.hbm, 37, rfl⟩
abbrev main_v29 : Ref sig .tc := ⟨.hbm, 38, rfl⟩
abbrev main_v30_4 : Ref sig .tc := ⟨.hbm, 39, rfl⟩
abbrev main_v17 : Ref sig .tc := ⟨.smem, 0, rfl⟩
abbrev cc0_stg0_0 : Ref sig .tc := ⟨.vmem, 0, rfl⟩
abbrev cc2_stg0_0 : Ref sig .tc := ⟨.vmem, 1, rfl⟩
abbrev cc2_stg0_1 : Ref sig .tc := ⟨.vmem, 2, rfl⟩
abbrev cc2_stg1_0 : Ref sig .tc := ⟨.vmem, 3, rfl⟩
abbrev cc2_stg1_1 : Ref sig .tc := ⟨.vmem, 4, rfl⟩
abbrev cc2_stg2_0 : Ref sig .tc := ⟨.vmem, 5, rfl⟩
abbrev cc2_stg2_1 : Ref sig .tc := ⟨.vmem, 6, rfl⟩
abbrev cc2_stg3_0 : Ref sig .tc := ⟨.vmem, 7, rfl⟩
abbrev cc2_stg3_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg2_1 : Ref sig .tc := ⟨.vmem, 14, rfl⟩
abbrev cc3_stg3_0 : Ref sig .tc := ⟨.vmem, 15, rfl⟩
abbrev cc4_stg0_0 : Ref sig .tc := ⟨.vmem, 16, rfl⟩
abbrev cc6_stg0_0 : Ref sig .tc := ⟨.vmem, 17, rfl⟩
abbrev cc6_stg0_1 : Ref sig .tc := ⟨.vmem, 18, rfl⟩
abbrev cc6_stg1_0 : Ref sig .tc := ⟨.vmem, 19, rfl⟩
abbrev cc6_stg1_1 : Ref sig .tc := ⟨.vmem, 20, rfl⟩
abbrev cc6_stg2_0 : Ref sig .tc := ⟨.vmem, 21, rfl⟩
abbrev cc6_stg2_1 : Ref sig .tc := ⟨.vmem, 22, rfl⟩
abbrev cc7_stg0_0 : Ref sig .tc := ⟨.vmem, 23, rfl⟩
abbrev cc7_stg1_0 : Ref sig .tc := ⟨.vmem, 24, rfl⟩
abbrev cc7_stg2_0 : Ref sig .tc := ⟨.vmem, 25, rfl⟩
abbrev cc8_stg0_0 : Ref sig .tc := ⟨.vmem, 26, rfl⟩
abbrev cc0_sem0_0 : DmaSem sig := 4
abbrev cc2_sem0_0 : DmaSem sig := 5
abbrev cc2_sem0_1 : DmaSem sig := 6
abbrev cc2_sem1_0 : DmaSem sig := 7
abbrev cc2_sem1_1 : DmaSem sig := 8
abbrev cc2_sem2_0 : DmaSem sig := 9
abbrev cc2_sem2_1 : DmaSem sig := 10
abbrev cc2_sem3_0 : DmaSem sig := 11
abbrev cc2_sem3_1 : DmaSem sig := 12
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem2_1 : DmaSem sig := 18
abbrev cc3_sem3_0 : DmaSem sig := 19
abbrev cc4_sem0_0 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc7_sem0_0 : DmaSem sig := 39
abbrev cc7_sem1_0 : DmaSem sig := 40
abbrev cc7_sem2_0 : DmaSem sig := 41
abbrev cc8_sem0_0 : DmaSem sig := 46
abbrev barrier0 : Sem sig := 0
abbrev barrier1 : Sem sig := 1
abbrev barrier2 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v26 : BitVec 32 := Scalar.muli v2 c4_i32_17
  let v27 : BitVec 32 := Scalar.addi c0_i32_18 v26
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c2_i32_19 : BitVec 32 := 2#32
  let v28 : BitVec 32 := Scalar.muli v24 c2_i32_19
  let v29 : BitVec 32 := Scalar.addi v27 v28
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c1_i32_20 : BitVec 32 := 1#32
  let v30 : BitVec 32 := Scalar.muli v25 c1_i32_20
  let v31 : BitVec 32 := Scalar.addi v29 v30
  v31.toNat
def k0_dev4 (d0 : Dev nD) : Nat :=
  let c0_i32_24 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.subi c1_i32_21 v2
  let c4_i32_23 : BitVec 32 := 4#32
  let v33 : BitVec 32 := Scalar.muli v32 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_dev5 (d0 : Dev nD) : Nat :=
  let c0_i32_31 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_27 v2
  let c4_i32_30 : BitVec 32 := 4#32
  let v41 : BitVec 32 := Scalar.muli v39 c4_i32_30
  let v42 : BitVec 32 := Scalar.addi c0_i32_31 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v43 : BitVec 32 := Scalar.muli v5 c2_i32_32
  let v44 : BitVec 32 := Scalar.addi v42 v43
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_28 v8
  let c1_i32_33 : BitVec 32 := 1#32
  let v45 : BitVec 32 := Scalar.muli v40 c1_i32_33
  let v46 : BitVec 32 := Scalar.addi v44 v45
  v46.toNat
def k0_dev6 (d0 : Dev nD) : Nat :=
  let c0_i32_38 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_34 v2
  let c4_i32_37 : BitVec 32 := 4#32
  let v49 : BitVec 32 := Scalar.muli v47 c4_i32_37
  let v50 : BitVec 32 := Scalar.addi c0_i32_38 v49
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_35 v5
  let c2_i32_39 : BitVec 32 := 2#32
  let v51 : BitVec 32 := Scalar.muli v48 c2_i32_39
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v53 : BitVec 32 := Scalar.muli v8 c1_i32_40
  let v54 : BitVec 32 := Scalar.addi v52 v53
  v54.toNat
def k0_dev7 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_41 v2
  let c4_i32_45 : BitVec 32 := 4#32
  let v58 : BitVec 32 := Scalar.muli v55 c4_i32_45
  let v59 : BitVec 32 := Scalar.addi c0_i32_46 v58
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_42 v5
  let c2_i32_47 : BitVec 32 := 2#32
  let v60 : BitVec 32 := Scalar.muli v56 c2_i32_47
  let v61 : BitVec 32 := Scalar.addi v59 v60
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_43 v8
  let c1_i32_48 : BitVec 32 := 1#32
  let v62 : BitVec 32 := Scalar.muli v57 c1_i32_48
  let v63 : BitVec 32 := Scalar.addi v61 v62
  v63.toNat
def k0_off1 (d0 : Dev nD) : Fin 3 → Nat :=
  let c0_i32_65 : BitVec 32 := 0#32
  let c1_i32_55 : BitVec 32 := 1#32
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let v73 : BitVec 32 := Scalar.subi c1_i32_55 v72
  let c1024_i32 : BitVec 32 := 1024#32
  let v74 : BitVec 32 := Scalar.muli v73 c1024_i32
  let c0_i32_66 : BitVec 32 := 0#32
  ![0, v74.toNat, 0]
def k0_dev8 (d0 : Dev nD) : Nat :=
  let c0_i32_62 : BitVec 32 := 0#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let c4_i32_61 : BitVec 32 := 4#32
  let v79 : BitVec 32 := Scalar.muli v66 c4_i32_61
  let v80 : BitVec 32 := Scalar.addi c0_i32_62 v79
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let c2_i32_63 : BitVec 32 := 2#32
  let v81 : BitVec 32 := Scalar.muli v69 c2_i32_63
  let v82 : BitVec 32 := Scalar.addi v80 v81
  let c1_i32_56 : BitVec 32 := 1#32
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let v75 : BitVec 32 := Scalar.subi c1_i32_56 v72
  let c1_i32_64 : BitVec 32 := 1#32
  let v83 : BitVec 32 := Scalar.muli v75 c1_i32_64
  let v84 : BitVec 32 := Scalar.addi v82 v83
  v84.toNat
def k0_off2 (d0 : Dev nD) : Fin 3 → Nat :=
  let c0_i32_73 : BitVec 32 := 0#32
  let c1_i32_57 : BitVec 32 := 1#32
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let v76 : BitVec 32 := Scalar.subi c1_i32_57 v72
  let c256_i32 : BitVec 32 := 256#32
  let v77 : BitVec 32 := Scalar.muli v76 c256_i32
  let c0_i32_74 : BitVec 32 := 0#32
  ![0, v77.toNat, 0]
def k0_dev9 (d0 : Dev nD) : Nat :=
  let c0_i32_70 : BitVec 32 := 0#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let c4_i32_69 : BitVec 32 := 4#32
  let v90 : BitVec 32 := Scalar.muli v66 c4_i32_69
  let v91 : BitVec 32 := Scalar.addi c0_i32_70 v90
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let c2_i32_71 : BitVec 32 := 2#32
  let v92 : BitVec 32 := Scalar.muli v69 c2_i32_71
  let v93 : BitVec 32 := Scalar.addi v91 v92
  let c1_i32_58 : BitVec 32 := 1#32
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let v78 : BitVec 32 := Scalar.subi c1_i32_58 v72
  let c1_i32_72 : BitVec 32 := 1#32
  let v94 : BitVec 32 := Scalar.muli v78 c1_i32_72
  let v95 : BitVec 32 := Scalar.addi v93 v94
  v95.toNat
abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 (d0 : Dev nD) : Fin 3 → Nat :=
  let c0_i32_9 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  let c0_i32_10 : BitVec 32 := 0#32
  ![0, v10.toNat, 0]
def k1_off2 (d0 : Dev nD) : Fin 3 → Nat :=
  let c0_i32_22 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c256_i32 : BitVec 32 := 256#32
  let v13 : BitVec 32 := Scalar.muli v12 c256_i32
  let c0_i32_23 : BitVec 32 := 0#32
  ![0, v13.toNat, 0]
abbrev grid2 : Pipeline.Grid := ⟨2, ![4, 4], ![false, false]⟩

abbrev pre2 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k2_cond1 (i : grid2.Coords) (v9 : BitVec 32) : BitVec 1 :=
  let arg1 : BitVec 32 := BitVec.ofNat 32 (i 1).val
  let v10 : BitVec 1 := Scalar.cmpi .eq arg1 v9
  let v11 : BitVec 32 := Scalar.extui v10
  let c0_i32 : BitVec 32 := 0#32
  let v12 : BitVec 1 := Scalar.cmpi .ne v11 c0_i32
  v12

def cc2_transform_0 (inb_S2_S1_0 : ∀ a, (![0] : Fin 1 → Nat) a + S1.size a ≤ S2.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![arg1.toNat, v2.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![1, 4], ![false, false]⟩

abbrev pre3 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k3_cond1 (i : grid3.Coords) (v9 : BitVec 32) : BitVec 1 :=
  let arg1 : BitVec 32 := BitVec.ofNat 32 (i 1).val
  let v10 : BitVec 1 := Scalar.cmpi .eq arg1 v9
  let v11 : BitVec 32 := Scalar.extui v10
  let c0_i32 : BitVec 32 := 0#32
  let v12 : BitVec 1 := Scalar.cmpi .ne v11 c0_i32
  v12

def cc3_transform_0 (inb_S2_S1_0 : ∀ a, (![0] : Fin 1 → Nat) a + S1.size a ≤ S2.size a) (numel1_S1 : S1.numel = 1) (pf : pre3.Contents (Elt F)) (i : grid3.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![arg1.toNat, v2.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S256x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev grid4 : Pipeline.Grid := .none

def k4_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k4_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k4_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v26 : BitVec 32 := Scalar.muli v2 c4_i32_17
  let v27 : BitVec 32 := Scalar.addi c0_i32_18 v26
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c2_i32_19 : BitVec 32 := 2#32
  let v28 : BitVec 32 := Scalar.muli v24 c2_i32_19
  let v29 : BitVec 32 := Scalar.addi v27 v28
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c1_i32_20 : BitVec 32 := 1#32
  let v30 : BitVec 32 := Scalar.muli v25 c1_i32_20
  let v31 : BitVec 32 := Scalar.addi v29 v30
  v31.toNat
def k4_dev4 (d0 : Dev nD) : Nat :=
  let c0_i32_24 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.subi c1_i32_21 v2
  let c4_i32_23 : BitVec 32 := 4#32
  let v33 : BitVec 32 := Scalar.muli v32 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k4_dev5 (d0 : Dev nD) : Nat :=
  let c0_i32_31 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_27 v2
  let c4_i32_30 : BitVec 32 := 4#32
  let v41 : BitVec 32 := Scalar.muli v39 c4_i32_30
  let v42 : BitVec 32 := Scalar.addi c0_i32_31 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v43 : BitVec 32 := Scalar.muli v5 c2_i32_32
  let v44 : BitVec 32 := Scalar.addi v42 v43
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_28 v8
  let c1_i32_33 : BitVec 32 := 1#32
  let v45 : BitVec 32 := Scalar.muli v40 c1_i32_33
  let v46 : BitVec 32 := Scalar.addi v44 v45
  v46.toNat
def k4_dev6 (d0 : Dev nD) : Nat :=
  let c0_i32_38 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_34 v2
  let c4_i32_37 : BitVec 32 := 4#32
  let v49 : BitVec 32 := Scalar.muli v47 c4_i32_37
  let v50 : BitVec 32 := Scalar.addi c0_i32_38 v49
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_35 v5
  let c2_i32_39 : BitVec 32 := 2#32
  let v51 : BitVec 32 := Scalar.muli v48 c2_i32_39
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v53 : BitVec 32 := Scalar.muli v8 c1_i32_40
  let v54 : BitVec 32 := Scalar.addi v52 v53
  v54.toNat
def k4_dev7 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_41 v2
  let c4_i32_45 : BitVec 32 := 4#32
  let v58 : BitVec 32 := Scalar.muli v55 c4_i32_45
  let v59 : BitVec 32 := Scalar.addi c0_i32_46 v58
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_42 v5
  let c2_i32_47 : BitVec 32 := 2#32
  let v60 : BitVec 32 := Scalar.muli v56 c2_i32_47
  let v61 : BitVec 32 := Scalar.addi v59 v60
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_43 v8
  let c1_i32_48 : BitVec 32 := 1#32
  let v62 : BitVec 32 := Scalar.muli v57 c1_i32_48
  let v63 : BitVec 32 := Scalar.addi v61 v62
  v63.toNat
def k4_off1 (d0 : Dev nD) : Fin 3 → Nat :=
  let c2_i32_59 : BitVec 32 := 2#32
  let c1_i32_55 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v73 : BitVec 32 := Scalar.subi c1_i32_55 v66
  let v77 : BitVec 32 := Scalar.muli c2_i32_59 v73
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v78 : BitVec 32 := Scalar.addi v77 v69
  let c0_i32_74 : BitVec 32 := 0#32
  let c0_i32_75 : BitVec 32 := 0#32
  ![v78.toNat, 0, 0]
def k4_dev8 (d0 : Dev nD) : Nat :=
  let c0_i32_69 : BitVec 32 := 0#32
  let c1_i32_55 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v73 : BitVec 32 := Scalar.subi c1_i32_55 v66
  let c4_i32_68 : BitVec 32 := 4#32
  let v89 : BitVec 32 := Scalar.muli v73 c4_i32_68
  let v90 : BitVec 32 := Scalar.addi c0_i32_69 v89
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let c2_i32_70 : BitVec 32 := 2#32
  let v91 : BitVec 32 := Scalar.muli v69 c2_i32_70
  let v92 : BitVec 32 := Scalar.addi v90 v91
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1_i32_71 : BitVec 32 := 1#32
  let v93 : BitVec 32 := Scalar.muli v72 c1_i32_71
  let v94 : BitVec 32 := Scalar.addi v92 v93
  v94.toNat
def k4_off2 (d0 : Dev nD) : Fin 3 → Nat :=
  let c2_i32_60 : BitVec 32 := 2#32
  let c1_i32_55 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v73 : BitVec 32 := Scalar.subi c1_i32_55 v66
  let v79 : BitVec 32 := Scalar.muli c2_i32_60 v73
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v80 : BitVec 32 := Scalar.addi v79 v69
  let c0_i32_85 : BitVec 32 := 0#32
  let c0_i32_86 : BitVec 32 := 0#32
  ![v80.toNat, 0, 0]
def k4_dev9 (d0 : Dev nD) : Nat :=
  let c0_i32_80 : BitVec 32 := 0#32
  let c1_i32_55 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v73 : BitVec 32 := Scalar.subi c1_i32_55 v66
  let c4_i32_79 : BitVec 32 := 4#32
  let v103 : BitVec 32 := Scalar.muli v73 c4_i32_79
  let v104 : BitVec 32 := Scalar.addi c0_i32_80 v103
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let c2_i32_81 : BitVec 32 := 2#32
  let v105 : BitVec 32 := Scalar.muli v69 c2_i32_81
  let v106 : BitVec 32 := Scalar.addi v104 v105
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1_i32_82 : BitVec 32 := 1#32
  let v107 : BitVec 32 := Scalar.muli v72 c1_i32_82
  let v108 : BitVec 32 := Scalar.addi v106 v107
  v108.toNat
def k4_off3 (d0 : Dev nD) : Fin 3 → Nat :=
  let c2_i32_61 : BitVec 32 := 2#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v81 : BitVec 32 := Scalar.muli c2_i32_61 v66
  let c1_i32_56 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v74 : BitVec 32 := Scalar.subi c1_i32_56 v69
  let v82 : BitVec 32 := Scalar.addi v81 v74
  let c0_i32_96 : BitVec 32 := 0#32
  let c0_i32_97 : BitVec 32 := 0#32
  ![v82.toNat, 0, 0]
def k4_dev10 (d0 : Dev nD) : Nat :=
  let c0_i32_91 : BitVec 32 := 0#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let c4_i32_90 : BitVec 32 := 4#32
  let v117 : BitVec 32 := Scalar.muli v66 c4_i32_90
  let v118 : BitVec 32 := Scalar.addi c0_i32_91 v117
  let c1_i32_56 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v74 : BitVec 32 := Scalar.subi c1_i32_56 v69
  let c2_i32_92 : BitVec 32 := 2#32
  let v119 : BitVec 32 := Scalar.muli v74 c2_i32_92
  let v120 : BitVec 32 := Scalar.addi v118 v119
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1_i32_93 : BitVec 32 := 1#32
  let v121 : BitVec 32 := Scalar.muli v72 c1_i32_93
  let v122 : BitVec 32 := Scalar.addi v120 v121
  v122.toNat
def k4_off4 (d0 : Dev nD) : Fin 3 → Nat :=
  let c2_i32_62 : BitVec 32 := 2#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v83 : BitVec 32 := Scalar.muli c2_i32_62 v66
  let c1_i32_56 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v74 : BitVec 32 := Scalar.subi c1_i32_56 v69
  let v84 : BitVec 32 := Scalar.addi v83 v74
  let c0_i32_106 : BitVec 32 := 0#32
  let c0_i32_107 : BitVec 32 := 0#32
  ![v84.toNat, 0, 0]
def k4_dev11 (d0 : Dev nD) : Nat :=
  let c0_i32_101 : BitVec 32 := 0#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let c4_i32_100 : BitVec 32 := 4#32
  let v131 : BitVec 32 := Scalar.muli v66 c4_i32_100
  let v132 : BitVec 32 := Scalar.addi c0_i32_101 v131
  let c1_i32_56 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v74 : BitVec 32 := Scalar.subi c1_i32_56 v69
  let c2_i32_102 : BitVec 32 := 2#32
  let v133 : BitVec 32 := Scalar.muli v74 c2_i32_102
  let v134 : BitVec 32 := Scalar.addi v132 v133
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1_i32_103 : BitVec 32 := 1#32
  let v135 : BitVec 32 := Scalar.muli v72 c1_i32_103
  let v136 : BitVec 32 := Scalar.addi v134 v135
  v136.toNat
def k4_off5 (d0 : Dev nD) : Fin 3 → Nat :=
  let c2_i32_63 : BitVec 32 := 2#32
  let c1_i32_57 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v75 : BitVec 32 := Scalar.subi c1_i32_57 v66
  let v85 : BitVec 32 := Scalar.muli c2_i32_63 v75
  let c1_i32_58 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v76 : BitVec 32 := Scalar.subi c1_i32_58 v69
  let v86 : BitVec 32 := Scalar.addi v85 v76
  let c0_i32_117 : BitVec 32 := 0#32
  let c0_i32_118 : BitVec 32 := 0#32
  ![v86.toNat, 0, 0]
def k4_dev12 (d0 : Dev nD) : Nat :=
  let c0_i32_112 : BitVec 32 := 0#32
  let c1_i32_57 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v75 : BitVec 32 := Scalar.subi c1_i32_57 v66
  let c4_i32_111 : BitVec 32 := 4#32
  let v145 : BitVec 32 := Scalar.muli v75 c4_i32_111
  let v146 : BitVec 32 := Scalar.addi c0_i32_112 v145
  let c1_i32_58 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v76 : BitVec 32 := Scalar.subi c1_i32_58 v69
  let c2_i32_113 : BitVec 32 := 2#32
  let v147 : BitVec 32 := Scalar.muli v76 c2_i32_113
  let v148 : BitVec 32 := Scalar.addi v146 v147
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1_i32_114 : BitVec 32 := 1#32
  let v149 : BitVec 32 := Scalar.muli v72 c1_i32_114
  let v150 : BitVec 32 := Scalar.addi v148 v149
  v150.toNat
def k4_off6 (d0 : Dev nD) : Fin 3 → Nat :=
  let c2_i32_64 : BitVec 32 := 2#32
  let c1_i32_57 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v75 : BitVec 32 := Scalar.subi c1_i32_57 v66
  let v87 : BitVec 32 := Scalar.muli c2_i32_64 v75
  let c1_i32_58 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v76 : BitVec 32 := Scalar.subi c1_i32_58 v69
  let v88 : BitVec 32 := Scalar.addi v87 v76
  let c0_i32_127 : BitVec 32 := 0#32
  let c0_i32_128 : BitVec 32 := 0#32
  ![v88.toNat, 0, 0]
def k4_dev13 (d0 : Dev nD) : Nat :=
  let c0_i32_122 : BitVec 32 := 0#32
  let c1_i32_57 : BitVec 32 := 1#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let v75 : BitVec 32 := Scalar.subi c1_i32_57 v66
  let c4_i32_121 : BitVec 32 := 4#32
  let v159 : BitVec 32 := Scalar.muli v75 c4_i32_121
  let v160 : BitVec 32 := Scalar.addi c0_i32_122 v159
  let c1_i32_58 : BitVec 32 := 1#32
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let v76 : BitVec 32 := Scalar.subi c1_i32_58 v69
  let c2_i32_123 : BitVec 32 := 2#32
  let v161 : BitVec 32 := Scalar.muli v76 c2_i32_123
  let v162 : BitVec 32 := Scalar.addi v160 v161
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1_i32_124 : BitVec 32 := 1#32
  let v163 : BitVec 32 := Scalar.muli v72 c1_i32_124
  let v164 : BitVec 32 := Scalar.addi v162 v163
  v164.toNat
abbrev stage4_0 : Fin 1 → Memref sig .tc .vmem S8x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev grid5 : Pipeline.Grid := .none

def k5_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k5_off2 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_35 : BitVec 32 := 0#32
  let c0_i32_36 : BitVec 32 := 0#32
  ![v16.toNat, 0, 0]
def k5_off3 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_54 : BitVec 32 := 0#32
  let c0_i32_55 : BitVec 32 := 0#32
  ![v18.toNat, 0, 0]
def k5_off4 (d0 : Dev nD) : Fin 3 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v20 : BitVec 32 := Scalar.addi v19 v10
  let c0_i32_72 : BitVec 32 := 0#32
  let c0_i32_73 : BitVec 32 := 0#32
  ![v20.toNat, 0, 0]
def k5_off5 (d0 : Dev nD) : Fin 3 → Nat :=
  let c2_i32_11 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v21 : BitVec 32 := Scalar.muli c2_i32_11 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v22 : BitVec 32 := Scalar.addi v21 v12
  let c0_i32_91 : BitVec 32 := 0#32
  let c0_i32_92 : BitVec 32 := 0#32
  ![v22.toNat, 0, 0]
def k5_off6 (d0 : Dev nD) : Fin 3 → Nat :=
  let c2_i32_12 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_12 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_109 : BitVec 32 := 0#32
  let c0_i32_110 : BitVec 32 := 0#32
  ![v24.toNat, 0, 0]
abbrev grid6 : Pipeline.Grid := ⟨1, ![4], ![false]⟩

abbrev pre6 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (inb_S2_S1_0 : ∀ a, (![0] : Fin 1 → Nat) a + S1.size a ≤ S2.size a) (numel1_S1 : S1.numel = 1) (pf : pre6.Contents (Elt F)) (i : grid6.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage6_0 : Fin 2 → Memref sig .tc .vmem S256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3x256x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![1], ![false]⟩

abbrev pre7 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_2 (inb_S2_S1_0 : ∀ a, (![0] : Fin 1 → Nat) a + S1.size a ≤ S2.size a) (numel1_S1 : S1.numel = 1) (pf : pre7.Contents (Elt F)) (i : grid7.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage7_0 : Fin 1 → Memref sig .tc .vmem S256x2048 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S3x256x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S256x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev grid8 : Pipeline.Grid := .none

def k8_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_7 : BitVec 32 := 1#32
  let v15 : BitVec 32 := Scalar.muli v10 c1_i32_7
  let v16 : BitVec 32 := Scalar.addi v14 v15
  v16.toNat
def k8_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k8_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v26 : BitVec 32 := Scalar.muli v2 c4_i32_17
  let v27 : BitVec 32 := Scalar.addi c0_i32_18 v26
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_14 v5
  let c2_i32_19 : BitVec 32 := 2#32
  let v28 : BitVec 32 := Scalar.muli v24 c2_i32_19
  let v29 : BitVec 32 := Scalar.addi v27 v28
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let c1_i32_20 : BitVec 32 := 1#32
  let v30 : BitVec 32 := Scalar.muli v25 c1_i32_20
  let v31 : BitVec 32 := Scalar.addi v29 v30
  v31.toNat
def k8_dev4 (d0 : Dev nD) : Nat :=
  let c0_i32_24 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v32 : BitVec 32 := Scalar.subi c1_i32_21 v2
  let c4_i32_23 : BitVec 32 := 4#32
  let v33 : BitVec 32 := Scalar.muli v32 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k8_dev5 (d0 : Dev nD) : Nat :=
  let c0_i32_31 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_27 v2
  let c4_i32_30 : BitVec 32 := 4#32
  let v41 : BitVec 32 := Scalar.muli v39 c4_i32_30
  let v42 : BitVec 32 := Scalar.addi c0_i32_31 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v43 : BitVec 32 := Scalar.muli v5 c2_i32_32
  let v44 : BitVec 32 := Scalar.addi v42 v43
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_28 v8
  let c1_i32_33 : BitVec 32 := 1#32
  let v45 : BitVec 32 := Scalar.muli v40 c1_i32_33
  let v46 : BitVec 32 := Scalar.addi v44 v45
  v46.toNat
def k8_dev6 (d0 : Dev nD) : Nat :=
  let c0_i32_38 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.subi c1_i32_34 v2
  let c4_i32_37 : BitVec 32 := 4#32
  let v49 : BitVec 32 := Scalar.muli v47 c4_i32_37
  let v50 : BitVec 32 := Scalar.addi c0_i32_38 v49
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_35 v5
  let c2_i32_39 : BitVec 32 := 2#32
  let v51 : BitVec 32 := Scalar.muli v48 c2_i32_39
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v53 : BitVec 32 := Scalar.muli v8 c1_i32_40
  let v54 : BitVec 32 := Scalar.addi v52 v53
  v54.toNat
def k8_dev7 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_41 v2
  let c4_i32_45 : BitVec 32 := 4#32
  let v58 : BitVec 32 := Scalar.muli v55 c4_i32_45
  let v59 : BitVec 32 := Scalar.addi c0_i32_46 v58
  let c1_i32_42 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_42 v5
  let c2_i32_47 : BitVec 32 := 2#32
  let v60 : BitVec 32 := Scalar.muli v56 c2_i32_47
  let v61 : BitVec 32 := Scalar.addi v59 v60
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_43 v8
  let c1_i32_48 : BitVec 32 := 1#32
  let v62 : BitVec 32 := Scalar.muli v57 c1_i32_48
  let v63 : BitVec 32 := Scalar.addi v61 v62
  v63.toNat
def k8_off1 (d0 : Dev nD) : Fin 2 → Nat :=
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c1024_i32 : BitVec 32 := 1024#32
  let v73 : BitVec 32 := Scalar.muli v72 c1024_i32
  let c0_i32_63 : BitVec 32 := 0#32
  ![v73.toNat, 0]
def k8_dev8 (d0 : Dev nD) : Nat :=
  let c0_i32_60 : BitVec 32 := 0#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let c4_i32_59 : BitVec 32 := 4#32
  let v77 : BitVec 32 := Scalar.muli v66 c4_i32_59
  let v78 : BitVec 32 := Scalar.addi c0_i32_60 v77
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let c2_i32_61 : BitVec 32 := 2#32
  let v79 : BitVec 32 := Scalar.muli v69 c2_i32_61
  let v80 : BitVec 32 := Scalar.addi v78 v79
  let c1_i32_55 : BitVec 32 := 1#32
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let v74 : BitVec 32 := Scalar.subi c1_i32_55 v72
  let c1_i32_62 : BitVec 32 := 1#32
  let v81 : BitVec 32 := Scalar.muli v74 c1_i32_62
  let v82 : BitVec 32 := Scalar.addi v80 v81
  v82.toNat
def k8_off2 (d0 : Dev nD) : Fin 2 → Nat :=
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let c256_i32 : BitVec 32 := 256#32
  let v75 : BitVec 32 := Scalar.muli v72 c256_i32
  let c0_i32_71 : BitVec 32 := 0#32
  ![v75.toNat, 0]
def k8_dev9 (d0 : Dev nD) : Nat :=
  let c0_i32_68 : BitVec 32 := 0#32
  let v64 : BitVec 32 := Dev.word d0
  let c4_i32_50 : BitVec 32 := 4#32
  let v65 : BitVec 32 := Scalar.divsi v64 c4_i32_50
  let c2_i32_49 : BitVec 32 := 2#32
  let v66 : BitVec 32 := Scalar.remsi v65 c2_i32_49
  let c4_i32_67 : BitVec 32 := 4#32
  let v89 : BitVec 32 := Scalar.muli v66 c4_i32_67
  let v90 : BitVec 32 := Scalar.addi c0_i32_68 v89
  let v67 : BitVec 32 := Dev.word d0
  let c2_i32_52 : BitVec 32 := 2#32
  let v68 : BitVec 32 := Scalar.divsi v67 c2_i32_52
  let c2_i32_51 : BitVec 32 := 2#32
  let v69 : BitVec 32 := Scalar.remsi v68 c2_i32_51
  let c2_i32_69 : BitVec 32 := 2#32
  let v91 : BitVec 32 := Scalar.muli v69 c2_i32_69
  let v92 : BitVec 32 := Scalar.addi v90 v91
  let c1_i32_56 : BitVec 32 := 1#32
  let v70 : BitVec 32 := Dev.word d0
  let c1_i32_54 : BitVec 32 := 1#32
  let v71 : BitVec 32 := Scalar.divsi v70 c1_i32_54
  let c2_i32_53 : BitVec 32 := 2#32
  let v72 : BitVec 32 := Scalar.remsi v71 c2_i32_53
  let v76 : BitVec 32 := Scalar.subi c1_i32_56 v72
  let c1_i32_70 : BitVec 32 := 1#32
  let v93 : BitVec 32 := Scalar.muli v76 c1_i32_70
  let v94 : BitVec 32 := Scalar.addi v92 v93
  v94.toNat
abbrev stage8_0 : Fin 1 → Memref sig .tc .vmem S8x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev grid9 : Pipeline.Grid := .none

def k9_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v9 : BitVec 32 := Scalar.muli v8 c1024_i32
  let c0_i32_7 : BitVec 32 := 0#32
  ![v9.toNat, 0]
def k9_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v11 : BitVec 32 := Scalar.muli v8 c256_i32
  let c0_i32_20 : BitVec 32 := 0#32
  ![v11.toNat, 0]
-- ==== ReferenceIdeal.lean ====
abbrev S32x2048x2048 : Shape := ⟨3, ![32, 2048, 2048]⟩
abbrev S32x512x2048 : Shape := ⟨3, ![32, 512, 2048]⟩
abbrev S8x4x2048x2048 : Shape := ⟨4, ![8, 4, 2048, 2048]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8x4x512x2048 : Shape := ⟨4, ![8, 4, 512, 2048]⟩
abbrev S4x512x2048 : Shape := ⟨3, ![4, 512, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S32x512x2048, .f32⟩
  | .hbm, ⟨2, _⟩ => ⟨S8x4x2048x2048, .f32⟩
  | .hbm, ⟨3, _⟩ => ⟨S_, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S8x4x512x2048, .f32⟩
  | .hbm, ⟨8, _⟩ => ⟨S_, .f32⟩
  | .hbm, ⟨9, _⟩ => ⟨S4x512x2048, .f32⟩
  | .hbm, ⟨10, _⟩ => ⟨S2048x2048, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S_ : Shape := ⟨0, ![]⟩
abbrev S8x128 : Shape := ⟨2, ![8, 128]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S_, .f32⟩
  | .hbm, ⟨3, _⟩ => ⟨S8x128, .f32⟩
  | .hbm, ⟨4, _⟩ => ⟨S8192x2048, .bf16⟩
  | .hbm, ⟨5, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S8x128, .f32⟩
  | .local _ .vmem, ⟨4, _⟩ => ⟨S512x2048, .bf16⟩
  | .local _ .vmem, ⟨5, _⟩ => ⟨S512x2048, .bf16⟩
  | .local _ .vmem, ⟨6, _⟩ => ⟨S512x1, .f32⟩
  | .local _ .vmem, ⟨7, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsFwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GradIn.lean ====
abbrev S8192x2048 : Shape := ⟨2, ![8192, 2048]⟩
abbrev S4x8192x1024 : Shape := ⟨3, ![4, 8192, 1024]⟩
abbrev S4x2048x2048 : Shape := ⟨3, ![4, 2048, 2048]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x1024, .bf16⟩
  | .hbm, ⟨2, _⟩ => ⟨S4x8192x1024, .bf16⟩
  | .hbm, ⟨3, _⟩ => ⟨S4x2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .f32⟩
  | .local _ .vmem, ⟨7, _⟩ => ⟨S1x2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c4_i32 : BitVec 32 := 4#32
  let v4 : BitVec 1 := Scalar.cmpi .slt arg0 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c4_i32_3 : BitVec 32 := 4#32
  let v8 : BitVec 1 := Scalar.cmpi .sge arg0 c4_i32_3
  let c8_i32 : BitVec 32 := 8#32
  let v9 : BitVec 1 := Scalar.cmpi .slt arg0 c8_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradInReferenceIdeal.lean ====
abbrev S8192x2048 : Shape := ⟨2, ![8192, 2048]⟩
abbrev S4x8192x1024 : Shape := ⟨3, ![4, 8192, 1024]⟩
abbrev S2048x8192 : Shape := ⟨2, ![2048, 8192]⟩
abbrev S8x8192x1024 : Shape := ⟨3, ![8, 8192, 1024]⟩
abbrev S8192x8x1024 : Shape := ⟨3, ![8192, 8, 1024]⟩
abbrev S8192x8192 : Shape := ⟨2, ![8192, 8192]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x1024, .bf16⟩
  | .hbm, ⟨2, _⟩ => ⟨S4x8192x1024, .bf16⟩
  | .hbm, ⟨3, _⟩ => ⟨S8192x2048, .f32⟩
  | .hbm, ⟨4, _⟩ => ⟨S2048x8192, .f32⟩
  | .hbm, ⟨5, _⟩ => ⟨S8x8192x1024, .bf16⟩
  | .hbm, ⟨6, _⟩ => ⟨S8x8192x1024, .f32⟩
  | .hbm, ⟨7, _⟩ => ⟨S8192x8x1024, .f32⟩
  | .hbm, ⟨8, _⟩ => ⟨S8192x8192, .f32⟩
  | .hbm, ⟨9, _⟩ => ⟨S2048x8192, .f32⟩
  | .hbm, ⟨10, _⟩ => ⟨S2048x4x2048, .f32⟩
  | .hbm, ⟨11, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DyGate.lean ====
abbrev S8192x2048 : Shape := ⟨2, ![8192, 2048]⟩
abbrev S2048x2048 : Shape := ⟨2, ![2048, 2048]⟩
abbrev S8x8192x128 : Shape := ⟨3, ![8, 8192, 128]⟩
abbrev S8x8x8192x128 : Shape := ⟨4, ![8, 8, 8192, 128]⟩
abbrev S8192x1024 : Shape := ⟨2, ![8192, 1024]⟩
abbrev S4x8192x1024 : Shape := ⟨3, ![4, 8192, 1024]⟩
abbrev S512x2048 : Shape := ⟨2, ![512, 2048]⟩
abbrev S8x512x128 : Shape := ⟨3, ![8, 512, 128]⟩
abbrev S1x8x512x128 : Shape := ⟨4, ![1, 8, 512, 128]⟩
abbrev S512x1024 : Shape := ⟨2, ![512, 1024]⟩
abbrev S1x512x1024 : Shape := ⟨3, ![1, 512, 1024]⟩
abbrev S1024x2048 : Shape := ⟨2, ![1024, 2048]⟩
abbrev S128x128 : Shape := ⟨2, ![128, 128]⟩
abbrev S1x1x512x128 : Shape := ⟨4, ![1, 1, 512, 128]⟩
abbrev S512x128 : Shape := ⟨2, ![512, 128]⟩
abbrev S1x512x128 : Shape := ⟨3, ![1, 512, 128]⟩
abbrev S1x8192x1024 : Shape := ⟨3, ![1, 8192, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8x8192x128, .f32⟩
  | .hbm, ⟨3, _⟩ => ⟨S8x8x8192x128, .f32⟩
  | .hbm, ⟨4, _⟩ => ⟨S8192x1024, .f32⟩
  | .hbm, ⟨5, _⟩ => ⟨S8x8192x128, .f32⟩
  | .hbm, ⟨6, _⟩ => ⟨S8x8192x128, .f32⟩
  | .hbm, ⟨7, _⟩ => ⟨S4x8192x1024, .bf16⟩
  | .hbm, ⟨8, _⟩ => ⟨S1x8192x1024, .bf16⟩
  | .hbm, ⟨9, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S8x512x128, .f32⟩
  | .local _ .vmem, ⟨4, _⟩ => ⟨S8x512x128, .f32⟩
  | .local _ .vmem, ⟨5, _⟩ => ⟨S1x8x512x128, .f32⟩
  | .local _ .vmem, ⟨6, _⟩ => ⟨S1x8x512x128, .f32⟩
  | .local _ .vmem, ⟨7, _⟩ => ⟨S512x1024, .f32⟩
  | .local _ .vmem, ⟨8, _⟩ => ⟨S512x1024, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .vmem, ⟨13, _⟩ => ⟨S1x512x1024, .bf16⟩
  | .local _ .vmem, ⟨14, _⟩ => ⟨S1x512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DyGateReferenceIdeal.lean ====
abbrev S8192x2048 : Shape := ⟨2, ![8192, 2048]⟩
abbrev S2048x2048 : Shape := ⟨2, ![2048, 2048]⟩
abbrev S8x8192x128 : Shape := ⟨3, ![8, 8192, 128]⟩
abbrev S8x8x8192x128 : Shape := ⟨4, ![8, 8, 8192, 128]⟩
abbrev S1x8x8192x128 : Shape := ⟨4, ![1, 8, 8192, 128]⟩
abbrev S8192x8x128 : Shape := ⟨3, ![8192, 8, 128]⟩
abbrev S8192x1024 : Shape := ⟨2, ![8192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8x8192x128, .f32⟩
  | .hbm, ⟨3, _⟩ => ⟨S8x8x8192x128, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S1x8x8192x128, .f32⟩
  | .hbm, ⟨9, _⟩ => ⟨S8x8192x128, .f32⟩
  | .hbm, ⟨10, _⟩ => ⟨S8192x8x128, .f32⟩
  | .hbm, ⟨11, _⟩ => ⟨S8192x1024, .f32⟩
  | .hbm, ⟨12, _⟩ => ⟨S8192x8x128, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x8x128, .f32⟩
  | .hbm, ⟨38, _⟩ => ⟨S8x8192x128, .f32⟩
  | .hbm, ⟨39, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== GradOut.lean ====
abbrev S8192x1024 : Shape := ⟨2, ![8192, 1024]⟩
abbrev S8192x2048 : Shape := ⟨2, ![8192, 2048]⟩
abbrev S4x512x2048 : Shape := ⟨3, ![4, 512, 2048]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .bf16⟩
  | .local _ .vmem, ⟨5, _⟩ => ⟨S2048x2048, .bf16⟩
  | .local _ .vmem, ⟨6, _⟩ => ⟨S1x512x2048, .f32⟩
  | .local _ .vmem, ⟨7, _⟩ => ⟨S1x512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradOutReferenceIdeal.lean ====
abbrev S8192x1024 : Shape := ⟨2, ![8192, 1024]⟩
abbrev S8192x2048 : Shape := ⟨2, ![8192, 2048]⟩
abbrev S2048x8192 : Shape := ⟨2, ![2048, 8192]⟩
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S2048x8192, .f32⟩
  | .hbm, ⟨6, _⟩ => ⟨S8192x2048, .f32⟩
  | .hbm, ⟨7, _⟩ => ⟨S2048x2048, .f32⟩
  | .hbm, ⟨8, _⟩ => ⟨S4x512x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhFirst.lean ====
abbrev S4x8192x1024 : Shape := ⟨3, ![4, 8192, 1024]⟩
abbrev S4x2048x2048 : Shape := ⟨3, ![4, 2048, 2048]⟩
abbrev S_ : Shape := ⟨0, ![]⟩
abbrev S8x128 : Shape := ⟨2, ![8, 128]⟩
abbrev S3072x2048 : Shape := ⟨2, ![3072, 2048]⟩
abbrev S2x1024x1024 : Shape := ⟨3, ![2, 1024, 1024]⟩
abbrev S1x2048x2048 : Shape := ⟨3, ![1, 2048, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S_, .f32⟩
  | .hbm, ⟨4, _⟩ => ⟨S8x128, .f32⟩
  | .hbm, ⟨5, _⟩ => ⟨S3072x2048, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S8x128, .f32⟩
  | .local _ .vmem, ⟨7, _⟩ => ⟨S1024x2048, .f32⟩
  | .local _ .vmem, ⟨8, _⟩ => ⟨S1024x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let c2_i32 : BitVec 32 := 2#32
  let arg1 : BitVec 32 := BitVec.ofNat 32 (i 1).val
  let v3 : BitVec 32 := Scalar.muli c2_i32 arg1
  let c0_i32_1 : BitVec 32 := 0#32
  let v4 : BitVec 1 := Scalar.cmpi .sge v3 c0_i32_1
  let c2_i32_2 : BitVec 32 := 2#32
  let v5 : BitVec 32 := Scalar.muli c2_i32_2 arg1
  let c4_i32 : BitVec 32 := 4#32
  let v6 : BitVec 1 := Scalar.cmpi .slt v5 c4_i32
  let v7 : BitVec 1 := Scalar.andi v4 v6
  let v8 : BitVec 32 := Scalar.extui v7
  let c0_i32_3 : BitVec 32 := 0#32
  let v9 : BitVec 1 := Scalar.cmpi .ne v8 c0_i32_3
  v9

def k0_cond3 (i : grid0.Coords) : BitVec 1 :=
  let c2_i32_4 : BitVec 32 := 2#32
  let arg1 : BitVec 32 := BitVec.ofNat 32 (i 1).val
  let v10 : BitVec 32 := Scalar.muli c2_i32_4 arg1
  let c4_i32_5 : BitVec 32 := 4#32
  let v11 : BitVec 1 := Scalar.cmpi .sge v10 c4_i32_5
  let c2_i32_6 : BitVec 32 := 2#32
  let v12 : BitVec 32 := Scalar.muli c2_i32_6 arg1
  let c8_i32 : BitVec 32 := 8#32
  let v13 : BitVec 1 := Scalar.cmpi .slt v12 c8_i32
  let v14 : BitVec 1 := Scalar.andi v11 v13
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 arg0
  let c0_i32_2 : BitVec 32 := 0#32
  let c0_i32_3 : BitVec 32 := 0#32
  ![v2.toNat, v3.toNat, c0_i32_2.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 arg0
  let c0_i32_1 : BitVec 32 := 0#32
  let c0_i32_2 : BitVec 32 := 0#32
  ![v2.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DhFirstReferenceIdeal.lean ====
abbrev S4x8192x1024 : Shape := ⟨3, ![4, 8192, 1024]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8x8192x1024 : Shape := ⟨3, ![8, 8192, 1024]⟩
abbrev S8192x8x1024 : Shape := ⟨3, ![8192, 8, 1024]⟩
abbrev S8192x8192 : Shape := ⟨2, ![8192, 8192]⟩
abbrev S8192x2048 : Shape := ⟨2, ![8192, 2048]⟩
abbrev S3072x2048 : Shape := ⟨2, ![3072, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S8x8192x1024, .bf16⟩
  | .hbm, ⟨7, _⟩ => ⟨S8x8192x1024, .f32⟩
  | .hbm, ⟨8, _⟩ => ⟨S8192x8x1024, .f32⟩
  | .hbm, ⟨9, _⟩ => ⟨S8192x8192, .f32⟩
  | .hbm, ⟨10, _⟩ => ⟨S8192x2048, .f32⟩
  | .hbm, ⟨11, _⟩ => ⟨S8192x2048, .f32⟩
  | .hbm, ⟨12, _⟩ => ⟨S3072x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DhLast.lean ====
abbrev S4x8192x1024 : Shape := ⟨3, ![4, 8192, 1024]⟩
abbrev S4x2048x2048 : Shape := ⟨3, ![4, 2048, 2048]⟩
abbrev S_ : Shape := ⟨0, ![]⟩
abbrev S8x128 : Shape := ⟨2, ![8, 128]⟩
abbrev S5120x2048 : Shape := ⟨2, ![5120, 2048]⟩
abbrev S2x1024x1024 : Shape := ⟨3, ![2, 1024, 1024]⟩
abbrev S1x2048x2048 : Shape := ⟨3, ![1, 2048, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S_, .f32⟩
  | .hbm, ⟨4, _⟩ => ⟨S8x128, .f32⟩
  | .hbm, ⟨5, _⟩ => ⟨S5120x2048, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S8x128, .f32⟩
  | .local _ .vmem, ⟨7, _⟩ => ⟨S1024x2048, .f32⟩
  | .local _ .vmem, ⟨8, _⟩ => ⟨S1024x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let c2_i32 : BitVec 32 := 2#32
  let arg1 : BitVec 32 := BitVec.ofNat 32 (i 1).val
  let v3 : BitVec 32 := Scalar.muli c2_i32 arg1
  let c0_i32_1 : BitVec 32 := 0#32
  let v4 : BitVec 1 := Scalar.cmpi .sge v3 c0_i32_1
  let c2_i32_2 : BitVec 32 := 2#32
  let v5 : BitVec 32 := Scalar.muli c2_i32_2 arg1
  let c4_i32 : BitVec 32 := 4#32
  let v6 : BitVec 1 := Scalar.cmpi .slt v5 c4_i32
  let v7 : BitVec 1 := Scalar.andi v4 v6
  let v8 : BitVec 32 := Scalar.extui v7
  let c0_i32_3 : BitVec 32 := 0#32
  let v9 : BitVec 1 := Scalar.cmpi .ne v8 c0_i32_3
  v9

def k0_cond3 (i : grid0.Coords) : BitVec 1 :=
  let c2_i32_4 : BitVec 32 := 2#32
  let arg1 : BitVec 32 := BitVec.ofNat 32 (i 1).val
  let v10 : BitVec 32 := Scalar.muli c2_i32_4 arg1
  let c4_i32_5 : BitVec 32 := 4#32
  let v11 : BitVec 1 := Scalar.cmpi .sge v10 c4_i32_5
  let c2_i32_6 : BitVec 32 := 2#32
  let v12 : BitVec 32 := Scalar.muli c2_i32_6 arg1
  let c8_i32 : BitVec 32 := 8#32
  let v13 : BitVec 1 := Scalar.cmpi .slt v12 c8_i32
  let v14 : BitVec 1 := Scalar.andi v11 v13
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c3_i32 : BitVec 32 := 3#32
  let v3 : BitVec 32 := Scalar.addi c3_i32 arg0
  let c0_i32_1 : BitVec 32 := 0#32
  let c0_i32_2 : BitVec 32 := 0#32
  ![v2.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c3_i32 : BitVec 32 := 3#32
  let v3 : BitVec 32 := Scalar.addi c3_i32 arg0
  let c0_i32_0 : BitVec 32 := 0#32
  let c0_i32_1 : BitVec 32 := 0#32
  ![v2.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DhLastReferenceIdeal.lean ====
abbrev S4x8192x1024 : Shape := ⟨3, ![4, 8192, 1024]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8x8192x1024 : Shape := ⟨3, ![8, 8192, 1024]⟩
abbrev S8192x8x1024 : Shape := ⟨3, ![8192, 8, 1024]⟩
abbrev S8192x8192 : Shape := ⟨2, ![8192, 8192]⟩
abbrev S8192x2048 : Shape := ⟨2, ![8192, 2048]⟩
abbrev S5120x2048 : Shape := ⟨2, ![5120, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S8x8192x1024, .bf16⟩
  | .hbm, ⟨7, _⟩ => ⟨S8x8192x1024, .f32⟩
  | .hbm, ⟨8, _⟩ => ⟨S8192x8x1024, .f32⟩
  | .hbm, ⟨9, _⟩ => ⟨S8192x8192, .f32⟩
  | .hbm, ⟨10, _⟩ => ⟨S8192x2048, .f32⟩
  | .hbm, ⟨11, _⟩ => ⟨S8192x2048, .f32⟩
  | .hbm, ⟨12, _⟩ => ⟨S5120x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== RmsBwd.lean ====
abbrev S3072x2048 : Shape := ⟨2, ![3072, 2048]⟩
abbrev S5120x2048 : Shape := ⟨2, ![5120, 2048]⟩
abbrev S8192x2048 : Shape := ⟨2, ![8192, 2048]⟩
abbrev S8192x1 : Shape := ⟨2, ![8192, 1]⟩
abbrev S1x2048 : Shape := ⟨2, ![1, 2048]⟩
abbrev S512x2048 : Shape := ⟨2, ![512, 2048]⟩
abbrev S512x1 : Shape := ⟨2, ![512, 1]⟩
abbrev S2048 : Shape := ⟨1, ![2048]⟩
abbrev S512 : Shape := ⟨1, ![512]⟩

abbrev nBuf : Space → Nat
  | .hbm => 11
  | .vmem => 24
  | .smem => 0
  | _ => 0

abbrev bufTy : (tb : Table) → Fin (tcTables nBuf tb) → BufTy
  | .hbm, ⟨0, _⟩ => ⟨S3072x2048, .f32⟩
  | .hbm, ⟨1, _⟩ => ⟨S5120x2048, .f32⟩
  | .hbm, ⟨2, _⟩ => ⟨S8192x2048, .f32⟩
  | .hbm, ⟨3, _⟩ => ⟨S8192x1, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S1x2048, .f32⟩
  | .hbm, ⟨10, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x1, .f32⟩
  | .local _ .vmem, ⟨17, _⟩ => ⟨S512x1, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S1x2048, .f32⟩
  | _, _ => ⟨S3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== RmsBwdReferenceIdeal.lean ====
abbrev S3072x2048 : Shape := ⟨2, ![3072, 2048]⟩
abbrev S5120x2048 : Shape := ⟨2, ![5120, 2048]⟩
abbrev S8192x2048 : Shape := ⟨2, ![8192, 2048]⟩
abbrev S8192x1 : Shape := ⟨2, ![8192, 1]⟩
abbrev S1x2048 : Shape := ⟨2, ![1, 2048]⟩
abbrev S_ : Shape := ⟨0, ![]⟩
abbrev S8192 : Shape := ⟨1, ![8192]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S3072x2048, .f32⟩
  | .hbm, ⟨1, _⟩ => ⟨S5120x2048, .f32⟩
  | .hbm, ⟨2, _⟩ => ⟨S8192x2048, .f32⟩
  | .hbm, ⟨3, _⟩ => ⟨S8192x1, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | _, _ => ⟨S3072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== AdamIn.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRow.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRowReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLogits.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLogitsReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Same.lean ====
/-
  The program names the same machine at both readings of its floats, so its frame over bit patterns may be taken from
  the run, which is written once for any float values.
-/
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Frames

open Idealize.ShloMosaic Idealize.SL.Sem

/-- Every execution over bit patterns ends with the arguments as they were and every semaphore at zero. -/
def Framed : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- The two readings say the same frame. -/
theorem same_frame : Cert.quiescent_Kernel = Framed := by
  sl_kernel_rfl

end Cert.Frames
-- ==== Proof.Held.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.RegionArraysT
public import Idealize.ShloMosaic.Lib.Pipeline.Kit
public import Idealize.ShloMosaic.Lib.Tactic

@[expose] public section

/-! A kernel region entered from held buffers, for a program whose prefetched table differs from device to
device. -/

noncomputable section

namespace Cert.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (defs₀ : Defs nD τ sig Val Λ₀) (𝒱₀ : Variants)
  (L : GSem nD τ sig → Finset Ix) (lv : GSem nD τ sig → Ix → Lvl)
  (p : P)

/-- The arrays of a region's windows, each whole at the contents `G`, are its array buffers held at any
valuation that has them at `G`. -/
theorem arrays_held (kit : PLaunchFacts (nD := nD) (τ := τ) pcs p) (c : Dev nD)
    (hshare : ∀ w, (pdats p c).share w = fullShare)
    (G : (w : Fin (pinD pcs a c p).W) → Buf Val (((pinD pcs a c p).spec w).arr.view.loc (c.tc : Thread nD τ)))
    (Wc : Valuation τ sig Val) (hG : ∀ w, G w = Wc (Proc.devRef .tc (arrRef (pinD pcs a c p).spec w))) :
    (pdats p c).arrays G = (StableHlo.held (c.tc : Thread nD τ) (arrRefs (pcs p).spec) Wc : sProp 𝕄) := by
  rw [PerCore.arrays_eq (pinD pcs a) pdats p c kit.arr_whole hshare]
  unfold StableHlo.held arrRefs
  rw [bigSep_map, show Finset.univ.image (arrRef (pcs p).spec) = Finset.univ.map ⟨arrRef (pcs p).spec, kit.win.arr_inj⟩ from
    (Finset.map_eq_image ⟨_, _⟩ Finset.univ).symm, bigSep_map]
  exact bigSep_congr fun w _ => by rw [hG]; rfl

/-- A region as a segment between states that hold a set `S` of buffers: it enters with `S` at `W`, its private
state `X` and a debt `D`, and leaves with `S` at `W'`, `Y` and a debt `D'`; whatever else is held (`R`) rides along.
`S` contains the windows' arrays and the prefetched tables, and only the arrays may change. -/
def segHeld (kit : PLaunchFacts (nD := nD) (τ := τ) pcs p)
    (hbody : ∀ c, BodyObligationLoose (pdats p c) defs₀ 𝒱₀ ι Set.univ)
    (D D' : Dev nD → CellTallies nD τ sig Ix)
    (hwaits : ∀ c, (levAts L lv : sProp 𝕄) ⊢ PerCore.cellsWaits (pinD pcs a) pdats ι p c)
    (howed0 : ∀ c, (pdats p c).owed 0 = D c) (howedN : ∀ c, (pdats p c).owed (Fin.last _) = D' c)
    (hrec : ∀ c, (pdats p c).recorded 0 = Set.univ)
    (hshare : ∀ c w, (pdats p c).share w = fullShare)
    (S : Finset (DevRef τ sig)) (W W' : Dev nD → Valuation τ sig Val) (X Y R : Dev nD → sProp 𝕄)
    (hA : arrRefs (pcs p).spec ⊆ S) (hT : tblRefs (τ := τ) (pcs p).pre ⊆ S)
    (hrest : ∀ c, ∀ b ∈ S \ arrRefs (pcs p).spec, W' c b = W c b)
    (hW : ∀ c w, (pdats p c).arrAt w 0 = W c (Proc.devRef .tc (arrRef (pinD pcs a c p).spec w)))
    (hW' : ∀ c w, (pdats p c).arrAt w (pinD pcs a c p).N = W' c (Proc.devRef .tc (arrRef (pinD pcs a c p).spec w)))
    (hG : ∀ c k, (a c p).1 k = W c (Proc.devRef .tc ((pcs p).pre.ref k)))
    (hin : ∀ c, iprop(X c ∗ prefHeld (pcs p).pre c (fun _ => fullShare) (a c p).1 ∗ scopedRest (pcs p).spec c) ⊢ (pdats p c).Φ 0)
    (hout : ∀ c, (pdats p c).Φ (Fin.last (pinD pcs a c p).N)
      ⊢ iprop(Y c ∗ prefHeld (pcs p).pre c (fun _ => fullShare) (a c p).1 ∗ scopedRest (pcs p).spec c)) :
    PerCore.RegionSeg pcs a pdats ι defs₀ 𝒱₀ L lv p where
  win := kit.win.to₀
  block_pos := kit.block_pos
  stage_whole := kit.stage_whole
  K := PEmpty
  osem k := k.elim
  ho := OwnSemFacts.none _
  hbody := hbody
  hwaits := hwaits
  pre c := iprop(StableHlo.held (c.tc : Thread nD τ) S (W c) ∗ X c ∗ R c ∗ ∃ Wd, owes (c : Thread nD τ) (D c) Wd)
  post c := iprop(StableHlo.held (c.tc : Thread nD τ) S (W' c) ∗ Y c ∗ R c ∗ ∃ Wd, owes (c : Thread nD τ) (D' c) Wd)
  X := X
  Y c := iprop(Y c ∗ prefHeld (pcs p).pre c (fun _ => fullShare) (a c p).1)
  Z c := iprop(StableHlo.held (c.tc : Thread nD τ) ((S \ arrRefs (pcs p).spec) \ tblRefs (pcs p).pre) (W c) ∗ R c)
  hentry c := by
    rw [ownSems0_none, StableHlo.held_sub_split (c.tc : Thread nD τ) hA (W c),
      StableHlo.held_sub_split (c.tc : Thread nD τ) (tblRefs_sub_sdiff (pcs p).spec (pcs p).pre kit.pre.disj hT) (W c),
      arrays_held pcs a pdats p kit c (hshare c) ((pdats p c).arrAt · 0) (W c) (hW c),
      prefHeld_held (pcs p).pre kit.pre.inj c _ (W c) (hG c)]
    iintro ⟨⟨⟨Ha, Ht, Hz⟩, HX, HR, HO⟩, -, -⟩
    imodintro
    isplitl [Ha]; · iexact Ha
    isplitl [Ht]; · iexact Ht
    isplitl [HO]
    · unfold Dat.owesAt owesWithin Dat.bound
      rw [howed0 c, hrec c]
      icases HO with ⟨%Wd, HO⟩; iexists Wd; isplitr; · ipureintro; exact fun _ _ => Or.inl trivial
      iexact HO
    isplitl [HX]; · iexact HX
    isplitl [Hz]; · iexact Hz
    iexact HR
  hin c := hin c
  hout c := (hout c).trans (by
    rw [ownSems0_none]
    iintro ⟨HY, Hpf, Hr⟩
    isplitl [HY Hpf]; · isplitl [HY] <;> iassumption
    isplitr; · iempintro
    iexact Hr)
  hexit c := by
    rw [StableHlo.held_sub_split (c.tc : Thread nD τ) hA (W' c),
      StableHlo.held_sub_split (c.tc : Thread nD τ) (tblRefs_sub_sdiff (pcs p).spec (pcs p).pre kit.pre.disj hT) (W' c),
      arrays_held pcs a pdats p kit c (hshare c) ((pdats p c).arrAt · _) (W' c) (hW' c),
      prefHeld_held (pcs p).pre kit.pre.inj c _ (W' c) (fun k => (hG c k).trans (hrest c _
        (tblRefs_sub_sdiff (pcs p).spec (pcs p).pre kit.pre.disj hT (Finset.mem_map.mpr ⟨_, Finset.mem_image.mpr ⟨k, Finset.mem_univ _, rfl⟩, rfl⟩))).symm),
      StableHlo.held_congr (c.tc : Thread nD τ) (fun b hb => hrest c b (Finset.mem_sdiff.mp hb).1)]
    iintro ⟨Ha, HO, ⟨HY, Hpf⟩, ⟨Hz, HR⟩⟩
    imodintro
    isplitl [Ha Hpf Hz]
    · isplitl [Ha]; · iexact Ha
      isplitl [Hpf] <;> iassumption
    isplitl [HY]; · iexact HY
    isplitl [HR]; · iexact HR
    unfold Dat.owesAt owesWithin
    rw [howedN c]
    icases HO with ⟨%Wd, -, HO⟩; iexists Wd; iexact HO

end Cert.Run
-- ==== Proof.Mesh.lean ====
module

public import proofs.«01_k».proof.Proof.Held

@[expose] public section

/-! The mesh, the exchanges' semaphore cells and what each device owes on them. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipelines' ghost state beside the exchanges' (eight duties to a round). -/
abbrev UU : Type := UR sig nD τ × Rounds.URounds (GSem nD τ sig) (Fin 8)

local notation "𝕄" => MT nD τ sig Unit (Elt F) ℕ UU ℕ

abbrev EP : Emb (UR sig nD τ) 𝕄 := embL
abbrev ER : Emb (Rounds.URounds (GSem nD τ sig) (Fin 8)) 𝕄 := embR

/-! ## The mesh -/

/-- The device whose number differs from `c`'s in the bits of `i`. -/
def peer (i : Fin 8) (c : Dev nD) : Dev nD := ⟨(c.val ^^^ i.val) % 8, Nat.mod_lt _ (by decide)⟩

theorem peer_peer : ∀ (i : Fin 8) (c : Dev nD), peer i (peer i c) = c := by decide
theorem peer_zero : ∀ c : Dev nD, peer 0 c = c := by decide

/-- `peer i` as a permutation. -/
def peerEquiv (i : Fin 8) : Dev nD ≃ Dev nD := ⟨peer i, peer i, peer_peer i, peer_peer i⟩

theorem dev0_1 (c : Dev nD) : (⟨k0_dev1 c, k0_dev1_lt c⟩ : Dev nD) = peer 1 c := Fin.ext ((k0_dev1_eq c).trans (by revert c; decide))
theorem dev0_2 (c : Dev nD) : (⟨k0_dev2 c, k0_dev2_lt c⟩ : Dev nD) = peer 2 c := Fin.ext ((k0_dev2_eq c).trans (by revert c; decide))
theorem dev0_3 (c : Dev nD) : (⟨k0_dev3 c, k0_dev3_lt c⟩ : Dev nD) = peer 3 c := Fin.ext ((k0_dev3_eq c).trans (by revert c; decide))
theorem dev0_4 (c : Dev nD) : (⟨k0_dev4 c, k0_dev4_lt c⟩ : Dev nD) = peer 4 c := Fin.ext ((k0_dev4_eq c).trans (by revert c; decide))
theorem dev0_5 (c : Dev nD) : (⟨k0_dev5 c, k0_dev5_lt c⟩ : Dev nD) = peer 5 c := Fin.ext ((k0_dev5_eq c).trans (by revert c; decide))
theorem dev0_6 (c : Dev nD) : (⟨k0_dev6 c, k0_dev6_lt c⟩ : Dev nD) = peer 6 c := Fin.ext ((k0_dev6_eq c).trans (by revert c; decide))
theorem dev0_7 (c : Dev nD) : (⟨k0_dev7 c, k0_dev7_lt c⟩ : Dev nD) = peer 7 c := Fin.ext ((k0_dev7_eq c).trans (by revert c; decide))
theorem dev0_8 (c : Dev nD) : (⟨k0_dev8 c, k0_dev8_lt c⟩ : Dev nD) = peer 1 c := Fin.ext ((k0_dev8_eq c).trans (by revert c; decide))
theorem dev0_9 (c : Dev nD) : (⟨k0_dev9 c, k0_dev9_lt c⟩ : Dev nD) = peer 1 c := Fin.ext ((k0_dev9_eq c).trans (by revert c; decide))
theorem dev4_1 (c : Dev nD) : (⟨k4_dev1 c, k4_dev1_lt c⟩ : Dev nD) = peer 1 c := Fin.ext ((k4_dev1_eq c).trans (by revert c; decide))
theorem dev4_2 (c : Dev nD) : (⟨k4_dev2 c, k4_dev2_lt c⟩ : Dev nD) = peer 2 c := Fin.ext ((k4_dev2_eq c).trans (by revert c; decide))
theorem dev4_3 (c : Dev nD) : (⟨k4_dev3 c, k4_dev3_lt c⟩ : Dev nD) = peer 3 c := Fin.ext ((k4_dev3_eq c).trans (by revert c; decide))
theorem dev4_4 (c : Dev nD) : (⟨k4_dev4 c, k4_dev4_lt c⟩ : Dev nD) = peer 4 c := Fin.ext ((k4_dev4_eq c).trans (by revert c; decide))
theorem dev4_5 (c : Dev nD) : (⟨k4_dev5 c, k4_dev5_lt c⟩ : Dev nD) = peer 5 c := Fin.ext ((k4_dev5_eq c).trans (by revert c; decide))
theorem dev4_6 (c : Dev nD) : (⟨k4_dev6 c, k4_dev6_lt c⟩ : Dev nD) = peer 6 c := Fin.ext ((k4_dev6_eq c).trans (by revert c; decide))
theorem dev4_7 (c : Dev nD) : (⟨k4_dev7 c, k4_dev7_lt c⟩ : Dev nD) = peer 7 c := Fin.ext ((k4_dev7_eq c).trans (by revert c; decide))
theorem dev4_8 (c : Dev nD) : (⟨k4_dev8 c, k4_dev8_lt c⟩ : Dev nD) = peer 4 c := Fin.ext ((k4_dev8_eq c).trans (by revert c; decide))
theorem dev4_9 (c : Dev nD) : (⟨k4_dev9 c, k4_dev9_lt c⟩ : Dev nD) = peer 4 c := Fin.ext ((k4_dev9_eq c).trans (by revert c; decide))
theorem dev4_10 (c : Dev nD) : (⟨k4_dev10 c, k4_dev10_lt c⟩ : Dev nD) = peer 2 c := Fin.ext ((k4_dev10_eq c).trans (by revert c; decide))
theorem dev4_11 (c : Dev nD) : (⟨k4_dev11 c, k4_dev11_lt c⟩ : Dev nD) = peer 2 c := Fin.ext ((k4_dev11_eq c).trans (by revert c; decide))
theorem dev4_12 (c : Dev nD) : (⟨k4_dev12 c, k4_dev12_lt c⟩ : Dev nD) = peer 6 c := Fin.ext ((k4_dev12_eq c).trans (by revert c; decide))
theorem dev4_13 (c : Dev nD) : (⟨k4_dev13 c, k4_dev13_lt c⟩ : Dev nD) = peer 6 c := Fin.ext ((k4_dev13_eq c).trans (by revert c; decide))
theorem dev8_1 (c : Dev nD) : (⟨k8_dev1 c, k8_dev1_lt c⟩ : Dev nD) = peer 1 c := Fin.ext ((k8_dev1_eq c).trans (by revert c; decide))
theorem dev8_2 (c : Dev nD) : (⟨k8_dev2 c, k8_dev2_lt c⟩ : Dev nD) = peer 2 c := Fin.ext ((k8_dev2_eq c).trans (by revert c; decide))
theorem dev8_3 (c : Dev nD) : (⟨k8_dev3 c, k8_dev3_lt c⟩ : Dev nD) = peer 3 c := Fin.ext ((k8_dev3_eq c).trans (by revert c; decide))
theorem dev8_4 (c : Dev nD) : (⟨k8_dev4 c, k8_dev4_lt c⟩ : Dev nD) = peer 4 c := Fin.ext ((k8_dev4_eq c).trans (by revert c; decide))
theorem dev8_5 (c : Dev nD) : (⟨k8_dev5 c, k8_dev5_lt c⟩ : Dev nD) = peer 5 c := Fin.ext ((k8_dev5_eq c).trans (by revert c; decide))
theorem dev8_6 (c : Dev nD) : (⟨k8_dev6 c, k8_dev6_lt c⟩ : Dev nD) = peer 6 c := Fin.ext ((k8_dev6_eq c).trans (by revert c; decide))
theorem dev8_7 (c : Dev nD) : (⟨k8_dev7 c, k8_dev7_lt c⟩ : Dev nD) = peer 7 c := Fin.ext ((k8_dev7_eq c).trans (by revert c; decide))
theorem dev8_8 (c : Dev nD) : (⟨k8_dev8 c, k8_dev8_lt c⟩ : Dev nD) = peer 1 c := Fin.ext ((k8_dev8_eq c).trans (by revert c; decide))
theorem dev8_9 (c : Dev nD) : (⟨k8_dev9 c, k8_dev9_lt c⟩ : Dev nD) = peer 1 c := Fin.ext ((k8_dev9_eq c).trans (by revert c; decide))

/-! ## The cells -/

/-- The exchanges' semaphores: the barrier of each of the three start kernels, and for each of the ten transfers the
semaphore its source device waits on and the one its destination device waits on. Transfers 0, 1 are the swap's, 2–7
the scatter's, 8, 9 the join's. -/
abbrev Ck : Type := Fin 3 ⊕ (Fin 10 ⊕ Fin 10)
abbrev bar (e : Fin 3) : Ck := .inl e
abbrev snd (j : Fin 10) : Ck := .inr (.inl j)
abbrev rcv (j : Fin 10) : Ck := .inr (.inr j)

abbrev barS : Fin 3 → Sem sig := fun
  | 0 => (SemArray.scalar (sig.barrier 0 rfl) : Sems sig S_).sem
  | 1 => (SemArray.scalar (sig.barrier 1 rfl) : Sems sig S_).sem
  | 2 => (SemArray.scalar (sig.barrier 2 rfl) : Sems sig S_).sem

abbrev sndS : Fin 10 → DmaSem sig := fun
  | 0 => ((main_v22_0.slice (Rect.unit (s := S2) ![0] S1.size inb_S2_S1_0)).squeeze S_ squeezes_S1_S_).sem
  | 1 => ((main_v22_0.slice (Rect.unit (s := S2) ![1] S1.size inb_S2_S1_1)).squeeze S_ squeezes_S1_S_).sem
  | 2 => ((main_v26_0.slice (Rect.unit (s := S6) ![0] S1.size inb_S6_S1_0)).squeeze S_ squeezes_S1_S_).sem
  | 3 => ((main_v26_0.slice (Rect.unit (s := S6) ![1] S1.size inb_S6_S1_1)).squeeze S_ squeezes_S1_S_).sem
  | 4 => ((main_v26_0.slice (Rect.unit (s := S6) ![2] S1.size inb_S6_S1_2)).squeeze S_ squeezes_S1_S_).sem
  | 5 => ((main_v26_0.slice (Rect.unit (s := S6) ![3] S1.size inb_S6_S1_3)).squeeze S_ squeezes_S1_S_).sem
  | 6 => ((main_v26_0.slice (Rect.unit (s := S6) ![4] S1.size inb_S6_S1_4)).squeeze S_ squeezes_S1_S_).sem
  | 7 => ((main_v26_0.slice (Rect.unit (s := S6) ![5] S1.size inb_S6_S1_5)).squeeze S_ squeezes_S1_S_).sem
  | 8 => ((main_v30_0.slice (Rect.unit (s := S2) ![0] S1.size inb_S2_S1_0)).squeeze S_ squeezes_S1_S_).sem
  | 9 => ((main_v30_0.slice (Rect.unit (s := S2) ![1] S1.size inb_S2_S1_1)).squeeze S_ squeezes_S1_S_).sem

abbrev rcvS : Fin 10 → DmaSem sig := fun
  | 0 => ((main_v22_1.slice (Rect.unit (s := S2) ![0] S1.size inb_S2_S1_0)).squeeze S_ squeezes_S1_S_).sem
  | 1 => ((main_v22_1.slice (Rect.unit (s := S2) ![1] S1.size inb_S2_S1_1)).squeeze S_ squeezes_S1_S_).sem
  | 2 => ((main_v26_1.slice (Rect.unit (s := S6) ![0] S1.size inb_S6_S1_0)).squeeze S_ squeezes_S1_S_).sem
  | 3 => ((main_v26_1.slice (Rect.unit (s := S6) ![1] S1.size inb_S6_S1_1)).squeeze S_ squeezes_S1_S_).sem
  | 4 => ((main_v26_1.slice (Rect.unit (s := S6) ![2] S1.size inb_S6_S1_2)).squeeze S_ squeezes_S1_S_).sem
  | 5 => ((main_v26_1.slice (Rect.unit (s := S6) ![3] S1.size inb_S6_S1_3)).squeeze S_ squeezes_S1_S_).sem
  | 6 => ((main_v26_1.slice (Rect.unit (s := S6) ![4] S1.size inb_S6_S1_4)).squeeze S_ squeezes_S1_S_).sem
  | 7 => ((main_v26_1.slice (Rect.unit (s := S6) ![5] S1.size inb_S6_S1_5)).squeeze S_ squeezes_S1_S_).sem
  | 8 => ((main_v30_1.slice (Rect.unit (s := S2) ![0] S1.size inb_S2_S1_0)).squeeze S_ squeezes_S1_S_).sem
  | 9 => ((main_v30_1.slice (Rect.unit (s := S2) ![1] S1.size inb_S2_S1_1)).squeeze S_ squeezes_S1_S_).sem

/-- The semaphore of a key. -/
abbrev osem : Ck → SemLoc sig := fun
  | .inl e => .reg (barS e)
  | .inr (.inl j) => .dma (sndS j)
  | .inr (.inr j) => .dma (rcvS j)

/-- A key's cell on a device. -/
abbrev kcell (c : Dev nD) (k : Ck) : GSem nD τ sig := ((c : Thread nD τ), osem k)

/-- Every key, in a list. -/
def allCk : List Ck :=
  [bar 0, bar 1, bar 2, snd 0, snd 1, snd 2, snd 3, snd 4, snd 5, snd 6, snd 7, snd 8, snd 9,
   rcv 0, rcv 1, rcv 2, rcv 3, rcv 4, rcv 5, rcv 6, rcv 7, rcv 8, rcv 9]

/-- The key of a semaphore, if it has one. -/
def cellIx (s : SemLoc sig) : Option Ck := allCk.find? fun k => decide (osem k = s)

theorem cellIx_osem : ∀ k : Ck, cellIx (osem k) = some k := by decide

theorem osem_injective : Function.Injective osem := fun a b h => by
  have := cellIx_osem a
  rw [h, cellIx_osem b] at this
  exact (Option.some.inj this).symm

theorem kcell_injective : Function.Injective fun x : Dev nD × Ck => kcell x.1 x.2 := fun a b h => by
  have h1 : a.1 = b.1 := by have := congrArg (fun g : GSem nD τ sig => g.1.1) h; exact this
  have h2 : a.2 = b.2 := osem_injective (congrArg (fun g : GSem nD τ sig => g.2) h)
  exact Prod.ext h1 h2

/-- What a transfer credits. -/
abbrev N : Fin 10 → ℕ := fun
  | 0 => (Memref.whole main_v18 : Memref sig .tc .hbm S4x1024x2048 .f32).view.dmaCredit
  | 1 => (Memref.whole main_v19 : Memref sig .tc .hbm S4x256x2048 .f32).view.dmaCredit
  | 2 | 4 | 6 => (((Memref.whole main_v20 : Memref sig .tc .hbm S3x1024x2048 .bf16).slice (Rect.unit (s := S3x1024x2048) ![0, 0, 0] S1x1024x2048.size inb_S3x1024x2048_S1x1024x2048_0_0_0) (fun _ => rfl)).squeeze S1024x2048 squeezes_S1x1024x2048_S1024x2048).view.dmaCredit
  | 3 | 5 | 7 => (((Memref.whole main_v21 : Memref sig .tc .hbm S3x256x2048 .bf16).slice (Rect.unit (s := S3x256x2048) ![0, 0, 0] S1x256x2048.size inb_S3x256x2048_S1x256x2048_0_0_0) (fun _ => rfl)).squeeze S256x2048 squeezes_S1x256x2048_S256x2048).view.dmaCredit
  | 8 => ((Memref.whole main_v28 : Memref sig .tc .hbm S2048x2048 .f32).slice (Rect.unit (s := S2048x2048) (k8_off1 0) S1024x2048.size (k8_off1_inb 0)) (fun _ => rfl)).view.dmaCredit
  | 9 => ((Memref.whole main_v29 : Memref sig .tc .hbm S512x2048 .f32).slice (Rect.unit (s := S512x2048) (k8_off2 0) S256x2048.size (k8_off2_inb 0)) (fun _ => rfl)).view.dmaCredit

theorem N_pos (j : Fin 10) : 0 < N j := by
  fin_cases j <;> exact View.dmaCredit_pos _ (by decide)

/-- What one duty of a cell raises it by. -/
def amt : Ck → ℕ
  | .inl _ => 1
  | .inr (.inl j) => N j
  | .inr (.inr j) => N j

theorem amt_pos : ∀ k, 0 < amt k
  | .inl _ => Nat.one_pos
  | .inr (.inl j) => N_pos j
  | .inr (.inr j) => N_pos j

/-- The bits in which a transfer's two ends differ. -/
def mask : Fin 10 → Fin 8 := ![1, 1, 4, 4, 2, 2, 6, 6, 1, 1]

/-- Which device pays duty `i` of a key's cell on `c`: `peer (payer k i) c`. -/
def payer : Ck → Fin 8 → Fin 8
  | .inl _, i => i
  | .inr (.inl _), _ => 0
  | .inr (.inr j), _ => mask j

/-! ## What a device owes, and the levels -/

/-- What a device pays over its run, in order: each entry names a peer and a key. -/
def dues : List (Fin 8 × Ck) :=
  [(1, bar 0), (2, bar 0), (3, bar 0), (4, bar 0), (5, bar 0), (6, bar 0), (7, bar 0), (1, rcv 0), (1, rcv 1),
   (1, bar 1), (2, bar 1), (3, bar 1), (4, bar 1), (5, bar 1), (6, bar 1), (7, bar 1),
   (4, rcv 2), (4, rcv 3), (2, rcv 4), (2, rcv 5), (6, rcv 6), (6, rcv 7),
   (1, bar 2), (2, bar 2), (3, bar 2), (4, bar 2), (5, bar 2), (6, bar 2), (7, bar 2), (1, rcv 8), (1, rcv 9)]

/-- What a list of dues comes to for device `c`. -/
def owed (c : Dev nD) : List (Fin 8 × Ck) → CellTallies nD τ sig Unit
  | [] => 0
  | x :: l => owed c l + tallyAt (kcell (peer x.1 c) x.2) () (amt x.2)

theorem owed_pos (c : Dev nD) : ∀ (l : List (Fin 8 × Ck)) (g : GSem nD τ sig) (u : Unit), 0 < owed c l g u →
    ∃ x ∈ l, g = kcell (peer x.1 c) x.2
  | [], g, u, h => absurd h (Nat.lt_irrefl 0)
  | x :: l, g, u, h => by
    have h' : 0 < owed c l g u + tallyAt (kcell (peer x.1 c) x.2) () (amt x.2) g u := h
    rw [tallyAt_apply] at h'
    by_cases hg : g = kcell (peer x.1 c) x.2 ∧ u = ()
    · exact ⟨x, List.mem_cons_self, hg.1⟩
    · rw [if_neg hg, Nat.add_zero] at h'
      obtain ⟨y, hy, e⟩ := owed_pos c l g u h'
      exact ⟨y, List.mem_cons_of_mem _ hy, e⟩

/-- A key's level: each exchange's barrier below its landings, each exchange below the next. -/
def clev : Ck → ℕ
  | .inl e => 2 * e.val + 1
  | .inr (.inl _) => 0
  | .inr (.inr j) => if j.val < 2 then 2 else if j.val < 8 then 4 else 6

def L (g : GSem nD τ sig) : Finset Unit := if g.1.2 = .tc then {()} else ∅
def lv (g : GSem nD τ sig) (_ : Unit) : ℕ := match cellIx g.2 with | some k => clev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Ck) : lv (kcell c k) () = clev k := by unfold lv; rw [cellIx_osem]

/-- A device may wait on a semaphore while everything it still owes is on cells of higher level. -/
theorem mayWait (c : Dev nD) (s : SemLoc sig) (b : ℕ) (hb : lv ((c : Thread nD τ), s) () ≤ b) (l : List (Fin 8 × Ck))
    (hl : ∀ x ∈ l, b < clev x.2) : (levAts L lv : sProp 𝕄) ⊢ MayWait (c : Thread nD τ) s () (owed c l) :=
  MayOwe.of_cut (L := L) (lev := lv) b
    (fun p hp => by rw [Finset.mem_singleton.mp hp, L_tc]; exact Finset.mem_singleton_self _)
    (fun g u hg => by obtain ⟨x, -, rfl⟩ := owed_pos c l g u hg; rw [L_tc]; exact Finset.mem_singleton_self _)
    (fun p hp => by rw [Finset.mem_singleton.mp hp]; exact hb)
    (fun g u hg => by obtain ⟨x, hx, rfl⟩ := owed_pos c l g u hg; rw [lv_kcell]; exact hl x hx)

/-- `mayWait` at an exchange's own cell. -/
theorem mayWait_key (c : Dev nD) (k : Ck) (l : List (Fin 8 × Ck)) (hl : ∀ x ∈ l, clev k < clev x.2) :
    (levAts L lv : sProp 𝕄) ⊢ MayWait (c : Thread nD τ) (osem k) () (owed c l) :=
  mayWait c (osem k) (clev k) (le_of_eq (lv_kcell c k)) l hl

/-- All devices' dues on one cell: as many entries as the list has for its key. -/
theorem owed_total (c : Dev nD) (k : Ck) : ∀ l : List (Fin 8 × Ck),
    ∑ d : Dev nD, owed d l (kcell c k) () = (l.filter fun x => decide (x.2 = k)).length * amt k
  | [] => by
    rw [List.filter_nil, List.length_nil, Nat.zero_mul]
    exact Finset.sum_eq_zero fun _ _ => rfl
  | x :: l => by
    have ih := owed_total c k l
    have hx : ∑ d : Dev nD, tallyAt (kcell (peer x.1 d) x.2) () (amt x.2) (kcell c k) () = if x.2 = k then amt k else 0 := by
      rw [Finset.sum_eq_single (peer x.1 c)]
      · rw [tallyAt_apply, peer_peer]
        by_cases h : x.2 = k
        · rw [h, if_pos ⟨rfl, rfl⟩, if_pos rfl]
        · rw [if_neg, if_neg h]
          rintro ⟨h', -⟩
          exact h (congrArg Prod.snd (kcell_injective (a₁ := (c, k)) (a₂ := (c, x.2)) h')).symm
      · intro d _ hd
        rw [tallyAt_apply, if_neg]
        rintro ⟨h', -⟩
        have := congrArg Prod.fst (kcell_injective (a₁ := (c, k)) (a₂ := (peer x.1 d, x.2)) h')
        exact hd (by rw [show c = peer x.1 d from this, peer_peer])
      · intro h; exact absurd (Finset.mem_univ _) h
    show ∑ d : Dev nD, (owed d l (kcell c k) () + tallyAt (kcell (peer x.1 d) x.2) () (amt x.2) (kcell c k) ()) = _
    rw [Finset.sum_add_distrib, ih, hx, List.filter_cons]
    by_cases h : x.2 = k
    · rw [if_pos h, if_pos (decide_eq_true h), List.length_cons, Nat.succ_mul]
    · rw [if_neg h, if_neg (by rw [decide_eq_false h]; decide)]; rfl

/-- What a device waits for on a key's cell without having issued it itself: seven units on a barrier, a whole transfer
on a landing, nothing on a source's semaphore. -/
def crd : Ck → ℕ
  | .inl _ => 7
  | .inr (.inl _) => 0
  | .inr (.inr j) => N j

theorem dues_total (c : Dev nD) (k : Ck) : ∑ d : Dev nD, owed d dues (kcell c k) () = crd k := by
  rw [owed_total]
  have h : ∀ k : Ck, (dues.filter fun x => decide (x.2 = k)).length = match k with | .inl _ => 7 | .inr (.inl _) => 0 | .inr (.inr _) => 1 := by decide
  rw [h k]
  match k with
  | .inl _ => rfl
  | .inr (.inl _) => exact Nat.zero_mul _
  | .inr (.inr _) => exact Nat.one_mul _

end Cert.Run
-- ==== Proof.Sched.lean ====
module

public import proofs.«01_k».proof.Proof.Mesh

@[expose] public section

/-! The exchanges' schedule: what each signal, each source and each landing hands over; the rules for an exchange's
signals, waits and transfers. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The views that the transfers read and write -/

/-- The half of its gradient that device `c` hands to its sibling core, of the input projection's, -/
abbrev swI (c : Dev nD) : Memref sig .tc .hbm S4x1024x2048 .f32 :=
  (Memref.whole main_v22_2 : Memref sig .tc .hbm S4x2048x2048 .f32).slice (Rect.unit (s := S4x2048x2048) (k0_off1 c) S4x1024x2048.size (k0_off1_inb c)) (fun _ => rfl)
/-- and of the output projection's. -/
abbrev swO (c : Dev nD) : Memref sig .tc .hbm S4x256x2048 .f32 :=
  (Memref.whole main_v22_3 : Memref sig .tc .hbm S4x512x2048 .f32).slice (Rect.unit (s := S4x512x2048) (k0_off2 c) S4x256x2048.size (k0_off2_inb c)) (fun _ => rfl)
/-- The sibling's half lands here. -/
abbrev sbI : Memref sig .tc .hbm S4x1024x2048 .f32 := Memref.whole main_v18
abbrev sbO : Memref sig .tc .hbm S4x256x2048 .f32 := Memref.whole main_v19
/-- The quarter of the pair sum that device `c` hands to each other chip. -/
abbrev scI0 (c : Dev nD) : Memref sig .tc .hbm S1024x2048 .bf16 :=
  ((Memref.whole main_v24_0 : Memref sig .tc .hbm S4x1024x2048 .bf16).slice (Rect.unit (s := S4x1024x2048) (k4_off1 c) S1x1024x2048.size (k4_off1_inb c)) (fun _ => rfl)).squeeze S1024x2048 squeezes_S1x1024x2048_S1024x2048
abbrev scI1 (c : Dev nD) : Memref sig .tc .hbm S1024x2048 .bf16 :=
  ((Memref.whole main_v24_0 : Memref sig .tc .hbm S4x1024x2048 .bf16).slice (Rect.unit (s := S4x1024x2048) (k4_off3 c) S1x1024x2048.size (k4_off3_inb c)) (fun _ => rfl)).squeeze S1024x2048 squeezes_S1x1024x2048_S1024x2048
abbrev scI2 (c : Dev nD) : Memref sig .tc .hbm S1024x2048 .bf16 :=
  ((Memref.whole main_v24_0 : Memref sig .tc .hbm S4x1024x2048 .bf16).slice (Rect.unit (s := S4x1024x2048) (k4_off5 c) S1x1024x2048.size (k4_off5_inb c)) (fun _ => rfl)).squeeze S1024x2048 squeezes_S1x1024x2048_S1024x2048
abbrev scO0 (c : Dev nD) : Memref sig .tc .hbm S256x2048 .bf16 :=
  ((Memref.whole main_v25_0 : Memref sig .tc .hbm S4x256x2048 .bf16).slice (Rect.unit (s := S4x256x2048) (k4_off2 c) S1x256x2048.size (k4_off2_inb c)) (fun _ => rfl)).squeeze S256x2048 squeezes_S1x256x2048_S256x2048
abbrev scO1 (c : Dev nD) : Memref sig .tc .hbm S256x2048 .bf16 :=
  ((Memref.whole main_v25_0 : Memref sig .tc .hbm S4x256x2048 .bf16).slice (Rect.unit (s := S4x256x2048) (k4_off4 c) S1x256x2048.size (k4_off4_inb c)) (fun _ => rfl)).squeeze S256x2048 squeezes_S1x256x2048_S256x2048
abbrev scO2 (c : Dev nD) : Memref sig .tc .hbm S256x2048 .bf16 :=
  ((Memref.whole main_v25_0 : Memref sig .tc .hbm S4x256x2048 .bf16).slice (Rect.unit (s := S4x256x2048) (k4_off6 c) S1x256x2048.size (k4_off6_inb c)) (fun _ => rfl)).squeeze S256x2048 squeezes_S1x256x2048_S256x2048
/-- The other chips' quarters land here. -/
abbrev rvI0 : Memref sig .tc .hbm S1024x2048 .bf16 :=
  ((Memref.whole main_v20 : Memref sig .tc .hbm S3x1024x2048 .bf16).slice (Rect.unit (s := S3x1024x2048) ![0, 0, 0] S1x1024x2048.size inb_S3x1024x2048_S1x1024x2048_0_0_0) (fun _ => rfl)).squeeze S1024x2048 squeezes_S1x1024x2048_S1024x2048
abbrev rvI1 : Memref sig .tc .hbm S1024x2048 .bf16 :=
  ((Memref.whole main_v20 : Memref sig .tc .hbm S3x1024x2048 .bf16).slice (Rect.unit (s := S3x1024x2048) ![1, 0, 0] S1x1024x2048.size inb_S3x1024x2048_S1x1024x2048_1_0_0) (fun _ => rfl)).squeeze S1024x2048 squeezes_S1x1024x2048_S1024x2048
abbrev rvI2 : Memref sig .tc .hbm S1024x2048 .bf16 :=
  ((Memref.whole main_v20 : Memref sig .tc .hbm S3x1024x2048 .bf16).slice (Rect.unit (s := S3x1024x2048) ![2, 0, 0] S1x1024x2048.size inb_S3x1024x2048_S1x1024x2048_2_0_0) (fun _ => rfl)).squeeze S1024x2048 squeezes_S1x1024x2048_S1024x2048
abbrev rvO0 : Memref sig .tc .hbm S256x2048 .bf16 :=
  ((Memref.whole main_v21 : Memref sig .tc .hbm S3x256x2048 .bf16).slice (Rect.unit (s := S3x256x2048) ![0, 0, 0] S1x256x2048.size inb_S3x256x2048_S1x256x2048_0_0_0) (fun _ => rfl)).squeeze S256x2048 squeezes_S1x256x2048_S256x2048
abbrev rvO1 : Memref sig .tc .hbm S256x2048 .bf16 :=
  ((Memref.whole main_v21 : Memref sig .tc .hbm S3x256x2048 .bf16).slice (Rect.unit (s := S3x256x2048) ![1, 0, 0] S1x256x2048.size inb_S3x256x2048_S1x256x2048_1_0_0) (fun _ => rfl)).squeeze S256x2048 squeezes_S1x256x2048_S256x2048
abbrev rvO2 : Memref sig .tc .hbm S256x2048 .bf16 :=
  ((Memref.whole main_v21 : Memref sig .tc .hbm S3x256x2048 .bf16).slice (Rect.unit (s := S3x256x2048) ![2, 0, 0] S1x256x2048.size inb_S3x256x2048_S1x256x2048_2_0_0) (fun _ => rfl)).squeeze S256x2048 squeezes_S1x256x2048_S256x2048
/-- The half of the result that device `c` has made and hands to its sibling core. -/
abbrev jnI (c : Dev nD) : Memref sig .tc .hbm S1024x2048 .f32 :=
  (Memref.whole main_v28 : Memref sig .tc .hbm S2048x2048 .f32).slice (Rect.unit (s := S2048x2048) (k8_off1 c) S1024x2048.size (k8_off1_inb c)) (fun _ => rfl)
abbrev jnO (c : Dev nD) : Memref sig .tc .hbm S256x2048 .f32 :=
  (Memref.whole main_v29 : Memref sig .tc .hbm S512x2048 .f32).slice (Rect.unit (s := S512x2048) (k8_off2 c) S256x2048.size (k8_off2_inb c)) (fun _ => rfl)

/-- What the view `v` reaches on device `c`, held at `f`; and at anything. -/
def vpts {s : Shape} {e : EltTy} (c : Dev nD) (v : Memref sig .tc .hbm s e) (f : Buf (Elt F) (v.view.loc (c : Thread nD τ))) : sProp 𝕄 :=
  v.view.loc (c : Thread nD τ) ↦[v.view.set]{fullShare} f
def vany {s : Shape} {e : EltTy} (c : Dev nD) (v : Memref sig .tc .hbm s e) : sProp 𝕄 :=
  iprop(∃ f, vpts (F := F) c v f)
/-- The view `v` on device `c` after a transfer from the view `u` of device `d`, whose buffer holds `g`. -/
def vgot {s : Shape} {e : EltTy} (c d : Dev nD) (v u : Memref sig .tc .hbm s e) (g : Buf (Elt F) (u.view.loc (d : Thread nD τ))) : sProp 𝕄 :=
  iprop(∃ f, vpts (F := F) c v (v.view.write (Elt F) f (u.view.read (Elt F) g) Finset.univ))

instance vpts_storable {s : Shape} {e : EltTy} (c : Dev nD) (v : Memref sig .tc .hbm s e) (f : Buf (Elt F) (v.view.loc (c : Thread nD τ))) :
    BI.Storable (upEmb : UEmb _ 𝕄) (vpts c v f) := by unfold vpts; infer_instance
instance vany_storable {s : Shape} {e : EltTy} (c : Dev nD) (v : Memref sig .tc .hbm s e) :
    BI.Storable (upEmb : UEmb _ 𝕄) (vany (F := F) c v) := by unfold vany; infer_instance
instance vgot_storable {s : Shape} {e : EltTy} (c d : Dev nD) (v u : Memref sig .tc .hbm s e) (g : Buf (Elt F) (u.view.loc (d : Thread nD τ))) :
    BI.Storable (upEmb : UEmb _ 𝕄) (vgot c d v u g) := by unfold vgot; infer_instance

variable (A B C : Dev nD → Valuation τ sig (Elt F))

/-- What device `c` lent its peer `peer i c` when it signals it in exchange `e`: the places there where that peer's
transfers land. -/
def land (c : Dev nD) : Fin 3 → Fin 8 → sProp 𝕄 := fun
  | 0, 1 => iprop(vany c sbI ∗ vany c sbO)
  | 1, 4 => iprop(vany c rvI0 ∗ vany c rvO0)
  | 1, 2 => iprop(vany c rvI1 ∗ vany c rvO1)
  | 1, 6 => iprop(vany c rvI2 ∗ vany c rvO2)
  | 2, 1 => iprop(vany c (jnI (peer 1 c)) ∗ vany c (jnO (peer 1 c)))
  | _, _ => iprop(emp)

/-- What comes back when transfer `j` has left device `c`: its source. -/
def left (c : Dev nD) : Fin 10 → sProp 𝕄 := fun
  | 0 => vpts c (swI c) (A c (Proc.devRef .tc main_v22_2))
  | 1 => vpts c (swO c) (A c (Proc.devRef .tc main_v22_3))
  | 2 => vpts c (scI0 c) (B c (Proc.devRef .tc main_v24_0))
  | 3 => vpts c (scO0 c) (B c (Proc.devRef .tc main_v25_0))
  | 4 => vpts c (scI1 c) (B c (Proc.devRef .tc main_v24_0))
  | 5 => vpts c (scO1 c) (B c (Proc.devRef .tc main_v25_0))
  | 6 => vpts c (scI2 c) (B c (Proc.devRef .tc main_v24_0))
  | 7 => vpts c (scO2 c) (B c (Proc.devRef .tc main_v25_0))
  | 8 => vpts c (jnI c) (C c (Proc.devRef .tc main_v28))
  | 9 => vpts c (jnO c) (C c (Proc.devRef .tc main_v29))

/-- What transfer `j` brings device `c`: the place it lands in, holding what the sender read. -/
def came (c : Dev nD) : Fin 10 → sProp 𝕄 := fun
  | 0 => vgot c (peer 1 c) sbI (swI (peer 1 c)) (A (peer 1 c) (Proc.devRef .tc main_v22_2))
  | 1 => vgot c (peer 1 c) sbO (swO (peer 1 c)) (A (peer 1 c) (Proc.devRef .tc main_v22_3))
  | 2 => vgot c (peer 4 c) rvI0 (scI0 (peer 4 c)) (B (peer 4 c) (Proc.devRef .tc main_v24_0))
  | 3 => vgot c (peer 4 c) rvO0 (scO0 (peer 4 c)) (B (peer 4 c) (Proc.devRef .tc main_v25_0))
  | 4 => vgot c (peer 2 c) rvI1 (scI1 (peer 2 c)) (B (peer 2 c) (Proc.devRef .tc main_v24_0))
  | 5 => vgot c (peer 2 c) rvO1 (scO1 (peer 2 c)) (B (peer 2 c) (Proc.devRef .tc main_v25_0))
  | 6 => vgot c (peer 6 c) rvI2 (scI2 (peer 6 c)) (B (peer 6 c) (Proc.devRef .tc main_v24_0))
  | 7 => vgot c (peer 6 c) rvO2 (scO2 (peer 6 c)) (B (peer 6 c) (Proc.devRef .tc main_v25_0))
  | 8 => vgot c (peer 1 c) (jnI (peer 1 c)) (jnI (peer 1 c)) (C (peer 1 c) (Proc.devRef .tc main_v28))
  | 9 => vgot c (peer 1 c) (jnO (peer 1 c)) (jnO (peer 1 c)) (C (peer 1 c) (Proc.devRef .tc main_v29))

/-- What duty `i` of a key's cell on device `c` hands its owner. -/
def pay (c : Dev nD) : Ck → Fin 8 → sProp 𝕄
  | .inl e, i => land (peer i c) e i
  | .inr (.inl j), _ => left A B C c j
  | .inr (.inr j), _ => came A B C c j

instance land_storable (c : Dev nD) (e : Fin 3) (i : Fin 8) : BI.Storable (upEmb : UEmb _ 𝕄) (land (F := F) c e i) := by
  unfold land; split <;> infer_instance
instance left_storable (c : Dev nD) (j : Fin 10) : BI.Storable (upEmb : UEmb _ 𝕄) (left A B C c j) := by
  unfold left; split <;> infer_instance
instance came_storable (c : Dev nD) (j : Fin 10) : BI.Storable (upEmb : UEmb _ 𝕄) (came A B C c j) := by
  unfold came; split <;> infer_instance
instance pay_storable (c : Dev nD) : ∀ (k : Ck) (i : Fin 8), BI.Storable (upEmb : UEmb _ 𝕄) (pay A B C c k i)
  | .inl e, i => land_storable (peer i c) e i
  | .inr (.inl j), _ => left_storable A B C c j
  | .inr (.inr j), _ => came_storable A B C c j

/-- The duties of a key's cell: seven on a barrier, one on the others. -/
def duts : Ck → Finset (Fin 8)
  | .inl _ => Finset.univ.erase 0
  | _ => {0}

/-- One round on every cell of the exchanges. -/
def Rd : Rounds.Schedule (GSem nD τ sig) (Fin 8) 𝕄 where
  duties g r := if r = 0 then (match cellIx g.2 with | some k => duts k | none => ∅) else ∅
  unitless _ := False
  amount g _ _ := match cellIx g.2 with | some k => amt k | none => 1
  payload g _ i := match cellIx g.2 with | some k => pay A B C g.1.1 k i | none => iprop(emp)
  amount_pos g _ _ _ := by
    cases cellIx g.2 with
    | none => exact Nat.one_pos
    | some k => exact amt_pos k

instance Rd_storable (g : GSem nD τ sig) (r : ℕ) (d : Fin 8) :
    BI.Storable (upEmb : UEmb _ 𝕄) ((Rd (F := F) A B C).payload g r d) := by
  show BI.Storable upEmb (match cellIx g.2 with | some k => pay A B C g.1.1 k d | none => iprop(emp))
  split <;> infer_instance

theorem duties_eq (c : Dev nD) (k : Ck) : (Rd (F := F) A B C).duties (kcell c k) 0 = duts k := by
  dsimp only [Rd]; rw [if_pos rfl, cellIx_osem]
theorem duties_later (g : GSem nD τ sig) : ∀ r, 1 ≤ r → (Rd (F := F) A B C).duties g r = ∅ :=
  fun r hr => by dsimp only [Rd]; exact if_neg (by omega)
theorem amount_eq (c : Dev nD) (k : Ck) (i : Fin 8) : (Rd (F := F) A B C).amount (kcell c k) 0 i = amt k := by
  dsimp only [Rd]; rw [cellIx_osem]
theorem payload_eq (c : Dev nD) (k : Ck) (i : Fin 8) : (Rd (F := F) A B C).payload (kcell c k) 0 i = pay A B C c k i := by
  dsimp only [Rd]; rw [cellIx_osem]

theorem expect_eq (c : Dev nD) (k : Ck) : (Rd (F := F) A B C).expect (kcell c k) 0 = (duts k).card * amt k := by
  unfold Schedule.expect Schedule.amountOf
  rw [duties_eq, Finset.sum_congr rfl fun i _ => amount_eq A B C c k i, Finset.sum_const, smul_eq_mul]

theorem rest_bar (c : Dev nD) (e : Fin 3) :
    bigSep ((Rd (F := F) A B C).duties (kcell c (bar e)) 0 \ ∅) (fun i => (Rd (F := F) A B C).payload (kcell c (bar e)) 0 i)
      = iprop(land (peer 1 c) e 1 ∗ land (peer 2 c) e 2 ∗ land (peer 3 c) e 3 ∗ land (peer 4 c) e 4 ∗ land (peer 5 c) e 5
        ∗ land (peer 6 c) e 6 ∗ land (peer 7 c) e 7) := by
  rw [Finset.sdiff_empty, duties_eq, bigSep_congr fun i _ => payload_eq A B C c (bar e) i,
    show duts (bar e) = Finset.univ.erase 0 from rfl, bigSep_eq_bigSepL_of_eq [1, 2, 3, 4, 5, 6, 7] (by decide) (by decide)]
  rfl
theorem rest_snd (c : Dev nD) (j : Fin 10) :
    bigSep ((Rd (F := F) A B C).duties (kcell c (snd j)) 0 \ ∅) (fun i => (Rd (F := F) A B C).payload (kcell c (snd j)) 0 i) = left A B C c j := by
  rw [Finset.sdiff_empty, duties_eq, show duts (snd j) = {0} from rfl, bigSep_singleton, payload_eq]; rfl
theorem rest_rcv (c : Dev nD) (j : Fin 10) :
    bigSep ((Rd (F := F) A B C).duties (kcell c (rcv j)) 0 \ ∅) (fun i => (Rd (F := F) A B C).payload (kcell c (rcv j)) 0 i) = came A B C c j := by
  rw [Finset.sdiff_empty, duties_eq, show duts (rcv j) = {0} from rfl, bigSep_singleton, payload_eq]; rfl

/-! ## The shared ghost state and the rules -/

/-- The invariants of all cells under the names `K`, each at round 0, and the levels. Persistent. -/
def recs (K : Dev nD × Ck → ℕ) : sProp 𝕄 :=
  iprop((bigSep Finset.univ fun x : Dev nD × Ck => iprop(cellInv ER (Rd A B C) (K x) (kcell x.1 x.2) ∗ reached ER (kcell x.1 x.2) 0)) ∗ levAts L lv)

instance recs_persistent (K : Dev nD × Ck → ℕ) : BI.Persistent (recs A B C K) := by unfold recs; infer_instance

theorem recs_cell (K : Dev nD × Ck → ℕ) (c : Dev nD) (k : Ck) :
    recs A B C K ⊢ iprop(cellInv ER (Rd A B C) (K (c, k)) (kcell c k) ∗ reached ER (kcell c k) 0) := by
  have h : (bigSep Finset.univ fun x : Dev nD × Ck => iprop(cellInv ER (Rd A B C) (K x) (kcell x.1 x.2) ∗ reached ER (kcell x.1 x.2) 0))
      ⊢ (iprop(cellInv ER (Rd A B C) (K (c, k)) (kcell c k) ∗ reached ER (kcell c k) 0) : sProp 𝕄) := bigSep_elim (Finset.mem_univ (c, k))
  unfold recs
  iintro ⟨#H, -⟩
  iapply h
  iexact H

/-- Device `c` owes the listed dues. -/
abbrev ow (c : Dev nD) (l : List (Fin 8 × Ck)) : sProp 𝕄 := iprop(∃ W, owes (c : Thread nD τ) (owed c l) W)

abbrev 𝒱₀ : Variants := Variants.none

/-- A signal to `peer i c`'s barrier: it hands over what that peer's transfers need here. -/
theorem wp_sig (K : Dev nD × Ck → ℕ) (c n : Dev nD) (e : Fin 3) (i : Fin 8) (hi : i ≠ 0) (hn : n = peer i c) (l : List (Fin 8 × Ck)) {b : Sem sig} (hb : b = barS e)
    {α : Type} {Q : α → sProp 𝕄} {k : PUnit → Prog (TpuEff nD τ sig (Elt F) Λ₀ .tc) α} :
    iprop(recs A B C K ∗ ow c ((i, bar e) :: l) ∗ dutyTok ER (kcell (peer i c) (bar e)) 0 i ∗ land c e i)
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) b (1#32).toNat) k) Q) := by
  subst hn hb
  iintro ⟨#HR, ⟨%W, HO⟩, Ht, Hl⟩ Hk
  ihave Hc := (recs_cell A B C K (peer i c) (bar e)) $$ HR
  icases Hc with ⟨#Hinv, #Hre⟩
  iapply (Rounds.wp_signal 𝒱₀ ER (Rd A B C) (c : Thread nD τ) none (dst := (peer i c : Thread nD τ)) (κ := K (peer i c, bar e)) (r := 0) (d := i)
      (by rw [show ((peer i c : Thread nD τ), SemLoc.reg (barS e)) = kcell (peer i c) (bar e) from rfl, duties_eq]; exact Finset.mem_erase.mpr ⟨hi, Finset.mem_univ _⟩)
      ((amount_eq A B C (peer i c) (bar e) i).trans rfl) () (owed c l) rfl (W := W)) $$ [HO Ht Hl]
  · isplitr; · iexact Hinv
    isplitl [HO]; · iexact HO
    isplitl [Ht]; · iexact Ht
    isplitl [Hl]
    · rw [show ((peer i c : Thread nD τ), SemLoc.reg (barS e)) = kcell (peer i c) (bar e) from rfl, payload_eq,
        show pay A B C (peer i c) (bar e) i = land (peer i (peer i c)) e i from rfl, peer_peer]
      iexact Hl
    · iexact Hre
  iintro HO
  iapply Hk
  iexists W
  iexact HO

/-- The wait for all seven peers' signals: each brings what this device's transfers need there. -/
theorem wp_bar (K : Dev nD × Ck → ℕ) (c : Dev nD) (e : Fin 3) (l : List (Fin 8 × Ck)) (hl : ∀ x ∈ l, clev (bar e) < clev x.2) {b : Sem sig} (hb : b = barS e)
    {α : Type} {Q : α → sProp 𝕄} {k : PUnit → Prog (TpuEff nD τ sig (Elt F) Λ₀ .tc) α} :
    iprop(recs A B C K ∗ ow c l ∗ cred (tallyAt (kcell c (bar e)) () 7) ∗ atPos ER (kcell c (bar e)) 0 ∅ 0)
      ⊢ iprop((ow c l ∗ atPos ER (kcell c (bar e)) (0 + 1) ∅ 0 ∗ land (peer 1 c) e 1 ∗ land (peer 2 c) e 2 ∗ land (peer 3 c) e 3 ∗ land (peer 4 c) e 4 ∗ land (peer 5 c) e 5
        ∗ land (peer 6 c) e 6 ∗ land (peer 7 c) e 7 -∗ wp frame (wpE (defs₀ (F := F)) 𝒱₀ (c : Thread nD τ) none) Set.univ (k ⟨⟩) Q)
          -∗ wp frame (wpE (defs₀ (F := F)) 𝒱₀ (c : Thread nD τ) none) Set.univ (.op (.semWait b (7#32).toNat) k) Q) := by
  subst hb
  iintro ⟨#HR, ⟨%W, HO⟩, Hc, Hat⟩ Hk
  ihave Hi := (recs_cell A B C K c (bar e)) $$ HR
  icases Hi with ⟨#Hinv, -⟩
  iapply (Rounds.wp_wait_rest_token 𝒱₀ ER (Rd A B C) (c : Thread nD τ) none (κ := K (c, bar e))
      (wpE_semWait_eq 𝒱₀ (c : Thread nD τ) none Set.univ) (Set.mem_univ _) () (O := owed c l) (W := W) (R := 0) (m := 0) (T := ∅)
      (by rw [show ((c : Thread nD τ), SemLoc.reg (barS e)) = kcell c (bar e) from rfl, expect_eq]; rfl)) $$ [Hc HO Hat]
  · isplitr; · iexact Hinv
    isplitl [Hc]; · iexact Hc
    isplitl [HO]; · iexact HO
    isplitr
    · iapply (mayWait_key c (bar e) l hl)
      unfold recs
      icases HR with ⟨-, Hlev⟩
      iexact Hlev
    iexact Hat
  iintro ⟨HO, Hat, -, Hpay⟩
  ihave Hp := (Entails.of_eq (rest_bar A B C c e)) $$ Hpay
  iapply Hk
  isplitl [HO]; · iexists (insert (SemLoc.reg (barS e), ()) W); iexact HO
  isplitl [Hat]; · iexact Hat
  iexact Hp

/-- A transfer: its source is lent to it, its landing place goes to the receiver with what was read. -/
theorem wp_xfer (K : Dev nD × Ck → ℕ) (j : Fin 10) (i : Fin 8) (c n : Dev nD) (hi : mask j = i) (hn : n = peer i c) {s : Shape} {e : EltTy}
    (src dst : Memref sig .tc .hbm s e) {sS rS : DmaSem sig} (hs : sS = sndS j) (hr : rS = rcvS j)
    {hsc : (dst : Memref sig (Dev.tc n : Thread nD τ).2.kind .hbm s e).view.ref.isScScratch = false}
    {hsrc : src.view.WordExact} {hdst : dst.view.WordExact}
    {hsem : DmaTarget.Typed .hbm (.dma rS) (.remote (Dev.tc n : Thread nD τ) (dst : Memref sig (Dev.tc n : Thread nD τ).2.kind .hbm s e) (.dma sS) hsc)}
    {α : Type} {Q : α → sProp 𝕄} {k : PUnit → Prog (TpuEff nD τ sig (Elt F) Λ₀ .tc) α}
    (fs : Buf (Elt F) (src.view.loc (c : Thread nD τ))) (l : List (Fin 8 × Ck))
    (hN : dst.view.dmaCredit = N j)
    (hp₁ : vpts c src fs ⊢ left A B C c j)
    (hp₂ : vgot (peer i c) c dst src fs ⊢ came A B C (peer i c) j) :
    iprop(recs A B C K ∗ vpts c src fs ∗ vany (F := F) (peer i c) dst ∗ ow c ((i, rcv j) :: l)
        ∗ dutyTok ER (kcell (peer 0 c) (snd j)) 0 0 ∗ dutyTok ER (kcell (peer (mask j) c) (rcv j)) 0 0)
      ⊢ iprop((cred (tallyAt (kcell c (snd j)) () (N j)) ∗ ow c l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hi hn hs hr
  unfold vany vpts
  iintro ⟨#HR, Hs, ⟨%fd, Hd⟩, ⟨%W, HO⟩, Ht₁, Ht₂⟩ Hk
  rw [peer_zero]
  ihave Hi := (recs_cell A B C K c (snd j)) $$ HR
  icases Hi with ⟨#Hi₁, #Hr₁⟩
  ihave Hi := (recs_cell A B C K (peer (mask j) c) (rcv j)) $$ HR
  icases Hi with ⟨#Hi₂, #Hr₂⟩
  iapply (Rounds.wp_send_pointsTo 𝒱₀ ER (Rd A B C) (c : Thread nD τ) none (κ₁ := K (c, snd j)) (κ₂ := K (peer (mask j) c, rcv j))
    (r₁ := 0) (r₂ := 0) (d₁ := 0) (d₂ := 0) (fd := fd) (fs := fs)
    (by rw [show ((c : Thread nD τ), SemLoc.dma (sndS j)) = kcell c (snd j) from rfl, duties_eq]; exact Finset.mem_singleton_self _)
    (by rw [show ((peer (mask j) c : Thread nD τ), SemLoc.dma (rcvS j)) = kcell (peer (mask j) c) (rcv j) from rfl, duties_eq]; exact Finset.mem_singleton_self _)
    () () (N j) (show dst.view.amount (SemLoc.dma (rcvS j)) = N j from hN) (amount_eq A B C c (snd j) 0) (amount_eq A B C (peer (mask j) c) (rcv j) 0) (owed c l) rfl (W := W)
    (by rw [show ((c : Thread nD τ), SemLoc.dma (sndS j)) = kcell c (snd j) from rfl, payload_eq]; exact hp₁)
    (by
      rw [show ((peer (mask j) c : Thread nD τ), SemLoc.dma (rcvS j)) = kcell (peer (mask j) c) (rcv j) from rfl, payload_eq]
      refine BI.Entails.trans ?_ hp₂
      exact exists_intro (Φ := fun f => vpts (peer (mask j) c) dst (dst.view.write (Elt F) f (src.view.read (Elt F) fs) Finset.univ)) fd)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- The wait for a transfer of one's own to have left: the source comes back. -/
theorem wp_left (K : Dev nD × Ck → ℕ) (c : Dev nD) (j : Fin 10) (l : List (Fin 8 × Ck)) (hl : ∀ x ∈ l, clev (snd j) < clev x.2) {sm : DmaSem sig} (hs : sm = sndS j)
    {s s' : Shape} {e e' : EltTy} {src : Memref sig .tc .hbm s' e'} {dst : Memref sig .tc .hbm s e} {hsrc : src.view.WordExact} {hdst : dst.view.WordExact}
    (hN : dst.view.dmaCredit = N j)
    {α : Type} {Q : α → sProp 𝕄} {k : PUnit → Prog (TpuEff nD τ sig (Elt F) Λ₀ .tc) α} :
    iprop(recs A B C K ∗ ow c l ∗ cred (tallyAt (kcell c (snd j)) () (N j)) ∗ atPos ER (kcell c (snd j)) 0 ∅ 0)
      ⊢ iprop((ow c l ∗ atPos ER (kcell c (snd j)) (0 + 1) ∅ 0 ∗ left A B C c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  iintro ⟨#HR, ⟨%W, HO⟩, Hc, Hat⟩ Hk
  ihave Hi := (recs_cell A B C K c (snd j)) $$ HR
  icases Hi with ⟨#Hinv, -⟩
  iapply (Rounds.wp_wait_rest_token 𝒱₀ ER (Rd A B C) (c : Thread nD τ) none (κ := K (c, snd j)) (k' := N j)
      (fun Kp => (wpE_waitDma2_eq 𝒱₀ (c : Thread nD τ) none Set.univ Kp).trans (by rw [hN])) (Set.mem_univ _) () (O := owed c l) (W := W) (R := 0) (m := 0) (T := ∅)
      (by rw [show ((c : Thread nD τ), SemLoc.dma (sndS j)) = kcell c (snd j) from rfl, expect_eq, Nat.zero_add]; exact (Nat.one_mul _).symm)) $$ [Hc HO Hat]
  · isplitr; · iexact Hinv
    isplitl [Hc]; · iexact Hc
    isplitl [HO]; · iexact HO
    isplitr
    · iapply (mayWait_key c (snd j) l hl)
      unfold recs
      icases HR with ⟨-, Hlev⟩
      iexact Hlev
    iexact Hat
  iintro ⟨HO, Hat, -, Hpay⟩
  ihave Hp := (Entails.of_eq (rest_snd A B C c j)) $$ Hpay
  iapply Hk
  isplitl [HO]; · iexists (insert (SemLoc.dma (sndS j), ()) W); iexact HO
  isplitl [Hat]; · iexact Hat
  iexact Hp

/-- The wait for a transfer to arrive: the landing place comes with what was sent. -/
theorem wp_came (K : Dev nD × Ck → ℕ) (c : Dev nD) (j : Fin 10) (l : List (Fin 8 × Ck)) (hl : ∀ x ∈ l, clev (rcv j) < clev x.2) {sm : DmaSem sig} (hs : sm = rcvS j)
    {s s' : Shape} {e e' : EltTy} {src : Memref sig .tc .hbm s' e'} {dst : Memref sig .tc .hbm s e} {hsrc : src.view.WordExact} {hdst : dst.view.WordExact}
    (hN : dst.view.dmaCredit = N j)
    {α : Type} {Q : α → sProp 𝕄} {k : PUnit → Prog (TpuEff nD τ sig (Elt F) Λ₀ .tc) α} :
    iprop(recs A B C K ∗ ow c l ∗ cred (tallyAt (kcell c (rcv j)) () (N j)) ∗ atPos ER (kcell c (rcv j)) 0 ∅ 0)
      ⊢ iprop((ow c l ∗ atPos ER (kcell c (rcv j)) (0 + 1) ∅ 0 ∗ came A B C c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  iintro ⟨#HR, ⟨%W, HO⟩, Hc, Hat⟩ Hk
  ihave Hi := (recs_cell A B C K c (rcv j)) $$ HR
  icases Hi with ⟨#Hinv, -⟩
  iapply (Rounds.wp_wait_rest_token 𝒱₀ ER (Rd A B C) (c : Thread nD τ) none (κ := K (c, rcv j)) (k' := N j)
      (fun Kp => (wpE_waitDma2_eq 𝒱₀ (c : Thread nD τ) none Set.univ Kp).trans (by rw [hN])) (Set.mem_univ _) () (O := owed c l) (W := W) (R := 0) (m := 0) (T := ∅)
      (by rw [show ((c : Thread nD τ), SemLoc.dma (rcvS j)) = kcell c (rcv j) from rfl, expect_eq, Nat.zero_add]; exact (Nat.one_mul _).symm)) $$ [Hc HO Hat]
  · isplitr; · iexact Hinv
    isplitl [Hc]; · iexact Hc
    isplitl [HO]; · iexact HO
    isplitr
    · iapply (mayWait_key c (rcv j) l hl)
      unfold recs
      icases HR with ⟨-, Hlev⟩
      iexact Hlev
    iexact Hat
  iintro ⟨HO, Hat, -, Hpay⟩
  ihave Hp := (Entails.of_eq (rest_rcv A B C c j)) $$ Hpay
  iapply Hk
  isplitl [HO]; · iexists (insert (SemLoc.dma (rcvS j), ()) W); iexact HO
  isplitl [Hat]; · iexact Hat
  iexact Hp

/-- A cell past its one round lent its counter back, at zero. -/
theorem close (K : Dev nD × Ck → ℕ) (c : Dev nD) (k : Ck) :
    iprop(recs A B C K ∗ atPos ER (kcell c k) (0 + 1) ∅ 0) ⊢ (|={Set.univ}=> semVal (kcell c k) 0 : sProp 𝕄) := by
  iintro ⟨#HR, Hat⟩
  ihave Hi := (recs_cell A B C K c k) $$ HR
  icases Hi with ⟨#Hinv, -⟩
  iapply (Rounds.cell_close ER (Rd A B C) (Set.mem_univ (K (c, k))) id (duties_later A B C (kcell c k)))
  isplitr; · iexact Hinv
  iexact Hat

/-! ## The entry to an exchange, and what each exchange holds -/

/-- The duties of the seven peers' barriers that device `c` performs. -/
def toks (c : Dev nD) (e : Fin 3) : sProp 𝕄 :=
  iprop(dutyTok ER (kcell (peer 1 c) (bar e)) 0 1 ∗ dutyTok ER (kcell (peer 2 c) (bar e)) 0 2 ∗ dutyTok ER (kcell (peer 3 c) (bar e)) 0 3
    ∗ dutyTok ER (kcell (peer 4 c) (bar e)) 0 4 ∗ dutyTok ER (kcell (peer 5 c) (bar e)) 0 5 ∗ dutyTok ER (kcell (peer 6 c) (bar e)) 0 6
    ∗ dutyTok ER (kcell (peer 7 c) (bar e)) 0 7)
/-- What device `c` lends its peers at the entry, -/
def lent (c : Dev nD) (e : Fin 3) : sProp 𝕄 :=
  iprop(land (F := F) c e 1 ∗ land (F := F) c e 2 ∗ land (F := F) c e 3 ∗ land (F := F) c e 4 ∗ land (F := F) c e 5 ∗ land (F := F) c e 6 ∗ land (F := F) c e 7)
/-- and what they lend it. -/
def taken (c : Dev nD) (e : Fin 3) : sProp 𝕄 :=
  iprop(land (F := F) (peer 1 c) e 1 ∗ land (F := F) (peer 2 c) e 2 ∗ land (F := F) (peer 3 c) e 3 ∗ land (F := F) (peer 4 c) e 4 ∗ land (F := F) (peer 5 c) e 5
    ∗ land (F := F) (peer 6 c) e 6 ∗ land (F := F) (peer 7 c) e 7)

/-- The entry barrier of exchange `e`: seven signals and the wait for seven. -/
theorem wp_entry (K : Dev nD × Ck → ℕ) (c n₁ n₂ n₃ n₄ n₅ n₆ n₇ : Dev nD) (e : Fin 3)
    (h₁ : n₁ = peer 1 c) (h₂ : n₂ = peer 2 c) (h₃ : n₃ = peer 3 c) (h₄ : n₄ = peer 4 c) (h₅ : n₅ = peer 5 c) (h₆ : n₆ = peer 6 c) (h₇ : n₇ = peer 7 c)
    (l : List (Fin 8 × Ck)) (hl : ∀ x ∈ l, clev (bar e) < clev x.2) {b : Sem sig} (hb : b = barS e)
    {α : Type} {Q : α → sProp 𝕄} {k : PUnit → Prog (TpuEff nD τ sig (Elt F) Λ₀ .tc) α} :
    iprop(recs A B C K ∗ ow c ((1, bar e) :: (2, bar e) :: (3, bar e) :: (4, bar e) :: (5, bar e) :: (6, bar e) :: (7, bar e) :: l)
        ∗ toks (F := F) c e ∗ lent (F := F) c e ∗ cred (tallyAt (kcell c (bar e)) () 7) ∗ atPos ER (kcell c (bar e)) 0 ∅ 0)
      ⊢ iprop((ow c l ∗ atPos ER (kcell c (bar e)) (0 + 1) ∅ 0 ∗ taken (F := F) c e -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (Dev.tc n₁ : Thread nD τ) b (1#32).toNat) fun _ => .op (.semSignal (Dev.tc n₂ : Thread nD τ) b (1#32).toNat) fun _ =>
             .op (.semSignal (Dev.tc n₃ : Thread nD τ) b (1#32).toNat) fun _ => .op (.semSignal (Dev.tc n₄ : Thread nD τ) b (1#32).toNat) fun _ =>
             .op (.semSignal (Dev.tc n₅ : Thread nD τ) b (1#32).toNat) fun _ => .op (.semSignal (Dev.tc n₆ : Thread nD τ) b (1#32).toNat) fun _ =>
             .op (.semSignal (Dev.tc n₇ : Thread nD τ) b (1#32).toNat) fun _ => .op (.semWait b (7#32).toNat) k) Q) := by
  unfold toks lent taken
  iintro ⟨#HR, HO, ⟨T1, T2, T3, T4, T5, T6, T7⟩, ⟨G1, G2, G3, G4, G5, G6, G7⟩, Hc, Hat⟩ Hk
  iapply (wp_sig A B C K c n₁ e 1 (by decide) h₁ _ hb) $$ [HO T1 G1]
  · isplitr; · iexact HR
    isplitl [HO]; · iexact HO
    isplitl [T1]; · iexact T1
    iexact G1
  iintro HO
  iapply (wp_sig A B C K c n₂ e 2 (by decide) h₂ _ hb) $$ [HO T2 G2]
  · isplitr; · iexact HR
    isplitl [HO]; · iexact HO
    isplitl [T2]; · iexact T2
    iexact G2
  iintro HO
  iapply (wp_sig A B C K c n₃ e 3 (by decide) h₃ _ hb) $$ [HO T3 G3]
  · isplitr; · iexact HR
    isplitl [HO]; · iexact HO
    isplitl [T3]; · iexact T3
    iexact G3
  iintro HO
  iapply (wp_sig A B C K c n₄ e 4 (by decide) h₄ _ hb) $$ [HO T4 G4]
  · isplitr; · iexact HR
    isplitl [HO]; · iexact HO
    isplitl [T4]; · iexact T4
    iexact G4
  iintro HO
  iapply (wp_sig A B C K c n₅ e 5 (by decide) h₅ _ hb) $$ [HO T5 G5]
  · isplitr; · iexact HR
    isplitl [HO]; · iexact HO
    isplitl [T5]; · iexact T5
    iexact G5
  iintro HO
  iapply (wp_sig A B C K c n₆ e 6 (by decide) h₆ _ hb) $$ [HO T6 G6]
  · isplitr; · iexact HR
    isplitl [HO]; · iexact HO
    isplitl [T6]; · iexact T6
    iexact G6
  iintro HO
  iapply (wp_sig A B C K c n₇ e 7 (by decide) h₇ _ hb) $$ [HO T7 G7]
  · isplitr; · iexact HR
    isplitl [HO]; · iexact HO
    isplitl [T7]; · iexact T7
    iexact G7
  iintro HO
  iapply (wp_bar A B C K c e l hl hb) $$ [HO Hc Hat]
  · isplitr; · iexact HR
    isplitl [HO]; · iexact HO
    isplitl [Hc]; · iexact Hc
    iexact Hat
  iexact Hk

/-- What transfer `j` has on device `c` before it starts: its cells' places, the arriving credit, and the two duties
it performs; -/
def ready (c : Dev nD) (j : Fin 10) : sProp 𝕄 :=
  iprop(atPos ER (kcell c (snd j)) 0 ∅ 0 ∗ atPos ER (kcell c (rcv j)) 0 ∅ 0 ∗ cred (tallyAt (kcell c (rcv j)) () (N j))
    ∗ dutyTok ER (kcell (peer 0 c) (snd j)) 0 0 ∗ dutyTok ER (kcell (peer (mask j) c) (rcv j)) 0 0)
/-- while it is on its way; -/
def going (c : Dev nD) (j : Fin 10) : sProp 𝕄 :=
  iprop(atPos ER (kcell c (snd j)) 0 ∅ 0 ∗ atPos ER (kcell c (rcv j)) 0 ∅ 0 ∗ cred (tallyAt (kcell c (rcv j)) () (N j)) ∗ cred (tallyAt (kcell c (snd j)) () (N j)))
/-- and when it is over. -/
def over (c : Dev nD) (j : Fin 10) : sProp 𝕄 :=
  iprop(atPos ER (kcell c (snd j)) (0 + 1) ∅ 0 ∗ atPos ER (kcell c (rcv j)) (0 + 1) ∅ 0)
/-- What the entry barrier of exchange `e` has on device `c` before, -/
def shut (c : Dev nD) (e : Fin 3) : sProp 𝕄 :=
  iprop(toks (F := F) c e ∗ cred (tallyAt (kcell c (bar e)) () 7) ∗ atPos ER (kcell c (bar e)) 0 ∅ 0)

/-- A transfer, with its cells. -/
theorem wp_go (K : Dev nD × Ck → ℕ) (j : Fin 10) (i : Fin 8) (c n : Dev nD) (hi : mask j = i) (hn : n = peer i c) {s : Shape} {e : EltTy}
    (src dst : Memref sig .tc .hbm s e) {sS rS : DmaSem sig} (hs : sS = sndS j) (hr : rS = rcvS j)
    {hsc : (dst : Memref sig (Dev.tc n : Thread nD τ).2.kind .hbm s e).view.ref.isScScratch = false}
    {hsrc : src.view.WordExact} {hdst : dst.view.WordExact}
    {hsem : DmaTarget.Typed .hbm (.dma rS) (.remote (Dev.tc n : Thread nD τ) (dst : Memref sig (Dev.tc n : Thread nD τ).2.kind .hbm s e) (.dma sS) hsc)}
    {α : Type} {Q : α → sProp 𝕄} {k : PUnit → Prog (TpuEff nD τ sig (Elt F) Λ₀ .tc) α}
    (fs : Buf (Elt F) (src.view.loc (c : Thread nD τ))) (l : List (Fin 8 × Ck))
    (hN : dst.view.dmaCredit = N j)
    (hp₁ : vpts c src fs ⊢ left A B C c j)
    (hp₂ : vgot (peer i c) c dst src fs ⊢ came A B C (peer i c) j) :
    iprop(recs A B C K ∗ vpts c src fs ∗ vany (F := F) (peer i c) dst ∗ ow c ((i, rcv j) :: l) ∗ ready (F := F) c j)
      ⊢ iprop((going (F := F) c j ∗ ow c l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  unfold ready going
  iintro ⟨#HR, Hs, Hd, HO, A1, A2, C2, T1, T2⟩ Hk
  iapply (wp_xfer A B C K j i c n hi hn src dst hs hr fs l hN hp₁ hp₂) $$ [Hs Hd HO T1 T2]
  · isplitr; · iexact HR
    isplitl [Hs]; · iexact Hs
    isplitl [Hd]; · iexact Hd
    isplitl [HO]; · iexact HO
    isplitl [T1]; · iexact T1
    iexact T2
  iintro ⟨C1, HO⟩
  iapply Hk
  isplitr [HO]
  · isplitl [A1]; · iexact A1
    isplitl [A2]; · iexact A2
    isplitl [C2]; · iexact C2
    iexact C1
  iexact HO

/-- The two waits of a transfer. -/
theorem wp_both (K : Dev nD × Ck → ℕ) (c : Dev nD) (j : Fin 10) (l : List (Fin 8 × Ck)) (hl : ∀ x ∈ l, clev (snd j) < clev x.2) (hl' : ∀ x ∈ l, clev (rcv j) < clev x.2)
    {sm sm' : DmaSem sig} (hs : sm = sndS j) (hs' : sm' = rcvS j)
    {s₁ s₂ s₃ s₄ : Shape} {e₁ e₂ e₃ e₄ : EltTy} {src : Memref sig .tc .hbm s₁ e₁} {dst : Memref sig .tc .hbm s₂ e₂} {hsrc : src.view.WordExact} {hdst : dst.view.WordExact}
    {src' : Memref sig .tc .hbm s₃ e₃} {dst' : Memref sig .tc .hbm s₄ e₄} {hsrc' : src'.view.WordExact} {hdst' : dst'.view.WordExact}
    (hN : dst.view.dmaCredit = N j) (hN' : dst'.view.dmaCredit = N j)
    {α : Type} {Q : α → sProp 𝕄} {k : PUnit → Prog (TpuEff nD τ sig (Elt F) Λ₀ .tc) α} :
    iprop(recs A B C K ∗ ow c l ∗ going (F := F) c j)
      ⊢ iprop((ow c l ∗ over (F := F) c j ∗ left A B C c j ∗ came A B C c j -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sm src dst hsrc hdst) fun _ => .op (.waitDma2 sm' src' dst' hsrc' hdst') k) Q) := by
  unfold going over
  iintro ⟨#HR, HO, A1, A2, C2, C1⟩ Hk
  iapply (wp_left A B C K c j l hl hs hN) $$ [HO C1 A1]
  · isplitr; · iexact HR
    isplitl [HO]; · iexact HO
    isplitl [C1]; · iexact C1
    iexact A1
  iintro ⟨HO, A1, Hl⟩
  iapply (wp_came A B C K c j l hl' hs' hN') $$ [HO C2 A2]
  · isplitr; · iexact HR
    isplitl [HO]; · iexact HO
    isplitl [C2]; · iexact C2
    iexact A2
  iintro ⟨HO, A2, Hc⟩
  iapply Hk
  isplitl [HO]; · iexact HO
  isplitl [A1 A2]
  · isplitl [A1]; · iexact A1
    iexact A2
  isplitl [Hl]; · iexact Hl
  iexact Hc

end Cert.Run
-- ==== Proof.Exchange.lean ====
module

public import proofs.«01_k».proof.Proof.Sched

@[expose] public section

/-! What the kernels of the three exchanges do: the start kernels signal, wait for their peers and send; the wait
kernels wait for what was sent and what arrives. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The token that a start kernel writes -/

/-- The one rectangle of the token: all of it. -/
theorem full_emb {s : Shape} (off : Fin s.rank → Nat) (h : ∀ a, off a + s.size a ≤ s.size a) (x : (Rect.unit (s := s) off s.size h).shape.Idx) :
    (Rect.unit (s := s) off s.size h).emb x = x := by
  funext a
  refine Fin.ext ?_
  show off a + 1 * (x a).val = (x a).val
  have := h a
  omega

/-- A store over all of a block leaves what was stored. -/
theorem read_full {sp : Space} {s : Shape} {e : EltTy} (v : View sig .tc sp s e) (off : Fin s.rank → Nat) (h : ∀ a, off a + s.size a ≤ s.size a)
    (f : v.ty.Contents (Elt F)) (w : s.Idx → Elt F e) :
    v.read (Elt F) ((v.slice (Rect.unit (s := s) off s.size h)).write (Elt F) f w Finset.univ) = w := by
  funext x
  have hx := View.read_slice_write_emb (Val := Elt F) (v := v) (Rect.unit (s := s) off s.size h) f w (M := Finset.univ) (x := x) (Finset.mem_univ _)
  rw [full_emb off h x] at hx
  exact hx

/-- A load over all of a block reads the block. -/
theorem load_full {sp : Space} {s : Shape} {e : EltTy} (v : View sig .tc sp s e) (off : Fin s.rank → Nat) (h : ∀ a, off a + s.size a ≤ s.size a)
    (f : v.ty.Contents (Elt F)) :
    (v.slice (Rect.unit (s := s) off s.size h)).read (Elt F) f = v.read (Elt F) f := by
  funext x
  exact congrArg (fun y => v.read (Elt F) f y) (full_emb off h x)

/-- The token's load and store: the staging block ends at what was stored. -/
theorem wp_token (c : Dev nD) (m : Memref sig .tc .vmem S8x128 .f32) (w : FVec F S8x128 .f32) (d : S8x128.Idx → Elt F .f32)
    {hl : m.view.LoadsAt (Rect.unit (s := S8x128) ![0, 0] S8x128.size inb_S8x128_S8x128_0_0).toLoadRect}
    {hx : (m.access (Rect.unit (s := S8x128) ![0, 0] S8x128.size inb_S8x128_S8x128_0_0)).Stores Finset.univ}
    {hm : Finset.univ = Finset.univ ∨ ∀ a, (Rect.unit (s := S8x128) ![0, 0] S8x128.size inb_S8x128_S8x128_0_0).stride a = 1}
    {α : Type} {Q : α → sProp 𝕄} {k : PUnit → Prog (TpuEff nD τ sig (Elt F) Λ₀ .tc) α} :
    owns (c : Thread nD τ) m fullShare d
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.load m (Rect.unit (s := S8x128) ![0, 0] S8x128.size inb_S8x128_S8x128_0_0).toLoadRect hl) fun _ =>
            .op (.store m (Rect.unit (s := S8x128) ![0, 0] S8x128.size inb_S8x128_S8x128_0_0) w Finset.univ hx hm) k) Q) := by
  unfold owns
  iintro ⟨%f, -, H⟩ Hk
  iapply (wp_load_rect 𝒱₀ (c : Thread nD τ) none Set.univ (m := m) (r := Rect.unit (s := S8x128) ![0, 0] S8x128.size inb_S8x128_S8x128_0_0) (View.set_slice_subset _ _)) $$ H
  iintro H
  iapply (wp_store 𝒱₀ (c : Thread nD τ) none Set.univ (m := m) (r := Rect.unit (s := S8x128) ![0, 0] S8x128.size inb_S8x128_S8x128_0_0) (Mk := Finset.univ) (View.set_slice_subset _ _)) $$ H
  iintro H
  iapply Hk
  iexists _; isplitr
  swap; · iexact H
  ipureintro
  exact read_full m.view ![0, 0] inb_S8x128_S8x128_0_0 f w

variable (A B C : Dev nD → Valuation τ sig (Elt F))

/-! ## The swap with the sibling core -/

theorem lent0 (c : Dev nD) : iprop(vany (F := F) c sbI ∗ vany (F := F) c sbO) ⊢ lent (F := F) c 0 := by
  unfold lent land
  iintro H
  isplitl [H]; · iexact H
  isplitr; · iempintro
  isplitr; · iempintro
  isplitr; · iempintro
  isplitr; · iempintro
  isplitr; · iempintro
  iempintro
theorem taken0 (c : Dev nD) : taken (F := F) c 0 ⊢ iprop(vany (F := F) (peer 1 c) sbI ∗ vany (F := F) (peer 1 c) sbO) := by
  unfold taken land
  iintro ⟨H, -⟩
  iexact H

/-- The debts a start kernel of exchange `e` pays, before the others `l`: seven signals, -/
def sigs (e : Fin 3) (l : List (Fin 8 × Ck)) : List (Fin 8 × Ck) :=
  (1, bar e) :: (2, bar e) :: (3, bar e) :: (4, bar e) :: (5, bar e) :: (6, bar e) :: (7, bar e) :: l

set_option maxHeartbeats 1600000 in
/-- The swap's start kernel. -/
theorem swapStart (K : Dev nD × Ck → ℕ) (c : Dev nD) (l : List (Fin 8 × Ck)) (hl : ∀ x ∈ (1, rcv 0) :: (1, rcv 1) :: l, clev (bar 0) < clev x.2)
    (m : Memref sig .tc .vmem S8x128 .f32) (hm : m.IsWhole) (d : S8x128.Idx → Elt F .f32) (Kt : PUnit → sProp 𝕄) :
    iprop((recs A B C K ∗ ow c (sigs 0 ((1, rcv 0) :: (1, rcv 1) :: l)) ∗ shut (F := F) c 0 ∗ ready (F := F) c 0 ∗ ready (F := F) c 1
        ∗ vany (F := F) c sbI ∗ vany (F := F) c sbO ∗ left A B C c 0 ∗ left A B C c 1 ∗ owns (c : Thread nD τ) m fullShare d)
      ∗ (ow c l ∗ atPos ER (kcell c (bar 0)) (0 + 1) ∅ 0 ∗ going (F := F) c 0 ∗ going (F := F) c 1 ∗ owns (c : Thread nD τ) m fullShare (k0_pay1 (F := F)) -∗ Kt ⟨⟩))
      ⊢ wp frame (wpE (defs₀ (F := F)) 𝒱₀ c none) Set.univ
          (cc0_swap_start (Memref.whole main_v22_2) (Memref.isWhole_whole _) (Memref.whole main_v22_3) (Memref.isWhole_whole _) (Memref.whole main_v18) (Memref.isWhole_whole _)
            (Memref.whole main_v19) (Memref.isWhole_whole _) (Memref.whole main_v20) (Memref.isWhole_whole _) (Memref.whole main_v21) (Memref.isWhole_whole _) main_v22_0 main_v22_1
            (Memref.whole main_v22_2) (Memref.isWhole_whole _) (Memref.whole main_v22_3) (Memref.isWhole_whole _) (Memref.whole main_v18) (Memref.isWhole_whole _)
            (Memref.whole main_v19) (Memref.isWhole_whole _) (Memref.whole main_v20) (Memref.isWhole_whole _) (Memref.whole main_v21) (Memref.isWhole_whole _) m hm) Kt := by
  simp only [cc0_swap_start_eq_skeleton]; unfold cc0_swap_start_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold shut
  iintro ⟨⟨#HR, HO, ⟨Ht, Hc, Hat⟩, R0, R1, LI, LO, S0, S1, Hm⟩, Hk⟩
  iapply (wp_entry A B C K c _ _ _ _ _ _ _ 0 (dev0_1 c) (dev0_2 c) (dev0_3 c) (dev0_4 c) (dev0_5 c) (dev0_6 c) (dev0_7 c) ((1, rcv 0) :: (1, rcv 1) :: l) hl rfl) $$ [HO Ht Hc Hat LI LO]
  · isplitr; · iexact HR
    isplitl [HO]; · iexact HO
    isplitl [Ht]; · iexact Ht
    isplitl [LI LO]
    · iapply (lent0 c)
      isplitl [LI]; · iexact LI
      iexact LO
    isplitl [Hc]; · iexact Hc
    iexact Hat
  iintro ⟨HO, Hat, Ht⟩
  ihave Ht := (taken0 c) $$ Ht
  icases Ht with ⟨LI, LO⟩
  iapply (wp_go A B C K 0 1 c _ rfl (dev0_8 c) (swI c) sbI rfl rfl (A c (Proc.devRef .tc main_v22_2)) ((1, rcv 1) :: l) rfl .rfl
    (by unfold came; rw [peer_peer])) $$ [HO R0 LI S0]
  · isplitr; · iexact HR
    isplitl [S0]; · unfold left; iexact S0
    isplitl [LI]; · iexact LI
    isplitl [HO]; · iexact HO
    iexact R0
  iintro ⟨G0, HO⟩
  iapply (wp_go A B C K 1 1 c _ rfl (dev0_9 c) (swO c) sbO rfl rfl (A c (Proc.devRef .tc main_v22_3)) l rfl .rfl
    (by unfold came; rw [peer_peer])) $$ [HO R1 LO S1]
  · isplitr; · iexact HR
    isplitl [S1]; · unfold left; iexact S1
    isplitl [LO]; · iexact LO
    isplitl [HO]; · iexact HO
    iexact R1
  iintro ⟨G1, HO⟩
  iapply (wp_token c m (k0_pay1 (F := F)) d) $$ Hm
  iintro Hm
  rw [wp_ret]
  imodintro
  iapply Hk
  isplitl [HO]; · iexact HO
  isplitl [Hat]; · iexact Hat
  isplitl [G0]; · iexact G0
  isplitl [G1]; · iexact G1
  iexact Hm

end Cert.Run
-- ==== Proof.Sums.lean ====
module

public import proofs.«01_k».proof.Proof.Exchange

@[expose] public section

/-! The kernels of the sums: what each leaves in its staging blocks. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A load of a rectangle of a block. -/
theorem wp_get (c : Dev nD) {s : Shape} {e : EltTy} (m : Memref sig .tc .vmem s e) (r : Rect s) (d : s.Idx → Elt F e)
    {hl : m.view.LoadsAt r.toLoadRect}
    {α : Type} {Q : α → sProp 𝕄} {k : (r.shape.Idx → Elt F e) → Prog (TpuEff nD τ sig (Elt F) Λ₀ .tc) α} :
    owns (c : Thread nD τ) m fullShare d
      ⊢ iprop((owns (c : Thread nD τ) m fullShare d -∗ wp frame (wpE (defs₀ (F := F)) 𝒱₀ (c : Thread nD τ) none) Set.univ (k fun x => d (r.emb x)) Q)
        -∗ wp frame (wpE (defs₀ (F := F)) 𝒱₀ (c : Thread nD τ) none) Set.univ (.op (.load m r.toLoadRect hl) k) Q) := by
  unfold owns
  iintro ⟨%f, %hf, H⟩ Hk
  subst hf
  iapply (wp_load_rect 𝒱₀ (c : Thread nD τ) none Set.univ (m := m) (r := r) (View.set_slice_subset _ _)) $$ H
  iintro H
  iapply Hk
  iexists f; isplitr; · ipureintro; rfl
  iexact H

/-- A store over all of a block. -/
theorem wp_put (c : Dev nD) {s : Shape} {e : EltTy} (m : Memref sig .tc .vmem s e) (off : Fin s.rank → Nat) (h : ∀ a, off a + s.size a ≤ s.size a)
    (d w : s.Idx → Elt F e)
    {hx : (m.access (Rect.unit (s := s) off s.size h)).Stores Finset.univ}
    {hm : Finset.univ = Finset.univ ∨ ∀ a, (Rect.unit (s := s) off s.size h).stride a = 1}
    {α : Type} {Q : α → sProp 𝕄} {k : PUnit → Prog (TpuEff nD τ sig (Elt F) Λ₀ .tc) α} :
    owns (c : Thread nD τ) m fullShare d
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := s) off s.size h) w Finset.univ hx hm) k) Q) := by
  unfold owns
  iintro ⟨%f, -, H⟩ Hk
  iapply (wp_store 𝒱₀ (c : Thread nD τ) none Set.univ (m := m) (r := Rect.unit (s := s) off s.size h) (Mk := Finset.univ) (View.set_slice_subset _ _)) $$ H
  iintro H
  iapply Hk
  iexists _; isplitr
  swap; · iexact H
  ipureintro
  exact read_full m.view off h f w

/-- A full rectangle of a block reads the block. -/
theorem full_get {s : Shape} {e : EltTy} (off : Fin s.rank → Nat) (h : ∀ a, off a + s.size a ≤ s.size a) (d : s.Idx → Elt F e) :
    (fun x => d ((Rect.unit (s := s) off s.size h).emb x)) = d := by
  funext x
  exact congrArg d (full_emb off h x)

/-- The table's second word. -/
abbrev word (T : (⟨S2, .i32⟩ : BufTy).Contents (Elt F)) : BitVec 32 :=
  (((Memref.whole main_v17).access (Rect.unit (s := S2) ![1] S1.size inb_S2_S1_1) : View sig .tc _ _ _).read (Elt F) T) (Shape.Idx.first (numel1_S1.symm ▸ Nat.one_pos))

set_option maxHeartbeats 1600000 in
/-- The pair sum at one grid point: the sum rounded goes to the block to send, the sum itself to the block the device keeps where the
    table's word says so. -/
theorem pairIn (c : Dev nD) (i : grid2.Coords) (T : Buf (Elt F) ((c : Thread nD τ).loc main_v17))
    (m3 m4 : Memref sig .tc .vmem S1x256x2048 .f32) (h3 : m3.IsWhole) (h4 : m4.IsWhole) (m5 : Memref sig .tc .vmem S1x256x2048 .bf16) (h5 : m5.IsWhole)
    (m6 : Memref sig .tc .vmem S256x2048 .f32) (h6 : m6.IsWhole)
    (x y : S1x256x2048.Idx → Elt F .f32) (d5 : S1x256x2048.Idx → Elt F .bf16) (d6 : S256x2048.Idx → Elt F .f32) (Kt : PUnit → sProp 𝕄) :
    iprop((((c : Thread nD τ).loc main_v17 ↦{fullShare} T) ∗ owns (c : Thread nD τ) m3 fullShare x ∗ owns (c : Thread nD τ) m4 fullShare y
        ∗ owns (c : Thread nD τ) m5 fullShare d5 ∗ owns (c : Thread nD τ) m6 fullShare d6)
      ∗ (((c : Thread nD τ).loc main_v17 ↦{fullShare} T) ∗ owns (c : Thread nD τ) m3 fullShare x ∗ owns (c : Thread nD τ) m4 fullShare y
        ∗ owns (c : Thread nD τ) m5 fullShare (k2_pay2 x y) ∗ owns (c : Thread nD τ) m6 fullShare (if k2_cond1 i (word T) = 1#1 then k2_pay1 x y else d6) -∗ Kt ⟨⟩))
      ⊢ wp frame (wpE (defs₀ (F := F)) 𝒱₀ c none) Set.univ (cc2_pair_sum_w_in i (Memref.whole main_v17) (Memref.isWhole_whole _) m3 h3 m4 h4 m5 h5 m6 h6) Kt := by
  simp only [cc2_pair_sum_w_in_eq_skeleton]; unfold cc2_pair_sum_w_in_skel smemLoad smemLoadElt
  simp only [Prog.lift, Prog.bind_op, Prog.bind_ret, Prog.pure_eq_ret]
  iintro ⟨⟨HT, H3, H4, H5, H6⟩, Hk⟩
  iapply (wp_get c m3 _ x) $$ H3
  iintro H3
  iapply (wp_get c m4 _ y) $$ H4
  iintro H4
  iapply (wp_get c m5 _ d5) $$ H5
  iintro H5
  rw [full_get, full_get]
  iapply (wp_put c m5 _ _ d5 _) $$ H5
  iintro H5
  iapply (wp_load_rect 𝒱₀ (c : Thread nD τ) none Set.univ (m := Memref.whole main_v17) (r := Rect.unit (s := S2) ![1] S1.size inb_S2_S1_1) (Finset.subset_univ _)) $$ HT
  iintro HT
  by_cases h : k2_cond1 i (word T) = 1#1
  · rw [if_pos h, dif_pos h]
    simp only [Prog.lift, Prog.bind_op, Prog.bind_ret, Prog.pure_eq_ret]
    iapply (wp_get c m6 _ d6) $$ H6
    iintro H6
    iapply (wp_put c m6 _ _ d6 _) $$ H6
    iintro H6
    rw [wp_ret]; imodintro
    iapply Hk
    isplitl [HT]; · iexact HT
    isplitl [H3]; · iexact H3
    isplitl [H4]; · iexact H4
    isplitl [H5]; · iexact H5
    iexact H6
  · rw [if_neg h, dif_neg h, wp_ret]; imodintro
    iapply Hk
    isplitl [HT]; · iexact HT
    isplitl [H3]; · iexact H3
    isplitl [H4]; · iexact H4
    isplitl [H5]; · iexact H5
    iexact H6

set_option maxHeartbeats 1600000 in
/-- The pair sum at one grid point: the sum rounded goes to the block to send, the sum itself to the block the device keeps where the
    table's word says so. -/
theorem pairOut (c : Dev nD) (i : grid3.Coords) (T : Buf (Elt F) ((c : Thread nD τ).loc main_v17))
    (m3 m4 : Memref sig .tc .vmem S1x256x2048 .f32) (h3 : m3.IsWhole) (h4 : m4.IsWhole) (m5 : Memref sig .tc .vmem S1x256x2048 .bf16) (h5 : m5.IsWhole)
    (m6 : Memref sig .tc .vmem S256x2048 .f32) (h6 : m6.IsWhole)
    (x y : S1x256x2048.Idx → Elt F .f32) (d5 : S1x256x2048.Idx → Elt F .bf16) (d6 : S256x2048.Idx → Elt F .f32) (Kt : PUnit → sProp 𝕄) :
    iprop((((c : Thread nD τ).loc main_v17 ↦{fullShare} T) ∗ owns (c : Thread nD τ) m3 fullShare x ∗ owns (c : Thread nD τ) m4 fullShare y
        ∗ owns (c : Thread nD τ) m5 fullShare d5 ∗ owns (c : Thread nD τ) m6 fullShare d6)
      ∗ (((c : Thread nD τ).loc main_v17 ↦{fullShare} T) ∗ owns (c : Thread nD τ) m3 fullShare x ∗ owns (c : Thread nD τ) m4 fullShare y
        ∗ owns (c : Thread nD τ) m5 fullShare (k3_pay2 x y) ∗ owns (c : Thread nD τ) m6 fullShare (if k3_cond1 i (word T) = 1#1 then k3_pay1 x y else d6) -∗ Kt ⟨⟩))
      ⊢ wp frame (wpE (defs₀ (F := F)) 𝒱₀ c none) Set.univ (cc3_pair_sum_w_out i (Memref.whole main_v17) (Memref.isWhole_whole _) m3 h3 m4 h4 m5 h5 m6 h6) Kt := by
  simp only [cc3_pair_sum_w_out_eq_skeleton]; unfold cc3_pair_sum_w_out_skel smemLoad smemLoadElt
  simp only [Prog.lift, Prog.bind_op, Prog.bind_ret, Prog.pure_eq_ret]
  iintro ⟨⟨HT, H3, H4, H5, H6⟩, Hk⟩
  iapply (wp_get c m3 _ x) $$ H3
  iintro H3
  iapply (wp_get c m4 _ y) $$ H4
  iintro H4
  iapply (wp_get c m5 _ d5) $$ H5
  iintro H5
  rw [full_get, full_get]
  iapply (wp_put c m5 _ _ d5 _) $$ H5
  iintro H5
  iapply (wp_load_rect 𝒱₀ (c : Thread nD τ) none Set.univ (m := Memref.whole main_v17) (r := Rect.unit (s := S2) ![1] S1.size inb_S2_S1_1) (Finset.subset_univ _)) $$ HT
  iintro HT
  by_cases h : k3_cond1 i (word T) = 1#1
  · rw [if_pos h, dif_pos h]
    simp only [Prog.lift, Prog.bind_op, Prog.bind_ret, Prog.pure_eq_ret]
    iapply (wp_get c m6 _ d6) $$ H6
    iintro H6
    iapply (wp_put c m6 _ _ d6 _) $$ H6
    iintro H6
    rw [wp_ret]; imodintro
    iapply Hk
    isplitl [HT]; · iexact HT
    isplitl [H3]; · iexact H3
    isplitl [H4]; · iexact H4
    isplitl [H5]; · iexact H5
    iexact H6
  · rw [if_neg h, dif_neg h, wp_ret]; imodintro
    iapply Hk
    isplitl [HT]; · iexact HT
    isplitl [H3]; · iexact H3
    isplitl [H4]; · iexact H4
    isplitl [H5]; · iexact H5
    iexact H6

/-- Plane 0 of a stack of three blocks. -/
def plane0 (y : S3x256x2048.Idx → Elt F .bf16) : S1x256x2048.Idx → Elt F .bf16 :=
  fun x => y ((Rect.unit (s := S3x256x2048) ![0, 0, 0] S1x256x2048.size inb_S3x256x2048_S1x256x2048_0_0_0).emb x)
/-- Plane 1 of a stack of three blocks. -/
def plane1 (y : S3x256x2048.Idx → Elt F .bf16) : S1x256x2048.Idx → Elt F .bf16 :=
  fun x => y ((Rect.unit (s := S3x256x2048) ![1, 0, 0] S1x256x2048.size inb_S3x256x2048_S1x256x2048_1_0_0).emb x)
/-- Plane 2 of a stack of three blocks. -/
def plane2 (y : S3x256x2048.Idx → Elt F .bf16) : S1x256x2048.Idx → Elt F .bf16 :=
  fun x => y ((Rect.unit (s := S3x256x2048) ![2, 0, 0] S1x256x2048.size inb_S3x256x2048_S1x256x2048_2_0_0).emb x)

set_option maxHeartbeats 1600000 in
/-- The sum over the chips at one grid point: the device's own block and the three it was sent, in order. -/
theorem chipIn (c : Dev nD) (i : grid6.Coords)
    (m2 : Memref sig .tc .vmem S256x2048 .f32) (h2 : m2.IsWhole) (m3 : Memref sig .tc .vmem S3x256x2048 .bf16) (h3 : m3.IsWhole)
    (m4 : Memref sig .tc .vmem S256x2048 .f32) (h4 : m4.IsWhole)
    (x : S256x2048.Idx → Elt F .f32) (y : S3x256x2048.Idx → Elt F .bf16) (d : S256x2048.Idx → Elt F .f32) (Kt : PUnit → sProp 𝕄) :
    iprop((owns (c : Thread nD τ) m2 fullShare x ∗ owns (c : Thread nD τ) m3 fullShare y ∗ owns (c : Thread nD τ) m4 fullShare d)
      ∗ (owns (c : Thread nD τ) m2 fullShare x ∗ owns (c : Thread nD τ) m3 fullShare y
        ∗ owns (c : Thread nD τ) m4 fullShare (k6_pay1 x (plane0 y) (plane1 y) (plane2 y)) -∗ Kt ⟨⟩))
      ⊢ wp frame (wpE (defs₀ (F := F)) 𝒱₀ c none) Set.univ (cc6_chip_sum_w_in i (Memref.whole main_v17) (Memref.isWhole_whole _) m2 h2 m3 h3 m4 h4) Kt := by
  simp only [cc6_chip_sum_w_in_eq_skeleton]; unfold cc6_chip_sum_w_in_skel
  simp only [Prog.lift, Prog.bind_op, Prog.bind_ret, Prog.pure_eq_ret]
  iintro ⟨⟨H2, H3, H4⟩, Hk⟩
  iapply (wp_get c m2 _ x) $$ H2
  iintro H2
  iapply (wp_get c m3 _ y) $$ H3
  iintro H3
  iapply (wp_get c m3 _ y) $$ H3
  iintro H3
  iapply (wp_get c m3 _ y) $$ H3
  iintro H3
  iapply (wp_get c m4 _ d) $$ H4
  iintro H4
  rw [full_get]
  iapply (wp_put c m4 _ _ d _) $$ H4
  iintro H4
  rw [wp_ret]; imodintro
  iapply Hk
  isplitl [H2]; · iexact H2
  isplitl [H3]; · iexact H3
  iexact H4

set_option maxHeartbeats 1600000 in
/-- The sum over the chips at one grid point: the device's own block and the three it was sent, in order. -/
theorem chipOut (c : Dev nD) (i : grid7.Coords)
    (m2 : Memref sig .tc .vmem S256x2048 .f32) (h2 : m2.IsWhole) (m3 : Memref sig .tc .vmem S3x256x2048 .bf16) (h3 : m3.IsWhole)
    (m4 : Memref sig .tc .vmem S256x2048 .f32) (h4 : m4.IsWhole)
    (x : S256x2048.Idx → Elt F .f32) (y : S3x256x2048.Idx → Elt F .bf16) (d : S256x2048.Idx → Elt F .f32) (Kt : PUnit → sProp 𝕄) :
    iprop((owns (c : Thread nD τ) m2 fullShare x ∗ owns (c : Thread nD τ) m3 fullShare y ∗ owns (c : Thread nD τ) m4 fullShare d)
      ∗ (owns (c : Thread nD τ) m2 fullShare x ∗ owns (c : Thread nD τ) m3 fullShare y
        ∗ owns (c : Thread nD τ) m4 fullShare (k7_pay1 x (plane0 y) (plane1 y) (plane2 y)) -∗ Kt ⟨⟩))
      ⊢ wp frame (wpE (defs₀ (F := F)) 𝒱₀ c none) Set.univ (cc7_chip_sum_w_out i (Memref.whole main_v17) (Memref.isWhole_whole _) m2 h2 m3 h3 m4 h4) Kt := by
  simp only [cc7_chip_sum_w_out_eq_skeleton]; unfold cc7_chip_sum_w_out_skel
  simp only [Prog.lift, Prog.bind_op, Prog.bind_ret, Prog.pure_eq_ret]
  iintro ⟨⟨H2, H3, H4⟩, Hk⟩
  iapply (wp_get c m2 _ x) $$ H2
  iintro H2
  iapply (wp_get c m3 _ y) $$ H3
  iintro H3
  iapply (wp_get c m3 _ y) $$ H3
  iintro H3
  iapply (wp_get c m3 _ y) $$ H3
  iintro H3
  iapply (wp_get c m4 _ d) $$ H4
  iintro H4
  rw [full_get]
  iapply (wp_put c m4 _ _ d _) $$ H4
  iintro H4
  rw [wp_ret]; imodintro
  iapply Hk
  isplitl [H2]; · iexact H2
  isplitl [H3]; · iexact H3
  iexact H4

end Cert.Run
-- ==== Proof.Blocks.lean ====
module

public import proofs.«01_k».proof.Proof.Sums
public import proofs.«01_k».proof.Proof.Held
public import Idealize.ShloMosaic.Lib.Pipeline.FrameBody
public import Idealize.ShloMosaic.Lib.Pipeline.TableIdle
public import Idealize.ShloMosaic.Lib.Pipeline.Value

@[expose] public section

/-! What the windows of the sums hold. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- A fetched window holds its block when the body runs. -/
theorem before_in {Λ₁ : Labels} {cfg : Cfg sig Λ₁} {c : Dev nD} (dat : Dat τ (Elt F) Unit ℕ UU ℕ cfg c)
    (w : Fin cfg.W) (hw : (cfg.win w).isOut = false) (hlive : ∀ i, cfg.idle w i = false)
    (hclip : ∀ i a, (cfg.win w).clip i a = none) (hkeep : ∀ t, (cfg.win w).cut (cfg.grid.coords t) (dat.after w t) = dat.blockOf w t)
    (t : Fin cfg.N) (d : (cfg.win w).block.Idx → Elt F (cfg.win w).elt) : dat.before w t d = dat.after w t := by
  rw [dat.before_in_eq_fetched w hw hlive (fun t t' _ => by funext a; rw [hclip, hclip]) hkeep]
  unfold Dat.fetched
  rw [← hkeep, fill_of_clip_none w _ (hclip _) d (dat.after w t), Window.fill_cut]

end Cert.Run
-- ==== Proof.PairIn.lean ====
module

public import proofs.«01_k».proof.Proof.Blocks

@[expose] public section

/-! The pair sum of the larger gradient. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The table the region runs at. -/
def tab2 (a : (pcfg2 (F := F)).Adm) : (⟨S2, .i32⟩ : BufTy).Contents (Elt F) := a.1 0

/-- Window 0's block at a point. -/
def blk2_0 (V : Valuation τ sig (Elt F)) (a : (pcfg2 (F := F)).Adm) (t : Fin grid2.N) : S1x256x2048.Idx → Elt F .f32 :=
  ((win2 a 0).blk t).view.read (Elt F) (V (Proc.devRef .tc main_v22_2))

/-- Window 1's block at a point. -/
def blk2_1 (V : Valuation τ sig (Elt F)) (a : (pcfg2 (F := F)).Adm) (t : Fin grid2.N) : S1x256x2048.Idx → Elt F .f32 :=
  ((win2 a 1).blk t).view.read (Elt F) (V (Proc.devRef .tc main_v18))

/-- The point of a row of the grid where the device's own block is stored. -/
def keep2 (q : Fin 4) (t : Fin grid2.N) : Fin grid2.N :=
  ⟨t.val / 4 * 4 + q.val, by have := t.isLt; have := q.isLt; have := N_2; omega⟩

variable (c : Dev nD) (V : Valuation τ sig (Elt F)) (a : (pcfg2 (F := F)).Adm) (q : Fin 4) (O : CellTallies nD τ sig Unit)

/-- The data of the region: each point's sum rounded to its block of the first result, the kept row's sum to its block of the second. -/
def dat2 : Dat τ (Elt F) Unit ℕ UU ℕ (cfg2 a) c where
  A := fun
    | 0 => V (Proc.devRef .tc main_v22_2)
    | 1 => V (Proc.devRef .tc main_v18)
    | 2 => V (Proc.devRef .tc main_v24_0)
    | 3 => V (Proc.devRef .tc main_v24_1)
    | ⟨_ + 4, h⟩ => absurd h (Nat.not_lt.2 (Nat.le_add_left _ _))
  after := fun
    | 0 => fun t => blk2_0 V a t
    | 1 => fun t => blk2_1 V a t
    | 2 => fun t => k2_pay2 (blk2_0 V a t) (blk2_1 V a t)
    | 3 => fun t => k2_pay1 (blk2_0 V a (keep2 q t)) (blk2_1 V a (keep2 q t))
    | ⟨_ + 4, h⟩ => absurd h (Nat.not_lt.2 (Nat.le_add_left _ _))
  Φ _ := iprop(prefHeld pre2 c (fun _ => fullShare) a.1 ∗ Pipeline.scopedRest spec2 c)
  q _ := fullShare
  owed _ := O

theorem clip2 (w : Fin 4) (i : grid2.Coords) (b) : ((cfg2 a).win w).clip i b = none := by
  fin_cases w <;> rfl

theorem before2_0 (t : Fin grid2.N) (d) : (dat2 c V a q O).before 0 t d = blk2_0 V a t :=
  before_in (dat2 c V a q O) 0 rfl (fun _ => rfl) (fun i b => clip2 a 0 i b) (fun _ => rfl) t d

theorem before2_1 (t : Fin grid2.N) (d) : (dat2 c V a q O).before 1 t d = blk2_1 V a t :=
  before_in (dat2 c V a q O) 1 rfl (fun _ => rfl) (fun i b => clip2 a 1 i b) (fun _ => rfl) t d

/-- Window 3 is written back at the end of each row. -/
theorem flush2_3 : ∀ t : Fin grid2.N, (win2 a 3).flush t = decide (t.val % 4 = 3) :=
  of_decide_eq_true (Eq.refl true)

/-- The store's guard at a point, at a table that names `q`. -/
theorem cond2 : ∀ (q : Fin 4) (t : Fin grid2.N), (k2_cond1 (grid2.coords t) (BitVec.ofNat 32 q.val) = 1#1) = (t.val % 4 = q.val) := by
  have h : ∀ (q : Fin 4) (t : Fin grid2.N), decide (k2_cond1 (grid2.coords t) (BitVec.ofNat 32 q.val) = 1#1) = decide (t.val % 4 = q.val) := by decide
  intro q t
  exact propext (decide_eq_decide.1 (h q t))

/-- The table's word, as the idle table reads it. -/
theorem word2 : (a.1.atD 0 ![1] : BitVec 32) = word (tab2 a) := by
  unfold Prefetch.Contents.atD
  rw [dif_pos (fun b => by fin_cases b; exact Nat.le_refl 2)]
  rfl

variable (hq : word (tab2 a) = BitVec.ofNat 32 q.val)
include hq

theorem idle2_3 (t : Fin grid2.N) : (cfg2 a).idle 3 (grid2.coords t) = !decide (t.val % 4 = q.val) := by
  show (!(k2_cond1 (grid2.coords t) (a.1.atD 0 ![1]) == 1#1)) = _
  rw [word2, hq]
  congr 1
  rw [beq_eq_decide]
  exact decide_eq_decide.2 (cond2 q t).to_iff

/-- The second result's buffer is yet unwritten up to the kept point of a row. -/
theorem fresh2_3 (n : ℕ) (hn : n ≤ grid2.N) : (cfg2 a).fresh 3 n = decide (n % 4 ≤ q.val) := by
  refine Cfg.fresh_tab (cfg2 a) 3 (fun n => decide (n % 4 ≤ q.val)) (by simp) ?_ n hn
  intro t
  rw [show ((cfg2 a).win 3).flush t = _ from flush2_3 a t, show (cfg2 a).idle 3 ((cfg2 a).grid.coords t) = _ from idle2_3 a q hq t]
  have := q.isLt
  generalize t.val = n
  rw [Bool.eq_iff_iff]
  simp only [Bool.or_eq_true, Bool.and_eq_true, Bool.not_eq_true', decide_eq_true_eq, decide_eq_false_iff_not]
  omega

/-- What the body finds in the second result's buffer. -/
theorem before2_3 (t : Fin grid2.N) (d) :
    (dat2 c V a q O).before 3 t d = if t.val % 4 ≤ q.val then d else (dat2 c V a q O).after 3 t := by
  rw [Dat.before_out_traj (dat2 c V a q O) 3 rfl (fun i b => clip2 a 3 i b) ?_ t.val t rfl d, fresh2_3 a q hq t.val (Nat.le_of_lt t.isLt)]
  · by_cases h : t.val % 4 ≤ q.val
    · simp only [h, decide_true, if_true]
    · simp only [h, decide_false, if_false, Bool.false_eq_true]
      dsimp only [dat2]
      have e : keep2 q ⟨t.val - 1, Nat.lt_of_le_of_lt (Nat.sub_le _ _) t.isLt⟩ = keep2 q t := by
        refine Fin.ext ?_
        show (t.val - 1) / 4 * 4 + q.val = t.val / 4 * 4 + q.val
        omega
      exact congrArg (fun s => k2_pay1 (blk2_0 V a s) (blk2_1 V a s)) e
  · intro t ht _ hf
    rw [fresh2_3 a q hq t.val (Nat.le_of_lt t.isLt)] at hf
    have hf := of_decide_eq_false hf
    dsimp only [dat2]
    have e : keep2 q t = keep2 q ⟨t.val - 1, Nat.lt_of_le_of_lt (Nat.sub_le _ _) t.isLt⟩ := by
      refine Fin.ext ?_
      show t.val / 4 * 4 + q.val = (t.val - 1) / 4 * 4 + q.val
      omega
    exact congrArg (fun s => k2_pay1 (blk2_0 V a s) (blk2_1 V a s)) e

/-- What the body leaves in the second result's buffer is what the pipeline asks there. -/
theorem leave2_3 (t : Fin grid2.N) (d) (P : (S256x2048.Idx → Elt F .f32) → sProp 𝕄) :
    P (if k2_cond1 (grid2.coords t) (word (tab2 a)) = 1#1 then k2_pay1 (blk2_0 V a t) (blk2_1 V a t) else (dat2 c V a q O).before 3 t d : S256x2048.Idx → Elt F .f32)
      ⊢ (match (cfg2 a).idle 3 ((cfg2 a).grid.coords t) with
          | true =>
            match ((cfg2 a).win 3).flush t with
            | false => iprop(∃ d, P ((dat2 c V a q O).before 3 t d))
            | true => P ((dat2 c V a q O).after 3 t)
          | false => P ((dat2 c V a q O).after 3 t) : sProp 𝕄) := by
  rw [hq, show ((cfg2 a).win 3).flush t = _ from flush2_3 a t, show (cfg2 a).idle 3 ((cfg2 a).grid.coords t) = _ from idle2_3 a q hq t]
  by_cases h : t.val % 4 = q.val
  · have hX : (if k2_cond1 (grid2.coords t) (BitVec.ofNat 32 q.val) = 1#1 then k2_pay1 (blk2_0 V a t) (blk2_1 V a t) else (dat2 c V a q O).before 3 t d : S256x2048.Idx → Elt F .f32)
        = k2_pay1 (blk2_0 V a t) (blk2_1 V a t) := if_pos ((cond2 q t).mpr h)
    rw [hX]
    simp only [h, decide_true, Bool.not_true]
    have e : keep2 q t = t := by
      refine Fin.ext ?_
      show t.val / 4 * 4 + q.val = t.val
      omega
    have e' : (dat2 c V a q O).after 3 t = k2_pay1 (blk2_0 V a t) (blk2_1 V a t) := by
      dsimp only [dat2]
      exact congrArg (fun s => k2_pay1 (blk2_0 V a s) (blk2_1 V a s)) e
    exact Entails.of_eq (congrArg P e'.symm)
  · have hX : (if k2_cond1 (grid2.coords t) (BitVec.ofNat 32 q.val) = 1#1 then k2_pay1 (blk2_0 V a t) (blk2_1 V a t) else (dat2 c V a q O).before 3 t d : S256x2048.Idx → Elt F .f32)
        = (dat2 c V a q O).before 3 t d := if_neg (fun hc => h ((cond2 q t).mp hc))
    rw [hX]
    simp only [h, decide_false, Bool.not_false]
    by_cases h3 : t.val % 4 = 3
    · simp only [h3, decide_true]
      refine Entails.of_eq (congrArg P ?_)
      rw [before2_3 c V a q O hq t d, if_neg (by have := q.isLt; omega)]
    · simp only [h3, decide_false]
      exact exists_intro (Φ := fun d => P ((dat2 c V a q O).before 3 t d)) d

omit hq in
set_option maxHeartbeats 1600000 in
/-- The body at a point, from what the pipeline hands it. -/
theorem step2 (t : Fin grid2.N) :
    iprop((prefHeld pre2 c (fun _ => fullShare) a.1 ∗ Pipeline.scopedRest spec2 c) ∗ (dat2 c V a q O).owesAt () t.castSucc
        ∗ (∃ d, owns (c : Thread nD τ) (((cfg2 a).win 0).stage ((cfg2 a).slots t 0)) fullShare ((dat2 c V a q O).before 0 t d))
        ∗ (∃ d, owns (c : Thread nD τ) (((cfg2 a).win 1).stage ((cfg2 a).slots t 1)) fullShare ((dat2 c V a q O).before 1 t d))
        ∗ (∃ d, owns (c : Thread nD τ) (((cfg2 a).win 2).stage ((cfg2 a).slots t 2)) fullShare ((dat2 c V a q O).before 2 t d))
        ∗ (∃ d, owns (c : Thread nD τ) (((cfg2 a).win 3).stage ((cfg2 a).slots t 3)) fullShare ((dat2 c V a q O).before 3 t d)))
      ⊢ wp frame (wpE (defs₀ (F := F)) 𝒱₀ c none) Set.univ
        (cc2_pair_sum_w_in (grid2.coords t) (Memref.whole main_v17) (Memref.isWhole_whole _)
          (spec2_0.stage ((cfg2 a).slots t 0)) (hstage2_0 (((cfg2 a).slots t 0).cast nbuf2_0))
          (spec2_1.stage ((cfg2 a).slots t 1)) (hstage2_1 (((cfg2 a).slots t 1).cast nbuf2_1))
          (spec2_2.stage ((cfg2 a).slots t 2)) (hstage2_2 (((cfg2 a).slots t 2).cast nbuf2_2))
          (spec2_3.stage ((cfg2 a).slots t 3)) (hstage2_3 (((cfg2 a).slots t 3).cast nbuf2_3)))
        fun _ => iprop((prefHeld pre2 c (fun _ => fullShare) a.1 ∗ Pipeline.scopedRest spec2 c) ∗ (dat2 c V a q O).owesAt () t.castSucc
        ∗ owns (c : Thread nD τ) (((cfg2 a).win 0).stage ((cfg2 a).slots t 0)) fullShare (blk2_0 V a t)
        ∗ owns (c : Thread nD τ) (((cfg2 a).win 1).stage ((cfg2 a).slots t 1)) fullShare (blk2_1 V a t)
        ∗ owns (c : Thread nD τ) (((cfg2 a).win 2).stage ((cfg2 a).slots t 2)) fullShare (k2_pay2 (blk2_0 V a t) (blk2_1 V a t))
        ∗ ∃ d, owns (c : Thread nD τ) (((cfg2 a).win 3).stage ((cfg2 a).slots t 3)) fullShare
          (if k2_cond1 (grid2.coords t) (word (tab2 a)) = 1#1 then k2_pay1 (blk2_0 V a t) (blk2_1 V a t) else (dat2 c V a q O).before 3 t d : S256x2048.Idx → Elt F .f32)) := by
  have hp : (prefHeld pre2 c (fun _ => fullShare) a.1 : sProp 𝕄) = iprop((c : Thread nD τ).loc main_v17 ↦{fullShare} (tab2 a)) :=
    bigSep_univ_eq_bigSepL [(0 : Fin 1)] (by decide) (by decide) _
  rw [hp]
  have e0 : ∀ d, (owns (c : Thread nD τ) (((cfg2 a).win 0).stage ((cfg2 a).slots t 0)) fullShare ((dat2 c V a q O).before 0 t d) : sProp 𝕄)
      ⊢ owns (c : Thread nD τ) (((cfg2 a).win 0).stage ((cfg2 a).slots t 0)) fullShare (blk2_0 V a t) := fun d => by rw [before2_0]
  have e1 : ∀ d, (owns (c : Thread nD τ) (((cfg2 a).win 1).stage ((cfg2 a).slots t 1)) fullShare ((dat2 c V a q O).before 1 t d) : sProp 𝕄)
      ⊢ owns (c : Thread nD τ) (((cfg2 a).win 1).stage ((cfg2 a).slots t 1)) fullShare (blk2_1 V a t) := fun d => by rw [before2_1]
  iintro ⟨⟨HT, Hr⟩, HO, ⟨%d0, H0⟩, ⟨%d1, H1⟩, ⟨%d2, H2⟩, ⟨%d3, H3⟩⟩
  iapply (pairIn c (grid2.coords t) (tab2 a) _ _ (hstage2_0 (((cfg2 a).slots t 0).cast nbuf2_0)) (hstage2_1 (((cfg2 a).slots t 1).cast nbuf2_1))
    _ (hstage2_2 (((cfg2 a).slots t 2).cast nbuf2_2)) _ (hstage2_3 (((cfg2 a).slots t 3).cast nbuf2_3))
    (blk2_0 V a t) (blk2_1 V a t) ((dat2 c V a q O).before 2 t d2) ((dat2 c V a q O).before 3 t d3))
  isplitl [HT H0 H1 H2 H3]
  · isplitl [HT]; · iexact HT
    isplitl [H0]; · iapply (e0 d0); iexact H0
    isplitl [H1]; · iapply (e1 d1); iexact H1
    isplitl [H2]; · iexact H2
    iexact H3
  iintro ⟨HT, H0, H1, H2, H3⟩
  isplitl [HT Hr]
  · isplitl [HT]; · iexact HT
    iexact Hr
  isplitl [HO]; · iexact HO
  isplitl [H0]; · iexact H0
  isplitl [H1]; · iexact H1
  isplitl [H2]; · iexact H2
  iexists d3; iexact H3

/-- The body's obligation. -/
theorem body2 : BodyObligation (dat2 c V a q O) (defs₀ (F := F)) 𝒱₀ () Set.univ := fun t => by
  rw [bigSep_W2, bigSep_W2]
  have hrow : defs₀ (F := F) .tc (cfg2 a).body ((cfg2 a).bodyArgs t ((cfg2 a).slots t)) =
      cc2_pair_sum_w_in (grid2.coords t) (Memref.whole main_v17) (Memref.isWhole_whole _)
        (spec2_0.stage ((cfg2 a).slots t 0)) (hstage2_0 (((cfg2 a).slots t 0).cast nbuf2_0))
        (spec2_1.stage ((cfg2 a).slots t 1)) (hstage2_1 (((cfg2 a).slots t 1).cast nbuf2_1))
        (spec2_2.stage ((cfg2 a).slots t 2)) (hstage2_2 (((cfg2 a).slots t 2).cast nbuf2_2))
        (spec2_3.stage ((cfg2 a).slots t 3)) (hstage2_3 (((cfg2 a).slots t 3).cast nbuf2_3)) := by
    unfold defs₀; rw [Defs.onTc_tc]
  exact triple_restated (step2 c V a q O t) (congrArg (wp frame (wpE (defs₀ (F := F)) 𝒱₀ c none) Set.univ) hrow.symm) .rfl
    fun _ => sep_mono .rfl (sep_mono .rfl (sep_mono .rfl (sep_mono .rfl (sep_mono .rfl (exists_elim fun d =>
      leave2_3 c V a q O hq t d (fun X => owns (c : Thread nD τ) (((cfg2 a).win 3).stage ((cfg2 a).slots t 3)) fullShare X))))))

end Cert.Run
-- ==== Proof.PairOut.lean ====
module

public import proofs.«01_k».proof.Proof.Blocks

@[expose] public section

/-! The pair sum of the smaller gradient. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The table the region runs at. -/
def tab3 (a : (pcfg3 (F := F)).Adm) : (⟨S2, .i32⟩ : BufTy).Contents (Elt F) := a.1 0

/-- Window 0's block at a point. -/
def blk3_0 (V : Valuation τ sig (Elt F)) (a : (pcfg3 (F := F)).Adm) (t : Fin grid3.N) : S1x256x2048.Idx → Elt F .f32 :=
  ((win3 a 0).blk t).view.read (Elt F) (V (Proc.devRef .tc main_v22_3))

/-- Window 1's block at a point. -/
def blk3_1 (V : Valuation τ sig (Elt F)) (a : (pcfg3 (F := F)).Adm) (t : Fin grid3.N) : S1x256x2048.Idx → Elt F .f32 :=
  ((win3 a 1).blk t).view.read (Elt F) (V (Proc.devRef .tc main_v19))

/-- The point of a row of the grid where the device's own block is stored. -/
def keep3 (q : Fin 4) (t : Fin grid3.N) : Fin grid3.N :=
  ⟨t.val / 4 * 4 + q.val, by have := t.isLt; have := q.isLt; have := N_3; omega⟩

variable (c : Dev nD) (V : Valuation τ sig (Elt F)) (a : (pcfg3 (F := F)).Adm) (q : Fin 4) (O : CellTallies nD τ sig Unit)

/-- The data of the region: each point's sum rounded to its block of the first result, the kept row's sum to its block of the second. -/
def dat3 : Dat τ (Elt F) Unit ℕ UU ℕ (cfg3 a) c where
  A := fun
    | 0 => V (Proc.devRef .tc main_v22_3)
    | 1 => V (Proc.devRef .tc main_v19)
    | 2 => V (Proc.devRef .tc main_v25_0)
    | 3 => V (Proc.devRef .tc main_v25_1)
    | ⟨_ + 4, h⟩ => absurd h (Nat.not_lt.2 (Nat.le_add_left _ _))
  after := fun
    | 0 => fun t => blk3_0 V a t
    | 1 => fun t => blk3_1 V a t
    | 2 => fun t => k3_pay2 (blk3_0 V a t) (blk3_1 V a t)
    | 3 => fun t => k3_pay1 (blk3_0 V a (keep3 q t)) (blk3_1 V a (keep3 q t))
    | ⟨_ + 4, h⟩ => absurd h (Nat.not_lt.2 (Nat.le_add_left _ _))
  Φ _ := iprop(prefHeld pre3 c (fun _ => fullShare) a.1 ∗ Pipeline.scopedRest spec3 c)
  q _ := fullShare
  owed _ := O

theorem clip3 (w : Fin 4) (i : grid3.Coords) (b) : ((cfg3 a).win w).clip i b = none := by
  fin_cases w <;> rfl

theorem before3_0 (t : Fin grid3.N) (d) : (dat3 c V a q O).before 0 t d = blk3_0 V a t :=
  before_in (dat3 c V a q O) 0 rfl (fun _ => rfl) (fun i b => clip3 a 0 i b) (fun _ => rfl) t d

theorem before3_1 (t : Fin grid3.N) (d) : (dat3 c V a q O).before 1 t d = blk3_1 V a t :=
  before_in (dat3 c V a q O) 1 rfl (fun _ => rfl) (fun i b => clip3 a 1 i b) (fun _ => rfl) t d

/-- Window 3 is written back at the end of each row. -/
theorem flush3_3 : ∀ t : Fin grid3.N, (win3 a 3).flush t = decide (t.val % 4 = 3) :=
  of_decide_eq_true (Eq.refl true)

/-- The store's guard at a point, at a table that names `q`. -/
theorem cond3 : ∀ (q : Fin 4) (t : Fin grid3.N), (k3_cond1 (grid3.coords t) (BitVec.ofNat 32 q.val) = 1#1) = (t.val % 4 = q.val) := by
  have h : ∀ (q : Fin 4) (t : Fin grid3.N), decide (k3_cond1 (grid3.coords t) (BitVec.ofNat 32 q.val) = 1#1) = decide (t.val % 4 = q.val) := by decide
  intro q t
  exact propext (decide_eq_decide.1 (h q t))

/-- The table's word, as the idle table reads it. -/
theorem word3 : (a.1.atD 0 ![1] : BitVec 32) = word (tab3 a) := by
  unfold Prefetch.Contents.atD
  rw [dif_pos (fun b => by fin_cases b; exact Nat.le_refl 2)]
  rfl

variable (hq : word (tab3 a) = BitVec.ofNat 32 q.val)
include hq

theorem idle3_3 (t : Fin grid3.N) : (cfg3 a).idle 3 (grid3.coords t) = !decide (t.val % 4 = q.val) := by
  show (!(k3_cond1 (grid3.coords t) (a.1.atD 0 ![1]) == 1#1)) = _
  rw [word3, hq]
  congr 1
  rw [beq_eq_decide]
  exact decide_eq_decide.2 (cond3 q t).to_iff

/-- The second result's buffer is yet unwritten up to the kept point of a row. -/
theorem fresh3_3 (n : ℕ) (hn : n ≤ grid3.N) : (cfg3 a).fresh 3 n = decide (n % 4 ≤ q.val) := by
  refine Cfg.fresh_tab (cfg3 a) 3 (fun n => decide (n % 4 ≤ q.val)) (by simp) ?_ n hn
  intro t
  rw [show ((cfg3 a).win 3).flush t = _ from flush3_3 a t, show (cfg3 a).idle 3 ((cfg3 a).grid.coords t) = _ from idle3_3 a q hq t]
  have := q.isLt
  generalize t.val = n
  rw [Bool.eq_iff_iff]
  simp only [Bool.or_eq_true, Bool.and_eq_true, Bool.not_eq_true', decide_eq_true_eq, decide_eq_false_iff_not]
  omega

/-- What the body finds in the second result's buffer. -/
theorem before3_3 (t : Fin grid3.N) (d) :
    (dat3 c V a q O).before 3 t d = if t.val % 4 ≤ q.val then d else (dat3 c V a q O).after 3 t := by
  rw [Dat.before_out_traj (dat3 c V a q O) 3 rfl (fun i b => clip3 a 3 i b) ?_ t.val t rfl d, fresh3_3 a q hq t.val (Nat.le_of_lt t.isLt)]
  · by_cases h : t.val % 4 ≤ q.val
    · simp only [h, decide_true, if_true]
    · simp only [h, decide_false, if_false, Bool.false_eq_true]
      dsimp only [dat3]
      have e : keep3 q ⟨t.val - 1, Nat.lt_of_le_of_lt (Nat.sub_le _ _) t.isLt⟩ = keep3 q t := by
        refine Fin.ext ?_
        show (t.val - 1) / 4 * 4 + q.val = t.val / 4 * 4 + q.val
        omega
      exact congrArg (fun s => k3_pay1 (blk3_0 V a s) (blk3_1 V a s)) e
  · intro t ht _ hf
    rw [fresh3_3 a q hq t.val (Nat.le_of_lt t.isLt)] at hf
    have hf := of_decide_eq_false hf
    dsimp only [dat3]
    have e : keep3 q t = keep3 q ⟨t.val - 1, Nat.lt_of_le_of_lt (Nat.sub_le _ _) t.isLt⟩ := by
      refine Fin.ext ?_
      show t.val / 4 * 4 + q.val = (t.val - 1) / 4 * 4 + q.val
      omega
    exact congrArg (fun s => k3_pay1 (blk3_0 V a s) (blk3_1 V a s)) e

/-- What the body leaves in the second result's buffer is what the pipeline asks there. -/
theorem leave3_3 (t : Fin grid3.N) (d) (P : (S256x2048.Idx → Elt F .f32) → sProp 𝕄) :
    P (if k3_cond1 (grid3.coords t) (word (tab3 a)) = 1#1 then k3_pay1 (blk3_0 V a t) (blk3_1 V a t) else (dat3 c V a q O).before 3 t d : S256x2048.Idx → Elt F .f32)
      ⊢ (match (cfg3 a).idle 3 ((cfg3 a).grid.coords t) with
          | true =>
            match ((cfg3 a).win 3).flush t with
            | false => iprop(∃ d, P ((dat3 c V a q O).before 3 t d))
            | true => P ((dat3 c V a q O).after 3 t)
          | false => P ((dat3 c V a q O).after 3 t) : sProp 𝕄) := by
  rw [hq, show ((cfg3 a).win 3).flush t = _ from flush3_3 a t, show (cfg3 a).idle 3 ((cfg3 a).grid.coords t) = _ from idle3_3 a q hq t]
  by_cases h : t.val % 4 = q.val
  · have hX : (if k3_cond1 (grid3.coords t) (BitVec.ofNat 32 q.val) = 1#1 then k3_pay1 (blk3_0 V a t) (blk3_1 V a t) else (dat3 c V a q O).before 3 t d : S256x2048.Idx → Elt F .f32)
        = k3_pay1 (blk3_0 V a t) (blk3_1 V a t) := if_pos ((cond3 q t).mpr h)
    rw [hX]
    simp only [h, decide_true, Bool.not_true]
    have e : keep3 q t = t := by
      refine Fin.ext ?_
      show t.val / 4 * 4 + q.val = t.val
      omega
    have e' : (dat3 c V a q O).after 3 t = k3_pay1 (blk3_0 V a t) (blk3_1 V a t) := by
      dsimp only [dat3]
      exact congrArg (fun s => k3_pay1 (blk3_0 V a s) (blk3_1 V a s)) e
    exact Entails.of_eq (congrArg P e'.symm)
  · have hX : (if k3_cond1 (grid3.coords t) (BitVec.ofNat 32 q.val) = 1#1 then k3_pay1 (blk3_0 V a t) (blk3_1 V a t) else (dat3 c V a q O).before 3 t d : S256x2048.Idx → Elt F .f32)
        = (dat3 c V a q O).before 3 t d := if_neg (fun hc => h ((cond3 q t).mp hc))
    rw [hX]
    simp only [h, decide_false, Bool.not_false]
    by_cases h3 : t.val % 4 = 3
    · simp only [h3, decide_true]
      refine Entails.of_eq (congrArg P ?_)
      rw [before3_3 c V a q O hq t d, if_neg (by have := q.isLt; omega)]
    · simp only [h3, decide_false]
      exact exists_intro (Φ := fun d => P ((dat3 c V a q O).before 3 t d)) d

omit hq in
set_option maxHeartbeats 1600000 in
/-- The body at a point, from what the pipeline hands it. -/
theorem step3 (t : Fin grid3.N) :
    iprop((prefHeld pre3 c (fun _ => fullShare) a.1 ∗ Pipeline.scopedRest spec3 c) ∗ (dat3 c V a q O).owesAt () t.castSucc
        ∗ (∃ d, owns (c : Thread nD τ) (((cfg3 a).win 0).stage ((cfg3 a).slots t 0)) fullShare ((dat3 c V a q O).before 0 t d))
        ∗ (∃ d, owns (c : Thread nD τ) (((cfg3 a).win 1).stage ((cfg3 a).slots t 1)) fullShare ((dat3 c V a q O).before 1 t d))
        ∗ (∃ d, owns (c : Thread nD τ) (((cfg3 a).win 2).stage ((cfg3 a).slots t 2)) fullShare ((dat3 c V a q O).before 2 t d))
        ∗ (∃ d, owns (c : Thread nD τ) (((cfg3 a).win 3).stage ((cfg3 a).slots t 3)) fullShare ((dat3 c V a q O).before 3 t d)))
      ⊢ wp frame (wpE (defs₀ (F := F)) 𝒱₀ c none) Set.univ
        (cc3_pair_sum_w_out (grid3.coords t) (Memref.whole main_v17) (Memref.isWhole_whole _)
          (spec3_0.stage ((cfg3 a).slots t 0)) (hstage3_0 (((cfg3 a).slots t 0).cast nbuf3_0))
          (spec3_1.stage ((cfg3 a).slots t 1)) (hstage3_1 (((cfg3 a).slots t 1).cast nbuf3_1))
          (spec3_2.stage ((cfg3 a).slots t 2)) (hstage3_2 (((cfg3 a).slots t 2).cast nbuf3_2))
          (spec3_3.stage ((cfg3 a).slots t 3)) (hstage3_3 (((cfg3 a).slots t 3).cast nbuf3_3)))
        fun _ => iprop((prefHeld pre3 c (fun _ => fullShare) a.1 ∗ Pipeline.scopedRest spec3 c) ∗ (dat3 c V a q O).owesAt () t.castSucc
        ∗ owns (c : Thread nD τ) (((cfg3 a).win 0).stage ((cfg3 a).slots t 0)) fullShare (blk3_0 V a t)
        ∗ owns (c : Thread nD τ) (((cfg3 a).win 1).stage ((cfg3 a).slots t 1)) fullShare (blk3_1 V a t)
        ∗ owns (c : Thread nD τ) (((cfg3 a).win 2).stage ((cfg3 a).slots t 2)) fullShare (k3_pay2 (blk3_0 V a t) (blk3_1 V a t))
        ∗ ∃ d, owns (c : Thread nD τ) (((cfg3 a).win 3).stage ((cfg3 a).slots t 3)) fullShare
          (if k3_cond1 (grid3.coords t) (word (tab3 a)) = 1#1 then k3_pay1 (blk3_0 V a t) (blk3_1 V a t) else (dat3 c V a q O).before 3 t d : S256x2048.Idx → Elt F .f32)) := by
  have hp : (prefHeld pre3 c (fun _ => fullShare) a.1 : sProp 𝕄) = iprop((c : Thread nD τ).loc main_v17 ↦{fullShare} (tab3 a)) :=
    bigSep_univ_eq_bigSepL [(0 : Fin 1)] (by decide) (by decide) _
  rw [hp]
  have e0 : ∀ d, (owns (c : Thread nD τ) (((cfg3 a).win 0).stage ((cfg3 a).slots t 0)) fullShare ((dat3 c V a q O).before 0 t d) : sProp 𝕄)
      ⊢ owns (c : Thread nD τ) (((cfg3 a).win 0).stage ((cfg3 a).slots t 0)) fullShare (blk3_0 V a t) := fun d => by rw [before3_0]
  have e1 : ∀ d, (owns (c : Thread nD τ) (((cfg3 a).win 1).stage ((cfg3 a).slots t 1)) fullShare ((dat3 c V a q O).before 1 t d) : sProp 𝕄)
      ⊢ owns (c : Thread nD τ) (((cfg3 a).win 1).stage ((cfg3 a).slots t 1)) fullShare (blk3_1 V a t) := fun d => by rw [before3_1]
  iintro ⟨⟨HT, Hr⟩, HO, ⟨%d0, H0⟩, ⟨%d1, H1⟩, ⟨%d2, H2⟩, ⟨%d3, H3⟩⟩
  iapply (pairOut c (grid3.coords t) (tab3 a) _ _ (hstage3_0 (((cfg3 a).slots t 0).cast nbuf3_0)) (hstage3_1 (((cfg3 a).slots t 1).cast nbuf3_1))
    _ (hstage3_2 (((cfg3 a).slots t 2).cast nbuf3_2)) _ (hstage3_3 (((cfg3 a).slots t 3).cast nbuf3_3))
    (blk3_0 V a t) (blk3_1 V a t) ((dat3 c V a q O).before 2 t d2) ((dat3 c V a q O).before 3 t d3))
  isplitl [HT H0 H1 H2 H3]
  · isplitl [HT]; · iexact HT
    isplitl [H0]; · iapply (e0 d0); iexact H0
    isplitl [H1]; · iapply (e1 d1); iexact H1
    isplitl [H2]; · iexact H2
    iexact H3
  iintro ⟨HT, H0, H1, H2, H3⟩
  isplitl [HT Hr]
  · isplitl [HT]; · iexact HT
    iexact Hr
  isplitl [HO]; · iexact HO
  isplitl [H0]; · iexact H0
  isplitl [H1]; · iexact H1
  isplitl [H2]; · iexact H2
  iexists d3; iexact H3

/-- The body's obligation. -/
theorem body3 : BodyObligation (dat3 c V a q O) (defs₀ (F := F)) 𝒱₀ () Set.univ := fun t => by
  rw [bigSep_W3, bigSep_W3]
  have hrow : defs₀ (F := F) .tc (cfg3 a).body ((cfg3 a).bodyArgs t ((cfg3 a).slots t)) =
      cc3_pair_sum_w_out (grid3.coords t) (Memref.whole main_v17) (Memref.isWhole_whole _)
        (spec3_0.stage ((cfg3 a).slots t 0)) (hstage3_0 (((cfg3 a).slots t 0).cast nbuf3_0))
        (spec3_1.stage ((cfg3 a).slots t 1)) (hstage3_1 (((cfg3 a).slots t 1).cast nbuf3_1))
        (spec3_2.stage ((cfg3 a).slots t 2)) (hstage3_2 (((cfg3 a).slots t 2).cast nbuf3_2))
        (spec3_3.stage ((cfg3 a).slots t 3)) (hstage3_3 (((cfg3 a).slots t 3).cast nbuf3_3)) := by
    unfold defs₀; rw [Defs.onTc_tc]
  exact triple_restated (step3 c V a q O t) (congrArg (wp frame (wpE (defs₀ (F := F)) 𝒱₀ c none) Set.univ) hrow.symm) .rfl
    fun _ => sep_mono .rfl (sep_mono .rfl (sep_mono .rfl (sep_mono .rfl (sep_mono .rfl (exists_elim fun d =>
      leave3_3 c V a q O hq t d (fun X => owns (c : Thread nD τ) (((cfg3 a).win 3).stage ((cfg3 a).slots t 3)) fullShare X))))))

end Cert.Run
-- ==== Proof.ChipIn.lean ====
module

public import proofs.«01_k».proof.Proof.Blocks

@[expose] public section

/-! The sum over the chips of the larger gradient. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- Window 0's block at a point. -/
def blk6_0 (V : Valuation τ sig (Elt F)) (a : (pcfg6 (F := F)).Adm) (t : Fin grid6.N) : S256x2048.Idx → Elt F .f32 :=
  ((win6 a 0).blk t).view.read (Elt F) (V (Proc.devRef .tc main_v24_1))

/-- Window 1's block at a point. -/
def blk6_1 (V : Valuation τ sig (Elt F)) (a : (pcfg6 (F := F)).Adm) (t : Fin grid6.N) : S3x256x2048.Idx → Elt F .bf16 :=
  ((win6 a 1).blk t).view.read (Elt F) (V (Proc.devRef .tc main_v20))

/-- The sum a point leaves in its block of the result. -/
abbrev tot6 (V : Valuation τ sig (Elt F)) (a : (pcfg6 (F := F)).Adm) (t : Fin grid6.N) : S256x2048.Idx → Elt F .f32 :=
  k6_pay1 (blk6_0 V a t) (plane0 (blk6_1 V a t)) (plane1 (blk6_1 V a t)) (plane2 (blk6_1 V a t))

variable (c : Dev nD) (V : Valuation τ sig (Elt F)) (a : (pcfg6 (F := F)).Adm) (O : CellTallies nD τ sig Unit)

/-- The data of the region: each point's sum in its block of the result. -/
def dat6 : Dat τ (Elt F) Unit ℕ UU ℕ (cfg6 a) c where
  A := fun
    | 0 => V (Proc.devRef .tc main_v24_1)
    | 1 => V (Proc.devRef .tc main_v20)
    | 2 => V (Proc.devRef .tc main_v28)
    | ⟨_ + 3, h⟩ => absurd h (Nat.not_lt.2 (Nat.le_add_left _ _))
  after := fun
    | 0 => fun t => blk6_0 V a t
    | 1 => fun t => blk6_1 V a t
    | 2 => fun t => tot6 V a t
    | ⟨_ + 3, h⟩ => absurd h (Nat.not_lt.2 (Nat.le_add_left _ _))
  Φ _ := iprop(prefHeld pre6 c (fun _ => fullShare) a.1 ∗ Pipeline.scopedRest spec6 c)
  q _ := fullShare
  owed _ := O

theorem clip6 (w : Fin 3) (i : grid6.Coords) (b) : ((cfg6 a).win w).clip i b = none := by
  fin_cases w <;> rfl

theorem before6_0 (t : Fin grid6.N) (d) : (dat6 c V a O).before 0 t d = blk6_0 V a t :=
  before_in (dat6 c V a O) 0 rfl (fun _ => rfl) (fun i b => clip6 a 0 i b) (fun _ => rfl) t d

theorem before6_1 (t : Fin grid6.N) (d) : (dat6 c V a O).before 1 t d = blk6_1 V a t :=
  before_in (dat6 c V a O) 1 rfl (fun _ => rfl) (fun i b => clip6 a 1 i b) (fun _ => rfl) t d

set_option maxHeartbeats 1600000 in
/-- The body at a point, from what the pipeline hands it. -/
theorem step6 (t : Fin grid6.N) :
    iprop((prefHeld pre6 c (fun _ => fullShare) a.1 ∗ Pipeline.scopedRest spec6 c) ∗ (dat6 c V a O).owesAt () t.castSucc
        ∗ (∃ d, owns (c : Thread nD τ) (((cfg6 a).win 0).stage ((cfg6 a).slots t 0)) fullShare ((dat6 c V a O).before 0 t d))
        ∗ (∃ d, owns (c : Thread nD τ) (((cfg6 a).win 1).stage ((cfg6 a).slots t 1)) fullShare ((dat6 c V a O).before 1 t d))
        ∗ (∃ d, owns (c : Thread nD τ) (((cfg6 a).win 2).stage ((cfg6 a).slots t 2)) fullShare ((dat6 c V a O).before 2 t d)))
      ⊢ wp frame (wpE (defs₀ (F := F)) 𝒱₀ c none) Set.univ
        (cc6_chip_sum_w_in (grid6.coords t) (Memref.whole main_v17) (Memref.isWhole_whole _)
          (spec6_0.stage ((cfg6 a).slots t 0)) (hstage6_0 (((cfg6 a).slots t 0).cast nbuf6_0))
          (spec6_1.stage ((cfg6 a).slots t 1)) (hstage6_1 (((cfg6 a).slots t 1).cast nbuf6_1))
          (spec6_2.stage ((cfg6 a).slots t 2)) (hstage6_2 (((cfg6 a).slots t 2).cast nbuf6_2)))
        fun _ => iprop((prefHeld pre6 c (fun _ => fullShare) a.1 ∗ Pipeline.scopedRest spec6 c) ∗ (dat6 c V a O).owesAt () t.castSucc
        ∗ owns (c : Thread nD τ) (((cfg6 a).win 0).stage ((cfg6 a).slots t 0)) fullShare (blk6_0 V a t)
        ∗ owns (c : Thread nD τ) (((cfg6 a).win 1).stage ((cfg6 a).slots t 1)) fullShare (blk6_1 V a t)
        ∗ owns (c : Thread nD τ) (((cfg6 a).win 2).stage ((cfg6 a).slots t 2)) fullShare (tot6 V a t)) := by
  have e0 : ∀ d, (owns (c : Thread nD τ) (((cfg6 a).win 0).stage ((cfg6 a).slots t 0)) fullShare ((dat6 c V a O).before 0 t d) : sProp 𝕄)
      ⊢ owns (c : Thread nD τ) (((cfg6 a).win 0).stage ((cfg6 a).slots t 0)) fullShare (blk6_0 V a t) := fun d => by rw [before6_0]
  have e1 : ∀ d, (owns (c : Thread nD τ) (((cfg6 a).win 1).stage ((cfg6 a).slots t 1)) fullShare ((dat6 c V a O).before 1 t d) : sProp 𝕄)
      ⊢ owns (c : Thread nD τ) (((cfg6 a).win 1).stage ((cfg6 a).slots t 1)) fullShare (blk6_1 V a t) := fun d => by rw [before6_1]
  iintro ⟨HR, HO, ⟨%d0, H0⟩, ⟨%d1, H1⟩, ⟨%d2, H2⟩⟩
  iapply (chipIn c (grid6.coords t) _ (hstage6_0 (((cfg6 a).slots t 0).cast nbuf6_0)) _ (hstage6_1 (((cfg6 a).slots t 1).cast nbuf6_1))
    _ (hstage6_2 (((cfg6 a).slots t 2).cast nbuf6_2))
    (blk6_0 V a t) (blk6_1 V a t) ((dat6 c V a O).before 2 t d2))
  isplitl [H0 H1 H2]
  · isplitl [H0]; · iapply (e0 d0); iexact H0
    isplitl [H1]; · iapply (e1 d1); iexact H1
    iexact H2
  iintro ⟨H0, H1, H2⟩
  isplitl [HR]; · iexact HR
  isplitl [HO]; · iexact HO
  isplitl [H0]; · iexact H0
  isplitl [H1]; · iexact H1
  iexact H2

/-- The body's obligation. -/
theorem body6 : BodyObligation (dat6 c V a O) (defs₀ (F := F)) 𝒱₀ () Set.univ := fun t => by
  rw [bigSep_W6, bigSep_W6]
  have hrow : defs₀ (F := F) .tc (cfg6 a).body ((cfg6 a).bodyArgs t ((cfg6 a).slots t)) =
      cc6_chip_sum_w_in (grid6.coords t) (Memref.whole main_v17) (Memref.isWhole_whole _)
        (spec6_0.stage ((cfg6 a).slots t 0)) (hstage6_0 (((cfg6 a).slots t 0).cast nbuf6_0))
        (spec6_1.stage ((cfg6 a).slots t 1)) (hstage6_1 (((cfg6 a).slots t 1).cast nbuf6_1))
        (spec6_2.stage ((cfg6 a).slots t 2)) (hstage6_2 (((cfg6 a).slots t 2).cast nbuf6_2)) := by
    unfold defs₀; rw [Defs.onTc_tc]
  exact triple_restated (step6 c V a O t) (congrArg (wp frame (wpE (defs₀ (F := F)) 𝒱₀ c none) Set.univ) hrow.symm) .rfl
    fun _ => .rfl

end Cert.Run
-- ==== Proof.ChipOut.lean ====
module

public import proofs.«01_k».proof.Proof.Blocks

@[expose] public section

/-! The sum over the chips of the smaller gradient. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- Window 0's block at a point. -/
def blk7_0 (V : Valuation τ sig (Elt F)) (a : (pcfg7 (F := F)).Adm) (t : Fin grid7.N) : S256x2048.Idx → Elt F .f32 :=
  ((win7 a 0).blk t).view.read (Elt F) (V (Proc.devRef .tc main_v25_1))

/-- Window 1's block at a point. -/
def blk7_1 (V : Valuation τ sig (Elt F)) (a : (pcfg7 (F := F)).Adm) (t : Fin grid7.N) : S3x256x2048.Idx → Elt F .bf16 :=
  ((win7 a 1).blk t).view.read (Elt F) (V (Proc.devRef .tc main_v21))

/-- The sum a point leaves in its block of the result. -/
abbrev tot7 (V : Valuation τ sig (Elt F)) (a : (pcfg7 (F := F)).Adm) (t : Fin grid7.N) : S256x2048.Idx → Elt F .f32 :=
  k7_pay1 (blk7_0 V a t) (plane0 (blk7_1 V a t)) (plane1 (blk7_1 V a t)) (plane2 (blk7_1 V a t))

variable (c : Dev nD) (V : Valuation τ sig (Elt F)) (a : (pcfg7 (F := F)).Adm) (O : CellTallies nD τ sig Unit)

/-- The data of the region: each point's sum in its block of the result. -/
def dat7 : Dat τ (Elt F) Unit ℕ UU ℕ (cfg7 a) c where
  A := fun
    | 0 => V (Proc.devRef .tc main_v25_1)
    | 1 => V (Proc.devRef .tc main_v21)
    | 2 => V (Proc.devRef .tc main_v29)
    | ⟨_ + 3, h⟩ => absurd h (Nat.not_lt.2 (Nat.le_add_left _ _))
  after := fun
    | 0 => fun t => blk7_0 V a t
    | 1 => fun t => blk7_1 V a t
    | 2 => fun t => tot7 V a t
    | ⟨_ + 3, h⟩ => absurd h (Nat.not_lt.2 (Nat.le_add_left _ _))
  Φ _ := iprop(prefHeld pre7 c (fun _ => fullShare) a.1 ∗ Pipeline.scopedRest spec7 c)
  q _ := fullShare
  owed _ := O

theorem clip7 (w : Fin 3) (i : grid7.Coords) (b) : ((cfg7 a).win w).clip i b = none := by
  fin_cases w <;> rfl

theorem before7_0 (t : Fin grid7.N) (d) : (dat7 c V a O).before 0 t d = blk7_0 V a t :=
  before_in (dat7 c V a O) 0 rfl (fun _ => rfl) (fun i b => clip7 a 0 i b) (fun _ => rfl) t d

theorem before7_1 (t : Fin grid7.N) (d) : (dat7 c V a O).before 1 t d = blk7_1 V a t :=
  before_in (dat7 c V a O) 1 rfl (fun _ => rfl) (fun i b => clip7 a 1 i b) (fun _ => rfl) t d

set_option maxHeartbeats 1600000 in
/-- The body at a point, from what the pipeline hands it. -/
theorem step7 (t : Fin grid7.N) :
    iprop((prefHeld pre7 c (fun _ => fullShare) a.1 ∗ Pipeline.scopedRest spec7 c) ∗ (dat7 c V a O).owesAt () t.castSucc
        ∗ (∃ d, owns (c : Thread nD τ) (((cfg7 a).win 0).stage ((cfg7 a).slots t 0)) fullShare ((dat7 c V a O).before 0 t d))
        ∗ (∃ d, owns (c : Thread nD τ) (((cfg7 a).win 1).stage ((cfg7 a).slots t 1)) fullShare ((dat7 c V a O).before 1 t d))
        ∗ (∃ d, owns (c : Thread nD τ) (((cfg7 a).win 2).stage ((cfg7 a).slots t 2)) fullShare ((dat7 c V a O).before 2 t d)))
      ⊢ wp frame (wpE (defs₀ (F := F)) 𝒱₀ c none) Set.univ
        (cc7_chip_sum_w_out (grid7.coords t) (Memref.whole main_v17) (Memref.isWhole_whole _)
          (spec7_0.stage ((cfg7 a).slots t 0)) (hstage7_0 (((cfg7 a).slots t 0).cast nbuf7_0))
          (spec7_1.stage ((cfg7 a).slots t 1)) (hstage7_1 (((cfg7 a).slots t 1).cast nbuf7_1))
          (spec7_2.stage ((cfg7 a).slots t 2)) (hstage7_2 (((cfg7 a).slots t 2).cast nbuf7_2)))
        fun _ => iprop((prefHeld pre7 c (fun _ => fullShare) a.1 ∗ Pipeline.scopedRest spec7 c) ∗ (dat7 c V a O).owesAt () t.castSucc
        ∗ owns (c : Thread nD τ) (((cfg7 a).win 0).stage ((cfg7 a).slots t 0)) fullShare (blk7_0 V a t)
        ∗ owns (c : Thread nD τ) (((cfg7 a).win 1).stage ((cfg7 a).slots t 1)) fullShare (blk7_1 V a t)
        ∗ owns (c : Thread nD τ) (((cfg7 a).win 2).stage ((cfg7 a).slots t 2)) fullShare (tot7 V a t)) := by
  have e0 : ∀ d, (owns (c : Thread nD τ) (((cfg7 a).win 0).stage ((cfg7 a).slots t 0)) fullShare ((dat7 c V a O).before 0 t d) : sProp 𝕄)
      ⊢ owns (c : Thread nD τ) (((cfg7 a).win 0).stage ((cfg7 a).slots t 0)) fullShare (blk7_0 V a t) := fun d => by rw [before7_0]
  have e1 : ∀ d, (owns (c : Thread nD τ) (((cfg7 a).win 1).stage ((cfg7 a).slots t 1)) fullShare ((dat7 c V a O).before 1 t d) : sProp 𝕄)
      ⊢ owns (c : Thread nD τ) (((cfg7 a).win 1).stage ((cfg7 a).slots t 1)) fullShare (blk7_1 V a t) := fun d => by rw [before7_1]
  iintro ⟨HR, HO, ⟨%d0, H0⟩, ⟨%d1, H1⟩, ⟨%d2, H2⟩⟩
  iapply (chipOut c (grid7.coords t) _ (hstage7_0 (((cfg7 a).slots t 0).cast nbuf7_0)) _ (hstage7_1 (((cfg7 a).slots t 1).cast nbuf7_1))
    _ (hstage7_2 (((cfg7 a).slots t 2).cast nbuf7_2))
    (blk7_0 V a t) (blk7_1 V a t) ((dat7 c V a O).before 2 t d2))
  isplitl [H0 H1 H2]
  · isplitl [H0]; · iapply (e0 d0); iexact H0
    isplitl [H1]; · iapply (e1 d1); iexact H1
    iexact H2
  iintro ⟨H0, H1, H2⟩
  isplitl [HR]; · iexact HR
  isplitl [HO]; · iexact HO
  isplitl [H0]; · iexact H0
  isplitl [H1]; · iexact H1
  iexact H2

/-- The body's obligation. -/
theorem body7 : BodyObligation (dat7 c V a O) (defs₀ (F := F)) 𝒱₀ () Set.univ := fun t => by
  rw [bigSep_W7, bigSep_W7]
  have hrow : defs₀ (F := F) .tc (cfg7 a).body ((cfg7 a).bodyArgs t ((cfg7 a).slots t)) =
      cc7_chip_sum_w_out (grid7.coords t) (Memref.whole main_v17) (Memref.isWhole_whole _)
        (spec7_0.stage ((cfg7 a).slots t 0)) (hstage7_0 (((cfg7 a).slots t 0).cast nbuf7_0))
        (spec7_1.stage ((cfg7 a).slots t 1)) (hstage7_1 (((cfg7 a).slots t 1).cast nbuf7_1))
        (spec7_2.stage ((cfg7 a).slots t 2)) (hstage7_2 (((cfg7 a).slots t 2).cast nbuf7_2)) := by
    unfold defs₀; rw [Defs.onTc_tc]
  exact triple_restated (step7 c V a O t) (congrArg (wp frame (wpE (defs₀ (F := F)) 𝒱₀ c none) Set.univ) hrow.symm) .rfl
    fun _ => .rfl

end Cert.Run
-- ==== Proof.State.lean ====
module

public import proofs.«01_k».proof.Proof.PairIn
public import proofs.«01_k».proof.Proof.PairOut
public import proofs.«01_k».proof.Proof.ChipIn
public import proofs.«01_k».proof.Proof.ChipOut

@[expose] public section

/-! What the buffers hold when the exchanges begin. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- What device `c`'s buffers hold at the launch. -/
abbrev M (m : (ℓ : Loc nD τ sig) → Buf (Elt F) ℓ) (c : Dev nD) : Valuation τ sig (Elt F) := fun b => m (c, b)

/-- What they hold when the host's operations are over, but for the buffers it only allocates. -/
def V0 (m : (ℓ : Loc nD τ sig) → Buf (Elt F) ℓ) (c : Dev nD) : Valuation τ sig (Elt F) :=
  StableHlo.after hostOps0_5 (StableHlo.after (hostOps0 c) (M m c))

/-- The table device `c` computes: its core's number in its chip, and its chip's number. -/
def tabC (c : Dev nD) : S2.Idx → BitVec 32 := fun i => if (i 0).val = 0 then BitVec.ofNat 32 (c.val % 2) else BitVec.ofNat 32 (c.val / 2)

/-- The chip's number. -/
def chip (c : Dev nD) : Fin 4 := ⟨c.val / 2, by have := c.isLt; simp only [nD] at this; omega⟩

/-- The host's arithmetic on the device's number. -/
theorem tab_eval : ∀ (c : Dev nD) (i : S2.Idx), concatenate S2 0
      [⟨S1, broadcastInDim S1 ![] bcast_S_S1 (id (Host.remui (Host.divui (constantI S_ 32 c.word) (constantI S_ 32 1#32)) (constantI S_ 32 2#32)))⟩,
        ⟨S1, broadcastInDim S1 ![] bcast_S_S1 (addi
            (muli (constantI S_ 32 2#32) (id (Host.remui (Host.divui (constantI S_ 32 c.word) (constantI S_ 32 4#32)) (constantI S_ 32 2#32))))
            (id (Host.remui (Host.divui (constantI S_ 32 c.word) (constantI S_ 32 2#32)) (constantI S_ 32 2#32))))⟩]
      concatenates_S1_S1_S2_d0 i = tabC c i := by decide +kernel

variable (m : (ℓ : Loc nD τ sig) → Buf (Elt F) ℓ) (c : Dev nD)

section
open Idealize.ShloMosaic.StableHlo

theorem V0_arg0 : V0 m c (Proc.devRef .tc main_arg0) = m ((c : Thread nD τ).loc main_arg0) := by
  unfold V0
  after_results
theorem V0_arg1 : V0 m c (Proc.devRef .tc main_arg1) = m ((c : Thread nD τ).loc main_arg1) := by
  unfold V0
  after_results
theorem V0_in : V0 m c (Proc.devRef .tc main_v22_2) = m ((c : Thread nD τ).loc main_arg0) := by
  unfold V0
  after_results
  rfl
theorem V0_out : V0 m c (Proc.devRef .tc main_v22_3) = m ((c : Thread nD τ).loc main_arg1) := by
  unfold V0
  after_results
  rfl
theorem V0_tab : V0 m c (Proc.devRef .tc main_v17) = tabC c := by
  unfold V0
  after_results
  refine funext fun i => ?_
  exact tab_eval c i
end

/-- The table, as region 2 takes it. -/
def pf2 (c : Dev nD) : pre2.Contents (Elt F) := fun
  | 0 => tabC c
  | ⟨_ + 1, h⟩ => absurd h (Nat.not_lt.2 (Nat.le_add_left _ _))
/-- Where region 2's block by the table lies. -/
theorem ix2_eval : ∀ (c : Dev nD) (i : grid2.Coords), (![(BitVec.ofNat 32 (i 1).val).toNat, (Scalar.addi (Scalar.muli (BitVec.ofNat 32 (c.val % 2)) 4#32) (BitVec.ofNat 32 (i 0).val)).toNat, 0] : Fin 3 → ℕ) = ![(i 1).val, c.val % 2 * 4 + (i 0).val, 0] := by decide +kernel
theorem in2_eval : ∀ (c : Dev nD) (i : grid2.Coords) (a), ((![(i 1).val, c.val % 2 * 4 + (i 0).val, 0] : Fin 3 → ℕ) a + 1) * S1x256x2048.size a ≤ S4x2048x2048.size a := by decide +kernel
theorem ix2_tab (c : Dev nD) (i : grid2.Coords) : cc2_transform_0 inb_S2_S1_0 numel1_S1 (pf2 (F := F) c) i = ![(i 1).val, c.val % 2 * 4 + (i 0).val, 0] := by
  have e : ((pf2 (F := F) c).at 0 (Rect.unit (s := S2) ![0] S1.size inb_S2_S1_0) numel1_S1 : BitVec 32) = BitVec.ofNat 32 (c.val % 2) := rfl
  rw [← ix2_eval]
  unfold cc2_transform_0
  simp only [e]
  rfl
theorem ok2_tab (c : Dev nD) : ok2 (F := F) (pf2 c) := fun i => ⟨fun a => by rw [ix2_tab]; exact in2_eval c i a, Or.inl rfl⟩

/-- The table, as region 3 takes it. -/
def pf3 (c : Dev nD) : pre3.Contents (Elt F) := fun
  | 0 => tabC c
  | ⟨_ + 1, h⟩ => absurd h (Nat.not_lt.2 (Nat.le_add_left _ _))
/-- Where region 3's block by the table lies. -/
theorem ix3_eval : ∀ (c : Dev nD) (i : grid3.Coords), (![(BitVec.ofNat 32 (i 1).val).toNat, (Scalar.addi (Scalar.muli (BitVec.ofNat 32 (c.val % 2)) 1#32) (BitVec.ofNat 32 (i 0).val)).toNat, 0] : Fin 3 → ℕ) = ![(i 1).val, c.val % 2 + (i 0).val, 0] := by decide +kernel
theorem in3_eval : ∀ (c : Dev nD) (i : grid3.Coords) (a), ((![(i 1).val, c.val % 2 + (i 0).val, 0] : Fin 3 → ℕ) a + 1) * S1x256x2048.size a ≤ S4x512x2048.size a := by decide +kernel
theorem ix3_tab (c : Dev nD) (i : grid3.Coords) : cc3_transform_0 inb_S2_S1_0 numel1_S1 (pf3 (F := F) c) i = ![(i 1).val, c.val % 2 + (i 0).val, 0] := by
  have e : ((pf3 (F := F) c).at 0 (Rect.unit (s := S2) ![0] S1.size inb_S2_S1_0) numel1_S1 : BitVec 32) = BitVec.ofNat 32 (c.val % 2) := rfl
  rw [← ix3_eval]
  unfold cc3_transform_0
  simp only [e]
  rfl
theorem ok3_tab (c : Dev nD) : ok3 (F := F) (pf3 c) := fun i => ⟨fun a => by rw [ix3_tab]; exact in3_eval c i a, Or.inl rfl⟩

/-- The table, as region 6 takes it. -/
def pf6 (c : Dev nD) : pre6.Contents (Elt F) := fun
  | 0 => tabC c
  | ⟨_ + 1, h⟩ => absurd h (Nat.not_lt.2 (Nat.le_add_left _ _))
/-- Where region 6's block by the table lies. -/
theorem ix6_eval : ∀ (c : Dev nD) (i : grid6.Coords), (![(Scalar.addi (Scalar.muli (BitVec.ofNat 32 (c.val % 2)) 4#32) (BitVec.ofNat 32 (i 0).val)).toNat, 0] : Fin 2 → ℕ) = ![c.val % 2 * 4 + (i 0).val, 0] := by decide +kernel
theorem in6_eval : ∀ (c : Dev nD) (i : grid6.Coords) (a), ((![c.val % 2 * 4 + (i 0).val, 0] : Fin 2 → ℕ) a + 1) * S256x2048.size a ≤ S2048x2048.size a := by decide +kernel
theorem ix6_tab (c : Dev nD) (i : grid6.Coords) : cc6_transform_2 inb_S2_S1_0 numel1_S1 (pf6 (F := F) c) i = ![c.val % 2 * 4 + (i 0).val, 0] := by
  have e : ((pf6 (F := F) c).at 0 (Rect.unit (s := S2) ![0] S1.size inb_S2_S1_0) numel1_S1 : BitVec 32) = BitVec.ofNat 32 (c.val % 2) := rfl
  rw [← ix6_eval]
  unfold cc6_transform_2
  simp only [e]
  rfl
theorem ok6_tab (c : Dev nD) : ok6 (F := F) (pf6 c) := fun i => ⟨fun a => by rw [ix6_tab]; exact in6_eval c i a, Or.inl rfl⟩

/-- The table, as region 7 takes it. -/
def pf7 (c : Dev nD) : pre7.Contents (Elt F) := fun
  | 0 => tabC c
  | ⟨_ + 1, h⟩ => absurd h (Nat.not_lt.2 (Nat.le_add_left _ _))
/-- Where region 7's block by the table lies. -/
theorem ix7_eval : ∀ (c : Dev nD) (i : grid7.Coords), (![(Scalar.addi (Scalar.muli (BitVec.ofNat 32 (c.val % 2)) 1#32) (BitVec.ofNat 32 (i 0).val)).toNat, 0] : Fin 2 → ℕ) = ![c.val % 2 + (i 0).val, 0] := by decide +kernel
theorem in7_eval : ∀ (c : Dev nD) (i : grid7.Coords) (a), ((![c.val % 2 + (i 0).val, 0] : Fin 2 → ℕ) a + 1) * S256x2048.size a ≤ S512x2048.size a := by decide +kernel
theorem ix7_tab (c : Dev nD) (i : grid7.Coords) : cc7_transform_2 inb_S2_S1_0 numel1_S1 (pf7 (F := F) c) i = ![c.val % 2 + (i 0).val, 0] := by
  have e : ((pf7 (F := F) c).at 0 (Rect.unit (s := S2) ![0] S1.size inb_S2_S1_0) numel1_S1 : BitVec 32) = BitVec.ofNat 32 (c.val % 2) := rfl
  rw [← ix7_eval]
  unfold cc7_transform_2
  simp only [e]
  rfl
theorem ok7_tab (c : Dev nD) : ok7 (F := F) (pf7 c) := fun i => ⟨fun a => by rw [ix7_tab]; exact in7_eval c i a, Or.inl rfl⟩

/-- The tables each region runs at. -/
def adm (c : Dev nD) : (p : Fin 10) → (pcfgs (F := F) p).Adm := fun
  | 0 => cfg0.toPCfg_adm
  | 1 => cfg1.toPCfg_adm
  | 2 => ⟨pf2 c, ok2_tab c⟩
  | 3 => ⟨pf3 c, ok3_tab c⟩
  | 4 => cfg4.toPCfg_adm
  | 5 => cfg5.toPCfg_adm
  | 6 => ⟨pf6 c, ok6_tab c⟩
  | 7 => ⟨pf7 c, ok7_tab c⟩
  | 8 => cfg8.toPCfg_adm
  | 9 => cfg9.toPCfg_adm
  | ⟨_ + 10, h⟩ => absurd h (Nat.not_lt.2 (Nat.le_add_left _ _))

theorem word_tab : word (F := F) (tabC c) = BitVec.ofNat 32 (chip c).val := by
  have e : (word (F := F) (tabC c)) = BitVec.ofNat 32 (c.val / 2) := rfl
  exact e

end Cert.Run
-- ==== Proof.Waits.lean ====
module

public import proofs.«01_k».proof.Proof.Exchange

@[expose] public section

/-! The wait of the swap. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B C : Dev nD → Valuation τ sig (Elt F))

/-- A transfer whose cells are closed. -/
def shutOff (c : Dev nD) (j : Fin 10) : sProp 𝕄 := iprop(semVal (kcell c (snd j)) 0 ∗ semVal (kcell c (rcv j)) 0)

/-- A transfer that is over closes its cells. -/
theorem closeOver (K : Dev nD × Ck → ℕ) (c : Dev nD) (j : Fin 10) :
    iprop(recs A B C K ∗ over (F := F) c j) ⊢ (|={Set.univ}=> shutOff c j : sProp 𝕄) := by
  unfold over shutOff
  iintro ⟨#HR, A1, A2⟩
  imod (close A B C K c (snd j)) $$ [A1] with Z1
  · isplitr; · iexact HR
    iexact A1
  imod (close A B C K c (rcv j)) $$ [A2] with Z2
  · isplitr; · iexact HR
    iexact A2
  imodintro
  isplitl [Z1]; · iexact Z1
  iexact Z2

/-! ## What a slice moves, at whatever offset it lies -/

theorem credLi (off : Fin 3 → ℕ) (h : ∀ i, off i + S4x1024x2048.size i ≤ S4x2048x2048.size i) :
    ((Memref.whole main_v22_2 : Memref sig .tc .hbm S4x2048x2048 .f32).slice (Rect.unit (s := S4x2048x2048) off S4x1024x2048.size h) (fun _ => rfl)).view.dmaCredit = N 0 := rfl

theorem credLo (off : Fin 3 → ℕ) (h : ∀ i, off i + S4x256x2048.size i ≤ S4x512x2048.size i) :
    ((Memref.whole main_v22_3 : Memref sig .tc .hbm S4x512x2048 .f32).slice (Rect.unit (s := S4x512x2048) off S4x256x2048.size h) (fun _ => rfl)).view.dmaCredit = N 1 := rfl

/-! ## The wait of the swap -/

set_option maxHeartbeats 1600000 in
/-- The swap's wait kernel. -/
theorem swapWait (K : Dev nD × Ck → ℕ) (c : Dev nD) (l : List (Fin 8 × Ck)) (hl : ∀ x ∈ l, clev (snd 0) < clev x.2) (hl' : ∀ x ∈ l, clev (rcv 0) < clev x.2) (Kt : PUnit → sProp 𝕄) :
    iprop((recs A B C K ∗ ow c l ∗ atPos ER (kcell c (bar 0)) (0 + 1) ∅ 0 ∗ going (F := F) c 0 ∗ going (F := F) c 1)
      ∗ (ow c l ∗ semVal (kcell c (bar 0)) 0 ∗ shutOff (F := F) c 0 ∗ shutOff (F := F) c 1 ∗ left A B C c 0 ∗ came A B C c 0 ∗ left A B C c 1 ∗ came A B C c 1 -∗ Kt ⟨⟩))
      ⊢ wp frame (wpE (defs₀ (F := F)) 𝒱₀ c none) Set.univ
          (cc1_swap_wait (Memref.whole main_v22_2) (Memref.isWhole_whole _) (Memref.whole main_v22_3) (Memref.isWhole_whole _) (Memref.whole main_v18) (Memref.isWhole_whole _) (Memref.whole main_v19) (Memref.isWhole_whole _) main_v22_0 main_v22_1 (Memref.whole main_v22_8) (Memref.isWhole_whole _) (Memref.whole main_v22_2) (Memref.isWhole_whole _) (Memref.whole main_v22_3) (Memref.isWhole_whole _) (Memref.whole main_v18) (Memref.isWhole_whole _) (Memref.whole main_v19) (Memref.isWhole_whole _)) Kt := by
  simp only [cc1_swap_wait_eq_skeleton]; unfold cc1_swap_wait_skel
  simp only [k1_part1_eq_skeleton]; unfold k1_part1_skel
  simp only [Prog.lift, Prog.bind_op, Prog.bind_ret, Prog.pure_eq_ret, wp_deviceId]
  iintro ⟨⟨#HR, HO, Hat, G0, G1⟩, Hk⟩
  iapply (wp_both A B C K c 0 l hl hl' rfl rfl (credLi _ _) rfl) $$ [HO G0]
  · isplitr; · iexact HR
    isplitl [HO]; · iexact HO
    iexact G0
  iintro ⟨HO, V0, L0, C0⟩
  iapply (wp_both A B C K c 1 l hl hl' rfl rfl (credLo _ _) rfl) $$ [HO G1]
  · isplitr; · iexact HR
    isplitl [HO]; · iexact HO
    iexact G1
  iintro ⟨HO, V1, L1, C1⟩
  rw [wp_ret]
  imod (close A B C K c (bar 0)) $$ [Hat] with Z
  · isplitr; · iexact HR
    iexact Hat
  imod (closeOver A B C K c 0) $$ [V0] with Z0
  · isplitr; · iexact HR
    iexact V0
  imod (closeOver A B C K c 1) $$ [V1] with Z1
  · isplitr; · iexact HR
    iexact V1
  imodintro
  iapply Hk
  isplitl [HO]; · iexact HO
  isplitl [Z]; · iexact Z
  isplitl [Z0]; · iexact Z0
  isplitl [Z1]; · iexact Z1
  isplitl [L0]; · iexact L0
  isplitl [C0]; · iexact C0
  isplitl [L1]; · iexact L1
  iexact C1

end Cert.Run
-- ==== Proof.Scatter.lean ====
module

public import proofs.«01_k».proof.Proof.Waits

@[expose] public section

/-! The kernels of the scatter among the chips. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B C : Dev nD → Valuation τ sig (Elt F))

/-! ## What a slice moves, at whatever offset it lies -/

theorem credQi (off : Fin 3 → ℕ) (h : ∀ i, off i + S1x1024x2048.size i ≤ S4x1024x2048.size i) :
    (((Memref.whole main_v24_0 : Memref sig .tc .hbm S4x1024x2048 .bf16).slice (Rect.unit (s := S4x1024x2048) off S1x1024x2048.size h) (fun _ => rfl)).squeeze S1024x2048 squeezes_S1x1024x2048_S1024x2048).view.dmaCredit = N 2 := rfl

theorem credQo (off : Fin 3 → ℕ) (h : ∀ i, off i + S1x256x2048.size i ≤ S4x256x2048.size i) :
    (((Memref.whole main_v25_0 : Memref sig .tc .hbm S4x256x2048 .bf16).slice (Rect.unit (s := S4x256x2048) off S1x256x2048.size h) (fun _ => rfl)).squeeze S256x2048 squeezes_S1x256x2048_S256x2048).view.dmaCredit = N 3 := rfl

theorem credRi (off : Fin 3 → ℕ) (h : ∀ i, off i + S1x1024x2048.size i ≤ S3x1024x2048.size i) :
    (((Memref.whole main_v20 : Memref sig .tc .hbm S3x1024x2048 .bf16).slice (Rect.unit (s := S3x1024x2048) off S1x1024x2048.size h) (fun _ => rfl)).squeeze S1024x2048 squeezes_S1x1024x2048_S1024x2048).view.dmaCredit = N 2 := rfl

theorem credRo (off : Fin 3 → ℕ) (h : ∀ i, off i + S1x256x2048.size i ≤ S3x256x2048.size i) :
    (((Memref.whole main_v21 : Memref sig .tc .hbm S3x256x2048 .bf16).slice (Rect.unit (s := S3x256x2048) off S1x256x2048.size h) (fun _ => rfl)).squeeze S256x2048 squeezes_S1x256x2048_S256x2048).view.dmaCredit = N 3 := rfl

/-! ## The scatter among the chips -/

theorem lent1 (c : Dev nD) : iprop(vany (F := F) c rvI1 ∗ vany (F := F) c rvO1 ∗ vany (F := F) c rvI0 ∗ vany (F := F) c rvO0 ∗ vany (F := F) c rvI2 ∗ vany (F := F) c rvO2) ⊢ lent (F := F) c 1 := by
  change _ ⊢ iprop(emp ∗ (_ ∗ _) ∗ emp ∗ (_ ∗ _) ∗ emp ∗ (_ ∗ _) ∗ emp)
  iintro ⟨M0, M1, M2, M3, M4, M5⟩
  isplitr; · iempintro
  isplitl [M0 M1]
  · isplitl [M0]; · iexact M0
    iexact M1
  isplitr; · iempintro
  isplitl [M2 M3]
  · isplitl [M2]; · iexact M2
    iexact M3
  isplitr; · iempintro
  isplitl [M4 M5]
  · isplitl [M4]; · iexact M4
    iexact M5
  iempintro
theorem taken1 (c : Dev nD) : taken (F := F) c 1 ⊢ iprop(vany (F := F) (peer 2 c) rvI1 ∗ vany (F := F) (peer 2 c) rvO1 ∗ vany (F := F) (peer 4 c) rvI0 ∗ vany (F := F) (peer 4 c) rvO0 ∗ vany (F := F) (peer 6 c) rvI2 ∗ vany (F := F) (peer 6 c) rvO2) := by
  change iprop(emp ∗ (_ ∗ _) ∗ emp ∗ (_ ∗ _) ∗ emp ∗ (_ ∗ _) ∗ emp) ⊢ _

  iintro ⟨-, ⟨M0, M1⟩, -, ⟨M2, M3⟩, -, ⟨M4, M5⟩, -⟩
  isplitl [M0]; · iexact M0
  isplitl [M1]; · iexact M1
  isplitl [M2]; · iexact M2
  isplitl [M3]; · iexact M3
  isplitl [M4]; · iexact M4
  iexact M5

set_option maxHeartbeats 1600000 in
/-- The scatter's start kernel. -/
theorem scatterStart (K : Dev nD × Ck → ℕ) (c : Dev nD) (l : List (Fin 8 × Ck)) (hl : ∀ x ∈ (4, rcv 2) :: (4, rcv 3) :: (2, rcv 4) :: (2, rcv 5) :: (6, rcv 6) :: (6, rcv 7) :: l, clev (bar 1) < clev x.2)
    (m : Memref sig .tc .vmem S8x128 .f32) (hm : m.IsWhole) (d : S8x128.Idx → Elt F .f32) (Kt : PUnit → sProp 𝕄) :
    iprop((recs A B C K ∗ ow c (sigs 1 ((4, rcv 2) :: (4, rcv 3) :: (2, rcv 4) :: (2, rcv 5) :: (6, rcv 6) :: (6, rcv 7) :: l)) ∗ shut (F := F) c 1 ∗ ready (F := F) c 2 ∗ ready (F := F) c 3 ∗ ready (F := F) c 4 ∗ ready (F := F) c 5 ∗ ready (F := F) c 6 ∗ ready (F := F) c 7
        ∗ vany (F := F) c rvI1 ∗ vany (F := F) c rvO1 ∗ vany (F := F) c rvI0 ∗ vany (F := F) c rvO0 ∗ vany (F := F) c rvI2 ∗ vany (F := F) c rvO2 ∗ left A B C c 2 ∗ left A B C c 3 ∗ left A B C c 4 ∗ left A B C c 5 ∗ left A B C c 6 ∗ left A B C c 7 ∗ owns (c : Thread nD τ) m fullShare d)
      ∗ (ow c l ∗ atPos ER (kcell c (bar 1)) (0 + 1) ∅ 0 ∗ going (F := F) c 2 ∗ going (F := F) c 3 ∗ going (F := F) c 4 ∗ going (F := F) c 5 ∗ going (F := F) c 6 ∗ going (F := F) c 7 ∗ owns (c : Thread nD τ) m fullShare (k4_pay1 (F := F)) -∗ Kt ⟨⟩))
      ⊢ wp frame (wpE (defs₀ (F := F)) 𝒱₀ c none) Set.univ
          (cc4_scatter_start (Memref.whole main_v24_0) (Memref.isWhole_whole _) (Memref.whole main_v25_0) (Memref.isWhole_whole _) (Memref.whole main_v20) (Memref.isWhole_whole _) (Memref.whole main_v21) (Memref.isWhole_whole _) main_v26_0 main_v26_1 (Memref.whole main_v24_0) (Memref.isWhole_whole _) (Memref.whole main_v25_0) (Memref.isWhole_whole _) (Memref.whole main_v20) (Memref.isWhole_whole _) (Memref.whole main_v21) (Memref.isWhole_whole _) m hm) Kt := by
  simp only [cc4_scatter_start_eq_skeleton]; unfold cc4_scatter_start_skel
  simp only [k4_part1_eq_skeleton, k4_part2_eq_skeleton, k4_part3_eq_skeleton, k4_part4_eq_skeleton, k4_part5_eq_skeleton]; unfold k4_part1_skel k4_part2_skel k4_part3_skel k4_part4_skel k4_part5_skel
  simp only [semSignalWord, semWaitWord, Prog.lift, Prog.bind_op, Prog.bind_ret, Prog.pure_eq_ret, wp_deviceId]
  unfold shut
  iintro ⟨⟨#HR, HO, ⟨Ht, Hc, Hat⟩, R2, R3, R4, R5, R6, R7, M0, M1, M2, M3, M4, M5, S2, S3, S4, S5, S6, S7, Hm⟩, Hk⟩
  iapply (wp_entry A B C K c _ _ _ _ _ _ _ 1 (dev4_1 c) (dev4_2 c) (dev4_3 c) (dev4_4 c) (dev4_5 c) (dev4_6 c) (dev4_7 c) ((4, rcv 2) :: (4, rcv 3) :: (2, rcv 4) :: (2, rcv 5) :: (6, rcv 6) :: (6, rcv 7) :: l) hl rfl) $$ [HO Ht Hc Hat M0 M1 M2 M3 M4 M5]
  · isplitr; · iexact HR
    isplitl [HO]; · iexact HO
    isplitl [Ht]; · iexact Ht
    isplitl [M0 M1 M2 M3 M4 M5]
    · iapply (lent1 c)
      isplitl [M0]; · iexact M0
      isplitl [M1]; · iexact M1
      isplitl [M2]; · iexact M2
      isplitl [M3]; · iexact M3
      isplitl [M4]; · iexact M4
      iexact M5
    isplitl [Hc]; · iexact Hc
    iexact Hat
  iintro ⟨HO, Hat, Ht⟩
  ihave Ht := (taken1 c) $$ Ht
  icases Ht with ⟨M0, M1, M2, M3, M4, M5⟩
  iapply (wp_go A B C K 2 4 c _ rfl (dev4_8 c) (scI0 c) rvI0 rfl rfl (B c (Proc.devRef .tc main_v24_0)) ((4, rcv 3) :: (2, rcv 4) :: (2, rcv 5) :: (6, rcv 6) :: (6, rcv 7) :: l) rfl .rfl
    (by unfold came; rw [peer_peer])) $$ [HO R2 M2 S2]
  · isplitr; · iexact HR
    isplitl [S2]; · unfold left; iexact S2
    isplitl [M2]; · iexact M2
    isplitl [HO]; · iexact HO
    iexact R2
  iintro ⟨G2, HO⟩
  iapply (wp_go A B C K 3 4 c _ rfl (dev4_9 c) (scO0 c) rvO0 rfl rfl (B c (Proc.devRef .tc main_v25_0)) ((2, rcv 4) :: (2, rcv 5) :: (6, rcv 6) :: (6, rcv 7) :: l) rfl .rfl
    (by unfold came; rw [peer_peer])) $$ [HO R3 M3 S3]
  · isplitr; · iexact HR
    isplitl [S3]; · unfold left; iexact S3
    isplitl [M3]; · iexact M3
    isplitl [HO]; · iexact HO
    iexact R3
  iintro ⟨G3, HO⟩
  iapply (wp_go A B C K 4 2 c _ rfl (dev4_10 c) (scI1 c) rvI1 rfl rfl (B c (Proc.devRef .tc main_v24_0)) ((2, rcv 5) :: (6, rcv 6) :: (6, rcv 7) :: l) rfl .rfl
    (by unfold came; rw [peer_peer])) $$ [HO R4 M0 S4]
  · isplitr; · iexact HR
    isplitl [S4]; · unfold left; iexact S4
    isplitl [M0]; · iexact M0
    isplitl [HO]; · iexact HO
    iexact R4
  iintro ⟨G4, HO⟩
  iapply (wp_go A B C K 5 2 c _ rfl (dev4_11 c) (scO1 c) rvO1 rfl rfl (B c (Proc.devRef .tc main_v25_0)) ((6, rcv 6) :: (6, rcv 7) :: l) rfl .rfl
    (by unfold came; rw [peer_peer])) $$ [HO R5 M1 S5]
  · isplitr; · iexact HR
    isplitl [S5]; · unfold left; iexact S5
    isplitl [M1]; · iexact M1
    isplitl [HO]; · iexact HO
    iexact R5
  iintro ⟨G5, HO⟩
  iapply (wp_go A B C K 6 6 c _ rfl (dev4_12 c) (scI2 c) rvI2 rfl rfl (B c (Proc.devRef .tc main_v24_0)) ((6, rcv 7) :: l) rfl .rfl
    (by unfold came; rw [peer_peer])) $$ [HO R6 M4 S6]
  · isplitr; · iexact HR
    isplitl [S6]; · unfold left; iexact S6
    isplitl [M4]; · iexact M4
    isplitl [HO]; · iexact HO
    iexact R6
  iintro ⟨G6, HO⟩
  iapply (wp_go A B C K 7 6 c _ rfl (dev4_13 c) (scO2 c) rvO2 rfl rfl (B c (Proc.devRef .tc main_v25_0)) (l) rfl .rfl
    (by unfold came; rw [peer_peer])) $$ [HO R7 M5 S7]
  · isplitr; · iexact HR
    isplitl [S7]; · unfold left; iexact S7
    isplitl [M5]; · iexact M5
    isplitl [HO]; · iexact HO
    iexact R7
  iintro ⟨G7, HO⟩
  iapply (wp_token c m (k4_pay1 (F := F)) d) $$ Hm
  iintro Hm
  rw [wp_ret]
  imodintro
  iapply Hk
  isplitl [HO]; · iexact HO
  isplitl [Hat]; · iexact Hat
  isplitl [G2]; · iexact G2
  isplitl [G3]; · iexact G3
  isplitl [G4]; · iexact G4
  isplitl [G5]; · iexact G5
  isplitl [G6]; · iexact G6
  isplitl [G7]; · iexact G7
  iexact Hm

set_option maxHeartbeats 1600000 in
/-- The scatter's wait kernel. -/
theorem scatterWait (K : Dev nD × Ck → ℕ) (c : Dev nD) (l : List (Fin 8 × Ck)) (hl : ∀ x ∈ l, clev (snd 2) < clev x.2) (hl' : ∀ x ∈ l, clev (rcv 2) < clev x.2) (Kt : PUnit → sProp 𝕄) :
    iprop((recs A B C K ∗ ow c l ∗ atPos ER (kcell c (bar 1)) (0 + 1) ∅ 0 ∗ going (F := F) c 2 ∗ going (F := F) c 3 ∗ going (F := F) c 4 ∗ going (F := F) c 5 ∗ going (F := F) c 6 ∗ going (F := F) c 7)
      ∗ (ow c l ∗ semVal (kcell c (bar 1)) 0 ∗ shutOff (F := F) c 2 ∗ shutOff (F := F) c 3 ∗ shutOff (F := F) c 4 ∗ shutOff (F := F) c 5 ∗ shutOff (F := F) c 6 ∗ shutOff (F := F) c 7 ∗ left A B C c 2 ∗ came A B C c 2 ∗ left A B C c 3 ∗ came A B C c 3 ∗ left A B C c 4 ∗ came A B C c 4 ∗ left A B C c 5 ∗ came A B C c 5 ∗ left A B C c 6 ∗ came A B C c 6 ∗ left A B C c 7 ∗ came A B C c 7 -∗ Kt ⟨⟩))
      ⊢ wp frame (wpE (defs₀ (F := F)) 𝒱₀ c none) Set.univ
          (cc5_scatter_wait (Memref.whole main_v24_0) (Memref.isWhole_whole _) (Memref.whole main_v25_0) (Memref.isWhole_whole _) (Memref.whole main_v20) (Memref.isWhole_whole _) (Memref.whole main_v21) (Memref.isWhole_whole _) main_v26_0 main_v26_1 (Memref.whole main_v26_6) (Memref.isWhole_whole _) (Memref.whole main_v24_0) (Memref.isWhole_whole _) (Memref.whole main_v25_0) (Memref.isWhole_whole _) (Memref.whole main_v20) (Memref.isWhole_whole _) (Memref.whole main_v21) (Memref.isWhole_whole _)) Kt := by
  simp only [cc5_scatter_wait_eq_skeleton]; unfold cc5_scatter_wait_skel
  simp only [k5_part1_eq_skeleton, k5_part2_eq_skeleton, k5_part3_eq_skeleton, k5_part4_eq_skeleton]; unfold k5_part1_skel k5_part2_skel k5_part3_skel k5_part4_skel
  simp only [Prog.lift, Prog.bind_op, Prog.bind_ret, Prog.pure_eq_ret, wp_deviceId]
  iintro ⟨⟨#HR, HO, Hat, G2, G3, G4, G5, G6, G7⟩, Hk⟩
  iapply (wp_both A B C K c 2 l hl hl' rfl rfl (credQi _ _) (credRi _ _)) $$ [HO G2]
  · isplitr; · iexact HR
    isplitl [HO]; · iexact HO
    iexact G2
  iintro ⟨HO, V2, L2, C2⟩
  iapply (wp_both A B C K c 3 l hl hl' rfl rfl (credQo _ _) (credRo _ _)) $$ [HO G3]
  · isplitr; · iexact HR
    isplitl [HO]; · iexact HO
    iexact G3
  iintro ⟨HO, V3, L3, C3⟩
  iapply (wp_both A B C K c 4 l hl hl' rfl rfl (credQi _ _) (credRi _ _)) $$ [HO G4]
  · isplitr; · iexact HR
    isplitl [HO]; · iexact HO
    iexact G4
  iintro ⟨HO, V4, L4, C4⟩
  iapply (wp_both A B C K c 5 l hl hl' rfl rfl (credQo _ _) (credRo _ _)) $$ [HO G5]
  · isplitr; · iexact HR
    isplitl [HO]; · iexact HO
    iexact G5
  iintro ⟨HO, V5, L5, C5⟩
  iapply (wp_both A B C K c 6 l hl hl' rfl rfl (credQi _ _) (credRi _ _)) $$ [HO G6]
  · isplitr; · iexact HR
    isplitl [HO]; · iexact HO
    iexact G6
  iintro ⟨HO, V6, L6, C6⟩
  iapply (wp_both A B C K c 7 l hl hl' rfl rfl (credQo _ _) (credRo _ _)) $$ [HO G7]
  · isplitr; · iexact HR
    isplitl [HO]; · iexact HO
    iexact G7
  iintro ⟨HO, V7, L7, C7⟩
  rw [wp_ret]
  imod (close A B C K c (bar 1)) $$ [Hat] with Z
  · isplitr; · iexact HR
    iexact Hat
  imod (closeOver A B C K c 2) $$ [V2] with Z2
  · isplitr; · iexact HR
    iexact V2
  imod (closeOver A B C K c 3) $$ [V3] with Z3
  · isplitr; · iexact HR
    iexact V3
  imod (closeOver A B C K c 4) $$ [V4] with Z4
  · isplitr; · iexact HR
    iexact V4
  imod (closeOver A B C K c 5) $$ [V5] with Z5
  · isplitr; · iexact HR
    iexact V5
  imod (closeOver A B C K c 6) $$ [V6] with Z6
  · isplitr; · iexact HR
    iexact V6
  imod (closeOver A B C K c 7) $$ [V7] with Z7
  · isplitr; · iexact HR
    iexact V7
  imodintro
  iapply Hk
  isplitl [HO]; · iexact HO
  isplitl [Z]; · iexact Z
  isplitl [Z2]; · iexact Z2
  isplitl [Z3]; · iexact Z3
  isplitl [Z4]; · iexact Z4
  isplitl [Z5]; · iexact Z5
  isplitl [Z6]; · iexact Z6
  isplitl [Z7]; · iexact Z7
  isplitl [L2]; · iexact L2
  isplitl [C2]; · iexact C2
  isplitl [L3]; · iexact L3
  isplitl [C3]; · iexact C3
  isplitl [L4]; · iexact L4
  isplitl [C4]; · iexact C4
  isplitl [L5]; · iexact L5
  isplitl [C5]; · iexact C5
  isplitl [L6]; · iexact L6
  isplitl [C6]; · iexact C6
  isplitl [L7]; · iexact L7
  iexact C7

end Cert.Run
-- ==== Proof.Join.lean ====
module

public import proofs.«01_k».proof.Proof.Waits

@[expose] public section

/-! The kernels of the join of the two halves. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A B C : Dev nD → Valuation τ sig (Elt F))

/-! ## What a slice moves, at whatever offset it lies -/

theorem credJi (off : Fin 2 → ℕ) (h : ∀ i, off i + S1024x2048.size i ≤ S2048x2048.size i) :
    ((Memref.whole main_v28 : Memref sig .tc .hbm S2048x2048 .f32).slice (Rect.unit (s := S2048x2048) off S1024x2048.size h) (fun _ => rfl)).view.dmaCredit = N 8 := rfl

theorem credJo (off : Fin 2 → ℕ) (h : ∀ i, off i + S256x2048.size i ≤ S512x2048.size i) :
    ((Memref.whole main_v29 : Memref sig .tc .hbm S512x2048 .f32).slice (Rect.unit (s := S512x2048) off S256x2048.size h) (fun _ => rfl)).view.dmaCredit = N 9 := rfl

/-! ## The join of the two halves -/

theorem lent2 (c : Dev nD) : iprop(vany (F := F) c (jnI (peer 1 c)) ∗ vany (F := F) c (jnO (peer 1 c))) ⊢ lent (F := F) c 2 := by
  change _ ⊢ iprop((_ ∗ _) ∗ emp ∗ emp ∗ emp ∗ emp ∗ emp ∗ emp)
  iintro ⟨M0, M1⟩
  isplitl [M0 M1]
  · isplitl [M0]; · iexact M0
    iexact M1
  isplitr; · iempintro
  isplitr; · iempintro
  isplitr; · iempintro
  isplitr; · iempintro
  isplitr; · iempintro
  iempintro
theorem taken2 (c : Dev nD) : taken (F := F) c 2 ⊢ iprop(vany (F := F) (peer 1 c) (jnI c) ∗ vany (F := F) (peer 1 c) (jnO c)) := by
  change iprop((vany (F := F) (peer 1 c) (jnI (peer 1 (peer 1 c))) ∗ vany (F := F) (peer 1 c) (jnO (peer 1 (peer 1 c)))) ∗ emp ∗ emp ∗ emp ∗ emp ∗ emp ∗ emp) ⊢ _
  rw [peer_peer]
  iintro ⟨⟨M0, M1⟩, -⟩
  isplitl [M0]; · iexact M0
  iexact M1

set_option maxHeartbeats 1600000 in
/-- The join's start kernel. -/
theorem joinStart (K : Dev nD × Ck → ℕ) (c : Dev nD) (l : List (Fin 8 × Ck)) (hl : ∀ x ∈ (1, rcv 8) :: (1, rcv 9) :: l, clev (bar 2) < clev x.2)
    (m : Memref sig .tc .vmem S8x128 .f32) (hm : m.IsWhole) (d : S8x128.Idx → Elt F .f32) (Kt : PUnit → sProp 𝕄) :
    iprop((recs A B C K ∗ ow c (sigs 2 ((1, rcv 8) :: (1, rcv 9) :: l)) ∗ shut (F := F) c 2 ∗ ready (F := F) c 8 ∗ ready (F := F) c 9
        ∗ vany (F := F) c (jnI (peer 1 c)) ∗ vany (F := F) c (jnO (peer 1 c)) ∗ left A B C c 8 ∗ left A B C c 9 ∗ owns (c : Thread nD τ) m fullShare d)
      ∗ (ow c l ∗ atPos ER (kcell c (bar 2)) (0 + 1) ∅ 0 ∗ going (F := F) c 8 ∗ going (F := F) c 9 ∗ owns (c : Thread nD τ) m fullShare (k8_pay1 (F := F)) -∗ Kt ⟨⟩))
      ⊢ wp frame (wpE (defs₀ (F := F)) 𝒱₀ c none) Set.univ
          (cc8_join_start (Memref.whole main_v28) (Memref.isWhole_whole _) (Memref.whole main_v29) (Memref.isWhole_whole _) main_v30_0 main_v30_1 (Memref.whole main_v28) (Memref.isWhole_whole _) (Memref.whole main_v29) (Memref.isWhole_whole _) m hm) Kt := by
  simp only [cc8_join_start_eq_skeleton]; unfold cc8_join_start_skel
  simp only [k8_part1_eq_skeleton, k8_part2_eq_skeleton, k8_part3_eq_skeleton]; unfold k8_part1_skel k8_part2_skel k8_part3_skel
  simp only [semSignalWord, semWaitWord, Prog.lift, Prog.bind_op, Prog.bind_ret, Prog.pure_eq_ret, wp_deviceId]
  unfold shut
  iintro ⟨⟨#HR, HO, ⟨Ht, Hc, Hat⟩, R8, R9, M0, M1, S8, S9, Hm⟩, Hk⟩
  iapply (wp_entry A B C K c _ _ _ _ _ _ _ 2 (dev8_1 c) (dev8_2 c) (dev8_3 c) (dev8_4 c) (dev8_5 c) (dev8_6 c) (dev8_7 c) ((1, rcv 8) :: (1, rcv 9) :: l) hl rfl) $$ [HO Ht Hc Hat M0 M1]
  · isplitr; · iexact HR
    isplitl [HO]; · iexact HO
    isplitl [Ht]; · iexact Ht
    isplitl [M0 M1]
    · iapply (lent2 c)
      isplitl [M0]; · iexact M0
      iexact M1
    isplitl [Hc]; · iexact Hc
    iexact Hat
  iintro ⟨HO, Hat, Ht⟩
  ihave Ht := (taken2 c) $$ Ht
  icases Ht with ⟨M0, M1⟩
  iapply (wp_go A B C K 8 1 c _ rfl (dev8_8 c) (jnI c) (jnI c) rfl rfl (C c (Proc.devRef .tc main_v28)) ((1, rcv 9) :: l) rfl .rfl
    (by unfold came; rw [peer_peer])) $$ [HO R8 M0 S8]
  · isplitr; · iexact HR
    isplitl [S8]; · unfold left; iexact S8
    isplitl [M0]; · iexact M0
    isplitl [HO]; · iexact HO
    iexact R8
  iintro ⟨G8, HO⟩
  iapply (wp_go A B C K 9 1 c _ rfl (dev8_9 c) (jnO c) (jnO c) rfl rfl (C c (Proc.devRef .tc main_v29)) (l) rfl .rfl
    (by unfold came; rw [peer_peer])) $$ [HO R9 M1 S9]
  · isplitr; · iexact HR
    isplitl [S9]; · unfold left; iexact S9
    isplitl [M1]; · iexact M1
    isplitl [HO]; · iexact HO
    iexact R9
  iintro ⟨G9, HO⟩
  iapply (wp_token c m (k8_pay1 (F := F)) d) $$ Hm
  iintro Hm
  rw [wp_ret]
  imodintro
  iapply Hk
  isplitl [HO]; · iexact HO
  isplitl [Hat]; · iexact Hat
  isplitl [G8]; · iexact G8
  isplitl [G9]; · iexact G9
  iexact Hm

set_option maxHeartbeats 1600000 in
/-- The join's wait kernel. -/
theorem joinWait (K : Dev nD × Ck → ℕ) (c : Dev nD) (l : List (Fin 8 × Ck)) (hl : ∀ x ∈ l, clev (snd 8) < clev x.2) (hl' : ∀ x ∈ l, clev (rcv 8) < clev x.2) (Kt : PUnit → sProp 𝕄) :
    iprop((recs A B C K ∗ ow c l ∗ atPos ER (kcell c (bar 2)) (0 + 1) ∅ 0 ∗ going (F := F) c 8 ∗ going (F := F) c 9)
      ∗ (ow c l ∗ semVal (kcell c (bar 2)) 0 ∗ shutOff (F := F) c 8 ∗ shutOff (F := F) c 9 ∗ left A B C c 8 ∗ came A B C c 8 ∗ left A B C c 9 ∗ came A B C c 9 -∗ Kt ⟨⟩))
      ⊢ wp frame (wpE (defs₀ (F := F)) 𝒱₀ c none) Set.univ
          (cc9_join_wait (Memref.whole main_v28) (Memref.isWhole_whole _) (Memref.whole main_v29) (Memref.isWhole_whole _) main_v30_0 main_v30_1 (Memref.whole main_v30_4) (Memref.isWhole_whole _) (Memref.whole main_v28) (Memref.isWhole_whole _) (Memref.whole main_v29) (Memref.isWhole_whole _)) Kt := by
  simp only [cc9_join_wait_eq_skeleton]; unfold cc9_join_wait_skel
  simp only [k9_part1_eq_skeleton]; unfold k9_part1_skel
  simp only [Prog.lift, Prog.bind_op, Prog.bind_ret, Prog.pure_eq_ret, wp_deviceId]
  iintro ⟨⟨#HR, HO, Hat, G8, G9⟩, Hk⟩
  iapply (wp_both A B C K c 8 l hl hl' rfl rfl (credJi _ _) (credJi _ _)) $$ [HO G8]
  · isplitr; · iexact HR
    isplitl [HO]; · iexact HO
    iexact G8
  iintro ⟨HO, V8, L8, C8⟩
  iapply (wp_both A B C K c 9 l hl hl' rfl rfl (credJo _ _) (credJo _ _)) $$ [HO G9]
  · isplitr; · iexact HR
    isplitl [HO]; · iexact HO
    iexact G9
  iintro ⟨HO, V9, L9, C9⟩
  rw [wp_ret]
  imod (close A B C K c (bar 2)) $$ [Hat] with Z
  · isplitr; · iexact HR
    iexact Hat
  imod (closeOver A B C K c 8) $$ [V8] with Z8
  · isplitr; · iexact HR
    iexact V8
  imod (closeOver A B C K c 9) $$ [V9] with Z9
  · isplitr; · iexact HR
    iexact V9
  imodintro
  iapply Hk
  isplitl [HO]; · iexact HO
  isplitl [Z]; · iexact Z
  isplitl [Z8]; · iexact Z8
  isplitl [Z9]; · iexact Z9
  isplitl [L8]; · iexact L8
  isplitl [C8]; · iexact C8
  isplitl [L9]; · iexact L9
  iexact C9

end Cert.Run
-- ==== Proof.Comm.lean ====
module

public import proofs.«01_k».proof.Proof.State
public import proofs.«01_k».proof.Proof.Scatter
public import proofs.«01_k».proof.Proof.Join

@[expose] public section

/-! What the regions of the exchanges share. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (A B C : Dev nD → Valuation τ sig (Elt F)) (c : Dev nD)

/-- The shared records, under some names. -/
def records : sProp 𝕄 := iprop(∃ K, recs A B C K)
instance records_persistent : BI.Persistent (records A B C) := by unfold records; infer_instance

omit [FloatOps F] in
theorem owesAt_intro {cfg : Cfg sig Λ₀} {c : Dev nD} (dat : Dat τ (Elt F) Unit ℕ UU ℕ cfg c) (t : Fin (cfg.N + 1)) (l : List (Fin 8 × Ck))
    (h0 : dat.owed t = owed c l) (hr : dat.recorded t = Set.univ) : (ow c l : sProp 𝕄) ⊢ dat.owesAt () t := by
  unfold Dat.owesAt Pipeline.owesWithin Dat.bound
  rw [h0, hr]
  iintro ⟨%W, HO⟩
  iexists W
  isplitr; · ipureintro; exact fun _ _ => Or.inl trivial
  iexact HO
omit [FloatOps F] in
theorem owesAt_elim {cfg : Cfg sig Λ₀} {c : Dev nD} (dat : Dat τ (Elt F) Unit ℕ UU ℕ cfg c) (t : Fin (cfg.N + 1)) (l : List (Fin 8 × Ck))
    (h0 : dat.owed t = owed c l) : (dat.owesAt () t : sProp 𝕄) ⊢ ow c l := by
  unfold Dat.owesAt Pipeline.owesWithin
  rw [h0]
  iintro ⟨%W, -, HO⟩
  iexists W
  iexact HO

end Cert.Run
-- ==== Proof.GeoIn.lean ====
module

public import proofs.«01_k».proof.Proof.Blocks

@[expose] public section

/-! The parts of the buffers that the exchanges move, of the larger gradient. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- A plane of `main_v20`: the elements of that first coordinate. -/
theorem mem_main_v20 (off : Fin 3 → ℕ) (h : ∀ a, off a + S1x1024x2048.size a ≤ S3x1024x2048.size a) (h1 : off 1 = 0) (h2 : off 2 = 0) (i : S3x1024x2048.Idx) :
    i ∈ (((Memref.whole main_v20 : Memref sig .tc .hbm S3x1024x2048 .bf16).slice (Rect.unit (s := S3x1024x2048) off S1x1024x2048.size h) (fun _ => rfl)).squeeze S1024x2048 squeezes_S1x1024x2048_S1024x2048).view.set ↔ (i 0).val = off 0 := by
  have e : (((Memref.whole main_v20 : Memref sig .tc .hbm S3x1024x2048 .bf16).slice (Rect.unit (s := S3x1024x2048) off S1x1024x2048.size h) (fun _ => rfl)).squeeze S1024x2048 squeezes_S1x1024x2048_S1024x2048).view.set = (Rect.unit (s := S3x1024x2048) off S1x1024x2048.size h).set :=
    (View.set_reshape _ _).trans (View.set_slice_whole _ _)
  refine (iff_of_eq (congrArg (fun T : Finset S3x1024x2048.Idx => i ∈ T) e)).trans (Rect.mem_set_unit.trans ⟨fun hi => ?_, fun hi a => ?_⟩)
  · have h0 := hi 0
    simp only [Matrix.cons_val_zero] at h0
    omega
  · fin_cases a
    · show off 0 ≤ (i 0).val ∧ (i 0).val < off 0 + 1
      omega
    · show off 1 ≤ (i 1).val ∧ (i 1).val < off 1 + 1024
      have := (i 1).isLt
      rw [h1]
      exact ⟨Nat.zero_le _, by simpa using this⟩
    · show off 2 ≤ (i 2).val ∧ (i 2).val < off 2 + 2048
      have := (i 2).isLt
      rw [h2]
      exact ⟨Nat.zero_le _, by simpa using this⟩

/-- Where a plane's element lies. -/
theorem read_main_v20 (off : Fin 3 → ℕ) (h : ∀ a, off a + S1x1024x2048.size a ≤ S3x1024x2048.size a) (f : S3x1024x2048.Idx → Elt F .bf16) (x : S1024x2048.Idx) :
    (((Memref.whole main_v20 : Memref sig .tc .hbm S3x1024x2048 .bf16).slice (Rect.unit (s := S3x1024x2048) off S1x1024x2048.size h) (fun _ => rfl)).squeeze S1024x2048 squeezes_S1x1024x2048_S1024x2048).view.read (Elt F) f x = f ((Rect.unit (s := S3x1024x2048) off S1x1024x2048.size h).emb (Fin.cons ⟨0, Nat.one_pos⟩ x)) := by
  rw [Memref.read_squeeze_slice _ _ _ _ (by decide : (S1x1024x2048).ShapeCasts S1024x2048)]
  exact shapeCast_dropUnit_apply ![1024, 2048] _ _ x

/-- A plane of `main_v24_0`: the elements of that first coordinate. -/
theorem mem_main_v24_0 (off : Fin 3 → ℕ) (h : ∀ a, off a + S1x1024x2048.size a ≤ S4x1024x2048.size a) (h1 : off 1 = 0) (h2 : off 2 = 0) (i : S4x1024x2048.Idx) :
    i ∈ (((Memref.whole main_v24_0 : Memref sig .tc .hbm S4x1024x2048 .bf16).slice (Rect.unit (s := S4x1024x2048) off S1x1024x2048.size h) (fun _ => rfl)).squeeze S1024x2048 squeezes_S1x1024x2048_S1024x2048).view.set ↔ (i 0).val = off 0 := by
  have e : (((Memref.whole main_v24_0 : Memref sig .tc .hbm S4x1024x2048 .bf16).slice (Rect.unit (s := S4x1024x2048) off S1x1024x2048.size h) (fun _ => rfl)).squeeze S1024x2048 squeezes_S1x1024x2048_S1024x2048).view.set = (Rect.unit (s := S4x1024x2048) off S1x1024x2048.size h).set :=
    (View.set_reshape _ _).trans (View.set_slice_whole _ _)
  refine (iff_of_eq (congrArg (fun T : Finset S4x1024x2048.Idx => i ∈ T) e)).trans (Rect.mem_set_unit.trans ⟨fun hi => ?_, fun hi a => ?_⟩)
  · have h0 := hi 0
    simp only [Matrix.cons_val_zero] at h0
    omega
  · fin_cases a
    · show off 0 ≤ (i 0).val ∧ (i 0).val < off 0 + 1
      omega
    · show off 1 ≤ (i 1).val ∧ (i 1).val < off 1 + 1024
      have := (i 1).isLt
      rw [h1]
      exact ⟨Nat.zero_le _, by simpa using this⟩
    · show off 2 ≤ (i 2).val ∧ (i 2).val < off 2 + 2048
      have := (i 2).isLt
      rw [h2]
      exact ⟨Nat.zero_le _, by simpa using this⟩

/-- Where a plane's element lies. -/
theorem read_main_v24_0 (off : Fin 3 → ℕ) (h : ∀ a, off a + S1x1024x2048.size a ≤ S4x1024x2048.size a) (f : S4x1024x2048.Idx → Elt F .bf16) (x : S1024x2048.Idx) :
    (((Memref.whole main_v24_0 : Memref sig .tc .hbm S4x1024x2048 .bf16).slice (Rect.unit (s := S4x1024x2048) off S1x1024x2048.size h) (fun _ => rfl)).squeeze S1024x2048 squeezes_S1x1024x2048_S1024x2048).view.read (Elt F) f x = f ((Rect.unit (s := S4x1024x2048) off S1x1024x2048.size h).emb (Fin.cons ⟨0, Nat.one_pos⟩ x)) := by
  rw [Memref.read_squeeze_slice _ _ _ _ (by decide : (S1x1024x2048).ShapeCasts S1024x2048)]
  exact shapeCast_dropUnit_apply ![1024, 2048] _ _ x

/-- The three planes that land in `main_v20`, together. -/
def stackI (f : S3x1024x2048.Idx → Elt F .bf16) (d0 d1 d2 : S1024x2048.Idx → Elt F .bf16) : S3x1024x2048.Idx → Elt F .bf16 :=
  rvI2.view.write (Elt F) (rvI1.view.write (Elt F) (rvI0.view.write (Elt F) f d0 Finset.univ) d1 Finset.univ) d2 Finset.univ

theorem offI_0 (i : S3x1024x2048.Idx) : i ∈ (rvI0).view.set ↔ (i 0).val = 0 := (mem_main_v20 ![0, 0, 0] inb_S3x1024x2048_S1x1024x2048_0_0_0 rfl rfl) i
theorem offI_1 (i : S3x1024x2048.Idx) : i ∈ (rvI1).view.set ↔ (i 0).val = 1 := (mem_main_v20 ![1, 0, 0] inb_S3x1024x2048_S1x1024x2048_1_0_0 rfl rfl) i
theorem offI_2 (i : S3x1024x2048.Idx) : i ∈ (rvI2).view.set ↔ (i 0).val = 2 := (mem_main_v20 ![2, 0, 0] inb_S3x1024x2048_S1x1024x2048_2_0_0 rfl rfl) i

theorem stackI_0 (f d0 d1 d2) (x) : stackI (F := F) f d0 d1 d2 ((rvI0).view.emb x) = d0 x := by
  have h := (offI_0 _).mp (View.emb_mem_set (v := (rvI0).view) x)
  unfold stackI
  rw [View.write_of_not_mem (v := (rvI2).view), View.write_of_not_mem (v := (rvI1).view), View.write_emb_of_mem _ _ (Finset.mem_univ x)]
  · rfl
  · rw [View.setOn_univ, offI_1]; omega
  · rw [View.setOn_univ, offI_2]; omega
theorem stackI_1 (f d0 d1 d2) (x) : stackI (F := F) f d0 d1 d2 ((rvI1).view.emb x) = d1 x := by
  have h := (offI_1 _).mp (View.emb_mem_set (v := (rvI1).view) x)
  unfold stackI
  rw [View.write_of_not_mem (v := (rvI2).view), View.write_emb_of_mem _ _ (Finset.mem_univ x)]
  · rfl
  · rw [View.setOn_univ, offI_2]; omega
theorem stackI_2 (f d0 d1 d2) (x) : stackI (F := F) f d0 d1 d2 ((rvI2).view.emb x) = d2 x := by
  unfold stackI
  rw [View.write_emb_of_mem _ _ (Finset.mem_univ x)]
  rfl

/-- A landed plane holds the stack. -/
theorem landedI_0 (c : Dev nD) (f g d0 d1 d2) :
    (vpts (F := F) c rvI0 ((rvI0).view.write (Elt F) f d0 Finset.univ) : sProp 𝕄) ⊢ vpts c rvI0 (stackI g d0 d1 d2) := by
  unfold vpts
  refine Entails.of_eq (pointsTo_congr fun i hi => ?_)
  obtain ⟨x, -, rfl⟩ := Finset.mem_map.mp hi
  rw [View.write_emb_of_mem _ _ (Finset.mem_univ x), stackI_0]
  rfl

/-- A landed plane holds the stack. -/
theorem landedI_1 (c : Dev nD) (f g d0 d1 d2) :
    (vpts (F := F) c rvI1 ((rvI1).view.write (Elt F) f d1 Finset.univ) : sProp 𝕄) ⊢ vpts c rvI1 (stackI g d0 d1 d2) := by
  unfold vpts
  refine Entails.of_eq (pointsTo_congr fun i hi => ?_)
  obtain ⟨x, -, rfl⟩ := Finset.mem_map.mp hi
  rw [View.write_emb_of_mem _ _ (Finset.mem_univ x), stackI_1]
  rfl

/-- A landed plane holds the stack. -/
theorem landedI_2 (c : Dev nD) (f g d0 d1 d2) :
    (vpts (F := F) c rvI2 ((rvI2).view.write (Elt F) f d2 Finset.univ) : sProp 𝕄) ⊢ vpts c rvI2 (stackI g d0 d1 d2) := by
  unfold vpts
  refine Entails.of_eq (pointsTo_congr fun i hi => ?_)
  obtain ⟨x, -, rfl⟩ := Finset.mem_map.mp hi
  rw [View.write_emb_of_mem _ _ (Finset.mem_univ x), stackI_2]
  rfl

theorem coverI : (Finset.univ : Finset S3x1024x2048.Idx) = (rvI0).view.set ∪ ((rvI1).view.set ∪ (rvI2).view.set) := by
  ext i
  have h : (i 0).val < 3 := (i 0).isLt
  refine ⟨fun _ => ?_, fun _ => Finset.mem_univ i⟩
  rcases (by omega : (i 0).val = 0 ∨ (i 0).val = 1 ∨ (i 0).val = 2) with h' | h' | h'
  · exact Finset.mem_union_left _ ((offI_0 i).mpr h')
  · exact Finset.mem_union_right _ (Finset.mem_union_left _ ((offI_1 i).mpr h'))
  · exact Finset.mem_union_right _ (Finset.mem_union_right _ ((offI_2 i).mpr h'))
theorem apartI_0 : Disjoint (rvI0).view.set ((rvI1).view.set ∪ (rvI2).view.set) :=
  Finset.disjoint_left.2 fun i h h' => by
    rw [Finset.mem_union, offI_1, offI_2] at h'; rw [offI_0] at h; omega
theorem apartI_1 : Disjoint (rvI1).view.set (rvI2).view.set :=
  Finset.disjoint_left.2 fun i h h' => by
    rw [offI_2] at h'; rw [offI_1] at h; omega

/-- `main_v20` is its three planes. -/
theorem planesI (c : Dev nD) (f : Buf (Elt F) ((c : Thread nD τ).loc main_v20)) :
    ((c : Thread nD τ).loc main_v20 ↦{fullShare} f : sProp 𝕄) ⊣⊢ iprop(vpts c rvI0 f ∗ vpts c rvI1 f ∗ vpts c rvI2 f) := by
  have h1 := (pointsTo_union (Ix := Unit) (Name := ℕ) (U := UU) (Lvl := ℕ) (ℓ := (c : Thread nD τ).loc main_v20) (q := fullShare) (f := f) (apartI_0))
  have h2 := (pointsTo_union (Ix := Unit) (Name := ℕ) (U := UU) (Lvl := ℕ) (ℓ := (c : Thread nD τ).loc main_v20) (q := fullShare) (f := f) (apartI_1))
  rw [← coverI] at h1
  exact ⟨h1.1.trans (sep_mono .rfl h2.1), (sep_mono .rfl h2.2).trans h1.2⟩

theorem srcI_0 (c : Dev nD) (i : S4x1024x2048.Idx) : i ∈ (scI0 c).view.set ↔ (i 0).val = k4_off1 c 0 :=
  mem_main_v24_0 (k4_off1 c) (k4_off1_inb c) (by rw [k4_off1_eq]; rfl) (by rw [k4_off1_eq]; rfl) i

theorem srcI_1 (c : Dev nD) (i : S4x1024x2048.Idx) : i ∈ (scI1 c).view.set ↔ (i 0).val = k4_off3 c 0 :=
  mem_main_v24_0 (k4_off3 c) (k4_off3_inb c) (by rw [k4_off3_eq]; rfl) (by rw [k4_off3_eq]; rfl) i

theorem srcI_2 (c : Dev nD) (i : S4x1024x2048.Idx) : i ∈ (scI2 c).view.set ↔ (i 0).val = k4_off5 c 0 :=
  mem_main_v24_0 (k4_off5 c) (k4_off5_inb c) (by rw [k4_off5_eq]; rfl) (by rw [k4_off5_eq]; rfl) i

theorem offsI : ∀ c : Dev nD, k4_off1 c 0 ≠ k4_off3 c 0 ∧ k4_off1 c 0 ≠ k4_off5 c 0 ∧ k4_off3 c 0 ≠ k4_off5 c 0 := by
  intro c
  rw [k4_off1_eq, k4_off3_eq, k4_off5_eq]
  revert c
  decide

/-- The three planes a device sends, out of `main_v24_0`. -/
theorem quartersI (c : Dev nD) (f : Buf (Elt F) ((c : Thread nD τ).loc main_v24_0)) :
    ((c : Thread nD τ).loc main_v24_0 ↦{fullShare} f : sProp 𝕄) ⊢ iprop(vpts c (scI0 c) f ∗ vpts c (scI1 c) f ∗ vpts c (scI2 c) f) := by
  obtain ⟨h01, h02, h12⟩ := offsI c
  have s1 : (scI1 c).view.set ⊆ Finset.univ \ (scI0 c).view.set := fun i hi =>
    Finset.mem_sdiff.2 ⟨Finset.mem_univ i, fun h => by rw [srcI_0] at h; rw [srcI_1] at hi; omega⟩
  have s2 : (scI2 c).view.set ⊆ (Finset.univ \ (scI0 c).view.set) \ (scI1 c).view.set := fun i hi =>
    Finset.mem_sdiff.2 ⟨Finset.mem_sdiff.2 ⟨Finset.mem_univ i, fun h => by rw [srcI_0] at h; rw [srcI_2] at hi; omega⟩,
      fun h => by rw [srcI_1] at h; rw [srcI_2] at hi; omega⟩
  have e0 := (pointsTo_split_subset (Ix := Unit) (Name := ℕ) (U := UU) (Lvl := ℕ) (ℓ := (c : Thread nD τ).loc main_v24_0) (q := fullShare) (f := f) (Finset.subset_univ (scI0 c).view.set)).1
  have e1 := (pointsTo_split_subset (Ix := Unit) (Name := ℕ) (U := UU) (Lvl := ℕ) (ℓ := (c : Thread nD τ).loc main_v24_0) (q := fullShare) (f := f) s1).1
  have e2 := (pointsTo_split_subset (Ix := Unit) (Name := ℕ) (U := UU) (Lvl := ℕ) (ℓ := (c : Thread nD τ).loc main_v24_0) (q := fullShare) (f := f) s2).1
  exact e0.trans (sep_mono .rfl (e1.trans (sep_mono .rfl (e2.trans sep_elim_left))))

/-- The half of the gradient a device sends, out of `main_v22_2`, and back. -/
theorem halfI (c : Dev nD) (f : Buf (Elt F) ((c : Thread nD τ).loc main_v22_2)) :
    ((c : Thread nD τ).loc main_v22_2 ↦{fullShare} f : sProp 𝕄) ⊣⊢
      iprop(vpts c (swI c) f ∗ (c : Thread nD τ).loc main_v22_2 ↦[Finset.univ \ (swI c).view.set]{fullShare} f) :=
  pointsTo_split_subset (Finset.subset_univ _)

/-- A half of the result: the rows from its offset on. -/
theorem mem_main_v28 (off : Fin 2 → ℕ) (h : ∀ a, off a + S1024x2048.size a ≤ S2048x2048.size a) (h1 : off 1 = 0) (i : S2048x2048.Idx) :
    i ∈ ((Memref.whole main_v28 : Memref sig .tc .hbm S2048x2048 .f32).slice (Rect.unit (s := S2048x2048) off S1024x2048.size h) (fun _ => rfl)).view.set
      ↔ off 0 ≤ (i 0).val ∧ (i 0).val < off 0 + 1024 := by
  have e : ((Memref.whole main_v28 : Memref sig .tc .hbm S2048x2048 .f32).slice (Rect.unit (s := S2048x2048) off S1024x2048.size h) (fun _ => rfl)).view.set = (Rect.unit (s := S2048x2048) off S1024x2048.size h).set :=
    View.set_slice_whole _ _
  refine (iff_of_eq (congrArg (fun T : Finset S2048x2048.Idx => i ∈ T) e)).trans (Rect.mem_set_unit.trans ⟨fun hi => hi 0, fun hi a => ?_⟩)
  fin_cases a
  · exact hi
  · show off 1 ≤ (i 1).val ∧ (i 1).val < off 1 + 2048
    have := (i 1).isLt
    rw [h1]
    exact ⟨Nat.zero_le _, by simpa using this⟩

theorem resI (c : Dev nD) (i : S2048x2048.Idx) : i ∈ (jnI c).view.set ↔ (i 0).val / 1024 = c.val % 2 := by
  rw [mem_main_v28 (k8_off1 c) (k8_off1_inb c) (by rw [k8_off1_eq]; rfl) i, k8_off1_eq]
  show 1024 * (c.val % 2) ≤ (i 0).val ∧ (i 0).val < 1024 * (c.val % 2) + 1024 ↔ _
  omega

theorem parityI : ∀ c : Dev nD, (peer 1 c).val % 2 = 1 - c.val % 2 := by decide

theorem othersI (c : Dev nD) : Finset.univ \ (jnI c).view.set = (jnI (peer 1 c)).view.set := by
  ext i
  have h : (i 0).val < 2048 := (i 0).isLt
  have hp := parityI c
  rw [Finset.mem_sdiff, resI c i, resI (peer 1 c) i, hp]
  simp only [Finset.mem_univ, _root_.true_and]
  omega

/-- The result is its two halves. -/
theorem halvesI (c : Dev nD) (f : Buf (Elt F) ((c : Thread nD τ).loc main_v28)) :
    ((c : Thread nD τ).loc main_v28 ↦{fullShare} f : sProp 𝕄) ⊣⊢ iprop(vpts c (jnI c) f ∗ vpts c (jnI (peer 1 c)) f) := by
  have h := pointsTo_split_subset (Ix := Unit) (Name := ℕ) (U := UU) (Lvl := ℕ) (ℓ := (c : Thread nD τ).loc main_v28) (q := fullShare) (f := f) (Finset.subset_univ (jnI c).view.set)
  rw [othersI c] at h
  exact h

/-- The result once the sibling's half is in. -/
def joinedI (c : Dev nD) (f g : S2048x2048.Idx → Elt F .f32) : S2048x2048.Idx → Elt F .f32 :=
  (jnI (peer 1 c)).view.write (Elt F) f ((jnI (peer 1 c)).view.read (Elt F) g) Finset.univ

theorem joinI_own (c : Dev nD) (f g : S2048x2048.Idx → Elt F .f32) :
    (vpts (F := F) c (jnI c) f : sProp 𝕄) ⊢ vpts c (jnI c) (joinedI c f g) := by
  unfold vpts
  refine Entails.of_eq (pointsTo_congr fun i hi => ?_)
  unfold joinedI
  rw [View.write_of_not_mem (v := (jnI (peer 1 c)).view)]
  rw [View.setOn_univ, ← othersI c, Finset.mem_sdiff]
  exact fun h => h.2 hi

theorem joinI_other (c : Dev nD) (f f' g : S2048x2048.Idx → Elt F .f32) :
    (vpts (F := F) c (jnI (peer 1 c)) ((jnI (peer 1 c)).view.write (Elt F) f' ((jnI (peer 1 c)).view.read (Elt F) g) Finset.univ) : sProp 𝕄)
      ⊢ vpts c (jnI (peer 1 c)) (joinedI c f g) := by
  unfold vpts
  refine Entails.of_eq (pointsTo_congr fun i hi => ?_)
  obtain ⟨x, -, rfl⟩ := Finset.mem_map.mp hi
  unfold joinedI
  rw [View.write_emb_of_mem _ _ (Finset.mem_univ x), View.write_emb_of_mem _ _ (Finset.mem_univ x)]

end Cert.Run
-- ==== Proof.GeoOut.lean ====
module

public import proofs.«01_k».proof.Proof.Blocks

@[expose] public section

/-! The parts of the buffers that the exchanges move, of the smaller gradient. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- A plane of `main_v21`: the elements of that first coordinate. -/
theorem mem_main_v21 (off : Fin 3 → ℕ) (h : ∀ a, off a + S1x256x2048.size a ≤ S3x256x2048.size a) (h1 : off 1 = 0) (h2 : off 2 = 0) (i : S3x256x2048.Idx) :
    i ∈ (((Memref.whole main_v21 : Memref sig .tc .hbm S3x256x2048 .bf16).slice (Rect.unit (s := S3x256x2048) off S1x256x2048.size h) (fun _ => rfl)).squeeze S256x2048 squeezes_S1x256x2048_S256x2048).view.set ↔ (i 0).val = off 0 := by
  have e : (((Memref.whole main_v21 : Memref sig .tc .hbm S3x256x2048 .bf16).slice (Rect.unit (s := S3x256x2048) off S1x256x2048.size h) (fun _ => rfl)).squeeze S256x2048 squeezes_S1x256x2048_S256x2048).view.set = (Rect.unit (s := S3x256x2048) off S1x256x2048.size h).set :=
    (View.set_reshape _ _).trans (View.set_slice_whole _ _)
  refine (iff_of_eq (congrArg (fun T : Finset S3x256x2048.Idx => i ∈ T) e)).trans (Rect.mem_set_unit.trans ⟨fun hi => ?_, fun hi a => ?_⟩)
  · have h0 := hi 0
    simp only [Matrix.cons_val_zero] at h0
    omega
  · fin_cases a
    · show off 0 ≤ (i 0).val ∧ (i 0).val < off 0 + 1
      omega
    · show off 1 ≤ (i 1).val ∧ (i 1).val < off 1 + 256
      have := (i 1).isLt
      rw [h1]
      exact ⟨Nat.zero_le _, by simpa using this⟩
    · show off 2 ≤ (i 2).val ∧ (i 2).val < off 2 + 2048
      have := (i 2).isLt
      rw [h2]
      exact ⟨Nat.zero_le _, by simpa using this⟩

/-- Where a plane's element lies. -/
theorem read_main_v21 (off : Fin 3 → ℕ) (h : ∀ a, off a + S1x256x2048.size a ≤ S3x256x2048.size a) (f : S3x256x2048.Idx → Elt F .bf16) (x : S256x2048.Idx) :
    (((Memref.whole main_v21 : Memref sig .tc .hbm S3x256x2048 .bf16).slice (Rect.unit (s := S3x256x2048) off S1x256x2048.size h) (fun _ => rfl)).squeeze S256x2048 squeezes_S1x256x2048_S256x2048).view.read (Elt F) f x = f ((Rect.unit (s := S3x256x2048) off S1x256x2048.size h).emb (Fin.cons ⟨0, Nat.one_pos⟩ x)) := by
  rw [Memref.read_squeeze_slice _ _ _ _ (by decide : (S1x256x2048).ShapeCasts S256x2048)]
  exact shapeCast_dropUnit_apply ![256, 2048] _ _ x

/-- A plane of `main_v25_0`: the elements of that first coordinate. -/
theorem mem_main_v25_0 (off : Fin 3 → ℕ) (h : ∀ a, off a + S1x256x2048.size a ≤ S4x256x2048.size a) (h1 : off 1 = 0) (h2 : off 2 = 0) (i : S4x256x2048.Idx) :
    i ∈ (((Memref.whole main_v25_0 : Memref sig .tc .hbm S4x256x2048 .bf16).slice (Rect.unit (s := S4x256x2048) off S1x256x2048.size h) (fun _ => rfl)).squeeze S256x2048 squeezes_S1x256x2048_S256x2048).view.set ↔ (i 0).val = off 0 := by
  have e : (((Memref.whole main_v25_0 : Memref sig .tc .hbm S4x256x2048 .bf16).slice (Rect.unit (s := S4x256x2048) off S1x256x2048.size h) (fun _ => rfl)).squeeze S256x2048 squeezes_S1x256x2048_S256x2048).view.set = (Rect.unit (s := S4x256x2048) off S1x256x2048.size h).set :=
    (View.set_reshape _ _).trans (View.set_slice_whole _ _)
  refine (iff_of_eq (congrArg (fun T : Finset S4x256x2048.Idx => i ∈ T) e)).trans (Rect.mem_set_unit.trans ⟨fun hi => ?_, fun hi a => ?_⟩)
  · have h0 := hi 0
    simp only [Matrix.cons_val_zero] at h0
    omega
  · fin_cases a
    · show off 0 ≤ (i 0).val ∧ (i 0).val < off 0 + 1
      omega
    · show off 1 ≤ (i 1).val ∧ (i 1).val < off 1 + 256
      have := (i 1).isLt
      rw [h1]
      exact ⟨Nat.zero_le _, by simpa using this⟩
    · show off 2 ≤ (i 2).val ∧ (i 2).val < off 2 + 2048
      have := (i 2).isLt
      rw [h2]
      exact ⟨Nat.zero_le _, by simpa using this⟩

/-- Where a plane's element lies. -/
theorem read_main_v25_0 (off : Fin 3 → ℕ) (h : ∀ a, off a + S1x256x2048.size a ≤ S4x256x2048.size a) (f : S4x256x2048.Idx → Elt F .bf16) (x : S256x2048.Idx) :
    (((Memref.whole main_v25_0 : Memref sig .tc .hbm S4x256x2048 .bf16).slice (Rect.unit (s := S4x256x2048) off S1x256x2048.size h) (fun _ => rfl)).squeeze S256x2048 squeezes_S1x256x2048_S256x2048).view.read (Elt F) f x = f ((Rect.unit (s := S4x256x2048) off S1x256x2048.size h).emb (Fin.cons ⟨0, Nat.one_pos⟩ x)) := by
  rw [Memref.read_squeeze_slice _ _ _ _ (by decide : (S1x256x2048).ShapeCasts S256x2048)]
  exact shapeCast_dropUnit_apply ![256, 2048] _ _ x

/-- The three planes that land in `main_v21`, together. -/
def stackO (f : S3x256x2048.Idx → Elt F .bf16) (d0 d1 d2 : S256x2048.Idx → Elt F .bf16) : S3x256x2048.Idx → Elt F .bf16 :=
  rvO2.view.write (Elt F) (rvO1.view.write (Elt F) (rvO0.view.write (Elt F) f d0 Finset.univ) d1 Finset.univ) d2 Finset.univ

theorem offO_0 (i : S3x256x2048.Idx) : i ∈ (rvO0).view.set ↔ (i 0).val = 0 := (mem_main_v21 ![0, 0, 0] inb_S3x256x2048_S1x256x2048_0_0_0 rfl rfl) i
theorem offO_1 (i : S3x256x2048.Idx) : i ∈ (rvO1).view.set ↔ (i 0).val = 1 := (mem_main_v21 ![1, 0, 0] inb_S3x256x2048_S1x256x2048_1_0_0 rfl rfl) i
theorem offO_2 (i : S3x256x2048.Idx) : i ∈ (rvO2).view.set ↔ (i 0).val = 2 := (mem_main_v21 ![2, 0, 0] inb_S3x256x2048_S1x256x2048_2_0_0 rfl rfl) i

theorem stackO_0 (f d0 d1 d2) (x) : stackO (F := F) f d0 d1 d2 ((rvO0).view.emb x) = d0 x := by
  have h := (offO_0 _).mp (View.emb_mem_set (v := (rvO0).view) x)
  unfold stackO
  rw [View.write_of_not_mem (v := (rvO2).view), View.write_of_not_mem (v := (rvO1).view), View.write_emb_of_mem _ _ (Finset.mem_univ x)]
  · rfl
  · rw [View.setOn_univ, offO_1]; omega
  · rw [View.setOn_univ, offO_2]; omega
theorem stackO_1 (f d0 d1 d2) (x) : stackO (F := F) f d0 d1 d2 ((rvO1).view.emb x) = d1 x := by
  have h := (offO_1 _).mp (View.emb_mem_set (v := (rvO1).view) x)
  unfold stackO
  rw [View.write_of_not_mem (v := (rvO2).view), View.write_emb_of_mem _ _ (Finset.mem_univ x)]
  · rfl
  · rw [View.setOn_univ, offO_2]; omega
theorem stackO_2 (f d0 d1 d2) (x) : stackO (F := F) f d0 d1 d2 ((rvO2).view.emb x) = d2 x := by
  unfold stackO
  rw [View.write_emb_of_mem _ _ (Finset.mem_univ x)]
  rfl

/-- A landed plane holds the stack. -/
theorem landedO_0 (c : Dev nD) (f g d0 d1 d2) :
    (vpts (F := F) c rvO0 ((rvO0).view.write (Elt F) f d0 Finset.univ) : sProp 𝕄) ⊢ vpts c rvO0 (stackO g d0 d1 d2) := by
  unfold vpts
  refine Entails.of_eq (pointsTo_congr fun i hi => ?_)
  obtain ⟨x, -, rfl⟩ := Finset.mem_map.mp hi
  rw [View.write_emb_of_mem _ _ (Finset.mem_univ x), stackO_0]
  rfl

/-- A landed plane holds the stack. -/
theorem landedO_1 (c : Dev nD) (f g d0 d1 d2) :
    (vpts (F := F) c rvO1 ((rvO1).view.write (Elt F) f d1 Finset.univ) : sProp 𝕄) ⊢ vpts c rvO1 (stackO g d0 d1 d2) := by
  unfold vpts
  refine Entails.of_eq (pointsTo_congr fun i hi => ?_)
  obtain ⟨x, -, rfl⟩ := Finset.mem_map.mp hi
  rw [View.write_emb_of_mem _ _ (Finset.mem_univ x), stackO_1]
  rfl

/-- A landed plane holds the stack. -/
theorem landedO_2 (c : Dev nD) (f g d0 d1 d2) :
    (vpts (F := F) c rvO2 ((rvO2).view.write (Elt F) f d2 Finset.univ) : sProp 𝕄) ⊢ vpts c rvO2 (stackO g d0 d1 d2) := by
  unfold vpts
  refine Entails.of_eq (pointsTo_congr fun i hi => ?_)
  obtain ⟨x, -, rfl⟩ := Finset.mem_map.mp hi
  rw [View.write_emb_of_mem _ _ (Finset.mem_univ x), stackO_2]
  rfl

theorem coverO : (Finset.univ : Finset S3x256x2048.Idx) = (rvO0).view.set ∪ ((rvO1).view.set ∪ (rvO2).view.set) := by
  ext i
  have h : (i 0).val < 3 := (i 0).isLt
  refine ⟨fun _ => ?_, fun _ => Finset.mem_univ i⟩
  rcases (by omega : (i 0).val = 0 ∨ (i 0).val = 1 ∨ (i 0).val = 2) with h' | h' | h'
  · exact Finset.mem_union_left _ ((offO_0 i).mpr h')
  · exact Finset.mem_union_right _ (Finset.mem_union_left _ ((offO_1 i).mpr h'))
  · exact Finset.mem_union_right _ (Finset.mem_union_right _ ((offO_2 i).mpr h'))
theorem apartO_0 : Disjoint (rvO0).view.set ((rvO1).view.set ∪ (rvO2).view.set) :=
  Finset.disjoint_left.2 fun i h h' => by
    rw [Finset.mem_union, offO_1, offO_2] at h'; rw [offO_0] at h; omega
theorem apartO_1 : Disjoint (rvO1).view.set (rvO2).view.set :=
  Finset.disjoint_left.2 fun i h h' => by
    rw [offO_2] at h'; rw [offO_1] at h; omega

/-- `main_v21` is its three planes. -/
theorem planesO (c : Dev nD) (f : Buf (Elt F) ((c : Thread nD τ).loc main_v21)) :
    ((c : Thread nD τ).loc main_v21 ↦{fullShare} f : sProp 𝕄) ⊣⊢ iprop(vpts c rvO0 f ∗ vpts c rvO1 f ∗ vpts c rvO2 f) := by
  have h1 := (pointsTo_union (Ix := Unit) (Name := ℕ) (U := UU) (Lvl := ℕ) (ℓ := (c : Thread nD τ).loc main_v21) (q := fullShare) (f := f) (apartO_0))
  have h2 := (pointsTo_union (Ix := Unit) (Name := ℕ) (U := UU) (Lvl := ℕ) (ℓ := (c : Thread nD τ).loc main_v21) (q := fullShare) (f := f) (apartO_1))
  rw [← coverO] at h1
  exact ⟨h1.1.trans (sep_mono .rfl h2.1), (sep_mono .rfl h2.2).trans h1.2⟩

theorem srcO_0 (c : Dev nD) (i : S4x256x2048.Idx) : i ∈ (scO0 c).view.set ↔ (i 0).val = k4_off2 c 0 :=
  mem_main_v25_0 (k4_off2 c) (k4_off2_inb c) (by rw [k4_off2_eq]; rfl) (by rw [k4_off2_eq]; rfl) i

theorem srcO_1 (c : Dev nD) (i : S4x256x2048.Idx) : i ∈ (scO1 c).view.set ↔ (i 0).val = k4_off4 c 0 :=
  mem_main_v25_0 (k4_off4 c) (k4_off4_inb c) (by rw [k4_off4_eq]; rfl) (by rw [k4_off4_eq]; rfl) i

theorem srcO_2 (c : Dev nD) (i : S4x256x2048.Idx) : i ∈ (scO2 c).view.set ↔ (i 0).val = k4_off6 c 0 :=
  mem_main_v25_0 (k4_off6 c) (k4_off6_inb c) (by rw [k4_off6_eq]; rfl) (by rw [k4_off6_eq]; rfl) i

theorem offsO : ∀ c : Dev nD, k4_off2 c 0 ≠ k4_off4 c 0 ∧ k4_off2 c 0 ≠ k4_off6 c 0 ∧ k4_off4 c 0 ≠ k4_off6 c 0 := by
  intro c
  rw [k4_off2_eq, k4_off4_eq, k4_off6_eq]
  revert c
  decide

/-- The three planes a device sends, out of `main_v25_0`. -/
theorem quartersO (c : Dev nD) (f : Buf (Elt F) ((c : Thread nD τ).loc main_v25_0)) :
    ((c : Thread nD τ).loc main_v25_0 ↦{fullShare} f : sProp 𝕄) ⊢ iprop(vpts c (scO0 c) f ∗ vpts c (scO1 c) f ∗ vpts c (scO2 c) f) := by
  obtain ⟨h01, h02, h12⟩ := offsO c
  have s1 : (scO1 c).view.set ⊆ Finset.univ \ (scO0 c).view.set := fun i hi =>
    Finset.mem_sdiff.2 ⟨Finset.mem_univ i, fun h => by rw [srcO_0] at h; rw [srcO_1] at hi; omega⟩
  have s2 : (scO2 c).view.set ⊆ (Finset.univ \ (scO0 c).view.set) \ (scO1 c).view.set := fun i hi =>
    Finset.mem_sdiff.2 ⟨Finset.mem_sdiff.2 ⟨Finset.mem_univ i, fun h => by rw [srcO_0] at h; rw [srcO_2] at hi; omega⟩,
      fun h => by rw [srcO_1] at h; rw [srcO_2] at hi; omega⟩
  have e0 := (pointsTo_split_subset (Ix := Unit) (Name := ℕ) (U := UU) (Lvl := ℕ) (ℓ := (c : Thread nD τ).loc main_v25_0) (q := fullShare) (f := f) (Finset.subset_univ (scO0 c).view.set)).1
  have e1 := (pointsTo_split_subset (Ix := Unit) (Name := ℕ) (U := UU) (Lvl := ℕ) (ℓ := (c : Thread nD τ).loc main_v25_0) (q := fullShare) (f := f) s1).1
  have e2 := (pointsTo_split_subset (Ix := Unit) (Name := ℕ) (U := UU) (Lvl := ℕ) (ℓ := (c : Thread nD τ).loc main_v25_0) (q := fullShare) (f := f) s2).1
  exact e0.trans (sep_mono .rfl (e1.trans (sep_mono .rfl (e2.trans sep_elim_left))))

/-- The half of the gradient a device sends, out of `main_v22_3`, and back. -/
theorem halfO (c : Dev nD) (f : Buf (Elt F) ((c : Thread nD τ).loc main_v22_3)) :
    ((c : Thread nD τ).loc main_v22_3 ↦{fullShare} f : sProp 𝕄) ⊣⊢
      iprop(vpts c (swO c) f ∗ (c : Thread nD τ).loc main_v22_3 ↦[Finset.univ \ (swO c).view.set]{fullShare} f) :=
  pointsTo_split_subset (Finset.subset_univ _)

/-- A half of the result: the rows from its offset on. -/
theorem mem_main_v29 (off : Fin 2 → ℕ) (h : ∀ a, off a + S256x2048.size a ≤ S512x2048.size a) (h1 : off 1 = 0) (i : S512x2048.Idx) :
    i ∈ ((Memref.whole main_v29 : Memref sig .tc .hbm S512x2048 .f32).slice (Rect.unit (s := S512x2048) off S256x2048.size h) (fun _ => rfl)).view.set
      ↔ off 0 ≤ (i 0).val ∧ (i 0).val < off 0 + 256 := by
  have e : ((Memref.whole main_v29 : Memref sig .tc .hbm S512x2048 .f32).slice (Rect.unit (s := S512x2048) off S256x2048.size h) (fun _ => rfl)).view.set = (Rect.unit (s := S512x2048) off S256x2048.size h).set :=
    View.set_slice_whole _ _
  refine (iff_of_eq (congrArg (fun T : Finset S512x2048.Idx => i ∈ T) e)).trans (Rect.mem_set_unit.trans ⟨fun hi => hi 0, fun hi a => ?_⟩)
  fin_cases a
  · exact hi
  · show off 1 ≤ (i 1).val ∧ (i 1).val < off 1 + 2048
    have := (i 1).isLt
    rw [h1]
    exact ⟨Nat.zero_le _, by simpa using this⟩

theorem resO (c : Dev nD) (i : S512x2048.Idx) : i ∈ (jnO c).view.set ↔ (i 0).val / 256 = c.val % 2 := by
  rw [mem_main_v29 (k8_off2 c) (k8_off2_inb c) (by rw [k8_off2_eq]; rfl) i, k8_off2_eq]
  show 256 * (c.val % 2) ≤ (i 0).val ∧ (i 0).val < 256 * (c.val % 2) + 256 ↔ _
  omega

theorem parityO : ∀ c : Dev nD, (peer 1 c).val % 2 = 1 - c.val % 2 := by decide

theorem othersO (c : Dev nD) : Finset.univ \ (jnO c).view.set = (jnO (peer 1 c)).view.set := by
  ext i
  have h : (i 0).val < 512 := (i 0).isLt
  have hp := parityO c
  rw [Finset.mem_sdiff, resO c i, resO (peer 1 c) i, hp]
  simp only [Finset.mem_univ, _root_.true_and]
  omega

/-- The result is its two halves. -/
theorem halvesO (c : Dev nD) (f : Buf (Elt F) ((c : Thread nD τ).loc main_v29)) :
    ((c : Thread nD τ).loc main_v29 ↦{fullShare} f : sProp 𝕄) ⊣⊢ iprop(vpts c (jnO c) f ∗ vpts c (jnO (peer 1 c)) f) := by
  have h := pointsTo_split_subset (Ix := Unit) (Name := ℕ) (U := UU) (Lvl := ℕ) (ℓ := (c : Thread nD τ).loc main_v29) (q := fullShare) (f := f) (Finset.subset_univ (jnO c).view.set)
  rw [othersO c] at h
  exact h

/-- The result once the sibling's half is in. -/
def joinedO (c : Dev nD) (f g : S512x2048.Idx → Elt F .f32) : S512x2048.Idx → Elt F .f32 :=
  (jnO (peer 1 c)).view.write (Elt F) f ((jnO (peer 1 c)).view.read (Elt F) g) Finset.univ

theorem joinO_own (c : Dev nD) (f g : S512x2048.Idx → Elt F .f32) :
    (vpts (F := F) c (jnO c) f : sProp 𝕄) ⊢ vpts c (jnO c) (joinedO c f g) := by
  unfold vpts
  refine Entails.of_eq (pointsTo_congr fun i hi => ?_)
  unfold joinedO
  rw [View.write_of_not_mem (v := (jnO (peer 1 c)).view)]
  rw [View.setOn_univ, ← othersO c, Finset.mem_sdiff]
  exact fun h => h.2 hi

theorem joinO_other (c : Dev nD) (f f' g : S512x2048.Idx → Elt F .f32) :
    (vpts (F := F) c (jnO (peer 1 c)) ((jnO (peer 1 c)).view.write (Elt F) f' ((jnO (peer 1 c)).view.read (Elt F) g) Finset.univ) : sProp 𝕄)
      ⊢ vpts c (jnO (peer 1 c)) (joinedO c f g) := by
  unfold vpts
  refine Entails.of_eq (pointsTo_congr fun i hi => ?_)
  obtain ⟨x, -, rfl⟩ := Finset.mem_map.mp hi
  unfold joinedO
  rw [View.write_emb_of_mem _ _ (Finset.mem_univ x), View.write_emb_of_mem _ _ (Finset.mem_univ x)]

end Cert.Run
-- ==== Proof.Stage.lean ====
module

public import proofs.«01_k».proof.Proof.Comm
public import proofs.«01_k».proof.Proof.GeoIn
public import proofs.«01_k».proof.Proof.GeoOut

@[expose] public section

/-! What the buffers hold from one exchange to the next. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (c : Dev nD)

/-- The tables, each with the proof that its region runs at it. -/
abbrev adm2 : (pcfg2 (F := F)).Adm := ⟨pf2 c, ok2_tab c⟩
abbrev adm3 : (pcfg3 (F := F)).Adm := ⟨pf3 c, ok3_tab c⟩
abbrev adm6 : (pcfg6 (F := F)).Adm := ⟨pf6 c, ok6_tab c⟩
abbrev adm7 : (pcfg7 (F := F)).Adm := ⟨pf7 c, ok7_tab c⟩

/-- Buffer `b` of device `c`, whole, at what `V` has for it. -/
def pt (b : Ref sig .tc) (V : Valuation τ sig (Elt F)) : sProp 𝕄 := (c : Thread nD τ).loc b ↦{fullShare} V (Proc.devRef .tc b)
/-- Buffer `b` of device `c`, whole, at anything. -/
def anyPt (b : Ref sig .tc) : sProp 𝕄 := iprop(∃ f, (c : Thread nD τ).loc b ↦{fullShare} f)

/-- After the swap: the sibling's halves are in. -/
def V1 : Valuation τ sig (Elt F) :=
  Function.update (Function.update (V0 m c) (Proc.devRef .tc main_v18)
    ((swI (peer 1 c)).view.read (Elt F) (V0 m (peer 1 c) (Proc.devRef .tc main_v22_2))))
    (Proc.devRef .tc main_v19) ((swO (peer 1 c)).view.read (Elt F) (V0 m (peer 1 c) (Proc.devRef .tc main_v22_3)))

/-- The data of the pair sum of the larger gradient, -/
abbrev D2 := dat2 c (V1 m c) (adm2 c) (chip c) (owed c (dues.drop 9))
/-- What region 2 leaves in its output. -/
def sumI : S4x1024x2048.Idx → Elt F .bf16 := (D2 m c).arrAt 2 (cfg2 (F := F) (adm2 c)).N
/-- What region 2 leaves in its output. -/
def ownI : S1024x2048.Idx → Elt F .f32 := (D2 m c).arrAt 3 (cfg2 (F := F) (adm2 c)).N
/-- after it, -/
def V2 : Valuation τ sig (Elt F) :=
  Function.update (Function.update (V1 m c) (Proc.devRef .tc main_v24_0) (sumI m c))
    (Proc.devRef .tc main_v24_1) (ownI m c)
/-- of the smaller one, -/
abbrev D3 := dat3 c (V2 m c) (adm3 c) (chip c) (owed c (dues.drop 9))
/-- What region 3 leaves in its output. -/
def sumO : S4x256x2048.Idx → Elt F .bf16 := (D3 m c).arrAt 2 (cfg3 (F := F) (adm3 c)).N
/-- What region 3 leaves in its output. -/
def ownO : S256x2048.Idx → Elt F .f32 := (D3 m c).arrAt 3 (cfg3 (F := F) (adm3 c)).N
/-- after it. -/
def V3 : Valuation τ sig (Elt F) :=
  Function.update (Function.update (V2 m c) (Proc.devRef .tc main_v25_0) (sumO m c))
    (Proc.devRef .tc main_v25_1) (ownO m c)

/-- The planes the other chips hand over, of the larger pair sum, -/
def gotI : S3x1024x2048.Idx → Elt F .bf16 :=
  stackI (V3 m c (Proc.devRef .tc main_v20))
    ((scI0 (peer 4 c)).view.read (Elt F) (V3 m (peer 4 c) (Proc.devRef .tc main_v24_0)))
    ((scI1 (peer 2 c)).view.read (Elt F) (V3 m (peer 2 c) (Proc.devRef .tc main_v24_0)))
    ((scI2 (peer 6 c)).view.read (Elt F) (V3 m (peer 6 c) (Proc.devRef .tc main_v24_0)))
/-- and of the smaller one. -/
def gotO : S3x256x2048.Idx → Elt F .bf16 :=
  stackO (V3 m c (Proc.devRef .tc main_v21))
    ((scO0 (peer 4 c)).view.read (Elt F) (V3 m (peer 4 c) (Proc.devRef .tc main_v25_0)))
    ((scO1 (peer 2 c)).view.read (Elt F) (V3 m (peer 2 c) (Proc.devRef .tc main_v25_0)))
    ((scO2 (peer 6 c)).view.read (Elt F) (V3 m (peer 6 c) (Proc.devRef .tc main_v25_0)))
/-- After the scatter. -/
def V5 : Valuation τ sig (Elt F) :=
  Function.update (Function.update (V3 m c) (Proc.devRef .tc main_v20) (gotI m c)) (Proc.devRef .tc main_v21) (gotO m c)

/-- The data of the chip sum of the larger gradient, -/
abbrev D6 := dat6 c (V5 m c) (adm6 c) (owed c (dues.drop 22))
/-- What region 6 leaves in its output. -/
def totI : S2048x2048.Idx → Elt F .f32 := (D6 m c).arrAt 2 (cfg6 (F := F) (adm6 c)).N
/-- after it, -/
def V6 : Valuation τ sig (Elt F) :=
  Function.update (V5 m c) (Proc.devRef .tc main_v28) (totI m c)
/-- of the smaller one, -/
abbrev D7 := dat7 c (V6 m c) (adm7 c) (owed c (dues.drop 22))
/-- What region 7 leaves in its output. -/
def totO : S512x2048.Idx → Elt F .f32 := (D7 m c).arrAt 2 (cfg7 (F := F) (adm7 c)).N
/-- after it. -/
def V7 : Valuation τ sig (Elt F) :=
  Function.update (V6 m c) (Proc.devRef .tc main_v29) (totO m c)

/-- After the join: both halves of the results are in. -/
def V8 : Valuation τ sig (Elt F) :=
  Function.update (Function.update (V7 m c) (Proc.devRef .tc main_v28)
    (joinedI c (V7 m c (Proc.devRef .tc main_v28)) (V7 m (peer 1 c) (Proc.devRef .tc main_v28))))
    (Proc.devRef .tc main_v29) (joinedO c (V7 m c (Proc.devRef .tc main_v29)) (V7 m (peer 1 c) (Proc.devRef .tc main_v29)))

theorem V1_of (b : Ref sig .tc) (h0 : Proc.devRef .tc b ≠ Proc.devRef (τ := τ) .tc main_v18) (h1 : Proc.devRef .tc b ≠ Proc.devRef (τ := τ) .tc main_v19) : V1 m c (Proc.devRef .tc b) = V0 m c (Proc.devRef .tc b) := by
  unfold V1
  rw [Function.update_of_ne h1, Function.update_of_ne h0]

theorem V2_of (b : Ref sig .tc) (h0 : Proc.devRef .tc b ≠ Proc.devRef (τ := τ) .tc main_v24_0) (h1 : Proc.devRef .tc b ≠ Proc.devRef (τ := τ) .tc main_v24_1) : V2 m c (Proc.devRef .tc b) = V1 m c (Proc.devRef .tc b) := by
  unfold V2
  rw [Function.update_of_ne h1, Function.update_of_ne h0]

theorem V3_of (b : Ref sig .tc) (h0 : Proc.devRef .tc b ≠ Proc.devRef (τ := τ) .tc main_v25_0) (h1 : Proc.devRef .tc b ≠ Proc.devRef (τ := τ) .tc main_v25_1) : V3 m c (Proc.devRef .tc b) = V2 m c (Proc.devRef .tc b) := by
  unfold V3
  rw [Function.update_of_ne h1, Function.update_of_ne h0]

theorem V5_of (b : Ref sig .tc) (h0 : Proc.devRef .tc b ≠ Proc.devRef (τ := τ) .tc main_v20) (h1 : Proc.devRef .tc b ≠ Proc.devRef (τ := τ) .tc main_v21) : V5 m c (Proc.devRef .tc b) = V3 m c (Proc.devRef .tc b) := by
  unfold V5
  rw [Function.update_of_ne h1, Function.update_of_ne h0]

theorem V8_of (b : Ref sig .tc) (h0 : Proc.devRef .tc b ≠ Proc.devRef (τ := τ) .tc main_v28) (h1 : Proc.devRef .tc b ≠ Proc.devRef (τ := τ) .tc main_v29) : V8 m c (Proc.devRef .tc b) = V7 m c (Proc.devRef .tc b) := by
  unfold V8
  rw [Function.update_of_ne h1, Function.update_of_ne h0]

theorem V6_of (b : Ref sig .tc) (h0 : Proc.devRef .tc b ≠ Proc.devRef (τ := τ) .tc main_v28) : V6 m c (Proc.devRef .tc b) = V5 m c (Proc.devRef .tc b) := by
  unfold V6
  rw [Function.update_of_ne h0]

theorem V7_of (b : Ref sig .tc) (h0 : Proc.devRef .tc b ≠ Proc.devRef (τ := τ) .tc main_v29) : V7 m c (Proc.devRef .tc b) = V6 m c (Proc.devRef .tc b) := by
  unfold V7
  rw [Function.update_of_ne h0]

theorem V1_v18 : V1 m c (Proc.devRef .tc main_v18) = ((swI (peer 1 c)).view.read (Elt F) (V0 m (peer 1 c) (Proc.devRef .tc main_v22_2))) := by
  unfold V1
  rw [Function.update_of_ne (by decide : Proc.devRef (τ := τ) .tc main_v18 ≠ Proc.devRef .tc main_v19)]
  exact Function.update_self ..

theorem V1_v19 : V1 m c (Proc.devRef .tc main_v19) = ((swO (peer 1 c)).view.read (Elt F) (V0 m (peer 1 c) (Proc.devRef .tc main_v22_3))) := by
  unfold V1
  exact Function.update_self ..

theorem V2_v24_0 : V2 m c (Proc.devRef .tc main_v24_0) = sumI m c := by
  unfold V2
  rw [Function.update_of_ne (by decide : Proc.devRef (τ := τ) .tc main_v24_0 ≠ Proc.devRef .tc main_v24_1)]
  exact Function.update_self ..

theorem V2_v24_1 : V2 m c (Proc.devRef .tc main_v24_1) = ownI m c := by
  unfold V2
  exact Function.update_self ..

theorem V3_v25_0 : V3 m c (Proc.devRef .tc main_v25_0) = sumO m c := by
  unfold V3
  rw [Function.update_of_ne (by decide : Proc.devRef (τ := τ) .tc main_v25_0 ≠ Proc.devRef .tc main_v25_1)]
  exact Function.update_self ..

theorem V3_v25_1 : V3 m c (Proc.devRef .tc main_v25_1) = ownO m c := by
  unfold V3
  exact Function.update_self ..

theorem V5_v20 : V5 m c (Proc.devRef .tc main_v20) = gotI m c := by
  unfold V5
  rw [Function.update_of_ne (by decide : Proc.devRef (τ := τ) .tc main_v20 ≠ Proc.devRef .tc main_v21)]
  exact Function.update_self ..

theorem V5_v21 : V5 m c (Proc.devRef .tc main_v21) = gotO m c := by
  unfold V5
  exact Function.update_self ..

theorem V6_v28 : V6 m c (Proc.devRef .tc main_v28) = totI m c := by
  unfold V6
  exact Function.update_self ..

theorem V7_v29 : V7 m c (Proc.devRef .tc main_v29) = totO m c := by
  unfold V7
  exact Function.update_self ..

theorem V8_v28 : V8 m c (Proc.devRef .tc main_v28) = joinedI c (V7 m c (Proc.devRef .tc main_v28)) (V7 m (peer 1 c) (Proc.devRef .tc main_v28)) := by
  unfold V8
  rw [Function.update_of_ne (by decide : Proc.devRef (τ := τ) .tc main_v28 ≠ Proc.devRef .tc main_v29)]
  exact Function.update_self ..

theorem V8_v29 : V8 m c (Proc.devRef .tc main_v29) = joinedO c (V7 m c (Proc.devRef .tc main_v29)) (V7 m (peer 1 c) (Proc.devRef .tc main_v29)) := by
  unfold V8
  exact Function.update_self ..

theorem p1_v17 : V1 m c (Proc.devRef .tc main_v17) = V0 m c (Proc.devRef .tc main_v17) := by
  rw [V1_of m c _ (by decide) (by decide)]

theorem p1_v22_2 : V1 m c (Proc.devRef .tc main_v22_2) = V0 m c (Proc.devRef .tc main_v22_2) := by
  rw [V1_of m c _ (by decide) (by decide)]

theorem p1_v24_0 : V1 m c (Proc.devRef .tc main_v24_0) = V0 m c (Proc.devRef .tc main_v24_0) := by
  rw [V1_of m c _ (by decide) (by decide)]

theorem p1_v24_1 : V1 m c (Proc.devRef .tc main_v24_1) = V0 m c (Proc.devRef .tc main_v24_1) := by
  rw [V1_of m c _ (by decide) (by decide)]

theorem p2_v17 : V2 m c (Proc.devRef .tc main_v17) = V0 m c (Proc.devRef .tc main_v17) := by
  rw [V2_of m c _ (by decide) (by decide), V1_of m c _ (by decide) (by decide)]

theorem p2_v22_3 : V2 m c (Proc.devRef .tc main_v22_3) = V0 m c (Proc.devRef .tc main_v22_3) := by
  rw [V2_of m c _ (by decide) (by decide), V1_of m c _ (by decide) (by decide)]

theorem p2_v19 : V2 m c (Proc.devRef .tc main_v19) = V1 m c (Proc.devRef .tc main_v19) := by
  rw [V2_of m c _ (by decide) (by decide)]

theorem p2_v25_0 : V2 m c (Proc.devRef .tc main_v25_0) = V0 m c (Proc.devRef .tc main_v25_0) := by
  rw [V2_of m c _ (by decide) (by decide), V1_of m c _ (by decide) (by decide)]

theorem p2_v25_1 : V2 m c (Proc.devRef .tc main_v25_1) = V0 m c (Proc.devRef .tc main_v25_1) := by
  rw [V2_of m c _ (by decide) (by decide), V1_of m c _ (by decide) (by decide)]

theorem p2_v22_2 : V2 m c (Proc.devRef .tc main_v22_2) = V0 m c (Proc.devRef .tc main_v22_2) := by
  rw [V2_of m c _ (by decide) (by decide), V1_of m c _ (by decide) (by decide)]

theorem p2_v18 : V2 m c (Proc.devRef .tc main_v18) = V1 m c (Proc.devRef .tc main_v18) := by
  rw [V2_of m c _ (by decide) (by decide)]

theorem p3_v17 : V3 m c (Proc.devRef .tc main_v17) = V0 m c (Proc.devRef .tc main_v17) := by
  rw [V3_of m c _ (by decide) (by decide), V2_of m c _ (by decide) (by decide), V1_of m c _ (by decide) (by decide)]

theorem p3_v22_3 : V3 m c (Proc.devRef .tc main_v22_3) = V0 m c (Proc.devRef .tc main_v22_3) := by
  rw [V3_of m c _ (by decide) (by decide), V2_of m c _ (by decide) (by decide), V1_of m c _ (by decide) (by decide)]

theorem p3_v19 : V3 m c (Proc.devRef .tc main_v19) = V1 m c (Proc.devRef .tc main_v19) := by
  rw [V3_of m c _ (by decide) (by decide), V2_of m c _ (by decide) (by decide)]

theorem p3_v26_6 : V3 m c (Proc.devRef .tc main_v26_6) = V0 m c (Proc.devRef .tc main_v26_6) := by
  rw [V3_of m c _ (by decide) (by decide), V2_of m c _ (by decide) (by decide), V1_of m c _ (by decide) (by decide)]

theorem p3_v24_0 : V3 m c (Proc.devRef .tc main_v24_0) = V2 m c (Proc.devRef .tc main_v24_0) := by
  rw [V3_of m c _ (by decide) (by decide)]

theorem p5_v17 : V5 m c (Proc.devRef .tc main_v17) = V0 m c (Proc.devRef .tc main_v17) := by
  rw [V5_of m c _ (by decide) (by decide), V3_of m c _ (by decide) (by decide), V2_of m c _ (by decide) (by decide), V1_of m c _ (by decide) (by decide)]

theorem p5_v24_1 : V5 m c (Proc.devRef .tc main_v24_1) = V2 m c (Proc.devRef .tc main_v24_1) := by
  rw [V5_of m c _ (by decide) (by decide), V3_of m c _ (by decide) (by decide)]

theorem p5_v25_1 : V5 m c (Proc.devRef .tc main_v25_1) = V3 m c (Proc.devRef .tc main_v25_1) := by
  rw [V5_of m c _ (by decide) (by decide)]

theorem p5_v28 : V5 m c (Proc.devRef .tc main_v28) = V0 m c (Proc.devRef .tc main_v28) := by
  rw [V5_of m c _ (by decide) (by decide), V3_of m c _ (by decide) (by decide), V2_of m c _ (by decide) (by decide), V1_of m c _ (by decide) (by decide)]

theorem p6_v17 : V6 m c (Proc.devRef .tc main_v17) = V0 m c (Proc.devRef .tc main_v17) := by
  rw [V6_of m c _ (by decide), V5_of m c _ (by decide) (by decide), V3_of m c _ (by decide) (by decide), V2_of m c _ (by decide) (by decide), V1_of m c _ (by decide) (by decide)]

theorem p6_v25_1 : V6 m c (Proc.devRef .tc main_v25_1) = V3 m c (Proc.devRef .tc main_v25_1) := by
  rw [V6_of m c _ (by decide), V5_of m c _ (by decide) (by decide)]

theorem p6_v21 : V6 m c (Proc.devRef .tc main_v21) = V5 m c (Proc.devRef .tc main_v21) := by
  rw [V6_of m c _ (by decide)]

theorem p6_v29 : V6 m c (Proc.devRef .tc main_v29) = V0 m c (Proc.devRef .tc main_v29) := by
  rw [V6_of m c _ (by decide), V5_of m c _ (by decide) (by decide), V3_of m c _ (by decide) (by decide), V2_of m c _ (by decide) (by decide), V1_of m c _ (by decide) (by decide)]

theorem p6_v24_1 : V6 m c (Proc.devRef .tc main_v24_1) = V2 m c (Proc.devRef .tc main_v24_1) := by
  rw [V6_of m c _ (by decide), V5_of m c _ (by decide) (by decide), V3_of m c _ (by decide) (by decide)]

theorem p6_v20 : V6 m c (Proc.devRef .tc main_v20) = V5 m c (Proc.devRef .tc main_v20) := by
  rw [V6_of m c _ (by decide)]

theorem p7_v17 : V7 m c (Proc.devRef .tc main_v17) = V0 m c (Proc.devRef .tc main_v17) := by
  rw [V7_of m c _ (by decide), V6_of m c _ (by decide), V5_of m c _ (by decide) (by decide), V3_of m c _ (by decide) (by decide), V2_of m c _ (by decide) (by decide), V1_of m c _ (by decide) (by decide)]

theorem p7_v25_1 : V7 m c (Proc.devRef .tc main_v25_1) = V3 m c (Proc.devRef .tc main_v25_1) := by
  rw [V7_of m c _ (by decide), V6_of m c _ (by decide), V5_of m c _ (by decide) (by decide)]

theorem p7_v21 : V7 m c (Proc.devRef .tc main_v21) = V5 m c (Proc.devRef .tc main_v21) := by
  rw [V7_of m c _ (by decide), V6_of m c _ (by decide)]

theorem p7_v30_4 : V7 m c (Proc.devRef .tc main_v30_4) = V0 m c (Proc.devRef .tc main_v30_4) := by
  rw [V7_of m c _ (by decide), V6_of m c _ (by decide), V5_of m c _ (by decide) (by decide), V3_of m c _ (by decide) (by decide), V2_of m c _ (by decide) (by decide), V1_of m c _ (by decide) (by decide)]

theorem p7_v28 : V7 m c (Proc.devRef .tc main_v28) = V6 m c (Proc.devRef .tc main_v28) := by
  rw [V7_of m c _ (by decide)]

theorem pt_congr {c : Dev nD} {b : Ref sig .tc} {V V' : Valuation τ sig (Elt F)} (h : V (Proc.devRef .tc b) = V' (Proc.devRef .tc b)) :
    (pt c b V : sProp 𝕄) = pt c b V' := by
  unfold pt
  rw [h]

end Cert.Run
-- ==== Proof.SwapRegions.lean ====
module

public import proofs.«01_k».proof.Proof.Comm

@[expose] public section

/-! The two regions of the swap. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (A B C : Dev nD → Valuation τ sig (Elt F)) (c : Dev nD)

/-- What device `c` hands the start of the swap, -/
def X0 : sProp 𝕄 := iprop(records A B C ∗ shut (F := F) c 0 ∗ ready (F := F) c 0 ∗ ready (F := F) c 1 ∗ vany (F := F) c sbI ∗ vany (F := F) c sbO ∗ left A B C c 0 ∗ left A B C c 1)
/-- and what it has of it. -/
def Y0 : sProp 𝕄 := iprop(records A B C ∗ atPos ER (kcell c (bar 0)) (0 + 1) ∅ 0 ∗ going (F := F) c 0 ∗ going (F := F) c 1)

/-- The data of the region that starts the swap: its token, and what the device owes before and after. -/
def dat0 : Dat τ (Elt F) Unit ℕ UU ℕ cfg0 c where
  A := fun
    | 0 => A c (Proc.devRef .tc main_v22_8)
    | ⟨_ + 1, h⟩ => absurd h (Nat.not_lt.2 (Nat.le_add_left _ _))
  after := fun
    | 0 => fun _ => k0_pay1 (F := F)
    | ⟨_ + 1, h⟩ => absurd h (Nat.not_lt.2 (Nat.le_add_left _ _))
  Φ t := if t.val = 0 then iprop(X0 A B C c ∗ Pipeline.scopedRest spec0 c) else iprop(Y0 A B C c ∗ Pipeline.scopedRest spec0 c)
  q _ := fullShare
  owed t := if t.val = 0 then owed c dues else owed c (dues.drop 9)

set_option maxHeartbeats 1600000 in
theorem step0 (s : Fin 1) (hs : (win0_0.stage s).IsWhole) :
    iprop((X0 A B C c ∗ Pipeline.scopedRest spec0 c) ∗ (dat0 A B C c).owesAt () t0_0.castSucc
        ∗ (∃ d, owns (c : Thread nD τ) (win0_0.stage s) fullShare ((dat0 A B C c).before 0 t0_0 d)))
      ⊢ wp frame (wpE (defs₀ (F := F)) 𝒱₀ c none) Set.univ (cc0_swap_start (Memref.whole main_v22_2) (Memref.isWhole_whole _) (Memref.whole main_v22_3) (Memref.isWhole_whole _) (Memref.whole main_v18) (Memref.isWhole_whole _) (Memref.whole main_v19) (Memref.isWhole_whole _) (Memref.whole main_v20) (Memref.isWhole_whole _) (Memref.whole main_v21) (Memref.isWhole_whole _) main_v22_0 main_v22_1 (Memref.whole main_v22_2) (Memref.isWhole_whole _) (Memref.whole main_v22_3) (Memref.isWhole_whole _) (Memref.whole main_v18) (Memref.isWhole_whole _) (Memref.whole main_v19) (Memref.isWhole_whole _) (Memref.whole main_v20) (Memref.isWhole_whole _) (Memref.whole main_v21) (Memref.isWhole_whole _) (win0_0.stage s) hs)
        fun _ => iprop((Y0 A B C c ∗ Pipeline.scopedRest spec0 c) ∗ (dat0 A B C c).owesAt () t0_0.succ
          ∗ owns (c : Thread nD τ) (win0_0.stage s) fullShare (k0_pay1 (F := F))) := by
  unfold X0 Y0 records
  iintro ⟨⟨⟨⟨%K, #HR⟩, X0, X1, X2, X3, X4, X5, X6⟩, Hs⟩, HO, ⟨%d, H0⟩⟩
  ihave HO' := (owesAt_elim (dat0 A B C c) _ dues (by dsimp only [dat0]; exact if_pos rfl)) $$ HO
  iapply (swapStart A B C K c (dues.drop 9) (by decide) (win0_0.stage s) hs _ _)
  isplitl [HO' X0 X1 X2 X3 X4 X5 X6 H0]
  · isplitr; · iexact HR
    isplitl [HO']; · iexact HO'
    isplitl [X0]; · iexact X0
    isplitl [X1]; · iexact X1
    isplitl [X2]; · iexact X2
    isplitl [X3]; · iexact X3
    isplitl [X4]; · iexact X4
    isplitl [X5]; · iexact X5
    isplitl [X6]; · iexact X6
    iexact H0
  iintro ⟨HO, Y0, Y1, Y2, H0⟩
  isplitl [Hs Y0 Y1 Y2]
  · isplitr [Hs]
    · isplitr; · iexists K; iexact HR
      isplitl [Y0]; · iexact Y0
      isplitl [Y1]; · iexact Y1
      iexact Y2
    iexact Hs
  isplitl [HO]; · iapply (owesAt_intro (dat0 A B C c) _ (dues.drop 9) (by dsimp only [dat0]; exact if_neg (by decide)) rfl); iexact HO
  iexact H0

theorem body0 : BodyObligation (dat0 A B C c) (defs₀ (F := F)) 𝒱₀ () Set.univ := fun t => by
  obtain rfl := fin_N0 t
  rw [bigSep_W0, bigSep_W0]
  have hrow : defs₀ (F := F) .tc cfg0.body (cfg0.bodyArgs t0_0 (cfg0.slots t0_0)) =
      cc0_swap_start (Memref.whole main_v22_2) (Memref.isWhole_whole _) (Memref.whole main_v22_3) (Memref.isWhole_whole _) (Memref.whole main_v18) (Memref.isWhole_whole _) (Memref.whole main_v19) (Memref.isWhole_whole _) (Memref.whole main_v20) (Memref.isWhole_whole _) (Memref.whole main_v21) (Memref.isWhole_whole _) main_v22_0 main_v22_1 (Memref.whole main_v22_2) (Memref.isWhole_whole _) (Memref.whole main_v22_3) (Memref.isWhole_whole _) (Memref.whole main_v18) (Memref.isWhole_whole _) (Memref.whole main_v19) (Memref.isWhole_whole _) (Memref.whole main_v20) (Memref.isWhole_whole _) (Memref.whole main_v21) (Memref.isWhole_whole _) (win0_0.stage (cfg0.slots t0_0 0)) (hstage0_0 0) := by
    unfold defs₀; rw [Defs.onTc_tc]
  exact triple_restated (step0 A B C c (cfg0.slots t0_0 0) (hstage0_0 0)) (congrArg (wp frame (wpE (defs₀ (F := F)) 𝒱₀ c none) Set.univ) hrow.symm) .rfl
    fun _ => .rfl

/-- What device `c` hands the wait of the swap, -/
def X1 : sProp 𝕄 := Y0 A B C c
/-- and what it has of it. -/
def Y1 : sProp 𝕄 := iprop(records A B C ∗ semVal (kcell c (bar 0)) 0 ∗ shutOff (F := F) c 0 ∗ shutOff (F := F) c 1 ∗ left A B C c 0 ∗ came A B C c 0 ∗ left A B C c 1 ∗ came A B C c 1)

/-- The data of the region that waits for the swap. -/
def dat1 : Dat τ (Elt F) Unit ℕ UU ℕ cfg1 c where
  A w := w.elim0
  after w := w.elim0
  Φ t := if t.val = 0 then iprop(X1 A B C c ∗ Pipeline.scopedRest spec1 c) else iprop(Y1 A B C c ∗ Pipeline.scopedRest spec1 c)
  q w := w.elim0
  owed _ := owed c (dues.drop 9)

set_option maxHeartbeats 1600000 in
theorem step1 :
    iprop((X1 A B C c ∗ Pipeline.scopedRest spec1 c) ∗ (dat1 A B C c).owesAt () t1_0.castSucc ∗ emp)
      ⊢ wp frame (wpE (defs₀ (F := F)) 𝒱₀ c none) Set.univ (cc1_swap_wait (Memref.whole main_v22_2) (Memref.isWhole_whole _) (Memref.whole main_v22_3) (Memref.isWhole_whole _) (Memref.whole main_v18) (Memref.isWhole_whole _) (Memref.whole main_v19) (Memref.isWhole_whole _) main_v22_0 main_v22_1 (Memref.whole main_v22_8) (Memref.isWhole_whole _) (Memref.whole main_v22_2) (Memref.isWhole_whole _) (Memref.whole main_v22_3) (Memref.isWhole_whole _) (Memref.whole main_v18) (Memref.isWhole_whole _) (Memref.whole main_v19) (Memref.isWhole_whole _))
        fun _ => iprop((Y1 A B C c ∗ Pipeline.scopedRest spec1 c) ∗ (dat1 A B C c).owesAt () t1_0.succ ∗ emp) := by
  unfold X1 Y0 Y1 records
  iintro ⟨⟨⟨⟨%K, #HR⟩, X0, X1, X2⟩, Hs⟩, HO, -⟩
  ihave HO' := (owesAt_elim (dat1 A B C c) _ (dues.drop 9) rfl) $$ HO
  iapply (swapWait A B C K c (dues.drop 9) (by decide) (by decide) _)
  isplitl [HO' X0 X1 X2]
  · isplitr; · iexact HR
    isplitl [HO']; · iexact HO'
    isplitl [X0]; · iexact X0
    isplitl [X1]; · iexact X1
    iexact X2
  iintro ⟨HO, Y0, Y1, Y2, Y3, Y4, Y5, Y6⟩
  isplitl [Hs Y0 Y1 Y2 Y3 Y4 Y5 Y6]
  · isplitr [Hs]
    · isplitr; · iexists K; iexact HR
      isplitl [Y0]; · iexact Y0
      isplitl [Y1]; · iexact Y1
      isplitl [Y2]; · iexact Y2
      isplitl [Y3]; · iexact Y3
      isplitl [Y4]; · iexact Y4
      isplitl [Y5]; · iexact Y5
      iexact Y6
    iexact Hs
  isplitl [HO]; · iapply (owesAt_intro (dat1 A B C c) _ (dues.drop 9) rfl rfl); iexact HO
  iempintro

theorem body1 : BodyObligation (dat1 A B C c) (defs₀ (F := F)) 𝒱₀ () Set.univ := fun t => by
  obtain rfl := fin_N1 t
  have he : ∀ Φ : Fin 0 → sProp 𝕄, bigSep Finset.univ Φ = BI.emp := fun Φ => bigSep_univ_eq_bigSepL [] (by decide) (by decide) Φ
  rw [he, he]
  have hrow : defs₀ (F := F) .tc cfg1.body (cfg1.bodyArgs t1_0 (cfg1.slots t1_0)) = cc1_swap_wait (Memref.whole main_v22_2) (Memref.isWhole_whole _) (Memref.whole main_v22_3) (Memref.isWhole_whole _) (Memref.whole main_v18) (Memref.isWhole_whole _) (Memref.whole main_v19) (Memref.isWhole_whole _) main_v22_0 main_v22_1 (Memref.whole main_v22_8) (Memref.isWhole_whole _) (Memref.whole main_v22_2) (Memref.isWhole_whole _) (Memref.whole main_v22_3) (Memref.isWhole_whole _) (Memref.whole main_v18) (Memref.isWhole_whole _) (Memref.whole main_v19) (Memref.isWhole_whole _) := by
    unfold defs₀; rw [Defs.onTc_tc]
  exact triple_restated (step1 A B C c) (congrArg (wp frame (wpE (defs₀ (F := F)) 𝒱₀ c none) Set.univ) hrow.symm) .rfl
    fun _ => .rfl

end Cert.Run
-- ==== Proof.ScatterRegions.lean ====
module

public import proofs.«01_k».proof.Proof.Comm

@[expose] public section

/-! The two regions of the scatter. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (A B C : Dev nD → Valuation τ sig (Elt F)) (c : Dev nD)

/-- What device `c` hands the start of the scatter, -/
def X4 : sProp 𝕄 := iprop(records A B C ∗ shut (F := F) c 1 ∗ ready (F := F) c 2 ∗ ready (F := F) c 3 ∗ ready (F := F) c 4 ∗ ready (F := F) c 5 ∗ ready (F := F) c 6 ∗ ready (F := F) c 7 ∗ vany (F := F) c rvI1 ∗ vany (F := F) c rvO1 ∗ vany (F := F) c rvI0 ∗ vany (F := F) c rvO0 ∗ vany (F := F) c rvI2 ∗ vany (F := F) c rvO2 ∗ left A B C c 2 ∗ left A B C c 3 ∗ left A B C c 4 ∗ left A B C c 5 ∗ left A B C c 6 ∗ left A B C c 7)
/-- and what it has of it. -/
def Y4 : sProp 𝕄 := iprop(records A B C ∗ atPos ER (kcell c (bar 1)) (0 + 1) ∅ 0 ∗ going (F := F) c 2 ∗ going (F := F) c 3 ∗ going (F := F) c 4 ∗ going (F := F) c 5 ∗ going (F := F) c 6 ∗ going (F := F) c 7)

/-- The data of the region that starts the scatter: its token, and what the device owes before and after. -/
def dat4 : Dat τ (Elt F) Unit ℕ UU ℕ cfg4 c where
  A := fun
    | 0 => A c (Proc.devRef .tc main_v26_6)
    | ⟨_ + 1, h⟩ => absurd h (Nat.not_lt.2 (Nat.le_add_left _ _))
  after := fun
    | 0 => fun _ => k4_pay1 (F := F)
    | ⟨_ + 1, h⟩ => absurd h (Nat.not_lt.2 (Nat.le_add_left _ _))
  Φ t := if t.val = 0 then iprop(X4 A B C c ∗ Pipeline.scopedRest spec4 c) else iprop(Y4 A B C c ∗ Pipeline.scopedRest spec4 c)
  q _ := fullShare
  owed t := if t.val = 0 then owed c (dues.drop 9) else owed c (dues.drop 22)

set_option maxHeartbeats 1600000 in
theorem step4 (s : Fin 1) (hs : (win4_0.stage s).IsWhole) :
    iprop((X4 A B C c ∗ Pipeline.scopedRest spec4 c) ∗ (dat4 A B C c).owesAt () t4_0.castSucc
        ∗ (∃ d, owns (c : Thread nD τ) (win4_0.stage s) fullShare ((dat4 A B C c).before 0 t4_0 d)))
      ⊢ wp frame (wpE (defs₀ (F := F)) 𝒱₀ c none) Set.univ (cc4_scatter_start (Memref.whole main_v24_0) (Memref.isWhole_whole _) (Memref.whole main_v25_0) (Memref.isWhole_whole _) (Memref.whole main_v20) (Memref.isWhole_whole _) (Memref.whole main_v21) (Memref.isWhole_whole _) main_v26_0 main_v26_1 (Memref.whole main_v24_0) (Memref.isWhole_whole _) (Memref.whole main_v25_0) (Memref.isWhole_whole _) (Memref.whole main_v20) (Memref.isWhole_whole _) (Memref.whole main_v21) (Memref.isWhole_whole _) (win4_0.stage s) hs)
        fun _ => iprop((Y4 A B C c ∗ Pipeline.scopedRest spec4 c) ∗ (dat4 A B C c).owesAt () t4_0.succ
          ∗ owns (c : Thread nD τ) (win4_0.stage s) fullShare (k4_pay1 (F := F))) := by
  unfold X4 Y4 records
  iintro ⟨⟨⟨⟨%K, #HR⟩, X0, X1, X2, X3, X4, X5, X6, X7, X8, X9, X10, X11, X12, X13, X14, X15, X16, X17, X18⟩, Hs⟩, HO, ⟨%d, H0⟩⟩
  ihave HO' := (owesAt_elim (dat4 A B C c) _ (dues.drop 9) (by dsimp only [dat4]; exact if_pos rfl)) $$ HO
  iapply (scatterStart A B C K c (dues.drop 22) (by decide) (win4_0.stage s) hs _ _)
  isplitl [HO' X0 X1 X2 X3 X4 X5 X6 X7 X8 X9 X10 X11 X12 X13 X14 X15 X16 X17 X18 H0]
  · isplitr; · iexact HR
    isplitl [HO']; · iexact HO'
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [X15]; · iexact X15
    isplitl [X16]; · iexact X16
    isplitl [X17]; · iexact X17
    isplitl [X18]; · iexact X18
    iexact H0
  iintro ⟨HO, Y0, Y1, Y2, Y3, Y4, Y5, Y6, H0⟩
  isplitl [Hs Y0 Y1 Y2 Y3 Y4 Y5 Y6]
  · isplitr [Hs]
    · isplitr; · iexists K; iexact HR
      isplitl [Y0]; · iexact Y0
      isplitl [Y1]; · iexact Y1
      isplitl [Y2]; · iexact Y2
      isplitl [Y3]; · iexact Y3
      isplitl [Y4]; · iexact Y4
      isplitl [Y5]; · iexact Y5
      iexact Y6
    iexact Hs
  isplitl [HO]; · iapply (owesAt_intro (dat4 A B C c) _ (dues.drop 22) (by dsimp only [dat4]; exact if_neg (by decide)) rfl); iexact HO
  iexact H0

theorem body4 : BodyObligation (dat4 A B C c) (defs₀ (F := F)) 𝒱₀ () Set.univ := fun t => by
  obtain rfl := fin_N4 t
  rw [bigSep_W4, bigSep_W4]
  have hrow : defs₀ (F := F) .tc cfg4.body (cfg4.bodyArgs t4_0 (cfg4.slots t4_0)) =
      cc4_scatter_start (Memref.whole main_v24_0) (Memref.isWhole_whole _) (Memref.whole main_v25_0) (Memref.isWhole_whole _) (Memref.whole main_v20) (Memref.isWhole_whole _) (Memref.whole main_v21) (Memref.isWhole_whole _) main_v26_0 main_v26_1 (Memref.whole main_v24_0) (Memref.isWhole_whole _) (Memref.whole main_v25_0) (Memref.isWhole_whole _) (Memref.whole main_v20) (Memref.isWhole_whole _) (Memref.whole main_v21) (Memref.isWhole_whole _) (win4_0.stage (cfg4.slots t4_0 0)) (hstage4_0 0) := by
    unfold defs₀; rw [Defs.onTc_tc]
  exact triple_restated (step4 A B C c (cfg4.slots t4_0 0) (hstage4_0 0)) (congrArg (wp frame (wpE (defs₀ (F := F)) 𝒱₀ c none) Set.univ) hrow.symm) .rfl
    fun _ => .rfl

/-- What device `c` hands the wait of the scatter, -/
def X5 : sProp 𝕄 := Y4 A B C c
/-- and what it has of it. -/
def Y5 : sProp 𝕄 := iprop(records A B C ∗ semVal (kcell c (bar 1)) 0 ∗ shutOff (F := F) c 2 ∗ shutOff (F := F) c 3 ∗ shutOff (F := F) c 4 ∗ shutOff (F := F) c 5 ∗ shutOff (F := F) c 6 ∗ shutOff (F := F) c 7 ∗ left A B C c 2 ∗ came A B C c 2 ∗ left A B C c 3 ∗ came A B C c 3 ∗ left A B C c 4 ∗ came A B C c 4 ∗ left A B C c 5 ∗ came A B C c 5 ∗ left A B C c 6 ∗ came A B C c 6 ∗ left A B C c 7 ∗ came A B C c 7)

/-- The data of the region that waits for the scatter. -/
def dat5 : Dat τ (Elt F) Unit ℕ UU ℕ cfg5 c where
  A w := w.elim0
  after w := w.elim0
  Φ t := if t.val = 0 then iprop(X5 A B C c ∗ Pipeline.scopedRest spec5 c) else iprop(Y5 A B C c ∗ Pipeline.scopedRest spec5 c)
  q w := w.elim0
  owed _ := owed c (dues.drop 22)

set_option maxHeartbeats 1600000 in
theorem step5 :
    iprop((X5 A B C c ∗ Pipeline.scopedRest spec5 c) ∗ (dat5 A B C c).owesAt () t5_0.castSucc ∗ emp)
      ⊢ wp frame (wpE (defs₀ (F := F)) 𝒱₀ c none) Set.univ (cc5_scatter_wait (Memref.whole main_v24_0) (Memref.isWhole_whole _) (Memref.whole main_v25_0) (Memref.isWhole_whole _) (Memref.whole main_v20) (Memref.isWhole_whole _) (Memref.whole main_v21) (Memref.isWhole_whole _) main_v26_0 main_v26_1 (Memref.whole main_v26_6) (Memref.isWhole_whole _) (Memref.whole main_v24_0) (Memref.isWhole_whole _) (Memref.whole main_v25_0) (Memref.isWhole_whole _) (Memref.whole main_v20) (Memref.isWhole_whole _) (Memref.whole main_v21) (Memref.isWhole_whole _))
        fun _ => iprop((Y5 A B C c ∗ Pipeline.scopedRest spec5 c) ∗ (dat5 A B C c).owesAt () t5_0.succ ∗ emp) := by
  unfold X5 Y4 Y5 records
  iintro ⟨⟨⟨⟨%K, #HR⟩, X0, X1, X2, X3, X4, X5, X6⟩, Hs⟩, HO, -⟩
  ihave HO' := (owesAt_elim (dat5 A B C c) _ (dues.drop 22) rfl) $$ HO
  iapply (scatterWait A B C K c (dues.drop 22) (by decide) (by decide) _)
  isplitl [HO' X0 X1 X2 X3 X4 X5 X6]
  · isplitr; · iexact HR
    isplitl [HO']; · iexact HO'
    isplitl [X0]; · iexact X0
    isplitl [X1]; · iexact X1
    isplitl [X2]; · iexact X2
    isplitl [X3]; · iexact X3
    isplitl [X4]; · iexact X4
    isplitl [X5]; · iexact X5
    iexact X6
  iintro ⟨HO, Y0, Y1, Y2, Y3, Y4, Y5, Y6, Y7, Y8, Y9, Y10, Y11, Y12, Y13, Y14, Y15, Y16, Y17, Y18⟩
  isplitl [Hs Y0 Y1 Y2 Y3 Y4 Y5 Y6 Y7 Y8 Y9 Y10 Y11 Y12 Y13 Y14 Y15 Y16 Y17 Y18]
  · isplitr [Hs]
    · isplitr; · iexists K; iexact HR
      isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      isplitl [Y7]; · iexact Y7
      isplitl [Y8]; · iexact Y8
      isplitl [Y9]; · iexact Y9
      isplitl [Y10]; · iexact Y10
      isplitl [Y11]; · iexact Y11
      isplitl [Y12]; · iexact Y12
      isplitl [Y13]; · iexact Y13
      isplitl [Y14]; · iexact Y14
      isplitl [Y15]; · iexact Y15
      isplitl [Y16]; · iexact Y16
      isplitl [Y17]; · iexact Y17
      iexact Y18
    iexact Hs
  isplitl [HO]; · iapply (owesAt_intro (dat5 A B C c) _ (dues.drop 22) rfl rfl); iexact HO
  iempintro

theorem body5 : BodyObligation (dat5 A B C c) (defs₀ (F := F)) 𝒱₀ () Set.univ := fun t => by
  obtain rfl := fin_N5 t
  have he : ∀ Φ : Fin 0 → sProp 𝕄, bigSep Finset.univ Φ = BI.emp := fun Φ => bigSep_univ_eq_bigSepL [] (by decide) (by decide) Φ
  rw [he, he]
  have hrow : defs₀ (F := F) .tc cfg5.body (cfg5.bodyArgs t5_0 (cfg5.slots t5_0)) = cc5_scatter_wait (Memref.whole main_v24_0) (Memref.isWhole_whole _) (Memref.whole main_v25_0) (Memref.isWhole_whole _) (Memref.whole main_v20) (Memref.isWhole_whole _) (Memref.whole main_v21) (Memref.isWhole_whole _) main_v26_0 main_v26_1 (Memref.whole main_v26_6) (Memref.isWhole_whole _) (Memref.whole main_v24_0) (Memref.isWhole_whole _) (Memref.whole main_v25_0) (Memref.isWhole_whole _) (Memref.whole main_v20) (Memref.isWhole_whole _) (Memref.whole main_v21) (Memref.isWhole_whole _) := by
    unfold defs₀; rw [Defs.onTc_tc]
  exact triple_restated (step5 A B C c) (congrArg (wp frame (wpE (defs₀ (F := F)) 𝒱₀ c none) Set.univ) hrow.symm) .rfl
    fun _ => .rfl

end Cert.Run
-- ==== Proof.JoinRegions.lean ====
module

public import proofs.«01_k».proof.Proof.Comm

@[expose] public section

/-! The two regions of the join. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (A B C : Dev nD → Valuation τ sig (Elt F)) (c : Dev nD)

/-- What device `c` hands the start of the join, -/
def X8 : sProp 𝕄 := iprop(records A B C ∗ shut (F := F) c 2 ∗ ready (F := F) c 8 ∗ ready (F := F) c 9 ∗ vany (F := F) c (jnI (peer 1 c)) ∗ vany (F := F) c (jnO (peer 1 c)) ∗ left A B C c 8 ∗ left A B C c 9)
/-- and what it has of it. -/
def Y8 : sProp 𝕄 := iprop(records A B C ∗ atPos ER (kcell c (bar 2)) (0 + 1) ∅ 0 ∗ going (F := F) c 8 ∗ going (F := F) c 9)

/-- The data of the region that starts the join: its token, and what the device owes before and after. -/
def dat8 : Dat τ (Elt F) Unit ℕ UU ℕ cfg8 c where
  A := fun
    | 0 => A c (Proc.devRef .tc main_v30_4)
    | ⟨_ + 1, h⟩ => absurd h (Nat.not_lt.2 (Nat.le_add_left _ _))
  after := fun
    | 0 => fun _ => k8_pay1 (F := F)
    | ⟨_ + 1, h⟩ => absurd h (Nat.not_lt.2 (Nat.le_add_left _ _))
  Φ t := if t.val = 0 then iprop(X8 A B C c ∗ Pipeline.scopedRest spec8 c) else iprop(Y8 A B C c ∗ Pipeline.scopedRest spec8 c)
  q _ := fullShare
  owed t := if t.val = 0 then owed c (dues.drop 22) else owed c ([] : List (Fin 8 × Ck))

set_option maxHeartbeats 1600000 in
theorem step8 (s : Fin 1) (hs : (win8_0.stage s).IsWhole) :
    iprop((X8 A B C c ∗ Pipeline.scopedRest spec8 c) ∗ (dat8 A B C c).owesAt () t8_0.castSucc
        ∗ (∃ d, owns (c : Thread nD τ) (win8_0.stage s) fullShare ((dat8 A B C c).before 0 t8_0 d)))
      ⊢ wp frame (wpE (defs₀ (F := F)) 𝒱₀ c none) Set.univ (cc8_join_start (Memref.whole main_v28) (Memref.isWhole_whole _) (Memref.whole main_v29) (Memref.isWhole_whole _) main_v30_0 main_v30_1 (Memref.whole main_v28) (Memref.isWhole_whole _) (Memref.whole main_v29) (Memref.isWhole_whole _) (win8_0.stage s) hs)
        fun _ => iprop((Y8 A B C c ∗ Pipeline.scopedRest spec8 c) ∗ (dat8 A B C c).owesAt () t8_0.succ
          ∗ owns (c : Thread nD τ) (win8_0.stage s) fullShare (k8_pay1 (F := F))) := by
  unfold X8 Y8 records
  iintro ⟨⟨⟨⟨%K, #HR⟩, X0, X1, X2, X3, X4, X5, X6⟩, Hs⟩, HO, ⟨%d, H0⟩⟩
  ihave HO' := (owesAt_elim (dat8 A B C c) _ (dues.drop 22) (by dsimp only [dat8]; exact if_pos rfl)) $$ HO
  iapply (joinStart A B C K c ([] : List (Fin 8 × Ck)) (by decide) (win8_0.stage s) hs _ _)
  isplitl [HO' X0 X1 X2 X3 X4 X5 X6 H0]
  · isplitr; · iexact HR
    isplitl [HO']; · iexact HO'
    isplitl [X0]; · iexact X0
    isplitl [X1]; · iexact X1
    isplitl [X2]; · iexact X2
    isplitl [X3]; · iexact X3
    isplitl [X4]; · iexact X4
    isplitl [X5]; · iexact X5
    isplitl [X6]; · iexact X6
    iexact H0
  iintro ⟨HO, Y0, Y1, Y2, H0⟩
  isplitl [Hs Y0 Y1 Y2]
  · isplitr [Hs]
    · isplitr; · iexists K; iexact HR
      isplitl [Y0]; · iexact Y0
      isplitl [Y1]; · iexact Y1
      iexact Y2
    iexact Hs
  isplitl [HO]; · iapply (owesAt_intro (dat8 A B C c) _ ([] : List (Fin 8 × Ck)) (by dsimp only [dat8]; exact if_neg (by decide)) rfl); iexact HO
  iexact H0

theorem body8 : BodyObligation (dat8 A B C c) (defs₀ (F := F)) 𝒱₀ () Set.univ := fun t => by
  obtain rfl := fin_N8 t
  rw [bigSep_W8, bigSep_W8]
  have hrow : defs₀ (F := F) .tc cfg8.body (cfg8.bodyArgs t8_0 (cfg8.slots t8_0)) =
      cc8_join_start (Memref.whole main_v28) (Memref.isWhole_whole _) (Memref.whole main_v29) (Memref.isWhole_whole _) main_v30_0 main_v30_1 (Memref.whole main_v28) (Memref.isWhole_whole _) (Memref.whole main_v29) (Memref.isWhole_whole _) (win8_0.stage (cfg8.slots t8_0 0)) (hstage8_0 0) := by
    unfold defs₀; rw [Defs.onTc_tc]
  exact triple_restated (step8 A B C c (cfg8.slots t8_0 0) (hstage8_0 0)) (congrArg (wp frame (wpE (defs₀ (F := F)) 𝒱₀ c none) Set.univ) hrow.symm) .rfl
    fun _ => .rfl

/-- What device `c` hands the wait of the join, -/
def X9 : sProp 𝕄 := Y8 A B C c
/-- and what it has of it. -/
def Y9 : sProp 𝕄 := iprop(records A B C ∗ semVal (kcell c (bar 2)) 0 ∗ shutOff (F := F) c 8 ∗ shutOff (F := F) c 9 ∗ left A B C c 8 ∗ came A B C c 8 ∗ left A B C c 9 ∗ came A B C c 9)

/-- The data of the region that waits for the join. -/
def dat9 : Dat τ (Elt F) Unit ℕ UU ℕ cfg9 c where
  A w := w.elim0
  after w := w.elim0
  Φ t := if t.val = 0 then iprop(X9 A B C c ∗ Pipeline.scopedRest spec9 c) else iprop(Y9 A B C c ∗ Pipeline.scopedRest spec9 c)
  q w := w.elim0
  owed _ := owed c ([] : List (Fin 8 × Ck))

set_option maxHeartbeats 1600000 in
theorem step9 :
    iprop((X9 A B C c ∗ Pipeline.scopedRest spec9 c) ∗ (dat9 A B C c).owesAt () t9_0.castSucc ∗ emp)
      ⊢ wp frame (wpE (defs₀ (F := F)) 𝒱₀ c none) Set.univ (cc9_join_wait (Memref.whole main_v28) (Memref.isWhole_whole _) (Memref.whole main_v29) (Memref.isWhole_whole _) main_v30_0 main_v30_1 (Memref.whole main_v30_4) (Memref.isWhole_whole _) (Memref.whole main_v28) (Memref.isWhole_whole _) (Memref.whole main_v29) (Memref.isWhole_whole _))
        fun _ => iprop((Y9 A B C c ∗ Pipeline.scopedRest spec9 c) ∗ (dat9 A B C c).owesAt () t9_0.succ ∗ emp) := by
  unfold X9 Y8 Y9 records
  iintro ⟨⟨⟨⟨%K, #HR⟩, X0, X1, X2⟩, Hs⟩, HO, -⟩
  ihave HO' := (owesAt_elim (dat9 A B C c) _ ([] : List (Fin 8 × Ck)) rfl) $$ HO
  iapply (joinWait A B C K c ([] : List (Fin 8 × Ck)) (by decide) (by decide) _)
  isplitl [HO' X0 X1 X2]
  · isplitr; · iexact HR
    isplitl [HO']; · iexact HO'
    isplitl [X0]; · iexact X0
    isplitl [X1]; · iexact X1
    iexact X2
  iintro ⟨HO, Y0, Y1, Y2, Y3, Y4, Y5, Y6⟩
  isplitl [Hs Y0 Y1 Y2 Y3 Y4 Y5 Y6]
  · isplitr [Hs]
    · isplitr; · iexists K; iexact HR
      isplitl [Y0]; · iexact Y0
      isplitl [Y1]; · iexact Y1
      isplitl [Y2]; · iexact Y2
      isplitl [Y3]; · iexact Y3
      isplitl [Y4]; · iexact Y4
      isplitl [Y5]; · iexact Y5
      iexact Y6
    iexact Hs
  isplitl [HO]; · iapply (owesAt_intro (dat9 A B C c) _ ([] : List (Fin 8 × Ck)) rfl rfl); iexact HO
  iempintro

theorem body9 : BodyObligation (dat9 A B C c) (defs₀ (F := F)) 𝒱₀ () Set.univ := fun t => by
  obtain rfl := fin_N9 t
  have he : ∀ Φ : Fin 0 → sProp 𝕄, bigSep Finset.univ Φ = BI.emp := fun Φ => bigSep_univ_eq_bigSepL [] (by decide) (by decide) Φ
  rw [he, he]
  have hrow : defs₀ (F := F) .tc cfg9.body (cfg9.bodyArgs t9_0 (cfg9.slots t9_0)) = cc9_join_wait (Memref.whole main_v28) (Memref.isWhole_whole _) (Memref.whole main_v29) (Memref.isWhole_whole _) main_v30_0 main_v30_1 (Memref.whole main_v30_4) (Memref.isWhole_whole _) (Memref.whole main_v28) (Memref.isWhole_whole _) (Memref.whole main_v29) (Memref.isWhole_whole _) := by
    unfold defs₀; rw [Defs.onTc_tc]
  exact triple_restated (step9 A B C c) (congrArg (wp frame (wpE (defs₀ (F := F)) 𝒱₀ c none) Set.univ) hrow.symm) .rfl
    fun _ => .rfl

end Cert.Run
-- ==== Proof.RegionData.lean ====
module

public import proofs.«01_k».proof.Proof.Stage
public import proofs.«01_k».proof.Proof.SwapRegions
public import proofs.«01_k».proof.Proof.ScatterRegions
public import proofs.«01_k».proof.Proof.JoinRegions

@[expose] public section

/-! The data of the ten regions, and when they may wait. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-- The data of the ten regions. -/
def pdats : (p : Fin 10) → (c : Dev nD) → Dat τ (Elt F) Unit ℕ UU ℕ (pinD (pcfgs (F := F)) adm c p) c := fun
  | 0 => fun c => dat0 (V0 m) (V3 m) (V7 m) c
  | 1 => fun c => dat1 (V0 m) (V3 m) (V7 m) c
  | 2 => fun c => D2 m c
  | 3 => fun c => D3 m c
  | 4 => fun c => dat4 (V0 m) (V3 m) (V7 m) c
  | 5 => fun c => dat5 (V0 m) (V3 m) (V7 m) c
  | 6 => fun c => D6 m c
  | 7 => fun c => D7 m c
  | 8 => fun c => dat8 (V0 m) (V3 m) (V7 m) c
  | 9 => fun c => dat9 (V0 m) (V3 m) (V7 m) c
  | ⟨_ + 10, h⟩ => absurd h (Nat.not_lt.2 (Nat.le_add_left _ _))

omit [FloatOps F] in
theorem lv_none (c : Dev nD) (s : SemLoc sig) (h : cellIx s = none) : lv ((c : Thread nD τ), s) () ≤ 0 := by
  unfold lv
  rw [h]

/-- A region may wait on its staging cells while all that its device owes is on the exchanges' cells. -/
theorem waits (p : Fin 10) (c : Dev nD) (l : Fin ((pinD (pcfgs (F := F)) adm c p).N + 1) → List (Fin 8 × Ck))
    (ho : ∀ t, (pdats m p c).owed t = owed c (l t)) (hl : ∀ t, ∀ x ∈ l t, 0 < clev x.2)
    (hs : ∀ w s, cellIx (.dma (((pinD (pcfgs (F := F)) adm c p).win w).sem s)) = none) :
    (levAts L lv : sProp 𝕄) ⊢ PerCore.cellsWaits (pinD (pcfgs (F := F)) adm) (pdats m) () p c :=
  PerCore.cellsWaits_intro _ _ _ _ _ fun w s t => by
    rw [ho t]
    exact mayWait c _ 0 (lv_none c _ (hs w s)) _ (hl t)

theorem waits0 (c : Dev nD) : (levAts L lv : sProp 𝕄) ⊢ PerCore.cellsWaits (pinD (pcfgs (F := F)) adm) (pdats m) () 0 c :=
  waits m 0 c (fun t => if t.val = 0 then dues else dues.drop 9) (fun t => (apply_ite (owed c) (t.val = 0) (dues) (dues.drop 9)).symm)
    (fun t => by
      by_cases h : t.val = 0
      · rw [if_pos h]; decide
      · rw [if_neg h]; decide)
    ((by decide : ∀ (w : Fin 1) (s : Fin (spec0 w).nbuf), cellIx (.dma ((spec0 w).sem s)) = none))

theorem waits1 (c : Dev nD) : (levAts L lv : sProp 𝕄) ⊢ PerCore.cellsWaits (pinD (pcfgs (F := F)) adm) (pdats m) () 1 c :=
  waits m 1 c (fun _ => dues.drop 9) (fun _ => rfl) (fun _ => by decide) fun w => w.elim0

theorem waits2 (c : Dev nD) : (levAts L lv : sProp 𝕄) ⊢ PerCore.cellsWaits (pinD (pcfgs (F := F)) adm) (pdats m) () 2 c :=
  waits m 2 c (fun _ => dues.drop 9) (fun _ => rfl) (fun _ => by decide)
    ((by decide : ∀ (w : Fin 4) (s : Fin (spec2 w).nbuf), cellIx (.dma ((spec2 w).sem s)) = none))

theorem waits3 (c : Dev nD) : (levAts L lv : sProp 𝕄) ⊢ PerCore.cellsWaits (pinD (pcfgs (F := F)) adm) (pdats m) () 3 c :=
  waits m 3 c (fun _ => dues.drop 9) (fun _ => rfl) (fun _ => by decide)
    ((by decide : ∀ (w : Fin 4) (s : Fin (spec3 w).nbuf), cellIx (.dma ((spec3 w).sem s)) = none))

theorem waits4 (c : Dev nD) : (levAts L lv : sProp 𝕄) ⊢ PerCore.cellsWaits (pinD (pcfgs (F := F)) adm) (pdats m) () 4 c :=
  waits m 4 c (fun t => if t.val = 0 then dues.drop 9 else dues.drop 22) (fun t => (apply_ite (owed c) (t.val = 0) (dues.drop 9) (dues.drop 22)).symm)
    (fun t => by
      by_cases h : t.val = 0
      · rw [if_pos h]; decide
      · rw [if_neg h]; decide)
    ((by decide : ∀ (w : Fin 1) (s : Fin (spec4 w).nbuf), cellIx (.dma ((spec4 w).sem s)) = none))

theorem waits5 (c : Dev nD) : (levAts L lv : sProp 𝕄) ⊢ PerCore.cellsWaits (pinD (pcfgs (F := F)) adm) (pdats m) () 5 c :=
  waits m 5 c (fun _ => dues.drop 22) (fun _ => rfl) (fun _ => by decide) fun w => w.elim0

theorem waits6 (c : Dev nD) : (levAts L lv : sProp 𝕄) ⊢ PerCore.cellsWaits (pinD (pcfgs (F := F)) adm) (pdats m) () 6 c :=
  waits m 6 c (fun _ => dues.drop 22) (fun _ => rfl) (fun _ => by decide)
    ((by decide : ∀ (w : Fin 3) (s : Fin (spec6 w).nbuf), cellIx (.dma ((spec6 w).sem s)) = none))

theorem waits7 (c : Dev nD) : (levAts L lv : sProp 𝕄) ⊢ PerCore.cellsWaits (pinD (pcfgs (F := F)) adm) (pdats m) () 7 c :=
  waits m 7 c (fun _ => dues.drop 22) (fun _ => rfl) (fun _ => by decide)
    ((by decide : ∀ (w : Fin 3) (s : Fin (spec7 w).nbuf), cellIx (.dma ((spec7 w).sem s)) = none))

theorem waits8 (c : Dev nD) : (levAts L lv : sProp 𝕄) ⊢ PerCore.cellsWaits (pinD (pcfgs (F := F)) adm) (pdats m) () 8 c :=
  waits m 8 c (fun t => if t.val = 0 then dues.drop 22 else []) (fun t => (apply_ite (owed c) (t.val = 0) (dues.drop 22) ([])).symm)
    (fun t => by
      by_cases h : t.val = 0
      · rw [if_pos h]; decide
      · rw [if_neg h]; decide)
    ((by decide : ∀ (w : Fin 1) (s : Fin (spec8 w).nbuf), cellIx (.dma ((spec8 w).sem s)) = none))

theorem waits9 (c : Dev nD) : (levAts L lv : sProp 𝕄) ⊢ PerCore.cellsWaits (pinD (pcfgs (F := F)) adm) (pdats m) () 9 c :=
  waits m 9 c (fun _ => []) (fun _ => rfl) (fun _ => by decide) fun w => w.elim0

end Cert.Run
-- ==== Proof.Moves.lean ====
module

public import proofs.«01_k».proof.Proof.RegionData

@[expose] public section

/-! From held buffers to what an exchange takes, and back from what it returns. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (c : Dev nD)

/-- The records of the run's exchanges. -/
abbrev recd : sProp 𝕄 := records (V0 m) (V3 m) (V7 m)

local notation "Left" => left (V0 m) (V3 m) (V7 m) c
local notation "Came" => came (V0 m) (V3 m) (V7 m) c

theorem recd_copy : recd m ⊢ iprop(recd m ∗ recd m) := by
  iintro #H
  isplitl <;> iexact H

theorem any_sbI : anyPt (F := F) c main_v18 ⊢ vany c sbI := by
  unfold anyPt vany vpts
  rw [show (sbI).view.set = Finset.univ from View.set_whole _]
theorem any_sbO : anyPt (F := F) c main_v19 ⊢ vany c sbO := by
  unfold anyPt vany vpts
  rw [show (sbO).view.set = Finset.univ from View.set_whole _]

/-- What is left of the gradient while its half is away. -/
def restI : sProp 𝕄 := (c : Thread nD τ).loc main_v22_2 ↦[Finset.univ \ (swI c).view.set]{fullShare} V0 m c (Proc.devRef .tc main_v22_2)

theorem lendI : pt c main_v22_2 (V0 m c) ⊢ iprop(Left 0 ∗ restI m c) := (halfI c _).1
theorem backI : iprop(Left 0 ∗ restI m c) ⊢ pt c main_v22_2 (V0 m c) := (halfI c _).2

theorem swappedI : Came 0 ⊢ pt c main_v18 (V1 m c) := by
  show vgot c (peer 1 c) sbI (swI (peer 1 c)) (V0 m (peer 1 c) (Proc.devRef .tc main_v22_2)) ⊢ _
  unfold vgot vpts pt
  have e : ∀ f, (sbI).view.write (Elt F) f ((swI (peer 1 c)).view.read (Elt F) (V0 m (peer 1 c) (Proc.devRef .tc main_v22_2))) Finset.univ
      = (swI (peer 1 c)).view.read (Elt F) (V0 m (peer 1 c) (Proc.devRef .tc main_v22_2)) := fun f => View.write_whole_univ ..
  refine exists_elim fun f => Entails.of_eq ?_
  rw [V1_v18, show (sbI).view.set = Finset.univ from View.set_whole _, e f]

theorem anyI_3 : anyPt (F := F) c main_v20 ⊢ iprop(vany c rvI0 ∗ vany c rvI1 ∗ vany c rvI2) := by
  unfold anyPt vany
  refine exists_elim fun f => (planesI c f).1.trans
    (BI.sep_mono (exists_intro (Φ := fun f => vpts c rvI0 f) f) (BI.sep_mono (exists_intro (Φ := fun f => vpts c rvI1 f) f) (exists_intro (Φ := fun f => vpts c rvI2 f) f)))

theorem sendI : pt c main_v24_0 (V3 m c) ⊢ iprop(Left 2 ∗ Left 4 ∗ Left 6) := quartersI c _

theorem landedI : iprop(Came 2 ∗ Came 4 ∗ Came 6) ⊢ pt c main_v20 (V5 m c) := by
  unfold pt
  rw [V5_v20]
  have h0 : Came 2 ⊢ vpts c rvI0 (gotI m c) := by
    show vgot c (peer 4 c) rvI0 (scI0 (peer 4 c)) (V3 m (peer 4 c) (Proc.devRef .tc main_v24_0)) ⊢ _
    unfold vgot
    exact exists_elim fun f => landedI_0 c f _ _ _ _
  have h1 : Came 4 ⊢ vpts c rvI1 (gotI m c) := by
    show vgot c (peer 2 c) rvI1 (scI1 (peer 2 c)) (V3 m (peer 2 c) (Proc.devRef .tc main_v24_0)) ⊢ _
    unfold vgot
    exact exists_elim fun f => landedI_1 c f _ _ _ _
  have h2 : Came 6 ⊢ vpts c rvI2 (gotI m c) := by
    show vgot c (peer 6 c) rvI2 (scI2 (peer 6 c)) (V3 m (peer 6 c) (Proc.devRef .tc main_v24_0)) ⊢ _
    unfold vgot
    exact exists_elim fun f => landedI_2 c f _ _ _ _
  exact (BI.sep_mono h0 (BI.sep_mono h1 h2)).trans (planesI c (gotI m c)).2

theorem handI : pt c main_v28 (V7 m c) ⊢ iprop(Left 8 ∗ vany c (jnI (peer 1 c))) := by
  refine (halvesI c _).1.trans (BI.sep_mono (BI.Entails.refl _) ?_)
  unfold vany
  exact exists_intro (Φ := fun f => vpts c (jnI (peer 1 c)) f) (V7 m c (Proc.devRef .tc main_v28))

theorem wholeI : iprop(Left 8 ∗ Came 8) ⊢ pt c main_v28 (V8 m c) := by
  unfold pt
  rw [V8_v28]
  have h0 : Left 8 ⊢ vpts c (jnI c) (joinedI c (V7 m c (Proc.devRef .tc main_v28)) (V7 m (peer 1 c) (Proc.devRef .tc main_v28))) := joinI_own c _ _
  have h1 : Came 8 ⊢ vpts c (jnI (peer 1 c)) (joinedI c (V7 m c (Proc.devRef .tc main_v28)) (V7 m (peer 1 c) (Proc.devRef .tc main_v28))) := by
    show vgot c (peer 1 c) (jnI (peer 1 c)) (jnI (peer 1 c)) (V7 m (peer 1 c) (Proc.devRef .tc main_v28)) ⊢ _
    unfold vgot
    exact exists_elim fun f => joinI_other c _ f _
  exact (BI.sep_mono h0 h1).trans (halvesI c _).2

/-- What is left of the gradient while its half is away. -/
def restO : sProp 𝕄 := (c : Thread nD τ).loc main_v22_3 ↦[Finset.univ \ (swO c).view.set]{fullShare} V0 m c (Proc.devRef .tc main_v22_3)

theorem lendO : pt c main_v22_3 (V0 m c) ⊢ iprop(Left 1 ∗ restO m c) := (halfO c _).1
theorem backO : iprop(Left 1 ∗ restO m c) ⊢ pt c main_v22_3 (V0 m c) := (halfO c _).2

theorem swappedO : Came 1 ⊢ pt c main_v19 (V1 m c) := by
  show vgot c (peer 1 c) sbO (swO (peer 1 c)) (V0 m (peer 1 c) (Proc.devRef .tc main_v22_3)) ⊢ _
  unfold vgot vpts pt
  have e : ∀ f, (sbO).view.write (Elt F) f ((swO (peer 1 c)).view.read (Elt F) (V0 m (peer 1 c) (Proc.devRef .tc main_v22_3))) Finset.univ
      = (swO (peer 1 c)).view.read (Elt F) (V0 m (peer 1 c) (Proc.devRef .tc main_v22_3)) := fun f => View.write_whole_univ ..
  refine exists_elim fun f => Entails.of_eq ?_
  rw [V1_v19, show (sbO).view.set = Finset.univ from View.set_whole _, e f]

theorem anyO_3 : anyPt (F := F) c main_v21 ⊢ iprop(vany c rvO0 ∗ vany c rvO1 ∗ vany c rvO2) := by
  unfold anyPt vany
  refine exists_elim fun f => (planesO c f).1.trans
    (BI.sep_mono (exists_intro (Φ := fun f => vpts c rvO0 f) f) (BI.sep_mono (exists_intro (Φ := fun f => vpts c rvO1 f) f) (exists_intro (Φ := fun f => vpts c rvO2 f) f)))

theorem sendO : pt c main_v25_0 (V3 m c) ⊢ iprop(Left 3 ∗ Left 5 ∗ Left 7) := quartersO c _

theorem landedO : iprop(Came 3 ∗ Came 5 ∗ Came 7) ⊢ pt c main_v21 (V5 m c) := by
  unfold pt
  rw [V5_v21]
  have h0 : Came 3 ⊢ vpts c rvO0 (gotO m c) := by
    show vgot c (peer 4 c) rvO0 (scO0 (peer 4 c)) (V3 m (peer 4 c) (Proc.devRef .tc main_v25_0)) ⊢ _
    unfold vgot
    exact exists_elim fun f => landedO_0 c f _ _ _ _
  have h1 : Came 5 ⊢ vpts c rvO1 (gotO m c) := by
    show vgot c (peer 2 c) rvO1 (scO1 (peer 2 c)) (V3 m (peer 2 c) (Proc.devRef .tc main_v25_0)) ⊢ _
    unfold vgot
    exact exists_elim fun f => landedO_1 c f _ _ _ _
  have h2 : Came 7 ⊢ vpts c rvO2 (gotO m c) := by
    show vgot c (peer 6 c) rvO2 (scO2 (peer 6 c)) (V3 m (peer 6 c) (Proc.devRef .tc main_v25_0)) ⊢ _
    unfold vgot
    exact exists_elim fun f => landedO_2 c f _ _ _ _
  exact (BI.sep_mono h0 (BI.sep_mono h1 h2)).trans (planesO c (gotO m c)).2

theorem handO : pt c main_v29 (V7 m c) ⊢ iprop(Left 9 ∗ vany c (jnO (peer 1 c))) := by
  refine (halvesO c _).1.trans (BI.sep_mono (BI.Entails.refl _) ?_)
  unfold vany
  exact exists_intro (Φ := fun f => vpts c (jnO (peer 1 c)) f) (V7 m c (Proc.devRef .tc main_v29))

theorem wholeO : iprop(Left 9 ∗ Came 9) ⊢ pt c main_v29 (V8 m c) := by
  unfold pt
  rw [V8_v29]
  have h0 : Left 9 ⊢ vpts c (jnO c) (joinedO c (V7 m c (Proc.devRef .tc main_v29)) (V7 m (peer 1 c) (Proc.devRef .tc main_v29))) := joinO_own c _ _
  have h1 : Came 9 ⊢ vpts c (jnO (peer 1 c)) (joinedO c (V7 m c (Proc.devRef .tc main_v29)) (V7 m (peer 1 c) (Proc.devRef .tc main_v29))) := by
    show vgot c (peer 1 c) (jnO (peer 1 c)) (jnO (peer 1 c)) (V7 m (peer 1 c) (Proc.devRef .tc main_v29)) ⊢ _
    unfold vgot
    exact exists_elim fun f => joinO_other c _ f _
  exact (BI.sep_mono h0 h1).trans (halvesO c _).2

end Cert.Run
-- ==== Proof.RegionSegs.lean ====
module

public import proofs.«01_k».proof.Proof.Moves

@[expose] public section

/-! The ten regions as segments: what each takes, what it leaves, what rides along. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (c : Dev nD)

local notation "ℝ𝕊" => PerCore.RegionSeg (pcfgs (F := F)) adm (pdats m) () (defs₀ (F := F)) 𝒱₀ L lv

omit [FloatOps F] in
theorem no_tables (pre : Prefetch sig) (h : pre.K = 0) (c : Dev nD) (q) (f : pre.Contents (Elt F)) : (prefHeld pre c q f : sProp 𝕄) = BI.emp := by
  unfold prefHeld
  haveI : IsEmpty (Fin pre.K) := by rw [h]; infer_instance
  rw [Finset.univ_eq_empty, bigSep_empty]

/-- What rides along region 0. -/
def R0 : sProp 𝕄 := iprop(pt c main_arg0 (V0 m c) ∗ pt c main_arg1 (V0 m c) ∗ pt c main_v17 (V0 m c) ∗ restI m c ∗ restO m c ∗ anyPt (F := F) c main_v20 ∗ anyPt (F := F) c main_v21 ∗ pt c main_v24_0 (V0 m c) ∗ pt c main_v24_1 (V0 m c) ∗ pt c main_v25_0 (V0 m c) ∗ pt c main_v25_1 (V0 m c) ∗ pt c main_v26_6 (V0 m c) ∗ pt c main_v28 (V0 m c) ∗ pt c main_v29 (V0 m c) ∗ pt c main_v30_4 (V0 m c) ∗ shut (F := F) c 1 ∗ ready (F := F) c 2 ∗ ready (F := F) c 3 ∗ ready (F := F) c 4 ∗ ready (F := F) c 5 ∗ ready (F := F) c 6 ∗ ready (F := F) c 7 ∗ shut (F := F) c 2 ∗ ready (F := F) c 8 ∗ ready (F := F) c 9)
/-- What rides along region 1. -/
def R1 : sProp 𝕄 := iprop(pt c main_arg0 (V0 m c) ∗ pt c main_arg1 (V0 m c) ∗ pt c main_v17 (V0 m c) ∗ restI m c ∗ restO m c ∗ anyPt (F := F) c main_v20 ∗ anyPt (F := F) c main_v21 ∗ pt c main_v24_0 (V0 m c) ∗ pt c main_v24_1 (V0 m c) ∗ pt c main_v25_0 (V0 m c) ∗ pt c main_v25_1 (V0 m c) ∗ pt c main_v26_6 (V0 m c) ∗ pt c main_v28 (V0 m c) ∗ pt c main_v29 (V0 m c) ∗ pt c main_v30_4 (V0 m c) ∗ shut (F := F) c 1 ∗ ready (F := F) c 2 ∗ ready (F := F) c 3 ∗ ready (F := F) c 4 ∗ ready (F := F) c 5 ∗ ready (F := F) c 6 ∗ ready (F := F) c 7 ∗ shut (F := F) c 2 ∗ ready (F := F) c 8 ∗ ready (F := F) c 9)
/-- What rides along region 2. -/
def R2 : sProp 𝕄 := iprop(recd m ∗ semVal (kcell c (bar 0)) 0 ∗ shutOff (F := F) c 0 ∗ shutOff (F := F) c 1 ∗ pt c main_arg0 (V0 m c) ∗ pt c main_arg1 (V0 m c) ∗ anyPt (F := F) c main_v20 ∗ anyPt (F := F) c main_v21 ∗ pt c main_v25_0 (V0 m c) ∗ pt c main_v25_1 (V0 m c) ∗ pt c main_v22_3 (V0 m c) ∗ pt c main_v19 (V1 m c) ∗ pt c main_v26_6 (V0 m c) ∗ pt c main_v28 (V0 m c) ∗ pt c main_v29 (V0 m c) ∗ pt c main_v30_4 (V0 m c) ∗ shut (F := F) c 1 ∗ ready (F := F) c 2 ∗ ready (F := F) c 3 ∗ ready (F := F) c 4 ∗ ready (F := F) c 5 ∗ ready (F := F) c 6 ∗ ready (F := F) c 7 ∗ shut (F := F) c 2 ∗ ready (F := F) c 8 ∗ ready (F := F) c 9)
/-- What rides along region 3. -/
def R3 : sProp 𝕄 := iprop(recd m ∗ semVal (kcell c (bar 0)) 0 ∗ shutOff (F := F) c 0 ∗ shutOff (F := F) c 1 ∗ pt c main_arg0 (V0 m c) ∗ pt c main_arg1 (V0 m c) ∗ anyPt (F := F) c main_v20 ∗ anyPt (F := F) c main_v21 ∗ pt c main_v24_0 (V2 m c) ∗ pt c main_v24_1 (V2 m c) ∗ pt c main_v26_6 (V0 m c) ∗ pt c main_v28 (V0 m c) ∗ pt c main_v29 (V0 m c) ∗ pt c main_v30_4 (V0 m c) ∗ shut (F := F) c 1 ∗ ready (F := F) c 2 ∗ ready (F := F) c 3 ∗ ready (F := F) c 4 ∗ ready (F := F) c 5 ∗ ready (F := F) c 6 ∗ ready (F := F) c 7 ∗ shut (F := F) c 2 ∗ ready (F := F) c 8 ∗ ready (F := F) c 9)
/-- What rides along region 4. -/
def R4 : sProp 𝕄 := iprop(semVal (kcell c (bar 0)) 0 ∗ shutOff (F := F) c 0 ∗ shutOff (F := F) c 1 ∗ pt c main_arg0 (V0 m c) ∗ pt c main_arg1 (V0 m c) ∗ pt c main_v17 (V0 m c) ∗ pt c main_v24_1 (V2 m c) ∗ pt c main_v25_1 (V3 m c) ∗ pt c main_v28 (V0 m c) ∗ pt c main_v29 (V0 m c) ∗ pt c main_v30_4 (V0 m c) ∗ shut (F := F) c 2 ∗ ready (F := F) c 8 ∗ ready (F := F) c 9)
/-- What rides along region 5. -/
def R5 : sProp 𝕄 := iprop(semVal (kcell c (bar 0)) 0 ∗ shutOff (F := F) c 0 ∗ shutOff (F := F) c 1 ∗ pt c main_arg0 (V0 m c) ∗ pt c main_arg1 (V0 m c) ∗ pt c main_v17 (V0 m c) ∗ pt c main_v24_1 (V2 m c) ∗ pt c main_v25_1 (V3 m c) ∗ pt c main_v28 (V0 m c) ∗ pt c main_v29 (V0 m c) ∗ pt c main_v30_4 (V0 m c) ∗ shut (F := F) c 2 ∗ ready (F := F) c 8 ∗ ready (F := F) c 9)
/-- What rides along region 6. -/
def R6 : sProp 𝕄 := iprop(recd m ∗ semVal (kcell c (bar 0)) 0 ∗ shutOff (F := F) c 0 ∗ shutOff (F := F) c 1 ∗ semVal (kcell c (bar 1)) 0 ∗ shutOff (F := F) c 2 ∗ shutOff (F := F) c 3 ∗ shutOff (F := F) c 4 ∗ shutOff (F := F) c 5 ∗ shutOff (F := F) c 6 ∗ shutOff (F := F) c 7 ∗ pt c main_arg0 (V0 m c) ∗ pt c main_arg1 (V0 m c) ∗ pt c main_v25_1 (V3 m c) ∗ pt c main_v21 (V5 m c) ∗ pt c main_v29 (V0 m c) ∗ pt c main_v30_4 (V0 m c) ∗ shut (F := F) c 2 ∗ ready (F := F) c 8 ∗ ready (F := F) c 9)
/-- What rides along region 7. -/
def R7 : sProp 𝕄 := iprop(recd m ∗ semVal (kcell c (bar 0)) 0 ∗ shutOff (F := F) c 0 ∗ shutOff (F := F) c 1 ∗ semVal (kcell c (bar 1)) 0 ∗ shutOff (F := F) c 2 ∗ shutOff (F := F) c 3 ∗ shutOff (F := F) c 4 ∗ shutOff (F := F) c 5 ∗ shutOff (F := F) c 6 ∗ shutOff (F := F) c 7 ∗ pt c main_arg0 (V0 m c) ∗ pt c main_arg1 (V0 m c) ∗ pt c main_v28 (V6 m c) ∗ pt c main_v30_4 (V0 m c) ∗ shut (F := F) c 2 ∗ ready (F := F) c 8 ∗ ready (F := F) c 9)
/-- What rides along region 8. -/
def R8 : sProp 𝕄 := iprop(semVal (kcell c (bar 0)) 0 ∗ shutOff (F := F) c 0 ∗ shutOff (F := F) c 1 ∗ semVal (kcell c (bar 1)) 0 ∗ shutOff (F := F) c 2 ∗ shutOff (F := F) c 3 ∗ shutOff (F := F) c 4 ∗ shutOff (F := F) c 5 ∗ shutOff (F := F) c 6 ∗ shutOff (F := F) c 7 ∗ pt c main_arg0 (V0 m c) ∗ pt c main_arg1 (V0 m c))
/-- What rides along region 9. -/
def R9 : sProp 𝕄 := iprop(semVal (kcell c (bar 0)) 0 ∗ shutOff (F := F) c 0 ∗ shutOff (F := F) c 1 ∗ semVal (kcell c (bar 1)) 0 ∗ shutOff (F := F) c 2 ∗ shutOff (F := F) c 3 ∗ shutOff (F := F) c 4 ∗ shutOff (F := F) c 5 ∗ shutOff (F := F) c 6 ∗ shutOff (F := F) c 7 ∗ pt c main_arg0 (V0 m c) ∗ pt c main_arg1 (V0 m c))

/-- Region 0's token, once written. -/
def tok0 : S8x128.Idx → Elt F .f32 := (dat0 (V0 m) (V3 m) (V7 m) c).arrAt 0 cfg0.N
/-- The buffers after region 0, for its token. -/
def W0 : Valuation τ sig (Elt F) := Function.update (V0 m c) (Proc.devRef .tc main_v22_8) (tok0 m c)

/-- Region 4's token, once written. -/
def tok4 : S8x128.Idx → Elt F .f32 := (dat4 (V0 m) (V3 m) (V7 m) c).arrAt 0 cfg4.N
/-- The buffers after region 4, for its token. -/
def W4 : Valuation τ sig (Elt F) := Function.update (V3 m c) (Proc.devRef .tc main_v26_6) (tok4 m c)

/-- Region 8's token, once written. -/
def tok8 : S8x128.Idx → Elt F .f32 := (dat8 (V0 m) (V3 m) (V7 m) c).arrAt 0 cfg8.N
/-- The buffers after region 8, for its token. -/
def W8 : Valuation τ sig (Elt F) := Function.update (V7 m c) (Proc.devRef .tc main_v30_4) (tok8 m c)

/-- The buffers region 0 works on. -/
abbrev S_0 : Finset (DevRef τ sig) := ({Proc.devRef .tc main_v22_8} : Finset (DevRef τ sig))

theorem arr0 : arrRefs spec0 ⊆ S_0 := by decide
theorem rst0 : S_0 \ arrRefs spec0 = ∅ := by decide
theorem tbl0 : tblRefs (τ := τ) (pcfgs (F := F) 0).pre ⊆ S_0 := by
  rw [show tblRefs (τ := τ) (pcfgs (F := F) 0).pre = ∅ from rfl]
  decide

theorem owes0_in (c : Dev nD) : (dat0 (V0 m) (V3 m) (V7 m) c).owed 0 = owed c (dues) := by
  dsimp only [dat0]
  exact if_pos rfl
theorem owes0_out (c : Dev nD) : (dat0 (V0 m) (V3 m) (V7 m) c).owed (Fin.last cfg0.N) = owed c (dues.drop 9) := by
  dsimp only [dat0]
  exact if_neg (by decide)

theorem phi0_in (c : Dev nD) : (dat0 (V0 m) (V3 m) (V7 m) c).Φ 0 = iprop(X0 (V0 m) (V3 m) (V7 m) c ∗ scopedRest spec0 c) := by
  dsimp only [dat0]
  exact if_pos rfl
theorem phi0_out (c : Dev nD) : (dat0 (V0 m) (V3 m) (V7 m) c).Φ (Fin.last cfg0.N) = iprop(Y0 (V0 m) (V3 m) (V7 m) c ∗ scopedRest spec0 c) := by
  dsimp only [dat0]
  exact if_neg (by decide)

theorem enter0 (c : Dev nD) : iprop(X0 (V0 m) (V3 m) (V7 m) c ∗ prefHeld (pcfgs (F := F) 0).pre c (fun _ => fullShare) (adm c 0).1 ∗ scopedRest (pcfgs (F := F) 0).spec c) ⊢ (pdats m 0 c).Φ 0 := by
  rw [show (pdats m 0 c).Φ 0 = iprop(X0 (V0 m) (V3 m) (V7 m) c ∗ scopedRest spec0 c) from phi0_in m c]
  iintro ⟨H, -, Hs⟩
  isplitl [H]; · iexact H
  iexact Hs
theorem leave0 (c : Dev nD) : (pdats m 0 c).Φ (Fin.last (pinD (pcfgs (F := F)) adm c 0).N) ⊢ iprop(Y0 (V0 m) (V3 m) (V7 m) c ∗ prefHeld (pcfgs (F := F) 0).pre c (fun _ => fullShare) (adm c 0).1 ∗ scopedRest (pcfgs (F := F) 0).spec c) := by
  rw [show (pdats m 0 c).Φ (Fin.last (pinD (pcfgs (F := F)) adm c 0).N) = iprop(Y0 (V0 m) (V3 m) (V7 m) c ∗ scopedRest spec0 c) from phi0_out m c,
    show (prefHeld (pcfgs (F := F) 0).pre c (fun _ => fullShare) (adm c 0).1 : sProp 𝕄) = BI.emp from no_tables _ rfl c _ _]
  iintro ⟨H, Hs⟩
  isplitl [H]; · iexact H
  isplitr; · iempintro
  iexact Hs
theorem shr0 (c : Dev nD) (w : Fin 1) : (dat0 (V0 m) (V3 m) (V7 m) c).share w = fullShare := Dat.share_full (dat0 (V0 m) (V3 m) (V7 m) c) (fun _ => rfl) w

/-- Region 0 as a segment. -/
def reg0 : ℝ𝕊 0 :=
  segHeld (pcfgs (F := F)) adm (pdats m) () (defs₀ (F := F)) 𝒱₀ L lv 0 launch0
    (fun c => (body0 (V0 m) (V3 m) (V7 m) c).loose)
    (fun c => owed c (dues)) (fun c => owed c (dues.drop 9)) (waits0 m)
    (owes0_in m) (owes0_out m) (fun c => rfl) (fun c w => shr0 m c w)
    S_0 (V0 m) (W0 m) (fun c => X0 (V0 m) (V3 m) (V7 m) c) (fun c => Y0 (V0 m) (V3 m) (V7 m) c) (R0 m)
    arr0 tbl0
    (fun c b hb => absurd hb ((show b ∉ S_0 \ arrRefs spec0 from by rw [rst0]; exact Finset.notMem_empty b)))
    (fun c w => by fin_cases w; rfl)
    (fun c w => by fin_cases w; exact (Function.update_self (Proc.devRef (τ := τ) .tc main_v22_8) (tok0 m c) (V0 m c)).symm)
    (fun c k => k.elim0)
    (fun c => enter0 m c)
    (fun c => leave0 m c)

/-- The buffers region 1 works on. -/
abbrev S_1 : Finset (DevRef τ sig) := (∅ : Finset (DevRef τ sig))

theorem arr1 : arrRefs spec1 ⊆ S_1 := by decide
theorem rst1 : S_1 \ arrRefs spec1 = ∅ := by decide
theorem tbl1 : tblRefs (τ := τ) (pcfgs (F := F) 1).pre ⊆ S_1 := by
  rw [show tblRefs (τ := τ) (pcfgs (F := F) 1).pre = ∅ from rfl]

theorem phi1_in (c : Dev nD) : (dat1 (V0 m) (V3 m) (V7 m) c).Φ 0 = iprop(X1 (V0 m) (V3 m) (V7 m) c ∗ scopedRest spec1 c) := by
  dsimp only [dat1]
  exact if_pos rfl
theorem phi1_out (c : Dev nD) : (dat1 (V0 m) (V3 m) (V7 m) c).Φ (Fin.last cfg1.N) = iprop(Y1 (V0 m) (V3 m) (V7 m) c ∗ scopedRest spec1 c) := by
  dsimp only [dat1]
  exact if_neg (by decide)

theorem enter1 (c : Dev nD) : iprop(X1 (V0 m) (V3 m) (V7 m) c ∗ prefHeld (pcfgs (F := F) 1).pre c (fun _ => fullShare) (adm c 1).1 ∗ scopedRest (pcfgs (F := F) 1).spec c) ⊢ (pdats m 1 c).Φ 0 := by
  rw [show (pdats m 1 c).Φ 0 = iprop(X1 (V0 m) (V3 m) (V7 m) c ∗ scopedRest spec1 c) from phi1_in m c]
  iintro ⟨H, -, Hs⟩
  isplitl [H]; · iexact H
  iexact Hs
theorem leave1 (c : Dev nD) : (pdats m 1 c).Φ (Fin.last (pinD (pcfgs (F := F)) adm c 1).N) ⊢ iprop(Y1 (V0 m) (V3 m) (V7 m) c ∗ prefHeld (pcfgs (F := F) 1).pre c (fun _ => fullShare) (adm c 1).1 ∗ scopedRest (pcfgs (F := F) 1).spec c) := by
  rw [show (pdats m 1 c).Φ (Fin.last (pinD (pcfgs (F := F)) adm c 1).N) = iprop(Y1 (V0 m) (V3 m) (V7 m) c ∗ scopedRest spec1 c) from phi1_out m c,
    show (prefHeld (pcfgs (F := F) 1).pre c (fun _ => fullShare) (adm c 1).1 : sProp 𝕄) = BI.emp from no_tables _ rfl c _ _]
  iintro ⟨H, Hs⟩
  isplitl [H]; · iexact H
  isplitr; · iempintro
  iexact Hs

/-- Region 1 as a segment. -/
def reg1 : ℝ𝕊 1 :=
  segHeld (pcfgs (F := F)) adm (pdats m) () (defs₀ (F := F)) 𝒱₀ L lv 1 launch1
    (fun c => (body1 (V0 m) (V3 m) (V7 m) c).loose)
    (fun c => owed c (dues.drop 9)) (fun c => owed c (dues.drop 9)) (waits1 m)
    (fun c => rfl) (fun c => rfl) (fun c => rfl) (fun c w => w.elim0)
    S_1 (V0 m) (V0 m) (fun c => X1 (V0 m) (V3 m) (V7 m) c) (fun c => Y1 (V0 m) (V3 m) (V7 m) c) (R1 m)
    arr1 tbl1
    (fun c b hb => rfl)
    (fun c w => w.elim0)
    (fun c w => w.elim0)
    (fun c k => k.elim0)
    (fun c => enter1 m c)
    (fun c => leave1 m c)

/-- The buffers region 2 works on. -/
abbrev S_2 : Finset (DevRef τ sig) := ({Proc.devRef .tc main_v17, Proc.devRef .tc main_v22_2, Proc.devRef .tc main_v18, Proc.devRef .tc main_v24_0, Proc.devRef .tc main_v24_1} : Finset (DevRef τ sig))
theorem at2_0 (c : Dev nD) (V : Valuation τ sig (Elt F)) (a : (pcfg2 (F := F)).Adm) (q : Fin 4) (O : CellTallies nD τ sig Unit) (n : ℕ) : (dat2 c V a q O).arrAt 0 n = V (Proc.devRef .tc main_v22_2) := (dat2 c V a q O).arrAt_in 0 rfl n
theorem at2_1 (c : Dev nD) (V : Valuation τ sig (Elt F)) (a : (pcfg2 (F := F)).Adm) (q : Fin 4) (O : CellTallies nD τ sig Unit) (n : ℕ) : (dat2 c V a q O).arrAt 1 n = V (Proc.devRef .tc main_v18) := (dat2 c V a q O).arrAt_in 1 rfl n
theorem from2_0 (c : Dev nD) (V : Valuation τ sig (Elt F)) (a : (pcfg2 (F := F)).Adm) (q : Fin 4) (O : CellTallies nD τ sig Unit) : (dat2 c V a q O).arrAt 0 0 = V (Proc.devRef .tc main_v22_2) := rfl
theorem from2_1 (c : Dev nD) (V : Valuation τ sig (Elt F)) (a : (pcfg2 (F := F)).Adm) (q : Fin 4) (O : CellTallies nD τ sig Unit) : (dat2 c V a q O).arrAt 1 0 = V (Proc.devRef .tc main_v18) := rfl
theorem from2_2 (c : Dev nD) (V : Valuation τ sig (Elt F)) (a : (pcfg2 (F := F)).Adm) (q : Fin 4) (O : CellTallies nD τ sig Unit) : (dat2 c V a q O).arrAt 2 0 = V (Proc.devRef .tc main_v24_0) := rfl
theorem from2_3 (c : Dev nD) (V : Valuation τ sig (Elt F)) (a : (pcfg2 (F := F)).Adm) (q : Fin 4) (O : CellTallies nD τ sig Unit) : (dat2 c V a q O).arrAt 3 0 = V (Proc.devRef .tc main_v24_1) := rfl
theorem phi2 (c : Dev nD) (V : Valuation τ sig (Elt F)) (a : (pcfg2 (F := F)).Adm) (q : Fin 4) (O : CellTallies nD τ sig Unit) (t) : (dat2 c V a q O).Φ t = iprop(prefHeld pre2 c (fun _ => fullShare) a.1 ∗ scopedRest spec2 c) := rfl
theorem shr2 (c : Dev nD) (V : Valuation τ sig (Elt F)) (a : (pcfg2 (F := F)).Adm) (q : Fin 4) (O : CellTallies nD τ sig Unit) (w : Fin 4) : (dat2 c V a q O).share w = fullShare := Dat.share_full (dat2 c V a q O) (fun _ => rfl) w

theorem out2 (c : Dev nD) : ∀ w : Fin 4, (D2 m c).arrAt w (cfg2 (F := F) (adm2 c)).N = V2 m c (Proc.devRef .tc (arrRef spec2 w)) := fun
  | 0 => (at2_0 c (V1 m c) _ _ _ _).trans (V2_of m c main_v22_2 (by decide) (by decide)).symm
  | 1 => (at2_1 c (V1 m c) _ _ _ _).trans (V2_of m c main_v18 (by decide) (by decide)).symm
  | 2 => (V2_v24_0 m c).symm
  | 3 => (V2_v24_1 m c).symm
  | ⟨_ + 4, h⟩ => absurd h (Nat.not_lt.2 (Nat.le_add_left _ _))

theorem arr2 : arrRefs spec2 ⊆ S_2 := by decide
theorem rst2 : S_2 \ arrRefs spec2 = {Proc.devRef .tc main_v17} := by decide
theorem tbl2 : tblRefs (τ := τ) (pcfgs (F := F) 2).pre ⊆ S_2 := by
  rw [show tblRefs (τ := τ) (pcfgs (F := F) 2).pre = {Proc.devRef .tc main_v17} from rfl]
  decide

theorem inp2 (c : Dev nD) : ∀ w : Fin 4, (D2 m c).arrAt w 0 = V1 m c (Proc.devRef .tc (arrRef spec2 w)) := fun
  | 0 => from2_0 c (V1 m c) _ _ _
  | 1 => from2_1 c (V1 m c) _ _ _
  | 2 => from2_2 c (V1 m c) _ _ _
  | 3 => from2_3 c (V1 m c) _ _ _
  | ⟨_ + 4, h⟩ => absurd h (Nat.not_lt.2 (Nat.le_add_left _ _))

theorem enter2 (c : Dev nD) : iprop(iprop(emp) ∗ prefHeld pre2 c (fun _ => fullShare) (adm2 (F := F) c).1 ∗ scopedRest spec2 c) ⊢ (D2 m c).Φ 0 := by
  rw [phi2]
  iintro ⟨-, H⟩
  iexact H
theorem leave2 (c : Dev nD) : (D2 m c).Φ (Fin.last (cfg2 (adm2 c)).N) ⊢ iprop(iprop(emp) ∗ prefHeld pre2 c (fun _ => fullShare) (adm2 (F := F) c).1 ∗ scopedRest spec2 c) := by
  rw [phi2]
  iintro H
  isplitr; · iempintro
  iexact H

/-- Region 2 as a segment. -/
def reg2 : ℝ𝕊 2 :=
  segHeld (pcfgs (F := F)) adm (pdats m) () (defs₀ (F := F)) 𝒱₀ L lv 2 launch2
    (fun c => (body2 c (V1 m c) (adm2 c) (chip c) (owed c (dues.drop 9)) (word_tab c)).loose)
    (fun c => owed c (dues.drop 9)) (fun c => owed c (dues.drop 9)) (waits2 m)
    (fun c => rfl) (fun c => rfl) (fun c => rfl) (fun c w => shr2 c (V1 m c) _ _ _ w)
    S_2 (V1 m) (V2 m) (fun c => iprop(emp)) (fun c => iprop(emp)) (R2 m)
    arr2 tbl2
    (fun c b hb => by obtain rfl := Finset.mem_singleton.mp ((rst2) ▸ (show b ∈ S_2 \ arrRefs spec2 from hb)); exact V2_of m c main_v17 (by decide) (by decide))
    (fun c w => inp2 m c w)
    (fun c w => out2 m c w)
    (fun c j => by fin_cases j; exact ((p1_v17 m c).trans (V0_tab m c)).symm)
    (fun c => enter2 m c)
    (fun c => leave2 m c)

/-- The buffers region 3 works on. -/
abbrev S_3 : Finset (DevRef τ sig) := ({Proc.devRef .tc main_v17, Proc.devRef .tc main_v22_3, Proc.devRef .tc main_v19, Proc.devRef .tc main_v25_0, Proc.devRef .tc main_v25_1} : Finset (DevRef τ sig))
theorem at3_0 (c : Dev nD) (V : Valuation τ sig (Elt F)) (a : (pcfg3 (F := F)).Adm) (q : Fin 4) (O : CellTallies nD τ sig Unit) (n : ℕ) : (dat3 c V a q O).arrAt 0 n = V (Proc.devRef .tc main_v22_3) := (dat3 c V a q O).arrAt_in 0 rfl n
theorem at3_1 (c : Dev nD) (V : Valuation τ sig (Elt F)) (a : (pcfg3 (F := F)).Adm) (q : Fin 4) (O : CellTallies nD τ sig Unit) (n : ℕ) : (dat3 c V a q O).arrAt 1 n = V (Proc.devRef .tc main_v19) := (dat3 c V a q O).arrAt_in 1 rfl n
theorem from3_0 (c : Dev nD) (V : Valuation τ sig (Elt F)) (a : (pcfg3 (F := F)).Adm) (q : Fin 4) (O : CellTallies nD τ sig Unit) : (dat3 c V a q O).arrAt 0 0 = V (Proc.devRef .tc main_v22_3) := rfl
theorem from3_1 (c : Dev nD) (V : Valuation τ sig (Elt F)) (a : (pcfg3 (F := F)).Adm) (q : Fin 4) (O : CellTallies nD τ sig Unit) : (dat3 c V a q O).arrAt 1 0 = V (Proc.devRef .tc main_v19) := rfl
theorem from3_2 (c : Dev nD) (V : Valuation τ sig (Elt F)) (a : (pcfg3 (F := F)).Adm) (q : Fin 4) (O : CellTallies nD τ sig Unit) : (dat3 c V a q O).arrAt 2 0 = V (Proc.devRef .tc main_v25_0) := rfl
theorem from3_3 (c : Dev nD) (V : Valuation τ sig (Elt F)) (a : (pcfg3 (F := F)).Adm) (q : Fin 4) (O : CellTallies nD τ sig Unit) : (dat3 c V a q O).arrAt 3 0 = V (Proc.devRef .tc main_v25_1) := rfl
theorem phi3 (c : Dev nD) (V : Valuation τ sig (Elt F)) (a : (pcfg3 (F := F)).Adm) (q : Fin 4) (O : CellTallies nD τ sig Unit) (t) : (dat3 c V a q O).Φ t = iprop(prefHeld pre3 c (fun _ => fullShare) a.1 ∗ scopedRest spec3 c) := rfl
theorem shr3 (c : Dev nD) (V : Valuation τ sig (Elt F)) (a : (pcfg3 (F := F)).Adm) (q : Fin 4) (O : CellTallies nD τ sig Unit) (w : Fin 4) : (dat3 c V a q O).share w = fullShare := Dat.share_full (dat3 c V a q O) (fun _ => rfl) w

theorem out3 (c : Dev nD) : ∀ w : Fin 4, (D3 m c).arrAt w (cfg3 (F := F) (adm3 c)).N = V3 m c (Proc.devRef .tc (arrRef spec3 w)) := fun
  | 0 => (at3_0 c (V2 m c) _ _ _ _).trans (V3_of m c main_v22_3 (by decide) (by decide)).symm
  | 1 => (at3_1 c (V2 m c) _ _ _ _).trans (V3_of m c main_v19 (by decide) (by decide)).symm
  | 2 => (V3_v25_0 m c).symm
  | 3 => (V3_v25_1 m c).symm
  | ⟨_ + 4, h⟩ => absurd h (Nat.not_lt.2 (Nat.le_add_left _ _))

theorem arr3 : arrRefs spec3 ⊆ S_3 := by decide
theorem rst3 : S_3 \ arrRefs spec3 = {Proc.devRef .tc main_v17} := by decide
theorem tbl3 : tblRefs (τ := τ) (pcfgs (F := F) 3).pre ⊆ S_3 := by
  rw [show tblRefs (τ := τ) (pcfgs (F := F) 3).pre = {Proc.devRef .tc main_v17} from rfl]
  decide

theorem inp3 (c : Dev nD) : ∀ w : Fin 4, (D3 m c).arrAt w 0 = V2 m c (Proc.devRef .tc (arrRef spec3 w)) := fun
  | 0 => from3_0 c (V2 m c) _ _ _
  | 1 => from3_1 c (V2 m c) _ _ _
  | 2 => from3_2 c (V2 m c) _ _ _
  | 3 => from3_3 c (V2 m c) _ _ _
  | ⟨_ + 4, h⟩ => absurd h (Nat.not_lt.2 (Nat.le_add_left _ _))

theorem enter3 (c : Dev nD) : iprop(iprop(emp) ∗ prefHeld pre3 c (fun _ => fullShare) (adm3 (F := F) c).1 ∗ scopedRest spec3 c) ⊢ (D3 m c).Φ 0 := by
  rw [phi3]
  iintro ⟨-, H⟩
  iexact H
theorem leave3 (c : Dev nD) : (D3 m c).Φ (Fin.last (cfg3 (adm3 c)).N) ⊢ iprop(iprop(emp) ∗ prefHeld pre3 c (fun _ => fullShare) (adm3 (F := F) c).1 ∗ scopedRest spec3 c) := by
  rw [phi3]
  iintro H
  isplitr; · iempintro
  iexact H

/-- Region 3 as a segment. -/
def reg3 : ℝ𝕊 3 :=
  segHeld (pcfgs (F := F)) adm (pdats m) () (defs₀ (F := F)) 𝒱₀ L lv 3 launch3
    (fun c => (body3 c (V2 m c) (adm3 c) (chip c) (owed c (dues.drop 9)) (word_tab c)).loose)
    (fun c => owed c (dues.drop 9)) (fun c => owed c (dues.drop 9)) (waits3 m)
    (fun c => rfl) (fun c => rfl) (fun c => rfl) (fun c w => shr3 c (V2 m c) _ _ _ w)
    S_3 (V2 m) (V3 m) (fun c => iprop(emp)) (fun c => iprop(emp)) (R3 m)
    arr3 tbl3
    (fun c b hb => by obtain rfl := Finset.mem_singleton.mp ((rst3) ▸ (show b ∈ S_3 \ arrRefs spec3 from hb)); exact V3_of m c main_v17 (by decide) (by decide))
    (fun c w => inp3 m c w)
    (fun c w => out3 m c w)
    (fun c j => by fin_cases j; exact ((p2_v17 m c).trans (V0_tab m c)).symm)
    (fun c => enter3 m c)
    (fun c => leave3 m c)

/-- The buffers region 4 works on. -/
abbrev S_4 : Finset (DevRef τ sig) := ({Proc.devRef .tc main_v26_6} : Finset (DevRef τ sig))

theorem arr4 : arrRefs spec4 ⊆ S_4 := by decide
theorem rst4 : S_4 \ arrRefs spec4 = ∅ := by decide
theorem tbl4 : tblRefs (τ := τ) (pcfgs (F := F) 4).pre ⊆ S_4 := by
  rw [show tblRefs (τ := τ) (pcfgs (F := F) 4).pre = ∅ from rfl]
  decide

theorem owes4_in (c : Dev nD) : (dat4 (V0 m) (V3 m) (V7 m) c).owed 0 = owed c (dues.drop 9) := by
  dsimp only [dat4]
  exact if_pos rfl
theorem owes4_out (c : Dev nD) : (dat4 (V0 m) (V3 m) (V7 m) c).owed (Fin.last cfg4.N) = owed c (dues.drop 22) := by
  dsimp only [dat4]
  exact if_neg (by decide)

theorem phi4_in (c : Dev nD) : (dat4 (V0 m) (V3 m) (V7 m) c).Φ 0 = iprop(X4 (V0 m) (V3 m) (V7 m) c ∗ scopedRest spec4 c) := by
  dsimp only [dat4]
  exact if_pos rfl
theorem phi4_out (c : Dev nD) : (dat4 (V0 m) (V3 m) (V7 m) c).Φ (Fin.last cfg4.N) = iprop(Y4 (V0 m) (V3 m) (V7 m) c ∗ scopedRest spec4 c) := by
  dsimp only [dat4]
  exact if_neg (by decide)

theorem enter4 (c : Dev nD) : iprop(X4 (V0 m) (V3 m) (V7 m) c ∗ prefHeld (pcfgs (F := F) 4).pre c (fun _ => fullShare) (adm c 4).1 ∗ scopedRest (pcfgs (F := F) 4).spec c) ⊢ (pdats m 4 c).Φ 0 := by
  rw [show (pdats m 4 c).Φ 0 = iprop(X4 (V0 m) (V3 m) (V7 m) c ∗ scopedRest spec4 c) from phi4_in m c]
  iintro ⟨H, -, Hs⟩
  isplitl [H]; · iexact H
  iexact Hs
theorem leave4 (c : Dev nD) : (pdats m 4 c).Φ (Fin.last (pinD (pcfgs (F := F)) adm c 4).N) ⊢ iprop(Y4 (V0 m) (V3 m) (V7 m) c ∗ prefHeld (pcfgs (F := F) 4).pre c (fun _ => fullShare) (adm c 4).1 ∗ scopedRest (pcfgs (F := F) 4).spec c) := by
  rw [show (pdats m 4 c).Φ (Fin.last (pinD (pcfgs (F := F)) adm c 4).N) = iprop(Y4 (V0 m) (V3 m) (V7 m) c ∗ scopedRest spec4 c) from phi4_out m c,
    show (prefHeld (pcfgs (F := F) 4).pre c (fun _ => fullShare) (adm c 4).1 : sProp 𝕄) = BI.emp from no_tables _ rfl c _ _]
  iintro ⟨H, Hs⟩
  isplitl [H]; · iexact H
  isplitr; · iempintro
  iexact Hs
theorem shr4 (c : Dev nD) (w : Fin 1) : (dat4 (V0 m) (V3 m) (V7 m) c).share w = fullShare := Dat.share_full (dat4 (V0 m) (V3 m) (V7 m) c) (fun _ => rfl) w

/-- Region 4 as a segment. -/
def reg4 : ℝ𝕊 4 :=
  segHeld (pcfgs (F := F)) adm (pdats m) () (defs₀ (F := F)) 𝒱₀ L lv 4 launch4
    (fun c => (body4 (V0 m) (V3 m) (V7 m) c).loose)
    (fun c => owed c (dues.drop 9)) (fun c => owed c (dues.drop 22)) (waits4 m)
    (owes4_in m) (owes4_out m) (fun c => rfl) (fun c w => shr4 m c w)
    S_4 (V3 m) (W4 m) (fun c => X4 (V0 m) (V3 m) (V7 m) c) (fun c => Y4 (V0 m) (V3 m) (V7 m) c) (R4 m)
    arr4 tbl4
    (fun c b hb => absurd hb ((show b ∉ S_4 \ arrRefs spec4 from by rw [rst4]; exact Finset.notMem_empty b)))
    (fun c w => by fin_cases w; rfl)
    (fun c w => by fin_cases w; exact (Function.update_self (Proc.devRef (τ := τ) .tc main_v26_6) (tok4 m c) (V3 m c)).symm)
    (fun c k => k.elim0)
    (fun c => enter4 m c)
    (fun c => leave4 m c)

/-- The buffers region 5 works on. -/
abbrev S_5 : Finset (DevRef τ sig) := (∅ : Finset (DevRef τ sig))

theorem arr5 : arrRefs spec5 ⊆ S_5 := by decide
theorem rst5 : S_5 \ arrRefs spec5 = ∅ := by decide
theorem tbl5 : tblRefs (τ := τ) (pcfgs (F := F) 5).pre ⊆ S_5 := by
  rw [show tblRefs (τ := τ) (pcfgs (F := F) 5).pre = ∅ from rfl]

theorem phi5_in (c : Dev nD) : (dat5 (V0 m) (V3 m) (V7 m) c).Φ 0 = iprop(X5 (V0 m) (V3 m) (V7 m) c ∗ scopedRest spec5 c) := by
  dsimp only [dat5]
  exact if_pos rfl
theorem phi5_out (c : Dev nD) : (dat5 (V0 m) (V3 m) (V7 m) c).Φ (Fin.last cfg5.N) = iprop(Y5 (V0 m) (V3 m) (V7 m) c ∗ scopedRest spec5 c) := by
  dsimp only [dat5]
  exact if_neg (by decide)

theorem enter5 (c : Dev nD) : iprop(X5 (V0 m) (V3 m) (V7 m) c ∗ prefHeld (pcfgs (F := F) 5).pre c (fun _ => fullShare) (adm c 5).1 ∗ scopedRest (pcfgs (F := F) 5).spec c) ⊢ (pdats m 5 c).Φ 0 := by
  rw [show (pdats m 5 c).Φ 0 = iprop(X5 (V0 m) (V3 m) (V7 m) c ∗ scopedRest spec5 c) from phi5_in m c]
  iintro ⟨H, -, Hs⟩
  isplitl [H]; · iexact H
  iexact Hs
theorem leave5 (c : Dev nD) : (pdats m 5 c).Φ (Fin.last (pinD (pcfgs (F := F)) adm c 5).N) ⊢ iprop(Y5 (V0 m) (V3 m) (V7 m) c ∗ prefHeld (pcfgs (F := F) 5).pre c (fun _ => fullShare) (adm c 5).1 ∗ scopedRest (pcfgs (F := F) 5).spec c) := by
  rw [show (pdats m 5 c).Φ (Fin.last (pinD (pcfgs (F := F)) adm c 5).N) = iprop(Y5 (V0 m) (V3 m) (V7 m) c ∗ scopedRest spec5 c) from phi5_out m c,
    show (prefHeld (pcfgs (F := F) 5).pre c (fun _ => fullShare) (adm c 5).1 : sProp 𝕄) = BI.emp from no_tables _ rfl c _ _]
  iintro ⟨H, Hs⟩
  isplitl [H]; · iexact H
  isplitr; · iempintro
  iexact Hs

/-- Region 5 as a segment. -/
def reg5 : ℝ𝕊 5 :=
  segHeld (pcfgs (F := F)) adm (pdats m) () (defs₀ (F := F)) 𝒱₀ L lv 5 launch5
    (fun c => (body5 (V0 m) (V3 m) (V7 m) c).loose)
    (fun c => owed c (dues.drop 22)) (fun c => owed c (dues.drop 22)) (waits5 m)
    (fun c => rfl) (fun c => rfl) (fun c => rfl) (fun c w => w.elim0)
    S_5 (V3 m) (V3 m) (fun c => X5 (V0 m) (V3 m) (V7 m) c) (fun c => Y5 (V0 m) (V3 m) (V7 m) c) (R5 m)
    arr5 tbl5
    (fun c b hb => rfl)
    (fun c w => w.elim0)
    (fun c w => w.elim0)
    (fun c k => k.elim0)
    (fun c => enter5 m c)
    (fun c => leave5 m c)

/-- The buffers region 6 works on. -/
abbrev S_6 : Finset (DevRef τ sig) := ({Proc.devRef .tc main_v17, Proc.devRef .tc main_v24_1, Proc.devRef .tc main_v20, Proc.devRef .tc main_v28} : Finset (DevRef τ sig))
theorem at6_0 (c : Dev nD) (V : Valuation τ sig (Elt F)) (a : (pcfg6 (F := F)).Adm) (O : CellTallies nD τ sig Unit) (n : ℕ) : (dat6 c V a O).arrAt 0 n = V (Proc.devRef .tc main_v24_1) := (dat6 c V a O).arrAt_in 0 rfl n
theorem at6_1 (c : Dev nD) (V : Valuation τ sig (Elt F)) (a : (pcfg6 (F := F)).Adm) (O : CellTallies nD τ sig Unit) (n : ℕ) : (dat6 c V a O).arrAt 1 n = V (Proc.devRef .tc main_v20) := (dat6 c V a O).arrAt_in 1 rfl n
theorem from6_0 (c : Dev nD) (V : Valuation τ sig (Elt F)) (a : (pcfg6 (F := F)).Adm) (O : CellTallies nD τ sig Unit) : (dat6 c V a O).arrAt 0 0 = V (Proc.devRef .tc main_v24_1) := rfl
theorem from6_1 (c : Dev nD) (V : Valuation τ sig (Elt F)) (a : (pcfg6 (F := F)).Adm) (O : CellTallies nD τ sig Unit) : (dat6 c V a O).arrAt 1 0 = V (Proc.devRef .tc main_v20) := rfl
theorem from6_2 (c : Dev nD) (V : Valuation τ sig (Elt F)) (a : (pcfg6 (F := F)).Adm) (O : CellTallies nD τ sig Unit) : (dat6 c V a O).arrAt 2 0 = V (Proc.devRef .tc main_v28) := rfl
theorem phi6 (c : Dev nD) (V : Valuation τ sig (Elt F)) (a : (pcfg6 (F := F)).Adm) (O : CellTallies nD τ sig Unit) (t) : (dat6 c V a O).Φ t = iprop(prefHeld pre6 c (fun _ => fullShare) a.1 ∗ scopedRest spec6 c) := rfl
theorem shr6 (c : Dev nD) (V : Valuation τ sig (Elt F)) (a : (pcfg6 (F := F)).Adm) (O : CellTallies nD τ sig Unit) (w : Fin 3) : (dat6 c V a O).share w = fullShare := Dat.share_full (dat6 c V a O) (fun _ => rfl) w

theorem out6 (c : Dev nD) : ∀ w : Fin 3, (D6 m c).arrAt w (cfg6 (F := F) (adm6 c)).N = V6 m c (Proc.devRef .tc (arrRef spec6 w)) := fun
  | 0 => (at6_0 c (V5 m c) _ _ _).trans (V6_of m c main_v24_1 (by decide)).symm
  | 1 => (at6_1 c (V5 m c) _ _ _).trans (V6_of m c main_v20 (by decide)).symm
  | 2 => (V6_v28 m c).symm
  | ⟨_ + 3, h⟩ => absurd h (Nat.not_lt.2 (Nat.le_add_left _ _))

theorem arr6 : arrRefs spec6 ⊆ S_6 := by decide
theorem rst6 : S_6 \ arrRefs spec6 = {Proc.devRef .tc main_v17} := by decide
theorem tbl6 : tblRefs (τ := τ) (pcfgs (F := F) 6).pre ⊆ S_6 := by
  rw [show tblRefs (τ := τ) (pcfgs (F := F) 6).pre = {Proc.devRef .tc main_v17} from rfl]
  decide

theorem inp6 (c : Dev nD) : ∀ w : Fin 3, (D6 m c).arrAt w 0 = V5 m c (Proc.devRef .tc (arrRef spec6 w)) := fun
  | 0 => from6_0 c (V5 m c) _ _
  | 1 => from6_1 c (V5 m c) _ _
  | 2 => from6_2 c (V5 m c) _ _
  | ⟨_ + 3, h⟩ => absurd h (Nat.not_lt.2 (Nat.le_add_left _ _))

theorem enter6 (c : Dev nD) : iprop(iprop(emp) ∗ prefHeld pre6 c (fun _ => fullShare) (adm6 (F := F) c).1 ∗ scopedRest spec6 c) ⊢ (D6 m c).Φ 0 := by
  rw [phi6]
  iintro ⟨-, H⟩
  iexact H
theorem leave6 (c : Dev nD) : (D6 m c).Φ (Fin.last (cfg6 (adm6 c)).N) ⊢ iprop(iprop(emp) ∗ prefHeld pre6 c (fun _ => fullShare) (adm6 (F := F) c).1 ∗ scopedRest spec6 c) := by
  rw [phi6]
  iintro H
  isplitr; · iempintro
  iexact H

/-- Region 6 as a segment. -/
def reg6 : ℝ𝕊 6 :=
  segHeld (pcfgs (F := F)) adm (pdats m) () (defs₀ (F := F)) 𝒱₀ L lv 6 launch6
    (fun c => (body6 c (V5 m c) (adm6 c) (owed c (dues.drop 22))).loose)
    (fun c => owed c (dues.drop 22)) (fun c => owed c (dues.drop 22)) (waits6 m)
    (fun c => rfl) (fun c => rfl) (fun c => rfl) (fun c w => shr6 c (V5 m c) _ _ w)
    S_6 (V5 m) (V6 m) (fun c => iprop(emp)) (fun c => iprop(emp)) (R6 m)
    arr6 tbl6
    (fun c b hb => by obtain rfl := Finset.mem_singleton.mp ((rst6) ▸ (show b ∈ S_6 \ arrRefs spec6 from hb)); exact V6_of m c main_v17 (by decide))
    (fun c w => inp6 m c w)
    (fun c w => out6 m c w)
    (fun c j => by fin_cases j; exact ((p5_v17 m c).trans (V0_tab m c)).symm)
    (fun c => enter6 m c)
    (fun c => leave6 m c)

/-- The buffers region 7 works on. -/
abbrev S_7 : Finset (DevRef τ sig) := ({Proc.devRef .tc main_v17, Proc.devRef .tc main_v25_1, Proc.devRef .tc main_v21, Proc.devRef .tc main_v29} : Finset (DevRef τ sig))
theorem at7_0 (c : Dev nD) (V : Valuation τ sig (Elt F)) (a : (pcfg7 (F := F)).Adm) (O : CellTallies nD τ sig Unit) (n : ℕ) : (dat7 c V a O).arrAt 0 n = V (Proc.devRef .tc main_v25_1) := (dat7 c V a O).arrAt_in 0 rfl n
theorem at7_1 (c : Dev nD) (V : Valuation τ sig (Elt F)) (a : (pcfg7 (F := F)).Adm) (O : CellTallies nD τ sig Unit) (n : ℕ) : (dat7 c V a O).arrAt 1 n = V (Proc.devRef .tc main_v21) := (dat7 c V a O).arrAt_in 1 rfl n
theorem from7_0 (c : Dev nD) (V : Valuation τ sig (Elt F)) (a : (pcfg7 (F := F)).Adm) (O : CellTallies nD τ sig Unit) : (dat7 c V a O).arrAt 0 0 = V (Proc.devRef .tc main_v25_1) := rfl
theorem from7_1 (c : Dev nD) (V : Valuation τ sig (Elt F)) (a : (pcfg7 (F := F)).Adm) (O : CellTallies nD τ sig Unit) : (dat7 c V a O).arrAt 1 0 = V (Proc.devRef .tc main_v21) := rfl
theorem from7_2 (c : Dev nD) (V : Valuation τ sig (Elt F)) (a : (pcfg7 (F := F)).Adm) (O : CellTallies nD τ sig Unit) : (dat7 c V a O).arrAt 2 0 = V (Proc.devRef .tc main_v29) := rfl
theorem phi7 (c : Dev nD) (V : Valuation τ sig (Elt F)) (a : (pcfg7 (F := F)).Adm) (O : CellTallies nD τ sig Unit) (t) : (dat7 c V a O).Φ t = iprop(prefHeld pre7 c (fun _ => fullShare) a.1 ∗ scopedRest spec7 c) := rfl
theorem shr7 (c : Dev nD) (V : Valuation τ sig (Elt F)) (a : (pcfg7 (F := F)).Adm) (O : CellTallies nD τ sig Unit) (w : Fin 3) : (dat7 c V a O).share w = fullShare := Dat.share_full (dat7 c V a O) (fun _ => rfl) w

theorem out7 (c : Dev nD) : ∀ w : Fin 3, (D7 m c).arrAt w (cfg7 (F := F) (adm7 c)).N = V7 m c (Proc.devRef .tc (arrRef spec7 w)) := fun
  | 0 => (at7_0 c (V6 m c) _ _ _).trans (V7_of m c main_v25_1 (by decide)).symm
  | 1 => (at7_1 c (V6 m c) _ _ _).trans (V7_of m c main_v21 (by decide)).symm
  | 2 => (V7_v29 m c).symm
  | ⟨_ + 3, h⟩ => absurd h (Nat.not_lt.2 (Nat.le_add_left _ _))

theorem arr7 : arrRefs spec7 ⊆ S_7 := by decide
theorem rst7 : S_7 \ arrRefs spec7 = {Proc.devRef .tc main_v17} := by decide
theorem tbl7 : tblRefs (τ := τ) (pcfgs (F := F) 7).pre ⊆ S_7 := by
  rw [show tblRefs (τ := τ) (pcfgs (F := F) 7).pre = {Proc.devRef .tc main_v17} from rfl]
  decide

theorem inp7 (c : Dev nD) : ∀ w : Fin 3, (D7 m c).arrAt w 0 = V6 m c (Proc.devRef .tc (arrRef spec7 w)) := fun
  | 0 => from7_0 c (V6 m c) _ _
  | 1 => from7_1 c (V6 m c) _ _
  | 2 => from7_2 c (V6 m c) _ _
  | ⟨_ + 3, h⟩ => absurd h (Nat.not_lt.2 (Nat.le_add_left _ _))

theorem enter7 (c : Dev nD) : iprop(iprop(emp) ∗ prefHeld pre7 c (fun _ => fullShare) (adm7 (F := F) c).1 ∗ scopedRest spec7 c) ⊢ (D7 m c).Φ 0 := by
  rw [phi7]
  iintro ⟨-, H⟩
  iexact H
theorem leave7 (c : Dev nD) : (D7 m c).Φ (Fin.last (cfg7 (adm7 c)).N) ⊢ iprop(iprop(emp) ∗ prefHeld pre7 c (fun _ => fullShare) (adm7 (F := F) c).1 ∗ scopedRest spec7 c) := by
  rw [phi7]
  iintro H
  isplitr; · iempintro
  iexact H

/-- Region 7 as a segment. -/
def reg7 : ℝ𝕊 7 :=
  segHeld (pcfgs (F := F)) adm (pdats m) () (defs₀ (F := F)) 𝒱₀ L lv 7 launch7
    (fun c => (body7 c (V6 m c) (adm7 c) (owed c (dues.drop 22))).loose)
    (fun c => owed c (dues.drop 22)) (fun c => owed c (dues.drop 22)) (waits7 m)
    (fun c => rfl) (fun c => rfl) (fun c => rfl) (fun c w => shr7 c (V6 m c) _ _ w)
    S_7 (V6 m) (V7 m) (fun c => iprop(emp)) (fun c => iprop(emp)) (R7 m)
    arr7 tbl7
    (fun c b hb => by obtain rfl := Finset.mem_singleton.mp ((rst7) ▸ (show b ∈ S_7 \ arrRefs spec7 from hb)); exact V7_of m c main_v17 (by decide))
    (fun c w => inp7 m c w)
    (fun c w => out7 m c w)
    (fun c j => by fin_cases j; exact ((p6_v17 m c).trans (V0_tab m c)).symm)
    (fun c => enter7 m c)
    (fun c => leave7 m c)

/-- The buffers region 8 works on. -/
abbrev S_8 : Finset (DevRef τ sig) := ({Proc.devRef .tc main_v30_4} : Finset (DevRef τ sig))

theorem arr8 : arrRefs spec8 ⊆ S_8 := by decide
theorem rst8 : S_8 \ arrRefs spec8 = ∅ := by decide
theorem tbl8 : tblRefs (τ := τ) (pcfgs (F := F) 8).pre ⊆ S_8 := by
  rw [show tblRefs (τ := τ) (pcfgs (F := F) 8).pre = ∅ from rfl]
  decide

theorem owes8_in (c : Dev nD) : (dat8 (V0 m) (V3 m) (V7 m) c).owed 0 = owed c (dues.drop 22) := by
  dsimp only [dat8]
  exact if_pos rfl
theorem owes8_out (c : Dev nD) : (dat8 (V0 m) (V3 m) (V7 m) c).owed (Fin.last cfg8.N) = owed c ([]) := by
  dsimp only [dat8]
  exact if_neg (by decide)

theorem phi8_in (c : Dev nD) : (dat8 (V0 m) (V3 m) (V7 m) c).Φ 0 = iprop(X8 (V0 m) (V3 m) (V7 m) c ∗ scopedRest spec8 c) := by
  dsimp only [dat8]
  exact if_pos rfl
theorem phi8_out (c : Dev nD) : (dat8 (V0 m) (V3 m) (V7 m) c).Φ (Fin.last cfg8.N) = iprop(Y8 (V0 m) (V3 m) (V7 m) c ∗ scopedRest spec8 c) := by
  dsimp only [dat8]
  exact if_neg (by decide)

theorem enter8 (c : Dev nD) : iprop(X8 (V0 m) (V3 m) (V7 m) c ∗ prefHeld (pcfgs (F := F) 8).pre c (fun _ => fullShare) (adm c 8).1 ∗ scopedRest (pcfgs (F := F) 8).spec c) ⊢ (pdats m 8 c).Φ 0 := by
  rw [show (pdats m 8 c).Φ 0 = iprop(X8 (V0 m) (V3 m) (V7 m) c ∗ scopedRest spec8 c) from phi8_in m c]
  iintro ⟨H, -, Hs⟩
  isplitl [H]; · iexact H
  iexact Hs
theorem leave8 (c : Dev nD) : (pdats m 8 c).Φ (Fin.last (pinD (pcfgs (F := F)) adm c 8).N) ⊢ iprop(Y8 (V0 m) (V3 m) (V7 m) c ∗ prefHeld (pcfgs (F := F) 8).pre c (fun _ => fullShare) (adm c 8).1 ∗ scopedRest (pcfgs (F := F) 8).spec c) := by
  rw [show (pdats m 8 c).Φ (Fin.last (pinD (pcfgs (F := F)) adm c 8).N) = iprop(Y8 (V0 m) (V3 m) (V7 m) c ∗ scopedRest spec8 c) from phi8_out m c,
    show (prefHeld (pcfgs (F := F) 8).pre c (fun _ => fullShare) (adm c 8).1 : sProp 𝕄) = BI.emp from no_tables _ rfl c _ _]
  iintro ⟨H, Hs⟩
  isplitl [H]; · iexact H
  isplitr; · iempintro
  iexact Hs
theorem shr8 (c : Dev nD) (w : Fin 1) : (dat8 (V0 m) (V3 m) (V7 m) c).share w = fullShare := Dat.share_full (dat8 (V0 m) (V3 m) (V7 m) c) (fun _ => rfl) w

/-- Region 8 as a segment. -/
def reg8 : ℝ𝕊 8 :=
  segHeld (pcfgs (F := F)) adm (pdats m) () (defs₀ (F := F)) 𝒱₀ L lv 8 launch8
    (fun c => (body8 (V0 m) (V3 m) (V7 m) c).loose)
    (fun c => owed c (dues.drop 22)) (fun c => owed c ([])) (waits8 m)
    (owes8_in m) (owes8_out m) (fun c => rfl) (fun c w => shr8 m c w)
    S_8 (V7 m) (W8 m) (fun c => X8 (V0 m) (V3 m) (V7 m) c) (fun c => Y8 (V0 m) (V3 m) (V7 m) c) (R8 m)
    arr8 tbl8
    (fun c b hb => absurd hb ((show b ∉ S_8 \ arrRefs spec8 from by rw [rst8]; exact Finset.notMem_empty b)))
    (fun c w => by fin_cases w; rfl)
    (fun c w => by fin_cases w; exact (Function.update_self (Proc.devRef (τ := τ) .tc main_v30_4) (tok8 m c) (V7 m c)).symm)
    (fun c k => k.elim0)
    (fun c => enter8 m c)
    (fun c => leave8 m c)

/-- The buffers region 9 works on. -/
abbrev S_9 : Finset (DevRef τ sig) := (∅ : Finset (DevRef τ sig))

theorem arr9 : arrRefs spec9 ⊆ S_9 := by decide
theorem rst9 : S_9 \ arrRefs spec9 = ∅ := by decide
theorem tbl9 : tblRefs (τ := τ) (pcfgs (F := F) 9).pre ⊆ S_9 := by
  rw [show tblRefs (τ := τ) (pcfgs (F := F) 9).pre = ∅ from rfl]

theorem phi9_in (c : Dev nD) : (dat9 (V0 m) (V3 m) (V7 m) c).Φ 0 = iprop(X9 (V0 m) (V3 m) (V7 m) c ∗ scopedRest spec9 c) := by
  dsimp only [dat9]
  exact if_pos rfl
theorem phi9_out (c : Dev nD) : (dat9 (V0 m) (V3 m) (V7 m) c).Φ (Fin.last cfg9.N) = iprop(Y9 (V0 m) (V3 m) (V7 m) c ∗ scopedRest spec9 c) := by
  dsimp only [dat9]
  exact if_neg (by decide)

theorem enter9 (c : Dev nD) : iprop(X9 (V0 m) (V3 m) (V7 m) c ∗ prefHeld (pcfgs (F := F) 9).pre c (fun _ => fullShare) (adm c 9).1 ∗ scopedRest (pcfgs (F := F) 9).spec c) ⊢ (pdats m 9 c).Φ 0 := by
  rw [show (pdats m 9 c).Φ 0 = iprop(X9 (V0 m) (V3 m) (V7 m) c ∗ scopedRest spec9 c) from phi9_in m c]
  iintro ⟨H, -, Hs⟩
  isplitl [H]; · iexact H
  iexact Hs
theorem leave9 (c : Dev nD) : (pdats m 9 c).Φ (Fin.last (pinD (pcfgs (F := F)) adm c 9).N) ⊢ iprop(Y9 (V0 m) (V3 m) (V7 m) c ∗ prefHeld (pcfgs (F := F) 9).pre c (fun _ => fullShare) (adm c 9).1 ∗ scopedRest (pcfgs (F := F) 9).spec c) := by
  rw [show (pdats m 9 c).Φ (Fin.last (pinD (pcfgs (F := F)) adm c 9).N) = iprop(Y9 (V0 m) (V3 m) (V7 m) c ∗ scopedRest spec9 c) from phi9_out m c,
    show (prefHeld (pcfgs (F := F) 9).pre c (fun _ => fullShare) (adm c 9).1 : sProp 𝕄) = BI.emp from no_tables _ rfl c _ _]
  iintro ⟨H, Hs⟩
  isplitl [H]; · iexact H
  isplitr; · iempintro
  iexact Hs

/-- Region 9 as a segment. -/
def reg9 : ℝ𝕊 9 :=
  segHeld (pcfgs (F := F)) adm (pdats m) () (defs₀ (F := F)) 𝒱₀ L lv 9 launch9
    (fun c => (body9 (V0 m) (V3 m) (V7 m) c).loose)
    (fun c => owed c ([])) (fun c => owed c ([])) (waits9 m)
    (fun c => rfl) (fun c => rfl) (fun c => rfl) (fun c w => w.elim0)
    S_9 (V7 m) (V7 m) (fun c => X9 (V0 m) (V3 m) (V7 m) c) (fun c => Y9 (V0 m) (V3 m) (V7 m) c) (R9 m)
    arr9 tbl9
    (fun c b hb => rfl)
    (fun c w => w.elim0)
    (fun c w => w.elim0)
    (fun c k => k.elim0)
    (fun c => enter9 m c)
    (fun c => leave9 m c)

end Cert.Run
-- ==== Proof.Links.lean ====
module

public import proofs.«01_k».proof.Proof.RegionSegs

@[expose] public section

/-! From one region to the next: what a region leaves is what the next one takes. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (c : Dev nD)

omit [FloatOps F] in
theorem held_none (V : Valuation τ sig (Elt F)) : (StableHlo.held (c.tc : Thread nD τ) ∅ V : sProp 𝕄) = BI.emp := by
  unfold StableHlo.held
  rw [bigSep_empty]

theorem held_0 (V : Valuation τ sig (Elt F)) : (StableHlo.held (c.tc : Thread nD τ) S_0 V : sProp 𝕄) = pt c main_v22_8 V := by
  unfold StableHlo.held
  rw [bigSep_eq_bigSepL_of_eq [Proc.devRef .tc main_v22_8] (by decide) (by decide)]
  rfl
theorem held_0_pre : (StableHlo.held (c.tc : Thread nD τ) S_0 (V0 m c) : sProp 𝕄) = pt c main_v22_8 (V0 m c) := by
  rw [held_0]

theorem held_2 (V : Valuation τ sig (Elt F)) : (StableHlo.held (c.tc : Thread nD τ) S_2 V : sProp 𝕄) = iprop(pt c main_v17 V ∗ pt c main_v22_2 V ∗ pt c main_v18 V ∗ pt c main_v24_0 V ∗ pt c main_v24_1 V) := by
  unfold StableHlo.held
  rw [bigSep_eq_bigSepL_of_eq [Proc.devRef .tc main_v17, Proc.devRef .tc main_v22_2, Proc.devRef .tc main_v18, Proc.devRef .tc main_v24_0, Proc.devRef .tc main_v24_1] (by decide) (by decide)]
  rfl
theorem held_2_pre : (StableHlo.held (c.tc : Thread nD τ) S_2 (V1 m c) : sProp 𝕄) = iprop(pt c main_v17 (V0 m c) ∗ pt c main_v22_2 (V0 m c) ∗ pt c main_v18 (V1 m c) ∗ pt c main_v24_0 (V0 m c) ∗ pt c main_v24_1 (V0 m c)) := by
  rw [held_2, pt_congr (p1_v17 m c), pt_congr (p1_v22_2 m c), pt_congr (p1_v24_0 m c), pt_congr (p1_v24_1 m c)]
theorem held_2_post : (StableHlo.held (c.tc : Thread nD τ) S_2 (V2 m c) : sProp 𝕄) = iprop(pt c main_v17 (V0 m c) ∗ pt c main_v22_2 (V0 m c) ∗ pt c main_v18 (V1 m c) ∗ pt c main_v24_0 (V2 m c) ∗ pt c main_v24_1 (V2 m c)) := by
  rw [held_2, pt_congr (p2_v17 m c), pt_congr (p2_v22_2 m c), pt_congr (p2_v18 m c)]

theorem held_3 (V : Valuation τ sig (Elt F)) : (StableHlo.held (c.tc : Thread nD τ) S_3 V : sProp 𝕄) = iprop(pt c main_v17 V ∗ pt c main_v22_3 V ∗ pt c main_v19 V ∗ pt c main_v25_0 V ∗ pt c main_v25_1 V) := by
  unfold StableHlo.held
  rw [bigSep_eq_bigSepL_of_eq [Proc.devRef .tc main_v17, Proc.devRef .tc main_v22_3, Proc.devRef .tc main_v19, Proc.devRef .tc main_v25_0, Proc.devRef .tc main_v25_1] (by decide) (by decide)]
  rfl
theorem held_3_pre : (StableHlo.held (c.tc : Thread nD τ) S_3 (V2 m c) : sProp 𝕄) = iprop(pt c main_v17 (V0 m c) ∗ pt c main_v22_3 (V0 m c) ∗ pt c main_v19 (V1 m c) ∗ pt c main_v25_0 (V0 m c) ∗ pt c main_v25_1 (V0 m c)) := by
  rw [held_3, pt_congr (p2_v17 m c), pt_congr (p2_v22_3 m c), pt_congr (p2_v19 m c), pt_congr (p2_v25_0 m c), pt_congr (p2_v25_1 m c)]
theorem held_3_post : (StableHlo.held (c.tc : Thread nD τ) S_3 (V3 m c) : sProp 𝕄) = iprop(pt c main_v17 (V0 m c) ∗ pt c main_v22_3 (V0 m c) ∗ pt c main_v19 (V1 m c) ∗ pt c main_v25_0 (V3 m c) ∗ pt c main_v25_1 (V3 m c)) := by
  rw [held_3, pt_congr (p3_v17 m c), pt_congr (p3_v22_3 m c), pt_congr (p3_v19 m c)]

theorem held_4 (V : Valuation τ sig (Elt F)) : (StableHlo.held (c.tc : Thread nD τ) S_4 V : sProp 𝕄) = pt c main_v26_6 V := by
  unfold StableHlo.held
  rw [bigSep_eq_bigSepL_of_eq [Proc.devRef .tc main_v26_6] (by decide) (by decide)]
  rfl
theorem held_4_pre : (StableHlo.held (c.tc : Thread nD τ) S_4 (V3 m c) : sProp 𝕄) = pt c main_v26_6 (V0 m c) := by
  rw [held_4, pt_congr (p3_v26_6 m c)]

theorem held_6 (V : Valuation τ sig (Elt F)) : (StableHlo.held (c.tc : Thread nD τ) S_6 V : sProp 𝕄) = iprop(pt c main_v17 V ∗ pt c main_v24_1 V ∗ pt c main_v20 V ∗ pt c main_v28 V) := by
  unfold StableHlo.held
  rw [bigSep_eq_bigSepL_of_eq [Proc.devRef .tc main_v17, Proc.devRef .tc main_v24_1, Proc.devRef .tc main_v20, Proc.devRef .tc main_v28] (by decide) (by decide)]
  rfl
theorem held_6_pre : (StableHlo.held (c.tc : Thread nD τ) S_6 (V5 m c) : sProp 𝕄) = iprop(pt c main_v17 (V0 m c) ∗ pt c main_v24_1 (V2 m c) ∗ pt c main_v20 (V5 m c) ∗ pt c main_v28 (V0 m c)) := by
  rw [held_6, pt_congr (p5_v17 m c), pt_congr (p5_v24_1 m c), pt_congr (p5_v28 m c)]
theorem held_6_post : (StableHlo.held (c.tc : Thread nD τ) S_6 (V6 m c) : sProp 𝕄) = iprop(pt c main_v17 (V0 m c) ∗ pt c main_v24_1 (V2 m c) ∗ pt c main_v20 (V5 m c) ∗ pt c main_v28 (V6 m c)) := by
  rw [held_6, pt_congr (p6_v17 m c), pt_congr (p6_v24_1 m c), pt_congr (p6_v20 m c)]

theorem held_7 (V : Valuation τ sig (Elt F)) : (StableHlo.held (c.tc : Thread nD τ) S_7 V : sProp 𝕄) = iprop(pt c main_v17 V ∗ pt c main_v25_1 V ∗ pt c main_v21 V ∗ pt c main_v29 V) := by
  unfold StableHlo.held
  rw [bigSep_eq_bigSepL_of_eq [Proc.devRef .tc main_v17, Proc.devRef .tc main_v25_1, Proc.devRef .tc main_v21, Proc.devRef .tc main_v29] (by decide) (by decide)]
  rfl
theorem held_7_pre : (StableHlo.held (c.tc : Thread nD τ) S_7 (V6 m c) : sProp 𝕄) = iprop(pt c main_v17 (V0 m c) ∗ pt c main_v25_1 (V3 m c) ∗ pt c main_v21 (V5 m c) ∗ pt c main_v29 (V0 m c)) := by
  rw [held_7, pt_congr (p6_v17 m c), pt_congr (p6_v25_1 m c), pt_congr (p6_v21 m c), pt_congr (p6_v29 m c)]
theorem held_7_post : (StableHlo.held (c.tc : Thread nD τ) S_7 (V7 m c) : sProp 𝕄) = iprop(pt c main_v17 (V0 m c) ∗ pt c main_v25_1 (V3 m c) ∗ pt c main_v21 (V5 m c) ∗ pt c main_v29 (V7 m c)) := by
  rw [held_7, pt_congr (p7_v17 m c), pt_congr (p7_v25_1 m c), pt_congr (p7_v21 m c)]

theorem held_8 (V : Valuation τ sig (Elt F)) : (StableHlo.held (c.tc : Thread nD τ) S_8 V : sProp 𝕄) = pt c main_v30_4 V := by
  unfold StableHlo.held
  rw [bigSep_eq_bigSepL_of_eq [Proc.devRef .tc main_v30_4] (by decide) (by decide)]
  rfl
theorem held_8_pre : (StableHlo.held (c.tc : Thread nD τ) S_8 (V7 m c) : sProp 𝕄) = pt c main_v30_4 (V0 m c) := by
  rw [held_8, pt_congr (p7_v30_4 m c)]

/-- The buffers of a device that the exchanges use, once the host is done; -/
def ST : sProp 𝕄 := iprop(pt c main_arg0 (V0 m c) ∗ pt c main_arg1 (V0 m c) ∗ pt c main_v17 (V0 m c) ∗ pt c main_v22_2 (V0 m c) ∗ pt c main_v22_3 (V0 m c) ∗ pt c main_v22_8 (V0 m c) ∗ pt c main_v24_0 (V0 m c) ∗ pt c main_v24_1 (V0 m c) ∗ pt c main_v25_0 (V0 m c) ∗ pt c main_v25_1 (V0 m c) ∗ pt c main_v26_6 (V0 m c) ∗ pt c main_v28 (V0 m c) ∗ pt c main_v29 (V0 m c) ∗ pt c main_v30_4 (V0 m c))
/-- the four that the host allocates; -/
def AL : sProp 𝕄 := iprop(anyPt (F := F) c main_v18 ∗ anyPt (F := F) c main_v19 ∗ anyPt (F := F) c main_v20 ∗ anyPt (F := F) c main_v21)
/-- and what a device has of the exchanges' cells at the launch. -/
def GH : sProp 𝕄 := iprop(recd m ∗ shut (F := F) c 0 ∗ shut (F := F) c 1 ∗ shut (F := F) c 2 ∗ ready (F := F) c 0 ∗ ready (F := F) c 1 ∗ ready (F := F) c 2 ∗ ready (F := F) c 3 ∗ ready (F := F) c 4 ∗ ready (F := F) c 5 ∗ ready (F := F) c 6 ∗ ready (F := F) c 7 ∗ ready (F := F) c 8 ∗ ready (F := F) c 9)

set_option maxHeartbeats 1600000 in
/-- The run begins with the swap. -/
theorem link_start : iprop(AL (F := F) c ∗ GH m c ∗ ST m c ∗ ow c dues)
    ⊢ iprop(StableHlo.held (c.tc : Thread nD τ) S_0 (V0 m c) ∗ X0 (V0 m) (V3 m) (V7 m) c ∗ R0 m c ∗ ow c (dues)) := by
  unfold AL GH ST X0 R0
  rw [held_0_pre]
  iintro ⟨⟨H1, H2, H3, H4⟩, ⟨H5, H6, H7, H8, H9, H10, H11, H12, H13, H14, H15, H16, H17, H18⟩, ⟨H19, H20, H21, H22, H23, H24, H25, H26, H27, H28, H29, H30, H31, H32⟩, H33⟩
  ihave J36 := (lendI m c) $$ H22
  icases J36 with ⟨H34, H35⟩
  ihave J39 := (lendO m c) $$ H23
  icases J39 with ⟨H37, H38⟩
  ihave J41 := (any_sbI (F := F) c) $$ H1
  ihave J43 := (any_sbO (F := F) c) $$ H2
  isplitl [H24]
  · iexact H24
  isplitl [H5 H6 H9 H10 J41 J43 H34 H37]
  · isplitl [H5]; · iexact H5
    isplitl [H6]; · iexact H6
    isplitl [H9]; · iexact H9
    isplitl [H10]; · iexact H10
    isplitl [J41]; · iexact J41
    isplitl [J43]; · iexact J43
    isplitl [H34]; · iexact H34
    iexact H37
  isplitl [H19 H20 H21 H35 H38 H3 H4 H25 H26 H27 H28 H29 H30 H31 H32 H7 H11 H12 H13 H14 H15 H16 H8 H17 H18]
  · isplitl [H19]; · iexact H19
    isplitl [H20]; · iexact H20
    isplitl [H21]; · iexact H21
    isplitl [H35]; · iexact H35
    isplitl [H38]; · iexact H38
    isplitl [H3]; · iexact H3
    isplitl [H4]; · iexact H4
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H7]; · iexact H7
    isplitl [H11]; · iexact H11
    isplitl [H12]; · iexact H12
    isplitl [H13]; · iexact H13
    isplitl [H14]; · iexact H14
    isplitl [H15]; · iexact H15
    isplitl [H16]; · iexact H16
    isplitl [H8]; · iexact H8
    isplitl [H17]; · iexact H17
    iexact H18
  iexact H33

/-- From the start of an exchange to its wait. -/
theorem link0 : iprop(StableHlo.held (c.tc : Thread nD τ) S_0 (W0 m c) ∗ Y0 (V0 m) (V3 m) (V7 m) c ∗ R0 m c ∗ ow c (dues.drop 9))
    ⊢ iprop(StableHlo.held (c.tc : Thread nD τ) S_1 (V0 m c) ∗ X1 (V0 m) (V3 m) (V7 m) c ∗ R1 m c ∗ ow c (dues.drop 9)) := by
  unfold X1 R1
  rw [held_none]
  iintro ⟨-, HY, HR, HO⟩
  isplitr; · iempintro
  isplitl [HY]; · iexact HY
  isplitl [HR]; · unfold R0; iexact HR
  iexact HO

set_option maxHeartbeats 1600000 in
/-- From region 1 to region 2. -/
theorem link1 : iprop(StableHlo.held (c.tc : Thread nD τ) S_1 (V0 m c) ∗ Y1 (V0 m) (V3 m) (V7 m) c ∗ R1 m c ∗ ow c (dues.drop 9))
    ⊢ iprop(StableHlo.held (c.tc : Thread nD τ) S_2 (V1 m c) ∗ iprop(emp) ∗ R2 m c ∗ ow c (dues.drop 9)) := by
  unfold R1 R2 Y1
  rw [held_2_pre]
  iintro ⟨-, ⟨H1, H2, H3, H4, H5, H6, H7, H8⟩, ⟨H9, H10, H11, H12, H13, H14, H15, H16, H17, H18, H19, H20, H21, H22, H23, H24, H25, H26, H27, H28, H29, H30, H31, H32, H33⟩, H34⟩
  ihave J36 := (backI m c) $$ [H5 H12]
  · isplitl [H5]; · iexact H5
    iexact H12
  ihave J38 := (backO m c) $$ [H7 H13]
  · isplitl [H7]; · iexact H7
    iexact H13
  ihave J40 := (swappedI m c) $$ H6
  ihave J42 := (swappedO m c) $$ H8
  isplitl [H11 J36 J40 H16 H17]
  · isplitl [H11]; · iexact H11
    isplitl [J36]; · iexact J36
    isplitl [J40]; · iexact J40
    isplitl [H16]; · iexact H16
    iexact H17
  isplitr
  · iempintro
  isplitl [H1 H2 H3 H4 H9 H10 H14 H15 H18 H19 J38 J42 H20 H21 H22 H23 H24 H25 H26 H27 H28 H29 H30 H31 H32 H33]
  · isplitl [H1]; · iexact H1
    isplitl [H2]; · iexact H2
    isplitl [H3]; · iexact H3
    isplitl [H4]; · iexact H4
    isplitl [H9]; · iexact H9
    isplitl [H10]; · iexact H10
    isplitl [H14]; · iexact H14
    isplitl [H15]; · iexact H15
    isplitl [H18]; · iexact H18
    isplitl [H19]; · iexact H19
    isplitl [J38]; · iexact J38
    isplitl [J42]; · iexact J42
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    iexact H33
  iexact H34

set_option maxHeartbeats 1600000 in
/-- From region 2 to region 3. -/
theorem link2 : iprop(StableHlo.held (c.tc : Thread nD τ) S_2 (V2 m c) ∗ iprop(emp) ∗ R2 m c ∗ ow c (dues.drop 9))
    ⊢ iprop(StableHlo.held (c.tc : Thread nD τ) S_3 (V2 m c) ∗ iprop(emp) ∗ R3 m c ∗ ow c (dues.drop 9)) := by
  unfold R2 R3
  rw [held_2_post, held_3_pre]
  iintro ⟨⟨H1, -, -, H2, H3⟩, -, ⟨H4, H5, H6, H7, H8, H9, H10, H11, H12, H13, H14, H15, H16, H17, H18, H19, H20, H21, H22, H23, H24, H25, H26, H27, H28, H29⟩, H30⟩
  isplitl [H1 H14 H15 H12 H13]
  · isplitl [H1]; · iexact H1
    isplitl [H14]; · iexact H14
    isplitl [H15]; · iexact H15
    isplitl [H12]; · iexact H12
    iexact H13
  isplitr
  · iempintro
  isplitl [H4 H5 H6 H7 H8 H9 H10 H11 H2 H3 H16 H17 H18 H19 H20 H21 H22 H23 H24 H25 H26 H27 H28 H29]
  · isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H2]; · iexact H2
    isplitl [H3]; · iexact H3
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29
  iexact H30

set_option maxHeartbeats 1600000 in
/-- From region 3 to region 4. -/
theorem link3 : iprop(StableHlo.held (c.tc : Thread nD τ) S_3 (V3 m c) ∗ iprop(emp) ∗ R3 m c ∗ ow c (dues.drop 9))
    ⊢ iprop(StableHlo.held (c.tc : Thread nD τ) S_4 (V3 m c) ∗ X4 (V0 m) (V3 m) (V7 m) c ∗ R4 m c ∗ ow c (dues.drop 9)) := by
  unfold R3 R4 X4
  rw [held_3_post, held_4_pre]
  iintro ⟨⟨H1, -, -, H2, H3⟩, -, ⟨H4, H5, H6, H7, H8, H9, H10, H11, H12, H13, H14, H15, H16, H17, H18, H19, H20, H21, H22, H23, H24, H25, H26, H27⟩, H28⟩
  ihave J32 := (anyI_3 (F := F) c) $$ H10
  icases J32 with ⟨H29, H30, H31⟩
  ihave J36 := (anyO_3 (F := F) c) $$ H11
  icases J36 with ⟨H33, H34, H35⟩
  ihave J40 := ((Entails.of_eq (pt_congr (p3_v24_0 m c)).symm).trans (sendI m c)) $$ H12
  icases J40 with ⟨H37, H38, H39⟩
  ihave J44 := (sendO m c) $$ H2
  icases J44 with ⟨H41, H42, H43⟩
  isplitl [H14]
  · iexact H14
  isplitl [H4 H18 H19 H20 H21 H22 H23 H24 H30 H34 H29 H33 H31 H35 H37 H41 H38 H42 H39 H43]
  · isplitl [H4]; · iexact H4
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H30]; · iexact H30
    isplitl [H34]; · iexact H34
    isplitl [H29]; · iexact H29
    isplitl [H33]; · iexact H33
    isplitl [H31]; · iexact H31
    isplitl [H35]; · iexact H35
    isplitl [H37]; · iexact H37
    isplitl [H41]; · iexact H41
    isplitl [H38]; · iexact H38
    isplitl [H42]; · iexact H42
    isplitl [H39]; · iexact H39
    iexact H43
  isplitl [H5 H6 H7 H8 H9 H1 H13 H3 H15 H16 H17 H25 H26 H27]
  · isplitl [H5]; · iexact H5
    isplitl [H6]; · iexact H6
    isplitl [H7]; · iexact H7
    isplitl [H8]; · iexact H8
    isplitl [H9]; · iexact H9
    isplitl [H1]; · iexact H1
    isplitl [H13]; · iexact H13
    isplitl [H3]; · iexact H3
    isplitl [H15]; · iexact H15
    isplitl [H16]; · iexact H16
    isplitl [H17]; · iexact H17
    isplitl [H25]; · iexact H25
    isplitl [H26]; · iexact H26
    iexact H27
  iexact H28

/-- From the start of an exchange to its wait. -/
theorem link4 : iprop(StableHlo.held (c.tc : Thread nD τ) S_4 (W4 m c) ∗ Y4 (V0 m) (V3 m) (V7 m) c ∗ R4 m c ∗ ow c (dues.drop 22))
    ⊢ iprop(StableHlo.held (c.tc : Thread nD τ) S_5 (V3 m c) ∗ X5 (V0 m) (V3 m) (V7 m) c ∗ R5 m c ∗ ow c (dues.drop 22)) := by
  unfold X5 R5
  rw [held_none]
  iintro ⟨-, HY, HR, HO⟩
  isplitr; · iempintro
  isplitl [HY]; · iexact HY
  isplitl [HR]; · unfold R4; iexact HR
  iexact HO

set_option maxHeartbeats 1600000 in
/-- From region 5 to region 6. -/
theorem link5 : iprop(StableHlo.held (c.tc : Thread nD τ) S_5 (V3 m c) ∗ Y5 (V0 m) (V3 m) (V7 m) c ∗ R5 m c ∗ ow c (dues.drop 22))
    ⊢ iprop(StableHlo.held (c.tc : Thread nD τ) S_6 (V5 m c) ∗ iprop(emp) ∗ R6 m c ∗ ow c (dues.drop 22)) := by
  unfold R5 R6 Y5
  rw [held_6_pre]
  iintro ⟨-, ⟨H1, H2, H3, H4, H5, H6, H7, H8, -, H9, -, H10, -, H11, -, H12, -, H13, -, H14⟩, ⟨H15, H16, H17, H18, H19, H20, H21, H22, H23, H24, H25, H26, H27, H28⟩, H29⟩
  ihave J31 := (landedI m c) $$ [H9 H11 H13]
  · isplitl [H9]; · iexact H9
    isplitl [H11]; · iexact H11
    iexact H13
  ihave J33 := (landedO m c) $$ [H10 H12 H14]
  · isplitl [H10]; · iexact H10
    isplitl [H12]; · iexact H12
    iexact H14
  isplitl [H20 H21 J31 H23]
  · isplitl [H20]; · iexact H20
    isplitl [H21]; · iexact H21
    isplitl [J31]; · iexact J31
    iexact H23
  isplitr
  · iempintro
  isplitl [H1 H15 H16 H17 H2 H3 H4 H5 H6 H7 H8 H18 H19 H22 J33 H24 H25 H26 H27 H28]
  · isplitl [H1]; · iexact H1
    isplitl [H15]; · iexact H15
    isplitl [H16]; · iexact H16
    isplitl [H17]; · iexact H17
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H18]; · iexact H18
    isplitl [H19]; · iexact H19
    isplitl [H22]; · iexact H22
    isplitl [J33]; · iexact J33
    isplitl [H24]; · iexact H24
    isplitl [H25]; · iexact H25
    isplitl [H26]; · iexact H26
    isplitl [H27]; · iexact H27
    iexact H28
  iexact H29

set_option maxHeartbeats 1600000 in
/-- From region 6 to region 7. -/
theorem link6 : iprop(StableHlo.held (c.tc : Thread nD τ) S_6 (V6 m c) ∗ iprop(emp) ∗ R6 m c ∗ ow c (dues.drop 22))
    ⊢ iprop(StableHlo.held (c.tc : Thread nD τ) S_7 (V6 m c) ∗ iprop(emp) ∗ R7 m c ∗ ow c (dues.drop 22)) := by
  unfold R6 R7
  rw [held_6_post, held_7_pre]
  iintro ⟨⟨H1, -, -, H2⟩, -, ⟨H3, H4, H5, H6, H7, H8, H9, H10, H11, H12, H13, H14, H15, H16, H17, H18, H19, H20, H21, H22⟩, H23⟩
  isplitl [H1 H16 H17 H18]
  · isplitl [H1]; · iexact H1
    isplitl [H16]; · iexact H16
    isplitl [H17]; · iexact H17
    iexact H18
  isplitr
  · iempintro
  isplitl [H3 H4 H5 H6 H7 H8 H9 H10 H11 H12 H13 H14 H15 H2 H19 H20 H21 H22]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H2]; · iexact H2
    isplitl [H19]; · iexact H19
    isplitl [H20]; · iexact H20
    isplitl [H21]; · iexact H21
    iexact H22
  iexact H23

set_option maxHeartbeats 1600000 in
/-- From region 7 to region 8. -/
theorem link7 : iprop(StableHlo.held (c.tc : Thread nD τ) S_7 (V7 m c) ∗ iprop(emp) ∗ R7 m c ∗ ow c (dues.drop 22))
    ⊢ iprop(StableHlo.held (c.tc : Thread nD τ) S_8 (V7 m c) ∗ X8 (V0 m) (V3 m) (V7 m) c ∗ R8 m c ∗ ow c (dues.drop 22)) := by
  unfold R7 R8 X8
  rw [held_7_post, held_8_pre]
  iintro ⟨⟨-, -, -, H1⟩, -, ⟨H2, H3, H4, H5, H6, H7, H8, H9, H10, H11, H12, H13, H14, H15, H16, H17, H18, H19⟩, H20⟩
  ihave J23 := ((Entails.of_eq (pt_congr (p7_v28 m c)).symm).trans (handI m c)) $$ H15
  icases J23 with ⟨H21, H22⟩
  ihave J26 := (handO m c) $$ H1
  icases J26 with ⟨H24, H25⟩
  isplitl [H16]
  · iexact H16
  isplitl [H2 H17 H18 H19 H22 H25 H21 H24]
  · isplitl [H2]; · iexact H2
    isplitl [H17]; · iexact H17
    isplitl [H18]; · iexact H18
    isplitl [H19]; · iexact H19
    isplitl [H22]; · iexact H22
    isplitl [H25]; · iexact H25
    isplitl [H21]; · iexact H21
    iexact H24
  isplitl [H3 H4 H5 H6 H7 H8 H9 H10 H11 H12 H13 H14]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact H20

/-- From the start of an exchange to its wait. -/
theorem link8 : iprop(StableHlo.held (c.tc : Thread nD τ) S_8 (W8 m c) ∗ Y8 (V0 m) (V3 m) (V7 m) c ∗ R8 m c ∗ ow c ([]))
    ⊢ iprop(StableHlo.held (c.tc : Thread nD τ) S_9 (V7 m c) ∗ X9 (V0 m) (V3 m) (V7 m) c ∗ R9 m c ∗ ow c ([])) := by
  unfold X9 R9
  rw [held_none]
  iintro ⟨-, HY, HR, HO⟩
  isplitr; · iempintro
  isplitl [HY]; · iexact HY
  isplitl [HR]; · unfold R8; iexact HR
  iexact HO

/-- What a device holds at the end: its results, its arguments, and the exchanges' cells at zero. -/
def END : sProp 𝕄 := iprop(pt c main_v28 (V8 m c) ∗ pt c main_v29 (V8 m c) ∗ iprop(pt c main_arg0 (V0 m c) ∗ pt c main_arg1 (V0 m c)) ∗ iprop(semVal (kcell c (bar 0)) 0 ∗ shutOff (F := F) c 0 ∗ shutOff (F := F) c 1) ∗ iprop(semVal (kcell c (bar 1)) 0 ∗ shutOff (F := F) c 2 ∗ shutOff (F := F) c 3 ∗ shutOff (F := F) c 4 ∗ shutOff (F := F) c 5 ∗ shutOff (F := F) c 6 ∗ shutOff (F := F) c 7) ∗ iprop(semVal (kcell c (bar 2)) 0 ∗ shutOff (F := F) c 8 ∗ shutOff (F := F) c 9))

set_option maxHeartbeats 1600000 in
/-- From the last wait to the end. -/
theorem link9 : iprop(StableHlo.held (c.tc : Thread nD τ) S_9 (V7 m c) ∗ Y9 (V0 m) (V3 m) (V7 m) c ∗ R9 m c ∗ ow c ([]))
    ⊢ iprop(pt c main_v28 (V8 m c) ∗ pt c main_v29 (V8 m c) ∗ iprop(pt c main_arg0 (V0 m c) ∗ pt c main_arg1 (V0 m c)) ∗ iprop(semVal (kcell c (bar 0)) 0 ∗ shutOff (F := F) c 0 ∗ shutOff (F := F) c 1) ∗ iprop(semVal (kcell c (bar 1)) 0 ∗ shutOff (F := F) c 2 ∗ shutOff (F := F) c 3 ∗ shutOff (F := F) c 4 ∗ shutOff (F := F) c 5 ∗ shutOff (F := F) c 6 ∗ shutOff (F := F) c 7) ∗ iprop(semVal (kcell c (bar 2)) 0 ∗ shutOff (F := F) c 8 ∗ shutOff (F := F) c 9) ∗ ow c []) := by
  unfold R9 Y9
  iintro ⟨-, ⟨-, H1, H2, H3, H4, H5, H6, H7⟩, ⟨H8, H9, H10, H11, H12, H13, H14, H15, H16, H17, H18, H19⟩, H20⟩
  ihave J22 := (wholeI m c) $$ [H4 H5]
  · isplitl [H4]; · iexact H4
    iexact H5
  ihave J24 := (wholeO m c) $$ [H6 H7]
  · isplitl [H6]; · iexact H6
    iexact H7
  isplitl [J22]
  · iexact J22
  isplitl [J24]
  · iexact J24
  isplitl [H18 H19]
  · isplitl [H18]; · iexact H18
    iexact H19
  isplitl [H8 H9 H10]
  · isplitl [H8]; · iexact H8
    isplitl [H9]; · iexact H9
    iexact H10
  isplitl [H11 H12 H13 H14 H15 H16 H17]
  · isplitl [H11]; · iexact H11
    isplitl [H12]; · iexact H12
    isplitl [H13]; · iexact H13
    isplitl [H14]; · iexact H14
    isplitl [H15]; · iexact H15
    isplitl [H16]; · iexact H16
    iexact H17
  isplitl [H1 H2 H3]
  · isplitl [H1]; · iexact H1
    isplitl [H2]; · iexact H2
    iexact H3
  iexact H20

end Cert.Run
-- ==== Proof.Host.lean ====
module

public import proofs.«01_k».proof.Proof.Links

@[expose] public section

/-! The host's operations before the regions, and the whole run as a list of segments. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (c : Dev nD)

local notation "ℍ" => HostSeg (Name := ℕ) (U := UU) (pcfgs (F := F)) (defs₀ (F := F)) 𝒱₀ L lv
local notation "𝕊" => PerCore.Seg (pcfgs (F := F)) adm (pdats m) () (defs₀ (F := F)) 𝒱₀ L lv

/-- The buffers after the host's arithmetic. -/
def Vh : Valuation τ sig (Elt F) := StableHlo.after (hostOps0 c) (M m c)

/-- The buffers the regions use besides the four allocated ones; -/
def SU : Finset (DevRef τ sig) := {Proc.devRef .tc main_arg0, Proc.devRef .tc main_arg1, Proc.devRef .tc main_v17, Proc.devRef .tc main_v22_2, Proc.devRef .tc main_v22_3, Proc.devRef .tc main_v22_8, Proc.devRef .tc main_v24_0, Proc.devRef .tc main_v24_1, Proc.devRef .tc main_v25_0, Proc.devRef .tc main_v25_1, Proc.devRef .tc main_v26_6, Proc.devRef .tc main_v28, Proc.devRef .tc main_v29, Proc.devRef .tc main_v30_4}
/-- and with those four. -/
def SA : Finset (DevRef τ sig) := {Proc.devRef .tc main_v18, Proc.devRef .tc main_v19, Proc.devRef .tc main_v20, Proc.devRef .tc main_v21, Proc.devRef .tc main_arg0, Proc.devRef .tc main_arg1, Proc.devRef .tc main_v17, Proc.devRef .tc main_v22_2, Proc.devRef .tc main_v22_3, Proc.devRef .tc main_v22_8, Proc.devRef .tc main_v24_0, Proc.devRef .tc main_v24_1, Proc.devRef .tc main_v25_0, Proc.devRef .tc main_v25_1, Proc.devRef .tc main_v26_6, Proc.devRef .tc main_v28, Proc.devRef .tc main_v29, Proc.devRef .tc main_v30_4}
theorem SA_sub : SA ⊆ ucRefs τ sig := by decide

omit [FloatOps F] in
theorem held_SU (V : Valuation τ sig (Elt F)) : (StableHlo.held (c.tc : Thread nD τ) SU V : sProp 𝕄) = iprop(pt c main_arg0 V ∗ pt c main_arg1 V ∗ pt c main_v17 V ∗ pt c main_v22_2 V ∗ pt c main_v22_3 V ∗ pt c main_v22_8 V ∗ pt c main_v24_0 V ∗ pt c main_v24_1 V ∗ pt c main_v25_0 V ∗ pt c main_v25_1 V ∗ pt c main_v26_6 V ∗ pt c main_v28 V ∗ pt c main_v29 V ∗ pt c main_v30_4 V) := by
  unfold StableHlo.held
  rw [bigSep_eq_bigSepL_of_eq [Proc.devRef .tc main_arg0, Proc.devRef .tc main_arg1, Proc.devRef .tc main_v17, Proc.devRef .tc main_v22_2, Proc.devRef .tc main_v22_3, Proc.devRef .tc main_v22_8, Proc.devRef .tc main_v24_0, Proc.devRef .tc main_v24_1, Proc.devRef .tc main_v25_0, Proc.devRef .tc main_v25_1, Proc.devRef .tc main_v26_6, Proc.devRef .tc main_v28, Proc.devRef .tc main_v29, Proc.devRef .tc main_v30_4] (by decide) (by decide)]
  rfl
omit [FloatOps F] in
theorem held_SA (V : Valuation τ sig (Elt F)) : (StableHlo.held (c.tc : Thread nD τ) SA V : sProp 𝕄) = iprop(pt c main_v18 V ∗ pt c main_v19 V ∗ pt c main_v20 V ∗ pt c main_v21 V ∗ StableHlo.held (c.tc : Thread nD τ) SU V) := by
  rw [held_SU]
  unfold StableHlo.held
  rw [bigSep_eq_bigSepL_of_eq [Proc.devRef .tc main_v18, Proc.devRef .tc main_v19, Proc.devRef .tc main_v20, Proc.devRef .tc main_v21, Proc.devRef .tc main_arg0, Proc.devRef .tc main_arg1, Proc.devRef .tc main_v17, Proc.devRef .tc main_v22_2, Proc.devRef .tc main_v22_3, Proc.devRef .tc main_v22_8, Proc.devRef .tc main_v24_0, Proc.devRef .tc main_v24_1, Proc.devRef .tc main_v25_0, Proc.devRef .tc main_v25_1, Proc.devRef .tc main_v26_6, Proc.devRef .tc main_v28, Proc.devRef .tc main_v29, Proc.devRef .tc main_v30_4] (by decide) (by decide)]
  rfl

theorem ops0_sub : ∀ op ∈ (hostOps0 c : List (HloOp τ sig (Elt F))), op.bufs ⊆ ucRefs τ sig := fun op h =>
  sub_ucRefs op (List.forall_iff_forall_mem.1 (hostOps0_sub c) op h)
theorem ops0_fresh : ∀ op ∈ (hostOps0 c : List (HloOp τ sig (Elt F))), op.fresh = ∅ :=
  List.forall_iff_forall_mem.1 (show (hostOps0 c : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl⟩)
theorem ops5_sub : ∀ op ∈ (hostOps0_5 : List (HloOp τ sig (Elt F))), op.bufs ⊆ SU := fun op h => by
  simp only [List.mem_cons, List.mem_nil_iff, or_false] at h
  rcases h with rfl | rfl
  · show ({Proc.devRef .tc main_arg0, Proc.devRef .tc main_v22_2} : Finset (DevRef τ sig)) ⊆ SU; decide
  · show ({Proc.devRef .tc main_arg1, Proc.devRef .tc main_v22_3} : Finset (DevRef τ sig)) ⊆ SU; decide
theorem ops5_fresh : ∀ op ∈ (hostOps0_5 : List (HloOp τ sig (Elt F))), op.fresh = ∅ := fun op h => by
  simp only [List.mem_cons, List.mem_nil_iff, or_false] at h
  rcases h with rfl | rfl <;> rfl

/-- The host's arithmetic on device `c`. -/
def hs0 : ℍ := HostSeg.ofOps _ _ _ _ _ (ucRefs τ sig) (hostOps0 c) (ops0_sub c) (ops0_fresh c) (M m)
  fun c => iprop(GH m c ∗ ow c dues)

/-- The allocation of v18. -/
def hs1 : ℍ := HostSeg.alloc _ _ _ _ _ main_v18 ⟨by decide, rfl⟩ (Vh m)
  fun c => iprop(pt c main_v19 (Vh m c) ∗ pt c main_v20 (Vh m c) ∗ pt c main_v21 (Vh m c) ∗ StableHlo.held (c.tc : Thread nD τ) SU (Vh m c) ∗ GH m c ∗ ow c dues)
theorem hs1_prog : (hs1 (F := F) m).prog = StableHlo.seq (hostOps0_1 : List (HloOp τ sig (Elt F))) := by
  show (hlo rfl (StableHlo.allocateBuffer (τ := τ) (Val := Elt F) main_v18 ⟨by decide, rfl⟩) fun _ => .ret ⟨⟩) = StableHlo.seq [StableHlo.allocateBuffer main_v18]
  simp only [StableHlo.seq, Prog.bind_op, Prog.bind_ret]
  rfl

/-- The allocation of v19. -/
def hs2 : ℍ := HostSeg.alloc _ _ _ _ _ main_v19 ⟨by decide, rfl⟩ (Vh m)
  fun c => iprop(anyPt (F := F) c main_v18 ∗ pt c main_v20 (Vh m c) ∗ pt c main_v21 (Vh m c) ∗ StableHlo.held (c.tc : Thread nD τ) SU (Vh m c) ∗ GH m c ∗ ow c dues)
theorem hs2_prog : (hs2 (F := F) m).prog = StableHlo.seq (hostOps0_2 : List (HloOp τ sig (Elt F))) := by
  show (hlo rfl (StableHlo.allocateBuffer (τ := τ) (Val := Elt F) main_v19 ⟨by decide, rfl⟩) fun _ => .ret ⟨⟩) = StableHlo.seq [StableHlo.allocateBuffer main_v19]
  simp only [StableHlo.seq, Prog.bind_op, Prog.bind_ret]
  rfl

/-- The allocation of v20. -/
def hs3 : ℍ := HostSeg.alloc _ _ _ _ _ main_v20 ⟨by decide, rfl⟩ (Vh m)
  fun c => iprop(anyPt (F := F) c main_v18 ∗ anyPt (F := F) c main_v19 ∗ pt c main_v21 (Vh m c) ∗ StableHlo.held (c.tc : Thread nD τ) SU (Vh m c) ∗ GH m c ∗ ow c dues)
theorem hs3_prog : (hs3 (F := F) m).prog = StableHlo.seq (hostOps0_3 : List (HloOp τ sig (Elt F))) := by
  show (hlo rfl (StableHlo.allocateBuffer (τ := τ) (Val := Elt F) main_v20 ⟨by decide, rfl⟩) fun _ => .ret ⟨⟩) = StableHlo.seq [StableHlo.allocateBuffer main_v20]
  simp only [StableHlo.seq, Prog.bind_op, Prog.bind_ret]
  rfl

/-- The allocation of v21. -/
def hs4 : ℍ := HostSeg.alloc _ _ _ _ _ main_v21 ⟨by decide, rfl⟩ (Vh m)
  fun c => iprop(anyPt (F := F) c main_v18 ∗ anyPt (F := F) c main_v19 ∗ anyPt (F := F) c main_v20 ∗ StableHlo.held (c.tc : Thread nD τ) SU (Vh m c) ∗ GH m c ∗ ow c dues)
theorem hs4_prog : (hs4 (F := F) m).prog = StableHlo.seq (hostOps0_4 : List (HloOp τ sig (Elt F))) := by
  show (hlo rfl (StableHlo.allocateBuffer (τ := τ) (Val := Elt F) main_v21 ⟨by decide, rfl⟩) fun _ => .ret ⟨⟩) = StableHlo.seq [StableHlo.allocateBuffer main_v21]
  simp only [StableHlo.seq, Prog.bind_op, Prog.bind_ret]
  rfl

/-- The copies of the two inputs that the exchange passes on. -/
def hs5 : ℍ := HostSeg.ofOps _ _ _ _ _ SU hostOps0_5 ops5_sub ops5_fresh (Vh m)
  fun c => iprop(AL (F := F) c ∗ GH m c ∗ ow c dues)

/-- Device `c`'s run as a list. -/
def segs : List 𝕊 :=
  [.host (hs0 m c), .host (hs1 m), .host (hs2 m), .host (hs3 m), .host (hs4 m), .host (hs5 m),
   .region (reg0 m), .region (reg1 m), .region (reg2 m), .region (reg3 m), .region (reg4 m),
   .region (reg5 m), .region (reg6 m), .region (reg7 m), .region (reg8 m), .region (reg9 m)]

theorem main_eq : main (F := F) c = PerCore.Seg.run (segs m c) := by
  rw [main_chain, PerCore.Seg.run_eq_chain, ← hs1_prog m, ← hs2_prog m, ← hs3_prog m, ← hs4_prog m]
  rfl

/-- Before anything runs. -/
def TT : sProp 𝕄 := iprop(StableHlo.held (c.tc : Thread nD τ) (ucRefs τ sig) (M m c) ∗ GH m c ∗ ow c dues)

theorem hop0 : iprop(StableHlo.held (c.tc : Thread nD τ) (ucRefs τ sig) (Vh m c) ∗ (GH m c ∗ ow c dues))
    ⊢ iprop(pt c main_v18 (Vh m c) ∗ (pt c main_v19 (Vh m c) ∗ pt c main_v20 (Vh m c) ∗ pt c main_v21 (Vh m c) ∗ StableHlo.held (c.tc : Thread nD τ) SU (Vh m c) ∗ GH m c ∗ ow c dues)) := by
  have h := StableHlo.held_sub_split (Ix := Unit) (Name := ℕ) (U := UU) (Lvl := ℕ) (c.tc : Thread nD τ) SA_sub (Vh m c)
  rw [h, held_SA]
  iintro ⟨⟨⟨H1, H2, H3, H4, HU⟩, -⟩, HG, HO⟩
  isplitl [H1]; · iexact H1
  isplitl [H2]; · iexact H2
  isplitl [H3]; · iexact H3
  isplitl [H4]; · iexact H4
  isplitl [HU]; · iexact HU
  isplitl [HG]; · iexact HG
  iexact HO

theorem hop1 : iprop(anyPt (F := F) c main_v18 ∗ (pt c main_v19 (Vh m c) ∗ pt c main_v20 (Vh m c) ∗ pt c main_v21 (Vh m c) ∗ StableHlo.held (c.tc : Thread nD τ) SU (Vh m c) ∗ GH m c ∗ ow c dues))
    ⊢ iprop(pt c main_v19 (Vh m c) ∗ (anyPt (F := F) c main_v18 ∗ pt c main_v20 (Vh m c) ∗ pt c main_v21 (Vh m c) ∗ StableHlo.held (c.tc : Thread nD τ) SU (Vh m c) ∗ GH m c ∗ ow c dues)) := by
  iintro ⟨D0, Q1, Q2, Q3, HU, HG, HO⟩
  isplitl [Q1]; · iexact Q1
  isplitl [D0]; · iexact D0
  isplitl [Q2]; · iexact Q2
  isplitl [Q3]; · iexact Q3
  isplitl [HU]; · iexact HU
  isplitl [HG]; · iexact HG
  iexact HO

theorem hop2 : iprop(anyPt (F := F) c main_v19 ∗ (anyPt (F := F) c main_v18 ∗ pt c main_v20 (Vh m c) ∗ pt c main_v21 (Vh m c) ∗ StableHlo.held (c.tc : Thread nD τ) SU (Vh m c) ∗ GH m c ∗ ow c dues))
    ⊢ iprop(pt c main_v20 (Vh m c) ∗ (anyPt (F := F) c main_v18 ∗ anyPt (F := F) c main_v19 ∗ pt c main_v21 (Vh m c) ∗ StableHlo.held (c.tc : Thread nD τ) SU (Vh m c) ∗ GH m c ∗ ow c dues)) := by
  iintro ⟨D1, D0, Q2, Q3, HU, HG, HO⟩
  isplitl [Q2]; · iexact Q2
  isplitl [D0]; · iexact D0
  isplitl [D1]; · iexact D1
  isplitl [Q3]; · iexact Q3
  isplitl [HU]; · iexact HU
  isplitl [HG]; · iexact HG
  iexact HO

theorem hop3 : iprop(anyPt (F := F) c main_v20 ∗ (anyPt (F := F) c main_v18 ∗ anyPt (F := F) c main_v19 ∗ pt c main_v21 (Vh m c) ∗ StableHlo.held (c.tc : Thread nD τ) SU (Vh m c) ∗ GH m c ∗ ow c dues))
    ⊢ iprop(pt c main_v21 (Vh m c) ∗ (anyPt (F := F) c main_v18 ∗ anyPt (F := F) c main_v19 ∗ anyPt (F := F) c main_v20 ∗ StableHlo.held (c.tc : Thread nD τ) SU (Vh m c) ∗ GH m c ∗ ow c dues)) := by
  iintro ⟨D2, D0, D1, Q3, HU, HG, HO⟩
  isplitl [Q3]; · iexact Q3
  isplitl [D0]; · iexact D0
  isplitl [D1]; · iexact D1
  isplitl [D2]; · iexact D2
  isplitl [HU]; · iexact HU
  isplitl [HG]; · iexact HG
  iexact HO

theorem hop4 : iprop(anyPt (F := F) c main_v21 ∗ (anyPt (F := F) c main_v18 ∗ anyPt (F := F) c main_v19 ∗ anyPt (F := F) c main_v20 ∗ StableHlo.held (c.tc : Thread nD τ) SU (Vh m c) ∗ GH m c ∗ ow c dues))
    ⊢ iprop(StableHlo.held (c.tc : Thread nD τ) SU (Vh m c) ∗ (AL (F := F) c ∗ GH m c ∗ ow c dues)) := by
  iintro ⟨D3, D0, D1, D2, HU, HG, HO⟩
  isplitl [HU]; · iexact HU
  isplitl [D0 D1 D2 D3]
  · unfold AL
    isplitl [D0]; · iexact D0
    isplitl [D1]; · iexact D1
    isplitl [D2]; · iexact D2
    iexact D3
  isplitl [HG]; · iexact HG
  iexact HO

theorem hop5 : iprop(StableHlo.held (c.tc : Thread nD τ) SU (V0 m c) ∗ (AL (F := F) c ∗ GH m c ∗ ow c dues))
    ⊢ iprop(StableHlo.held (c.tc : Thread nD τ) S_0 (V0 m c) ∗ X0 (V0 m) (V3 m) (V7 m) c ∗ R0 m c ∗ ow c (dues)) := by
  rw [held_SU]
  iintro ⟨HS, HA, HG, HO⟩
  iapply (link_start m c)
  isplitl [HA]; · iexact HA
  isplitl [HG]; · iexact HG
  isplitl [HS]; · unfold ST; iexact HS
  iexact HO

theorem hopEnd : iprop(StableHlo.held (c.tc : Thread nD τ) S_9 (V7 m c) ∗ Y9 (V0 m) (V3 m) (V7 m) c ∗ R9 m c ∗ ow c ([]))
    ⊢ iprop(END m c ∗ ∃ W, owes (c.tc : Thread nD τ) (0 : CellTallies nD τ sig Unit) W) := by
  unfold END
  iintro H
  ihave J := (link9 m c) $$ H
  icases J with ⟨H1, H2, H3, H4, H5, H6, HO⟩
  isplitr [HO]
  · isplitl [H1]; · iexact H1
    isplitl [H2]; · iexact H2
    isplitl [H3]; · iexact H3
    isplitl [H4]; · iexact H4
    isplitl [H5]; · iexact H5
    iexact H6
  iexact HO

/-- Each segment takes what the one before leaves. -/
theorem chains : PerCore.Seg.ChainsAt c (TT m) (segs m c)
    fun c => iprop(END m c ∗ ∃ W, owes (c.tc : Thread nD τ) (0 : CellTallies nD τ sig Unit) W) :=
  ⟨BI.Entails.refl _, hop0 m c, hop1 m c, hop2 m c, hop3 m c, hop4 m c, hop5 m c, link0 m c, link1 m c, link2 m c, link3 m c,
    link4 m c, link5 m c, link6 m c, link7 m c, link8 m c, hopEnd m c⟩

end Cert.Run
-- ==== Proof.Deal.lean ====
module

public import proofs.«01_k».proof.Proof.Host

@[expose] public section

/-! The exchanges' cells at the launch: funded, allocated, and dealt to the devices. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The schedule of the run's exchanges. -/
abbrev RR : Rounds.Schedule (GSem nD τ sig) (Fin 8) 𝕄 := Rd (V0 m) (V3 m) (V7 m)

/-- The exchanges' cells, -/
def exCells : Finset (GSem nD τ sig) := Finset.univ.map ⟨fun x : Dev nD × Ck => kcell x.1 x.2, kcell_injective⟩
/-- and a token for each cell and each name of a duty. -/
def exToks : Finset (GSem nD τ sig × ℕ × Fin 8) :=
  Finset.univ.map ⟨fun x : Dev nD × (Ck × Fin 8) => (kcell x.1 x.2.1, 0, x.2.2), fun a b h => by
    have h1 := kcell_injective (a₁ := (a.1, a.2.1)) (a₂ := (b.1, b.2.1)) (congrArg Prod.fst h)
    have h2 : a.2.2 = b.2.2 := congrArg (fun y : GSem nD τ sig × ℕ × Fin 8 => y.2.2) h
    exact Prod.ext (Prod.mk.inj h1).1 (Prod.ext (Prod.mk.inj h1).2 h2)⟩

/-- The pipelines' staging semaphores, listed. -/
theorem specSems_tab (c : Dev nD) : ∀ p : Fin 10, specSems (pinD (pcfgs (F := F)) adm c p).spec = semTab p := fun
  | 0 => rfl | 1 => rfl | 2 => rfl | 3 => rfl | 4 => rfl | 5 => rfl | 6 => rfl | 7 => rfl | 8 => rfl | 9 => rfl
  | ⟨_ + 10, h⟩ => absurd h (Nat.not_lt.2 (Nat.le_add_left _ _))

/-- The staging semaphores are told apart. -/
theorem staging_inj : Function.Injective (PerCore.cellOf (nD := nD) (τ := τ) (pinD (pcfgs (F := F)) adm)) :=
  PerCore.cellOf_injective _ (fun c p => specSemsDistinct_of_nodup _ ((specSems_tab (F := F) c p).symm ▸ semsDistinct p))
    (fun c p p' h => specSemsDisjoint_of_disjoint _ _
      ((specSems_tab (F := F) c p).symm ▸ (specSems_tab (F := F) c p').symm ▸ fun _ hd hd' => List.forall_iff_forall_mem.1 (semsDisjoint p p' h) _ hd hd'))

/-- The launch element. -/
def u₀ : UU :=
  (initOf (PerCore.cells (pinD (pcfgs (F := F)) adm) staging_inj) (PerCore.launchToks (pinD (pcfgs (F := F)) adm) staging_inj),
    initOf exCells exToks)

/-- What the launch element has for device `c`. -/
def G (c : Dev nD) : sProp 𝕄 :=
  iprop((bigSep Finset.univ fun k : Ck => roundState ER (RR m) (kcell c k) 0)
    ∗ (bigSep Finset.univ fun k : Ck => iprop(atPos ER (kcell c k) 0 ∅ 0 ∗ reached ER (kcell c k) 0))
    ∗ bigSep Finset.univ fun x : Ck × Fin 8 => dutyTok ER (kcell c x.1) 0 x.2)

theorem fund_all : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Ck => Φ (kcell c k) := by
    unfold exCells; rw [bigSep_map, bigSep_univ_prod]; rfl
  have hT : bigSep exToks (fun x => (dutyTok ER x.1 x.2.1 x.2.2 : sProp 𝕄))
      = bigSep Finset.univ fun c : Dev nD => bigSep Finset.univ fun x : Ck × Fin 8 => dutyTok ER (kcell c x.1) 0 x.2 := by
    unfold exToks; rw [bigSep_map, bigSep_univ_prod]; rfl
  iintro HX
  imod (Rounds.fund ER (RR m) exCells exToks) $$ HX with ⟨Hst, Hr, Hat, Htok⟩
  imodintro
  ihave Hst' := (Entails.of_eq (hX fun g => roundState ER (RR m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The unscoped semaphores are the exchanges' cells. -/
theorem unscopedSems0_eq (c : Dev nD) : (unscopedSems0 c : sProp 𝕄) = bigSep Finset.univ fun k : Ck => semVal (kcell c k) 0 := by
  unfold unscopedSems0
  rw [bigSep_eq_bigSepL_of_eq (allCk.map osem) (by decide) (by decide), bigSep_univ_eq_bigSepL allCk (by decide) (by decide)]
  rfl

/-- What a device has once its cells are allocated. -/
def alloced (c : Dev nD) : sProp 𝕄 :=
  iprop((bigSep Finset.univ fun k : Ck => iprop(∃ κ : ℕ, cellInv ER (RR m) κ (kcell c k)))
    ∗ (bigSep Finset.univ fun k : Ck => iprop(atPos ER (kcell c k) 0 ∅ 0 ∗ reached ER (kcell c k) 0))
    ∗ bigSep Finset.univ fun x : Ck × Fin 8 => dutyTok ER (kcell c x.1) 0 x.2)

theorem core_alloc (c : Dev nD) : iprop(unscopedSems0 c ∗ G m c) ⊢ |={Set.univ}=> alloced m c := by
  unfold G alloced
  rw [unscopedSems0_eq]
  iintro ⟨Hos, Hst, Hat, Htok⟩
  imod (show iprop((bigSep Finset.univ fun k : Ck => semVal (kcell c k) 0) ∗ bigSep Finset.univ fun k : Ck => roundState ER (RR m) (kcell c k) 0)
      ⊢ (|={Set.univ}=> bigSep Finset.univ fun k => iprop(∃ κ : ℕ, cellInv ER (RR m) κ (kcell c k)) : sProp 𝕄) from by
        rw [← bigSep_sep']
        exact (bigSep_mono fun k _ => (Rounds.body_intro ER (RR m) (kcell c k)).trans inv_alloc).trans (bigSep_fupd _ _)) $$ [Hos Hst] with Hinv
  · isplitl [Hos] <;> iassumption
  imodintro
  isplitl [Hinv]; · iexact Hinv
  isplitl [Hat]; · iexact Hat
  iexact Htok

/-- Each duty's token to the device that pays it. -/
def tokEquiv : Dev nD × (Ck × Fin 8) ≃ Dev nD × (Ck × Fin 8) where
  toFun x := (peer (payer x.2.1 x.2.2) x.1, x.2)
  invFun x := (peer (payer x.2.1 x.2.2) x.1, x.2)
  left_inv x := Prod.ext (peer_peer _ _) rfl
  right_inv x := Prod.ext (peer_peer _ _) rfl

theorem toks_around :
    (bigSep Finset.univ fun c : Dev nD => bigSep Finset.univ fun x : Ck × Fin 8 => (dutyTok ER (kcell c x.1) 0 x.2 : sProp 𝕄))
      = bigSep Finset.univ fun c : Dev nD => bigSep Finset.univ fun k : Ck => bigSep Finset.univ fun i : Fin 8 =>
          dutyTok ER (kcell (peer (payer k i) c) k) 0 i := by
  rw [← bigSep_univ_prod (fun x : Dev nD × (Ck × Fin 8) => (dutyTok ER (kcell x.1 x.2.1) 0 x.2.2 : sProp 𝕄)),
    bigSep_univ_equiv tokEquiv, bigSep_univ_prod]
  exact bigSep_congr fun c _ => bigSep_univ_prod _

/-- What device `c` has of one key: its position, its credit, the tokens of the duties it pays. -/
def keyed (c : Dev nD) (k : Ck) : sProp 𝕄 :=
  iprop(atPos ER (kcell c k) 0 ∅ 0 ∗ cred (tallyAt (kcell c k) () (crd k))
    ∗ bigSep Finset.univ fun i : Fin 8 => dutyTok ER (kcell (peer (payer k i) c) k) 0 i)

theorem credit_at (c : Dev nD) (k : Ck) :
    tallyOn (kcell c k) (launchCredit (Pipeline.owing fun d => owed d dues) 0 (kcell c k)) = (tallyAt (kcell c k) () (crd k) : CellTallies nD τ sig Unit) := by
  unfold tallyAt; refine congrArg _ (Finsupp.ext fun u => ?_); cases u
  rw [Pipeline.launchCredit_owing, Finsupp.single_eq_same]
  exact dues_total c k

/-- The launch's credit on the exchanges' cells. -/
theorem creds (c : Dev nD) : (Pipeline.launchCred (fun d => owed d dues) c : sProp 𝕄)
    ⊢ bigSep Finset.univ fun k : Ck => cred (tallyAt (kcell c k) () (crd k)) := by
  unfold Pipeline.launchCred
  have h := bigSep_subset (M := 𝕄) (Finset.subset_univ (Finset.univ.map ⟨osem, osem_injective⟩))
    (Φ := fun sm : SemLoc sig => cred (tallyOn ((c.tc : Thread nD τ), sm) (launchCredit (Pipeline.owing fun d => owed d dues) 0 ((c.tc : Thread nD τ), sm))))
  refine h.trans ?_
  rw [bigSep_map]
  exact bigSep_mono fun k _ => Entails.of_eq (congrArg cred (credit_at c k))

theorem bigSep_fin3 (Φ : Fin 3 → sProp 𝕄) : bigSep Finset.univ Φ = iprop(Φ 0 ∗ Φ 1 ∗ Φ 2) := by
  rw [bigSep_univ_eq_bigSepL [0, 1, 2] (by decide) (by decide)]
  rfl
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide)]
  rfl

theorem shut_intro (c : Dev nD) (e : Fin 3) : keyed (F := F) c (bar e) ⊢ shut c e := by
  unfold keyed shut toks
  rw [bigSep_fin8]
  iintro ⟨HA, HC, ⟨-, H1, H2, H3, H4, H5, H6, H7⟩⟩
  isplitr [HA HC]
  · isplitl [H1]; · iexact H1
    isplitl [H2]; · iexact H2
    isplitl [H3]; · iexact H3
    isplitl [H4]; · iexact H4
    isplitl [H5]; · iexact H5
    isplitl [H6]; · iexact H6
    iexact H7
  isplitl [HC]; · iexact HC
  iexact HA

theorem ready_intro (c : Dev nD) (j : Fin 10) : iprop(keyed (F := F) c (snd j) ∗ keyed c (rcv j)) ⊢ ready c j := by
  have h (k : Ck) : (bigSep Finset.univ fun i : Fin 8 => (dutyTok ER (kcell (peer (payer k i) c) k) 0 i : sProp 𝕄))
      ⊢ dutyTok ER (kcell (peer (payer k 0) c) k) 0 0 := bigSep_elim (Finset.mem_univ (0 : Fin 8))
  unfold keyed ready
  iintro ⟨⟨HA, -, HT⟩, ⟨HA', HC, HT'⟩⟩
  ihave JT := (h (snd j)) $$ HT
  ihave JT' := (h (rcv j)) $$ HT'
  isplitl [HA]; · iexact HA
  isplitl [HA']; · iexact HA'
  isplitl [HC]; · iexact HC
  isplitl [JT]; · iexact JT
  iexact JT'

theorem keyed_all (c : Dev nD) : (bigSep Finset.univ fun k : Ck => keyed (F := F) c k)
    ⊢ iprop((bigSep Finset.univ fun e : Fin 3 => shut (F := F) c e) ∗ bigSep Finset.univ fun j : Fin 10 => ready (F := F) c j) := by
  rw [bigSep_univ_sum, bigSep_univ_sum]
  have h1 : (bigSep Finset.univ fun e : Fin 3 => keyed (F := F) c (bar e)) ⊢ bigSep Finset.univ fun e : Fin 3 => shut (F := F) c e :=
    bigSep_mono fun e _ => shut_intro c e
  have h2 : iprop((bigSep Finset.univ fun j : Fin 10 => keyed (F := F) c (snd j)) ∗ bigSep Finset.univ fun j : Fin 10 => keyed (F := F) c (rcv j))
      ⊢ bigSep Finset.univ fun j : Fin 10 => ready (F := F) c j := by
    rw [← bigSep_sep']
    exact bigSep_mono fun j _ => ready_intro c j
  exact BI.sep_mono h1 h2

theorem gh_intro (c : Dev nD) : iprop(recd m ∗ bigSep Finset.univ fun k : Ck => keyed (F := F) c k) ⊢ GH m c := by
  have h := keyed_all (F := F) c
  rw [bigSep_fin3, bigSep_fin10] at h
  unfold GH
  iintro ⟨HR, HK⟩
  ihave J := h $$ HK
  icases J with ⟨⟨HS0, HS1, HS2⟩, ⟨H0, H1, H2, H3, H4, H5, H6, H7, H8, H9⟩⟩
  isplitl [HR]; · iexact HR
  isplitl [HS0]; · iexact HS0
  isplitl [HS1]; · iexact HS1
  isplitl [HS2]; · iexact HS2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Everything allocated, dealt: one map of names for all the cells, the records to every device, each token to its payer. -/
theorem regroup : iprop((bigSep Finset.univ fun c : Dev nD => alloced m c) ∗ levAts L lv)
    ⊢ iprop(recd m ∗ (bigSep Finset.univ fun c : Dev nD => bigSep Finset.univ fun k : Ck => (atPos ER (kcell c k) 0 ∅ 0 : sProp 𝕄))
      ∗ bigSep Finset.univ fun c : Dev nD => bigSep Finset.univ fun k : Ck => bigSep Finset.univ fun i : Fin 8 =>
          (dutyTok ER (kcell (peer (payer k i) c) k) 0 i : sProp 𝕄)) := by
  unfold alloced
  rw [bigSep_sep', bigSep_sep', ← bigSep_univ_prod (fun x : Dev nD × Ck => iprop(∃ κ : ℕ, cellInv ER (RR m) κ (kcell x.1 x.2))),
    bigSep_congr (s := Finset.univ) (fun (c : Dev nD) _ => bigSep_sep' Finset.univ (fun k : Ck => (atPos ER (kcell c k) 0 ∅ 0 : sProp 𝕄)) (fun k => reached ER (kcell c k) 0)),
    bigSep_sep', ← bigSep_univ_prod (fun x : Dev nD × Ck => (reached ER (kcell x.1 x.2) 0 : sProp 𝕄)), toks_around]
  iintro ⟨⟨HI, ⟨Hat, HR⟩, Htok⟩, HL⟩
  ihave HK := (BI.bigSep_exists_pi Finset.univ (fun (x : Dev nD × Ck) (κ : ℕ) => (cellInv ER (RR m) κ (kcell x.1 x.2) : sProp 𝕄))) $$ HI
  icases HK with ⟨%K, HI⟩
  isplitl [HI HR HL]
  · unfold recd records
    iexists K
    unfold recs
    isplitl [HI HR]
    · iapply (Entails.of_eq (bigSep_sep' Finset.univ (fun x : Dev nD × Ck => (cellInv ER (RR m) (K x) (kcell x.1 x.2) : sProp 𝕄))
        (fun x : Dev nD × Ck => (reached ER (kcell x.1 x.2) 0 : sProp 𝕄))).symm)
      isplitl [HI] <;> iassumption
    iexact HL
  isplitl [Hat]; · iexact Hat
  iexact Htok

/-- What is on device `c` apart from the cells' records. -/
def aside (c : Dev nD) : sProp 𝕄 :=
  iprop(StableHlo.held (c.tc : Thread nD τ) (ucRefs τ sig) (M m c) ∗ (bigSep Finset.univ fun k : Ck => cred (tallyAt (kcell c k) () (crd k))) ∗ ow c dues)

theorem tt_intro (c : Dev nD) : iprop(recd m ∗ (((bigSep Finset.univ fun k : Ck => (atPos ER (kcell c k) 0 ∅ 0 : sProp 𝕄))
      ∗ bigSep Finset.univ fun k : Ck => bigSep Finset.univ fun i : Fin 8 => (dutyTok ER (kcell (peer (payer k i) c) k) 0 i : sProp 𝕄)) ∗ aside m c))
    ⊢ TT m c := by
  have hk : iprop((bigSep Finset.univ fun k : Ck => (atPos ER (kcell c k) 0 ∅ 0 : sProp 𝕄))
      ∗ (bigSep Finset.univ fun k : Ck => cred (tallyAt (kcell c k) () (crd k)))
      ∗ bigSep Finset.univ fun k : Ck => bigSep Finset.univ fun i : Fin 8 => (dutyTok ER (kcell (peer (payer k i) c) k) 0 i : sProp 𝕄))
      ⊢ bigSep Finset.univ fun k : Ck => keyed (F := F) c k := by
    rw [← bigSep_sep', ← bigSep_sep']
    exact BI.Entails.refl _
  unfold aside TT
  iintro ⟨HR, ⟨HA, HT⟩, ⟨HH, HC, HO⟩⟩
  isplitl [HH]; · iexact HH
  isplitl [HR HA HT HC]
  · iapply (gh_intro m c)
    isplitl [HR]; · iexact HR
    iapply hk
    isplitl [HA]; · iexact HA
    isplitl [HC] <;> iassumption
  iexact HO

/-- The launch's state, dealt. -/
theorem init :
    iprop((bigSep Finset.univ fun c : Dev nD => iprop(unscopedBufs c (fun b => m ((c.tc : Thread nD τ).loc b)) ∗ unscopedSems0 c
          ∗ owes (c.tc : Thread nD τ) (owed c dues) ∅ ∗ Pipeline.launchCred (fun d => owed d dues) c ∗ prngReg c (ρ c) ∗ G m c)) ∗ levAts L lv)
      ⊢ (|={Set.univ}=> bigSep Finset.univ (TT m) : sProp 𝕄) := by
  have hcore (c : Dev nD) : iprop(unscopedBufs c (fun b => m ((c.tc : Thread nD τ).loc b)) ∗ unscopedSems0 c
        ∗ owes (c.tc : Thread nD τ) (owed c dues) ∅ ∗ Pipeline.launchCred (fun d => owed d dues) c ∗ prngReg c (ρ c) ∗ G m c)
      ⊢ (|={Set.univ}=> iprop(alloced m c ∗ aside m c) : sProp 𝕄) := by
    rw [show unscopedBufs c (fun b => m ((c.tc : Thread nD τ).loc b)) = StableHlo.held (c.tc : Thread nD τ) (ucRefs τ sig) (M m c) from unscopedBufs_held c (M m c)]
    unfold aside
    iintro ⟨Hh, Hus, HO, Hcr, -, HG⟩
    ihave Hc := (creds (F := F) c) $$ Hcr
    imod (core_alloc m c) $$ [Hus HG] with HA
    · isplitl [Hus] <;> iassumption
    imodintro
    isplitl [HA]; · iexact HA
    isplitl [Hh]; · iexact Hh
    isplitl [Hc]; · iexact Hc
    iexists ∅
    iexact HO
  have halloc : (bigSep Finset.univ fun c : Dev nD => iprop(unscopedBufs c (fun b => m ((c.tc : Thread nD τ).loc b)) ∗ unscopedSems0 c
        ∗ owes (c.tc : Thread nD τ) (owed c dues) ∅ ∗ Pipeline.launchCred (fun d => owed d dues) c ∗ prngReg c (ρ c) ∗ G m c))
      ⊢ (|={Set.univ}=> iprop((bigSep Finset.univ fun c : Dev nD => alloced m c) ∗ bigSep Finset.univ fun c : Dev nD => aside m c) : sProp 𝕄) :=
    ((bigSep_mono fun c _ => hcore c).trans (bigSep_fupd _ _)).trans (BI.fupd_mono (Entails.of_eq (bigSep_sep' _ _ _)))
  iintro ⟨H, HL⟩
  imod halloc $$ H with ⟨HA, HB⟩
  ihave HG := (regroup m) $$ [HA HL]
  · isplitl [HA] <;> iassumption
  icases HG with ⟨HR, HP, HT⟩
  imodintro
  have hT (c : Dev nD) (_ : c ∈ Finset.univ) := tt_intro m c
  iapply (with_persistent (R := recd m) hT)
  isplitl [HR]; · iexact HR
  iapply (Entails.of_eq (bigSep_sep' Finset.univ (fun c : Dev nD => iprop((bigSep Finset.univ fun k : Ck => (atPos ER (kcell c k) 0 ∅ 0 : sProp 𝕄))
      ∗ bigSep Finset.univ fun k : Ck => bigSep Finset.univ fun i : Fin 8 => (dutyTok ER (kcell (peer (payer k i) c) k) 0 i : sProp 𝕄)))
    (fun c : Dev nD => aside m c)).symm)
  isplitl [HP HT]
  · iapply (Entails.of_eq (bigSep_sep' Finset.univ (fun c : Dev nD => bigSep Finset.univ fun k : Ck => (atPos ER (kcell c k) 0 ∅ 0 : sProp 𝕄))
      (fun c : Dev nD => bigSep Finset.univ fun k : Ck => bigSep Finset.univ fun i : Fin 8 => (dutyTok ER (kcell (peer (payer k i) c) k) 0 i : sProp 𝕄))).symm)
    isplitl [HP] <;> iassumption
  iexact HB

end Cert.Run
-- ==== Proof.RunMain.lean ====
module

public import proofs.«01_k».proof.Proof.Deal

@[expose] public section

/-! The run of the whole program, over any float values. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- The keys one by one. -/
theorem keys_all {Q : Ck → Prop} (hb0 : Q (bar 0)) (hb1 : Q (bar 1)) (hb2 : Q (bar 2)) (hs0 : Q (snd 0)) (hr0 : Q (rcv 0)) (hs1 : Q (snd 1)) (hr1 : Q (rcv 1)) (hs2 : Q (snd 2)) (hr2 : Q (rcv 2)) (hs3 : Q (snd 3)) (hr3 : Q (rcv 3)) (hs4 : Q (snd 4)) (hr4 : Q (rcv 4)) (hs5 : Q (snd 5)) (hr5 : Q (rcv 5)) (hs6 : Q (snd 6)) (hr6 : Q (rcv 6)) (hs7 : Q (snd 7)) (hr7 : Q (rcv 7)) (hs8 : Q (snd 8)) (hr8 : Q (rcv 8)) (hs9 : Q (snd 9)) (hr9 : Q (rcv 9)) : ∀ k, Q k := fun
  | .inl 0 => hb0 | .inl 1 => hb1 | .inl 2 => hb2
  | .inr (.inl 0) => hs0 | .inr (.inr 0) => hr0
  | .inr (.inl 1) => hs1 | .inr (.inr 1) => hr1
  | .inr (.inl 2) => hs2 | .inr (.inr 2) => hr2
  | .inr (.inl 3) => hs3 | .inr (.inr 3) => hr3
  | .inr (.inl 4) => hs4 | .inr (.inr 4) => hr4
  | .inr (.inl 5) => hs5 | .inr (.inr 5) => hr5
  | .inr (.inl 6) => hs6 | .inr (.inr 6) => hr6
  | .inr (.inl 7) => hs7 | .inr (.inr 7) => hr7
  | .inr (.inl 8) => hs8 | .inr (.inr 8) => hr8
  | .inr (.inl 9) => hs9 | .inr (.inr 9) => hr9

/-- Every unscoped semaphore is an exchange's. -/
theorem keyed_of_unscoped : ∀ sm : SemLoc sig, sm.isScoped .tc = false → ∃ k, sm = osem k := by decide

set_option backward.isDefEq.respectTransparency.types false in
set_option maxHeartbeats 4000000 in
/-- From any memory with its counters at zero, every fair execution of the program on the eight devices ends, with the
inputs as they were, the two results at what `V8` says, and every semaphore at zero. -/
theorem run_main : θ_run defs (onTc (τ := τ) (main (F := F))) ⟨m, fun _ => 0, ρ⟩
    (fun r => (∀ c : Dev nD, r.2.mem ((c.tc : Thread nD τ).loc main_v28) = V8 m c (Proc.devRef .tc main_v28)
        ∧ r.2.mem ((c.tc : Thread nD τ).loc main_v29) = V8 m c (Proc.devRef .tc main_v29)
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  PerCore.θ_run_regions_kit_sems (pcfgs (F := F)) adm (pdats m) () staging_inj EP defs₀ 𝒱₀ L lv m ρ main (segs m)
    (fun c Q => by rw [main_eq m c])
    (fun c => by simp only [segs, PerCore.Seg.pipes_host, PerCore.Seg.pipes_region, PerCore.Seg.pipes_nil]; decide)
    (O₀ := fun d => owed d dues) (hL := L_of_ne) (G := G m) (u₀ := u₀ (F := F))
    (hu₀ := by
      unfold u₀
      iintro Hu
      ihave H := (ownU_pair _ _) $$ Hu
      icases H with ⟨HP, HX⟩
      imod (fund_all m) $$ HX with HG
      imodintro
      isplitl [HP]; · iexact HP
      iexact HG)
    (T₀ := TT m) (Tₙ := END m)
    (hch := fun c => chains m c)
    (hinit := init m ρ)
    (QY := fun c s => (s.mem ((c.tc : Thread nD τ).loc main_v28) = V8 m c (Proc.devRef .tc main_v28)
        ∧ s.mem ((c.tc : Thread nD τ).loc main_v29) = V8 m c (Proc.devRef .tc main_v29)
        ∧ s.mem ((c.tc : Thread nD τ).loc main_arg0) = m ((c.tc : Thread nD τ).loc main_arg0)
        ∧ s.mem ((c.tc : Thread nD τ).loc main_arg1) = m ((c.tc : Thread nD τ).loc main_arg1))
      ∧ ∀ k, s.sem (kcell c k) = 0)
    (hfin := fun c s' => by
      unfold END shutOff pt
      rw [V0_arg0, V0_arg1]
      iintro ⟨⟨H28, H29, ⟨Ha, Hb⟩, ⟨B0, ⟨S0, R0⟩, ⟨S1, R1⟩⟩, ⟨B1, ⟨S2, R2⟩, ⟨S3, R3⟩, ⟨S4, R4⟩, ⟨S5, R5⟩, ⟨S6, R6⟩, ⟨S7, R7⟩⟩, ⟨B2, ⟨S8, R8⟩, ⟨S9, R9⟩⟩⟩, HSI⟩
      icombine HSI H28 gives %h28
      icombine HSI H29 gives %h29
      icombine HSI Ha gives %ha
      icombine HSI Hb gives %hb
      icombine HSI B0 gives %b0
      icombine HSI B1 gives %b1
      icombine HSI B2 gives %b2
      icombine HSI S0 gives %s0
      icombine HSI R0 gives %r0
      icombine HSI S1 gives %s1
      icombine HSI R1 gives %r1
      icombine HSI S2 gives %s2
      icombine HSI R2 gives %r2
      icombine HSI S3 gives %s3
      icombine HSI R3 gives %r3
      icombine HSI S4 gives %s4
      icombine HSI R4 gives %r4
      icombine HSI S5 gives %s5
      icombine HSI R5 gives %r5
      icombine HSI S6 gives %s6
      icombine HSI R6 gives %r6
      icombine HSI S7 gives %s7
      icombine HSI R7 gives %r7
      icombine HSI S8 gives %s8
      icombine HSI R8 gives %r8
      icombine HSI S9 gives %s9
      icombine HSI R9 gives %r9
      imodintro
      isplitr
      · ipureintro
        exact ⟨⟨Buf.eq_of_forall_mem_univ h28, Buf.eq_of_forall_mem_univ h29, Buf.eq_of_forall_mem_univ ha, Buf.eq_of_forall_mem_univ hb⟩,
          keys_all b0 b1 b2 s0 r0 s1 r1 s2 r2 s3 r3 s4 r4 s5 r5 s6 r6 s7 r7 s8 r8 s9 r9⟩
      iexact HSI)
    (hQ := fun s h hs => ⟨fun c => (h c).1, sem_eq_zero hs fun c sm hsm => by
      obtain ⟨k, rfl⟩ := keyed_of_unscoped sm hsm
      exact (h c).2 k⟩)

end Cert.Run
-- ==== Proof.RefRun.lean ====
/-
  The run of the reference on its one device: two plain sums, of eight parts each, laid out as the results are. Every
  weakly fair execution ends with the two results in their buffers, the arguments as they were.
-/
module

public import proofs.«01_k».proof.Proof.Gen.ReferenceIdeal
public import Idealize.ShloMosaic.Lib.StableHlo.Run
public import Idealize.ShloMosaic.Lib.Quiescent

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

/-- The larger argument, one group of four planes to a device. -/
abbrev partsI (x : FVec F S32x2048x2048 .f32) : FVec F S8x4x2048x2048 .f32 := shapeCast S8x4x2048x2048 x shapeCasts_S32x2048x2048_S8x4x2048x2048

/-- The smaller argument, one group of four planes to a device. -/
abbrev partsO (x : FVec F S32x512x2048 .f32) : FVec F S8x4x512x2048 .f32 := shapeCast S8x4x512x2048 x shapeCasts_S32x512x2048_S8x4x512x2048

/-- The sum over the devices of the larger argument, its four planes side by side. -/
abbrev outI (x : FVec F S32x2048x2048 .f32) : FVec F S2048x8192 .f32 :=
  shapeCast S2048x8192 (transpose S2048x4x2048 [1, 0, 2]
    (Host.reduceAdd (partsI x) (constant S_ .f32 0x00000000#32) reducesTo_S8x4x2048x2048_S4x2048x2048_d0 h_S_)
    transposes_S4x2048x2048_S2048x4x2048_1_0_2) shapeCasts_S2048x4x2048_S2048x8192

/-- The sum over the devices of the smaller argument, its four planes one under the other. -/
abbrev outO (x : FVec F S32x512x2048 .f32) : FVec F S2048x2048 .f32 :=
  shapeCast S2048x2048 (Host.reduceAdd (partsO x) (constant S_ .f32 0x00000000#32) reducesTo_S8x4x512x2048_S4x512x2048_d0 h_S_)
    shapeCasts_S4x512x2048_S2048x2048

/-- The program's operations, in order. -/
abbrev steps : List (HloOp τ sig (Elt F)) :=
  [ reshape main_arg0 main_v0 (rfl : (.f32 : EltTy) = .f32) shapeCasts_S32x2048x2048_S8x4x2048x2048,
    nullary main_cst (constant S_ .f32 0x00000000#32),
    binary main_v0 main_cst main_v1 (fun x v => Host.reduceAdd x v reducesTo_S8x4x2048x2048_S4x2048x2048_d0 h_S_),
    unary main_v1 main_v2 (transpose S2048x4x2048 [1, 0, 2] · transposes_S4x2048x2048_S2048x4x2048_1_0_2),
    reshape main_v2 main_v3 (rfl : (.f32 : EltTy) = .f32) shapeCasts_S2048x4x2048_S2048x8192,
    reshape main_arg1 main_v4 (rfl : (.f32 : EltTy) = .f32) shapeCasts_S32x512x2048_S8x4x512x2048,
    nullary main_cst_0 (constant S_ .f32 0x00000000#32),
    binary main_v4 main_cst_0 main_v5 (fun x v => Host.reduceAdd x v reducesTo_S8x4x512x2048_S4x512x2048_d0 h_S_),
    reshape main_v5 main_v6 (rfl : (.f32 : EltTy) = .f32) shapeCasts_S4x512x2048_S2048x2048 ]

/-- The program is that straight line. -/
theorem line (c : Dev nD) : main (F := F) c = seq steps := rfl

/-- What the line leaves in the first result's buffer, -/
theorem at_v3 (V : Valuation τ sig (Elt F)) : after steps V (main_v3 : DevRef τ sig) = outI (V (main_arg0 : DevRef τ sig)) := by
  after_results
  rfl

/-- in the second's, -/
theorem at_v6 (V : Valuation τ sig (Elt F)) : after steps V (main_v6 : DevRef τ sig) = outO (V (main_arg1 : DevRef τ sig)) := by
  after_results
  rfl

/-- and in the arguments', which nothing writes. -/
theorem at_arg0 (V : Valuation τ sig (Elt F)) : after steps V (main_arg0 : DevRef τ sig) = V (main_arg0 : DevRef τ sig) := by
  after_results

theorem at_arg1 (V : Valuation τ sig (Elt F)) : after steps V (main_arg1 : DevRef τ sig) = V (main_arg1 : DevRef τ sig) := by
  after_results

/-- No buffer and no semaphore is scoped. -/
theorem no_scoped_refs : (Finset.univ.filter fun b : Ref sig .tc => b.isScoped) = ∅ := by decide
theorem no_scoped_sems : (Finset.univ.filter fun sm : SemLoc sig => sm.isScoped .tc) = ∅ := by decide

/-- The line stays within the device's own buffers. -/
theorem steps_within : (steps : List (HloOp τ sig (Elt F))).Forall fun op => op.bufs ⊆ tcRefs τ sig :=
  ⟨reshape_bufs_sub .., nullary_bufs_sub .., binary_bufs_sub .., unary_bufs_sub .., reshape_bufs_sub ..,
    reshape_bufs_sub .., nullary_bufs_sub .., binary_bufs_sub .., reshape_bufs_sub ..⟩

/-- Every execution of the reference ends with both sums in place, the arguments kept and no semaphore raised. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v3) = outI (m ((c.tc : Thread nD τ).loc main_arg0))
        ∧ r.2.mem ((c.tc : Thread nD τ).loc main_v6) = outO (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v3).trans (at_v3 _), (h c main_v6).trans (at_v6 _),
      (h c main_arg0).trans (at_arg0 _), (h c main_arg1).trans (at_arg1 _)⟩, sem_eq_zero_of_no_sems (by decide) r.2⟩)
    (run_seq no_scoped_refs no_scoped_sems defs main (fun _ => steps) line (fun _ => steps_within) m ρ)

end Cert.Ref
-- ==== Proof.Frames.lean ====
/-
  The three frames: every execution of the kernel, at either reading of its floats, and of the reference ends, with the
  arguments as they were and every semaphore at zero.
-/
module

public import proofs.«01_k».proof.Defs
public import proofs.«01_k».proof.Proof.Same
public import proofs.«01_k».proof.Proof.RunMain
public import proofs.«01_k».proof.Proof.RefRun

@[expose] public section

noncomputable section

namespace Cert.Frames

open Idealize.ShloMosaic Idealize.SL.Sem

/-- The kernel over its own floats: the same program, read at bit patterns. -/
theorem kernel : Cert.quiescent_Kernel := by
  rw [same_frame]
  exact fun m ρ _ => (θ_run Cert.KernelIdeal.defs _ _).mono (fun _ h => ⟨fun c => ⟨(h.1 c).2.2.1, (h.1 c).2.2.2⟩, h.2⟩)
    (Cert.Run.run_main (F := Bits) m ρ)

/-- The kernel over the extended reals. -/
theorem ideal : Cert.quiescent_KernelIdeal := fun m ρ _ =>
  (θ_run Cert.KernelIdeal.defs _ _).mono (fun _ h => ⟨fun c => ⟨(h.1 c).2.2.1, (h.1 c).2.2.2⟩, h.2⟩)
    (Cert.Run.run_main (F := Ideal) m ρ)

/-- The reference over the extended reals. -/
theorem reference : Cert.quiescent_ReferenceIdeal := fun m ρ _ =>
  (θ_run Cert.ReferenceIdeal.defs _ _).mono (fun _ h => ⟨fun c => ⟨(h.1 c).2.2.1, (h.1 c).2.2.2⟩, h.2⟩)
    (Cert.Ref.run (F := Ideal) m ρ)

end Cert.Frames
-- ==== Proof.PairValueIn.lean ====
module

public import Idealize.ShloMosaic.Lib.Pipeline.ValueKit
public import Idealize.ShloMosaic.Lib.Pointwise.Index
public import proofs.«01_k».proof.Proof.Stage

@[expose] public section

/-! The pair sum of the larger gradient, element by element. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

section

/-- A point of the grid, by its coordinates. -/
theorem coords2 : ∀ t : Fin grid2.N, (grid2.coords t 0).val = t.val / 4 ∧ (grid2.coords t 1).val = t.val % 4 := by decide +kernel

/-- The same, through the machine's words. -/
theorem point2 : ∀ t : Fin grid2.N, (BitVec.ofNat 32 (grid2.coords t 0).val).toNat = t.val / 4 ∧ (BitVec.ofNat 32 (grid2.coords t 1).val).toNat = t.val % 4 := by decide +kernel

variable (c : Dev nD) (V : Valuation τ sig (Elt F)) (q : Fin 4) (O : CellTallies nD τ sig Unit)

/-- Where the first result's blocks lie. -/
theorem index2_2 (a : (pcfg2 (F := F)).Adm) : ∀ t : Fin grid2.N, (win2 a 2).index t = ![t.val % 4, t.val / 4, 0] := by
  intro t
  obtain ⟨h0, h1⟩ := point2 t
  rw [← h0, ← h1]
  rfl
/-- Where the second result's blocks lie. -/
theorem index2_3 (a : (pcfg2 (F := F)).Adm) : ∀ t : Fin grid2.N, (win2 a 3).index t = ![t.val / 4, 0] := by
  intro t
  obtain ⟨h0, h1⟩ := point2 t
  rw [← h0]
  rfl
/-- Where the received half's blocks lie. -/
theorem index2_1 (a : (pcfg2 (F := F)).Adm) : ∀ t : Fin grid2.N, (win2 a 1).index t = ![t.val % 4, t.val / 4, 0] := by
  intro t
  obtain ⟨h0, h1⟩ := point2 t
  rw [← h0, ← h1]
  rfl
/-- Where the gradient's blocks lie. -/
theorem index2_0 : ∀ t : Fin grid2.N, (win2 (adm2 (F := F) c) 0).index t = ![t.val % 4, c.val % 2 * 4 + t.val / 4, 0] := by
  intro t
  obtain ⟨h0, h1⟩ := coords2 t
  rw [← h0, ← h1]
  exact ix2_tab c _

/-- The first result is written back at every point. -/
theorem flush2_2 (a : (pcfg2 (F := F)).Adm) : ∀ t : Fin grid2.N, (win2 a 2).flush t = true :=
  of_decide_eq_true (Eq.refl true)

/-- The first result, at an element of a block. -/
theorem at2_2 (a : (pcfg2 (F := F)).Adm) (t : Fin grid2.N) (y : S1x256x2048.Idx) :
    (dat2 c V a q O).arrAt 2 (cfg2 a).N (((win2 a 2).blk t).view.emb y) = k2_pay2 (blk2_0 V a t) (blk2_1 V a t) y := by
  refine (Dat.arrAt_emb_eq_flushed (dat2 c V a q O) 2 (Window.hdisj_of_index_inj _ fun s s' _ _ h => ?_) t (flush2_2 a t) y).trans ?_
  · have h : (win2 a 2).index s = (win2 a 2).index s' := h
    rw [index2_2, index2_2] at h
    have h0 := congrFun h 0
    have h1 := congrFun h 1
    simp only [Matrix.cons_val_zero, Matrix.cons_val_one] at h0 h1
    exact Fin.ext (by omega)
  · rfl

/-- The second result, at an element of a block. -/
theorem at2_3 (a : (pcfg2 (F := F)).Adm) (t : Fin grid2.N) (ht : t.val % 4 = 3) (y : S256x2048.Idx) :
    (dat2 c V a q O).arrAt 3 (cfg2 a).N (((win2 a 3).blk t).view.emb y) = k2_pay1 (blk2_0 V a (keep2 q t)) (blk2_1 V a (keep2 q t)) y := by
  refine (Dat.arrAt_emb_eq_flushed (dat2 c V a q O) 3 (Window.hdisj_of_index_inj _ fun s s' hs hs' h => ?_) t ((flush2_3 a t).trans (decide_eq_true ht)) y).trans ?_
  · have h : (win2 a 3).index s = (win2 a 3).index s' := h
    have hs := of_decide_eq_true ((flush2_3 a s).symm.trans hs)
    have hs' := of_decide_eq_true ((flush2_3 a s').symm.trans hs')
    rw [index2_3, index2_3] at h
    have h0 := congrFun h 0
    simp only [Matrix.cons_val_zero] at h0
    exact Fin.ext (by omega)
  · rfl

variable (m : (ℓ : Loc nD τ sig) → Buf (Elt F) ℓ)

/-- The gradient's block at a point, from the argument. -/
theorem src2 (t : Fin grid2.N) (y : S1x256x2048.Idx) (j : S4x2048x2048.Idx) (h0 : (j 0).val = t.val % 4)
    (h1 : (j 1).val = c.val % 2 * 1024 + t.val / 4 * 256 + (y 1).val) (h2 : (j 2).val = (y 2).val) :
    blk2_0 (V1 m c) (adm2 c) t y = m ((c : Thread nD τ).loc main_arg0) j := by
  rw [← V0_in m c, ← p1_v22_2 m c]
  have hy : (y 0).val < 1 := (y 0).isLt
  refine congrArg (V1 m c (Proc.devRef .tc main_v22_2)) (funext fun b => Fin.ext ?_)
  refine ((win2 (adm2 (F := F) c) 0).rect_emb_val t y b).trans ?_
  rw [index2_0]
  fin_cases b
  · show t.val % 4 * 1 + (y 0).val = (j 0).val
    omega
  · show (c.val % 2 * 4 + t.val / 4) * 256 + (y 1).val = (j 1).val
    omega
  · show 0 * 2048 + (y 2).val = (j 2).val
    omega

/-- The received half's block at a point, from the sibling's argument. -/
theorem got2 (t : Fin grid2.N) (y : S1x256x2048.Idx) (j : S4x2048x2048.Idx) (h0 : (j 0).val = t.val % 4)
    (h1 : (j 1).val = c.val % 2 * 1024 + t.val / 4 * 256 + (y 1).val) (h2 : (j 2).val = (y 2).val) :
    blk2_1 (V1 m c) (adm2 c) t y = m ((peer 1 c : Thread nD τ).loc main_arg0) j := by
  have e : blk2_1 (V1 m c) (adm2 c) t y = V0 m (peer 1 c) (Proc.devRef .tc main_v22_2)
      ((Rect.unit (s := S4x2048x2048) (k0_off1 (peer 1 c)) S4x1024x2048.size (k0_off1_inb (peer 1 c))).emb (((win2 (adm2 (F := F) c) 1).rect t).emb y)) := by
    unfold blk2_1
    rw [V1_v18]
    rfl
  rw [e, ← V0_in m (peer 1 c)]
  have hy : (y 0).val < 1 := (y 0).isLt
  refine congrArg (V0 m (peer 1 c) (Proc.devRef .tc main_v22_2)) (funext fun b => Fin.ext ?_)
  rw [ValueKit.rect_emb_unit_val, (win2 (adm2 (F := F) c) 1).rect_emb_val t y b, index2_1, k0_off1_eq, parityI]
  fin_cases b
  · show 0 + (t.val % 4 * 1 + (y 0).val) = (j 0).val
    omega
  · show 1024 - 1024 * (1 - c.val % 2) + (t.val / 4 * 256 + (y 1).val) = (j 1).val
    omega
  · show 0 + (0 * 2048 + (y 2).val) = (j 2).val
    omega

end

section
open Cert.KernelIdeal.Gen

/-- The sum of two blocks, at an element. -/
theorem pay2_1 (x z : S1x256x2048.Idx → Elt Ideal .f32) (k : S256x2048.Idx) :
    k2_pay1 x z k = x (Fin.cons ⟨0, Nat.one_pos⟩ k) + z (Fin.cons ⟨0, Nat.one_pos⟩ k) :=
  congrArg₂ (fun a b : EReal => a + b) (shapeCast_dropUnit_apply ![256, 2048] x shapeCasts_S1x256x2048_S256x2048 k)
    (shapeCast_dropUnit_apply ![256, 2048] z shapeCasts_S1x256x2048_S256x2048 k)

/-- The same, at an element of the first result's block: the rounding is none over the ideal values. -/
theorem pay2_2 (x z : S1x256x2048.Idx → Elt Ideal .f32) (y : S1x256x2048.Idx) : k2_pay2 x z y = x y + z y := by
  have e : (Fin.cons ⟨0, Nat.one_pos⟩ (fun b : Fin 2 => y b.succ) : S1x256x2048.Idx) = y := by
    have hy : (y 0).val < 1 := (y 0).isLt
    funext b
    refine Fin.cases (Fin.ext ?_) (fun b => rfl) b
    show 0 = (y 0).val
    omega
  refine (shapeCast_addUnit_apply ![256, 2048] (k2_pay1 x z) shapeCasts_S256x2048_S1x256x2048 y).trans ((pay2_1 x z _).trans ?_)
  exact congrArg₂ (fun a b : EReal => a + b) (congrArg x e) (congrArg z e)

variable (m : (ℓ : Loc nD τ sig) → Buf (Elt Ideal) ℓ) (c : Dev nD)

/-- Device `c`'s gradient, as numbers. -/
def argI (m : (ℓ : Loc nD τ sig) → Buf (Elt Ideal) ℓ) (c : Dev nD) : S4x2048x2048.Idx → EReal := m ((c : Thread nD τ).loc main_arg0)

/-- The pair sum holds the two cores' gradients' sum, of the half that is the device's. -/
theorem sumI_at (i : S4x1024x2048.Idx) (j : S4x2048x2048.Idx) (h0 : (j 0).val = (i 0).val)
    (h1 : (j 1).val = c.val % 2 * 1024 + (i 1).val) (h2 : (j 2).val = (i 2).val) :
    sumI m c i = argI m c j + argI m (peer 1 c) j := by
  have i0 : (i 0).val < 4 := (i 0).isLt
  have i1 : (i 1).val < 1024 := (i 1).isLt
  have i2 : (i 2).val < 2048 := (i 2).isLt
  obtain ⟨t, ht⟩ : ∃ t : Fin grid2.N, t.val = (i 1).val / 256 * 4 + (i 0).val := ⟨⟨_, by rw [N_2]; omega⟩, rfl⟩
  obtain ⟨y, hy⟩ : ∃ y : S1x256x2048.Idx, (y 0).val = 0 ∧ (y 1).val = (i 1).val % 256 ∧ (y 2).val = (i 2).val :=
    ⟨ix3 (n0 := 1) (n1 := 256) (n2 := 2048) ⟨0, Nat.one_pos⟩ ⟨(i 1).val % 256, Nat.mod_lt _ (by decide)⟩ ⟨(i 2).val, i2⟩, rfl, rfl, rfl⟩
  have e : i = ((win2 (adm2 (F := Ideal) c) 2).blk t).view.emb y := by
    funext b
    refine Fin.ext (Eq.symm (((win2 (adm2 (F := Ideal) c) 2).rect_emb_val t y b).trans ?_))
    rw [index2_2]
    fin_cases b
    · show t.val % 4 * 1 + (y 0).val = (i 0).val
      omega
    · show t.val / 4 * 256 + (y 1).val = (i 1).val
      omega
    · show 0 * 2048 + (y 2).val = (i 2).val
      omega
  unfold sumI
  rw [e]
  refine (at2_2 c (V1 m c) (chip c) _ (adm2 c) t y).trans ((pay2_2 _ _ _).trans ?_)
  exact congrArg₂ (fun a b : EReal => a + b) (src2 c m t y j (by omega) (by omega) (by omega)) (got2 c m t y j (by omega) (by omega) (by omega))

/-- The part that stays holds the two cores' gradients' sum, of the chip's own block. -/
theorem ownI_at (i : S1024x2048.Idx) (j : S4x2048x2048.Idx) (h0 : (j 0).val = c.val / 2)
    (h1 : (j 1).val = c.val % 2 * 1024 + (i 0).val) (h2 : (j 2).val = (i 1).val) :
    ownI m c i = argI m c j + argI m (peer 1 c) j := by
  have hc : c.val < 8 := c.isLt
  have i0 : (i 0).val < 1024 := (i 0).isLt
  have i1 : (i 1).val < 2048 := (i 1).isLt
  obtain ⟨t, ht⟩ : ∃ t : Fin grid2.N, t.val = (i 0).val / 256 * 4 + 3 := ⟨⟨_, by rw [N_2]; omega⟩, rfl⟩
  have hk : (keep2 (chip c) t).val = (i 0).val / 256 * 4 + c.val / 2 := by
    show t.val / 4 * 4 + c.val / 2 = _
    omega
  obtain ⟨y, hy⟩ : ∃ y : S256x2048.Idx, (y 0).val = (i 0).val % 256 ∧ (y 1).val = (i 1).val :=
    ⟨ix2 (n0 := 256) (n1 := 2048) ⟨(i 0).val % 256, Nat.mod_lt _ (by decide)⟩ ⟨(i 1).val, i1⟩, rfl, rfl⟩
  have e : i = ((win2 (adm2 (F := Ideal) c) 3).blk t).view.emb y := by
    funext b
    refine Fin.ext (Eq.symm (((win2 (adm2 (F := Ideal) c) 3).rect_emb_val t y b).trans ?_))
    rw [index2_3]
    fin_cases b
    · show t.val / 4 * 256 + (y 0).val = (i 0).val
      omega
    · show 0 * 2048 + (y 1).val = (i 1).val
      omega
  unfold ownI
  rw [e]
  refine (at2_3 c (V1 m c) (chip c) _ (adm2 c) t (by omega) y).trans ((pay2_1 _ _ _).trans ?_)
  have y1 : ((Fin.cons ⟨0, Nat.one_pos⟩ y : S1x256x2048.Idx) 1).val = (y 0).val := rfl
  have y2 : ((Fin.cons ⟨0, Nat.one_pos⟩ y : S1x256x2048.Idx) 2).val = (y 1).val := rfl
  exact congrArg₂ (fun a b : EReal => a + b) (src2 c m _ _ j (by omega) (by omega) (by omega)) (got2 c m _ _ j (by omega) (by omega) (by omega))

end

end Cert.Run
-- ==== Proof.Eight.lean ====
module

public import Idealize.ShloMosaic.PureOps.Ideal
public import proofs.«01_k».proof.Proof.Mesh

@[expose] public section

/-! Sums over the eight devices, as a device meets them. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The peers on the other chips are on the same core. -/
theorem evens : ∀ c : Dev nD, (peer 2 c).val % 2 = c.val % 2 ∧ (peer 4 c).val % 2 = c.val % 2 ∧ (peer 6 c).val % 2 = c.val % 2 := by decide
/-- The sibling is on the same chip. -/
theorem halfPeer : ∀ c : Dev nD, (peer 1 c).val / 2 = c.val / 2 := by decide

/-- Two hops are one. -/
theorem hops : ∀ c : Dev nD, peer 1 (peer 4 c) = peer 5 c ∧ peer 1 (peer 2 c) = peer 3 c ∧ peer 1 (peer 6 c) = peer 7 c := by decide

/-- The peers of a device are all the devices. -/
theorem peers (c : Dev nD) : Function.Bijective (fun k : Fin 8 => peer k c) := by
  revert c
  decide

/-- The sum in the order a device meets the terms is the sum. -/
theorem eight (f : Dev nD → EReal) (c : Dev nD) :
    ((f c + f (peer 1 c) + (f (peer 4 c) + f (peer 1 (peer 4 c)))) + (f (peer 2 c) + f (peer 1 (peer 2 c)))) + (f (peer 6 c) + f (peer 1 (peer 6 c)))
      = ∑ d : Dev nD, f d := by
  obtain ⟨h4, h2, h6⟩ := hops c
  have e : ∑ k : Fin 8, f (peer k c) = ∑ d : Dev nD, f d := Fintype.sum_bijective _ (peers c) _ _ fun _ => rfl
  rw [← e, Fin.sum_univ_eight, peer_zero, h4, h2, h6]
  ac_rfl

end Cert.Run
-- ==== Proof.ChipValueIn.lean ====
module

public import proofs.«01_k».proof.Proof.PairValueIn
public import proofs.«01_k».proof.Proof.Eight

@[expose] public section

/-! The chip sum of the larger gradient and the result, element by element. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

section

variable (c : Dev nD) (V : Valuation τ sig (Elt F)) (O : CellTallies nD τ sig Unit)

/-- A point of the grid, through the machine's words. -/
theorem point6 : ∀ t : Fin grid6.N, (BitVec.ofNat 32 (grid6.coords t 0).val).toNat = t.val ∧ (grid6.coords t 0).val = t.val := by decide +kernel

/-- Where the kept sum's blocks lie. -/
theorem index6_0 (a : (pcfg6 (F := F)).Adm) : ∀ t : Fin grid6.N, (win6 a 0).index t = ![t.val, 0] := by
  intro t
  obtain ⟨h0, -⟩ := point6 t
  conv_rhs => rw [← h0]
  rfl
/-- Where the stack's blocks lie. -/
theorem index6_1 (a : (pcfg6 (F := F)).Adm) : ∀ t : Fin grid6.N, (win6 a 1).index t = ![0, t.val, 0] := by
  intro t
  obtain ⟨h0, -⟩ := point6 t
  conv_rhs => rw [← h0]
  rfl
/-- Where the result's blocks lie. -/
theorem index6_2 : ∀ t : Fin grid6.N, (win6 (adm6 (F := F) c) 2).index t = ![c.val % 2 * 4 + t.val, 0] := by
  intro t
  obtain ⟨-, h0⟩ := point6 t
  conv_rhs => rw [← h0]
  exact ix6_tab c _

/-- The result is written back at every point. -/
theorem flush6_2 : ∀ t : Fin grid6.N, (win6 (adm6 (F := F) c) 2).flush t = true := by
  intro t
  unfold Window.flush
  rw [Bool.and_eq_true, Bool.or_eq_true]
  refine ⟨rfl, ?_⟩
  by_cases h : t.val + 1 = grid6.N
  · exact Or.inl (decide_eq_true h)
  · have ht := t.isLt
    refine Or.inr (decide_eq_true ⟨by omega, fun e => ?_⟩)
    rw [index6_2, index6_2] at e
    have h0 := congrFun e 0
    simp only [Matrix.cons_val_zero] at h0
    omega

/-- The result, at an element of a block. -/
theorem at6_2 (t : Fin grid6.N) (y : S256x2048.Idx) :
    (dat6 c V (adm6 (F := F) c) O).arrAt 2 (cfg6 (F := F) (adm6 (F := F) c)).N (((win6 (adm6 (F := F) c) 2).blk t).view.emb y) = tot6 V (adm6 (F := F) c) t y := by
  refine (Dat.arrAt_emb_eq_flushed (dat6 c V (adm6 (F := F) c) O) 2 (Window.hdisj_of_index_inj _ fun s s' _ _ h => ?_) t (flush6_2 c t) y).trans ?_
  · have h : (win6 (adm6 (F := F) c) 2).index s = (win6 (adm6 (F := F) c) 2).index s' := h
    rw [index6_2, index6_2] at h
    have h0 := congrFun h 0
    simp only [Matrix.cons_val_zero] at h0
    exact Fin.ext (by omega)
  · rfl

theorem read6_0 (a : (pcfg6 (F := F)).Adm) (t : Fin grid6.N) (y : S256x2048.Idx) :
    blk6_0 V a t y = V (Proc.devRef .tc main_v24_1) (((win6 a 0).rect t).emb y) := rfl
theorem read6_1 (a : (pcfg6 (F := F)).Adm) (t : Fin grid6.N) (y : S3x256x2048.Idx) :
    blk6_1 V a t y = V (Proc.devRef .tc main_v20) (((win6 a 1).rect t).emb y) := rfl

variable (m : (ℓ : Loc nD τ sig) → Buf (Elt F) ℓ)

/-- The kept sum's block at a point. -/
theorem kept6 (t : Fin grid6.N) (y : S256x2048.Idx) (k : S1024x2048.Idx) (h0 : (k 0).val = t.val * 256 + (y 0).val) (h1 : (k 1).val = (y 1).val) :
    blk6_0 (V5 m c) (adm6 (F := F) c) t y = ownI m c k := by
  have e : V5 m c (Proc.devRef .tc main_v24_1) = ownI m c := by rw [p5_v24_1, V2_v24_1]
  refine (read6_0 (V5 m c) (adm6 c) t y).trans ?_
  rw [e]
  refine congrArg (ownI m c) (funext fun b => Fin.ext ?_)
  refine ((win6 (adm6 (F := F) c) 0).rect_emb_val t y b).trans ?_
  rw [index6_0]
  fin_cases b
  · show t.val * 256 + (y 0).val = (k 0).val
    omega
  · show 0 * 2048 + (y 1).val = (k 1).val
    omega

/-- The stack's block at a point. -/
theorem stack6 (t : Fin grid6.N) (y : S3x256x2048.Idx) (k : S3x1024x2048.Idx) (h0 : (k 0).val = (y 0).val) (h1 : (k 1).val = t.val * 256 + (y 1).val)
    (h2 : (k 2).val = (y 2).val) : blk6_1 (V5 m c) (adm6 (F := F) c) t y = gotI m c k := by
  have e : V5 m c (Proc.devRef .tc main_v20) = gotI m c := by rw [V5_v20]
  refine (read6_1 (V5 m c) (adm6 c) t y).trans ?_
  rw [e]
  refine congrArg (gotI m c) (funext fun b => Fin.ext ?_)
  refine ((win6 (adm6 (F := F) c) 1).rect_emb_val t y b).trans ?_
  rw [index6_1]
  fin_cases b
  · show 0 * 3 + (y 0).val = (k 0).val
    omega
  · show t.val * 256 + (y 1).val = (k 1).val
    omega
  · show 0 * 2048 + (y 2).val = (k 2).val
    omega

theorem planeI_0 : ∀ c : Dev nD, k4_off1 (peer 4 c) = ![c.val / 2, 0, 0] := by
  intro c
  rw [k4_off1_eq]
  revert c
  decide

/-- Plane 0 of the stack is the chip's own block of another chip's pair sum. -/
theorem gotI_0 (i : S3x1024x2048.Idx) (k : S4x1024x2048.Idx) (hi : (i 0).val = 0) (h0 : (k 0).val = c.val / 2) (h1 : (k 1).val = (i 1).val)
    (h2 : (k 2).val = (i 2).val) : gotI m c i = sumI m (peer 4 c) k := by
  obtain ⟨x, hx⟩ : ∃ x : S1024x2048.Idx, (x 0).val = (i 1).val ∧ (x 1).val = (i 2).val :=
    ⟨ix2 (n0 := 1024) (n1 := 2048) ⟨(i 1).val, (i 1).isLt⟩ ⟨(i 2).val, (i 2).isLt⟩, rfl, rfl⟩
  have e1 : (rvI0).view.read (Elt F) (gotI m c) x = gotI m c i := by
    refine (read_main_v20 ![0, 0, 0] inb_S3x1024x2048_S1x1024x2048_0_0_0 (gotI m c) x).trans (congrArg (gotI m c) (funext fun b => Fin.ext ?_))
    rw [ValueKit.rect_emb_unit_val]
    fin_cases b
    · show 0 + 0 = (i 0).val
      omega
    · show 0 + (x 0).val = (i 1).val
      omega
    · show 0 + (x 1).val = (i 2).val
      omega
  have e2 : (rvI0).view.read (Elt F) (gotI m c) x = (scI0 (peer 4 c)).view.read (Elt F) (V3 m (peer 4 c) (Proc.devRef .tc main_v24_0)) x := by
    unfold gotI
    exact stackI_0 _ _ _ _ x
  have e3 : V3 m (peer 4 c) (Proc.devRef .tc main_v24_0) = sumI m (peer 4 c) := by rw [p3_v24_0, V2_v24_0]
  rw [← e1, e2, e3]
  refine (read_main_v24_0 (k4_off1 (peer 4 c)) (k4_off1_inb (peer 4 c)) (sumI m (peer 4 c)) x).trans (congrArg (sumI m (peer 4 c)) (funext fun b => Fin.ext ?_))
  rw [ValueKit.rect_emb_unit_val]
  have q0 : k4_off1 (peer 4 c) 0 = c.val / 2 := congrFun (planeI_0 c) 0
  have q1 : k4_off1 (peer 4 c) 1 = 0 := congrFun (planeI_0 c) 1
  have q2 : k4_off1 (peer 4 c) 2 = 0 := congrFun (planeI_0 c) 2
  fin_cases b
  · show k4_off1 (peer 4 c) 0 + 0 = (k 0).val
    omega
  · show k4_off1 (peer 4 c) 1 + (x 0).val = (k 1).val
    omega
  · show k4_off1 (peer 4 c) 2 + (x 1).val = (k 2).val
    omega

theorem planeI_1 : ∀ c : Dev nD, k4_off3 (peer 2 c) = ![c.val / 2, 0, 0] := by
  intro c
  rw [k4_off3_eq]
  revert c
  decide

/-- Plane 1 of the stack is the chip's own block of another chip's pair sum. -/
theorem gotI_1 (i : S3x1024x2048.Idx) (k : S4x1024x2048.Idx) (hi : (i 0).val = 1) (h0 : (k 0).val = c.val / 2) (h1 : (k 1).val = (i 1).val)
    (h2 : (k 2).val = (i 2).val) : gotI m c i = sumI m (peer 2 c) k := by
  obtain ⟨x, hx⟩ : ∃ x : S1024x2048.Idx, (x 0).val = (i 1).val ∧ (x 1).val = (i 2).val :=
    ⟨ix2 (n0 := 1024) (n1 := 2048) ⟨(i 1).val, (i 1).isLt⟩ ⟨(i 2).val, (i 2).isLt⟩, rfl, rfl⟩
  have e1 : (rvI1).view.read (Elt F) (gotI m c) x = gotI m c i := by
    refine (read_main_v20 ![1, 0, 0] inb_S3x1024x2048_S1x1024x2048_1_0_0 (gotI m c) x).trans (congrArg (gotI m c) (funext fun b => Fin.ext ?_))
    rw [ValueKit.rect_emb_unit_val]
    fin_cases b
    · show 1 + 0 = (i 0).val
      omega
    · show 0 + (x 0).val = (i 1).val
      omega
    · show 0 + (x 1).val = (i 2).val
      omega
  have e2 : (rvI1).view.read (Elt F) (gotI m c) x = (scI1 (peer 2 c)).view.read (Elt F) (V3 m (peer 2 c) (Proc.devRef .tc main_v24_0)) x := by
    unfold gotI
    exact stackI_1 _ _ _ _ x
  have e3 : V3 m (peer 2 c) (Proc.devRef .tc main_v24_0) = sumI m (peer 2 c) := by rw [p3_v24_0, V2_v24_0]
  rw [← e1, e2, e3]
  refine (read_main_v24_0 (k4_off3 (peer 2 c)) (k4_off3_inb (peer 2 c)) (sumI m (peer 2 c)) x).trans (congrArg (sumI m (peer 2 c)) (funext fun b => Fin.ext ?_))
  rw [ValueKit.rect_emb_unit_val]
  have q0 : k4_off3 (peer 2 c) 0 = c.val / 2 := congrFun (planeI_1 c) 0
  have q1 : k4_off3 (peer 2 c) 1 = 0 := congrFun (planeI_1 c) 1
  have q2 : k4_off3 (peer 2 c) 2 = 0 := congrFun (planeI_1 c) 2
  fin_cases b
  · show k4_off3 (peer 2 c) 0 + 0 = (k 0).val
    omega
  · show k4_off3 (peer 2 c) 1 + (x 0).val = (k 1).val
    omega
  · show k4_off3 (peer 2 c) 2 + (x 1).val = (k 2).val
    omega

theorem planeI_2 : ∀ c : Dev nD, k4_off5 (peer 6 c) = ![c.val / 2, 0, 0] := by
  intro c
  rw [k4_off5_eq]
  revert c
  decide

/-- Plane 2 of the stack is the chip's own block of another chip's pair sum. -/
theorem gotI_2 (i : S3x1024x2048.Idx) (k : S4x1024x2048.Idx) (hi : (i 0).val = 2) (h0 : (k 0).val = c.val / 2) (h1 : (k 1).val = (i 1).val)
    (h2 : (k 2).val = (i 2).val) : gotI m c i = sumI m (peer 6 c) k := by
  obtain ⟨x, hx⟩ : ∃ x : S1024x2048.Idx, (x 0).val = (i 1).val ∧ (x 1).val = (i 2).val :=
    ⟨ix2 (n0 := 1024) (n1 := 2048) ⟨(i 1).val, (i 1).isLt⟩ ⟨(i 2).val, (i 2).isLt⟩, rfl, rfl⟩
  have e1 : (rvI2).view.read (Elt F) (gotI m c) x = gotI m c i := by
    refine (read_main_v20 ![2, 0, 0] inb_S3x1024x2048_S1x1024x2048_2_0_0 (gotI m c) x).trans (congrArg (gotI m c) (funext fun b => Fin.ext ?_))
    rw [ValueKit.rect_emb_unit_val]
    fin_cases b
    · show 2 + 0 = (i 0).val
      omega
    · show 0 + (x 0).val = (i 1).val
      omega
    · show 0 + (x 1).val = (i 2).val
      omega
  have e2 : (rvI2).view.read (Elt F) (gotI m c) x = (scI2 (peer 6 c)).view.read (Elt F) (V3 m (peer 6 c) (Proc.devRef .tc main_v24_0)) x := by
    unfold gotI
    exact stackI_2 _ _ _ _ x
  have e3 : V3 m (peer 6 c) (Proc.devRef .tc main_v24_0) = sumI m (peer 6 c) := by rw [p3_v24_0, V2_v24_0]
  rw [← e1, e2, e3]
  refine (read_main_v24_0 (k4_off5 (peer 6 c)) (k4_off5_inb (peer 6 c)) (sumI m (peer 6 c)) x).trans (congrArg (sumI m (peer 6 c)) (funext fun b => Fin.ext ?_))
  rw [ValueKit.rect_emb_unit_val]
  have q0 : k4_off5 (peer 6 c) 0 = c.val / 2 := congrFun (planeI_2 c) 0
  have q1 : k4_off5 (peer 6 c) 1 = 0 := congrFun (planeI_2 c) 1
  have q2 : k4_off5 (peer 6 c) 2 = 0 := congrFun (planeI_2 c) 2
  fin_cases b
  · show k4_off5 (peer 6 c) 0 + 0 = (k 0).val
    omega
  · show k4_off5 (peer 6 c) 1 + (x 0).val = (k 1).val
    omega
  · show k4_off5 (peer 6 c) 2 + (x 1).val = (k 2).val
    omega

end

section

/-- The sum of the kept block and the stack's three, at an element. -/
theorem pay6 (x : S256x2048.Idx → Elt Ideal .f32) (w : S3x256x2048.Idx → Elt Ideal .bf16) (k : S256x2048.Idx) (z0 z1 z2 : S3x256x2048.Idx)
    (h0 : (z0 0).val = 0 ∧ (z0 1).val = (k 0).val ∧ (z0 2).val = (k 1).val) (h1 : (z1 0).val = 1 ∧ (z1 1).val = (k 0).val ∧ (z1 2).val = (k 1).val)
    (h2 : (z2 0).val = 2 ∧ (z2 1).val = (k 0).val ∧ (z2 2).val = (k 1).val) :
    k6_pay1 x (plane0 w) (plane1 w) (plane2 w) k = ((x k + w z0 : EReal) + w z1 : EReal) + w z2 := by
  have e (p : ℕ) (hb : ∀ a, (![p, 0, 0] : Fin 3 → ℕ) a + S1x256x2048.size a ≤ S3x256x2048.size a) (z : S3x256x2048.Idx)
      (h : (z 0).val = p ∧ (z 1).val = (k 0).val ∧ (z 2).val = (k 1).val) :
      shapeCast S256x2048 (fun y : S1x256x2048.Idx => w ((Rect.unit (s := S3x256x2048) ![p, 0, 0] S1x256x2048.size hb).emb y)) shapeCasts_S1x256x2048_S256x2048 k = w z := by
    refine (shapeCast_dropUnit_apply ![256, 2048] _ shapeCasts_S1x256x2048_S256x2048 k).trans (congrArg w (funext fun b => Fin.ext ?_))
    rw [ValueKit.rect_emb_unit_val]
    obtain ⟨a0, a1, a2⟩ := h
    fin_cases b
    · show p + 0 = (z 0).val
      omega
    · show 0 + (k 0).val = (z 1).val
      omega
    · show 0 + (k 1).val = (z 2).val
      omega
  refine congrArg₂ (fun a b : EReal => a + b) (congrArg₂ (fun a b : EReal => a + b) (congrArg₂ (fun a b : EReal => a + b) ?_ (e 0 _ z0 h0)) (e 1 _ z1 h1)) (e 2 _ z2 h2)
  exact congrFun (shapeCast_self x shapeCasts_S256x2048_S256x2048) k

variable (m : (ℓ : Loc nD τ sig) → Buf (Elt Ideal) ℓ) (c : Dev nD)

set_option maxHeartbeats 2000000 in
/-- The chip sum holds the eight devices' gradients' sum, in the device's half. -/
theorem totI_at (i : S2048x2048.Idx) (j : S4x2048x2048.Idx) (hi : (i 0).val / 1024 = c.val % 2) (h0 : (j 0).val = c.val / 2)
    (h1 : (j 1).val = (i 0).val) (h2 : (j 2).val = (i 1).val) : totI m c i = ∑ d : Dev nD, argI m d j := by
  have i0 : (i 0).val < 2048 := (i 0).isLt
  have i1 : (i 1).val < 2048 := (i 1).isLt
  have hc : c.val < 8 := c.isLt
  obtain ⟨t, ht⟩ : ∃ t : Fin grid6.N, t.val = (i 0).val % 1024 / 256 := ⟨⟨_, by rw [N_6]; omega⟩, rfl⟩
  obtain ⟨y, hy⟩ : ∃ y : S256x2048.Idx, (y 0).val = (i 0).val % 256 ∧ (y 1).val = (i 1).val :=
    ⟨ix2 (n0 := 256) (n1 := 2048) ⟨(i 0).val % 256, Nat.mod_lt _ (by decide)⟩ ⟨(i 1).val, i1⟩, rfl, rfl⟩
  have e : i = ((win6 (adm6 (F := Ideal) c) 2).blk t).view.emb y := by
    funext b
    refine Fin.ext (Eq.symm (((win6 (adm6 (F := Ideal) c) 2).rect_emb_val t y b).trans ?_))
    rw [index6_2]
    fin_cases b
    · show (c.val % 2 * 4 + t.val) * 256 + (y 0).val = (i 0).val
      omega
    · show 0 * 2048 + (y 1).val = (i 1).val
      omega
  obtain ⟨k, hk⟩ : ∃ k : S1024x2048.Idx, (k 0).val = (i 0).val % 1024 ∧ (k 1).val = (i 1).val :=
    ⟨ix2 (n0 := 1024) (n1 := 2048) ⟨(i 0).val % 1024, Nat.mod_lt _ (by decide)⟩ ⟨(i 1).val, i1⟩, rfl, rfl⟩
  have z (p : ℕ) (hp : p < 3) : ∃ z : S3x256x2048.Idx, (z 0).val = p ∧ (z 1).val = (y 0).val ∧ (z 2).val = (y 1).val :=
    ⟨ix3 (n0 := 3) (n1 := 256) (n2 := 2048) ⟨p, hp⟩ ⟨(y 0).val, (y 0).isLt⟩ ⟨(y 1).val, (y 1).isLt⟩, rfl, rfl, rfl⟩
  have w (p : ℕ) (hp : p < 3) : ∃ w : S3x1024x2048.Idx, (w 0).val = p ∧ (w 1).val = (i 0).val % 1024 ∧ (w 2).val = (i 1).val :=
    ⟨ix3 (n0 := 3) (n1 := 1024) (n2 := 2048) ⟨p, hp⟩ ⟨(i 0).val % 1024, Nat.mod_lt _ (by decide)⟩ ⟨(i 1).val, i1⟩, rfl, rfl, rfl⟩
  obtain ⟨s, hs⟩ : ∃ s : S4x1024x2048.Idx, (s 0).val = c.val / 2 ∧ (s 1).val = (i 0).val % 1024 ∧ (s 2).val = (i 1).val :=
    ⟨ix3 (n0 := 4) (n1 := 1024) (n2 := 2048) ⟨c.val / 2, by omega⟩ ⟨(i 0).val % 1024, Nat.mod_lt _ (by decide)⟩ ⟨(i 1).val, i1⟩, rfl, rfl, rfl⟩
  obtain ⟨z0, hz0⟩ := z 0 (by decide)
  obtain ⟨z1, hz1⟩ := z 1 (by decide)
  obtain ⟨z2, hz2⟩ := z 2 (by decide)
  obtain ⟨w0, hw0⟩ := w 0 (by decide)
  obtain ⟨w1, hw1⟩ := w 1 (by decide)
  obtain ⟨w2, hw2⟩ := w 2 (by decide)
  obtain ⟨p2, p4, p6⟩ := evens c
  have a : blk6_0 (V5 m c) (adm6 (F := Ideal) c) t y = argI m c j + argI m (peer 1 c) j :=
    (kept6 c m t y k (by omega) (by omega)).trans (ownI_at m c k j (by omega) (by omega) (by omega))
  have b0 : blk6_1 (V5 m c) (adm6 (F := Ideal) c) t z0 = argI m (peer 4 c) j + argI m (peer 1 (peer 4 c)) j :=
    (stack6 c m t z0 w0 (by omega) (by omega) (by omega)).trans ((gotI_0 c m w0 s (by omega) (by omega) (by omega) (by omega)).trans
      (sumI_at m (peer 4 c) s j (by omega) (by rw [p4]; omega) (by omega)))
  have b1 : blk6_1 (V5 m c) (adm6 (F := Ideal) c) t z1 = argI m (peer 2 c) j + argI m (peer 1 (peer 2 c)) j :=
    (stack6 c m t z1 w1 (by omega) (by omega) (by omega)).trans ((gotI_1 c m w1 s (by omega) (by omega) (by omega) (by omega)).trans
      (sumI_at m (peer 2 c) s j (by omega) (by rw [p2]; omega) (by omega)))
  have b2 : blk6_1 (V5 m c) (adm6 (F := Ideal) c) t z2 = argI m (peer 6 c) j + argI m (peer 1 (peer 6 c)) j :=
    (stack6 c m t z2 w2 (by omega) (by omega) (by omega)).trans ((gotI_2 c m w2 s (by omega) (by omega) (by omega) (by omega)).trans
      (sumI_at m (peer 6 c) s j (by omega) (by rw [p6]; omega) (by omega)))
  unfold totI
  rw [e]
  refine (at6_2 c (V5 m c) _ t y).trans ((pay6 _ _ y z0 z1 z2 hz0 hz1 hz2).trans ?_)
  refine (congrArg₂ (fun a b : EReal => a + b) (congrArg₂ (fun a b : EReal => a + b) (congrArg₂ (fun a b : EReal => a + b) a b0) b1) b2).trans ?_
  exact eight (fun d => argI m d j) c

/-- Within the sibling's half the joined result is the sibling's. -/
theorem joinedI_in (c : Dev nD) (f g : S2048x2048.Idx → Elt Ideal .f32) (i : S2048x2048.Idx) (hi : i ∈ (jnI (peer 1 c)).view.set) :
    joinedI c f g i = g i := by
  obtain ⟨x, -, rfl⟩ := Finset.mem_map.mp hi
  unfold joinedI
  rw [View.write_emb_of_mem _ _ (Finset.mem_univ x)]
  rfl

/-- Outside it is the device's own. -/
theorem joinedI_out (c : Dev nD) (f g : S2048x2048.Idx → Elt Ideal .f32) (i : S2048x2048.Idx) (hi : i ∉ (jnI (peer 1 c)).view.set) :
    joinedI c f g i = f i := by
  unfold joinedI
  rw [View.write_of_not_mem (v := (jnI (peer 1 c)).view)]
  rwa [View.setOn_univ]

/-- After the join a device's result is the eight devices' gradients' sum, of its chip's block. -/
theorem resI_at (i : S2048x2048.Idx) (j : S4x2048x2048.Idx) (h0 : (j 0).val = c.val / 2)
    (h1 : (j 1).val = (i 0).val) (h2 : (j 2).val = (i 1).val) : V8 m c (Proc.devRef .tc main_v28) i = ∑ d : Dev nD, argI m d j := by
  have i0 : (i 0).val < 2048 := (i 0).isLt
  have e (d : Dev nD) : V7 m d (Proc.devRef .tc main_v28) = totI m d := by rw [p7_v28, V6_v28]
  have hp := parityI c
  have hm := resI (peer 1 c) i
  rw [hp] at hm
  rw [V8_v28, e c, e (peer 1 c)]
  by_cases hi : (i 0).val / 1024 = c.val % 2
  · refine (joinedI_out c _ _ i (fun h => ?_)).trans (totI_at m c i j hi h0 h1 h2)
    have := hm.1 h
    omega
  · exact (joinedI_in c _ _ i (hm.2 (by omega))).trans (totI_at m (peer 1 c) i j (by omega) (by rw [h0, halfPeer c]) h1 h2)

end

end Cert.Run
-- ==== Proof.PairValueOut.lean ====
module

public import Idealize.ShloMosaic.Lib.Pipeline.ValueKit
public import Idealize.ShloMosaic.Lib.Pointwise.Index
public import proofs.«01_k».proof.Proof.Stage

@[expose] public section

/-! The pair sum of the smaller gradient, element by element. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

section

/-- A point of the grid, by its coordinates. -/
theorem coords3 : ∀ t : Fin grid3.N, (grid3.coords t 0).val = t.val / 4 ∧ (grid3.coords t 1).val = t.val % 4 := by decide +kernel

/-- The same, through the machine's words. -/
theorem point3 : ∀ t : Fin grid3.N, (BitVec.ofNat 32 (grid3.coords t 0).val).toNat = t.val / 4 ∧ (BitVec.ofNat 32 (grid3.coords t 1).val).toNat = t.val % 4 := by decide +kernel

variable (c : Dev nD) (V : Valuation τ sig (Elt F)) (q : Fin 4) (O : CellTallies nD τ sig Unit)

/-- Where the first result's blocks lie. -/
theorem index3_2 (a : (pcfg3 (F := F)).Adm) : ∀ t : Fin grid3.N, (win3 a 2).index t = ![t.val % 4, t.val / 4, 0] := by
  intro t
  obtain ⟨h0, h1⟩ := point3 t
  rw [← h0, ← h1]
  rfl
/-- Where the second result's blocks lie. -/
theorem index3_3 (a : (pcfg3 (F := F)).Adm) : ∀ t : Fin grid3.N, (win3 a 3).index t = ![t.val / 4, 0] := by
  intro t
  obtain ⟨h0, h1⟩ := point3 t
  rw [← h0]
  rfl
/-- Where the received half's blocks lie. -/
theorem index3_1 (a : (pcfg3 (F := F)).Adm) : ∀ t : Fin grid3.N, (win3 a 1).index t = ![t.val % 4, t.val / 4, 0] := by
  intro t
  obtain ⟨h0, h1⟩ := point3 t
  rw [← h0, ← h1]
  rfl
/-- Where the gradient's blocks lie. -/
theorem index3_0 : ∀ t : Fin grid3.N, (win3 (adm3 (F := F) c) 0).index t = ![t.val % 4, c.val % 2 * 1 + t.val / 4, 0] := by
  intro t
  obtain ⟨h0, h1⟩ := coords3 t
  rw [← h0, ← h1]
  exact (ix3_tab (F := F) c _).trans (by rw [Nat.mul_one])

/-- The first result is written back at every point. -/
theorem flush3_2 (a : (pcfg3 (F := F)).Adm) : ∀ t : Fin grid3.N, (win3 a 2).flush t = true :=
  of_decide_eq_true (Eq.refl true)

/-- The first result, at an element of a block. -/
theorem at3_2 (a : (pcfg3 (F := F)).Adm) (t : Fin grid3.N) (y : S1x256x2048.Idx) :
    (dat3 c V a q O).arrAt 2 (cfg3 a).N (((win3 a 2).blk t).view.emb y) = k3_pay2 (blk3_0 V a t) (blk3_1 V a t) y := by
  refine (Dat.arrAt_emb_eq_flushed (dat3 c V a q O) 2 (Window.hdisj_of_index_inj _ fun s s' _ _ h => ?_) t (flush3_2 a t) y).trans ?_
  · have h : (win3 a 2).index s = (win3 a 2).index s' := h
    rw [index3_2, index3_2] at h
    have h0 := congrFun h 0
    have h1 := congrFun h 1
    simp only [Matrix.cons_val_zero, Matrix.cons_val_one] at h0 h1
    exact Fin.ext (by omega)
  · rfl

/-- The second result, at an element of a block. -/
theorem at3_3 (a : (pcfg3 (F := F)).Adm) (t : Fin grid3.N) (ht : t.val % 4 = 3) (y : S256x2048.Idx) :
    (dat3 c V a q O).arrAt 3 (cfg3 a).N (((win3 a 3).blk t).view.emb y) = k3_pay1 (blk3_0 V a (keep3 q t)) (blk3_1 V a (keep3 q t)) y := by
  refine (Dat.arrAt_emb_eq_flushed (dat3 c V a q O) 3 (Window.hdisj_of_index_inj _ fun s s' hs hs' h => ?_) t ((flush3_3 a t).trans (decide_eq_true ht)) y).trans ?_
  · have h : (win3 a 3).index s = (win3 a 3).index s' := h
    have hs := of_decide_eq_true ((flush3_3 a s).symm.trans hs)
    have hs' := of_decide_eq_true ((flush3_3 a s').symm.trans hs')
    rw [index3_3, index3_3] at h
    have h0 := congrFun h 0
    simp only [Matrix.cons_val_zero] at h0
    exact Fin.ext (by omega)
  · rfl

variable (m : (ℓ : Loc nD τ sig) → Buf (Elt F) ℓ)

/-- The gradient's block at a point, from the argument. -/
theorem src3 (t : Fin grid3.N) (y : S1x256x2048.Idx) (j : S4x512x2048.Idx) (h0 : (j 0).val = t.val % 4)
    (h1 : (j 1).val = c.val % 2 * 256 + t.val / 4 * 256 + (y 1).val) (h2 : (j 2).val = (y 2).val) :
    blk3_0 (V2 m c) (adm3 c) t y = m ((c : Thread nD τ).loc main_arg1) j := by
  rw [← V0_out m c, ← p2_v22_3 m c]
  have hy : (y 0).val < 1 := (y 0).isLt
  refine congrArg (V2 m c (Proc.devRef .tc main_v22_3)) (funext fun b => Fin.ext ?_)
  refine ((win3 (adm3 (F := F) c) 0).rect_emb_val t y b).trans ?_
  rw [index3_0]
  fin_cases b
  · show t.val % 4 * 1 + (y 0).val = (j 0).val
    omega
  · show (c.val % 2 * 1 + t.val / 4) * 256 + (y 1).val = (j 1).val
    omega
  · show 0 * 2048 + (y 2).val = (j 2).val
    omega

/-- The received half's block at a point, from the sibling's argument. -/
theorem got3 (t : Fin grid3.N) (y : S1x256x2048.Idx) (j : S4x512x2048.Idx) (h0 : (j 0).val = t.val % 4)
    (h1 : (j 1).val = c.val % 2 * 256 + t.val / 4 * 256 + (y 1).val) (h2 : (j 2).val = (y 2).val) :
    blk3_1 (V2 m c) (adm3 c) t y = m ((peer 1 c : Thread nD τ).loc main_arg1) j := by
  have e : blk3_1 (V2 m c) (adm3 c) t y = V0 m (peer 1 c) (Proc.devRef .tc main_v22_3)
      ((Rect.unit (s := S4x512x2048) (k0_off2 (peer 1 c)) S4x256x2048.size (k0_off2_inb (peer 1 c))).emb (((win3 (adm3 (F := F) c) 1).rect t).emb y)) := by
    unfold blk3_1
    rw [p2_v19, V1_v19]
    rfl
  rw [e, ← V0_out m (peer 1 c)]
  have hy : (y 0).val < 1 := (y 0).isLt
  refine congrArg (V0 m (peer 1 c) (Proc.devRef .tc main_v22_3)) (funext fun b => Fin.ext ?_)
  rw [ValueKit.rect_emb_unit_val, (win3 (adm3 (F := F) c) 1).rect_emb_val t y b, index3_1, k0_off2_eq, parityO]
  fin_cases b
  · show 0 + (t.val % 4 * 1 + (y 0).val) = (j 0).val
    omega
  · show 256 - 256 * (1 - c.val % 2) + (t.val / 4 * 256 + (y 1).val) = (j 1).val
    omega
  · show 0 + (0 * 2048 + (y 2).val) = (j 2).val
    omega

end

section
open Cert.KernelIdeal.Gen

/-- The sum of two blocks, at an element. -/
theorem pay3_1 (x z : S1x256x2048.Idx → Elt Ideal .f32) (k : S256x2048.Idx) :
    k3_pay1 x z k = x (Fin.cons ⟨0, Nat.one_pos⟩ k) + z (Fin.cons ⟨0, Nat.one_pos⟩ k) :=
  congrArg₂ (fun a b : EReal => a + b) (shapeCast_dropUnit_apply ![256, 2048] x shapeCasts_S1x256x2048_S256x2048 k)
    (shapeCast_dropUnit_apply ![256, 2048] z shapeCasts_S1x256x2048_S256x2048 k)

/-- The same, at an element of the first result's block: the rounding is none over the ideal values. -/
theorem pay3_2 (x z : S1x256x2048.Idx → Elt Ideal .f32) (y : S1x256x2048.Idx) : k3_pay2 x z y = x y + z y := by
  have e : (Fin.cons ⟨0, Nat.one_pos⟩ (fun b : Fin 2 => y b.succ) : S1x256x2048.Idx) = y := by
    have hy : (y 0).val < 1 := (y 0).isLt
    funext b
    refine Fin.cases (Fin.ext ?_) (fun b => rfl) b
    show 0 = (y 0).val
    omega
  refine (shapeCast_addUnit_apply ![256, 2048] (k3_pay1 x z) shapeCasts_S256x2048_S1x256x2048 y).trans ((pay3_1 x z _).trans ?_)
  exact congrArg₂ (fun a b : EReal => a + b) (congrArg x e) (congrArg z e)

variable (m : (ℓ : Loc nD τ sig) → Buf (Elt Ideal) ℓ) (c : Dev nD)

/-- Device `c`'s gradient, as numbers. -/
def argO (m : (ℓ : Loc nD τ sig) → Buf (Elt Ideal) ℓ) (c : Dev nD) : S4x512x2048.Idx → EReal := m ((c : Thread nD τ).loc main_arg1)

/-- The pair sum holds the two cores' gradients' sum, of the half that is the device's. -/
theorem sumO_at (i : S4x256x2048.Idx) (j : S4x512x2048.Idx) (h0 : (j 0).val = (i 0).val)
    (h1 : (j 1).val = c.val % 2 * 256 + (i 1).val) (h2 : (j 2).val = (i 2).val) :
    sumO m c i = argO m c j + argO m (peer 1 c) j := by
  have i0 : (i 0).val < 4 := (i 0).isLt
  have i1 : (i 1).val < 256 := (i 1).isLt
  have i2 : (i 2).val < 2048 := (i 2).isLt
  obtain ⟨t, ht⟩ : ∃ t : Fin grid3.N, t.val = (i 1).val / 256 * 4 + (i 0).val := ⟨⟨_, by rw [N_3]; omega⟩, rfl⟩
  obtain ⟨y, hy⟩ : ∃ y : S1x256x2048.Idx, (y 0).val = 0 ∧ (y 1).val = (i 1).val % 256 ∧ (y 2).val = (i 2).val :=
    ⟨ix3 (n0 := 1) (n1 := 256) (n2 := 2048) ⟨0, Nat.one_pos⟩ ⟨(i 1).val % 256, Nat.mod_lt _ (by decide)⟩ ⟨(i 2).val, i2⟩, rfl, rfl, rfl⟩
  have e : i = ((win3 (adm3 (F := Ideal) c) 2).blk t).view.emb y := by
    funext b
    refine Fin.ext (Eq.symm (((win3 (adm3 (F := Ideal) c) 2).rect_emb_val t y b).trans ?_))
    rw [index3_2]
    fin_cases b
    · show t.val % 4 * 1 + (y 0).val = (i 0).val
      omega
    · show t.val / 4 * 256 + (y 1).val = (i 1).val
      omega
    · show 0 * 2048 + (y 2).val = (i 2).val
      omega
  unfold sumO
  rw [e]
  refine (at3_2 c (V2 m c) (chip c) _ (adm3 c) t y).trans ((pay3_2 _ _ _).trans ?_)
  exact congrArg₂ (fun a b : EReal => a + b) (src3 c m t y j (by omega) (by omega) (by omega)) (got3 c m t y j (by omega) (by omega) (by omega))

/-- The part that stays holds the two cores' gradients' sum, of the chip's own block. -/
theorem ownO_at (i : S256x2048.Idx) (j : S4x512x2048.Idx) (h0 : (j 0).val = c.val / 2)
    (h1 : (j 1).val = c.val % 2 * 256 + (i 0).val) (h2 : (j 2).val = (i 1).val) :
    ownO m c i = argO m c j + argO m (peer 1 c) j := by
  have hc : c.val < 8 := c.isLt
  have i0 : (i 0).val < 256 := (i 0).isLt
  have i1 : (i 1).val < 2048 := (i 1).isLt
  obtain ⟨t, ht⟩ : ∃ t : Fin grid3.N, t.val = (i 0).val / 256 * 4 + 3 := ⟨⟨_, by rw [N_3]; omega⟩, rfl⟩
  have hk : (keep3 (chip c) t).val = (i 0).val / 256 * 4 + c.val / 2 := by
    show t.val / 4 * 4 + c.val / 2 = _
    omega
  obtain ⟨y, hy⟩ : ∃ y : S256x2048.Idx, (y 0).val = (i 0).val % 256 ∧ (y 1).val = (i 1).val :=
    ⟨ix2 (n0 := 256) (n1 := 2048) ⟨(i 0).val % 256, Nat.mod_lt _ (by decide)⟩ ⟨(i 1).val, i1⟩, rfl, rfl⟩
  have e : i = ((win3 (adm3 (F := Ideal) c) 3).blk t).view.emb y := by
    funext b
    refine Fin.ext (Eq.symm (((win3 (adm3 (F := Ideal) c) 3).rect_emb_val t y b).trans ?_))
    rw [index3_3]
    fin_cases b
    · show t.val / 4 * 256 + (y 0).val = (i 0).val
      omega
    · show 0 * 2048 + (y 1).val = (i 1).val
      omega
  unfold ownO
  rw [e]
  refine (at3_3 c (V2 m c) (chip c) _ (adm3 c) t (by omega) y).trans ((pay3_1 _ _ _).trans ?_)
  have y1 : ((Fin.cons ⟨0, Nat.one_pos⟩ y : S1x256x2048.Idx) 1).val = (y 0).val := rfl
  have y2 : ((Fin.cons ⟨0, Nat.one_pos⟩ y : S1x256x2048.Idx) 2).val = (y 1).val := rfl
  exact congrArg₂ (fun a b : EReal => a + b) (src3 c m _ _ j (by omega) (by omega) (by omega)) (got3 c m _ _ j (by omega) (by omega) (by omega))

end

end Cert.Run
-- ==== Proof.ChipValueOut.lean ====
module

public import proofs.«01_k».proof.Proof.PairValueOut
public import proofs.«01_k».proof.Proof.Eight

@[expose] public section

/-! The chip sum of the smaller gradient and the result, element by element. -/

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

section

variable (c : Dev nD) (V : Valuation τ sig (Elt F)) (O : CellTallies nD τ sig Unit)

/-- A point of the grid, through the machine's words. -/
theorem point7 : ∀ t : Fin grid7.N, (BitVec.ofNat 32 (grid7.coords t 0).val).toNat = t.val ∧ (grid7.coords t 0).val = t.val := by decide +kernel

/-- Where the kept sum's blocks lie. -/
theorem index7_0 (a : (pcfg7 (F := F)).Adm) : ∀ t : Fin grid7.N, (win7 a 0).index t = ![t.val, 0] := by
  intro t
  obtain ⟨h0, -⟩ := point7 t
  conv_rhs => rw [← h0]
  rfl
/-- Where the stack's blocks lie. -/
theorem index7_1 (a : (pcfg7 (F := F)).Adm) : ∀ t : Fin grid7.N, (win7 a 1).index t = ![0, t.val, 0] := by
  intro t
  obtain ⟨h0, -⟩ := point7 t
  conv_rhs => rw [← h0]
  rfl
/-- Where the result's blocks lie. -/
theorem index7_2 : ∀ t : Fin grid7.N, (win7 (adm7 (F := F) c) 2).index t = ![c.val % 2 * 1 + t.val, 0] := by
  intro t
  obtain ⟨-, h0⟩ := point7 t
  conv_rhs => rw [← h0]
  exact (ix7_tab (F := F) c _).trans (by rw [Nat.mul_one])

/-- The result is written back at every point. -/
theorem flush7_2 : ∀ t : Fin grid7.N, (win7 (adm7 (F := F) c) 2).flush t = true := by
  intro t
  unfold Window.flush
  rw [Bool.and_eq_true, Bool.or_eq_true]
  refine ⟨rfl, ?_⟩
  by_cases h : t.val + 1 = grid7.N
  · exact Or.inl (decide_eq_true h)
  · have ht := t.isLt
    refine Or.inr (decide_eq_true ⟨by omega, fun e => ?_⟩)
    rw [index7_2, index7_2] at e
    have h0 := congrFun e 0
    simp only [Matrix.cons_val_zero] at h0
    omega

/-- The result, at an element of a block. -/
theorem at7_2 (t : Fin grid7.N) (y : S256x2048.Idx) :
    (dat7 c V (adm7 (F := F) c) O).arrAt 2 (cfg7 (F := F) (adm7 (F := F) c)).N (((win7 (adm7 (F := F) c) 2).blk t).view.emb y) = tot7 V (adm7 (F := F) c) t y := by
  refine (Dat.arrAt_emb_eq_flushed (dat7 c V (adm7 (F := F) c) O) 2 (Window.hdisj_of_index_inj _ fun s s' _ _ h => ?_) t (flush7_2 c t) y).trans ?_
  · have h : (win7 (adm7 (F := F) c) 2).index s = (win7 (adm7 (F := F) c) 2).index s' := h
    rw [index7_2, index7_2] at h
    have h0 := congrFun h 0
    simp only [Matrix.cons_val_zero] at h0
    exact Fin.ext (by omega)
  · rfl

theorem read7_0 (a : (pcfg7 (F := F)).Adm) (t : Fin grid7.N) (y : S256x2048.Idx) :
    blk7_0 V a t y = V (Proc.devRef .tc main_v25_1) (((win7 a 0).rect t).emb y) := rfl
theorem read7_1 (a : (pcfg7 (F := F)).Adm) (t : Fin grid7.N) (y : S3x256x2048.Idx) :
    blk7_1 V a t y = V (Proc.devRef .tc main_v21) (((win7 a 1).rect t).emb y) := rfl

variable (m : (ℓ : Loc nD τ sig) → Buf (Elt F) ℓ)

/-- The kept sum's block at a point. -/
theorem kept7 (t : Fin grid7.N) (y : S256x2048.Idx) (k : S256x2048.Idx) (h0 : (k 0).val = t.val * 256 + (y 0).val) (h1 : (k 1).val = (y 1).val) :
    blk7_0 (V6 m c) (adm7 (F := F) c) t y = ownO m c k := by
  have e : V6 m c (Proc.devRef .tc main_v25_1) = ownO m c := by rw [p6_v25_1, V3_v25_1]
  refine (read7_0 (V6 m c) (adm7 c) t y).trans ?_
  rw [e]
  refine congrArg (ownO m c) (funext fun b => Fin.ext ?_)
  refine ((win7 (adm7 (F := F) c) 0).rect_emb_val t y b).trans ?_
  rw [index7_0]
  fin_cases b
  · show t.val * 256 + (y 0).val = (k 0).val
    omega
  · show 0 * 2048 + (y 1).val = (k 1).val
    omega

/-- The stack's block at a point. -/
theorem stack7 (t : Fin grid7.N) (y : S3x256x2048.Idx) (k : S3x256x2048.Idx) (h0 : (k 0).val = (y 0).val) (h1 : (k 1).val = t.val * 256 + (y 1).val)
    (h2 : (k 2).val = (y 2).val) : blk7_1 (V6 m c) (adm7 (F := F) c) t y = gotO m c k := by
  have e : V6 m c (Proc.devRef .tc main_v21) = gotO m c := by rw [p6_v21, V5_v21]
  refine (read7_1 (V6 m c) (adm7 c) t y).trans ?_
  rw [e]
  refine congrArg (gotO m c) (funext fun b => Fin.ext ?_)
  refine ((win7 (adm7 (F := F) c) 1).rect_emb_val t y b).trans ?_
  rw [index7_1]
  fin_cases b
  · show 0 * 3 + (y 0).val = (k 0).val
    omega
  · show t.val * 256 + (y 1).val = (k 1).val
    omega
  · show 0 * 2048 + (y 2).val = (k 2).val
    omega

theorem planeO_0 : ∀ c : Dev nD, k4_off2 (peer 4 c) = ![c.val / 2, 0, 0] := by
  intro c
  rw [k4_off2_eq]
  revert c
  decide

/-- Plane 0 of the stack is the chip's own block of another chip's pair sum. -/
theorem gotO_0 (i : S3x256x2048.Idx) (k : S4x256x2048.Idx) (hi : (i 0).val = 0) (h0 : (k 0).val = c.val / 2) (h1 : (k 1).val = (i 1).val)
    (h2 : (k 2).val = (i 2).val) : gotO m c i = sumO m (peer 4 c) k := by
  obtain ⟨x, hx⟩ : ∃ x : S256x2048.Idx, (x 0).val = (i 1).val ∧ (x 1).val = (i 2).val :=
    ⟨ix2 (n0 := 256) (n1 := 2048) ⟨(i 1).val, (i 1).isLt⟩ ⟨(i 2).val, (i 2).isLt⟩, rfl, rfl⟩
  have e1 : (rvO0).view.read (Elt F) (gotO m c) x = gotO m c i := by
    refine (read_main_v21 ![0, 0, 0] inb_S3x256x2048_S1x256x2048_0_0_0 (gotO m c) x).trans (congrArg (gotO m c) (funext fun b => Fin.ext ?_))
    rw [ValueKit.rect_emb_unit_val]
    fin_cases b
    · show 0 + 0 = (i 0).val
      omega
    · show 0 + (x 0).val = (i 1).val
      omega
    · show 0 + (x 1).val = (i 2).val
      omega
  have e2 : (rvO0).view.read (Elt F) (gotO m c) x = (scO0 (peer 4 c)).view.read (Elt F) (V3 m (peer 4 c) (Proc.devRef .tc main_v25_0)) x := by
    unfold gotO
    exact stackO_0 _ _ _ _ x
  have e3 : V3 m (peer 4 c) (Proc.devRef .tc main_v25_0) = sumO m (peer 4 c) := by rw [V3_v25_0]
  rw [← e1, e2, e3]
  refine (read_main_v25_0 (k4_off2 (peer 4 c)) (k4_off2_inb (peer 4 c)) (sumO m (peer 4 c)) x).trans (congrArg (sumO m (peer 4 c)) (funext fun b => Fin.ext ?_))
  rw [ValueKit.rect_emb_unit_val]
  have q0 : k4_off2 (peer 4 c) 0 = c.val / 2 := congrFun (planeO_0 c) 0
  have q1 : k4_off2 (peer 4 c) 1 = 0 := congrFun (planeO_0 c) 1
  have q2 : k4_off2 (peer 4 c) 2 = 0 := congrFun (planeO_0 c) 2
  fin_cases b
  · show k4_off2 (peer 4 c) 0 + 0 = (k 0).val
    omega
  · show k4_off2 (peer 4 c) 1 + (x 0).val = (k 1).val
    omega
  · show k4_off2 (peer 4 c) 2 + (x 1).val = (k 2).val
    omega

theorem planeO_1 : ∀ c : Dev nD, k4_off4 (peer 2 c) = ![c.val / 2, 0, 0] := by
  intro c
  rw [k4_off4_eq]
  revert c
  decide

/-- Plane 1 of the stack is the chip's own block of another chip's pair sum. -/
theorem gotO_1 (i : S3x256x2048.Idx) (k : S4x256x2048.Idx) (hi : (i 0).val = 1) (h0 : (k 0).val = c.val / 2) (h1 : (k 1).val = (i 1).val)
    (h2 : (k 2).val = (i 2).val) : gotO m c i = sumO m (peer 2 c) k := by
  obtain ⟨x, hx⟩ : ∃ x : S256x2048.Idx, (x 0).val = (i 1).val ∧ (x 1).val = (i 2).val :=
    ⟨ix2 (n0 := 256) (n1 := 2048) ⟨(i 1).val, (i 1).isLt⟩ ⟨(i 2).val, (i 2).isLt⟩, rfl, rfl⟩
  have e1 : (rvO1).view.read (Elt F) (gotO m c) x = gotO m c i := by
    refine (read_main_v21 ![1, 0, 0] inb_S3x256x2048_S1x256x2048_1_0_0 (gotO m c) x).trans (congrArg (gotO m c) (funext fun b => Fin.ext ?_))
    rw [ValueKit.rect_emb_unit_val]
    fin_cases b
    · show 1 + 0 = (i 0).val
      omega
    · show 0 + (x 0).val = (i 1).val
      omega
    · show 0 + (x 1).val = (i 2).val
      omega
  have e2 : (rvO1).view.read (Elt F) (gotO m c) x = (scO1 (peer 2 c)).view.read (Elt F) (V3 m (peer 2 c) (Proc.devRef .tc main_v25_0)) x := by
    unfold gotO
    exact stackO_1 _ _ _ _ x
  have e3 : V3 m (peer 2 c) (Proc.devRef .tc main_v25_0) = sumO m (peer 2 c) := by rw [V3_v25_0]
  rw [← e1, e2, e3]
  refine (read_main_v25_0 (k4_off4 (peer 2 c)) (k4_off4_inb (peer 2 c)) (sumO m (peer 2 c)) x).trans (congrArg (sumO m (peer 2 c)) (funext fun b => Fin.ext ?_))
  rw [ValueKit.rect_emb_unit_val]
  have q0 : k4_off4 (peer 2 c) 0 = c.val / 2 := congrFun (planeO_1 c) 0
  have q1 : k4_off4 (peer 2 c) 1 = 0 := congrFun (planeO_1 c) 1
  have q2 : k4_off4 (peer 2 c) 2 = 0 := congrFun (planeO_1 c) 2
  fin_cases b
  · show k4_off4 (peer 2 c) 0 + 0 = (k 0).val
    omega
  · show k4_off4 (peer 2 c) 1 + (x 0).val = (k 1).val
    omega
  · show k4_off4 (peer 2 c) 2 + (x 1).val = (k 2).val
    omega

theorem planeO_2 : ∀ c : Dev nD, k4_off6 (peer 6 c) = ![c.val / 2, 0, 0] := by
  intro c
  rw [k4_off6_eq]
  revert c
  decide

/-- Plane 2 of the stack is the chip's own block of another chip's pair sum. -/
theorem gotO_2 (i : S3x256x2048.Idx) (k : S4x256x2048.Idx) (hi : (i 0).val = 2) (h0 : (k 0).val = c.val / 2) (h1 : (k 1).val = (i 1).val)
    (h2 : (k 2).val = (i 2).val) : gotO m c i = sumO m (peer 6 c) k := by
  obtain ⟨x, hx⟩ : ∃ x : S256x2048.Idx, (x 0).val = (i 1).val ∧ (x 1).val = (i 2).val :=
    ⟨ix2 (n0 := 256) (n1 := 2048) ⟨(i 1).val, (i 1).isLt⟩ ⟨(i 2).val, (i 2).isLt⟩, rfl, rfl⟩
  have e1 : (rvO2).view.read (Elt F) (gotO m c) x = gotO m c i := by
    refine (read_main_v21 ![2, 0, 0] inb_S3x256x2048_S1x256x2048_2_0_0 (gotO m c) x).trans (congrArg (gotO m c) (funext fun b => Fin.ext ?_))
    rw [ValueKit.rect_emb_unit_val]
    fin_cases b
    · show 2 + 0 = (i 0).val
      omega
    · show 0 + (x 0).val = (i 1).val
      omega
    · show 0 + (x 1).val = (i 2).val
      omega
  have e2 : (rvO2).view.read (Elt F) (gotO m c) x = (scO2 (peer 6 c)).view.read (Elt F) (V3 m (peer 6 c) (Proc.devRef .tc main_v25_0)) x := by
    unfold gotO
    exact stackO_2 _ _ _ _ x
  have e3 : V3 m (peer 6 c) (Proc.devRef .tc main_v25_0) = sumO m (peer 6 c) := by rw [V3_v25_0]
  rw [← e1, e2, e3]
  refine (read_main_v25_0 (k4_off6 (peer 6 c)) (k4_off6_inb (peer 6 c)) (sumO m (peer 6 c)) x).trans (congrArg (sumO m (peer 6 c)) (funext fun b => Fin.ext ?_))
  rw [ValueKit.rect_emb_unit_val]
  have q0 : k4_off6 (peer 6 c) 0 = c.val / 2 := congrFun (planeO_2 c) 0
  have q1 : k4_off6 (peer 6 c) 1 = 0 := congrFun (planeO_2 c) 1
  have q2 : k4_off6 (peer 6 c) 2 = 0 := congrFun (planeO_2 c) 2
  fin_cases b
  · show k4_off6 (peer 6 c) 0 + 0 = (k 0).val
    omega
  · show k4_off6 (peer 6 c) 1 + (x 0).val = (k 1).val
    omega
  · show k4_off6 (peer 6 c) 2 + (x 1).val = (k 2).val
    omega

end

section

/-- The sum of the kept block and the stack's three, at an element. -/
theorem pay7 (x : S256x2048.Idx → Elt Ideal .f32) (w : S3x256x2048.Idx → Elt Ideal .bf16) (k : S256x2048.Idx) (z0 z1 z2 : S3x256x2048.Idx)
    (h0 : (z0 0).val = 0 ∧ (z0 1).val = (k 0).val ∧ (z0 2).val = (k 1).val) (h1 : (z1 0).val = 1 ∧ (z1 1).val = (k 0).val ∧ (z1 2).val = (k 1).val)
    (h2 : (z2 0).val = 2 ∧ (z2 1).val = (k 0).val ∧ (z2 2).val = (k 1).val) :
    k7_pay1 x (plane0 w) (plane1 w) (plane2 w) k = ((x k + w z0 : EReal) + w z1 : EReal) + w z2 := by
  have e (p : ℕ) (hb : ∀ a, (![p, 0, 0] : Fin 3 → ℕ) a + S1x256x2048.size a ≤ S3x256x2048.size a) (z : S3x256x2048.Idx)
      (h : (z 0).val = p ∧ (z 1).val = (k 0).val ∧ (z 2).val = (k 1).val) :
      shapeCast S256x2048 (fun y : S1x256x2048.Idx => w ((Rect.unit (s := S3x256x2048) ![p, 0, 0] S1x256x2048.size hb).emb y)) shapeCasts_S1x256x2048_S256x2048 k = w z := by
    refine (shapeCast_dropUnit_apply ![256, 2048] _ shapeCasts_S1x256x2048_S256x2048 k).trans (congrArg w (funext fun b => Fin.ext ?_))
    rw [ValueKit.rect_emb_unit_val]
    obtain ⟨a0, a1, a2⟩ := h
    fin_cases b
    · show p + 0 = (z 0).val
      omega
    · show 0 + (k 0).val = (z 1).val
      omega
    · show 0 + (k 1).val = (z 2).val
      omega
  refine congrArg₂ (fun a b : EReal => a + b) (congrArg₂ (fun a b : EReal => a + b) (congrArg₂ (fun a b : EReal => a + b) ?_ (e 0 _ z0 h0)) (e 1 _ z1 h1)) (e 2 _ z2 h2)
  exact congrFun (shapeCast_self x shapeCasts_S256x2048_S256x2048) k

variable (m : (ℓ : Loc nD τ sig) → Buf (Elt Ideal) ℓ) (c : Dev nD)

set_option maxHeartbeats 2000000 in
/-- The chip sum holds the eight devices' gradients' sum, in the device's half. -/
theorem totO_at (i : S512x2048.Idx) (j : S4x512x2048.Idx) (hi : (i 0).val / 256 = c.val % 2) (h0 : (j 0).val = c.val / 2)
    (h1 : (j 1).val = (i 0).val) (h2 : (j 2).val = (i 1).val) : totO m c i = ∑ d : Dev nD, argO m d j := by
  have i0 : (i 0).val < 512 := (i 0).isLt
  have i1 : (i 1).val < 2048 := (i 1).isLt
  have hc : c.val < 8 := c.isLt
  obtain ⟨t, ht⟩ : ∃ t : Fin grid7.N, t.val = (i 0).val % 256 / 256 := ⟨⟨_, by rw [N_7]; omega⟩, rfl⟩
  obtain ⟨y, hy⟩ : ∃ y : S256x2048.Idx, (y 0).val = (i 0).val % 256 ∧ (y 1).val = (i 1).val :=
    ⟨ix2 (n0 := 256) (n1 := 2048) ⟨(i 0).val % 256, Nat.mod_lt _ (by decide)⟩ ⟨(i 1).val, i1⟩, rfl, rfl⟩
  have e : i = ((win7 (adm7 (F := Ideal) c) 2).blk t).view.emb y := by
    funext b
    refine Fin.ext (Eq.symm (((win7 (adm7 (F := Ideal) c) 2).rect_emb_val t y b).trans ?_))
    rw [index7_2]
    fin_cases b
    · show (c.val % 2 * 1 + t.val) * 256 + (y 0).val = (i 0).val
      omega
    · show 0 * 2048 + (y 1).val = (i 1).val
      omega
  obtain ⟨k, hk⟩ : ∃ k : S256x2048.Idx, (k 0).val = (i 0).val % 256 ∧ (k 1).val = (i 1).val :=
    ⟨ix2 (n0 := 256) (n1 := 2048) ⟨(i 0).val % 256, Nat.mod_lt _ (by decide)⟩ ⟨(i 1).val, i1⟩, rfl, rfl⟩
  have z (p : ℕ) (hp : p < 3) : ∃ z : S3x256x2048.Idx, (z 0).val = p ∧ (z 1).val = (y 0).val ∧ (z 2).val = (y 1).val :=
    ⟨ix3 (n0 := 3) (n1 := 256) (n2 := 2048) ⟨p, hp⟩ ⟨(y 0).val, (y 0).isLt⟩ ⟨(y 1).val, (y 1).isLt⟩, rfl, rfl, rfl⟩
  have w (p : ℕ) (hp : p < 3) : ∃ w : S3x256x2048.Idx, (w 0).val = p ∧ (w 1).val = (i 0).val % 256 ∧ (w 2).val = (i 1).val :=
    ⟨ix3 (n0 := 3) (n1 := 256) (n2 := 2048) ⟨p, hp⟩ ⟨(i 0).val % 256, Nat.mod_lt _ (by decide)⟩ ⟨(i 1).val, i1⟩, rfl, rfl, rfl⟩
  obtain ⟨s, hs⟩ : ∃ s : S4x256x2048.Idx, (s 0).val = c.val / 2 ∧ (s 1).val = (i 0).val % 256 ∧ (s 2).val = (i 1).val :=
    ⟨ix3 (n0 := 4) (n1 := 256) (n2 := 2048) ⟨c.val / 2, by omega⟩ ⟨(i 0).val % 256, Nat.mod_lt _ (by decide)⟩ ⟨(i 1).val, i1⟩, rfl, rfl, rfl⟩
  obtain ⟨z0, hz0⟩ := z 0 (by decide)
  obtain ⟨z1, hz1⟩ := z 1 (by decide)
  obtain ⟨z2, hz2⟩ := z 2 (by decide)
  obtain ⟨w0, hw0⟩ := w 0 (by decide)
  obtain ⟨w1, hw1⟩ := w 1 (by decide)
  obtain ⟨w2, hw2⟩ := w 2 (by decide)
  obtain ⟨p2, p4, p6⟩ := evens c
  have a : blk7_0 (V6 m c) (adm7 (F := Ideal) c) t y = argO m c j + argO m (peer 1 c) j :=
    (kept7 c m t y k (by omega) (by omega)).trans (ownO_at m c k j (by omega) (by omega) (by omega))
  have b0 : blk7_1 (V6 m c) (adm7 (F := Ideal) c) t z0 = argO m (peer 4 c) j + argO m (peer 1 (peer 4 c)) j :=
    (stack7 c m t z0 w0 (by omega) (by omega) (by omega)).trans ((gotO_0 c m w0 s (by omega) (by omega) (by omega) (by omega)).trans
      (sumO_at m (peer 4 c) s j (by omega) (by rw [p4]; omega) (by omega)))
  have b1 : blk7_1 (V6 m c) (adm7 (F := Ideal) c) t z1 = argO m (peer 2 c) j + argO m (peer 1 (peer 2 c)) j :=
    (stack7 c m t z1 w1 (by omega) (by omega) (by omega)).trans ((gotO_1 c m w1 s (by omega) (by omega) (by omega) (by omega)).trans
      (sumO_at m (peer 2 c) s j (by omega) (by rw [p2]; omega) (by omega)))
  have b2 : blk7_1 (V6 m c) (adm7 (F := Ideal) c) t z2 = argO m (peer 6 c) j + argO m (peer 1 (peer 6 c)) j :=
    (stack7 c m t z2 w2 (by omega) (by omega) (by omega)).trans ((gotO_2 c m w2 s (by omega) (by omega) (by omega) (by omega)).trans
      (sumO_at m (peer 6 c) s j (by omega) (by rw [p6]; omega) (by omega)))
  unfold totO
  rw [e]
  refine (at7_2 c (V6 m c) _ t y).trans ((pay7 _ _ y z0 z1 z2 hz0 hz1 hz2).trans ?_)
  refine (congrArg₂ (fun a b : EReal => a + b) (congrArg₂ (fun a b : EReal => a + b) (congrArg₂ (fun a b : EReal => a + b) a b0) b1) b2).trans ?_
  exact eight (fun d => argO m d j) c

/-- Within the sibling's half the joined result is the sibling's. -/
theorem joinedO_in (c : Dev nD) (f g : S512x2048.Idx → Elt Ideal .f32) (i : S512x2048.Idx) (hi : i ∈ (jnO (peer 1 c)).view.set) :
    joinedO c f g i = g i := by
  obtain ⟨x, -, rfl⟩ := Finset.mem_map.mp hi
  unfold joinedO
  rw [View.write_emb_of_mem _ _ (Finset.mem_univ x)]
  rfl

/-- Outside it is the device's own. -/
theorem joinedO_out (c : Dev nD) (f g : S512x2048.Idx → Elt Ideal .f32) (i : S512x2048.Idx) (hi : i ∉ (jnO (peer 1 c)).view.set) :
    joinedO c f g i = f i := by
  unfold joinedO
  rw [View.write_of_not_mem (v := (jnO (peer 1 c)).view)]
  rwa [View.setOn_univ]

/-- After the join a device's result is the eight devices' gradients' sum, of its chip's block. -/
theorem resO_at (i : S512x2048.Idx) (j : S4x512x2048.Idx) (h0 : (j 0).val = c.val / 2)
    (h1 : (j 1).val = (i 0).val) (h2 : (j 2).val = (i 1).val) : V8 m c (Proc.devRef .tc main_v29) i = ∑ d : Dev nD, argO m d j := by
  have i0 : (i 0).val < 512 := (i 0).isLt
  have e (d : Dev nD) : V7 m d (Proc.devRef .tc main_v29) = totO m d := by rw [V7_v29]
  have hp := parityO c
  have hm := resO (peer 1 c) i
  rw [hp] at hm
  rw [V8_v29, e c, e (peer 1 c)]
  by_cases hi : (i 0).val / 256 = c.val % 2
  · refine (joinedO_out c _ _ i (fun h => ?_)).trans (totO_at m c i j hi h0 h1 h2)
    have := hm.1 h
    omega
  · exact (joinedO_in c _ _ i (hm.2 (by omega))).trans (totO_at m (peer 1 c) i j (by omega) (by rw [h0, halfPeer c]) h1 h2)

end

end Cert.Run
-- ==== Proof.RefValue.lean ====
module

public import proofs.«01_k».proof.Proof.RefRun
public import Idealize.ShloMosaic.Lib.Pointwise.Reduce
public import Idealize.ShloMosaic.Lib.Pipeline.Value
public import Idealize.ShloMosaic.Lib.IdealHost

@[expose] public section

/-! The reference's two results, element by element: a sum of eight parts. -/

noncomputable section

namespace Cert.Ref

open Cert.ReferenceIdeal Cert.ReferenceIdeal.Gen
open Idealize.ShloMosaic Idealize.ShloMosaic.TcCoe

/-- The first result at an element is the sum of the eight devices' parts there. -/
theorem outI_at (x : FVec Ideal S32x2048x2048 .f32) (i : S2048x8192.Idx) (s : Fin 8 → S32x2048x2048.Idx)
    (h0 : ∀ d, (s d 0).val = d.val * 4 + (i 1).val / 2048) (h1 : ∀ d, (s d 1).val = (i 0).val) (h2 : ∀ d, (s d 2).val = (i 1).val % 2048) :
    outI x i = ∑ d : Fin 8, (x (s d) : EReal) := by
  have i0 : (i 0).val < 2048 := (i 0).isLt
  have i1 : (i 1).val < 8192 := (i 1).isLt
  obtain ⟨k, k0, k1, k2⟩ : ∃ k : S4x2048x2048.Idx, (k 0).val = (i 1).val / 2048 ∧ (k 1).val = (i 0).val ∧ (k 2).val = (i 1).val % 2048 :=
    ⟨ix3 (n0 := 4) (n1 := 2048) (n2 := 2048) ⟨(i 1).val / 2048, by omega⟩ ⟨(i 0).val, i0⟩ ⟨(i 1).val % 2048, Nat.mod_lt _ (by decide)⟩, rfl, rfl, rfl⟩
  refine (shapeCast_apply _ shapeCasts_S2048x4x2048_S2048x8192 i (ix3 (n0 := 2048) (n1 := 4) (n2 := 2048) (k 1) (k 0) (k 2)) ?_).trans ?_
  · rw [Shape.rowMajor_val_two, Shape.rowMajor_val_three]
    show ((k 1).val * 4 + (k 0).val) * 2048 + (k 2).val = (i 0).val * 8192 + (i 1).val
    omega
  refine (transpose_apply _ _ _ _ k (fun b => match b with | ⟨0, _⟩ => rfl | ⟨1, _⟩ => rfl | ⟨2, _⟩ => rfl)).trans ?_
  refine (Ideal.hostReduceAdd_r4_a0 reducesTo_S8x4x2048x2048_S4x2048x2048_d0 (partsI x) _ k).trans ?_
  refine (congrArg₂ (fun a b : EReal => a + b) Ideal.ofBits_zero_f32 (Finset.sum_congr rfl fun d _ => ?_)).trans (zero_add _)
  refine shapeCast_apply x shapeCasts_S32x2048x2048_S8x4x2048x2048 _ (s d) ?_
  rw [Shape.rowMajor_val_three, Shape.rowMajor_val_four]
  have e0 := h0 d
  have e1 := h1 d
  have e2 := h2 d
  show ((s d 0).val * 2048 + (s d 1).val) * 2048 + (s d 2).val = ((d.val * 4 + (k 0).val) * 2048 + (k 1).val) * 2048 + (k 2).val
  omega

/-- The second result at an element is the sum of the eight devices' parts there. -/
theorem outO_at (x : FVec Ideal S32x512x2048 .f32) (i : S2048x2048.Idx) (s : Fin 8 → S32x512x2048.Idx)
    (h0 : ∀ d, (s d 0).val = d.val * 4 + (i 0).val / 512) (h1 : ∀ d, (s d 1).val = (i 0).val % 512) (h2 : ∀ d, (s d 2).val = (i 1).val) :
    outO x i = ∑ d : Fin 8, (x (s d) : EReal) := by
  have i0 : (i 0).val < 2048 := (i 0).isLt
  have i1 : (i 1).val < 2048 := (i 1).isLt
  obtain ⟨k, k0, k1, k2⟩ : ∃ k : S4x512x2048.Idx, (k 0).val = (i 0).val / 512 ∧ (k 1).val = (i 0).val % 512 ∧ (k 2).val = (i 1).val :=
    ⟨ix3 (n0 := 4) (n1 := 512) (n2 := 2048) ⟨(i 0).val / 512, by omega⟩ ⟨(i 0).val % 512, Nat.mod_lt _ (by decide)⟩ ⟨(i 1).val, i1⟩, rfl, rfl, rfl⟩
  refine (shapeCast_apply _ shapeCasts_S4x512x2048_S2048x2048 i k ?_).trans ?_
  · rw [Shape.rowMajor_val_two, Shape.rowMajor_val_three]
    show ((k 0).val * 512 + (k 1).val) * 2048 + (k 2).val = (i 0).val * 2048 + (i 1).val
    omega
  refine (Ideal.hostReduceAdd_r4_a0 reducesTo_S8x4x512x2048_S4x512x2048_d0 (partsO x) _ k).trans ?_
  refine (congrArg₂ (fun a b : EReal => a + b) Ideal.ofBits_zero_f32 (Finset.sum_congr rfl fun d _ => ?_)).trans (zero_add _)
  refine shapeCast_apply x shapeCasts_S32x512x2048_S8x4x512x2048 _ (s d) ?_
  rw [Shape.rowMajor_val_three, Shape.rowMajor_val_four]
  have e0 := h0 d
  have e1 := h1 d
  have e2 := h2 d
  show ((s d 0).val * 512 + (s d 1).val) * 2048 + (s d 2).val = ((d.val * 4 + (k 0).val) * 512 + (k 1).val) * 2048 + (k 2).val
  omega

end Cert.Ref
-- ==== Proof.Algebraic.lean ====
/-
  The value claim: over the extended reals each device's results are its blocks of the reference's, the sums over the
  eight devices of the parts they hold.
-/
module

public import proofs.«01_k».proof.Defs
public import proofs.«01_k».proof.Proof.RunMain
public import proofs.«01_k».proof.Proof.RefRun
public import proofs.«01_k».proof.Proof.ChipValueIn
public import proofs.«01_k».proof.Proof.ChipValueOut
public import proofs.«01_k».proof.Proof.RefValue

@[expose] public section

noncomputable section

namespace Cert.Value

open Cert.KernelIdeal Cert.Run
open Idealize.ShloMosaic Idealize.ShloMosaic.TcCoe Idealize.SL.Sem

/-- A device's place along the cut axis, cut over x and y, is the number of its chip. -/
theorem chip_place : ∀ c : Fin 8, Layout.meshLin [2, 2, 2] c.val [0, 1] = c.val / 2 := by decide

variable (m : (ℓ : Loc nD τ sig) → Buf (Elt Ideal) ℓ) (c : Dev nD)

/-- The first result is the device's block of columns of the reference's first sum. -/
theorem blockI (x : Cert.ReferenceIdeal.S32x2048x2048.Idx → EReal)
    (hx : ∀ d : Dev nD, argI m d = Layout.block ⟨3, ![4, 2048, 2048]⟩ ⟨3, ![32, 2048, 2048]⟩ 0 8 d x) :
    (V8 m c (Proc.devRef .tc main_v28) : S2048x2048.Idx → EReal)
      = Layout.blockN ⟨2, ![2048, 2048]⟩ ⟨2, ![2048, 8192]⟩ (Layout.meshBlock [2, 2, 2] ![[], [0, 1]] c)
          (Cert.Ref.outI (F := Ideal) x : _ → EReal) := by
  funext i
  have hc : c.val < 8 := c.isLt
  have i0 : (i 0).val < 2048 := (i 0).isLt
  have i1 : (i 1).val < 2048 := (i 1).isLt
  have hp := chip_place c
  obtain ⟨j, j0, j1, j2⟩ : ∃ j : S4x2048x2048.Idx, (j 0).val = c.val / 2 ∧ (j 1).val = (i 0).val ∧ (j 2).val = (i 1).val :=
    ⟨ix3 (n0 := 4) (n1 := 2048) (n2 := 2048) ⟨c.val / 2, by omega⟩ ⟨(i 0).val, i0⟩ ⟨(i 1).val, i1⟩, rfl, rfl, rfl⟩
  have ht : Layout.Tiles ⟨3, ![4, 2048, 2048]⟩ ⟨3, ![32, 2048, 2048]⟩ 0 8 := by decide
  have hn : Layout.TilesN ⟨2, ![2048, 2048]⟩ ⟨2, ![2048, 8192]⟩ (fun b => Layout.cutSize [2, 2, 2] (![[], [0, 1]] b)) := by decide
  refine (resI_at m c i j j0 j1 j2).trans ?_
  refine (Finset.sum_congr rfl fun d _ => congrFun (hx d) j).trans ?_
  refine (Cert.Ref.outI_at x (hn.idx (Layout.meshBlock [2, 2, 2] ![[], [0, 1]] c) i) (fun d => ht.idx d j) ?_ ?_ ?_).symm
  · intro d
    show d.val * 4 + (j 0).val = d.val * 4 + (Layout.meshLin [2, 2, 2] c.val [0, 1] * 2048 + (i 1).val) / 2048
    omega
  · intro d
    show (j 1).val = 0 * 2048 + (i 0).val
    omega
  · intro d
    show (j 2).val = (Layout.meshLin [2, 2, 2] c.val [0, 1] * 2048 + (i 1).val) % 2048
    omega

/-- The second result is the device's block of rows of the reference's second sum. -/
theorem blockO (x : Cert.ReferenceIdeal.S32x512x2048.Idx → EReal)
    (hx : ∀ d : Dev nD, argO m d = Layout.block ⟨3, ![4, 512, 2048]⟩ ⟨3, ![32, 512, 2048]⟩ 0 8 d x) :
    (V8 m c (Proc.devRef .tc main_v29) : S512x2048.Idx → EReal)
      = Layout.blockN ⟨2, ![512, 2048]⟩ ⟨2, ![2048, 2048]⟩ (Layout.meshBlock [2, 2, 2] ![[0, 1], []] c)
          (Cert.Ref.outO (F := Ideal) x : _ → EReal) := by
  funext i
  have hc : c.val < 8 := c.isLt
  have i0 : (i 0).val < 512 := (i 0).isLt
  have i1 : (i 1).val < 2048 := (i 1).isLt
  have hp := chip_place c
  obtain ⟨j, j0, j1, j2⟩ : ∃ j : S4x512x2048.Idx, (j 0).val = c.val / 2 ∧ (j 1).val = (i 0).val ∧ (j 2).val = (i 1).val :=
    ⟨ix3 (n0 := 4) (n1 := 512) (n2 := 2048) ⟨c.val / 2, by omega⟩ ⟨(i 0).val, i0⟩ ⟨(i 1).val, i1⟩, rfl, rfl, rfl⟩
  have ht : Layout.Tiles ⟨3, ![4, 512, 2048]⟩ ⟨3, ![32, 512, 2048]⟩ 0 8 := by decide
  have hn : Layout.TilesN ⟨2, ![512, 2048]⟩ ⟨2, ![2048, 2048]⟩ (fun b => Layout.cutSize [2, 2, 2] (![[0, 1], []] b)) := by decide
  refine (resO_at m c i j j0 j1 j2).trans ?_
  refine (Finset.sum_congr rfl fun d _ => congrFun (hx d) j).trans ?_
  refine (Cert.Ref.outO_at x (hn.idx (Layout.meshBlock [2, 2, 2] ![[0, 1], []] c) i) (fun d => ht.idx d j) ?_ ?_ ?_).symm
  · intro d
    show d.val * 4 + (j 0).val = d.val * 4 + (Layout.meshLin [2, 2, 2] c.val [0, 1] * 512 + (i 0).val) / 512
    omega
  · intro d
    show (j 1).val = (Layout.meshLin [2, 2, 2] c.val [0, 1] * 512 + (i 0).val) % 512
    omega
  · intro d
    show (j 2).val = 0 * 2048 + (i 1).val
    omega

/-- From inputs that are the blocks of the reference's, the kernel ends with its blocks of the reference's results. -/
theorem algebraic : Cert.algebraic_KernelIdeal_ReferenceIdeal := fun m g m' g' _ hin =>
  ⟨Cert.Ref.outI (F := Ideal) (m' ((0 : Dev Cert.ReferenceIdeal.nD).tc.loc Cert.ReferenceIdeal.main_arg0)),
    Cert.Ref.outO (F := Ideal) (m' ((0 : Dev Cert.ReferenceIdeal.nD).tc.loc Cert.ReferenceIdeal.main_arg1)),
    (θ_run Cert.KernelIdeal.defs _ _).mono (fun _ h c =>
      ⟨(h.1 c).1.trans (blockI m c _ fun d => (hin d).1), (h.1 c).2.1.trans (blockO m c _ fun d => (hin d).2),
        (h.1 c).2.2.1, (h.1 c).2.2.2⟩) (Cert.Run.run_main (F := Ideal) m g),
    (θ_run Cert.ReferenceIdeal.defs _ _).mono (fun _ h => h.1 0) (Cert.Ref.run (F := Ideal) m' g')⟩

end Cert.Value
-- ==== Proof.RmsFwdSteps.lean ====
/-
  The RMS norm, block of rows by block of rows, against the formula on the whole arrays: the normed input and its rows' scales, the frames, and
  the value claim.
-/
module

public import proofs.«01_k».proof.Defs
public import proofs.«01_k».proof.Proof.Gen.RmsFwd.Frame
public import proofs.«01_k».proof.Proof.Gen.RmsFwdIdeal.Value
public import proofs.«01_k».proof.Proof.Gen.RmsFwdReferenceIdeal.Run
public import Idealize.ShloMosaic.Lib.Pointwise
public import Idealize.ShloMosaic.Lib.Pipeline.ValueKit
public import Idealize.ShloMosaic.Lib.Quiescent

@[expose] public section

noncomputable section

namespace Cert.RmsFwdSteps

open Cert.RmsFwdIdeal Cert.RmsFwdIdeal.Gen
open Idealize.ShloMosaic Idealize.ShloMosaic.TcCoe Idealize.SL.Sem

/-- The scale of a row: one over the root of its mean square. -/
def scaleAt (x : Fin 2048 → EReal) : EReal :=
  Ideal.rsqrt (Ideal.div (∑ k : Fin 2048, x k * x k) (Ideal.ofBits .f32 0x45000000#32) + Ideal.ofBits .f32 0x358637BD#32)

/-- The call's payload for the scales at a row, -/
theorem scale_at (v0 : FVec Ideal S512x2048 .f32) (a : Fin 512) (b : Fin 1) :
    k0_pay1 (F := Ideal) v0 (ix2 a b) = scaleAt fun k => v0 (ix2 a k) := by
  pointwise [k0_pay1, scaleAt]

/-- and for the normed input at an element. -/
theorem normed_at (v0 : FVec Ideal S512x2048 .f32) (v11 : FVec Ideal S1x2048 .f32) (a : Fin 512) (b : Fin 2048) :
    k0_pay2 (F := Ideal) v0 v11 (ix2 a b) = v0 (ix2 a b) * scaleAt (fun k => v0 (ix2 a k)) * v11 (ix2 0 b) := by
  pointwise [k0_pay2, k0_pay1, scaleAt]

/-- The scales of all rows, -/
def scales (x : FVec Ideal S8192x2048 .f32) : FVec Ideal S8192x1 .f32 := fun i => scaleAt fun k => x (ix2 (i 0) k)

/-- and the whole normed input. -/
def normed (x : FVec Ideal S8192x2048 .f32) (g : FVec Ideal S1x2048 .f32) : FVec Ideal S8192x2048 .bf16 := fun i =>
  x (ix2 (i 0) (i 1)) * scaleAt (fun k => x (ix2 (i 0) k)) * g (ix2 0 (i 1))

/-- Point `t` takes the rows of block `t`, and the gain whole. -/
theorem index : ∀ t : Fin grid0.N, (∀ a : Fin 2, win0_0.index t a = ![t.val, 0] a) ∧ (∀ a : Fin 2, win0_1.index t a = 0)
    ∧ (∀ a : Fin 2, win0_3.index t a = ![t.val, 0] a) ∧ (∀ a : Fin 2, win0_4.index t a = ![t.val, 0] a) := by decide +kernel

variable (m : (ℓ : Loc nD τ sig) → Buf (Elt Ideal) ℓ) (c : Dev nD)

/-- The call leaves the normed input, -/
theorem ends3 : (dats m 0 c).arrAt 3 cfg0.N = normed (V m c main_arg0) (V m c main_arg1) := by
  refine (dats m 0 c).arrAt_eq_of_covers 3 _ (by decide +kernel) fun t hf y => ?_
  blk_simp
  rw [after0_3]
  obtain ⟨a, b, rfl⟩ : ∃ (a : Fin 512) (b : Fin 2048), y = ix2 a b := ⟨y 0, y 1, by funext u; match u with | ⟨0, _⟩ => rfl | ⟨1, _⟩ => rfl⟩
  have ht : t.val < 16 := lt_of_lt_of_eq t.isLt N_0
  obtain ⟨e0, e1, e3, e4⟩ := index t
  have h3 : (win0_3.blk t).view.emb (ix2 a b) = ix2 (⟨a.val + t.val * 512, by omega⟩ : Fin 8192) b := by blk_ext [e3]
  have h0 (k : Fin 2048) : iblk m c 0 t (ix2 a k) = V m c main_arg0 (ix2 (⟨a.val + t.val * 512, by omega⟩ : Fin 8192) k) := by
    blk_ext [iblk, e0]
  have h1 (k : Fin 2048) : iblk m c 1 t (ix2 0 k) = V m c main_arg1 (ix2 0 k) := by blk_ext [iblk, e1]
  have hout : out0_3 (iblk m c 0 t) (iblk m c 1 t) (iblk m c 2 t) (ix2 a b) = k0_pay2 (F := Ideal) (iblk m c 0 t) (iblk m c 1 t) (ix2 a b) := by
    frame_out
  refine hout.trans ?_
  rw [normed_at, h0, funext h0, h1]
  refine Eq.trans ?_ (congrArg (normed (V m c main_arg0) (V m c main_arg1)) h3.symm)
  rfl

/-- and the rows' scales. -/
theorem ends4 : (dats m 0 c).arrAt 4 cfg0.N = scales (V m c main_arg0) := by
  refine (dats m 0 c).arrAt_eq_of_covers 4 _ (by decide +kernel) fun t hf y => ?_
  blk_simp
  rw [after0_4]
  obtain ⟨a, b, rfl⟩ : ∃ (a : Fin 512) (b : Fin 1), y = ix2 a b := ⟨y 0, y 1, by funext u; match u with | ⟨0, _⟩ => rfl | ⟨1, _⟩ => rfl⟩
  have ht : t.val < 16 := lt_of_lt_of_eq t.isLt N_0
  obtain ⟨e0, e1, e3, e4⟩ := index t
  have h4 : (win0_4.blk t).view.emb (ix2 a b) = ix2 (⟨a.val + t.val * 512, by omega⟩ : Fin 8192) b := by blk_ext [e4]
  have h0 (k : Fin 2048) : iblk m c 0 t (ix2 a k) = V m c main_arg0 (ix2 (⟨a.val + t.val * 512, by omega⟩ : Fin 8192) k) := by
    blk_ext [iblk, e0]
  have hout : out0_4 (iblk m c 0 t) (iblk m c 1 t) (iblk m c 2 t) (ix2 a b) = k0_pay1 (F := Ideal) (iblk m c 0 t) (ix2 a b) := by
    frame_out
  refine hout.trans ?_
  rw [scale_at, funext h0]
  refine Eq.trans ?_ (congrArg (scales (V m c main_arg0)) h4.symm)
  rfl

end Cert.RmsFwdSteps

namespace Cert.RmsFwdFormula

open Cert.RmsFwdReferenceIdeal Cert.RmsFwdReferenceIdeal.Gen
open Idealize.ShloMosaic Idealize.ShloMosaic.TcCoe Idealize.SL.Sem

/-- The formula's scales on the whole array, as the reference computes them, -/
def scales (x : FVec Ideal S8192x2048 .f32) : FVec Ideal S8192x1 .f32 :=
  Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))

/-- and its normed input. -/
def normed (x : FVec Ideal S8192x2048 .f32) (g : FVec Ideal S1x2048 .f32) : FVec Ideal S8192x2048 .bf16 :=
  truncf .bf16 (mulf (mulf x (broadcastInDim S8192x2048 ![0, 1] bcast_S8192x1_S8192x2048_0_1 (scales x))) (broadcastInDim S8192x2048 ![0, 1] bcast_S1x2048_S8192x2048_0_1 g)) bitsLt_bf16_f32

/-- They are the ones above, element by element. -/
theorem scales_eq (x : FVec Ideal S8192x2048 .f32) : scales x = Cert.RmsFwdSteps.scales x := by
  funext i
  obtain ⟨a, b, rfl⟩ : ∃ (a : Fin 8192) (b : Fin 1), i = ix2 a b := ⟨i 0, i 1, by funext u; match u with | ⟨0, _⟩ => rfl | ⟨1, _⟩ => rfl⟩
  pointwise [scales, Cert.RmsFwdSteps.scales, Cert.RmsFwdSteps.scaleAt]

theorem normed_eq (x : FVec Ideal S8192x2048 .f32) (g : FVec Ideal S1x2048 .f32) : normed x g = Cert.RmsFwdSteps.normed x g := by
  funext i
  obtain ⟨a, b, rfl⟩ : ∃ (a : Fin 8192) (b : Fin 2048), i = ix2 a b := ⟨i 0, i 1, by funext u; match u with | ⟨0, _⟩ => rfl | ⟨1, _⟩ => rfl⟩
  pointwise [normed, scales, Cert.RmsFwdSteps.normed, Cert.RmsFwdSteps.scaleAt]

end Cert.RmsFwdFormula

namespace Cert.RmsFwdClaims

open Cert.RmsFwdSteps
open Idealize.ShloMosaic Idealize.ShloMosaic.TcCoe Idealize.SL.Sem

/-- The frames: the call's, -/
theorem frame : Cert.quiescent_RmsFwd := fun m ρ _ => Cert.RmsFwd.Gen.frame m ρ
theorem frame_ideal : Cert.quiescent_RmsFwdIdeal := fun m ρ _ => Cert.RmsFwdIdeal.Gen.frame m ρ

/-- the formula's, -/
theorem frame_reference : Cert.quiescent_RmsFwdReferenceIdeal := fun m ρ _ =>
  (θ_run Cert.RmsFwdReferenceIdeal.defs _ _).mono (fun r h => ⟨fun c => (h c).2.2, sem_eq_zero_of_no_sems (by decide) r.2⟩)
    (Cert.RmsFwdReferenceIdeal.Value.run (F := Ideal) m ρ)

/-- and the claim: the call leaves what the formula gives. -/
theorem algebraic : Cert.algebraic_RmsFwdIdeal_RmsFwdReferenceIdeal := by
  intro m g m' g' _ h
  refine ⟨fun c => normed (m (c.tc.loc Cert.RmsFwdIdeal.main_arg0)) (m (c.tc.loc Cert.RmsFwdIdeal.main_arg1)),
    fun c => scales (m (c.tc.loc Cert.RmsFwdIdeal.main_arg0)), ?_, ?_⟩
  · exact (θ_run Cert.RmsFwdIdeal.defs _ _).mono (fun _ r c => ⟨(r c).1.trans ((ends3 m c).trans (by
      rw [Cert.RmsFwdIdeal.Gen.V_main_arg0, Cert.RmsFwdIdeal.Gen.V_main_arg1])), (r c).2.1.trans ((ends4 m c).trans (by
      rw [Cert.RmsFwdIdeal.Gen.V_main_arg0])), (r c).2.2⟩) (Cert.RmsFwdIdeal.Value.run_blocks (F := Ideal) m g)
  · refine (θ_run Cert.RmsFwdReferenceIdeal.defs _ _).mono (fun _ r c => ⟨(r c).1.trans ?_, (r c).2.1.trans ?_, (r c).2.2⟩)
      (Cert.RmsFwdReferenceIdeal.Value.run (F := Ideal) m' g')
    · rw [(h c).1, (h c).2]
      exact Cert.RmsFwdFormula.normed_eq _ _
    · rw [(h c).1]
      exact Cert.RmsFwdFormula.scales_eq _

end Cert.RmsFwdClaims
-- ==== Proof.DzAt.lean ====
/-
  The columns that the two halves of the input projection's gradient make together: four planes of 1024 columns from each half, set side by side.
-/
module

public import Mathlib.Data.EReal.Basic

@[expose] public section

namespace Cert

/-- Column `n` of row `l`: of the planes of the first half if it is below 4096, else of the second's. -/
def dzAt (zh za : Fin 4 → Fin 8192 → Fin 1024 → EReal) (l n : Fin 8192) : EReal :=
  if h : n.val / 1024 < 4 then zh ⟨n.val / 1024, h⟩ l ⟨n.val % 1024, by omega⟩ else za ⟨n.val / 1024 - 4, by omega⟩ l ⟨n.val % 1024, by omega⟩

/-- Column `b` of the first half's plane `q`, -/
theorem dzAt_fst (zh za : Fin 4 → Fin 8192 → Fin 1024 → EReal) (l n : Fin 8192) (q : Fin 4) (b : Fin 1024) (h : n.val = q.val * 1024 + b.val) :
    dzAt zh za l n = zh q l b := by
  have hq : n.val / 1024 = q.val := by omega
  have hb : n.val % 1024 = b.val := by omega
  rw [dzAt, dif_pos (by omega)]
  simp only [hq, hb]

/-- and of the second's. -/
theorem dzAt_snd (zh za : Fin 4 → Fin 8192 → Fin 1024 → EReal) (l n : Fin 8192) (q : Fin 4) (b : Fin 1024) (h : n.val = (q.val + 4) * 1024 + b.val) :
    dzAt zh za l n = za q l b := by
  have hq : n.val / 1024 - 4 = q.val := by omega
  have hb : n.val % 1024 = b.val := by omega
  rw [dzAt, dif_neg (by omega)]
  simp only [hq, hb]

end Cert
-- ==== Proof.GradInSteps.lean ====
/-
  The input projection's weight gradient, row block by row block summed into its blocks, against the formula on the whole arrays: the products of
  each point, their sum over the row blocks, the frames, and the value claim.
-/
module

public import proofs.«01_k».proof.Defs
public import proofs.«01_k».proof.Proof.DzAt
public import proofs.«01_k».proof.Proof.Gen.GradIn.Frame
public import proofs.«01_k».proof.Proof.Gen.GradInIdeal.Value
public import proofs.«01_k».proof.Proof.Gen.GradInReferenceIdeal.Run
public import Idealize.ShloMosaic.Lib.Pointwise
public import Idealize.ShloMosaic.Lib.Pipeline.ValueKit
public import Idealize.ShloMosaic.Lib.Quiescent

@[expose] public section

noncomputable section

namespace Cert.GradInSteps

open Cert.GradInIdeal Cert.GradInIdeal.Gen
open Idealize.ShloMosaic Idealize.ShloMosaic.TcCoe Idealize.SL.Sem

/-- An array of planes by plane, row and column. -/
abbrev planes (z : FVec Ideal S4x8192x1024 .bf16) (q : Fin 4) (l : Fin 8192) (b : Fin 1024) : EReal := z (ix3 q l b)

/-- An element of the gradient: the products of a column of the normed input with a column of the projection's gradient, summed over the rows. -/
def gradCol (h : FVec Ideal S8192x2048 .bf16) (zh za : FVec Ideal S4x8192x1024 .bf16) (r : Fin 2048) (n : Fin 8192) : EReal :=
  ∑ l : Fin 8192, h (ix2 l r) * dzAt (planes zh) (planes za) l n

/-- The whole gradient. -/
def gradIn (h : FVec Ideal S8192x2048 .bf16) (zh za : FVec Ideal S4x8192x1024 .bf16) : FVec Ideal S4x2048x2048 .f32 := fun i =>
  gradCol h zh za (i 1) ⟨(i 0).val * 2048 + (i 2).val, by have h0 : (i 0).val < 4 := (i 0).isLt; have h2 : (i 2).val < 2048 := (i 2).isLt; omega⟩

/-- The share of row block `s` in an element. -/
def share (h : FVec Ideal S8192x2048 .bf16) (zh za : FVec Ideal S4x8192x1024 .bf16) (s : Fin 4) (r : Fin 2048) (n : Fin 8192) : EReal :=
  ∑ l : Fin 2048, h (ix2 ⟨s.val * 2048 + l.val, by omega⟩ r) * dzAt (planes zh) (planes za) ⟨s.val * 2048 + l.val, by omega⟩ n

/-- The shares add up to the element. -/
theorem shares (h : FVec Ideal S8192x2048 .bf16) (zh za : FVec Ideal S4x8192x1024 .bf16) (r : Fin 2048) (n : Fin 8192) :
    ∑ s : Fin 4, share h zh za s r n = gradCol h zh za r n :=
  Fin.sum_mul_add_congr fun _ _ _ => rfl

/-- The payloads at an element: nothing at first, -/
theorem zero_at (a : Fin 1) (r : Fin 2048) (b : Fin 1024) : k0_pay1 (F := Ideal) (ix3 a r b) = 0 := by
  pointwise [k0_pay1]

/-- then a product with the columns of the first half, -/
theorem fst_at (acc : FVec Ideal S1x2048x1024 .f32) (h : FVec Ideal S2048x2048 .bf16) (z : FVec Ideal S1x2048x1024 .bf16) (a : Fin 1)
    (r : Fin 2048) (b : Fin 1024) :
    k0_pay2 (F := Ideal) acc h z (ix3 a r b) = acc (ix3 a r b) + ∑ l : Fin 2048, h (ix2 l r) * z (ix3 0 l b) := by
  obtain rfl : a = 0 := Subsingleton.elim _ _
  pointwise [k0_pay2]

/-- or with the second's. -/
theorem snd_at (acc : FVec Ideal S1x2048x1024 .f32) (h : FVec Ideal S2048x2048 .bf16) (z : FVec Ideal S1x2048x1024 .bf16) (a : Fin 1)
    (r : Fin 2048) (b : Fin 1024) :
    k0_pay3 (F := Ideal) acc h z (ix3 a r b) = acc (ix3 a r b) + ∑ l : Fin 2048, h (ix2 l r) * z (ix3 0 l b) := by
  obtain rfl : a = 0 := Subsingleton.elim _ _
  pointwise [k0_pay3]

/-- Point `t` takes row block `t % 4` of the column block `t / 4`, of the half that has it. -/
theorem index : ∀ t : Fin grid0.N, (∀ a : Fin 2, win0_0.index t a = ![t.val % 4, 0] a)
    ∧ (t.val < 16 → ∀ a : Fin 3, win0_1.index t a = ![t.val / 4, t.val % 4, 0] a)
    ∧ (16 ≤ t.val → ∀ a : Fin 3, win0_2.index t a = ![t.val / 4 - 4, t.val % 4, 0] a)
    ∧ (∀ a : Fin 3, win0_3.index t a = ![t.val / 8, 0, t.val / 4 % 2] a) := by decide +kernel

variable (m : (ℓ : Loc nD τ sig) → Buf (Elt Ideal) ℓ) (c : Dev nD)

/-- A point's blocks of the three arguments. -/
abbrev hBlock (t : Fin cfg0.N) : FVec Ideal S2048x2048 .bf16 := iblk m c 0 t
abbrev zBlock1 (t : Fin cfg0.N) : FVec Ideal S1x2048x1024 .bf16 := iblk m c 1 t
abbrev zBlock2 (t : Fin cfg0.N) : FVec Ideal S1x2048x1024 .bf16 := iblk m c 2 t

/-- The share a point adds. -/
abbrev part (t : Fin cfg0.N) (r : Fin 2048) (b : Fin 1024) : EReal :=
  share (V m c main_arg0) (V m c main_arg1) (V m c main_arg2) ⟨t.val % 4, by omega⟩ r
    ⟨t.val / 4 * 1024 + b.val, by have := lt_of_lt_of_eq t.isLt N_0; omega⟩

/-- It is the product of the point's blocks, in the first half of the columns -/
theorem part_fst (t : Fin cfg0.N) (h : t.val < 16) (r : Fin 2048) (b : Fin 1024) :
    ∑ l : Fin 2048, hBlock m c t (ix2 l r) * zBlock1 m c t (ix3 0 l b) = part m c t r b := by
  obtain ⟨e0, e1, -, -⟩ := index t
  refine Finset.sum_congr rfl fun l _ => ?_
  rw [dzAt_fst _ _ _ _ ⟨t.val / 4, by omega⟩ b rfl]
  congr 1
  · blk_ext [iblk, e0]
  · blk_ext [iblk, e1 h]

/-- and in the second. -/
theorem part_snd (t : Fin cfg0.N) (h : 16 ≤ t.val) (r : Fin 2048) (b : Fin 1024) :
    ∑ l : Fin 2048, hBlock m c t (ix2 l r) * zBlock2 m c t (ix3 0 l b) = part m c t r b := by
  obtain ⟨e0, -, e2, -⟩ := index t
  have ht : t.val < 32 := lt_of_lt_of_eq t.isLt N_0
  refine Finset.sum_congr rfl fun l _ => ?_
  rw [dzAt_snd _ _ _ _ ⟨t.val / 4 - 4, by omega⟩ b (show t.val / 4 * 1024 + b.val = (t.val / 4 - 4 + 4) * 1024 + b.val by omega)]
  congr 1
  · blk_ext [iblk, e0]
  · blk_ext [iblk, e2 h]

/-- The first row block's point leaves its share, -/
theorem starts (t : Fin cfg0.N) (h : t.val % 4 = 0) (y : S1x2048x1024.Idx) : outsAt0 m c t.val t.isLt y = 0 + part m c t (y 1) (y 2) := by
  obtain ⟨a, r, b, rfl⟩ : ∃ (a : Fin 1) (r : Fin 2048) (b : Fin 1024), y = ix3 a r b :=
    ⟨y 0, y 1, y 2, by funext u; match u with | ⟨0, _⟩ => rfl | ⟨1, _⟩ => rfl | ⟨2, _⟩ => rfl⟩
  by_cases h16 : t.val < 16
  · rw [outsAt0_A m c t h h16 (by omega)]
    frame_out
    rw [fst_at, zero_at, part_fst m c t h16]
    rfl
  · rw [outsAt0_C m c t h h16 (by omega)]
    frame_out
    rw [snd_at, zero_at, part_snd m c t (by omega)]
    rfl

/-- and every other adds its own. -/
theorem adds (t : Fin cfg0.N) (h : ¬t.val % 4 = 0) (y : S1x2048x1024.Idx) : outsAt0 m c t.val t.isLt y
    = outsAt0 m c (t.val - 1) (Nat.lt_of_le_of_lt (Nat.sub_le _ _) t.isLt) y + part m c t (y 1) (y 2) := by
  obtain ⟨a, r, b, rfl⟩ : ∃ (a : Fin 1) (r : Fin 2048) (b : Fin 1024), y = ix3 a r b :=
    ⟨y 0, y 1, y 2, by funext u; match u with | ⟨0, _⟩ => rfl | ⟨1, _⟩ => rfl | ⟨2, _⟩ => rfl⟩
  by_cases h16 : t.val < 16
  · rw [outsAt0_B m c t h h16 (by omega)]
    frame_out
    rw [fst_at, part_fst m c t h16]
    rfl
  · rw [outsAt0_D m c t h h16 (by omega)]
    frame_out
    rw [snd_at, part_snd m c t (by omega)]
    rfl

/-- So the call leaves the whole gradient. -/
theorem ends3 : (dats m 0 c).arrAt 3 cfg0.N = gradIn (V m c main_arg0) (V m c main_arg1) (V m c main_arg2) := by
  refine (dats m 0 c).arrAt_eq_of_covers 3 _ (by decide +kernel) fun t hf y => ?_
  blk_simp
  have hr : t.val % 4 = 4 - 1 := (flush0_3 t).mp hf
  have ht : t.val < 32 := lt_of_lt_of_eq t.isLt N_0
  rw [after0_3, Pipeline.eq_sum_fin_of_reset_step_apply_of_flush (fun n h => outsAt0 m c n h) 4 (fun _ => 0)
    (fun t y => part m c t (y 1) (y 2)) (fun t h y => starts m c t h y) (fun t h y => adds m c t h y) t hr y, zero_add]
  obtain ⟨a, r, b, rfl⟩ : ∃ (a : Fin 1) (r : Fin 2048) (b : Fin 1024), y = ix3 a r b :=
    ⟨y 0, y 1, y 2, by funext u; match u with | ⟨0, _⟩ => rfl | ⟨1, _⟩ => rfl | ⟨2, _⟩ => rfl⟩
  have h3 : (win0_3.blk t).view.emb (ix3 a r b) = ix3 (⟨t.val / 8, by omega⟩ : Fin 4) r (⟨t.val / 4 % 2 * 1024 + b.val, by omega⟩ : Fin 2048) := by
    blk_ext [(index t).2.2.2]
  refine Eq.trans ?_ (congrArg (gradIn (V m c main_arg0) (V m c main_arg1) (V m c main_arg2)) h3.symm)
  show _ = gradCol _ _ _ r ⟨t.val / 8 * 2048 + (t.val / 4 % 2 * 1024 + b.val), _⟩
  rw [← shares]
  refine Fin.sum_fin_congr fun s => ?_
  have hd : (4 * (t.val / 4) + s.val) / 4 * 1024 + b.val = t.val / 8 * 2048 + (t.val / 4 % 2 * 1024 + b.val) := by omega
  have hm : (4 * (t.val / 4) + s.val) % 4 = s.val := by omega
  show share _ _ _ ⟨(4 * (t.val / 4) + s.val) % 4, _⟩ r ⟨(4 * (t.val / 4) + s.val) / 4 * 1024 + b.val, _⟩ = _
  simp only [hd, hm]

end Cert.GradInSteps

namespace Cert.GradInFormula

open Cert.GradInReferenceIdeal Cert.GradInReferenceIdeal.Gen
open Idealize.ShloMosaic Idealize.ShloMosaic.TcCoe Idealize.SL.Sem

/-- The formula on the whole arrays, as the reference computes it. -/
def whole (h : FVec Ideal S8192x2048 .bf16) (zh za : FVec Ideal S4x8192x1024 .bf16) : FVec Ideal S4x2048x2048 .f32 :=
  transpose S4x2048x2048 [1, 0, 2] (shapeCast _ (Host.dotGeneral dot_S2048x8192_S8192x8192_S2048x8192_1_0_0_1_n_n none (transpose S2048x8192 [1, 0] (extf .f32 h bitsLt_bf16_f32) transposes_S8192x2048_S2048x8192_1_0) (shapeCast _ (transpose S8192x8x1024 [1, 0, 2] (extf .f32 (concatenate S8x8192x1024 0 [⟨S4x8192x1024, zh⟩, ⟨S4x8192x1024, za⟩] concatenates_S4x8192x1024_S4x8192x1024_S8x8192x1024_d0) bitsLt_bf16_f32) transposes_S8x8192x1024_S8192x8x1024_1_0_2) shapeCasts_S8192x8x1024_S8192x8192)) shapeCasts_S2048x8192_S2048x4x2048) transposes_S2048x4x2048_S4x2048x2048_1_0_2

/-- It is the gradient, element by element. -/
theorem whole_eq (h : FVec Ideal S8192x2048 .bf16) (zh za : FVec Ideal S4x8192x1024 .bf16) : whole h zh za = Cert.GradInSteps.gradIn h zh za := by
  funext i
  obtain ⟨q, r, n, rfl⟩ : ∃ (q : Fin 4) (r n : Fin 2048), i = ix3 q r n :=
    ⟨i 0, i 1, i 2, by funext u; match u with | ⟨0, _⟩ => rfl | ⟨1, _⟩ => rfl | ⟨2, _⟩ => rfl⟩
  pointwise [whole, Cert.GradInSteps.gradIn, Cert.GradInSteps.gradCol, Cert.dzAt]

end Cert.GradInFormula

namespace Cert.GradInClaims

open Cert.GradInSteps
open Idealize.ShloMosaic Idealize.ShloMosaic.TcCoe Idealize.SL.Sem

/-- The frames: the call's, -/
theorem frame : Cert.quiescent_GradIn := fun m ρ _ => Cert.GradIn.Gen.frame m ρ
theorem frame_ideal : Cert.quiescent_GradInIdeal := fun m ρ _ => Cert.GradInIdeal.Gen.frame m ρ

/-- the formula's, -/
theorem frame_reference : Cert.quiescent_GradInReferenceIdeal := fun m ρ _ =>
  (θ_run Cert.GradInReferenceIdeal.defs _ _).mono (fun r h => ⟨fun c => (h c).2, sem_eq_zero_of_no_sems (by decide) r.2⟩)
    (Cert.GradInReferenceIdeal.Value.run (F := Ideal) m ρ)

/-- and the claim: the call leaves what the formula gives. -/
theorem algebraic : Cert.algebraic_GradInIdeal_GradInReferenceIdeal := by
  intro m g m' g' _ h
  refine ⟨fun c => gradIn (m (c.tc.loc Cert.GradInIdeal.main_arg0)) (m (c.tc.loc Cert.GradInIdeal.main_arg1))
    (m (c.tc.loc Cert.GradInIdeal.main_arg2)), ?_, ?_⟩
  · exact (θ_run Cert.GradInIdeal.defs _ _).mono (fun _ r c => ⟨(r c).1.trans ((ends3 m c).trans (by
      rw [Cert.GradInIdeal.Gen.V_main_arg0, Cert.GradInIdeal.Gen.V_main_arg1, Cert.GradInIdeal.Gen.V_main_arg2])), (r c).2⟩)
      (Cert.GradInIdeal.Value.run_blocks (F := Ideal) m g)
  · refine (θ_run Cert.GradInReferenceIdeal.defs _ _).mono (fun _ r c => ⟨(r c).1.trans ?_, (r c).2⟩)
      (Cert.GradInReferenceIdeal.Value.run (F := Ideal) m' g')
    rw [(h c).1, (h c).2.1, (h c).2.2]
    exact Cert.GradInFormula.whole_eq _ _ _

end Cert.GradInClaims
-- ==== Proof.DyGateSteps.lean ====
/-
  The output projection's backward pass with the gate's, block of rows by block of rows, against the formula on the whole arrays: the products
  and the gate at an element, the frames, and the value claim.
-/
module

public import proofs.«01_k».proof.Defs
public import proofs.«01_k».proof.Proof.Gen.DyGate.Frame
public import proofs.«01_k».proof.Proof.Gen.DyGateIdeal.Frame
public import proofs.«01_k».proof.Proof.Gen.DyGateReferenceIdeal.Run
public import Idealize.ShloMosaic.Lib.IdealHost
public import Idealize.ShloMosaic.Lib.Pointwise
public import Idealize.ShloMosaic.Lib.Pipeline.ValueKit
public import Idealize.ShloMosaic.Lib.Quiescent

@[expose] public section

noncomputable section

namespace Cert.DyGateSteps

open Cert.DyGateIdeal Cert.DyGateIdeal.Gen
open Idealize.ShloMosaic Idealize.ShloMosaic.TcCoe Idealize.SL.Sem

/-- The gate's value, -/
def silu (z : EReal) : EReal := z * Ideal.logistic z

/-- and its slope. -/
def slope (z : EReal) : EReal :=
  Ideal.logistic z * (1 + z * (1 - Ideal.logistic z))

/-- A column of the branch without a gate, and of the gated one, among all columns; -/
def lower (b : Fin 1024) : Fin 2048 := ⟨b.val, by omega⟩
def upper (b : Fin 1024) : Fin 2048 := ⟨1024 + b.val, by omega⟩

/-- a column of the gated branch from its pair of heads and its lane. -/
def column (p : Fin 8) (l : Fin 128) : Fin 1024 := ⟨p.val * 128 + l.val, by omega⟩
def plane (b : Fin 1024) : Fin 8 := ⟨b.val / 128, by omega⟩
def lane (b : Fin 1024) : Fin 128 := ⟨b.val % 128, by omega⟩

/-- The call's payload for the first product at an element, -/
theorem low_at (v0 : FVec Ideal S512x2048 .bf16) (v1 : FVec Ideal S1024x2048 .bf16) (a : Fin 512) (b : Fin 1024) :
    k0_pay7 (F := Ideal) v0 v1 (ix2 a b) = ∑ k : Fin 2048, v0 (ix2 a k) * v1 (ix2 b k) := by
  pointwise [k0_pay7]

/-- and for the second. -/
theorem high_at (v0 : FVec Ideal S512x2048 .bf16) (v1 : FVec Ideal S1024x2048 .bf16) (a : Fin 512) (b : Fin 1024) :
    k0_pay8 (F := Ideal) v0 v1 (ix2 a b) = ∑ k : Fin 2048, v0 (ix2 a k) * v1 (ix2 b k) := by
  pointwise [k0_pay8]

section
variable (x0 : FVec Ideal S512x2048 .bf16) (x1 : FVec Ideal S2048x2048 .bf16) (x2 : FVec Ideal S8x512x128 .f32) (x3 : FVec Ideal S1x8x512x128 .f32)

/-- What a point leaves in its blocks: the product of the branch without a gate, -/
theorem out4_at (a : Fin 512) (b : Fin 1024) :
    out0_4 (F := Ideal) x0 x1 x2 x3 (ix2 a b) = ∑ k : Fin 2048, x0 (ix2 a k) * x1 (ix2 (lower b) k) := by
  have hout : out0_4 (F := Ideal) x0 x1 x2 x3 (ix2 a b) = k0_pay7 (F := Ideal) x0 (View.ld x1 r0_1) (ix2 a b) := by
    frame_out
  rw [hout, low_at]
  pointwise [lower]

/-- the product of the gated branch, -/
theorem prod_at (a : Fin 512) (b : Fin 1024) :
    k0_pay85 (F := Ideal) x0 x1 x2 x3 (ix2 a b) = ∑ k : Fin 2048, x0 (ix2 a k) * x1 (ix2 (upper b) k) := by
  unfold k0_pay85
  rw [high_at]
  pointwise [upper]

/-- that times the gate, -/
theorem out5_at (p : Fin 8) (a : Fin 512) (l : Fin 128) :
    out0_5 (F := Ideal) x0 x1 x2 x3 (ix3 p a l) = k0_pay85 (F := Ideal) x0 x1 x2 x3 (ix2 a (column p l)) * silu (x3 (ix4 0 p a l)) := by
  unfold out0_5 k0_pay97 k0_pay96 k0_pay95 k0_pay94 k0_pay92 k0_pay91 k0_pay90 k0_pay88
  generalize k0_pay85 (F := Ideal) x0 x1 x2 x3 = v5
  canon_tiles x h
  all_goals (change p.val = _ at h0; change a.val = _ at h1; change l.val = _ at h2; open_payloads; pointwise [silu, column]; blk_point [])

/-- and that times the branch's output and the gate's slope. -/
theorem out7_at (a : Fin 512) (b : Fin 1024) :
    out0_7 (F := Ideal) x0 x1 x2 x3 (ix3 0 a b) = k0_pay85 (F := Ideal) x0 x1 x2 x3 (ix2 a b) * x2 (ix3 (plane b) a (lane b))
      * slope (x3 (ix4 0 (plane b) a (lane b))) := by
  unfold out0_7 k0_pay95 k0_pay93 k0_pay92 k0_pay89 k0_pay87
  generalize k0_pay85 (F := Ideal) x0 x1 x2 x3 = v5
  canon_tiles x h
  all_goals (change a.val = _ at h1; change b.val = _ at h2; open_payloads; pointwise [slope, plane, lane]; blk_point [])

end

/-- An element of the whole product, -/
def dyAt (d : FVec Ideal S8192x2048 .bf16) (w : FVec Ideal S2048x2048 .bf16) (a : Fin 8192) (b : Fin 2048) : EReal :=
  ∑ k : Fin 2048, d (ix2 a k) * w (ix2 b k)

/-- the gradient of the branch without a gate, -/
def free (d : FVec Ideal S8192x2048 .bf16) (w : FVec Ideal S2048x2048 .bf16) : FVec Ideal S8192x1024 .f32 := fun i =>
  dyAt d w (i 0) (lower (i 1))

/-- that of the gated branch's output, head pair by head pair, -/
def gated (d : FVec Ideal S8192x2048 .bf16) (w : FVec Ideal S2048x2048 .bf16) (z : FVec Ideal S8x8x8192x128 .f32) : FVec Ideal S8x8192x128 .f32 := fun i =>
  dyAt d w (i 1) (upper (column (i 0) (i 2))) * silu (z (ix4 7 (i 0) (i 1) (i 2)))

/-- and the gate's. -/
def gateGrad (d : FVec Ideal S8192x2048 .bf16) (w : FVec Ideal S2048x2048 .bf16) (o : FVec Ideal S8x8192x128 .f32) (z : FVec Ideal S8x8x8192x128 .f32) :
    FVec Ideal S8192x1024 .bf16 := fun i =>
  dyAt d w (i 0) (upper (i 1)) * o (ix3 (plane (i 1)) (i 0) (lane (i 1))) * slope (z (ix4 7 (plane (i 1)) (i 0) (lane (i 1))))

/-- Point `t` takes the rows of block `t`, the weight whole, and the gate from plane 7; it leaves its rows, the gate's gradient in plane 3. -/
theorem index : ∀ t : Fin grid0.N, (∀ a : Fin 2, win0_0.index t a = ![t.val, 0] a) ∧ (∀ a : Fin 2, win0_1.index t a = 0)
    ∧ (∀ a : Fin 3, win0_2.index t a = ![0, t.val, 0] a) ∧ (∀ a : Fin 4, win0_3.index t a = ![7, 0, t.val, 0] a)
    ∧ (∀ a : Fin 2, win0_4.index t a = ![t.val, 0] a) ∧ (∀ a : Fin 3, win0_5.index t a = ![0, t.val, 0] a)
    ∧ (∀ a : Fin 3, win0_7.index t a = ![3, t.val, 0] a) := by decide +kernel

/-- Products of rows that are the arrays' rows. -/
theorem sum_eq (x0 : FVec Ideal S512x2048 .bf16) (x1 : FVec Ideal S2048x2048 .bf16) (d : FVec Ideal S8192x2048 .bf16) (w : FVec Ideal S2048x2048 .bf16)
    (a : Fin 512) (r : Fin 8192) (b : Fin 2048) (h0 : ∀ k : Fin 2048, x0 (ix2 a k) = d (ix2 r k)) (h1 : ∀ k : Fin 2048, x1 (ix2 b k) = w (ix2 b k)) :
    (∑ k : Fin 2048, x0 (ix2 a k) * x1 (ix2 b k)) = dyAt d w r b :=
  Finset.sum_congr rfl fun k _ => congrArg₂ (· * ·) (h0 k) (h1 k)

/-- Row `a` of block `t`. -/
def row (t : Fin cfg0.N) (a : Fin 512) : Fin 8192 := ⟨a.val + t.val * 512, by have := lt_of_lt_of_eq t.isLt N_0; omega⟩

section
variable (m : (ℓ : Loc nD τ sig) → Buf (Elt Ideal) ℓ) (c : Dev nD) (t : Fin cfg0.N)

theorem in0 (a : Fin 512) (k : Fin 2048) : iblk m c 0 t (ix2 a k) = V m c main_arg0 (ix2 (row t a) k) := by
  have e := (index t).1
  blk_ext [iblk, e, row]
theorem in1 (b k : Fin 2048) : iblk m c 1 t (ix2 b k) = V m c main_arg1 (ix2 b k) := by
  have e := (index t).2.1
  blk_ext [iblk, e]
theorem in2 (p : Fin 8) (a : Fin 512) (l : Fin 128) : iblk m c 2 t (ix3 p a l) = V m c main_arg2 (ix3 p (row t a) l) := by
  have e := (index t).2.2.1
  blk_ext [iblk, e, row]
theorem in3 (p : Fin 8) (a : Fin 512) (l : Fin 128) : iblk m c 3 t (ix4 0 p a l) = V m c main_arg3 (ix4 7 p (row t a) l) := by
  have e := (index t).2.2.2.1
  blk_ext [iblk, e, row]

end

section
variable (m : (ℓ : Loc nD τ sig) → Buf (Elt Ideal) ℓ) (c : Dev nD)

/-- The call leaves the first gradient, -/
theorem ends4 : (dats m 0 c).arrAt 4 cfg0.N = free (V m c main_arg0) (V m c main_arg1) := by
  refine (dats m 0 c).arrAt_eq_of_covers 4 _ (by decide +kernel) fun t hf y => ?_
  blk_simp
  rw [after0_4]
  obtain ⟨a, b, rfl⟩ : ∃ (a : Fin 512) (b : Fin 1024), y = ix2 a b := ⟨y 0, y 1, by funext u; match u with | ⟨0, _⟩ => rfl | ⟨1, _⟩ => rfl⟩
  have e := (index t).2.2.2.2.1
  have hy : (win0_4.blk t).view.emb (ix2 a b) = ix2 (row t a) b := by blk_ext [e, row]
  refine (out4_at _ _ _ _ a b).trans ((sum_eq _ _ _ _ _ _ _ (in0 m c t a) (in1 m c t _)).trans ?_)
  exact (congrArg (free (V m c main_arg0) (V m c main_arg1)) hy).symm

/-- the second, -/
theorem ends5 : (dats m 0 c).arrAt 5 cfg0.N = gated (V m c main_arg0) (V m c main_arg1) (V m c main_arg3) := by
  refine (dats m 0 c).arrAt_eq_of_covers 5 _ (by decide +kernel) fun t hf y => ?_
  blk_simp
  rw [after0_5]
  obtain ⟨p, a, l, rfl⟩ : ∃ (p : Fin 8) (a : Fin 512) (l : Fin 128), y = ix3 p a l := ⟨y 0, y 1, y 2, by funext u; match u with | ⟨0, _⟩ => rfl | ⟨1, _⟩ => rfl | ⟨2, _⟩ => rfl⟩
  have e := (index t).2.2.2.2.2.1
  have hy : (win0_5.blk t).view.emb (ix3 p a l) = ix3 p (row t a) l := by blk_ext [e, row]
  refine (out5_at _ _ _ _ p a l).trans (Eq.trans ?_ (congrArg (gated (V m c main_arg0) (V m c main_arg1) (V m c main_arg3)) hy).symm)
  exact congrArg₂ (· * ·) ((prod_at _ _ _ _ _ _).trans (sum_eq _ _ _ _ _ _ _ (in0 m c t a) (in1 m c t _))) (congrArg silu (in3 m c t p a l))

/-- and in its plane 3 the gate's. -/
theorem ends7 (i : S4x8192x1024.Idx) (hi : (i 0).val = 3) :
    (dats m 0 c).arrAt 7 cfg0.N i = gateGrad (V m c main_arg0) (V m c main_arg1) (V m c main_arg2) (V m c main_arg3) (ix2 (i 1) (i 2)) := by
  refine (dats m 0 c).arrAt_forall_of_coversWhere 7
    (fun i v => (i 0).val = 3 → v = gateGrad (V m c main_arg0) (V m c main_arg1) (V m c main_arg2) (V m c main_arg3) (ix2 (i 1) (i 2)))
    (fun β => β 0 = 3) (by decide +kernel) (fun t hf y => fun _ => ?_) (fun j hj h => ?_) i (by exact Memref.isWhole_whole _) hi
  · blk_simp
    rw [after0_7]
    obtain ⟨q, a, b, rfl⟩ : ∃ (q : Fin 1) (a : Fin 512) (b : Fin 1024), y = ix3 q a b := ⟨y 0, y 1, y 2, by funext u; match u with | ⟨0, _⟩ => rfl | ⟨1, _⟩ => rfl | ⟨2, _⟩ => rfl⟩
    obtain rfl : q = 0 := Subsingleton.elim _ _
    have e := (index t).2.2.2.2.2.2
    have hy : (win0_7.blk t).view.emb (ix3 0 a b) = ix3 3 (row t a) b := by blk_ext [e, row]
    refine (out7_at _ _ _ _ a b).trans (Eq.trans ?_ (congrArg (fun j : S4x8192x1024.Idx =>
      gateGrad (V m c main_arg0) (V m c main_arg1) (V m c main_arg2) (V m c main_arg3) (ix2 (j 1) (j 2))) hy).symm)
    exact congrArg₂ (· * ·) (congrArg₂ (· * ·) ((prod_at _ _ _ _ _ _).trans (sum_eq _ _ _ _ _ _ _ (in0 m c t a) (in1 m c t _))) (in2 m c t _ a _)) (congrArg slope (in3 m c t _ a _))
  · blk_simp [Pipeline.Window.cell_apply] at hj
    exact absurd (show (j 0).val = 3 from h) (by omega)

/-- A plane of four, as an array of its own. -/
theorem third (v : FVec Ideal S4x8192x1024 .bf16) (a : Fin 8192) (b : Fin 1024) :
    shapeCast S8192x1024 (extractStridedSlice S1x8192x1024 ![3, 0, 0] v slices_S4x8192x1024_S1x8192x1024_3_0_0) shapeCasts_S1x8192x1024_S8192x1024 (ix2 a b)
      = v (ix3 3 a b) := by
  pointwise []

/-- The lines after the call take that plane. -/
theorem taken : Pipeline.afterTail₀ cfgs (dats m) 0 (V0 m) [hostOps1] c main_v2
    = gateGrad (V m c main_arg0) (V m c main_arg1) (V m c main_arg2) (V m c main_arg3) := by
  have h : Pipeline.afterTail₀ cfgs (dats m) 0 (V0 m) [hostOps1] c main_v2
      = shapeCast S8192x1024 (extractStridedSlice S1x8192x1024 ![3, 0, 0] ((dats m 0 c).arrAt 7 cfg0.N : FVec Ideal S4x8192x1024 .bf16) slices_S4x8192x1024_S1x8192x1024_3_0_0)
        shapeCasts_S1x8192x1024_S8192x1024 := by
    have hw := Pipeline.withArrays_arr (cfgs 0).spec launch0.win.arr_inj c (V0 m c) (fun w => (dats m 0 c).arrAt w (cfgs 0).N) 7
    rw [← hw]
    show StableHlo.after hostOps1 _ (Proc.devRef .tc main_v2) = _
    after_results
    rfl
  rw [h]
  funext i
  obtain ⟨a, b, rfl⟩ : ∃ (a : Fin 8192) (b : Fin 1024), i = ix2 a b := ⟨i 0, i 1, by funext u; match u with | ⟨0, _⟩ => rfl | ⟨1, _⟩ => rfl⟩
  exact (third _ a b).trans (ends7 m c (ix3 3 a b) rfl)

/-- So every run of the call ends with the three gradients, the arguments unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v0_0) = free (m ((c.tc : Thread nD τ).loc main_arg0)) (m ((c.tc : Thread nD τ).loc main_arg1))
    ∧ r.2.mem ((c.tc : Thread nD τ).loc main_v0_1)
      = gated (m ((c.tc : Thread nD τ).loc main_arg0)) (m ((c.tc : Thread nD τ).loc main_arg1)) (m ((c.tc : Thread nD τ).loc main_arg3))
    ∧ r.2.mem ((c.tc : Thread nD τ).loc main_v2) = gateGrad (m ((c.tc : Thread nD τ).loc main_arg0)) (m ((c.tc : Thread nD τ).loc main_arg1))
      (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨((h.1 c).1 4).trans (ends4 m c), ((h.1 c).1 5).trans (ends5 m c),
      ((h.1 c).2 main_v2 (Pipeline.mem_restRefs_of main_v2 rfl (by decide))).trans (taken m c), h.2 c⟩)
    (θ_run_and (run_main m ρ) (unchanged m ρ))

end

end Cert.DyGateSteps

namespace Cert.DyGateFormula

open Cert.DyGateReferenceIdeal Cert.DyGateReferenceIdeal.Gen
open Idealize.ShloMosaic Idealize.ShloMosaic.TcCoe Idealize.SL.Sem

/-- The formula's product on the whole arrays, as the reference computes it, -/
def dy (d : FVec Ideal S8192x2048 .bf16) (w : FVec Ideal S2048x2048 .bf16) : FVec Ideal S8192x2048 .f32 :=
  Host.dotGeneral dot_S8192x2048_S2048x2048_S8192x2048_1_0_0_1_n_n none (extf .f32 d bitsLt_bf16_f32) (transpose S2048x2048 [1, 0] (extf .f32 w bitsLt_bf16_f32) transposes_S2048x2048_S2048x2048_1_0)

/-- the gate, a column for each head and lane, -/
def gate (z : FVec Ideal S8x8x8192x128 .f32) : FVec Ideal S8192x1024 .f32 :=
  shapeCast _ (transpose S8192x8x128 [1, 0, 2] (shapeCast _ (extractStridedSlice S1x8x8192x128 ![7, 0, 0, 0] z slices_S8x8x8192x128_S1x8x8192x128_7_0_0_0) shapeCasts_S1x8x8192x128_S8x8192x128) transposes_S8x8192x128_S8192x8x128_1_0_2) shapeCasts_S8192x8x128_S8192x1024

/-- its sigmoid, -/
def ones : FVec Ideal S8192x1024 .f32 := broadcastInDim S8192x1024 ![] bcast_S_S8192x1024 (constant S_ .f32 0x3F800000#32)
def sigmoid (z : FVec Ideal S8x8x8192x128 .f32) : FVec Ideal S8192x1024 .f32 :=
  Host.divf ones (addf ones (Host.exp (Host.negf (gate z))))

/-- and the three gradients. -/
def free (d : FVec Ideal S8192x2048 .bf16) (w : FVec Ideal S2048x2048 .bf16) : FVec Ideal S8192x1024 .f32 :=
  extractStridedSlice S8192x1024 ![0, 0] (dy d w) slices_S8192x2048_S8192x1024_0_0

def gated (d : FVec Ideal S8192x2048 .bf16) (w : FVec Ideal S2048x2048 .bf16) (z : FVec Ideal S8x8x8192x128 .f32) : FVec Ideal S8x8192x128 .f32 :=
  transpose S8x8192x128 [1, 0, 2] (shapeCast _ (mulf (extractStridedSlice S8192x1024 ![0, 1024] (dy d w) slices_S8192x2048_S8192x1024_0_1024) (mulf (gate z) (sigmoid z))) shapeCasts_S8192x1024_S8192x8x128) transposes_S8192x8x128_S8x8192x128_1_0_2

def gateGrad (d : FVec Ideal S8192x2048 .bf16) (w : FVec Ideal S2048x2048 .bf16) (o : FVec Ideal S8x8192x128 .f32) (z : FVec Ideal S8x8x8192x128 .f32) :
    FVec Ideal S8192x1024 .bf16 :=
  truncf .bf16 (mulf (mulf (extractStridedSlice S8192x1024 ![0, 1024] (dy d w) slices_S8192x2048_S8192x1024_0_1024) (shapeCast _ (transpose S8192x8x128 [1, 0, 2] o transposes_S8x8192x128_S8192x8x128_1_0_2) shapeCasts_S8192x8x128_S8192x1024)) (mulf (sigmoid z) (addf ones (mulf (gate z) (subf ones (sigmoid z)))))) bitsLt_bf16_f32

/-- They are the ones above, element by element. -/
theorem dy_at (d : FVec Ideal S8192x2048 .bf16) (w : FVec Ideal S2048x2048 .bf16) (a : Fin 8192) (b : Fin 2048) :
    dy d w (ix2 a b) = Cert.DyGateSteps.dyAt d w a b := by
  pointwise [dy, Cert.DyGateSteps.dyAt]

theorem gate_at (z : FVec Ideal S8x8x8192x128 .f32) (a : Fin 8192) (b : Fin 1024) :
    gate z (ix2 a b) = z (ix4 7 (Cert.DyGateSteps.plane b) a (Cert.DyGateSteps.lane b)) := by
  pointwise [gate, Cert.DyGateSteps.plane, Cert.DyGateSteps.lane]

theorem sigmoid_at (z : FVec Ideal S8x8x8192x128 .f32) (a : Fin 8192) (b : Fin 1024) :
    sigmoid z (ix2 a b) = Ideal.logistic (gate z (ix2 a b)) := by
  pointwise [sigmoid, ones, Ideal.logistic]

theorem free_eq (d : FVec Ideal S8192x2048 .bf16) (w : FVec Ideal S2048x2048 .bf16) : free d w = Cert.DyGateSteps.free d w := by
  funext i
  obtain ⟨a, b, rfl⟩ : ∃ (a : Fin 8192) (b : Fin 1024), i = ix2 a b := ⟨i 0, i 1, by funext u; match u with | ⟨0, _⟩ => rfl | ⟨1, _⟩ => rfl⟩
  refine Eq.trans ?_ (dy_at d w a (Cert.DyGateSteps.lower b))
  unfold free
  generalize dy d w = v
  pointwise [Cert.DyGateSteps.lower]

/-- A head and lane of a product with the gate's value, -/
theorem times_at (v : FVec Ideal S8192x2048 .f32) (s : FVec Ideal S8192x1024 .f32) (p : Fin 8) (a : Fin 8192) (l : Fin 128) :
    transpose S8x8192x128 [1, 0, 2] (shapeCast S8192x8x128 (mulf (extractStridedSlice S8192x1024 ![0, 1024] v slices_S8192x2048_S8192x1024_0_1024) s) shapeCasts_S8192x1024_S8192x8x128) transposes_S8192x8x128_S8x8192x128_1_0_2 (ix3 p a l)
      = v (ix2 a (Cert.DyGateSteps.upper (Cert.DyGateSteps.column p l))) * s (ix2 a (Cert.DyGateSteps.column p l)) := by
  pointwise [Cert.DyGateSteps.upper, Cert.DyGateSteps.column]

theorem plane_column (p : Fin 8) (l : Fin 128) : Cert.DyGateSteps.plane (Cert.DyGateSteps.column p l) = p := by
  apply Fin.ext
  simp only [Cert.DyGateSteps.plane, Cert.DyGateSteps.column]
  omega
theorem lane_column (p : Fin 8) (l : Fin 128) : Cert.DyGateSteps.lane (Cert.DyGateSteps.column p l) = l := by
  apply Fin.ext
  simp only [Cert.DyGateSteps.lane, Cert.DyGateSteps.column]
  omega

theorem gated_eq (d : FVec Ideal S8192x2048 .bf16) (w : FVec Ideal S2048x2048 .bf16) (z : FVec Ideal S8x8x8192x128 .f32) :
    gated d w z = Cert.DyGateSteps.gated d w z := by
  funext i
  obtain ⟨p, a, l, rfl⟩ : ∃ (p : Fin 8) (a : Fin 8192) (l : Fin 128), i = ix3 p a l := ⟨i 0, i 1, i 2, by funext u; match u with | ⟨0, _⟩ => rfl | ⟨1, _⟩ => rfl | ⟨2, _⟩ => rfl⟩
  refine (times_at _ _ p a l).trans (congrArg₂ (· * ·) (dy_at d w a _) ?_)
  show gate z (ix2 a _) * sigmoid z (ix2 a _) = _
  rw [sigmoid_at, gate_at, plane_column, lane_column]
  rfl

/-- and a column of one with the branch's output and a slope. -/
theorem slope_at (v : FVec Ideal S8192x2048 .f32) (o : FVec Ideal S8x8192x128 .f32) (s g : FVec Ideal S8192x1024 .f32) (a : Fin 8192) (b : Fin 1024) :
    truncf (F := Ideal) .bf16 (mulf (mulf (extractStridedSlice S8192x1024 ![0, 1024] v slices_S8192x2048_S8192x1024_0_1024) (shapeCast _ (transpose S8192x8x128 [1, 0, 2] o transposes_S8x8192x128_S8192x8x128_1_0_2) shapeCasts_S8192x8x128_S8192x1024)) (mulf s (addf ones (mulf g (subf ones s))))) bitsLt_bf16_f32 (ix2 a b)
      = v (ix2 a (Cert.DyGateSteps.upper b)) * o (ix3 (Cert.DyGateSteps.plane b) a (Cert.DyGateSteps.lane b))
        * (s (ix2 a b) * (1 + g (ix2 a b) * (1 - s (ix2 a b)))) := by
  pointwise [ones, Cert.DyGateSteps.upper, Cert.DyGateSteps.plane, Cert.DyGateSteps.lane]

theorem gateGrad_eq (d : FVec Ideal S8192x2048 .bf16) (w : FVec Ideal S2048x2048 .bf16) (o : FVec Ideal S8x8192x128 .f32) (z : FVec Ideal S8x8x8192x128 .f32) :
    gateGrad d w o z = Cert.DyGateSteps.gateGrad d w o z := by
  funext i
  obtain ⟨a, b, rfl⟩ : ∃ (a : Fin 8192) (b : Fin 1024), i = ix2 a b := ⟨i 0, i 1, by funext u; match u with | ⟨0, _⟩ => rfl | ⟨1, _⟩ => rfl⟩
  refine (slope_at (dy d w) o (sigmoid z) (gate z) a b).trans ?_
  rw [dy_at, sigmoid_at, gate_at]
  rfl

end Cert.DyGateFormula

namespace Cert.DyGateClaims

open Cert.DyGateSteps
open Idealize.ShloMosaic Idealize.ShloMosaic.TcCoe Idealize.SL.Sem

/-- The frames: the call's, -/
theorem frame : Cert.quiescent_DyGate := fun m ρ _ => Cert.DyGate.Gen.frame m ρ
theorem frame_ideal : Cert.quiescent_DyGateIdeal := fun m ρ _ => Cert.DyGateIdeal.Gen.frame m ρ

/-- the formula's, -/
theorem frame_reference : Cert.quiescent_DyGateReferenceIdeal := fun m ρ _ =>
  (θ_run Cert.DyGateReferenceIdeal.defs _ _).mono (fun r h => ⟨fun c => (h c).2.2.2, sem_eq_zero_of_no_sems (by decide) r.2⟩)
    (Cert.DyGateReferenceIdeal.Value.run (F := Ideal) m ρ)

/-- and the claim: the call leaves what the formula gives. -/
theorem algebraic : Cert.algebraic_DyGateIdeal_DyGateReferenceIdeal := by
  intro m g m' g' _ h
  refine ⟨_, _, _, run m g, ?_⟩
  refine (θ_run Cert.DyGateReferenceIdeal.defs _ _).mono (fun _ r c => ⟨(r c).1.trans ?_, (r c).2.1.trans ?_, (r c).2.2.1.trans ?_, (r c).2.2.2⟩)
    (Cert.DyGateReferenceIdeal.Value.run (F := Ideal) m' g')
  · rw [(h c).1, (h c).2.1]
    exact Cert.DyGateFormula.free_eq _ _
  · rw [(h c).1, (h c).2.1, (h c).2.2.2]
    exact Cert.DyGateFormula.gated_eq _ _ _
  · rw [(h c).1, (h c).2.1, (h c).2.2.1, (h c).2.2.2]
    exact Cert.DyGateFormula.gateGrad_eq _ _ _ _

end Cert.DyGateClaims
-- ==== Proof.GradOutSteps.lean ====
/-
  The output projection's weight gradient, row block by row block summed into its blocks, against the formula on the whole arrays: the products
  of each point, their sum over the row blocks, the frames, and the value claim.
-/
module

public import proofs.«01_k».proof.Defs
public import proofs.«01_k».proof.Proof.Gen.GradOut.Frame
public import proofs.«01_k».proof.Proof.Gen.GradOutIdeal.Value
public import proofs.«01_k».proof.Proof.Gen.GradOutReferenceIdeal.Run
public import Idealize.ShloMosaic.Lib.Pointwise
public import Idealize.ShloMosaic.Lib.Pipeline.ValueKit
public import Idealize.ShloMosaic.Lib.Quiescent

@[expose] public section

noncomputable section

namespace Cert.GradOutSteps

open Cert.GradOutIdeal Cert.GradOutIdeal.Gen
open Idealize.ShloMosaic Idealize.ShloMosaic.TcCoe Idealize.SL.Sem

/-- An element of the two halves set side by side: columns below 1024 are the first's. -/
def colOf (yh ya : FVec Ideal S8192x1024 .bf16) (l : Fin 8192) (n : Fin 2048) : EReal :=
  if h : n.val < 1024 then yh (ix2 l ⟨n.val, h⟩) else ya (ix2 l ⟨n.val - 1024, by omega⟩)

/-- The whole gradient: the columns' products with those of the output's gradient, summed over the rows. -/
def gradOut (yh ya : FVec Ideal S8192x1024 .bf16) (d : FVec Ideal S8192x2048 .bf16) : FVec Ideal S4x512x2048 .f32 := fun i =>
  ∑ l : Fin 8192, colOf yh ya l ⟨(i 0).val * 512 + (i 1).val, by have h0 : (i 0).val < 4 := (i 0).isLt; have h1 : (i 1).val < 512 := (i 1).isLt; omega⟩
    * d (ix2 l (i 2))

/-- The share of row block `s` in an element. -/
def share (yh ya : FVec Ideal S8192x1024 .bf16) (d : FVec Ideal S8192x2048 .bf16) (q s : Fin 4) (r : Fin 512) (n : Fin 2048) : EReal :=
  ∑ l : Fin 2048, colOf yh ya ⟨s.val * 2048 + l.val, by omega⟩ ⟨q.val * 512 + r.val, by omega⟩ * d (ix2 ⟨s.val * 2048 + l.val, by omega⟩ n)

/-- The shares add up to the element. -/
theorem shares (yh ya : FVec Ideal S8192x1024 .bf16) (d : FVec Ideal S8192x2048 .bf16) (q : Fin 4) (r : Fin 512) (n : Fin 2048) :
    ∑ s : Fin 4, share yh ya d q s r n = gradOut yh ya d (ix3 q r n) :=
  Fin.sum_mul_add_congr fun _ _ _ => rfl

/-- The payloads at an element: nothing at first, -/
theorem zero_at (a : Fin 1) (r : Fin 512) (n : Fin 2048) : k0_pay1 (F := Ideal) (ix3 a r n) = 0 := by
  pointwise [k0_pay1]

/-- then a product with the columns of the first half, -/
theorem fst_at (acc : FVec Ideal S1x512x2048 .f32) (y : FVec Ideal S2048x512 .bf16) (d : FVec Ideal S2048x2048 .bf16) (a : Fin 1) (r : Fin 512)
    (n : Fin 2048) : k0_pay2 (F := Ideal) acc y d (ix3 a r n) = acc (ix3 a r n) + ∑ l : Fin 2048, y (ix2 l r) * d (ix2 l n) := by
  obtain rfl : a = 0 := Subsingleton.elim _ _
  pointwise [k0_pay2]

/-- or with the second's. -/
theorem snd_at (acc : FVec Ideal S1x512x2048 .f32) (y : FVec Ideal S2048x512 .bf16) (d : FVec Ideal S2048x2048 .bf16) (a : Fin 1) (r : Fin 512)
    (n : Fin 2048) : k0_pay3 (F := Ideal) acc y d (ix3 a r n) = acc (ix3 a r n) + ∑ l : Fin 2048, y (ix2 l r) * d (ix2 l n) := by
  obtain rfl : a = 0 := Subsingleton.elim _ _
  pointwise [k0_pay3]

/-- Point `t` takes row block `t % 4` of the column block `t / 4`, of the half that has it. -/
theorem index : ∀ t : Fin grid0.N, (t.val < 8 → ∀ a : Fin 2, win0_0.index t a = ![t.val % 4, t.val / 4] a)
    ∧ (8 ≤ t.val → ∀ a : Fin 2, win0_1.index t a = ![t.val % 4, t.val / 4 - 2] a)
    ∧ (∀ a : Fin 2, win0_2.index t a = ![t.val % 4, 0] a) ∧ (∀ a : Fin 3, win0_3.index t a = ![t.val / 4, 0, 0] a) := by decide +kernel

variable (m : (ℓ : Loc nD τ sig) → Buf (Elt Ideal) ℓ) (c : Dev nD)

/-- A point's blocks of the three arguments. -/
abbrev yBlock0 (t : Fin cfg0.N) : FVec Ideal S2048x512 .bf16 := iblk m c 0 t
abbrev yBlock1 (t : Fin cfg0.N) : FVec Ideal S2048x512 .bf16 := iblk m c 1 t
abbrev dBlock (t : Fin cfg0.N) : FVec Ideal S2048x2048 .bf16 := iblk m c 2 t

/-- The share a point adds. -/
abbrev part (t : Fin cfg0.N) (r : Fin 512) (n : Fin 2048) : EReal :=
  share (V m c main_arg0) (V m c main_arg1) (V m c main_arg2) ⟨t.val / 4, by have := lt_of_lt_of_eq t.isLt N_0; omega⟩ ⟨t.val % 4, by omega⟩ r n

/-- It is the product of the point's blocks, in the first half of the columns -/
theorem part_fst (t : Fin cfg0.N) (h : t.val < 8) (r : Fin 512) (n : Fin 2048) :
    ∑ l : Fin 2048, yBlock0 m c t (ix2 l r) * dBlock m c t (ix2 l n) = part m c t r n := by
  obtain ⟨e0, -, e2, -⟩ := index t
  refine Finset.sum_congr rfl fun l _ => ?_
  rw [colOf, dif_pos (show t.val / 4 * 512 + r.val < 1024 by omega)]
  congr 1
  · blk_ext [iblk, e0 h]
  · blk_ext [iblk, e2]

/-- and in the second. -/
theorem part_snd (t : Fin cfg0.N) (h : 8 ≤ t.val) (r : Fin 512) (n : Fin 2048) :
    ∑ l : Fin 2048, yBlock1 m c t (ix2 l r) * dBlock m c t (ix2 l n) = part m c t r n := by
  obtain ⟨-, e1, e2, -⟩ := index t
  refine Finset.sum_congr rfl fun l _ => ?_
  rw [colOf, dif_neg (show ¬t.val / 4 * 512 + r.val < 1024 by omega)]
  have ht : t.val < 16 := lt_of_lt_of_eq t.isLt N_0
  congr 1
  · blk_ext [iblk, e1 h]
  · blk_ext [iblk, e2]

/-- The first row block's point leaves its share, -/
theorem starts (t : Fin cfg0.N) (h : t.val % 4 = 0) (y : S1x512x2048.Idx) : outsAt0 m c t.val t.isLt y = 0 + part m c t (y 1) (y 2) := by
  obtain ⟨a, r, n, rfl⟩ : ∃ (a : Fin 1) (r : Fin 512) (n : Fin 2048), y = ix3 a r n :=
    ⟨y 0, y 1, y 2, by funext u; match u with | ⟨0, _⟩ => rfl | ⟨1, _⟩ => rfl | ⟨2, _⟩ => rfl⟩
  by_cases h8 : t.val < 8
  · rw [outsAt0_A m c t h h8 (by omega)]
    frame_out
    rw [fst_at, zero_at, part_fst m c t h8]
    rfl
  · rw [outsAt0_C m c t h h8 (by omega)]
    frame_out
    rw [snd_at, zero_at, part_snd m c t (by omega)]
    rfl

/-- and every other adds its own. -/
theorem adds (t : Fin cfg0.N) (h : ¬t.val % 4 = 0) (y : S1x512x2048.Idx) : outsAt0 m c t.val t.isLt y
    = outsAt0 m c (t.val - 1) (Nat.lt_of_le_of_lt (Nat.sub_le _ _) t.isLt) y + part m c t (y 1) (y 2) := by
  obtain ⟨a, r, n, rfl⟩ : ∃ (a : Fin 1) (r : Fin 512) (n : Fin 2048), y = ix3 a r n :=
    ⟨y 0, y 1, y 2, by funext u; match u with | ⟨0, _⟩ => rfl | ⟨1, _⟩ => rfl | ⟨2, _⟩ => rfl⟩
  by_cases h8 : t.val < 8
  · rw [outsAt0_B m c t h h8 (by omega)]
    frame_out
    rw [fst_at, part_fst m c t h8]
    rfl
  · rw [outsAt0_D m c t h h8 (by omega)]
    frame_out
    rw [snd_at, part_snd m c t (by omega)]
    rfl

/-- So the call leaves the whole gradient. -/
theorem ends3 : (dats m 0 c).arrAt 3 cfg0.N = gradOut (V m c main_arg0) (V m c main_arg1) (V m c main_arg2) := by
  refine (dats m 0 c).arrAt_eq_of_covers 3 _ (by decide +kernel) fun t hf y => ?_
  blk_simp
  have hr : t.val % 4 = 4 - 1 := (flush0_3 t).mp hf
  have ht : t.val < 16 := lt_of_lt_of_eq t.isLt N_0
  rw [after0_3, Pipeline.eq_sum_fin_of_reset_step_apply_of_flush (fun n h => outsAt0 m c n h) 4 (fun _ => 0)
    (fun t y => part m c t (y 1) (y 2)) (fun t h y => starts m c t h y) (fun t h y => adds m c t h y) t hr y, zero_add]
  obtain ⟨a, r, n, rfl⟩ : ∃ (a : Fin 1) (r : Fin 512) (n : Fin 2048), y = ix3 a r n :=
    ⟨y 0, y 1, y 2, by funext u; match u with | ⟨0, _⟩ => rfl | ⟨1, _⟩ => rfl | ⟨2, _⟩ => rfl⟩
  have h3 : (win0_3.blk t).view.emb (ix3 a r n) = ix3 (⟨t.val / 4, by omega⟩ : Fin 4) r n := by blk_ext [(index t).2.2.2]
  refine Eq.trans ?_ (congrArg (gradOut (V m c main_arg0) (V m c main_arg1) (V m c main_arg2)) h3.symm)
  rw [← shares]
  refine Fin.sum_fin_congr fun s => ?_
  have hd : (4 * (t.val / 4) + s.val) / 4 = t.val / 4 := by omega
  have hm : (4 * (t.val / 4) + s.val) % 4 = s.val := by omega
  show share _ _ _ ⟨(4 * (t.val / 4) + s.val) / 4, _⟩ ⟨(4 * (t.val / 4) + s.val) % 4, _⟩ r n = _
  simp only [hd, hm]

end Cert.GradOutSteps

namespace Cert.GradOutFormula

open Cert.GradOutReferenceIdeal Cert.GradOutReferenceIdeal.Gen
open Idealize.ShloMosaic Idealize.ShloMosaic.TcCoe Idealize.SL.Sem

/-- The formula on the whole arrays, as the reference computes it. -/
def whole (yh ya : FVec Ideal S8192x1024 .bf16) (d : FVec Ideal S8192x2048 .bf16) : FVec Ideal S4x512x2048 .f32 :=
  shapeCast _ (Host.dotGeneral dot_S2048x8192_S8192x2048_S2048x2048_1_0_0_1_n_n none (transpose S2048x8192 [1, 0] (extf .f32 (concatenate S8192x2048 1 [⟨S8192x1024, yh⟩, ⟨S8192x1024, ya⟩] concatenates_S8192x1024_S8192x1024_S8192x2048_d1) bitsLt_bf16_f32) transposes_S8192x2048_S2048x8192_1_0) (extf .f32 d bitsLt_bf16_f32)) shapeCasts_S2048x2048_S4x512x2048

/-- It is the gradient, element by element. -/
theorem whole_eq (yh ya : FVec Ideal S8192x1024 .bf16) (d : FVec Ideal S8192x2048 .bf16) : whole yh ya d = Cert.GradOutSteps.gradOut yh ya d := by
  funext i
  obtain ⟨q, r, n, rfl⟩ : ∃ (q : Fin 4) (r : Fin 512) (n : Fin 2048), i = ix3 q r n :=
    ⟨i 0, i 1, i 2, by funext u; match u with | ⟨0, _⟩ => rfl | ⟨1, _⟩ => rfl | ⟨2, _⟩ => rfl⟩
  pointwise [whole, Cert.GradOutSteps.gradOut, Cert.GradOutSteps.colOf]

end Cert.GradOutFormula

namespace Cert.GradOutClaims

open Cert.GradOutSteps
open Idealize.ShloMosaic Idealize.ShloMosaic.TcCoe Idealize.SL.Sem

/-- The frames: the call's, -/
theorem frame : Cert.quiescent_GradOut := fun m ρ _ => Cert.GradOut.Gen.frame m ρ
theorem frame_ideal : Cert.quiescent_GradOutIdeal := fun m ρ _ => Cert.GradOutIdeal.Gen.frame m ρ

/-- the formula's, -/
theorem frame_reference : Cert.quiescent_GradOutReferenceIdeal := fun m ρ _ =>
  (θ_run Cert.GradOutReferenceIdeal.defs _ _).mono (fun r h => ⟨fun c => (h c).2, sem_eq_zero_of_no_sems (by decide) r.2⟩)
    (Cert.GradOutReferenceIdeal.Value.run (F := Ideal) m ρ)

/-- and the claim: the call leaves what the formula gives. -/
theorem algebraic : Cert.algebraic_GradOutIdeal_GradOutReferenceIdeal := by
  intro m g m' g' _ h
  refine ⟨fun c => gradOut (m (c.tc.loc Cert.GradOutIdeal.main_arg0)) (m (c.tc.loc Cert.GradOutIdeal.main_arg1))
    (m (c.tc.loc Cert.GradOutIdeal.main_arg2)), ?_, ?_⟩
  · exact (θ_run Cert.GradOutIdeal.defs _ _).mono (fun _ r c => ⟨(r c).1.trans ((ends3 m c).trans (by
      rw [Cert.GradOutIdeal.Gen.V_main_arg0, Cert.GradOutIdeal.Gen.V_main_arg1, Cert.GradOutIdeal.Gen.V_main_arg2])), (r c).2⟩)
      (Cert.GradOutIdeal.Value.run_blocks (F := Ideal) m g)
  · refine (θ_run Cert.GradOutReferenceIdeal.defs _ _).mono (fun _ r c => ⟨(r c).1.trans ?_, (r c).2⟩)
      (Cert.GradOutReferenceIdeal.Value.run (F := Ideal) m' g')
    rw [(h c).1, (h c).2.1, (h c).2.2]
    exact Cert.GradOutFormula.whole_eq _ _ _

end Cert.GradOutClaims
-- ==== Proof.DhAt.lean ====
/-
  The gradient of the normed input at one element, and the eight column blocks of its sum, two of which a point of the calls adds.
-/
module

public import proofs.«01_k».proof.Proof.DzAt
public import Idealize.ShloMosaic.Lib.Pipeline.ValueKit

@[expose] public section

noncomputable section

namespace Cert

variable (zh za : Fin 4 → Fin 8192 → Fin 1024 → EReal) (w : Fin 4 → Fin 2048 → Fin 2048 → EReal) (a : Fin 8192) (n : Fin 2048)

/-- Column `l` of the weight's row `n`, its four planes set side by side. -/
def wAt (l : Fin 8192) : EReal := w ⟨l.val / 2048, by omega⟩ n ⟨l.val % 2048, by omega⟩

/-- The gradient at row `a` and column `n`: the row of the projection's gradient against the row of the weight. -/
def dhAt : EReal := ∑ l : Fin 8192, dzAt zh za a l * wAt w n l

/-- Column block `q` of the sum, -/
def dhPart (q : Fin 8) : EReal := ∑ k : Fin 1024, dzAt zh za a ⟨q.val * 1024 + k.val, by omega⟩ * wAt w n ⟨q.val * 1024 + k.val, by omega⟩

/-- the two that the plane `s` of the weight meets, -/
def dhPair (s : Fin 4) : EReal := dhPart zh za w a n ⟨s.val * 2, by omega⟩ + dhPart zh za w a n ⟨s.val * 2 + 1, by omega⟩

/-- and the whole sum by the planes. -/
theorem dhPairs : ∑ s : Fin 4, dhPair zh za w a n s = dhAt zh za w a n := by
  rw [show dhAt zh za w a n = ∑ q : Fin 8, dhPart zh za w a n q from (Fin.sum_mul_add_congr fun _ _ _ => rfl).symm,
    ← Fin.sum_mul_add_fin 4 2 (dhPart zh za w a n)]
  exact Finset.sum_congr rfl fun s _ =>
    (Fin.sum_univ_two fun u : Fin 2 => dhPart zh za w a n ⟨s.val * 2 + u.val, by omega⟩).symm

/-- Column `k` of the weight in column block `s * 2 + u`. -/
theorem wAt_part (s : Fin 4) (u : Fin 2) (k : Fin 1024) (l : Fin 8192) (h : l.val = (s.val * 2 + u.val) * 1024 + k.val) :
    wAt w n l = w s n ⟨u.val * 1024 + k.val, by omega⟩ := by
  have hs : l.val / 2048 = s.val := by omega
  have hk : l.val % 2048 = u.val * 1024 + k.val := by omega
  rw [wAt]
  simp only [hs, hk]

/-- The two column blocks from the first half's planes, -/
theorem dhPair_fst (s : Fin 4) (h : s.val < 2) : dhPair zh za w a n s
    = ∑ k : Fin 1024, zh ⟨s.val * 2, by omega⟩ a k * w s n ⟨k.val, by omega⟩
      + ∑ k : Fin 1024, zh ⟨s.val * 2 + 1, by omega⟩ a k * w s n ⟨1024 + k.val, by omega⟩ := by
  refine congrArg₂ (· + ·) (Finset.sum_congr rfl fun k _ => ?_) (Finset.sum_congr rfl fun k _ => ?_)
  · rw [dzAt_fst zh za a _ ⟨s.val * 2, by omega⟩ k rfl, wAt_part w n s 0 k _ rfl]
    simp only [Fin.val_zero, zero_mul, zero_add]
  · rw [dzAt_fst zh za a _ ⟨s.val * 2 + 1, by omega⟩ k rfl, wAt_part w n s 1 k _ rfl]
    simp only [Fin.val_one, one_mul]

/-- and from the second's. -/
theorem dhPair_snd (s : Fin 4) (h : 2 ≤ s.val) : dhPair zh za w a n s
    = ∑ k : Fin 1024, za ⟨(s.val - 2) * 2, by omega⟩ a k * w s n ⟨k.val, by omega⟩
      + ∑ k : Fin 1024, za ⟨(s.val - 2) * 2 + 1, by omega⟩ a k * w s n ⟨1024 + k.val, by omega⟩ := by
  refine congrArg₂ (· + ·) (Finset.sum_congr rfl fun k _ => ?_) (Finset.sum_congr rfl fun k _ => ?_)
  · rw [dzAt_snd zh za a _ ⟨(s.val - 2) * 2, by omega⟩ k (show s.val * 2 * 1024 + k.val = ((s.val - 2) * 2 + 4) * 1024 + k.val by omega),
      wAt_part w n s 0 k _ rfl]
    simp only [Fin.val_zero, zero_mul, zero_add]
  · rw [dzAt_snd zh za a _ ⟨(s.val - 2) * 2 + 1, by omega⟩ k
      (show (s.val * 2 + 1) * 1024 + k.val = ((s.val - 2) * 2 + 1 + 4) * 1024 + k.val by omega), wAt_part w n s 1 k _ rfl]
    simp only [Fin.val_one, one_mul]

end Cert
-- ==== Proof.DhFirstSteps.lean ====
/-
  The first call of the normed input's gradient, on the first 3072 rows: the products of each point, their sum over the column blocks, the
  frames, and the value claim.
-/
module

public import proofs.«01_k».proof.Defs
public import proofs.«01_k».proof.Proof.DhAt
public import proofs.«01_k».proof.Proof.Gen.DhFirst.Frame
public import proofs.«01_k».proof.Proof.Gen.DhFirstIdeal.Value
public import proofs.«01_k».proof.Proof.Gen.DhFirstReferenceIdeal.Run
public import Idealize.ShloMosaic.Lib.Pointwise
public import Idealize.ShloMosaic.Lib.Pipeline.ValueKit
public import Idealize.ShloMosaic.Lib.Quiescent

@[expose] public section

noncomputable section

namespace Cert.DhFirstSteps

open Cert.DhFirstIdeal Cert.DhFirstIdeal.Gen
open Idealize.ShloMosaic Idealize.ShloMosaic.TcCoe Idealize.SL.Sem

/-- The arrays by plane, row and column. -/
abbrev zAt (z : FVec Ideal S4x8192x1024 .bf16) (q : Fin 4) (l : Fin 8192) (b : Fin 1024) : EReal := z (ix3 q l b)
abbrev pAt (w : FVec Ideal S4x2048x2048 .bf16) (q : Fin 4) (l : Fin 2048) (b : Fin 2048) : EReal := w (ix3 q l b)

/-- The gradient on the call's rows. -/
def dh (zh za : FVec Ideal S4x8192x1024 .bf16) (w : FVec Ideal S4x2048x2048 .bf16) : FVec Ideal S3072x2048 .f32 := fun i =>
  dhAt (zAt zh) (zAt za) (pAt w) ⟨(i 0).val, by have h0 : (i 0).val < 3072 := (i 0).isLt; omega⟩ (i 1)

/-- What a point adds to an element: from its two planes and its plane of the weight. -/
def step (z : FVec Ideal S2x1024x1024 .bf16) (w : FVec Ideal S1x2048x2048 .bf16) (r : Fin 1024) (n : Fin 2048) : EReal :=
  ∑ k : Fin 1024, z (ix3 0 r k) * w (ix3 0 n ⟨k.val, by omega⟩) + ∑ k : Fin 1024, z (ix3 1 r k) * w (ix3 0 n ⟨1024 + k.val, by omega⟩)

variable (m : (ℓ : Loc nD τ sig) → Buf (Elt Ideal) ℓ) (c : Dev nD)

/-- A point's blocks of the three arguments. -/
abbrev zBlock0 (t : Fin cfg0.N) : FVec Ideal S2x1024x1024 .bf16 := iblk m c 0 t
abbrev zBlock1 (t : Fin cfg0.N) : FVec Ideal S2x1024x1024 .bf16 := iblk m c 1 t
abbrev wBlock (t : Fin cfg0.N) : FVec Ideal S1x2048x2048 .bf16 := iblk m c 2 t

/-- The first column block's point leaves its step, -/
theorem left_A (t : Fin cfg0.N) (h : t.val % 4 = 0) (r : Fin 1024) (n : Fin 2048) :
    outsAt0 m c t.val t.isLt (ix2 r n) = 0 + step (zBlock0 m c t) (wBlock m c t) r n := by
  rw [outsAt0_A m c t h (by omega) (by omega)]
  frame_out
  pointwise [k0_pay1, k0_pay2, step]

/-- the second adds its own, -/
theorem left_B (t : Fin cfg0.N) (h0 : ¬t.val % 4 = 0) (h1 : t.val % 4 ≤ 1) (r : Fin 1024) (n : Fin 2048) : outsAt0 m c t.val t.isLt (ix2 r n)
    = outsAt0 m c (t.val - 1) (Nat.lt_of_le_of_lt (Nat.sub_le _ _) t.isLt) (ix2 r n) + step (zBlock0 m c t) (wBlock m c t) r n := by
  rw [outsAt0_B m c t h0 h1 (by omega)]
  frame_out
  pointwise [k0_pay2, step]

/-- and the others theirs, from the second half. -/
theorem left_C (t : Fin cfg0.N) (h0 : ¬t.val % 4 = 0) (h1 : ¬t.val % 4 ≤ 1) (r : Fin 1024) (n : Fin 2048) : outsAt0 m c t.val t.isLt (ix2 r n)
    = outsAt0 m c (t.val - 1) (Nat.lt_of_le_of_lt (Nat.sub_le _ _) t.isLt) (ix2 r n) + step (zBlock1 m c t) (wBlock m c t) r n := by
  rw [outsAt0_C m c t h0 h1 (by omega)]
  frame_out
  pointwise [k0_pay3, step]

/-- Point `t` takes row block `t / 4` everywhere, two planes of the half that has them, and the weight's plane `t % 4`. -/
theorem index : ∀ t : Fin grid0.N, (t.val % 4 < 2 → ∀ a : Fin 3, win0_0.index t a = ![t.val % 4, t.val / 4, 0] a)
    ∧ (2 ≤ t.val % 4 → ∀ a : Fin 3, win0_1.index t a = ![t.val % 4 - 2, t.val / 4, 0] a)
    ∧ (∀ a : Fin 3, win0_2.index t a = ![t.val % 4, 0, 0] a) ∧ (∀ a : Fin 2, win0_4.index t a = ![t.val / 4, 0] a) := by decide +kernel

/-- The two column blocks a point adds. -/
abbrev part (t : Fin cfg0.N) (r : Fin 1024) (n : Fin 2048) : EReal :=
  dhPair (zAt (V m c main_arg0)) (zAt (V m c main_arg1)) (pAt (V m c main_arg2))
    ⟨t.val / 4 * 1024 + r.val, by have := lt_of_lt_of_eq t.isLt N_0; omega⟩ n ⟨t.val % 4, by omega⟩

/-- They are its step, in the first half -/
theorem part_fst (t : Fin cfg0.N) (h : t.val % 4 < 2) (r : Fin 1024) (n : Fin 2048) :
    step (zBlock0 m c t) (wBlock m c t) r n = part m c t r n := by
  obtain ⟨e0, -, e2, -⟩ := index t
  rw [part, dhPair_fst _ _ _ _ _ _ h]
  refine congrArg₂ (· + ·) (Finset.sum_congr rfl fun k _ => ?_) (Finset.sum_congr rfl fun k _ => ?_)
  all_goals
    refine congrArg₂ (· * ·) ?_ ?_
    · blk_ext [iblk, e0 h]
    · blk_ext [iblk, e2]

/-- and in the second. -/
theorem part_snd (t : Fin cfg0.N) (h : 2 ≤ t.val % 4) (r : Fin 1024) (n : Fin 2048) :
    step (zBlock1 m c t) (wBlock m c t) r n = part m c t r n := by
  obtain ⟨-, e1, e2, -⟩ := index t
  rw [part, dhPair_snd _ _ _ _ _ _ h]
  refine congrArg₂ (· + ·) (Finset.sum_congr rfl fun k _ => ?_) (Finset.sum_congr rfl fun k _ => ?_)
  all_goals
    refine congrArg₂ (· * ·) ?_ ?_
    · blk_ext [iblk, e1 h]
    · blk_ext [iblk, e2]

/-- The first column block's point leaves its part, -/
theorem starts (t : Fin cfg0.N) (h : t.val % 4 = 0) (y : S1024x2048.Idx) : outsAt0 m c t.val t.isLt y = 0 + part m c t (y 0) (y 1) := by
  obtain ⟨r, n, rfl⟩ : ∃ (r : Fin 1024) (n : Fin 2048), y = ix2 r n := ⟨y 0, y 1, by funext u; match u with | ⟨0, _⟩ => rfl | ⟨1, _⟩ => rfl⟩
  rw [left_A m c t h, part_fst m c t (by omega)]
  rfl

/-- and every other adds its own. -/
theorem adds (t : Fin cfg0.N) (h : ¬t.val % 4 = 0) (y : S1024x2048.Idx) : outsAt0 m c t.val t.isLt y
    = outsAt0 m c (t.val - 1) (Nat.lt_of_le_of_lt (Nat.sub_le _ _) t.isLt) y + part m c t (y 0) (y 1) := by
  obtain ⟨r, n, rfl⟩ : ∃ (r : Fin 1024) (n : Fin 2048), y = ix2 r n := ⟨y 0, y 1, by funext u; match u with | ⟨0, _⟩ => rfl | ⟨1, _⟩ => rfl⟩
  by_cases h1 : t.val % 4 ≤ 1
  · rw [left_B m c t h h1, part_fst m c t (by omega)]
    rfl
  · rw [left_C m c t h h1, part_snd m c t (by omega)]
    rfl

/-- So the call leaves the gradient on its rows. -/
theorem ends4 : (dats m 0 c).arrAt 4 cfg0.N = dh (V m c main_arg0) (V m c main_arg1) (V m c main_arg2) := by
  refine (dats m 0 c).arrAt_eq_of_covers 4 _ (by decide +kernel) fun t hf y => ?_
  blk_simp
  have hr : t.val % 4 = 4 - 1 := (flush0_4 t).mp hf
  have ht : t.val < 12 := lt_of_lt_of_eq t.isLt N_0
  rw [after0_4, Pipeline.eq_sum_fin_of_reset_step_apply_of_flush (fun n h => outsAt0 m c n h) 4 (fun _ => 0)
    (fun t y => part m c t (y 0) (y 1)) (fun t h y => starts m c t h y) (fun t h y => adds m c t h y) t hr y, zero_add]
  obtain ⟨r, n, rfl⟩ : ∃ (r : Fin 1024) (n : Fin 2048), y = ix2 r n := ⟨y 0, y 1, by funext u; match u with | ⟨0, _⟩ => rfl | ⟨1, _⟩ => rfl⟩
  have h4 : (win0_4.blk t).view.emb (ix2 r n) = ix2 (⟨t.val / 4 * 1024 + r.val, by omega⟩ : Fin 3072) n := by blk_ext [(index t).2.2.2]
  refine Eq.trans ?_ (congrArg (dh (V m c main_arg0) (V m c main_arg1) (V m c main_arg2)) h4.symm)
  show _ = dhAt _ _ _ ⟨t.val / 4 * 1024 + r.val, _⟩ n
  rw [← dhPairs]
  refine Fin.sum_fin_congr fun s => ?_
  have hd : (4 * (t.val / 4) + s.val) / 4 = t.val / 4 := by omega
  have hm : (4 * (t.val / 4) + s.val) % 4 = s.val := by omega
  show dhPair _ _ _ ⟨(4 * (t.val / 4) + s.val) / 4 * 1024 + r.val, _⟩ n ⟨(4 * (t.val / 4) + s.val) % 4, _⟩ = _
  simp only [hd, hm]

end Cert.DhFirstSteps

namespace Cert.DhFirstFormula

open Cert.DhFirstReferenceIdeal Cert.DhFirstReferenceIdeal.Gen
open Idealize.ShloMosaic Idealize.ShloMosaic.TcCoe Idealize.SL.Sem

/-- The formula on the whole arrays, as the reference computes it. -/
def whole (zh za : FVec Ideal S4x8192x1024 .bf16) (w : FVec Ideal S4x2048x2048 .bf16) : FVec Ideal S3072x2048 .f32 :=
  extractStridedSlice S3072x2048 ![0, 0] (Host.dotGeneral dot_S8192x8192_S8192x2048_S8192x2048_1_0_0_1_n_n none (shapeCast _ (transpose S8192x8x1024 [1, 0, 2] (extf .f32 (concatenate S8x8192x1024 0 [⟨S4x8192x1024, zh⟩, ⟨S4x8192x1024, za⟩] concatenates_S4x8192x1024_S4x8192x1024_S8x8192x1024_d0) bitsLt_bf16_f32) transposes_S8x8192x1024_S8192x8x1024_1_0_2) shapeCasts_S8192x8x1024_S8192x8192) (transpose S8192x2048 [1, 0] (shapeCast _ (transpose S2048x4x2048 [1, 0, 2] (extf .f32 w bitsLt_bf16_f32) transposes_S4x2048x2048_S2048x4x2048_1_0_2) shapeCasts_S2048x4x2048_S2048x8192) transposes_S2048x8192_S8192x2048_1_0)) slices_S8192x2048_S3072x2048_0_0

/-- It is the gradient, element by element. -/
theorem whole_eq (zh za : FVec Ideal S4x8192x1024 .bf16) (w : FVec Ideal S4x2048x2048 .bf16) : whole zh za w = Cert.DhFirstSteps.dh zh za w := by
  funext i
  obtain ⟨a, n, rfl⟩ : ∃ (a : Fin 3072) (n : Fin 2048), i = ix2 a n := ⟨i 0, i 1, by funext u; match u with | ⟨0, _⟩ => rfl | ⟨1, _⟩ => rfl⟩
  pointwise [whole, Cert.DhFirstSteps.dh, Cert.dhAt, Cert.dzAt, Cert.wAt]

end Cert.DhFirstFormula

namespace Cert.DhFirstClaims

open Cert.DhFirstSteps
open Idealize.ShloMosaic Idealize.ShloMosaic.TcCoe Idealize.SL.Sem

/-- The frames: the call's, -/
theorem frame : Cert.quiescent_DhFirst := fun m ρ _ => Cert.DhFirst.Gen.frame m ρ
theorem frame_ideal : Cert.quiescent_DhFirstIdeal := fun m ρ _ => Cert.DhFirstIdeal.Gen.frame m ρ

/-- the formula's, -/
theorem frame_reference : Cert.quiescent_DhFirstReferenceIdeal := fun m ρ _ =>
  (θ_run Cert.DhFirstReferenceIdeal.defs _ _).mono (fun r h => ⟨fun c => (h c).2, sem_eq_zero_of_no_sems (by decide) r.2⟩)
    (Cert.DhFirstReferenceIdeal.Value.run (F := Ideal) m ρ)

/-- and the claim: the call leaves what the formula gives. -/
theorem algebraic : Cert.algebraic_DhFirstIdeal_DhFirstReferenceIdeal := by
  intro m g m' g' _ h
  refine ⟨fun c => dh (m (c.tc.loc Cert.DhFirstIdeal.main_arg0)) (m (c.tc.loc Cert.DhFirstIdeal.main_arg1))
    (m (c.tc.loc Cert.DhFirstIdeal.main_arg2)), ?_, ?_⟩
  · exact (θ_run Cert.DhFirstIdeal.defs _ _).mono (fun _ r c => ⟨(r c).1.trans ((ends4 m c).trans (by
      rw [Cert.DhFirstIdeal.Gen.V_main_arg0, Cert.DhFirstIdeal.Gen.V_main_arg1, Cert.DhFirstIdeal.Gen.V_main_arg2])), (r c).2⟩)
      (Cert.DhFirstIdeal.Value.run_blocks (F := Ideal) m g)
  · refine (θ_run Cert.DhFirstReferenceIdeal.defs _ _).mono (fun _ r c => ⟨(r c).1.trans ?_, (r c).2⟩)
      (Cert.DhFirstReferenceIdeal.Value.run (F := Ideal) m' g')
    rw [(h c).1, (h c).2.1, (h c).2.2]
    exact Cert.DhFirstFormula.whole_eq _ _ _

end Cert.DhFirstClaims
-- ==== Proof.DhLastSteps.lean ====
/-
  The second call of the normed input's gradient, on the rows from 3072 on: the products of each point, their sum over the column blocks, the
  frames, and the value claim.
-/
module

public import proofs.«01_k».proof.Defs
public import proofs.«01_k».proof.Proof.DhFirstSteps
public import proofs.«01_k».proof.Proof.Gen.DhLast.Frame
public import proofs.«01_k».proof.Proof.Gen.DhLastIdeal.Value
public import proofs.«01_k».proof.Proof.Gen.DhLastReferenceIdeal.Run
public import Idealize.ShloMosaic.Lib.Pointwise
public import Idealize.ShloMosaic.Lib.Pipeline.ValueKit
public import Idealize.ShloMosaic.Lib.Quiescent

@[expose] public section

noncomputable section

namespace Cert.DhLastSteps

open Cert.DhLastIdeal Cert.DhLastIdeal.Gen
open Idealize.ShloMosaic Idealize.ShloMosaic.TcCoe Idealize.SL.Sem

open Cert.DhFirstSteps (zAt pAt step)

/-- The gradient on the call's rows. -/
def dh (zh za : FVec Ideal S4x8192x1024 .bf16) (w : FVec Ideal S4x2048x2048 .bf16) : FVec Ideal S5120x2048 .f32 := fun i =>
  dhAt (zAt zh) (zAt za) (pAt w) ⟨3072 + (i 0).val, by have h0 : (i 0).val < 5120 := (i 0).isLt; omega⟩ (i 1)

variable (m : (ℓ : Loc nD τ sig) → Buf (Elt Ideal) ℓ) (c : Dev nD)

/-- A point's blocks of the three arguments. -/
abbrev zBlock0 (t : Fin cfg0.N) : FVec Ideal S2x1024x1024 .bf16 := iblk m c 0 t
abbrev zBlock1 (t : Fin cfg0.N) : FVec Ideal S2x1024x1024 .bf16 := iblk m c 1 t
abbrev wBlock (t : Fin cfg0.N) : FVec Ideal S1x2048x2048 .bf16 := iblk m c 2 t

/-- The first column block's point leaves its step, -/
theorem left_A (t : Fin cfg0.N) (h : t.val % 4 = 0) (r : Fin 1024) (n : Fin 2048) :
    outsAt0 m c t.val t.isLt (ix2 r n) = 0 + step (zBlock0 m c t) (wBlock m c t) r n := by
  rw [outsAt0_A m c t h (by omega) (by omega)]
  frame_out
  pointwise [k0_pay1, k0_pay2, step]

/-- the second adds its own, -/
theorem left_B (t : Fin cfg0.N) (h0 : ¬t.val % 4 = 0) (h1 : t.val % 4 ≤ 1) (r : Fin 1024) (n : Fin 2048) : outsAt0 m c t.val t.isLt (ix2 r n)
    = outsAt0 m c (t.val - 1) (Nat.lt_of_le_of_lt (Nat.sub_le _ _) t.isLt) (ix2 r n) + step (zBlock0 m c t) (wBlock m c t) r n := by
  rw [outsAt0_B m c t h0 h1 (by omega)]
  frame_out
  pointwise [k0_pay2, step]

/-- and the others theirs, from the second half. -/
theorem left_C (t : Fin cfg0.N) (h0 : ¬t.val % 4 = 0) (h1 : ¬t.val % 4 ≤ 1) (r : Fin 1024) (n : Fin 2048) : outsAt0 m c t.val t.isLt (ix2 r n)
    = outsAt0 m c (t.val - 1) (Nat.lt_of_le_of_lt (Nat.sub_le _ _) t.isLt) (ix2 r n) + step (zBlock1 m c t) (wBlock m c t) r n := by
  rw [outsAt0_C m c t h0 h1 (by omega)]
  frame_out
  pointwise [k0_pay3, step]

/-- Point `t` takes row block `t / 4 + 3` of the whole rows (`t / 4` of its own), two planes of the half that has them, and the weight's plane `t % 4`. -/
theorem index : ∀ t : Fin grid0.N, (t.val % 4 < 2 → ∀ a : Fin 3, win0_0.index t a = ![t.val % 4, t.val / 4 + 3, 0] a)
    ∧ (2 ≤ t.val % 4 → ∀ a : Fin 3, win0_1.index t a = ![t.val % 4 - 2, t.val / 4 + 3, 0] a)
    ∧ (∀ a : Fin 3, win0_2.index t a = ![t.val % 4, 0, 0] a) ∧ (∀ a : Fin 2, win0_4.index t a = ![t.val / 4, 0] a) := by decide +kernel

/-- The two column blocks a point adds. -/
abbrev part (t : Fin cfg0.N) (r : Fin 1024) (n : Fin 2048) : EReal :=
  dhPair (zAt (V m c main_arg0)) (zAt (V m c main_arg1)) (pAt (V m c main_arg2))
    ⟨(t.val / 4 + 3) * 1024 + r.val, by have := lt_of_lt_of_eq t.isLt N_0; omega⟩ n ⟨t.val % 4, by omega⟩

/-- They are its step, in the first half -/
theorem part_fst (t : Fin cfg0.N) (h : t.val % 4 < 2) (r : Fin 1024) (n : Fin 2048) :
    step (zBlock0 m c t) (wBlock m c t) r n = part m c t r n := by
  obtain ⟨e0, -, e2, -⟩ := index t
  rw [part, dhPair_fst _ _ _ _ _ _ h]
  refine congrArg₂ (· + ·) (Finset.sum_congr rfl fun k _ => ?_) (Finset.sum_congr rfl fun k _ => ?_)
  all_goals
    refine congrArg₂ (· * ·) ?_ ?_
    · blk_ext [iblk, e0 h]
    · blk_ext [iblk, e2]

/-- and in the second. -/
theorem part_snd (t : Fin cfg0.N) (h : 2 ≤ t.val % 4) (r : Fin 1024) (n : Fin 2048) :
    step (zBlock1 m c t) (wBlock m c t) r n = part m c t r n := by
  obtain ⟨-, e1, e2, -⟩ := index t
  rw [part, dhPair_snd _ _ _ _ _ _ h]
  refine congrArg₂ (· + ·) (Finset.sum_congr rfl fun k _ => ?_) (Finset.sum_congr rfl fun k _ => ?_)
  all_goals
    refine congrArg₂ (· * ·) ?_ ?_
    · blk_ext [iblk, e1 h]
    · blk_ext [iblk, e2]

/-- The first column block's point leaves its part, -/
theorem starts (t : Fin cfg0.N) (h : t.val % 4 = 0) (y : S1024x2048.Idx) : outsAt0 m c t.val t.isLt y = 0 + part m c t (y 0) (y 1) := by
  obtain ⟨r, n, rfl⟩ : ∃ (r : Fin 1024) (n : Fin 2048), y = ix2 r n := ⟨y 0, y 1, by funext u; match u with | ⟨0, _⟩ => rfl | ⟨1, _⟩ => rfl⟩
  rw [left_A m c t h, part_fst m c t (by omega)]
  rfl

/-- and every other adds its own. -/
theorem adds (t : Fin cfg0.N) (h : ¬t.val % 4 = 0) (y : S1024x2048.Idx) : outsAt0 m c t.val t.isLt y
    = outsAt0 m c (t.val - 1) (Nat.lt_of_le_of_lt (Nat.sub_le _ _) t.isLt) y + part m c t (y 0) (y 1) := by
  obtain ⟨r, n, rfl⟩ : ∃ (r : Fin 1024) (n : Fin 2048), y = ix2 r n := ⟨y 0, y 1, by funext u; match u with | ⟨0, _⟩ => rfl | ⟨1, _⟩ => rfl⟩
  by_cases h1 : t.val % 4 ≤ 1
  · rw [left_B m c t h h1, part_fst m c t (by omega)]
    rfl
  · rw [left_C m c t h h1, part_snd m c t (by omega)]
    rfl

/-- So the call leaves the gradient on its rows. -/
theorem ends4 : (dats m 0 c).arrAt 4 cfg0.N = dh (V m c main_arg0) (V m c main_arg1) (V m c main_arg2) := by
  refine (dats m 0 c).arrAt_eq_of_covers 4 _ (by decide +kernel) fun t hf y => ?_
  blk_simp
  have hr : t.val % 4 = 4 - 1 := (flush0_4 t).mp hf
  have ht : t.val < 20 := lt_of_lt_of_eq t.isLt N_0
  rw [after0_4, Pipeline.eq_sum_fin_of_reset_step_apply_of_flush (fun n h => outsAt0 m c n h) 4 (fun _ => 0)
    (fun t y => part m c t (y 0) (y 1)) (fun t h y => starts m c t h y) (fun t h y => adds m c t h y) t hr y, zero_add]
  obtain ⟨r, n, rfl⟩ : ∃ (r : Fin 1024) (n : Fin 2048), y = ix2 r n := ⟨y 0, y 1, by funext u; match u with | ⟨0, _⟩ => rfl | ⟨1, _⟩ => rfl⟩
  have h4 : (win0_4.blk t).view.emb (ix2 r n) = ix2 (⟨t.val / 4 * 1024 + r.val, by omega⟩ : Fin 5120) n := by blk_ext [(index t).2.2.2]
  refine Eq.trans ?_ (congrArg (dh (V m c main_arg0) (V m c main_arg1) (V m c main_arg2)) h4.symm)
  show _ = dhAt _ _ _ ⟨3072 + (t.val / 4 * 1024 + r.val), _⟩ n
  rw [← dhPairs]
  refine Fin.sum_fin_congr fun s => ?_
  have hd : ((4 * (t.val / 4) + s.val) / 4 + 3) * 1024 + r.val = 3072 + (t.val / 4 * 1024 + r.val) := by omega
  have hm : (4 * (t.val / 4) + s.val) % 4 = s.val := by omega
  show dhPair _ _ _ ⟨((4 * (t.val / 4) + s.val) / 4 + 3) * 1024 + r.val, _⟩ n ⟨(4 * (t.val / 4) + s.val) % 4, _⟩ = _
  simp only [hd, hm]

end Cert.DhLastSteps

namespace Cert.DhLastFormula

open Cert.DhLastReferenceIdeal Cert.DhLastReferenceIdeal.Gen
open Idealize.ShloMosaic Idealize.ShloMosaic.TcCoe Idealize.SL.Sem

/-- The formula on the whole arrays, as the reference computes it. -/
def whole (zh za : FVec Ideal S4x8192x1024 .bf16) (w : FVec Ideal S4x2048x2048 .bf16) : FVec Ideal S5120x2048 .f32 :=
  extractStridedSlice S5120x2048 ![3072, 0] (Host.dotGeneral dot_S8192x8192_S8192x2048_S8192x2048_1_0_0_1_n_n none (shapeCast _ (transpose S8192x8x1024 [1, 0, 2] (extf .f32 (concatenate S8x8192x1024 0 [⟨S4x8192x1024, zh⟩, ⟨S4x8192x1024, za⟩] concatenates_S4x8192x1024_S4x8192x1024_S8x8192x1024_d0) bitsLt_bf16_f32) transposes_S8x8192x1024_S8192x8x1024_1_0_2) shapeCasts_S8192x8x1024_S8192x8192) (transpose S8192x2048 [1, 0] (shapeCast _ (transpose S2048x4x2048 [1, 0, 2] (extf .f32 w bitsLt_bf16_f32) transposes_S4x2048x2048_S2048x4x2048_1_0_2) shapeCasts_S2048x4x2048_S2048x8192) transposes_S2048x8192_S8192x2048_1_0)) slices_S8192x2048_S5120x2048_3072_0

/-- It is the gradient, element by element. -/
theorem whole_eq (zh za : FVec Ideal S4x8192x1024 .bf16) (w : FVec Ideal S4x2048x2048 .bf16) : whole zh za w = Cert.DhLastSteps.dh zh za w := by
  funext i
  obtain ⟨a, n, rfl⟩ : ∃ (a : Fin 5120) (n : Fin 2048), i = ix2 a n := ⟨i 0, i 1, by funext u; match u with | ⟨0, _⟩ => rfl | ⟨1, _⟩ => rfl⟩
  pointwise [whole, Cert.DhLastSteps.dh, Cert.dhAt, Cert.dzAt, Cert.wAt]

end Cert.DhLastFormula

namespace Cert.DhLastClaims

open Cert.DhLastSteps
open Idealize.ShloMosaic Idealize.ShloMosaic.TcCoe Idealize.SL.Sem

/-- The frames: the call's, -/
theorem frame : Cert.quiescent_DhLast := fun m ρ _ => Cert.DhLast.Gen.frame m ρ
theorem frame_ideal : Cert.quiescent_DhLastIdeal := fun m ρ _ => Cert.DhLastIdeal.Gen.frame m ρ

/-- the formula's, -/
theorem frame_reference : Cert.quiescent_DhLastReferenceIdeal := fun m ρ _ =>
  (θ_run Cert.DhLastReferenceIdeal.defs _ _).mono (fun r h => ⟨fun c => (h c).2, sem_eq_zero_of_no_sems (by decide) r.2⟩)
    (Cert.DhLastReferenceIdeal.Value.run (F := Ideal) m ρ)

/-- and the claim: the call leaves what the formula gives. -/
theorem algebraic : Cert.algebraic_DhLastIdeal_DhLastReferenceIdeal := by
  intro m g m' g' _ h
  refine ⟨fun c => dh (m (c.tc.loc Cert.DhLastIdeal.main_arg0)) (m (c.tc.loc Cert.DhLastIdeal.main_arg1))
    (m (c.tc.loc Cert.DhLastIdeal.main_arg2)), ?_, ?_⟩
  · exact (θ_run Cert.DhLastIdeal.defs _ _).mono (fun _ r c => ⟨(r c).1.trans ((ends4 m c).trans (by
      rw [Cert.DhLastIdeal.Gen.V_main_arg0, Cert.DhLastIdeal.Gen.V_main_arg1, Cert.DhLastIdeal.Gen.V_main_arg2])), (r c).2⟩)
      (Cert.DhLastIdeal.Value.run_blocks (F := Ideal) m g)
  · refine (θ_run Cert.DhLastReferenceIdeal.defs _ _).mono (fun _ r c => ⟨(r c).1.trans ?_, (r c).2⟩)
      (Cert.DhLastReferenceIdeal.Value.run (F := Ideal) m' g')
    rw [(h c).1, (h c).2.1, (h c).2.2]
    exact Cert.DhLastFormula.whole_eq _ _ _

end Cert.DhLastClaims
-- ==== Proof.RmsValue.lean ====
/-
  The backward pass of the RMS norm at one element, and what the two calls' payloads and the formula give there.
-/
module

public import proofs.«01_k».proof.Defs
public import proofs.«01_k».proof.Proof.Gen.RmsBwdIdeal.Frame
public import proofs.«01_k».proof.Proof.Gen.RmsBwdReferenceIdeal.Run
public import Idealize.ShloMosaic.Lib.Pointwise
public import Idealize.ShloMosaic.Lib.Pipeline.Value

@[expose] public section

noncomputable section

namespace Cert.RmsValue

open Cert.RmsBwdIdeal Cert.RmsBwdIdeal.Gen
open Idealize.ShloMosaic Idealize.ShloMosaic.TcCoe Idealize.SL.Sem

/-- The gradient of an input element: from its row of the normed input's gradient, its row of the input, the gain, the row's
    scale and the gradient that arrives past the norm. -/
def gradAt (dh x g : Fin 2048 → EReal) (r o : EReal) (j : Fin 2048) : EReal :=
  o + r * (dh j * g j - x j * r * Ideal.div (∑ k : Fin 2048, dh k * g k * (x k * r)) (Ideal.ofBits .f32 0x45000000#32))

/-- The first call's payload at an element, -/
theorem pay0_at (v3 : FVec Ideal S512x2048 .f32) (v4 : FVec Ideal S512x1 .f32) (v5 : FVec Ideal S512x2048 .f32) (v15 : FVec Ideal S1x2048 .f32)
    (v18 : FVec Ideal S512x2048 .f32) (a : Fin 512) (b : Fin 2048) :
    k0_pay4 (F := Ideal) v3 v4 v5 v15 v18 (ix2 a b)
      = gradAt (fun k => v3 (ix2 a k)) (fun k => v5 (ix2 a k)) (fun k => v15 (ix2 0 k)) (v4 (ix2 a 0)) (v18 (ix2 a b)) b := by
  pointwise [k0_pay4, k0_pay2, gradAt]

/-- and the second's. -/
theorem pay1_at (v3 : FVec Ideal S512x2048 .f32) (v4 : FVec Ideal S512x1 .f32) (v5 : FVec Ideal S512x2048 .f32) (v15 : FVec Ideal S1x2048 .f32)
    (v18 : FVec Ideal S512x2048 .f32) (a : Fin 512) (b : Fin 2048) :
    k1_pay4 (F := Ideal) v3 v4 v5 v15 v18 (ix2 a b)
      = gradAt (fun k => v3 (ix2 a k)) (fun k => v5 (ix2 a k)) (fun k => v15 (ix2 0 k)) (v4 (ix2 a 0)) (v18 (ix2 a b)) b := by
  pointwise [k1_pay4, k1_pay2, gradAt]

/-- The row `a` of the normed input's gradient: of the first 3072 rows, or of the others. -/
def rowOf (d0 : FVec Ideal S3072x2048 .f32) (d1 : FVec Ideal S5120x2048 .f32) (a : Fin 8192) (k : Fin 2048) : EReal :=
  if h : a.val < 3072 then d0 (ix2 ⟨a.val, h⟩ k) else d1 (ix2 ⟨a.val - 3072, by omega⟩ k)

/-- The whole gradient of the input. -/
def gradX (d0 : FVec Ideal S3072x2048 .f32) (d1 : FVec Ideal S5120x2048 .f32) (x : FVec Ideal S8192x2048 .f32) (r : FVec Ideal S8192x1 .f32)
    (g : FVec Ideal S1x2048 .f32) (o : FVec Ideal S8192x2048 .f32) : FVec Ideal S8192x2048 .f32 := fun i =>
  gradAt (rowOf d0 d1 (i 0)) (fun k => x (ix2 (i 0) k)) (fun k => g (ix2 0 k)) (r (ix2 (i 0) 0)) (o (ix2 (i 0) (i 1))) (i 1)

end Cert.RmsValue

namespace Cert.RmsFormula

open Cert.RmsBwdReferenceIdeal Cert.RmsBwdReferenceIdeal.Gen
open Idealize.ShloMosaic Idealize.ShloMosaic.TcCoe Idealize.SL.Sem

/-- The formula on the whole arrays, as the reference computes it. -/
def whole (d0 : FVec Ideal S3072x2048 .f32) (d1 : FVec Ideal S5120x2048 .f32) (x : FVec Ideal S8192x2048 .f32) (r : FVec Ideal S8192x1 .f32)
    (g : FVec Ideal S1x2048 .f32) (o : FVec Ideal S8192x2048 .f32) : FVec Ideal S8192x2048 .f32 :=
  addf o (mulf (broadcastInDim S8192x2048 ![0, 1] bcast_S8192x1_S8192x2048_0_1 r) (subf (mulf (concatenate S8192x2048 0 [⟨S3072x2048, d0⟩, ⟨S5120x2048, d1⟩] concatenates_S3072x2048_S5120x2048_S8192x2048_d0) (broadcastInDim S8192x2048 ![0, 1] bcast_S1x2048_S8192x2048_0_1 g)) (mulf (mulf x (broadcastInDim S8192x2048 ![0, 1] bcast_S8192x1_S8192x2048_0_1 r)) (broadcastInDim S8192x2048 ![0, 1] bcast_S8192x1_S8192x2048_0_1 (Host.divf (broadcastInDim S8192x1 ![0] bcast_S8192_S8192x1_0 (Host.reduceAdd (mulf (mulf (concatenate S8192x2048 0 [⟨S3072x2048, d0⟩, ⟨S5120x2048, d1⟩] concatenates_S3072x2048_S5120x2048_S8192x2048_d0) (broadcastInDim S8192x2048 ![0, 1] bcast_S1x2048_S8192x2048_0_1 g)) (mulf x (broadcastInDim S8192x2048 ![0, 1] bcast_S8192x1_S8192x2048_0_1 r))) (constant S_ .f32 0x00000000#32) reducesTo_S8192x2048_S8192_d1 h_S_)) (broadcastInDim S8192x1 ![] bcast_S_S8192x1 (constant S_ .f32 0x45000000#32)))))))

/-- It is the gradient, element by element. -/
theorem whole_eq (d0 : FVec Ideal S3072x2048 .f32) (d1 : FVec Ideal S5120x2048 .f32) (x : FVec Ideal S8192x2048 .f32) (r : FVec Ideal S8192x1 .f32)
    (g : FVec Ideal S1x2048 .f32) (o : FVec Ideal S8192x2048 .f32) : whole d0 d1 x r g o = Cert.RmsValue.gradX d0 d1 x r g o := by
  funext i
  obtain ⟨a, b, rfl⟩ : ∃ (a : Fin 8192) (b : Fin 2048), i = ix2 a b := ⟨i 0, i 1, by funext u; match u with | ⟨0, _⟩ => rfl | ⟨1, _⟩ => rfl⟩
  pointwise [whole, Cert.RmsValue.gradX, Cert.RmsValue.gradAt, Cert.RmsValue.rowOf]

end Cert.RmsFormula
-- ==== Proof.RmsSteps.lean ====
/-
  The backward pass of the RMS norm, block of rows by block of rows, against the formula on the whole arrays: what each of the two calls leaves
  of the gradient, the frames, and the value claim.
-/
module

public import proofs.«01_k».proof.Proof.RmsValue
public import proofs.«01_k».proof.Proof.Gen.RmsBwd.Frame
public import Idealize.ShloMosaic.Lib.Pipeline.ValueKit
public import Idealize.ShloMosaic.Lib.Quiescent

@[expose] public section

noncomputable section

namespace Cert.RmsSteps

open Cert.RmsBwdIdeal Cert.RmsBwdIdeal.Gen Cert.RmsValue
open Idealize.ShloMosaic Idealize.ShloMosaic.TcCoe Idealize.SL.Sem

/-- The first call's blocks: point `t` takes the rows of block `t` everywhere, and the gain whole. -/
theorem index0 : ∀ t : Fin grid0.N, (∀ a : Fin 2, win0_0.index t a = ![t.val, 0] a) ∧ (∀ a : Fin 2, win0_1.index t a = ![t.val, 0] a)
    ∧ (∀ a : Fin 2, win0_2.index t a = ![t.val, 0] a) ∧ (∀ a : Fin 2, win0_3.index t a = 0) ∧ (∀ a : Fin 2, win0_4.index t a = ![t.val, 0] a)
    ∧ (∀ a : Fin 2, win0_5.index t a = ![t.val, 0] a) := by decide +kernel

/-- The second call's: point `t` takes block `t` of its part's rows, and block `t + 6` of the whole rows. -/
theorem index1 : ∀ t : Fin grid1.N, (∀ a : Fin 2, win1_0.index t a = ![t.val, 0] a) ∧ (∀ a : Fin 2, win1_1.index t a = ![t.val + 6, 0] a)
    ∧ (∀ a : Fin 2, win1_2.index t a = ![t.val + 6, 0] a) ∧ (∀ a : Fin 2, win1_3.index t a = 0) ∧ (∀ a : Fin 2, win1_4.index t a = ![t.val + 6, 0] a)
    ∧ (∀ a : Fin 2, win1_5.index t a = ![t.val + 6, 0] a) := by decide +kernel

/-- An index of a block as its row and column. -/
theorem split (y : S512x2048.Idx) : ∃ (a : Fin 512) (b : Fin 2048), y = ix2 a b :=
  ⟨y 0, y 1, by funext u; match u with | ⟨0, _⟩ => rfl | ⟨1, _⟩ => rfl⟩

section

variable (V : (c : Dev nD) → (b : Ref sig .tc) → Buf (Elt Ideal) ((c : Thread nD τ).loc b)) (c : Dev nD)

/-- The gradient from what the arrays hold. -/
abbrev gradOf : FVec Ideal S8192x2048 .f32 :=
  gradX (V c main_arg0) (V c main_arg1) (V c main_arg2) (V c main_arg3) (V c main_arg4) (V c main_arg5)

/-- What the first call leaves in a block, at an element. -/
theorem left0 (t : Fin cfg0.N) (y : S512x2048.Idx) : (outsAt0 V c t.val t.isLt).1 y
    = k0_pay4 (F := Ideal) (iblk0 V c 0 t) (iblk0 V c 2 t) (iblk0 V c 1 t) (iblk0 V c 3 t) (iblk0 V c 4 t) y := by
  by_cases h : t.val % 6 = 0
  · rw [outsAt0_A V c t h]; frame_out
  · rw [outsAt0_B V c t h]; frame_out

/-- The same of the second. -/
theorem left1 (t : Fin cfg1.N) (y : S512x2048.Idx) : (outsAt1 V c t.val t.isLt).1 y
    = k1_pay4 (F := Ideal) (iblk1 V c 0 t) (iblk1 V c 2 t) (iblk1 V c 1 t) (iblk1 V c 3 t) (iblk1 V c 4 t) y := by
  by_cases h : t.val % 10 = 0
  · rw [outsAt1_A V c t h]; frame_out
  · rw [outsAt1_B V c t h]; frame_out

/-- The first call's block is the gradient's, -/
theorem block0 (t : Fin cfg0.N) (y : S512x2048.Idx) :
    k0_pay4 (F := Ideal) (iblk0 V c 0 t) (iblk0 V c 2 t) (iblk0 V c 1 t) (iblk0 V c 3 t) (iblk0 V c 4 t) y = gradOf V c ((win0_5.blk t).view.emb y) := by
  obtain ⟨a, b, rfl⟩ := split y
  have ht : t.val < 6 := lt_of_lt_of_eq t.isLt N_0
  obtain ⟨e0, e1, e2, e3, e4, e5⟩ := index0 t
  have hrow : a.val + t.val * 512 < 3072 := by omega
  have h5 : (win0_5.blk t).view.emb (ix2 a b) = ix2 (⟨a.val + t.val * 512, by omega⟩ : Fin 8192) b := by
    blk_ext [e5]
  have h0 (k : Fin 2048) : iblk0 V c 0 t (ix2 a k) = rowOf (V c main_arg0) (V c main_arg1) ⟨a.val + t.val * 512, by omega⟩ k := by
    rw [rowOf, dif_pos hrow]
    blk_ext [iblk0, e0]
  have h1 (k : Fin 2048) : iblk0 V c 1 t (ix2 a k) = V c main_arg2 (ix2 (⟨a.val + t.val * 512, by omega⟩ : Fin 8192) k) := by blk_ext [iblk0, e1]
  have h2 : iblk0 V c 2 t (ix2 a 0) = V c main_arg3 (ix2 (⟨a.val + t.val * 512, by omega⟩ : Fin 8192) 0) := by blk_ext [iblk0, e2]
  have h3 (k : Fin 2048) : iblk0 V c 3 t (ix2 0 k) = V c main_arg4 (ix2 0 k) := by blk_ext [iblk0, e3]
  have h4 : iblk0 V c 4 t (ix2 a b) = V c main_arg5 (ix2 (⟨a.val + t.val * 512, by omega⟩ : Fin 8192) b) := by blk_ext [iblk0, e4]
  rw [pay0_at, h5, funext h0, funext h1, h2, funext h3, h4]
  rfl

/-- and the second's. -/
theorem block1 (t : Fin cfg1.N) (y : S512x2048.Idx) :
    k1_pay4 (F := Ideal) (iblk1 V c 0 t) (iblk1 V c 2 t) (iblk1 V c 1 t) (iblk1 V c 3 t) (iblk1 V c 4 t) y = gradOf V c ((win1_5.blk t).view.emb y) := by
  obtain ⟨a, b, rfl⟩ := split y
  have ht : t.val < 10 := lt_of_lt_of_eq t.isLt N_1
  obtain ⟨e0, e1, e2, e3, e4, e5⟩ := index1 t
  have hrow : ¬a.val + (t.val + 6) * 512 < 3072 := by omega
  have h5 : (win1_5.blk t).view.emb (ix2 a b) = ix2 (⟨a.val + (t.val + 6) * 512, by omega⟩ : Fin 8192) b := by
    blk_ext [e5]
  have h0 (k : Fin 2048) : iblk1 V c 0 t (ix2 a k) = rowOf (V c main_arg0) (V c main_arg1) ⟨a.val + (t.val + 6) * 512, by omega⟩ k := by
    rw [rowOf, dif_neg hrow]
    blk_ext [iblk1, e0]
  have h1 (k : Fin 2048) : iblk1 V c 1 t (ix2 a k) = V c main_arg2 (ix2 (⟨a.val + (t.val + 6) * 512, by omega⟩ : Fin 8192) k) := by
    blk_ext [iblk1, e1]
  have h2 : iblk1 V c 2 t (ix2 a 0) = V c main_arg3 (ix2 (⟨a.val + (t.val + 6) * 512, by omega⟩ : Fin 8192) 0) := by blk_ext [iblk1, e2]
  have h3 (k : Fin 2048) : iblk1 V c 3 t (ix2 0 k) = V c main_arg4 (ix2 0 k) := by blk_ext [iblk1, e3]
  have h4 : iblk1 V c 4 t (ix2 a b) = V c main_arg5 (ix2 (⟨a.val + (t.val + 6) * 512, by omega⟩ : Fin 8192) b) := by blk_ext [iblk1, e4]
  rw [pay1_at, h5, funext h0, funext h1, h2, funext h3, h4]
  rfl

/-- After the first call the gradient is right on the first 3072 rows. -/
theorem first (i : S8192x2048.Idx) (hi : (i 0).val < 3072) : (dat0 V c).arrAt 5 cfg0.N i = gradOf V c i := by
  refine (dat0 V c).arrAt_forall_of_coversWhere 5 (fun i v => (i 0).val < 3072 → v = gradOf V c i) (fun β => β 0 < 6) (by decide +kernel)
    (fun t hf y => fun _ => ?_) (fun j hj h => ?_) i (by exact Memref.isWhole_whole _) hi
  · blk_simp
    rw [after0_5, left0]
    exact block0 V c t y
  · blk_simp [Pipeline.Window.cell_apply] at hj
    exact absurd (show (j 0).val < 3072 from h) (by omega)

/-- After the second it is right on the others, and as it was on the first. -/
theorem second (hV : ∀ i : S8192x2048.Idx, (i 0).val < 3072 → V c main_v1_0 i = gradOf V c i) : (dat1 V c).arrAt 5 cfg1.N = gradOf V c := by
  refine (dat1 V c).arrAt_eq_of_coversWhere_of_agree 5 _ (fun β => 6 ≤ β 0) (by decide +kernel) (fun t hf y => ?_) (fun j hj => ?_)
  · blk_simp
    rw [after1_5, left1]
    exact block1 V c t y
  · blk_simp [Pipeline.Window.cell_apply] at hj
    rw [A_eq1]
    exact hV _ (show (j 0).val < 3072 by omega)

end

variable (m : (ℓ : Loc nD τ sig) → Buf (Elt Ideal) ℓ) (ρ : Dev nD → PrngReg)

/-- The gradient from a device's arguments. -/
abbrev grad (c : Dev nD) : FVec Ideal S8192x2048 .f32 :=
  gradX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Between the calls the arguments are as given, -/
theorem between (c : Dev nD) : gradOf (V2 m ρ) c = grad m c := by
  show gradX (W2 m ρ c (Proc.devRef .tc main_arg0)) (W2 m ρ c (Proc.devRef .tc main_arg1)) (W2 m ρ c (Proc.devRef .tc main_arg2))
    (W2 m ρ c (Proc.devRef .tc main_arg3)) (W2 m ρ c (Proc.devRef .tc main_arg4)) (W2 m ρ c (Proc.devRef .tc main_arg5)) = _
  rw [W2_args m ρ c main_arg0 (by decide), W2_args m ρ c main_arg1 (by decide), W2_args m ρ c main_arg2 (by decide),
    W2_args m ρ c main_arg3 (by decide), W2_args m ρ c main_arg4 (by decide), W2_args m ρ c main_arg5 (by decide)]

/-- and the second call's array holds what the first has left, -/
theorem handed (c : Dev nD) : V2 m ρ c main_v1_0 = (dat0 (V0 m ρ) c).arrAt 5 cfg0.N :=
  (show W2 m ρ c (Proc.devRef .tc main_v1_0) = W1 m ρ c (Proc.devRef .tc main_v0_0) by
    after_results; rfl).trans (W1_arr m ρ c 5)

/-- so that it ends as the whole gradient. -/
theorem ends (c : Dev nD) : W4 m ρ c (Proc.devRef .tc main_v1_0) = grad m c :=
  (W4_of m ρ c main_v1_0 (by decide)).trans <| (W3_arr m ρ c 5).trans ((second (V2 m ρ) c fun i hi => by
    rw [handed, first (V0 m ρ) c i hi, between]).trans (between m ρ c))

end Cert.RmsSteps
-- ==== Proof.RmsGain.lean ====
/-
  The gradient of the RMS norm's gain: each of the two calls sums its rows' shares block after block, and the two sums add up to the whole.
-/
module

public import proofs.«01_k».proof.Proof.RmsSteps

@[expose] public section

noncomputable section

namespace Cert.RmsGain

open Cert.RmsBwdIdeal Cert.RmsBwdIdeal.Gen Cert.RmsValue Cert.RmsSteps
open Idealize.ShloMosaic Idealize.ShloMosaic.TcCoe Idealize.SL.Sem

/-- A row's share in an element of the gain's gradient. -/
def term (d0 : FVec Ideal S3072x2048 .f32) (d1 : FVec Ideal S5120x2048 .f32) (x : FVec Ideal S8192x2048 .f32) (r : FVec Ideal S8192x1 .f32)
    (l : Fin 8192) (n : Fin 2048) : EReal :=
  rowOf d0 d1 l n * (x (ix2 l n) * r (ix2 l 0))

/-- The gradient of the gain: all rows' shares. -/
def gain (d0 : FVec Ideal S3072x2048 .f32) (d1 : FVec Ideal S5120x2048 .f32) (x : FVec Ideal S8192x2048 .f32) (r : FVec Ideal S8192x1 .f32) :
    FVec Ideal S1x2048 .f32 := fun i => ∑ l : Fin 8192, term d0 d1 x r l (i 1)

/-- The shares of the rows from `o` on, as far as a call goes. -/
def rowsFrom (d0 : FVec Ideal S3072x2048 .f32) (d1 : FVec Ideal S5120x2048 .f32) (x : FVec Ideal S8192x2048 .f32) (r : FVec Ideal S8192x1 .f32)
    (o k : ℕ) (h : o + k ≤ 8192) : FVec Ideal S1x2048 .f32 := fun i => ∑ l : Fin k, term d0 d1 x r ⟨o + l.val, by omega⟩ (i 1)

/-- The rows of the first call and those of the second are all of them. -/
theorem both (d0 : FVec Ideal S3072x2048 .f32) (d1 : FVec Ideal S5120x2048 .f32) (x : FVec Ideal S8192x2048 .f32) (r : FVec Ideal S8192x1 .f32) :
    addf (rowsFrom d0 d1 x r 0 3072 (by omega)) (rowsFrom d0 d1 x r 3072 5120 (by omega)) = gain d0 d1 x r := by
  funext i
  show (∑ l : Fin 3072, term d0 d1 x r ⟨0 + l.val, _⟩ (i 1)) + (∑ l : Fin 5120, term d0 d1 x r ⟨3072 + l.val, _⟩ (i 1)) = ∑ l : Fin 8192, _
  refine Eq.trans ?_ (Fin.sum_univ_add (a := 3072) (b := 5120) fun l : Fin (3072 + 5120) => term d0 d1 x r (show Fin 8192 from l) (i 1)).symm
  exact congrArg₂ (fun a b : EReal => a + b)
    (Finset.sum_congr rfl fun l _ => congrArg (fun k : Fin 8192 => term d0 d1 x r k (i 1)) (Fin.ext (Nat.zero_add l.val)))
    (Finset.sum_congr rfl fun l _ => rfl)

/-- The payloads at an element: nothing at first, -/
theorem zero0_at (a : Fin 1) (n : Fin 2048) : k0_pay1 (F := Ideal) (ix2 a n) = 0 := by
  pointwise [k0_pay1]

theorem zero1_at (a : Fin 1) (n : Fin 2048) : k1_pay1 (F := Ideal) (ix2 a n) = 0 := by
  pointwise [k1_pay1]

/-- then what is there and the shares of a block. -/
theorem more0_at (d x : FVec Ideal S512x2048 .f32) (r : FVec Ideal S512x1 .f32) (acc : FVec Ideal S1x2048 .f32) (a : Fin 1) (n : Fin 2048) :
    k0_pay3 (F := Ideal) d r x acc (ix2 a n) = acc (ix2 a n) + ∑ l : Fin 512, d (ix2 l n) * (x (ix2 l n) * r (ix2 l 0)) := by
  obtain rfl : a = 0 := Subsingleton.elim _ _
  pointwise [k0_pay3, k0_pay2]

theorem more1_at (d x : FVec Ideal S512x2048 .f32) (r : FVec Ideal S512x1 .f32) (acc : FVec Ideal S1x2048 .f32) (a : Fin 1) (n : Fin 2048) :
    k1_pay3 (F := Ideal) d r x acc (ix2 a n) = acc (ix2 a n) + ∑ l : Fin 512, d (ix2 l n) * (x (ix2 l n) * r (ix2 l 0)) := by
  obtain rfl : a = 0 := Subsingleton.elim _ _
  pointwise [k1_pay3, k1_pay2]

/-- An index of a row as its column. -/
theorem splitRow (y : S1x2048.Idx) : ∃ (a : Fin 1) (n : Fin 2048), y = ix2 a n :=
  ⟨y 0, y 1, by funext u; match u with | ⟨0, _⟩ => rfl | ⟨1, _⟩ => rfl⟩

/-- Both calls' row of the gain's gradient is one block. -/
theorem rowIndex0 : ∀ t : Fin grid0.N, ∀ a : Fin 2, win0_6.index t a = 0 := by decide +kernel
theorem rowIndex1 : ∀ t : Fin grid1.N, ∀ a : Fin 2, win1_6.index t a = 0 := by decide +kernel

section

variable (V : (c : Dev nD) → (b : Ref sig .tc) → Buf (Elt Ideal) ((c : Thread nD τ).loc b)) (c : Dev nD)

/-- A row's share from what the arrays hold. -/
abbrev termOf (l : Fin 8192) (n : Fin 2048) : EReal := term (V c main_arg0) (V c main_arg1) (V c main_arg2) (V c main_arg3) l n

/-- A point's blocks. -/
abbrev dBlock0 (t : Fin cfg0.N) : FVec Ideal S512x2048 .f32 := iblk0 V c 0 t
abbrev xBlock0 (t : Fin cfg0.N) : FVec Ideal S512x2048 .f32 := iblk0 V c 1 t
abbrev rBlock0 (t : Fin cfg0.N) : FVec Ideal S512x1 .f32 := iblk0 V c 2 t
abbrev dBlock1 (t : Fin cfg1.N) : FVec Ideal S512x2048 .f32 := iblk1 V c 0 t
abbrev xBlock1 (t : Fin cfg1.N) : FVec Ideal S512x2048 .f32 := iblk1 V c 1 t
abbrev rBlock1 (t : Fin cfg1.N) : FVec Ideal S512x1 .f32 := iblk1 V c 2 t

/-- What a point of the first call adds, -/
abbrev part0 (t : Fin cfg0.N) (n : Fin 2048) : EReal :=
  ∑ l : Fin 512, termOf V c ⟨0 + (t.val * 512 + l.val), by have := lt_of_lt_of_eq t.isLt N_0; omega⟩ n

/-- and of the second. -/
abbrev part1 (t : Fin cfg1.N) (n : Fin 2048) : EReal :=
  ∑ l : Fin 512, termOf V c ⟨3072 + (t.val * 512 + l.val), by have := lt_of_lt_of_eq t.isLt N_1; omega⟩ n

theorem part0_eq (t : Fin cfg0.N) (n : Fin 2048) :
    ∑ l : Fin 512, dBlock0 V c t (ix2 l n) * (xBlock0 V c t (ix2 l n) * rBlock0 V c t (ix2 l 0)) = part0 V c t n := by
  have ht : t.val < 6 := lt_of_lt_of_eq t.isLt N_0
  obtain ⟨e0, e1, e2, -⟩ := index0 t
  refine Finset.sum_congr rfl fun l _ => ?_
  rw [termOf, term, rowOf, dif_pos (show 0 + (t.val * 512 + l.val) < 3072 by omega)]
  congr 1
  · blk_ext [iblk0, e0]
  · congr 1
    · blk_ext [iblk0, e1]
    · blk_ext [iblk0, e2]

theorem part1_eq (t : Fin cfg1.N) (n : Fin 2048) :
    ∑ l : Fin 512, dBlock1 V c t (ix2 l n) * (xBlock1 V c t (ix2 l n) * rBlock1 V c t (ix2 l 0)) = part1 V c t n := by
  have ht : t.val < 10 := lt_of_lt_of_eq t.isLt N_1
  obtain ⟨e0, e1, e2, -⟩ := index1 t
  refine Finset.sum_congr rfl fun l _ => ?_
  rw [termOf, term, rowOf, dif_neg (show ¬3072 + (t.val * 512 + l.val) < 3072 by omega)]
  congr 1
  · blk_ext [iblk1, e0]
  · congr 1
    · blk_ext [iblk1, e1]
    · blk_ext [iblk1, e2]

/-- The first point leaves its share, and every other adds its own. -/
theorem starts0 (t : Fin cfg0.N) (h : t.val % 6 = 0) (y : S1x2048.Idx) : (outsAt0 V c t.val t.isLt).2 y = 0 + part0 V c t (y 1) := by
  obtain ⟨a, n, rfl⟩ := splitRow y
  rw [outsAt0_A V c t h]
  frame_out
  rw [more0_at, zero0_at, part0_eq V c t]
  rfl

theorem adds0 (t : Fin cfg0.N) (h : ¬t.val % 6 = 0) (y : S1x2048.Idx) : (outsAt0 V c t.val t.isLt).2 y
    = (outsAt0 V c (t.val - 1) (Nat.lt_of_le_of_lt (Nat.sub_le _ _) t.isLt)).2 y + part0 V c t (y 1) := by
  obtain ⟨a, n, rfl⟩ := splitRow y
  rw [outsAt0_B V c t h]
  frame_out
  rw [more0_at, part0_eq V c t]
  rfl

theorem starts1 (t : Fin cfg1.N) (h : t.val % 10 = 0) (y : S1x2048.Idx) : (outsAt1 V c t.val t.isLt).2 y = 0 + part1 V c t (y 1) := by
  obtain ⟨a, n, rfl⟩ := splitRow y
  rw [outsAt1_A V c t h]
  frame_out
  rw [more1_at, zero1_at, part1_eq V c t]
  rfl

theorem adds1 (t : Fin cfg1.N) (h : ¬t.val % 10 = 0) (y : S1x2048.Idx) : (outsAt1 V c t.val t.isLt).2 y
    = (outsAt1 V c (t.val - 1) (Nat.lt_of_le_of_lt (Nat.sub_le _ _) t.isLt)).2 y + part1 V c t (y 1) := by
  obtain ⟨a, n, rfl⟩ := splitRow y
  rw [outsAt1_B V c t h]
  frame_out
  rw [more1_at, part1_eq V c t]
  rfl

/-- So the first call leaves the sum over its rows, -/
theorem sum0 : (dat0 V c).arrAt 6 cfg0.N
    = rowsFrom (V c main_arg0) (V c main_arg1) (V c main_arg2) (V c main_arg3) 0 3072 (by omega) := by
  refine (dat0 V c).arrAt_eq_of_covers 6 _ (by decide +kernel) fun t hf y => ?_
  blk_simp
  have hr : t.val % 6 = 6 - 1 := (flush0_6 t).mp hf
  have ht : t.val < 6 := lt_of_lt_of_eq t.isLt N_0
  rw [after0_6, Pipeline.eq_sum_fin_of_reset_step_apply_of_flush (fun n h => (outsAt0 V c n h).2) 6 (fun _ => 0)
    (fun t y => part0 V c t (y 1)) (fun t h y => starts0 V c t h y) (fun t h y => adds0 V c t h y) t hr y, zero_add]
  obtain ⟨a, n, rfl⟩ := splitRow y
  have h6 : (win0_6.blk t).view.emb (ix2 a n) = ix2 a n := by blk_ext [rowIndex0 t]
  refine Eq.trans ?_ (congrArg (rowsFrom (V c main_arg0) (V c main_arg1) (V c main_arg2) (V c main_arg3) 0 3072 (by omega)) h6.symm)
  refine Eq.trans ?_ (Fin.sum_mul_add_fin 6 512 fun l : Fin 3072 => termOf V c ⟨0 + l.val, by omega⟩ n)
  refine Fin.sum_fin_congr fun s => ?_
  have hm : 6 * (t.val / 6) + s.val = s.val := by omega
  show ∑ l : Fin 512, termOf V c ⟨0 + ((6 * (t.val / 6) + s.val) * 512 + l.val), _⟩ n = _
  simp only [hm]

/-- and the second over its own. -/
theorem sum1 : (dat1 V c).arrAt 6 cfg1.N
    = rowsFrom (V c main_arg0) (V c main_arg1) (V c main_arg2) (V c main_arg3) 3072 5120 (by omega) := by
  refine (dat1 V c).arrAt_eq_of_covers 6 _ (by decide +kernel) fun t hf y => ?_
  blk_simp
  have hr : t.val % 10 = 10 - 1 := (flush1_6 t).mp hf
  have ht : t.val < 10 := lt_of_lt_of_eq t.isLt N_1
  rw [after1_6, Pipeline.eq_sum_fin_of_reset_step_apply_of_flush (fun n h => (outsAt1 V c n h).2) 10 (fun _ => 0)
    (fun t y => part1 V c t (y 1)) (fun t h y => starts1 V c t h y) (fun t h y => adds1 V c t h y) t hr y, zero_add]
  obtain ⟨a, n, rfl⟩ := splitRow y
  have h6 : (win1_6.blk t).view.emb (ix2 a n) = ix2 a n := by blk_ext [rowIndex1 t]
  refine Eq.trans ?_ (congrArg (rowsFrom (V c main_arg0) (V c main_arg1) (V c main_arg2) (V c main_arg3) 3072 5120 (by omega)) h6.symm)
  refine Eq.trans ?_ (Fin.sum_mul_add_fin 10 512 fun l : Fin 5120 => termOf V c ⟨3072 + l.val, by omega⟩ n)
  refine Fin.sum_fin_congr fun s => ?_
  have hm : 10 * (t.val / 10) + s.val = s.val := by omega
  show ∑ l : Fin 512, termOf V c ⟨3072 + ((10 * (t.val / 10) + s.val) * 512 + l.val), _⟩ n = _
  simp only [hm]

end

variable (m : (ℓ : Loc nD τ sig) → Buf (Elt Ideal) ℓ) (ρ : Dev nD → PrngReg)

/-- The gain's gradient from a device's arguments. -/
abbrev gradGain (c : Dev nD) : FVec Ideal S1x2048 .f32 :=
  gain (m ((c : Thread nD τ).loc main_arg0)) (m ((c : Thread nD τ).loc main_arg1)) (m ((c : Thread nD τ).loc main_arg2))
    (m ((c : Thread nD τ).loc main_arg3))

/-- The first call's sum is still there after the second, -/
theorem kept (c : Dev nD) : W3 m ρ c (Proc.devRef .tc main_v0_1) = rowsFrom (m ((c : Thread nD τ).loc main_arg0))
    (m ((c : Thread nD τ).loc main_arg1)) (m ((c : Thread nD τ).loc main_arg2)) (m ((c : Thread nD τ).loc main_arg3)) 0 3072 (by omega) :=
  (W3_of_ne m ρ c main_v0_1 (by decide)).trans ((W2_of m ρ c main_v0_1 (by decide)).trans ((W1_arr m ρ c 6).trans (sum0 (V0 m ρ) c)))

/-- beside the second's, -/
theorem beside (c : Dev nD) : W3 m ρ c (Proc.devRef .tc main_v1_1) = rowsFrom (m ((c : Thread nD τ).loc main_arg0))
    (m ((c : Thread nD τ).loc main_arg1)) (m ((c : Thread nD τ).loc main_arg2)) (m ((c : Thread nD τ).loc main_arg3)) 3072 5120 (by omega) := by
  refine (W3_arr m ρ c 6).trans ((sum1 (V2 m ρ) c).trans ?_)
  show rowsFrom (W2 m ρ c (Proc.devRef .tc main_arg0)) (W2 m ρ c (Proc.devRef .tc main_arg1)) (W2 m ρ c (Proc.devRef .tc main_arg2))
    (W2 m ρ c (Proc.devRef .tc main_arg3)) 3072 5120 _ = _
  rw [W2_args m ρ c main_arg0 (by decide), W2_args m ρ c main_arg1 (by decide), W2_args m ρ c main_arg2 (by decide),
    W2_args m ρ c main_arg3 (by decide)]

/-- and the two together are the gain's gradient. -/
theorem total (c : Dev nD) : W4 m ρ c (Proc.devRef .tc main_v2) = gradGain m c :=
  (show @Eq (FVec Ideal S1x2048 .f32) (W4 m ρ c (Proc.devRef .tc main_v2)) (addf (F := Ideal) (W3 m ρ c (Proc.devRef .tc main_v0_1) : FVec Ideal S1x2048 .f32)
      (W3 m ρ c (Proc.devRef .tc main_v1_1) : FVec Ideal S1x2048 .f32)) by after_results).trans (by
    rw [kept, beside]
    exact both _ _ _ _)

end Cert.RmsGain

namespace Cert.RmsGainFormula

open Cert.RmsBwdReferenceIdeal Cert.RmsBwdReferenceIdeal.Gen
open Idealize.ShloMosaic Idealize.ShloMosaic.TcCoe Idealize.SL.Sem

/-- The formula on the whole arrays, as the reference computes it. -/
def whole (d0 : FVec Ideal S3072x2048 .f32) (d1 : FVec Ideal S5120x2048 .f32) (x : FVec Ideal S8192x2048 .f32) (r : FVec Ideal S8192x1 .f32) :
    FVec Ideal S1x2048 .f32 :=
  broadcastInDim S1x2048 ![1] bcast_S2048_S1x2048_1 (Host.reduceAdd (mulf (concatenate S8192x2048 0 [⟨S3072x2048, d0⟩, ⟨S5120x2048, d1⟩] concatenates_S3072x2048_S5120x2048_S8192x2048_d0) (mulf x (broadcastInDim S8192x2048 ![0, 1] bcast_S8192x1_S8192x2048_0_1 r))) (constant S_ .f32 0x00000000#32) reducesTo_S8192x2048_S2048_d0 h_S_)

/-- It is the gain's gradient, element by element. -/
theorem whole_eq (d0 : FVec Ideal S3072x2048 .f32) (d1 : FVec Ideal S5120x2048 .f32) (x : FVec Ideal S8192x2048 .f32)
    (r : FVec Ideal S8192x1 .f32) : whole d0 d1 x r = Cert.RmsGain.gain d0 d1 x r := by
  funext i
  obtain ⟨a, n, rfl⟩ := Cert.RmsGain.splitRow i
  pointwise [whole, Cert.RmsGain.gain, Cert.RmsGain.term, Cert.RmsValue.rowOf]

end Cert.RmsGainFormula
-- ==== Proof.RmsRun.lean ====
/-
  The run of the backward pass of the RMS norm, with what it leaves: the gradients of the input and of the gain, and the arguments as given.
-/
module

public import proofs.«01_k».proof.Proof.RmsGain

@[expose] public section

set_option maxRecDepth 16384

noncomputable section

namespace Cert.RmsRun

open Cert.RmsBwdIdeal Cert.RmsBwdIdeal.Gen Cert.RmsSteps Cert.RmsGain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arguments are the program's own arrays, of no region. -/
theorem arg_unscoped : ∀ a ∈ argRefs, ¬ (Proc.devRef .tc a : DevRef τ sig).isScoped := ListAll.forall_mem_of_all_decide (by decide +kernel)

set_option backward.isDefEq.respectTransparency.types false in
/-- Every run ends with both gradients and the arguments as given. -/
theorem run : θ_run defs (onTc (τ := τ) (main (F := Ideal))) ⟨m, fun _ => 0, ρ⟩ (fun r => ∀ c : Dev nD,
    r.2.mem ((c.tc : Thread nD τ).loc main_v1_0) = grad m c
      ∧ r.2.mem ((c.tc : Thread nD τ).loc main_v2) = gradGain m c
      ∧ ∀ a ∈ argRefs, r.2.mem ((c.tc : Thread nD τ).loc a) = m ((c.tc : Thread nD τ).loc a)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iassumption⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v1_0 (by decide))).trans (ends m ρ c),
      (h c _ (mem_uc main_v2 (by decide))).trans (total m ρ c), fun a ha =>
      (h c _ (mem_uc a (arg_unscoped a ha))).trans (W4_args m ρ c a ha)⟩)

end Cert.RmsRun

namespace Cert.RmsClaims

open Cert.RmsSteps Cert.RmsGain
open Idealize.ShloMosaic Idealize.SL.Sem

/-- The frames: the calls', -/
theorem frame : Cert.quiescent_RmsBwd := fun m ρ _ => Cert.RmsBwd.Gen.frame m ρ
theorem frame_ideal : Cert.quiescent_RmsBwdIdeal := fun m ρ _ => Cert.RmsBwdIdeal.Gen.frame m ρ

/-- the formula's, -/
theorem frame_reference : Cert.quiescent_RmsBwdReferenceIdeal := fun m ρ _ =>
  (θ_run Cert.RmsBwdReferenceIdeal.defs _ _).mono (fun r h => ⟨fun c => (h c).2.2, sem_eq_zero_of_no_sems (by decide) r.2⟩)
    (Cert.RmsBwdReferenceIdeal.Value.run (F := Ideal) m ρ)

/-- and the claim: the two calls leave what the formula gives. -/
theorem algebraic : Cert.algebraic_RmsBwdIdeal_RmsBwdReferenceIdeal := by
  intro m g m' g' _ h
  refine ⟨fun c => grad m c, fun c => gradGain m c, ?_, ?_⟩
  · exact (θ_run Cert.RmsBwdIdeal.defs _ _).mono (fun _ r c => ⟨(r c).1, (r c).2.1, (r c).2.2 _ (by decide), (r c).2.2 _ (by decide),
      (r c).2.2 _ (by decide), (r c).2.2 _ (by decide), (r c).2.2 _ (by decide), (r c).2.2 _ (by decide)⟩) (Cert.RmsRun.run m g)
  · refine (θ_run Cert.RmsBwdReferenceIdeal.defs _ _).mono (fun _ r c => ⟨(r c).1.trans ?_, (r c).2.1.trans ?_, (r c).2.2⟩)
      (Cert.RmsBwdReferenceIdeal.Value.run (F := Ideal) m' g')
    · rw [(h c).1, (h c).2.1, (h c).2.2.1, (h c).2.2.2.1, (h c).2.2.2.2.1, (h c).2.2.2.2.2]
      exact Cert.RmsFormula.whole_eq _ _ _ _ _ _
    · rw [(h c).1, (h c).2.1, (h c).2.2.1, (h c).2.2.2.1]
      exact Cert.RmsGainFormula.whole_eq _ _ _ _

end Cert.RmsClaims
-- ==== Proof.AdamInSteps.lean ====
/-
  AdamW on the input projection's weight, block of rows by block of rows, against the formula on the whole arrays: each of the four arrays that
  the call leaves, the frames, and the value claim.
-/
module

public import proofs.«01_k».proof.Defs
public import proofs.«01_k».proof.Proof.Gen.AdamIn.Frame
public import proofs.«01_k».proof.Proof.Gen.AdamInIdeal.Frame
public import proofs.«01_k».proof.Proof.Gen.AdamInReferenceIdeal.Run
public import Idealize.ShloMosaic.Lib.Pipeline.Value
public import Idealize.ShloMosaic.Lib.Quiescent

@[expose] public section

noncomputable section

namespace Cert.AdamInSteps

open Cert.AdamInIdeal Cert.AdamInIdeal.Gen
open Idealize.ShloMosaic Idealize.ShloMosaic.TcCoe Idealize.SL.Sem

/-- An array of the weight's shape, over the extended reals. -/
abbrev Arr : Type := FVec Ideal S2048x2048 .f32

/-- The same number at every index. -/
abbrev every (b : BitVec 32) : Arr := fun _ => FloatOps.ofBits .f32 b

/-- The first moment after the step: `0.9 m + 0.1 g`. -/
def newM (g m : Arr) : Arr := addf (mulf (every 0x3F666666#32) m) (mulf (every 0x3DCCCCCD#32) g)

/-- The second moment after the step: `0.999 v + 0.001 g²`. -/
def newV (g v : Arr) : Arr := addf (mulf (every 0x3F7FBE77#32) v) (mulf (every 0x3A83126F#32) (mulf g g))

/-- The change of the weight: the corrected first moment over the root of the corrected second, with the decay of the weight. -/
def delta (w g m v : Arr) : Arr :=
  mulf (every 0xBA83126F#32)
    (addf (divf (divf (newM g m) (every 0x3F26BD02#32)) (addf (sqrt (divf (newV g v) (every 0x3C231ACC#32))) (every 0x322BCC77#32)))
      (mulf (every 0x3C23D70A#32) w))

theorem origin : (![0, 0] : Fin 2 → Nat) = fun _ => 0 := funext fun a => by match a with | ⟨0, _⟩ => rfl | ⟨1, _⟩ => rfl

variable (m : (ℓ : Loc nD τ sig) → Buf (Elt Ideal) ℓ) (c : Dev nD)

/-- The four arguments on a device: weight, gradient, first and second moment. -/
abbrev argW : Arr := m ((c : Thread nD τ).loc main_arg0)
abbrev argG : Arr := m ((c : Thread nD τ).loc main_arg1)
abbrev argM : Arr := m ((c : Thread nD τ).loc main_arg2)
abbrev argV : Arr := m ((c : Thread nD τ).loc main_arg3)

/-- Every row block is written at some point of the grid: the change of the weight's array is covered, -/
theorem covered4 (i : S2048x2048.Idx) : ∃ t : Fin cfg0.N, (cfg0.win 4).flush t = true ∧ i ∈ ((cfg0.win 4).blk t).view.set := by
  have h0 : (i 0).val < 2048 := (i 0).isLt
  have h1 : (i 1).val < 2048 := (i 1).isLt
  have hN : cfg0.N = 8 := N_0
  refine ⟨⟨(i 0).val / 256, by omega⟩, flush0_4 _, ?_⟩
  generalize ht : (⟨(i 0).val / 256, by omega⟩ : Fin cfg0.N) = t
  have hv : t.val = (i 0).val / 256 := by rw [← ht]
  show i ∈ ((View.whole main_v0_0).slice (win0_4.rect t)).set
  rw [View.set_slice_whole, Rect.mem_set_unit]
  have e : win0_4.index t 0 * win0_4.size 0 = t.val * 256 ∧ win0_4.xsize (grid0.coords t) 0 = 256
      ∧ win0_4.index t 1 * win0_4.size 1 = 0 ∧ win0_4.xsize (grid0.coords t) 1 = 2048 :=
    (by decide +kernel : ∀ t : Fin grid0.N, win0_4.index t 0 * win0_4.size 0 = t.val * 256 ∧ win0_4.xsize (grid0.coords t) 0 = 256
      ∧ win0_4.index t 1 * win0_4.size 1 = 0 ∧ win0_4.xsize (grid0.coords t) 1 = 2048) t
  intro a
  match a with
  | ⟨0, _⟩ =>
    show win0_4.index t 0 * win0_4.size 0 ≤ (i 0).val ∧ (i 0).val < win0_4.index t 0 * win0_4.size 0 + win0_4.xsize (grid0.coords t) 0
    rw [e.1, e.2.1]
    omega
  | ⟨1, _⟩ =>
    show win0_4.index t 1 * win0_4.size 1 ≤ (i 1).val ∧ (i 1).val < win0_4.index t 1 * win0_4.size 1 + win0_4.xsize (grid0.coords t) 1
    rw [e.2.2.1, e.2.2.2]
    omega

/-- what a point writes there is its block of the whole array, -/
theorem written4 (t : Fin cfg0.N) : (dats m 0 c).flushed 4 t = (win0_4.blk t).view.read (Elt Ideal) (delta (argW m c) (argG m c) (argM m c) (argV m c)) := by
  show (cfg0.win 4).cut (grid0.coords t) ((dats m 0 c).after 4 t) = _
  rw [after0_4]
  unfold out0_4
  rw [View.canon_unit_zero origin, View.ld_unit_zero origin, View.ld_unit_zero origin, View.ld_unit_zero origin, View.ld_unit_zero origin]
  rfl

/-- and so the array ends as the change of the weight. -/
theorem ends4 : (dats m 0 c).arrAt 4 cfg0.N = delta (argW m c) (argG m c) (argM m c) (argV m c) :=
  (dats m 0 c).arrAt_eq_of_cover 4 _ (fun t _ => written4 m c t) covered4

/-- Every row block is written at some point of the grid: the first moment's array is covered, -/
theorem covered5 (i : S2048x2048.Idx) : ∃ t : Fin cfg0.N, (cfg0.win 5).flush t = true ∧ i ∈ ((cfg0.win 5).blk t).view.set := by
  have h0 : (i 0).val < 2048 := (i 0).isLt
  have h1 : (i 1).val < 2048 := (i 1).isLt
  have hN : cfg0.N = 8 := N_0
  refine ⟨⟨(i 0).val / 256, by omega⟩, flush0_5 _, ?_⟩
  generalize ht : (⟨(i 0).val / 256, by omega⟩ : Fin cfg0.N) = t
  have hv : t.val = (i 0).val / 256 := by rw [← ht]
  show i ∈ ((View.whole main_v0_1).slice (win0_5.rect t)).set
  rw [View.set_slice_whole, Rect.mem_set_unit]
  have e : win0_5.index t 0 * win0_5.size 0 = t.val * 256 ∧ win0_5.xsize (grid0.coords t) 0 = 256
      ∧ win0_5.index t 1 * win0_5.size 1 = 0 ∧ win0_5.xsize (grid0.coords t) 1 = 2048 :=
    (by decide +kernel : ∀ t : Fin grid0.N, win0_5.index t 0 * win0_5.size 0 = t.val * 256 ∧ win0_5.xsize (grid0.coords t) 0 = 256
      ∧ win0_5.index t 1 * win0_5.size 1 = 0 ∧ win0_5.xsize (grid0.coords t) 1 = 2048) t
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]
    omega
  | ⟨1, _⟩ =>
    show win0_5.index t 1 * win0_5.size 1 ≤ (i 1).val ∧ (i 1).val < win0_5.index t 1 * win0_5.size 1 + win0_5.xsize (grid0.coords t) 1
    rw [e.2.2.1, e.2.2.2]
    omega

/-- what a point writes there is its block of the whole array, -/
theorem written5 (t : Fin cfg0.N) : (dats m 0 c).flushed 5 t = (win0_5.blk t).view.read (Elt Ideal) (newM (argG m c) (argM m c)) := by
  show (cfg0.win 5).cut (grid0.coords t) ((dats m 0 c).after 5 t) = _
  rw [after0_5]
  unfold out0_5
  rw [View.canon_unit_zero origin, View.ld_unit_zero origin, View.ld_unit_zero origin]
  rfl

/-- and so the array ends as the first moment. -/
theorem ends5 : (dats m 0 c).arrAt 5 cfg0.N = newM (argG m c) (argM m c) :=
  (dats m 0 c).arrAt_eq_of_cover 5 _ (fun t _ => written5 m c t) covered5

/-- Every row block is written at some point of the grid: the second moment's array is covered, -/
theorem covered6 (i : S2048x2048.Idx) : ∃ t : Fin cfg0.N, (cfg0.win 6).flush t = true ∧ i ∈ ((cfg0.win 6).blk t).view.set := by
  have h0 : (i 0).val < 2048 := (i 0).isLt
  have h1 : (i 1).val < 2048 := (i 1).isLt
  have hN : cfg0.N = 8 := N_0
  refine ⟨⟨(i 0).val / 256, by omega⟩, flush0_6 _, ?_⟩
  generalize ht : (⟨(i 0).val / 256, by omega⟩ : Fin cfg0.N) = t
  have hv : t.val = (i 0).val / 256 := by rw [← ht]
  show i ∈ ((View.whole main_v0_2).slice (win0_6.rect t)).set
  rw [View.set_slice_whole, Rect.mem_set_unit]
  have e : win0_6.index t 0 * win0_6.size 0 = t.val * 256 ∧ win0_6.xsize (grid0.coords t) 0 = 256
      ∧ win0_6.index t 1 * win0_6.size 1 = 0 ∧ win0_6.xsize (grid0.coords t) 1 = 2048 :=
    (by decide +kernel : ∀ t : Fin grid0.N, win0_6.index t 0 * win0_6.size 0 = t.val * 256 ∧ win0_6.xsize (grid0.coords t) 0 = 256
      ∧ win0_6.index t 1 * win0_6.size 1 = 0 ∧ win0_6.xsize (grid0.coords t) 1 = 2048) t
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]
    omega
  | ⟨1, _⟩ =>
    show win0_6.index t 1 * win0_6.size 1 ≤ (i 1).val ∧ (i 1).val < win0_6.index t 1 * win0_6.size 1 + win0_6.xsize (grid0.coords t) 1
    rw [e.2.2.1, e.2.2.2]
    omega

/-- what a point writes there is its block of the whole array, -/
theorem written6 (t : Fin cfg0.N) : (dats m 0 c).flushed 6 t = (win0_6.blk t).view.read (Elt Ideal) (newV (argG m c) (argV m c)) := by
  show (cfg0.win 6).cut (grid0.coords t) ((dats m 0 c).after 6 t) = _
  rw [after0_6]
  unfold out0_6
  rw [View.canon_unit_zero origin, View.ld_unit_zero origin, View.ld_unit_zero origin]
  rfl

/-- and so the array ends as the second moment. -/
theorem ends6 : (dats m 0 c).arrAt 6 cfg0.N = newV (argG m c) (argV m c) :=
  (dats m 0 c).arrAt_eq_of_cover 6 _ (fun t _ => written6 m c t) covered6

/-- Every row block is written at some point of the grid: the gradient's array is covered, -/
theorem covered7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  have hN : cfg0.N = 8 := N_0
  refine ⟨⟨(i 0).val / 256, by omega⟩, flush0_7 _, ?_⟩
  generalize ht : (⟨(i 0).val / 256, by omega⟩ : Fin cfg0.N) = t
  have hv : t.val = (i 0).val / 256 := by rw [← ht]
  show i ∈ ((View.whole main_v0_3).slice (win0_7.rect t)).set
  rw [View.set_slice_whole, Rect.mem_set_unit]
  have e : win0_7.index t 0 * win0_7.size 0 = t.val * 256 ∧ win0_7.xsize (grid0.coords t) 0 = 256
      ∧ win0_7.index t 1 * win0_7.size 1 = 0 ∧ win0_7.xsize (grid0.coords t) 1 = 2048 :=
    (by decide +kernel : ∀ t : Fin grid0.N, win0_7.index t 0 * win0_7.size 0 = t.val * 256 ∧ win0_7.xsize (grid0.coords t) 0 = 256
      ∧ win0_7.index t 1 * win0_7.size 1 = 0 ∧ win0_7.xsize (grid0.coords t) 1 = 2048) t
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]
    omega
  | ⟨1, _⟩ =>
    show win0_7.index t 1 * win0_7.size 1 ≤ (i 1).val ∧ (i 1).val < win0_7.index t 1 * win0_7.size 1 + win0_7.xsize (grid0.coords t) 1
    rw [e.2.2.1, e.2.2.2]
    omega

/-- what a point writes there is its block of the whole array, -/
theorem written7 (t : Fin cfg0.N) : (dats m 0 c).flushed 7 t = (win0_7.blk t).view.read (Elt Ideal) (argG m c) := by
  show (cfg0.win 7).cut (grid0.coords t) ((dats m 0 c).after 7 t) = _
  rw [after0_7]
  unfold out0_7
  rw [View.canon_unit_zero origin, View.ld_unit_zero origin]
  rfl

/-- and so the array ends as the gradient. -/
theorem ends7 : (dats m 0 c).arrAt 7 cfg0.N = argG m c :=
  (dats m 0 c).arrAt_eq_of_cover 7 _ (fun t _ => written7 m c t) covered7

/-- The call's frames, -/
theorem frame : Cert.quiescent_AdamIn := fun m ρ _ => Cert.AdamIn.Gen.frame m ρ
theorem frame_ideal : Cert.quiescent_AdamInIdeal := fun m ρ _ => Cert.AdamInIdeal.Gen.frame m ρ

/-- the formula's, -/
theorem frame_reference : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run (F := Ideal) m ρ)

/-- and the claim: the call leaves what the formula gives. -/
theorem algebraic : Cert.algebraic_AdamInIdeal_AdamInReferenceIdeal := by
  intro m g m' g' _ h
  refine ⟨fun c => delta (argW m c) (argG m c) (argM m c) (argV m c), fun c => newM (argG m c) (argM m c),
    fun c => newV (argG m c) (argV m c), fun c => argG m c, ?_, ?_⟩
  · exact (θ_run Cert.AdamInIdeal.defs _ _).mono (fun _ r c => ⟨((r c).1 4).trans (ends4 m c), ((r c).1 5).trans (ends5 m c),
      ((r c).1 6).trans (ends6 m c), ((r c).1 7).trans (ends7 m c),
      ((r c).1 0).trans ((dats m 0 c).arrAt_in 0 rfl _), ((r c).1 1).trans ((dats m 0 c).arrAt_in 1 rfl _),
      ((r c).1 2).trans ((dats m 0 c).arrAt_in 2 rfl _), ((r c).1 3).trans ((dats m 0 c).arrAt_in 3 rfl _)⟩)
      (run_main (F := Ideal) m g)
  · refine (θ_run Cert.AdamInReferenceIdeal.defs _ _).mono (fun _ r c => ⟨(r c).1.trans ?_, (r c).2.1.trans ?_, (r c).2.2.1.trans ?_,
      (r c).2.2.2.1.trans (h c).2.1, (r c).2.2.2.2⟩) (Cert.AdamInReferenceIdeal.Value.run (F := Ideal) m' g')
    · rw [(h c).1, (h c).2.1, (h c).2.2.1, (h c).2.2.2]; rfl
    · rw [(h c).2.1, (h c).2.2.1]; rfl
    · rw [(h c).2.1, (h c).2.2.2]; rfl

end Cert.AdamInSteps
-- ==== Proof.AdamOutSteps.lean ====
/-
  AdamW on the output projection's weight, block of rows by block of rows, against the formula on the whole arrays: each of the four arrays that
  the call leaves, the frames, and the value claim.
-/
module

public import proofs.«01_k».proof.Defs
public import proofs.«01_k».proof.Proof.Gen.AdamOut.Frame
public import proofs.«01_k».proof.Proof.Gen.AdamOutIdeal.Frame
public import proofs.«01_k».proof.Proof.Gen.AdamOutReferenceIdeal.Run
public import Idealize.ShloMosaic.Lib.Pipeline.Value
public import Idealize.ShloMosaic.Lib.Quiescent

@[expose] public section

noncomputable section

namespace Cert.AdamOutSteps

open Cert.AdamOutIdeal Cert.AdamOutIdeal.Gen
open Idealize.ShloMosaic Idealize.ShloMosaic.TcCoe Idealize.SL.Sem

/-- An array of the weight's shape, over the extended reals. -/
abbrev Arr : Type := FVec Ideal S512x2048 .f32

/-- The same number at every index. -/
abbrev every (b : BitVec 32) : Arr := fun _ => FloatOps.ofBits .f32 b

/-- The first moment after the step: `0.9 m + 0.1 g`. -/
def newM (g m : Arr) : Arr := addf (mulf (every 0x3F666666#32) m) (mulf (every 0x3DCCCCCD#32) g)

/-- The second moment after the step: `0.999 v + 0.001 g²`. -/
def newV (g v : Arr) : Arr := addf (mulf (every 0x3F7FBE77#32) v) (mulf (every 0x3A83126F#32) (mulf g g))

/-- The change of the weight: the corrected first moment over the root of the corrected second, with the decay of the weight. -/
def delta (w g m v : Arr) : Arr :=
  mulf (every 0xBA83126F#32)
    (addf (divf (divf (newM g m) (every 0x3F26BD02#32)) (addf (sqrt (divf (newV g v) (every 0x3C231ACC#32))) (every 0x322BCC77#32)))
      (mulf (every 0x3C23D70A#32) w))

theorem origin : (![0, 0] : Fin 2 → Nat) = fun _ => 0 := funext fun a => by match a with | ⟨0, _⟩ => rfl | ⟨1, _⟩ => rfl

variable (m : (ℓ : Loc nD τ sig) → Buf (Elt Ideal) ℓ) (c : Dev nD)

/-- The four arguments on a device: weight, gradient, first and second moment. -/
abbrev argW : Arr := m ((c : Thread nD τ).loc main_arg0)
abbrev argG : Arr := m ((c : Thread nD τ).loc main_arg1)
abbrev argM : Arr := m ((c : Thread nD τ).loc main_arg2)
abbrev argV : Arr := m ((c : Thread nD τ).loc main_arg3)

/-- Every row block is written at some point of the grid: the change of the weight's array is covered, -/
theorem covered4 (i : S512x2048.Idx) : ∃ t : Fin cfg0.N, (cfg0.win 4).flush t = true ∧ i ∈ ((cfg0.win 4).blk t).view.set := by
  have h0 : (i 0).val < 512 := (i 0).isLt
  have h1 : (i 1).val < 2048 := (i 1).isLt
  have hN : cfg0.N = 2 := N_0
  refine ⟨⟨(i 0).val / 256, by omega⟩, flush0_4 _, ?_⟩
  generalize ht : (⟨(i 0).val / 256, by omega⟩ : Fin cfg0.N) = t
  have hv : t.val = (i 0).val / 256 := by rw [← ht]
  show i ∈ ((View.whole main_v0_0).slice (win0_4.rect t)).set
  rw [View.set_slice_whole, Rect.mem_set_unit]
  have e : win0_4.index t 0 * win0_4.size 0 = t.val * 256 ∧ win0_4.xsize (grid0.coords t) 0 = 256
      ∧ win0_4.index t 1 * win0_4.size 1 = 0 ∧ win0_4.xsize (grid0.coords t) 1 = 2048 :=
    (by decide +kernel : ∀ t : Fin grid0.N, win0_4.index t 0 * win0_4.size 0 = t.val * 256 ∧ win0_4.xsize (grid0.coords t) 0 = 256
      ∧ win0_4.index t 1 * win0_4.size 1 = 0 ∧ win0_4.xsize (grid0.coords t) 1 = 2048) t
  intro a
  match a with
  | ⟨0, _⟩ =>
    show win0_4.index t 0 * win0_4.size 0 ≤ (i 0).val ∧ (i 0).val < win0_4.index t 0 * win0_4.size 0 + win0_4.xsize (grid0.coords t) 0
    rw [e.1, e.2.1]
    omega
  | ⟨1, _⟩ =>
    show win0_4.index t 1 * win0_4.size 1 ≤ (i 1).val ∧ (i 1).val < win0_4.index t 1 * win0_4.size 1 + win0_4.xsize (grid0.coords t) 1
    rw [e.2.2.1, e.2.2.2]
    omega

/-- what a point writes there is its block of the whole array, -/
theorem written4 (t : Fin cfg0.N) : (dats m 0 c).flushed 4 t = (win0_4.blk t).view.read (Elt Ideal) (delta (argW m c) (argG m c) (argM m c) (argV m c)) := by
  show (cfg0.win 4).cut (grid0.coords t) ((dats m 0 c).after 4 t) = _
  rw [after0_4]
  unfold out0_4
  rw [View.canon_unit_zero origin, View.ld_unit_zero origin, View.ld_unit_zero origin, View.ld_unit_zero origin, View.ld_unit_zero origin]
  rfl

/-- and so the array ends as the change of the weight. -/
theorem ends4 : (dats m 0 c).arrAt 4 cfg0.N = delta (argW m c) (argG m c) (argM m c) (argV m c) :=
  (dats m 0 c).arrAt_eq_of_cover 4 _ (fun t _ => written4 m c t) covered4

/-- Every row block is written at some point of the grid: the first moment's array is covered, -/
theorem covered5 (i : S512x2048.Idx) : ∃ t : Fin cfg0.N, (cfg0.win 5).flush t = true ∧ i ∈ ((cfg0.win 5).blk t).view.set := by
  have h0 : (i 0).val < 512 := (i 0).isLt
  have h1 : (i 1).val < 2048 := (i 1).isLt
  have hN : cfg0.N = 2 := N_0
  refine ⟨⟨(i 0).val / 256, by omega⟩, flush0_5 _, ?_⟩
  generalize ht : (⟨(i 0).val / 256, by omega⟩ : Fin cfg0.N) = t
  have hv : t.val = (i 0).val / 256 := by rw [← ht]
  show i ∈ ((View.whole main_v0_1).slice (win0_5.rect t)).set
  rw [View.set_slice_whole, Rect.mem_set_unit]
  have e : win0_5.index t 0 * win0_5.size 0 = t.val * 256 ∧ win0_5.xsize (grid0.coords t) 0 = 256
      ∧ win0_5.index t 1 * win0_5.size 1 = 0 ∧ win0_5.xsize (grid0.coords t) 1 = 2048 :=
    (by decide +kernel : ∀ t : Fin grid0.N, win0_5.index t 0 * win0_5.size 0 = t.val * 256 ∧ win0_5.xsize (grid0.coords t) 0 = 256
      ∧ win0_5.index t 1 * win0_5.size 1 = 0 ∧ win0_5.xsize (grid0.coords t) 1 = 2048) t
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]
    omega
  | ⟨1, _⟩ =>
    show win0_5.index t 1 * win0_5.size 1 ≤ (i 1).val ∧ (i 1).val < win0_5.index t 1 * win0_5.size 1 + win0_5.xsize (grid0.coords t) 1
    rw [e.2.2.1, e.2.2.2]
    omega

/-- what a point writes there is its block of the whole array, -/
theorem written5 (t : Fin cfg0.N) : (dats m 0 c).flushed 5 t = (win0_5.blk t).view.read (Elt Ideal) (newM (argG m c) (argM m c)) := by
  show (cfg0.win 5).cut (grid0.coords t) ((dats m 0 c).after 5 t) = _
  rw [after0_5]
  unfold out0_5
  rw [View.canon_unit_zero origin, View.ld_unit_zero origin, View.ld_unit_zero origin]
  rfl

/-- and so the array ends as the first moment. -/
theorem ends5 : (dats m 0 c).arrAt 5 cfg0.N = newM (argG m c) (argM m c) :=
  (dats m 0 c).arrAt_eq_of_cover 5 _ (fun t _ => written5 m c t) covered5

/-- Every row block is written at some point of the grid: the second moment's array is covered, -/
theorem covered6 (i : S512x2048.Idx) : ∃ t : Fin cfg0.N, (cfg0.win 6).flush t = true ∧ i ∈ ((cfg0.win 6).blk t).view.set := by
  have h0 : (i 0).val < 512 := (i 0).isLt
  have h1 : (i 1).val < 2048 := (i 1).isLt
  have hN : cfg0.N = 2 := N_0
  refine ⟨⟨(i 0).val / 256, by omega⟩, flush0_6 _, ?_⟩
  generalize ht : (⟨(i 0).val / 256, by omega⟩ : Fin cfg0.N) = t
  have hv : t.val = (i 0).val / 256 := by rw [← ht]
  show i ∈ ((View.whole main_v0_2).slice (win0_6.rect t)).set
  rw [View.set_slice_whole, Rect.mem_set_unit]
  have e : win0_6.index t 0 * win0_6.size 0 = t.val * 256 ∧ win0_6.xsize (grid0.coords t) 0 = 256
      ∧ win0_6.index t 1 * win0_6.size 1 = 0 ∧ win0_6.xsize (grid0.coords t) 1 = 2048 :=
    (by decide +kernel : ∀ t : Fin grid0.N, win0_6.index t 0 * win0_6.size 0 = t.val * 256 ∧ win0_6.xsize (grid0.coords t) 0 = 256
      ∧ win0_6.index t 1 * win0_6.size 1 = 0 ∧ win0_6.xsize (grid0.coords t) 1 = 2048) t
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]
    omega
  | ⟨1, _⟩ =>
    show win0_6.index t 1 * win0_6.size 1 ≤ (i 1).val ∧ (i 1).val < win0_6.index t 1 * win0_6.size 1 + win0_6.xsize (grid0.coords t) 1
    rw [e.2.2.1, e.2.2.2]
    omega

/-- what a point writes there is its block of the whole array, -/
theorem written6 (t : Fin cfg0.N) : (dats m 0 c).flushed 6 t = (win0_6.blk t).view.read (Elt Ideal) (newV (argG m c) (argV m c)) := by
  show (cfg0.win 6).cut (grid0.coords t) ((dats m 0 c).after 6 t) = _
  rw [after0_6]
  unfold out0_6
  rw [View.canon_unit_zero origin, View.ld_unit_zero origin, View.ld_unit_zero origin]
  rfl

/-- and so the array ends as the second moment. -/
theorem ends6 : (dats m 0 c).arrAt 6 cfg0.N = newV (argG m c) (argV m c) :=
  (dats m 0 c).arrAt_eq_of_cover 6 _ (fun t _ => written6 m c t) covered6

/-- Every row block is written at some point of the grid: the gradient's array is covered, -/
theorem covered7 (i : S512x2048.Idx) : ∃ t : Fin cfg0.N, (cfg0.win 7).flush t = true ∧ i ∈ ((cfg0.win 7).blk t).view.set := by
  have h0 : (i 0).val < 512 := (i 0).isLt
  have h1 : (i 1).val < 2048 := (i 1).isLt
  have hN : cfg0.N = 2 := N_0
  refine ⟨⟨(i 0).val / 256, by omega⟩, flush0_7 _, ?_⟩
  generalize ht : (⟨(i 0).val / 256, by omega⟩ : Fin cfg0.N) = t
  have hv : t.val = (i 0).val / 256 := by rw [← ht]
  show i ∈ ((View.whole main_v0_3).slice (win0_7.rect t)).set
  rw [View.set_slice_whole, Rect.mem_set_unit]
  have e : win0_7.index t 0 * win0_7.size 0 = t.val * 256 ∧ win0_7.xsize (grid0.coords t) 0 = 256
      ∧ win0_7.index t 1 * win0_7.size 1 = 0 ∧ win0_7.xsize (grid0.coords t) 1 = 2048 :=
    (by decide +kernel : ∀ t : Fin grid0.N, win0_7.index t 0 * win0_7.size 0 = t.val * 256 ∧ win0_7.xsize (grid0.coords t) 0 = 256
      ∧ win0_7.index t 1 * win0_7.size 1 = 0 ∧ win0_7.xsize (grid0.coords t) 1 = 2048) t
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]
    omega
  | ⟨1, _⟩ =>
    show win0_7.index t 1 * win0_7.size 1 ≤ (i 1).val ∧ (i 1).val < win0_7.index t 1 * win0_7.size 1 + win0_7.xsize (grid0.coords t) 1
    rw [e.2.2.1, e.2.2.2]
    omega

/-- what a point writes there is its block of the whole array, -/
theorem written7 (t : Fin cfg0.N) : (dats m 0 c).flushed 7 t = (win0_7.blk t).view.read (Elt Ideal) (argG m c) := by
  show (cfg0.win 7).cut (grid0.coords t) ((dats m 0 c).after 7 t) = _
  rw [after0_7]
  unfold out0_7
  rw [View.canon_unit_zero origin, View.ld_unit_zero origin]
  rfl

/-- and so the array ends as the gradient. -/
theorem ends7 : (dats m 0 c).arrAt 7 cfg0.N = argG m c :=
  (dats m 0 c).arrAt_eq_of_cover 7 _ (fun t _ => written7 m c t) covered7

/-- The call's frames, -/
theorem frame : Cert.quiescent_AdamOut := fun m ρ _ => Cert.AdamOut.Gen.frame m ρ
theorem frame_ideal : Cert.quiescent_AdamOutIdeal := fun m ρ _ => Cert.AdamOutIdeal.Gen.frame m ρ

/-- the formula's, -/
theorem frame_reference : Cert.quiescent_AdamOutReferenceIdeal := fun m ρ _ =>
  (θ_run Cert.AdamOutReferenceIdeal.defs _ _).mono (fun r h => ⟨fun c => (h c).2.2.2.2, sem_eq_zero_of_no_sems (by decide) r.2⟩)
    (Cert.AdamOutReferenceIdeal.Value.run (F := Ideal) m ρ)

/-- and the claim: the call leaves what the formula gives. -/
theorem algebraic : Cert.algebraic_AdamOutIdeal_AdamOutReferenceIdeal := by
  intro m g m' g' _ h
  refine ⟨fun c => delta (argW m c) (argG m c) (argM m c) (argV m c), fun c => newM (argG m c) (argM m c),
    fun c => newV (argG m c) (argV m c), fun c => argG m c, ?_, ?_⟩
  · exact (θ_run Cert.AdamOutIdeal.defs _ _).mono (fun _ r c => ⟨((r c).1 4).trans (ends4 m c), ((r c).1 5).trans (ends5 m c),
      ((r c).1 6).trans (ends6 m c), ((r c).1 7).trans (ends7 m c),
      ((r c).1 0).trans ((dats m 0 c).arrAt_in 0 rfl _), ((r c).1 1).trans ((dats m 0 c).arrAt_in 1 rfl _),
      ((r c).1 2).trans ((dats m 0 c).arrAt_in 2 rfl _), ((r c).1 3).trans ((dats m 0 c).arrAt_in 3 rfl _)⟩)
      (run_main (F := Ideal) m g)
  · refine (θ_run Cert.AdamOutReferenceIdeal.defs _ _).mono (fun _ r c => ⟨(r c).1.trans ?_, (r c).2.1.trans ?_, (r c).2.2.1.trans ?_,
      (r c).2.2.2.1.trans (h c).2.1, (r c).2.2.2.2⟩) (Cert.AdamOutReferenceIdeal.Value.run (F := Ideal) m' g')
    · rw [(h c).1, (h c).2.1, (h c).2.2.1, (h c).2.2.2]; rfl
    · rw [(h c).2.1, (h c).2.2.1]; rfl
    · rw [(h c).2.1, (h c).2.2.2]; rfl

end Cert.AdamOutSteps
-- ==== Proof.AdamRowSteps.lean ====
/-
  AdamW on a gain of the model's width, block of rows by block of rows, against the formula on the whole arrays: each of the four arrays that
  the call leaves, the frames, and the value claim.
-/
module

public import proofs.«01_k».proof.Defs
public import proofs.«01_k».proof.Proof.Gen.AdamRow.Frame
public import proofs.«01_k».proof.Proof.Gen.AdamRowIdeal.Frame
public import proofs.«01_k».proof.Proof.Gen.AdamRowReferenceIdeal.Run
public import Idealize.ShloMosaic.Lib.Pipeline.Value
public import Idealize.ShloMosaic.Lib.Quiescent

@[expose] public section

noncomputable section

namespace Cert.AdamRowSteps

open Cert.AdamRowIdeal Cert.AdamRowIdeal.Gen
open Idealize.ShloMosaic Idealize.ShloMosaic.TcCoe Idealize.SL.Sem

/-- An array of the weight's shape, over the extended reals. -/
abbrev Arr : Type := FVec Ideal S1x2048 .f32

/-- The same number at every index. -/
abbrev every (b : BitVec 32) : Arr := fun _ => FloatOps.ofBits .f32 b

/-- The first moment after the step: `0.9 m + 0.1 g`. -/
def newM (g m : Arr) : Arr := addf (mulf (every 0x3F666666#32) m) (mulf (every 0x3DCCCCCD#32) g)

/-- The second moment after the step: `0.999 v + 0.001 g²`. -/
def newV (g v : Arr) : Arr := addf (mulf (every 0x3F7FBE77#32) v) (mulf (every 0x3A83126F#32) (mulf g g))

/-- The change of the weight: the corrected first moment over the root of the corrected second, with the decay of the weight. -/
def delta (w g m v : Arr) : Arr :=
  mulf (every 0xBA83126F#32)
    (addf (divf (divf (newM g m) (every 0x3F26BD02#32)) (addf (sqrt (divf (newV g v) (every 0x3C231ACC#32))) (every 0x322BCC77#32)))
      (mulf (every 0x3C23D70A#32) w))

theorem origin : (![0, 0] : Fin 2 → Nat) = fun _ => 0 := funext fun a => by match a with | ⟨0, _⟩ => rfl | ⟨1, _⟩ => rfl

variable (m : (ℓ : Loc nD τ sig) → Buf (Elt Ideal) ℓ) (c : Dev nD)

/-- The four arguments on a device: weight, gradient, first and second moment. -/
abbrev argW : Arr := m ((c : Thread nD τ).loc main_arg0)
abbrev argG : Arr := m ((c : Thread nD τ).loc main_arg1)
abbrev argM : Arr := m ((c : Thread nD τ).loc main_arg2)
abbrev argV : Arr := m ((c : Thread nD τ).loc main_arg3)

/-- Every row block is written at some point of the grid: the change of the weight's array is covered, -/
theorem covered4 (i : S1x2048.Idx) : ∃ t : Fin cfg0.N, (cfg0.win 4).flush t = true ∧ i ∈ ((cfg0.win 4).blk t).view.set := by
  have h0 : (i 0).val < 1 := (i 0).isLt
  have h1 : (i 1).val < 2048 := (i 1).isLt
  have hN : cfg0.N = 1 := N_0
  refine ⟨⟨(i 0).val / 1, by omega⟩, flush0_4 _, ?_⟩
  generalize ht : (⟨(i 0).val / 1, by omega⟩ : Fin cfg0.N) = t
  have hv : t.val = (i 0).val / 1 := by rw [← ht]
  show i ∈ ((View.whole main_v0_0).slice (win0_4.rect t)).set
  rw [View.set_slice_whole, Rect.mem_set_unit]
  have e : win0_4.index t 0 * win0_4.size 0 = t.val * 1 ∧ win0_4.xsize (grid0.coords t) 0 = 1
      ∧ win0_4.index t 1 * win0_4.size 1 = 0 ∧ win0_4.xsize (grid0.coords t) 1 = 2048 :=
    (by decide +kernel : ∀ t : Fin grid0.N, win0_4.index t 0 * win0_4.size 0 = t.val * 1 ∧ win0_4.xsize (grid0.coords t) 0 = 1
      ∧ win0_4.index t 1 * win0_4.size 1 = 0 ∧ win0_4.xsize (grid0.coords t) 1 = 2048) t
  intro a
  match a with
  | ⟨0, _⟩ =>
    show win0_4.index t 0 * win0_4.size 0 ≤ (i 0).val ∧ (i 0).val < win0_4.index t 0 * win0_4.size 0 + win0_4.xsize (grid0.coords t) 0
    rw [e.1, e.2.1]
    omega
  | ⟨1, _⟩ =>
    show win0_4.index t 1 * win0_4.size 1 ≤ (i 1).val ∧ (i 1).val < win0_4.index t 1 * win0_4.size 1 + win0_4.xsize (grid0.coords t) 1
    rw [e.2.2.1, e.2.2.2]
    omega

/-- what a point writes there is its block of the whole array, -/
theorem written4 (t : Fin cfg0.N) : (dats m 0 c).flushed 4 t = (win0_4.blk t).view.read (Elt Ideal) (delta (argW m c) (argG m c) (argM m c) (argV m c)) := by
  show (cfg0.win 4).cut (grid0.coords t) ((dats m 0 c).after 4 t) = _
  rw [after0_4]
  unfold out0_4
  rw [View.canon_unit_zero origin, View.ld_unit_zero origin, View.ld_unit_zero origin, View.ld_unit_zero origin, View.ld_unit_zero origin]
  sl_kernel_rfl

/-- and so the array ends as the change of the weight. -/
theorem ends4 : (dats m 0 c).arrAt 4 cfg0.N = delta (argW m c) (argG m c) (argM m c) (argV m c) :=
  (dats m 0 c).arrAt_eq_of_cover 4 _ (fun t _ => written4 m c t) covered4

/-- Every row block is written at some point of the grid: the first moment's array is covered, -/
theorem covered5 (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  have hN : cfg0.N = 1 := N_0
  refine ⟨⟨(i 0).val / 1, by omega⟩, flush0_5 _, ?_⟩
  generalize ht : (⟨(i 0).val / 1, by omega⟩ : Fin cfg0.N) = t
  have hv : t.val = (i 0).val / 1 := by rw [← ht]
  show i ∈ ((View.whole main_v0_1).slice (win0_5.rect t)).set
  rw [View.set_slice_whole, Rect.mem_set_unit]
  have e : win0_5.index t 0 * win0_5.size 0 = t.val * 1 ∧ win0_5.xsize (grid0.coords t) 0 = 1
      ∧ win0_5.index t 1 * win0_5.size 1 = 0 ∧ win0_5.xsize (grid0.coords t) 1 = 2048 :=
    (by decide +kernel : ∀ t : Fin grid0.N, win0_5.index t 0 * win0_5.size 0 = t.val * 1 ∧ win0_5.xsize (grid0.coords t) 0 = 1
      ∧ win0_5.index t 1 * win0_5.size 1 = 0 ∧ win0_5.xsize (grid0.coords t) 1 = 2048) t
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]
    omega
  | ⟨1, _⟩ =>
    show win0_5.index t 1 * win0_5.size 1 ≤ (i 1).val ∧ (i 1).val < win0_5.index t 1 * win0_5.size 1 + win0_5.xsize (grid0.coords t) 1
    rw [e.2.2.1, e.2.2.2]
    omega

/-- what a point writes there is its block of the whole array, -/
theorem written5 (t : Fin cfg0.N) : (dats m 0 c).flushed 5 t = (win0_5.blk t).view.read (Elt Ideal) (newM (argG m c) (argM m c)) := by
  show (cfg0.win 5).cut (grid0.coords t) ((dats m 0 c).after 5 t) = _
  rw [after0_5]
  unfold out0_5
  rw [View.canon_unit_zero origin, View.ld_unit_zero origin, View.ld_unit_zero origin]
  rfl

/-- and so the array ends as the first moment. -/
theorem ends5 : (dats m 0 c).arrAt 5 cfg0.N = newM (argG m c) (argM m c) :=
  (dats m 0 c).arrAt_eq_of_cover 5 _ (fun t _ => written5 m c t) covered5

/-- Every row block is written at some point of the grid: the second moment's array is covered, -/
theorem covered6 (i : S1x2048.Idx) : ∃ t : Fin cfg0.N, (cfg0.win 6).flush t = true ∧ i ∈ ((cfg0.win 6).blk t).view.set := by
  have h0 : (i 0).val < 1 := (i 0).isLt
  have h1 : (i 1).val < 2048 := (i 1).isLt
  have hN : cfg0.N = 1 := N_0
  refine ⟨⟨(i 0).val / 1, by omega⟩, flush0_6 _, ?_⟩
  generalize ht : (⟨(i 0).val / 1, by omega⟩ : Fin cfg0.N) = t
  have hv : t.val = (i 0).val / 1 := by rw [← ht]
  show i ∈ ((View.whole main_v0_2).slice (win0_6.rect t)).set
  rw [View.set_slice_whole, Rect.mem_set_unit]
  have e : win0_6.index t 0 * win0_6.size 0 = t.val * 1 ∧ win0_6.xsize (grid0.coords t) 0 = 1
      ∧ win0_6.index t 1 * win0_6.size 1 = 0 ∧ win0_6.xsize (grid0.coords t) 1 = 2048 :=
    (by decide +kernel : ∀ t : Fin grid0.N, win0_6.index t 0 * win0_6.size 0 = t.val * 1 ∧ win0_6.xsize (grid0.coords t) 0 = 1
      ∧ win0_6.index t 1 * win0_6.size 1 = 0 ∧ win0_6.xsize (grid0.coords t) 1 = 2048) t
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]
    omega
  | ⟨1, _⟩ =>
    show win0_6.index t 1 * win0_6.size 1 ≤ (i 1).val ∧ (i 1).val < win0_6.index t 1 * win0_6.size 1 + win0_6.xsize (grid0.coords t) 1
    rw [e.2.2.1, e.2.2.2]
    omega

/-- what a point writes there is its block of the whole array, -/
theorem written6 (t : Fin cfg0.N) : (dats m 0 c).flushed 6 t = (win0_6.blk t).view.read (Elt Ideal) (newV (argG m c) (argV m c)) := by
  show (cfg0.win 6).cut (grid0.coords t) ((dats m 0 c).after 6 t) = _
  rw [after0_6]
  unfold out0_6
  rw [View.canon_unit_zero origin, View.ld_unit_zero origin, View.ld_unit_zero origin]
  rfl

/-- and so the array ends as the second moment. -/
theorem ends6 : (dats m 0 c).arrAt 6 cfg0.N = newV (argG m c) (argV m c) :=
  (dats m 0 c).arrAt_eq_of_cover 6 _ (fun t _ => written6 m c t) covered6

/-- Every row block is written at some point of the grid: the gradient's array is covered, -/
theorem covered7 (i : S1x2048.Idx) : ∃ t : Fin cfg0.N, (cfg0.win 7).flush t = true ∧ i ∈ ((cfg0.win 7).blk t).view.set := by
  have h0 : (i 0).val < 1 := (i 0).isLt
  have h1 : (i 1).val < 2048 := (i 1).isLt
  have hN : cfg0.N = 1 := N_0
  refine ⟨⟨(i 0).val / 1, by omega⟩, flush0_7 _, ?_⟩
  generalize ht : (⟨(i 0).val / 1, by omega⟩ : Fin cfg0.N) = t
  have hv : t.val = (i 0).val / 1 := by rw [← ht]
  show i ∈ ((View.whole main_v0_3).slice (win0_7.rect t)).set
  rw [View.set_slice_whole, Rect.mem_set_unit]
  have e : win0_7.index t 0 * win0_7.size 0 = t.val * 1 ∧ win0_7.xsize (grid0.coords t) 0 = 1
      ∧ win0_7.index t 1 * win0_7.size 1 = 0 ∧ win0_7.xsize (grid0.coords t) 1 = 2048 :=
    (by decide +kernel : ∀ t : Fin grid0.N, win0_7.index t 0 * win0_7.size 0 = t.val * 1 ∧ win0_7.xsize (grid0.coords t) 0 = 1
      ∧ win0_7.index t 1 * win0_7.size 1 = 0 ∧ win0_7.xsize (grid0.coords t) 1 = 2048) t
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]
    omega
  | ⟨1, _⟩ =>
    show win0_7.index t 1 * win0_7.size 1 ≤ (i 1).val ∧ (i 1).val < win0_7.index t 1 * win0_7.size 1 + win0_7.xsize (grid0.coords t) 1
    rw [e.2.2.1, e.2.2.2]
    omega

/-- what a point writes there is its block of the whole array, -/
theorem written7 (t : Fin cfg0.N) : (dats m 0 c).flushed 7 t = (win0_7.blk t).view.read (Elt Ideal) (argG m c) := by
  show (cfg0.win 7).cut (grid0.coords t) ((dats m 0 c).after 7 t) = _
  rw [after0_7]
  unfold out0_7
  rw [View.canon_unit_zero origin, View.ld_unit_zero origin]
  rfl

/-- and so the array ends as the gradient. -/
theorem ends7 : (dats m 0 c).arrAt 7 cfg0.N = argG m c :=
  (dats m 0 c).arrAt_eq_of_cover 7 _ (fun t _ => written7 m c t) covered7

/-- The call's frames, -/
theorem frame : Cert.quiescent_AdamRow := fun m ρ _ => Cert.AdamRow.Gen.frame m ρ
theorem frame_ideal : Cert.quiescent_AdamRowIdeal := fun m ρ _ => Cert.AdamRowIdeal.Gen.frame m ρ

/-- the formula's, -/
theorem frame_reference : Cert.quiescent_AdamRowReferenceIdeal := fun m ρ _ =>
  (θ_run Cert.AdamRowReferenceIdeal.defs _ _).mono (fun r h => ⟨fun c => (h c).2.2.2.2, sem_eq_zero_of_no_sems (by decide) r.2⟩)
    (Cert.AdamRowReferenceIdeal.Value.run (F := Ideal) m ρ)

/-- and the claim: the call leaves what the formula gives. -/
theorem algebraic : Cert.algebraic_AdamRowIdeal_AdamRowReferenceIdeal := by
  intro m g m' g' _ h
  refine ⟨fun c => delta (argW m c) (argG m c) (argM m c) (argV m c), fun c => newM (argG m c) (argM m c),
    fun c => newV (argG m c) (argV m c), fun c => argG m c, ?_, ?_⟩
  · exact (θ_run Cert.AdamRowIdeal.defs _ _).mono (fun _ r c => ⟨((r c).1 4).trans (ends4 m c), ((r c).1 5).trans (ends5 m c),
      ((r c).1 6).trans (ends6 m c), ((r c).1 7).trans (ends7 m c),
      ((r c).1 0).trans ((dats m 0 c).arrAt_in 0 rfl _), ((r c).1 1).trans ((dats m 0 c).arrAt_in 1 rfl _),
      ((r c).1 2).trans ((dats m 0 c).arrAt_in 2 rfl _), ((r c).1 3).trans ((dats m 0 c).arrAt_in 3 rfl _)⟩)
      (run_main (F := Ideal) m g)
  · refine (θ_run Cert.AdamRowReferenceIdeal.defs _ _).mono (fun _ r c => ⟨(r c).1.trans ?_, (r c).2.1.trans ?_, (r c).2.2.1.trans ?_,
      (r c).2.2.2.1.trans (h c).2.1, (r c).2.2.2.2⟩) (Cert.AdamRowReferenceIdeal.Value.run (F := Ideal) m' g')
    · rw [(h c).1, (h c).2.1, (h c).2.2.1, (h c).2.2.2]; rfl
    · rw [(h c).2.1, (h c).2.2.1]; rfl
    · rw [(h c).2.1, (h c).2.2.2]; rfl

end Cert.AdamRowSteps
-- ==== Proof.AdamLogitsSteps.lean ====
/-
  AdamW on the lower bound's logits, block of rows by block of rows, against the formula on the whole arrays: each of the four arrays that
  the call leaves, the frames, and the value claim.
-/
module

public import proofs.«01_k».proof.Defs
public import proofs.«01_k».proof.Proof.Gen.AdamLogits.Frame
public import proofs.«01_k».proof.Proof.Gen.AdamLogitsIdeal.Frame
public import proofs.«01_k».proof.Proof.Gen.AdamLogitsReferenceIdeal.Run
public import Idealize.ShloMosaic.Lib.Pipeline.Value
public import Idealize.ShloMosaic.Lib.Quiescent

@[expose] public section

noncomputable section

namespace Cert.AdamLogitsSteps

open Cert.AdamLogitsIdeal Cert.AdamLogitsIdeal.Gen
open Idealize.ShloMosaic Idealize.ShloMosaic.TcCoe Idealize.SL.Sem

/-- An array of the weight's shape, over the extended reals. -/
abbrev Arr : Type := FVec Ideal S2x1024 .f32

/-- The same number at every index. -/
abbrev every (b : BitVec 32) : Arr := fun _ => FloatOps.ofBits .f32 b

/-- The first moment after the step: `0.9 m + 0.1 g`. -/
def newM (g m : Arr) : Arr := addf (mulf (every 0x3F666666#32) m) (mulf (every 0x3DCCCCCD#32) g)

/-- The second moment after the step: `0.999 v + 0.001 g²`. -/
def newV (g v : Arr) : Arr := addf (mulf (every 0x3F7FBE77#32) v) (mulf (every 0x3A83126F#32) (mulf g g))

/-- The change of the weight: the corrected first moment over the root of the corrected second, with the decay of the weight. -/
def delta (w g m v : Arr) : Arr :=
  mulf (every 0xBA83126F#32)
    (addf (divf (divf (newM g m) (every 0x3F26BD02#32)) (addf (sqrt (divf (newV g v) (every 0x3C231ACC#32))) (every 0x322BCC77#32)))
      (mulf (every 0x3C23D70A#32) w))

theorem origin : (![0, 0] : Fin 2 → Nat) = fun _ => 0 := funext fun a => by match a with | ⟨0, _⟩ => rfl | ⟨1, _⟩ => rfl

variable (m : (ℓ : Loc nD τ sig) → Buf (Elt Ideal) ℓ) (c : Dev nD)

/-- The four arguments on a device: weight, gradient, first and second moment. -/
abbrev argW : Arr := m ((c : Thread nD τ).loc main_arg0)
abbrev argG : Arr := m ((c : Thread nD τ).loc main_arg1)
abbrev argM : Arr := m ((c : Thread nD τ).loc main_arg2)
abbrev argV : Arr := m ((c : Thread nD τ).loc main_arg3)

/-- Every row block is written at some point of the grid: the change of the weight's array is covered, -/
theorem covered4 (i : S2x1024.Idx) : ∃ t : Fin cfg0.N, (cfg0.win 4).flush t = true ∧ i ∈ ((cfg0.win 4).blk t).view.set := by
  have h0 : (i 0).val < 2 := (i 0).isLt
  have h1 : (i 1).val < 1024 := (i 1).isLt
  have hN : cfg0.N = 1 := N_0
  refine ⟨⟨(i 0).val / 2, by omega⟩, flush0_4 _, ?_⟩
  generalize ht : (⟨(i 0).val / 2, by omega⟩ : Fin cfg0.N) = t
  have hv : t.val = (i 0).val / 2 := by rw [← ht]
  show i ∈ ((View.whole main_v0_0).slice (win0_4.rect t)).set
  rw [View.set_slice_whole, Rect.mem_set_unit]
  have e : win0_4.index t 0 * win0_4.size 0 = t.val * 2 ∧ win0_4.xsize (grid0.coords t) 0 = 2
      ∧ win0_4.index t 1 * win0_4.size 1 = 0 ∧ win0_4.xsize (grid0.coords t) 1 = 1024 :=
    (by decide +kernel : ∀ t : Fin grid0.N, win0_4.index t 0 * win0_4.size 0 = t.val * 2 ∧ win0_4.xsize (grid0.coords t) 0 = 2
      ∧ win0_4.index t 1 * win0_4.size 1 = 0 ∧ win0_4.xsize (grid0.coords t) 1 = 1024) t
  intro a
  match a with
  | ⟨0, _⟩ =>
    show win0_4.index t 0 * win0_4.size 0 ≤ (i 0).val ∧ (i 0).val < win0_4.index t 0 * win0_4.size 0 + win0_4.xsize (grid0.coords t) 0
    rw [e.1, e.2.1]
    omega
  | ⟨1, _⟩ =>
    show win0_4.index t 1 * win0_4.size 1 ≤ (i 1).val ∧ (i 1).val < win0_4.index t 1 * win0_4.size 1 + win0_4.xsize (grid0.coords t) 1
    rw [e.2.2.1, e.2.2.2]
    omega

/-- what a point writes there is its block of the whole array, -/
theorem written4 (t : Fin cfg0.N) : (dats m 0 c).flushed 4 t = (win0_4.blk t).view.read (Elt Ideal) (delta (argW m c) (argG m c) (argM m c) (argV m c)) := by
  show (cfg0.win 4).cut (grid0.coords t) ((dats m 0 c).after 4 t) = _
  rw [after0_4]
  unfold out0_4
  rw [View.canon_unit_zero origin, View.ld_unit_zero origin, View.ld_unit_zero origin, View.ld_unit_zero origin, View.ld_unit_zero origin]
  sl_kernel_rfl

/-- and so the array ends as the change of the weight. -/
theorem ends4 : (dats m 0 c).arrAt 4 cfg0.N = delta (argW m c) (argG m c) (argM m c) (argV m c) :=
  (dats m 0 c).arrAt_eq_of_cover 4 _ (fun t _ => written4 m c t) covered4

/-- Every row block is written at some point of the grid: the first moment's array is covered, -/
theorem covered5 (i : S2x1024.Idx) : ∃ t : Fin cfg0.N, (cfg0.win 5).flush t = true ∧ i ∈ ((cfg0.win 5).blk t).view.set := by
  have h0 : (i 0).val < 2 := (i 0).isLt
  have h1 : (i 1).val < 1024 := (i 1).isLt
  have hN : cfg0.N = 1 := N_0
  refine ⟨⟨(i 0).val / 2, by omega⟩, flush0_5 _, ?_⟩
  generalize ht : (⟨(i 0).val / 2, by omega⟩ : Fin cfg0.N) = t
  have hv : t.val = (i 0).val / 2 := by rw [← ht]
  show i ∈ ((View.whole main_v0_1).slice (win0_5.rect t)).set
  rw [View.set_slice_whole, Rect.mem_set_unit]
  have e : win0_5.index t 0 * win0_5.size 0 = t.val * 2 ∧ win0_5.xsize (grid0.coords t) 0 = 2
      ∧ win0_5.index t 1 * win0_5.size 1 = 0 ∧ win0_5.xsize (grid0.coords t) 1 = 1024 :=
    (by decide +kernel : ∀ t : Fin grid0.N, win0_5.index t 0 * win0_5.size 0 = t.val * 2 ∧ win0_5.xsize (grid0.coords t) 0 = 2
      ∧ win0_5.index t 1 * win0_5.size 1 = 0 ∧ win0_5.xsize (grid0.coords t) 1 = 1024) t
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]
    omega
  | ⟨1, _⟩ =>
    show win0_5.index t 1 * win0_5.size 1 ≤ (i 1).val ∧ (i 1).val < win0_5.index t 1 * win0_5.size 1 + win0_5.xsize (grid0.coords t) 1
    rw [e.2.2.1, e.2.2.2]
    omega

/-- what a point writes there is its block of the whole array, -/
theorem written5 (t : Fin cfg0.N) : (dats m 0 c).flushed 5 t = (win0_5.blk t).view.read (Elt Ideal) (newM (argG m c) (argM m c)) := by
  show (cfg0.win 5).cut (grid0.coords t) ((dats m 0 c).after 5 t) = _
  rw [after0_5]
  unfold out0_5
  rw [View.canon_unit_zero origin, View.ld_unit_zero origin, View.ld_unit_zero origin]
  rfl

/-- and so the array ends as the first moment. -/
theorem ends5 : (dats m 0 c).arrAt 5 cfg0.N = newM (argG m c) (argM m c) :=
  (dats m 0 c).arrAt_eq_of_cover 5 _ (fun t _ => written5 m c t) covered5

/-- Every row block is written at some point of the grid: the second moment's array is covered, -/
theorem covered6 (i : S2x1024.Idx) : ∃ t : Fin cfg0.N, (cfg0.win 6).flush t = true ∧ i ∈ ((cfg0.win 6).blk t).view.set := by
  have h0 : (i 0).val < 2 := (i 0).isLt
  have h1 : (i 1).val < 1024 := (i 1).isLt
  have hN : cfg0.N = 1 := N_0
  refine ⟨⟨(i 0).val / 2, by omega⟩, flush0_6 _, ?_⟩
  generalize ht : (⟨(i 0).val / 2, by omega⟩ : Fin cfg0.N) = t
  have hv : t.val = (i 0).val / 2 := by rw [← ht]
  show i ∈ ((View.whole main_v0_2).slice (win0_6.rect t)).set
  rw [View.set_slice_whole, Rect.mem_set_unit]
  have e : win0_6.index t 0 * win0_6.size 0 = t.val * 2 ∧ win0_6.xsize (grid0.coords t) 0 = 2
      ∧ win0_6.index t 1 * win0_6.size 1 = 0 ∧ win0_6.xsize (grid0.coords t) 1 = 1024 :=
    (by decide +kernel : ∀ t : Fin grid0.N, win0_6.index t 0 * win0_6.size 0 = t.val * 2 ∧ win0_6.xsize (grid0.coords t) 0 = 2
      ∧ win0_6.index t 1 * win0_6.size 1 = 0 ∧ win0_6.xsize (grid0.coords t) 1 = 1024) t
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]
    omega
  | ⟨1, _⟩ =>
    show win0_6.index t 1 * win0_6.size 1 ≤ (i 1).val ∧ (i 1).val < win0_6.index t 1 * win0_6.size 1 + win0_6.xsize (grid0.coords t) 1
    rw [e.2.2.1, e.2.2.2]
    omega

/-- what a point writes there is its block of the whole array, -/
theorem written6 (t : Fin cfg0.N) : (dats m 0 c).flushed 6 t = (win0_6.blk t).view.read (Elt Ideal) (newV (argG m c) (argV m c)) := by
  show (cfg0.win 6).cut (grid0.coords t) ((dats m 0 c).after 6 t) = _
  rw [after0_6]
  unfold out0_6
  rw [View.canon_unit_zero origin, View.ld_unit_zero origin, View.ld_unit_zero origin]
  rfl

/-- and so the array ends as the second moment. -/
theorem ends6 : (dats m 0 c).arrAt 6 cfg0.N = newV (argG m c) (argV m c) :=
  (dats m 0 c).arrAt_eq_of_cover 6 _ (fun t _ => written6 m c t) covered6

/-- Every row block is written at some point of the grid: the gradient's array is covered, -/
theorem covered7 (i : S2x1024.Idx) : ∃ t : Fin cfg0.N, (cfg0.win 7).flush t = true ∧ i ∈ ((cfg0.win 7).blk t).view.set := by
  have h0 : (i 0).val < 2 := (i 0).isLt
  have h1 : (i 1).val < 1024 := (i 1).isLt
  have hN : cfg0.N = 1 := N_0
  refine ⟨⟨(i 0).val / 2, by omega⟩, flush0_7 _, ?_⟩
  generalize ht : (⟨(i 0).val / 2, by omega⟩ : Fin cfg0.N) = t
  have hv : t.val = (i 0).val / 2 := by rw [← ht]
  show i ∈ ((View.whole main_v0_3).slice (win0_7.rect t)).set
  rw [View.set_slice_whole, Rect.mem_set_unit]
  have e : win0_7.index t 0 * win0_7.size 0 = t.val * 2 ∧ win0_7.xsize (grid0.coords t) 0 = 2
      ∧ win0_7.index t 1 * win0_7.size 1 = 0 ∧ win0_7.xsize (grid0.coords t) 1 = 1024 :=
    (by decide +kernel : ∀ t : Fin grid0.N, win0_7.index t 0 * win0_7.size 0 = t.val * 2 ∧ win0_7.xsize (grid0.coords t) 0 = 2
      ∧ win0_7.index t 1 * win0_7.size 1 = 0 ∧ win0_7.xsize (grid0.coords t) 1 = 1024) t
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]
    omega
  | ⟨1, _⟩ =>
    show win0_7.index t 1 * win0_7.size 1 ≤ (i 1).val ∧ (i 1).val < win0_7.index t 1 * win0_7.size 1 + win0_7.xsize (grid0.coords t) 1
    rw [e.2.2.1, e.2.2.2]
    omega

/-- what a point writes there is its block of the whole array, -/
theorem written7 (t : Fin cfg0.N) : (dats m 0 c).flushed 7 t = (win0_7.blk t).view.read (Elt Ideal) (argG m c) := by
  show (cfg0.win 7).cut (grid0.coords t) ((dats m 0 c).after 7 t) = _
  rw [after0_7]
  unfold out0_7
  rw [View.canon_unit_zero origin, View.ld_unit_zero origin]
  rfl

/-- and so the array ends as the gradient. -/
theorem ends7 : (dats m 0 c).arrAt 7 cfg0.N = argG m c :=
  (dats m 0 c).arrAt_eq_of_cover 7 _ (fun t _ => written7 m c t) covered7

/-- The call's frames, -/
theorem frame : Cert.quiescent_AdamLogits := fun m ρ _ => Cert.AdamLogits.Gen.frame m ρ
theorem frame_ideal : Cert.quiescent_AdamLogitsIdeal := fun m ρ _ => Cert.AdamLogitsIdeal.Gen.frame m ρ

/-- the formula's, -/
theorem frame_reference : Cert.quiescent_AdamLogitsReferenceIdeal := fun m ρ _ =>
  (θ_run Cert.AdamLogitsReferenceIdeal.defs _ _).mono (fun r h => ⟨fun c => (h c).2.2.2.2, sem_eq_zero_of_no_sems (by decide) r.2⟩)
    (Cert.AdamLogitsReferenceIdeal.Value.run (F := Ideal) m ρ)

/-- and the claim: the call leaves what the formula gives. -/
theorem algebraic : Cert.algebraic_AdamLogitsIdeal_AdamLogitsReferenceIdeal := by
  intro m g m' g' _ h
  refine ⟨fun c => delta (argW m c) (argG m c) (argM m c) (argV m c), fun c => newM (argG m c) (argM m c),
    fun c => newV (argG m c) (argV m c), fun c => argG m c, ?_, ?_⟩
  · exact (θ_run Cert.AdamLogitsIdeal.defs _ _).mono (fun _ r c => ⟨((r c).1 4).trans (ends4 m c), ((r c).1 5).trans (ends5 m c),
      ((r c).1 6).trans (ends6 m c), ((r c).1 7).trans (ends7 m c),
      ((r c).1 0).trans ((dats m 0 c).arrAt_in 0 rfl _), ((r c).1 1).trans ((dats m 0 c).arrAt_in 1 rfl _),
      ((r c).1 2).trans ((dats m 0 c).arrAt_in 2 rfl _), ((r c).1 3).trans ((dats m 0 c).arrAt_in 3 rfl _)⟩)
      (run_main (F := Ideal) m g)
  · refine (θ_run Cert.AdamLogitsReferenceIdeal.defs _ _).mono (fun _ r c => ⟨(r c).1.trans ?_, (r c).2.1.trans ?_, (r c).2.2.1.trans ?_,
      (r c).2.2.2.1.trans (h c).2.1, (r c).2.2.2.2⟩) (Cert.AdamLogitsReferenceIdeal.Value.run (F := Ideal) m' g')
    · rw [(h c).1, (h c).2.1, (h c).2.2.1, (h c).2.2.2]; rfl
    · rw [(h c).2.1, (h c).2.2.1]; rfl
    · rw [(h c).2.1, (h c).2.2.2]; rfl

end Cert.AdamLogitsSteps
-- ==== Proof.AdamHeadSteps.lean ====
/-
  AdamW on the gain of the mixer's norm, block of rows by block of rows, against the formula on the whole arrays: each of the four arrays that
  the call leaves, the frames, and the value claim.
-/
module

public import proofs.«01_k».proof.Defs
public import proofs.«01_k».proof.Proof.Gen.AdamHead.Frame
public import proofs.«01_k».proof.Proof.Gen.AdamHeadIdeal.Frame
public import proofs.«01_k».proof.Proof.Gen.AdamHeadReferenceIdeal.Run
public import Idealize.ShloMosaic.Lib.Pipeline.Value
public import Idealize.ShloMosaic.Lib.Quiescent

@[expose] public section

noncomputable section

namespace Cert.AdamHeadSteps

open Cert.AdamHeadIdeal Cert.AdamHeadIdeal.Gen
open Idealize.ShloMosaic Idealize.ShloMosaic.TcCoe Idealize.SL.Sem

/-- An array of the weight's shape, over the extended reals. -/
abbrev Arr : Type := FVec Ideal S1x128 .f32

/-- The same number at every index. -/
abbrev every (b : BitVec 32) : Arr := fun _ => FloatOps.ofBits .f32 b

/-- The first moment after the step: `0.9 m + 0.1 g`. -/
def newM (g m : Arr) : Arr := addf (mulf (every 0x3F666666#32) m) (mulf (every 0x3DCCCCCD#32) g)

/-- The second moment after the step: `0.999 v + 0.001 g²`. -/
def newV (g v : Arr) : Arr := addf (mulf (every 0x3F7FBE77#32) v) (mulf (every 0x3A83126F#32) (mulf g g))

/-- The change of the weight: the corrected first moment over the root of the corrected second, with the decay of the weight. -/
def delta (w g m v : Arr) : Arr :=
  mulf (every 0xBA83126F#32)
    (addf (divf (divf (newM g m) (every 0x3F26BD02#32)) (addf (sqrt (divf (newV g v) (every 0x3C231ACC#32))) (every 0x322BCC77#32)))
      (mulf (every 0x3C23D70A#32) w))

theorem origin : (![0, 0] : Fin 2 → Nat) = fun _ => 0 := funext fun a => by match a with | ⟨0, _⟩ => rfl | ⟨1, _⟩ => rfl

variable (m : (ℓ : Loc nD τ sig) → Buf (Elt Ideal) ℓ) (c : Dev nD)

/-- The four arguments on a device: weight, gradient, first and second moment. -/
abbrev argW : Arr := m ((c : Thread nD τ).loc main_arg0)
abbrev argG : Arr := m ((c : Thread nD τ).loc main_arg1)
abbrev argM : Arr := m ((c : Thread nD τ).loc main_arg2)
abbrev argV : Arr := m ((c : Thread nD τ).loc main_arg3)

/-- Every row block is written at some point of the grid: the change of the weight's array is covered, -/
theorem covered4 (i : S1x128.Idx) : ∃ t : Fin cfg0.N, (cfg0.win 4).flush t = true ∧ i ∈ ((cfg0.win 4).blk t).view.set := by
  have h0 : (i 0).val < 1 := (i 0).isLt
  have h1 : (i 1).val < 128 := (i 1).isLt
  have hN : cfg0.N = 1 := N_0
  refine ⟨⟨(i 0).val / 1, by omega⟩, flush0_4 _, ?_⟩
  generalize ht : (⟨(i 0).val / 1, by omega⟩ : Fin cfg0.N) = t
  have hv : t.val = (i 0).val / 1 := by rw [← ht]
  show i ∈ ((View.whole main_v0_0).slice (win0_4.rect t)).set
  rw [View.set_slice_whole, Rect.mem_set_unit]
  have e : win0_4.index t 0 * win0_4.size 0 = t.val * 1 ∧ win0_4.xsize (grid0.coords t) 0 = 1
      ∧ win0_4.index t 1 * win0_4.size 1 = 0 ∧ win0_4.xsize (grid0.coords t) 1 = 128 :=
    (by decide +kernel : ∀ t : Fin grid0.N, win0_4.index t 0 * win0_4.size 0 = t.val * 1 ∧ win0_4.xsize (grid0.coords t) 0 = 1
      ∧ win0_4.index t 1 * win0_4.size 1 = 0 ∧ win0_4.xsize (grid0.coords t) 1 = 128) t
  intro a
  match a with
  | ⟨0, _⟩ =>
    show win0_4.index t 0 * win0_4.size 0 ≤ (i 0).val ∧ (i 0).val < win0_4.index t 0 * win0_4.size 0 + win0_4.xsize (grid0.coords t) 0
    rw [e.1, e.2.1]
    omega
  | ⟨1, _⟩ =>
    show win0_4.index t 1 * win0_4.size 1 ≤ (i 1).val ∧ (i 1).val < win0_4.index t 1 * win0_4.size 1 + win0_4.xsize (grid0.coords t) 1
    rw [e.2.2.1, e.2.2.2]
    omega

/-- what a point writes there is its block of the whole array, -/
theorem written4 (t : Fin cfg0.N) : (dats m 0 c).flushed 4 t = (win0_4.blk t).view.read (Elt Ideal) (delta (argW m c) (argG m c) (argM m c) (argV m c)) := by
  show (cfg0.win 4).cut (grid0.coords t) ((dats m 0 c).after 4 t) = _
  rw [after0_4]
  unfold out0_4
  rw [View.canon_unit_zero origin, View.ld_unit_zero origin, View.ld_unit_zero origin, View.ld_unit_zero origin, View.ld_unit_zero origin]
  sl_kernel_rfl

/-- and so the array ends as the change of the weight. -/
theorem ends4 : (dats m 0 c).arrAt 4 cfg0.N = delta (argW m c) (argG m c) (argM m c) (argV m c) :=
  (dats m 0 c).arrAt_eq_of_cover 4 _ (fun t _ => written4 m c t) covered4

/-- Every row block is written at some point of the grid: the first moment's array is covered, -/
theorem covered5 (i : S1x128.Idx) : ∃ t : Fin cfg0.N, (cfg0.win 5).flush t = true ∧ i ∈ ((cfg0.win 5).blk t).view.set := by
  have h0 : (i 0).val < 1 := (i 0).isLt
  have h1 : (i 1).val < 128 := (i 1).isLt
  have hN : cfg0.N = 1 := N_0
  refine ⟨⟨(i 0).val / 1, by omega⟩, flush0_5 _, ?_⟩
  generalize ht : (⟨(i 0).val / 1, by omega⟩ : Fin cfg0.N) = t
  have hv : t.val = (i 0).val / 1 := by rw [← ht]
  show i ∈ ((View.whole main_v0_1).slice (win0_5.rect t)).set
  rw [View.set_slice_whole, Rect.mem_set_unit]
  have e : win0_5.index t 0 * win0_5.size 0 = t.val * 1 ∧ win0_5.xsize (grid0.coords t) 0 = 1
      ∧ win0_5.index t 1 * win0_5.size 1 = 0 ∧ win0_5.xsize (grid0.coords t) 1 = 128 :=
    (by decide +kernel : ∀ t : Fin grid0.N, win0_5.index t 0 * win0_5.size 0 = t.val * 1 ∧ win0_5.xsize (grid0.coords t) 0 = 1
      ∧ win0_5.index t 1 * win0_5.size 1 = 0 ∧ win0_5.xsize (grid0.coords t) 1 = 128) t
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]
    omega
  | ⟨1, _⟩ =>
    show win0_5.index t 1 * win0_5.size 1 ≤ (i 1).val ∧ (i 1).val < win0_5.index t 1 * win0_5.size 1 + win0_5.xsize (grid0.coords t) 1
    rw [e.2.2.1, e.2.2.2]
    omega

/-- what a point writes there is its block of the whole array, -/
theorem written5 (t : Fin cfg0.N) : (dats m 0 c).flushed 5 t = (win0_5.blk t).view.read (Elt Ideal) (newM (argG m c) (argM m c)) := by
  show (cfg0.win 5).cut (grid0.coords t) ((dats m 0 c).after 5 t) = _
  rw [after0_5]
  unfold out0_5
  rw [View.canon_unit_zero origin, View.ld_unit_zero origin, View.ld_unit_zero origin]
  rfl

/-- and so the array ends as the first moment. -/
theorem ends5 : (dats m 0 c).arrAt 5 cfg0.N = newM (argG m c) (argM m c) :=
  (dats m 0 c).arrAt_eq_of_cover 5 _ (fun t _ => written5 m c t) covered5

/-- Every row block is written at some point of the grid: the second moment's array is covered, -/
theorem covered6 (i : S1x128.Idx) : ∃ t : Fin cfg0.N, (cfg0.win 6).flush t = true ∧ i ∈ ((cfg0.win 6).blk t).view.set := by
  have h0 : (i 0).val < 1 := (i 0).isLt
  have h1 : (i 1).val < 128 := (i 1).isLt
  have hN : cfg0.N = 1 := N_0
  refine ⟨⟨(i 0).val / 1, by omega⟩, flush0_6 _, ?_⟩
  generalize ht : (⟨(i 0).val / 1, by omega⟩ : Fin cfg0.N) = t
  have hv : t.val = (i 0).val / 1 := by rw [← ht]
  show i ∈ ((View.whole main_v0_2).slice (win0_6.rect t)).set
  rw [View.set_slice_whole, Rect.mem_set_unit]
  have e : win0_6.index t 0 * win0_6.size 0 = t.val * 1 ∧ win0_6.xsize (grid0.coords t) 0 = 1
      ∧ win0_6.index t 1 * win0_6.size 1 = 0 ∧ win0_6.xsize (grid0.coords t) 1 = 128 :=
    (by decide +kernel : ∀ t : Fin grid0.N, win0_6.index t 0 * win0_6.size 0 = t.val * 1 ∧ win0_6.xsize (grid0.coords t) 0 = 1
      ∧ win0_6.index t 1 * win0_6.size 1 = 0 ∧ win0_6.xsize (grid0.coords t) 1 = 128) t
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]
    omega
  | ⟨1, _⟩ =>
    show win0_6.index t 1 * win0_6.size 1 ≤ (i 1).val ∧ (i 1).val < win0_6.index t 1 * win0_6.size 1 + win0_6.xsize (grid0.coords t) 1
    rw [e.2.2.1, e.2.2.2]
    omega

/-- what a point writes there is its block of the whole array, -/
theorem written6 (t : Fin cfg0.N) : (dats m 0 c).flushed 6 t = (win0_6.blk t).view.read (Elt Ideal) (newV (argG m c) (argV m c)) := by
  show (cfg0.win 6).cut (grid0.coords t) ((dats m 0 c).after 6 t) = _
  rw [after0_6]
  unfold out0_6
  rw [View.canon_unit_zero origin, View.ld_unit_zero origin, View.ld_unit_zero origin]
  rfl

/-- and so the array ends as the second moment. -/
theorem ends6 : (dats m 0 c).arrAt 6 cfg0.N = newV (argG m c) (argV m c) :=
  (dats m 0 c).arrAt_eq_of_cover 6 _ (fun t _ => written6 m c t) covered6

/-- Every row block is written at some point of the grid: the gradient's array is covered, -/
theorem covered7 (i : S1x128.Idx) : ∃ t : Fin cfg0.N, (cfg0.win 7).flush t = true ∧ i ∈ ((cfg0.win 7).blk t).view.set := by
  have h0 : (i 0).val < 1 := (i 0).isLt
  have h1 : (i 1).val < 128 := (i 1).isLt
  have hN : cfg0.N = 1 := N_0
  refine ⟨⟨(i 0).val / 1, by omega⟩, flush0_7 _, ?_⟩
  generalize ht : (⟨(i 0).val / 1, by omega⟩ : Fin cfg0.N) = t
  have hv : t.val = (i 0).val / 1 := by rw [← ht]
  show i ∈ ((View.whole main_v0_3).slice (win0_7.rect t)).set
  rw [View.set_slice_whole, Rect.mem_set_unit]
  have e : win0_7.index t 0 * win0_7.size 0 = t.val * 1 ∧ win0_7.xsize (grid0.coords t) 0 = 1
      ∧ win0_7.index t 1 * win0_7.size 1 = 0 ∧ win0_7.xsize (grid0.coords t) 1 = 128 :=
    (by decide +kernel : ∀ t : Fin grid0.N, win0_7.index t 0 * win0_7.size 0 = t.val * 1 ∧ win0_7.xsize (grid0.coords t) 0 = 1
      ∧ win0_7.index t 1 * win0_7.size 1 = 0 ∧ win0_7.xsize (grid0.coords t) 1 = 128) t
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]
    omega
  | ⟨1, _⟩ =>
    show win0_7.index t 1 * win0_7.size 1 ≤ (i 1).val ∧ (i 1).val < win0_7.index t 1 * win0_7.size 1 + win0_7.xsize (grid0.coords t) 1
    rw [e.2.2.1, e.2.2.2]
    omega

/-- what a point writes there is its block of the whole array, -/
theorem written7 (t : Fin cfg0.N) : (dats m 0 c).flushed 7 t = (win0_7.blk t).view.read (Elt Ideal) (argG m c) := by
  show (cfg0.win 7).cut (grid0.coords t) ((dats m 0 c).after 7 t) = _
  rw [after0_7]
  unfold out0_7
  rw [View.canon_unit_zero origin, View.ld_unit_zero origin]
  rfl

/-- and so the array ends as the gradient. -/
theorem ends7 : (dats m 0 c).arrAt 7 cfg0.N = argG m c :=
  (dats m 0 c).arrAt_eq_of_cover 7 _ (fun t _ => written7 m c t) covered7

/-- The call's frames, -/
theorem frame : Cert.quiescent_AdamHead := fun m ρ _ => Cert.AdamHead.Gen.frame m ρ
theorem frame_ideal : Cert.quiescent_AdamHeadIdeal := fun m ρ _ => Cert.AdamHeadIdeal.Gen.frame m ρ

/-- the formula's, -/
theorem frame_reference : Cert.quiescent_AdamHeadReferenceIdeal := fun m ρ _ =>
  (θ_run Cert.AdamHeadReferenceIdeal.defs _ _).mono (fun r h => ⟨fun c => (h c).2.2.2.2, sem_eq_zero_of_no_sems (by decide) r.2⟩)
    (Cert.AdamHeadReferenceIdeal.Value.run (F := Ideal) m ρ)

/-- and the claim: the call leaves what the formula gives. -/
theorem algebraic : Cert.algebraic_AdamHeadIdeal_AdamHeadReferenceIdeal := by
  intro m g m' g' _ h
  refine ⟨fun c => delta (argW m c) (argG m c) (argM m c) (argV m c), fun c => newM (argG m c) (argM m c),
    fun c => newV (argG m c) (argV m c), fun c => argG m c, ?_, ?_⟩
  · exact (θ_run Cert.AdamHeadIdeal.defs _ _).mono (fun _ r c => ⟨((r c).1 4).trans (ends4 m c), ((r c).1 5).trans (ends5 m c),
      ((r c).1 6).trans (ends6 m c), ((r c).1 7).trans (ends7 m c),
      ((r c).1 0).trans ((dats m 0 c).arrAt_in 0 rfl _), ((r c).1 1).trans ((dats m 0 c).arrAt_in 1 rfl _),
      ((r c).1 2).trans ((dats m 0 c).arrAt_in 2 rfl _), ((r c).1 3).trans ((dats m 0 c).arrAt_in 3 rfl _)⟩)
      (run_main (F := Ideal) m g)
  · refine (θ_run Cert.AdamHeadReferenceIdeal.defs _ _).mono (fun _ r c => ⟨(r c).1.trans ?_, (r c).2.1.trans ?_, (r c).2.2.1.trans ?_,
      (r c).2.2.2.1.trans (h c).2.1, (r c).2.2.2.2⟩) (Cert.AdamHeadReferenceIdeal.Value.run (F := Ideal) m' g')
    · rw [(h c).1, (h c).2.1, (h c).2.2.1, (h c).2.2.2]; rfl
    · rw [(h c).2.1, (h c).2.2.1]; rfl
    · rw [(h c).2.1, (h c).2.2.2]; rfl

end Cert.AdamHeadSteps
-- ==== Proof.lean ====
module

public import proofs.«01_k».proof.Defs
public import proofs.«01_k».proof.Proof.Frames
public import proofs.«01_k».proof.Proof.Algebraic
public import proofs.«01_k».proof.Proof.RmsFwdSteps
public import proofs.«01_k».proof.Proof.GradInSteps
public import proofs.«01_k».proof.Proof.DyGateSteps
public import proofs.«01_k».proof.Proof.GradOutSteps
public import proofs.«01_k».proof.Proof.DhFirstSteps
public import proofs.«01_k».proof.Proof.DhLastSteps
public import proofs.«01_k».proof.Proof.RmsRun
public import proofs.«01_k».proof.Proof.AdamInSteps
public import proofs.«01_k».proof.Proof.AdamOutSteps
public import proofs.«01_k».proof.Proof.AdamRowSteps
public import proofs.«01_k».proof.Proof.AdamLogitsSteps
public import proofs.«01_k».proof.Proof.AdamHeadSteps
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdIdeal.Value
public import proofs.«01_k».proof.Proof.Gen.RmsFwdReferenceIdeal
public import proofs.«01_k».proof.Proof.Gen.RmsFwdReferenceIdeal.Run
public import proofs.«01_k».proof.Proof.Gen.GradIn
public import proofs.«01_k».proof.Proof.Gen.GradIn.Frame
public import proofs.«01_k».proof.Proof.Gen.GradInIdeal
public import proofs.«01_k».proof.Proof.Gen.GradInIdeal.Frame
public import proofs.«01_k».proof.Proof.Gen.GradInIdeal.Value
public import proofs.«01_k».proof.Proof.Gen.GradInReferenceIdeal
public import proofs.«01_k».proof.Proof.Gen.GradInReferenceIdeal.Run
public import proofs.«01_k».proof.Proof.Gen.DyGate
public import proofs.«01_k».proof.Proof.Gen.DyGate.Frame
public import proofs.«01_k».proof.Proof.Gen.DyGateIdeal
public import proofs.«01_k».proof.Proof.Gen.DyGateIdeal.Frame
public import proofs.«01_k».proof.Proof.Gen.DyGateReferenceIdeal
public import proofs.«01_k».proof.Proof.Gen.DyGateReferenceIdeal.Run
public import proofs.«01_k».proof.Proof.Gen.GradOut
public import proofs.«01_k».proof.Proof.Gen.GradOut.Frame
public import proofs.«01_k».proof.Proof.Gen.GradOutIdeal
public import proofs.«01_k».proof.Proof.Gen.GradOutIdeal.Frame
public import proofs.«01_k».proof.Proof.Gen.GradOutIdeal.Value
public import proofs.«01_k».proof.Proof.Gen.GradOutReferenceIdeal
public import proofs.«01_k».proof.Proof.Gen.GradOutReferenceIdeal.Run
public import proofs.«01_k».proof.Proof.Gen.DhFirst
public import proofs.«01_k».proof.Proof.Gen.DhFirst.Frame
public import proofs.«01_k».proof.Proof.Gen.DhFirstIdeal
public import proofs.«01_k».proof.Proof.Gen.DhFirstIdeal.Frame
public import proofs.«01_k».proof.Proof.Gen.DhFirstIdeal.Value
public import proofs.«01_k».proof.Proof.Gen.DhFirstReferenceIdeal
public import proofs.«01_k».proof.Proof.Gen.DhFirstReferenceIdeal.Run
public import proofs.«01_k».proof.Proof.Gen.DhLast
public import proofs.«01_k».proof.Proof.Gen.DhLast.Frame
public import proofs.«01_k».proof.Proof.Gen.DhLastIdeal
public import proofs.«01_k».proof.Proof.Gen.DhLastIdeal.Frame
public import proofs.«01_k».proof.Proof.Gen.DhLastIdeal.Value
public import proofs.«01_k».proof.Proof.Gen.DhLastReferenceIdeal
public import proofs.«01_k».proof.Proof.Gen.DhLastReferenceIdeal.Run
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdReferenceIdeal
public import proofs.«01_k».proof.Proof.Gen.RmsBwdReferenceIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInReferenceIdeal
public import proofs.«01_k».proof.Proof.Gen.AdamInReferenceIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutReferenceIdeal
public import proofs.«01_k».proof.Proof.Gen.AdamOutReferenceIdeal.Run
public import proofs.«01_k».proof.Proof.Gen.AdamRow
public import proofs.«01_k».proof.Proof.Gen.AdamRow.Frame
public import proofs.«01_k».proof.Proof.Gen.AdamRowIdeal
public import proofs.«01_k».proof.Proof.Gen.AdamRowIdeal.Frame
public import proofs.«01_k».proof.Proof.Gen.AdamRowReferenceIdeal
public import proofs.«01_k».proof.Proof.Gen.AdamRowReferenceIdeal.Run
public import proofs.«01_k».proof.Proof.Gen.AdamLogits
public import proofs.«01_k».proof.Proof.Gen.AdamLogits.Frame
public import proofs.«01_k».proof.Proof.Gen.AdamLogitsIdeal
public import proofs.«01_k».proof.Proof.Gen.AdamLogitsIdeal.Frame
public import proofs.«01_k».proof.Proof.Gen.AdamLogitsReferenceIdeal
public import proofs.«01_k».proof.Proof.Gen.AdamLogitsReferenceIdeal.Run
public import proofs.«01_k».proof.Proof.Gen.AdamHead
public import proofs.«01_k».proof.Proof.Gen.AdamHead.Frame
public import proofs.«01_k».proof.Proof.Gen.AdamHeadIdeal
public import proofs.«01_k».proof.Proof.Gen.AdamHeadIdeal.Frame
public import proofs.«01_k».proof.Proof.Gen.AdamHeadReferenceIdeal
public import proofs.«01_k».proof.Proof.Gen.AdamHeadReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RmsFwd.Gen.facts, Cert.RmsFwdIdeal.Gen.facts, Cert.RmsFwdReferenceIdeal.Gen.facts,
  Cert.GradIn.Gen.facts, Cert.GradInIdeal.Gen.facts, Cert.GradInReferenceIdeal.Gen.facts,
  Cert.DyGate.Gen.facts, Cert.DyGateIdeal.Gen.facts, Cert.DyGateReferenceIdeal.Gen.facts,
  Cert.GradOut.Gen.facts, Cert.GradOutIdeal.Gen.facts, Cert.GradOutReferenceIdeal.Gen.facts,
  Cert.DhFirst.Gen.facts, Cert.DhFirstIdeal.Gen.facts, Cert.DhFirstReferenceIdeal.Gen.facts,
  Cert.DhLast.Gen.facts, Cert.DhLastIdeal.Gen.facts, Cert.DhLastReferenceIdeal.Gen.facts,
  Cert.RmsBwd.Gen.facts, Cert.RmsBwdIdeal.Gen.facts, Cert.RmsBwdReferenceIdeal.Gen.facts,
  Cert.AdamIn.Gen.facts, Cert.AdamInIdeal.Gen.facts, Cert.AdamInReferenceIdeal.Gen.facts,
  Cert.AdamOut.Gen.facts, Cert.AdamOutIdeal.Gen.facts, Cert.AdamOutReferenceIdeal.Gen.facts,
  Cert.AdamRow.Gen.facts, Cert.AdamRowIdeal.Gen.facts, Cert.AdamRowReferenceIdeal.Gen.facts,
  Cert.AdamLogits.Gen.facts, Cert.AdamLogitsIdeal.Gen.facts, Cert.AdamLogitsReferenceIdeal.Gen.facts,
  Cert.AdamHead.Gen.facts, Cert.AdamHeadIdeal.Gen.facts, Cert.AdamHeadReferenceIdeal.Gen.facts,
  Cert.Frames.kernel, Cert.Frames.ideal, Cert.Frames.reference,
  Cert.RmsFwdClaims.frame, Cert.RmsFwdClaims.frame_ideal, Cert.RmsFwdClaims.frame_reference,
  Cert.GradInClaims.frame, Cert.GradInClaims.frame_ideal, Cert.GradInClaims.frame_reference,
  Cert.DyGateClaims.frame, Cert.DyGateClaims.frame_ideal, Cert.DyGateClaims.frame_reference,
  Cert.GradOutClaims.frame, Cert.GradOutClaims.frame_ideal, Cert.GradOutClaims.frame_reference,
  Cert.DhFirstClaims.frame, Cert.DhFirstClaims.frame_ideal, Cert.DhFirstClaims.frame_reference,
  Cert.DhLastClaims.frame, Cert.DhLastClaims.frame_ideal, Cert.DhLastClaims.frame_reference,
  Cert.RmsClaims.frame, Cert.RmsClaims.frame_ideal, Cert.RmsClaims.frame_reference,
  Cert.AdamInSteps.frame, Cert.AdamInSteps.frame_ideal, Cert.AdamInSteps.frame_reference,
  Cert.AdamOutSteps.frame, Cert.AdamOutSteps.frame_ideal, Cert.AdamOutSteps.frame_reference,
  Cert.AdamRowSteps.frame, Cert.AdamRowSteps.frame_ideal, Cert.AdamRowSteps.frame_reference,
  Cert.AdamLogitsSteps.frame, Cert.AdamLogitsSteps.frame_ideal, Cert.AdamLogitsSteps.frame_reference,
  Cert.AdamHeadSteps.frame, Cert.AdamHeadSteps.frame_ideal, Cert.AdamHeadSteps.frame_reference,
  trivial, Cert.Value.algebraic,
  trivial, Cert.RmsFwdClaims.algebraic,
  trivial, Cert.GradInClaims.algebraic,
  trivial, Cert.DyGateClaims.algebraic,
  trivial, Cert.GradOutClaims.algebraic,
  trivial, Cert.DhFirstClaims.algebraic,
  trivial, Cert.DhLastClaims.algebraic,
  trivial, Cert.RmsClaims.algebraic,
  trivial, Cert.AdamInSteps.algebraic,
  trivial, Cert.AdamOutSteps.algebraic,
  trivial, Cert.AdamRowSteps.algebraic,
  trivial, Cert.AdamLogitsSteps.algebraic,
  trivial, Cert.AdamHeadSteps.algebraic⟩

end Cert.Proof

end
